-- ==== Defs.lean ====
def Pre_KGate (m : (ℓ : Loc Cert.KGate.nD Cert.KGate.τ Cert.KGate.sig) → Buf (Elt Bits) ℓ) : Prop :=
  True

def Pre_KGateIdeal (m : (ℓ : Loc Cert.KGateIdeal.nD Cert.KGateIdeal.τ Cert.KGateIdeal.sig) → Buf (Elt Ideal) ℓ) : Prop :=
  True

def Pre_RGateIdeal (m : (ℓ : Loc Cert.RGateIdeal.nD Cert.RGateIdeal.τ Cert.RGateIdeal.sig) → Buf (Elt Ideal) ℓ) : Prop :=
  True

def Pre_KMid (m : (ℓ : Loc Cert.KMid.nD Cert.KMid.τ Cert.KMid.sig) → Buf (Elt Bits) ℓ) : Prop :=
  True

def Pre_KMidIdeal (m : (ℓ : Loc Cert.KMidIdeal.nD Cert.KMidIdeal.τ Cert.KMidIdeal.sig) → Buf (Elt Ideal) ℓ) : Prop :=
  True

def Pre_KMidIdeal_mid_finite [hPre_mid_finite : Cert.Pre_mid_finite.Facts] (m : (ℓ : Loc Cert.KMidIdeal.nD Cert.KMidIdeal.τ Cert.KMidIdeal.sig) → Buf (Elt Ideal) ℓ) : Prop :=
  ∀ c : Dev Cert.KMidIdeal.nD,
    (Cert.Pre_mid_finite.fn (F := Ideal) (m ((c.tc : Thread Cert.KMidIdeal.nD Cert.KMidIdeal.τ).loc Cert.KMidIdeal.main_arg0)) (m ((c.tc : Thread Cert.KMidIdeal.nD Cert.KMidIdeal.τ).loc Cert.KMidIdeal.main_arg1)) (m ((c.tc : Thread Cert.KMidIdeal.nD Cert.KMidIdeal.τ).loc Cert.KMidIdeal.main_arg2))) = (fun _ => 1#1)

def Pre_RMidIdeal (m : (ℓ : Loc Cert.RMidIdeal.nD Cert.RMidIdeal.τ Cert.RMidIdeal.sig) → Buf (Elt Ideal) ℓ) : Prop :=
  True

def Pre_RMidIdeal_mid_finite [hPre_mid_finite : Cert.Pre_mid_finite.Facts] (m : (ℓ : Loc Cert.RMidIdeal.nD Cert.RMidIdeal.τ Cert.RMidIdeal.sig) → Buf (Elt Ideal) ℓ) : Prop :=
  ∀ c : Dev Cert.RMidIdeal.nD,
    (Cert.Pre_mid_finite.fn (F := Ideal) (m ((c.tc : Thread Cert.RMidIdeal.nD Cert.RMidIdeal.τ).loc Cert.RMidIdeal.main_arg0)) (m ((c.tc : Thread Cert.RMidIdeal.nD Cert.RMidIdeal.τ).loc Cert.RMidIdeal.main_arg1)) (m ((c.tc : Thread Cert.RMidIdeal.nD Cert.RMidIdeal.τ).loc Cert.RMidIdeal.main_arg2))) = (fun _ => 1#1)

def Pre_KIn (m : (ℓ : Loc Cert.KIn.nD Cert.KIn.τ Cert.KIn.sig) → Buf (Elt Bits) ℓ) : Prop :=
  True

def Pre_KInIdeal (m : (ℓ : Loc Cert.KInIdeal.nD Cert.KInIdeal.τ Cert.KInIdeal.sig) → Buf (Elt Ideal) ℓ) : Prop :=
  True

def Pre_KInIdeal_in_finite [hPre_in_finite : Cert.Pre_in_finite.Facts] (m : (ℓ : Loc Cert.KInIdeal.nD Cert.KInIdeal.τ Cert.KInIdeal.sig) → Buf (Elt Ideal) ℓ) : Prop :=
  ∀ c : Dev Cert.KInIdeal.nD,
    (Cert.Pre_in_finite.fn (F := Ideal) (m ((c.tc : Thread Cert.KInIdeal.nD Cert.KInIdeal.τ).loc Cert.KInIdeal.main_arg0)) (m ((c.tc : Thread Cert.KInIdeal.nD Cert.KInIdeal.τ).loc Cert.KInIdeal.main_arg1)) (m ((c.tc : Thread Cert.KInIdeal.nD Cert.KInIdeal.τ).loc Cert.KInIdeal.main_arg2)) (m ((c.tc : Thread Cert.KInIdeal.nD Cert.KInIdeal.τ).loc Cert.KInIdeal.main_arg3)) (m ((c.tc : Thread Cert.KInIdeal.nD Cert.KInIdeal.τ).loc Cert.KInIdeal.main_arg4))) = (fun _ => 1#1)

def Pre_RInIdeal (m : (ℓ : Loc Cert.RInIdeal.nD Cert.RInIdeal.τ Cert.RInIdeal.sig) → Buf (Elt Ideal) ℓ) : Prop :=
  True

def Pre_RInIdeal_in_finite [hPre_in_finite : Cert.Pre_in_finite.Facts] (m : (ℓ : Loc Cert.RInIdeal.nD Cert.RInIdeal.τ Cert.RInIdeal.sig) → Buf (Elt Ideal) ℓ) : Prop :=
  ∀ c : Dev Cert.RInIdeal.nD,
    (Cert.Pre_in_finite.fn (F := Ideal) (m ((c.tc : Thread Cert.RInIdeal.nD Cert.RInIdeal.τ).loc Cert.RInIdeal.main_arg0)) (m ((c.tc : Thread Cert.RInIdeal.nD Cert.RInIdeal.τ).loc Cert.RInIdeal.main_arg1)) (m ((c.tc : Thread Cert.RInIdeal.nD Cert.RInIdeal.τ).loc Cert.RInIdeal.main_arg2)) (m ((c.tc : Thread Cert.RInIdeal.nD Cert.RInIdeal.τ).loc Cert.RInIdeal.main_arg3)) (m ((c.tc : Thread Cert.RInIdeal.nD Cert.RInIdeal.τ).loc Cert.RInIdeal.main_arg4))) = (fun _ => 1#1)

def Pre_KDwo (m : (ℓ : Loc Cert.KDwo.nD Cert.KDwo.τ Cert.KDwo.sig) → Buf (Elt Bits) ℓ) : Prop :=
  True

def Pre_KDwoIdeal (m : (ℓ : Loc Cert.KDwoIdeal.nD Cert.KDwoIdeal.τ Cert.KDwoIdeal.sig) → Buf (Elt Ideal) ℓ) : Prop :=
  True

def Pre_RDwoIdeal (m : (ℓ : Loc Cert.RDwoIdeal.nD Cert.RDwoIdeal.τ Cert.RDwoIdeal.sig) → Buf (Elt Ideal) ℓ) : Prop :=
  True

def Pre_KDwi (m : (ℓ : Loc Cert.KDwi.nD Cert.KDwi.τ Cert.KDwi.sig) → Buf (Elt Bits) ℓ) : Prop :=
  True

def Pre_KDwiIdeal (m : (ℓ : Loc Cert.KDwiIdeal.nD Cert.KDwiIdeal.τ Cert.KDwiIdeal.sig) → Buf (Elt Ideal) ℓ) : Prop :=
  True

def Pre_RDwiIdeal (m : (ℓ : Loc Cert.RDwiIdeal.nD Cert.RDwiIdeal.τ Cert.RDwiIdeal.sig) → Buf (Elt Ideal) ℓ) : Prop :=
  True

def Pre_KDout (m : (ℓ : Loc Cert.KDout.nD Cert.KDout.τ Cert.KDout.sig) → Buf (Elt Bits) ℓ) : Prop :=
  True

def Pre_KDoutIdeal (m : (ℓ : Loc Cert.KDoutIdeal.nD Cert.KDoutIdeal.τ Cert.KDoutIdeal.sig) → Buf (Elt Ideal) ℓ) : Prop :=
  True

def Pre_RDoutIdeal (m : (ℓ : Loc Cert.RDoutIdeal.nD Cert.RDoutIdeal.τ Cert.RDoutIdeal.sig) → Buf (Elt Ideal) ℓ) : Prop :=
  True

def Pre_KDbr (m : (ℓ : Loc Cert.KDbr.nD Cert.KDbr.τ Cert.KDbr.sig) → Buf (Elt Bits) ℓ) : Prop :=
  True

def Pre_KDbrIdeal (m : (ℓ : Loc Cert.KDbrIdeal.nD Cert.KDbrIdeal.τ Cert.KDbrIdeal.sig) → Buf (Elt Ideal) ℓ) : Prop :=
  True

def Pre_RDbrIdeal (m : (ℓ : Loc Cert.RDbrIdeal.nD Cert.RDbrIdeal.τ Cert.RDbrIdeal.sig) → Buf (Elt Ideal) ℓ) : Prop :=
  True

def Pre_KDmix (m : (ℓ : Loc Cert.KDmix.nD Cert.KDmix.τ Cert.KDmix.sig) → Buf (Elt Bits) ℓ) : Prop :=
  True

def Pre_KDmixIdeal (m : (ℓ : Loc Cert.KDmixIdeal.nD Cert.KDmixIdeal.τ Cert.KDmixIdeal.sig) → Buf (Elt Ideal) ℓ) : Prop :=
  True

def Pre_RDmixIdeal (m : (ℓ : Loc Cert.RDmixIdeal.nD Cert.RDmixIdeal.τ Cert.RDmixIdeal.sig) → Buf (Elt Ideal) ℓ) : Prop :=
  True

def Pre_KNt (m : (ℓ : Loc Cert.KNt.nD Cert.KNt.τ Cert.KNt.sig) → Buf (Elt Bits) ℓ) : Prop :=
  True

def Pre_KNtIdeal (m : (ℓ : Loc Cert.KNtIdeal.nD Cert.KNtIdeal.τ Cert.KNtIdeal.sig) → Buf (Elt Ideal) ℓ) : Prop :=
  True

def Pre_KNtIdeal_nt_finite [hPre_nt_finite : Cert.Pre_nt_finite.Facts] (m : (ℓ : Loc Cert.KNtIdeal.nD Cert.KNtIdeal.τ Cert.KNtIdeal.sig) → Buf (Elt Ideal) ℓ) : Prop :=
  ∀ c : Dev Cert.KNtIdeal.nD,
    (Cert.Pre_nt_finite.fn (F := Ideal) (m ((c.tc : Thread Cert.KNtIdeal.nD Cert.KNtIdeal.τ).loc Cert.KNtIdeal.main_arg0)) (m ((c.tc : Thread Cert.KNtIdeal.nD Cert.KNtIdeal.τ).loc Cert.KNtIdeal.main_arg1)) (m ((c.tc : Thread Cert.KNtIdeal.nD Cert.KNtIdeal.τ).loc Cert.KNtIdeal.main_arg2)) (m ((c.tc : Thread Cert.KNtIdeal.nD Cert.KNtIdeal.τ).loc Cert.KNtIdeal.main_arg3)) (m ((c.tc : Thread Cert.KNtIdeal.nD Cert.KNtIdeal.τ).loc Cert.KNtIdeal.main_arg4))) = (fun _ => 1#1)

def Pre_RNtIdeal (m : (ℓ : Loc Cert.RNtIdeal.nD Cert.RNtIdeal.τ Cert.RNtIdeal.sig) → Buf (Elt Ideal) ℓ) : Prop :=
  True

def Pre_RNtIdeal_nt_finite [hPre_nt_finite : Cert.Pre_nt_finite.Facts] (m : (ℓ : Loc Cert.RNtIdeal.nD Cert.RNtIdeal.τ Cert.RNtIdeal.sig) → Buf (Elt Ideal) ℓ) : Prop :=
  ∀ c : Dev Cert.RNtIdeal.nD,
    (Cert.Pre_nt_finite.fn (F := Ideal) (m ((c.tc : Thread Cert.RNtIdeal.nD Cert.RNtIdeal.τ).loc Cert.RNtIdeal.main_arg0)) (m ((c.tc : Thread Cert.RNtIdeal.nD Cert.RNtIdeal.τ).loc Cert.RNtIdeal.main_arg1)) (m ((c.tc : Thread Cert.RNtIdeal.nD Cert.RNtIdeal.τ).loc Cert.RNtIdeal.main_arg2)) (m ((c.tc : Thread Cert.RNtIdeal.nD Cert.RNtIdeal.τ).loc Cert.RNtIdeal.main_arg3)) (m ((c.tc : Thread Cert.RNtIdeal.nD Cert.RNtIdeal.τ).loc Cert.RNtIdeal.main_arg4))) = (fun _ => 1#1)

def Pre_KFfi (m : (ℓ : Loc Cert.KFfi.nD Cert.KFfi.τ Cert.KFfi.sig) → Buf (Elt Bits) ℓ) : Prop :=
  True

def Pre_KFfiIdeal (m : (ℓ : Loc Cert.KFfiIdeal.nD Cert.KFfiIdeal.τ Cert.KFfiIdeal.sig) → Buf (Elt Ideal) ℓ) : Prop :=
  True

def Pre_RFfiIdeal (m : (ℓ : Loc Cert.RFfiIdeal.nD Cert.RFfiIdeal.τ Cert.RFfiIdeal.sig) → Buf (Elt Ideal) ℓ) : Prop :=
  True

def Pre_KRes (m : (ℓ : Loc Cert.KRes.nD Cert.KRes.τ Cert.KRes.sig) → Buf (Elt Bits) ℓ) : Prop :=
  True

def Pre_KResIdeal (m : (ℓ : Loc Cert.KResIdeal.nD Cert.KResIdeal.τ Cert.KResIdeal.sig) → Buf (Elt Ideal) ℓ) : Prop :=
  True

def Pre_RResIdeal (m : (ℓ : Loc Cert.RResIdeal.nD Cert.RResIdeal.τ Cert.RResIdeal.sig) → Buf (Elt Ideal) ℓ) : Prop :=
  True

def Pre_KProj (m : (ℓ : Loc Cert.KProj.nD Cert.KProj.τ Cert.KProj.sig) → Buf (Elt Bits) ℓ) : Prop :=
  True

def Pre_KProjIdeal (m : (ℓ : Loc Cert.KProjIdeal.nD Cert.KProjIdeal.τ Cert.KProjIdeal.sig) → Buf (Elt Ideal) ℓ) : Prop :=
  True

def Pre_RProjIdeal (m : (ℓ : Loc Cert.RProjIdeal.nD Cert.RProjIdeal.τ Cert.RProjIdeal.sig) → Buf (Elt Ideal) ℓ) : Prop :=
  True

def Pre_KGf (m : (ℓ : Loc Cert.KGf.nD Cert.KGf.τ Cert.KGf.sig) → Buf (Elt Bits) ℓ) : Prop :=
  True

def Pre_KGfIdeal (m : (ℓ : Loc Cert.KGfIdeal.nD Cert.KGfIdeal.τ Cert.KGfIdeal.sig) → Buf (Elt Ideal) ℓ) : Prop :=
  True

def Pre_RGfIdeal (m : (ℓ : Loc Cert.RGfIdeal.nD Cert.RGfIdeal.τ Cert.RGfIdeal.sig) → Buf (Elt Ideal) ℓ) : Prop :=
  True

def Pre_KRms (m : (ℓ : Loc Cert.KRms.nD Cert.KRms.τ Cert.KRms.sig) → Buf (Elt Bits) ℓ) : Prop :=
  True

def Pre_KRmsIdeal (m : (ℓ : Loc Cert.KRmsIdeal.nD Cert.KRmsIdeal.τ Cert.KRmsIdeal.sig) → Buf (Elt Ideal) ℓ) : Prop :=
  True

def Pre_RRmsIdeal (m : (ℓ : Loc Cert.RRmsIdeal.nD Cert.RRmsIdeal.τ Cert.RRmsIdeal.sig) → Buf (Elt Ideal) ℓ) : Prop :=
  True

def Pre_KFf [hPre_tables : Cert.Pre_tables.Facts] (m : (ℓ : Loc Cert.KFf.nD Cert.KFf.τ Cert.KFf.sig) → Buf (Elt Bits) ℓ) : Prop :=
  ∀ c : Dev Cert.KFf.nD,
    (Cert.Pre_tables.fn (F := Bits) (m ((c.tc : Thread Cert.KFf.nD Cert.KFf.τ).loc Cert.KFf.main_arg0)) (m ((c.tc : Thread Cert.KFf.nD Cert.KFf.τ).loc Cert.KFf.main_arg1)) (m ((c.tc : Thread Cert.KFf.nD Cert.KFf.τ).loc Cert.KFf.main_arg2)) (m ((c.tc : Thread Cert.KFf.nD Cert.KFf.τ).loc Cert.KFf.main_arg3)) (m ((c.tc : Thread Cert.KFf.nD Cert.KFf.τ).loc Cert.KFf.main_arg4)) (m ((c.tc : Thread Cert.KFf.nD Cert.KFf.τ).loc Cert.KFf.main_arg5)) (m ((c.tc : Thread Cert.KFf.nD Cert.KFf.τ).loc Cert.KFf.main_arg6))) = (fun _ => 1#1)

def Pre_KFfIdeal [hPre_tables : Cert.Pre_tables.Facts] (m : (ℓ : Loc Cert.KFfIdeal.nD Cert.KFfIdeal.τ Cert.KFfIdeal.sig) → Buf (Elt Ideal) ℓ) : Prop :=
  ∀ c : Dev Cert.KFfIdeal.nD,
    (Cert.Pre_tables.fn (F := Ideal) (m ((c.tc : Thread Cert.KFfIdeal.nD Cert.KFfIdeal.τ).loc Cert.KFfIdeal.main_arg0)) (m ((c.tc : Thread Cert.KFfIdeal.nD Cert.KFfIdeal.τ).loc Cert.KFfIdeal.main_arg1)) (m ((c.tc : Thread Cert.KFfIdeal.nD Cert.KFfIdeal.τ).loc Cert.KFfIdeal.main_arg2)) (m ((c.tc : Thread Cert.KFfIdeal.nD Cert.KFfIdeal.τ).loc Cert.KFfIdeal.main_arg3)) (m ((c.tc : Thread Cert.KFfIdeal.nD Cert.KFfIdeal.τ).loc Cert.KFfIdeal.main_arg4)) (m ((c.tc : Thread Cert.KFfIdeal.nD Cert.KFfIdeal.τ).loc Cert.KFfIdeal.main_arg5)) (m ((c.tc : Thread Cert.KFfIdeal.nD Cert.KFfIdeal.τ).loc Cert.KFfIdeal.main_arg6))) = (fun _ => 1#1)

def Pre_KFfIdeal_ff_finite [hPre_ff_finite : Cert.Pre_ff_finite.Facts] (m : (ℓ : Loc Cert.KFfIdeal.nD Cert.KFfIdeal.τ Cert.KFfIdeal.sig) → Buf (Elt Ideal) ℓ) : Prop :=
  ∀ c : Dev Cert.KFfIdeal.nD,
    (Cert.Pre_ff_finite.fn (F := Ideal) (m ((c.tc : Thread Cert.KFfIdeal.nD Cert.KFfIdeal.τ).loc Cert.KFfIdeal.main_arg0)) (m ((c.tc : Thread Cert.KFfIdeal.nD Cert.KFfIdeal.τ).loc Cert.KFfIdeal.main_arg1)) (m ((c.tc : Thread Cert.KFfIdeal.nD Cert.KFfIdeal.τ).loc Cert.KFfIdeal.main_arg2)) (m ((c.tc : Thread Cert.KFfIdeal.nD Cert.KFfIdeal.τ).loc Cert.KFfIdeal.main_arg3)) (m ((c.tc : Thread Cert.KFfIdeal.nD Cert.KFfIdeal.τ).loc Cert.KFfIdeal.main_arg4)) (m ((c.tc : Thread Cert.KFfIdeal.nD Cert.KFfIdeal.τ).loc Cert.KFfIdeal.main_arg5)) (m ((c.tc : Thread Cert.KFfIdeal.nD Cert.KFfIdeal.τ).loc Cert.KFfIdeal.main_arg6))) = (fun _ => 1#1)

def Pre_RFfIdeal (m : (ℓ : Loc Cert.RFfIdeal.nD Cert.RFfIdeal.τ Cert.RFfIdeal.sig) → Buf (Elt Ideal) ℓ) : Prop :=
  True

def Pre_RFfIdeal_ff_finite [hPre_ff_finite : Cert.Pre_ff_finite.Facts] (m : (ℓ : Loc Cert.RFfIdeal.nD Cert.RFfIdeal.τ Cert.RFfIdeal.sig) → Buf (Elt Ideal) ℓ) : Prop :=
  ∀ c : Dev Cert.RFfIdeal.nD,
    (Cert.Pre_ff_finite.fn (F := Ideal) (m ((c.tc : Thread Cert.RFfIdeal.nD Cert.RFfIdeal.τ).loc Cert.RFfIdeal.main_arg0)) (m ((c.tc : Thread Cert.RFfIdeal.nD Cert.RFfIdeal.τ).loc Cert.RFfIdeal.main_arg1)) (m ((c.tc : Thread Cert.RFfIdeal.nD Cert.RFfIdeal.τ).loc Cert.RFfIdeal.main_arg2)) (m ((c.tc : Thread Cert.RFfIdeal.nD Cert.RFfIdeal.τ).loc Cert.RFfIdeal.main_arg3)) (m ((c.tc : Thread Cert.RFfIdeal.nD Cert.RFfIdeal.τ).loc Cert.RFfIdeal.main_arg4)) (m ((c.tc : Thread Cert.RFfIdeal.nD Cert.RFfIdeal.τ).loc Cert.RFfIdeal.main_arg5)) (m ((c.tc : Thread Cert.RFfIdeal.nD Cert.RFfIdeal.τ).loc Cert.RFfIdeal.main_arg6))) = (fun _ => 1#1)

def Pre_KSf (m : (ℓ : Loc Cert.KSf.nD Cert.KSf.τ Cert.KSf.sig) → Buf (Elt Bits) ℓ) : Prop :=
  True

def Pre_KSfIdeal (m : (ℓ : Loc Cert.KSfIdeal.nD Cert.KSfIdeal.τ Cert.KSfIdeal.sig) → Buf (Elt Ideal) ℓ) : Prop :=
  True

def Pre_KSfIdeal_sf_finite [hPre_sf_finite : Cert.Pre_sf_finite.Facts] (m : (ℓ : Loc Cert.KSfIdeal.nD Cert.KSfIdeal.τ Cert.KSfIdeal.sig) → Buf (Elt Ideal) ℓ) : Prop :=
  ∀ c : Dev Cert.KSfIdeal.nD,
    (Cert.Pre_sf_finite.fn (F := Ideal) (m ((c.tc : Thread Cert.KSfIdeal.nD Cert.KSfIdeal.τ).loc Cert.KSfIdeal.main_arg0)) (m ((c.tc : Thread Cert.KSfIdeal.nD Cert.KSfIdeal.τ).loc Cert.KSfIdeal.main_arg1)) (m ((c.tc : Thread Cert.KSfIdeal.nD Cert.KSfIdeal.τ).loc Cert.KSfIdeal.main_arg2)) (m ((c.tc : Thread Cert.KSfIdeal.nD Cert.KSfIdeal.τ).loc Cert.KSfIdeal.main_arg3)) (m ((c.tc : Thread Cert.KSfIdeal.nD Cert.KSfIdeal.τ).loc Cert.KSfIdeal.main_arg4))) = (fun _ => 1#1)

def Pre_RSfIdeal (m : (ℓ : Loc Cert.RSfIdeal.nD Cert.RSfIdeal.τ Cert.RSfIdeal.sig) → Buf (Elt Ideal) ℓ) : Prop :=
  True

def Pre_RSfIdeal_sf_finite [hPre_sf_finite : Cert.Pre_sf_finite.Facts] (m : (ℓ : Loc Cert.RSfIdeal.nD Cert.RSfIdeal.τ Cert.RSfIdeal.sig) → Buf (Elt Ideal) ℓ) : Prop :=
  ∀ c : Dev Cert.RSfIdeal.nD,
    (Cert.Pre_sf_finite.fn (F := Ideal) (m ((c.tc : Thread Cert.RSfIdeal.nD Cert.RSfIdeal.τ).loc Cert.RSfIdeal.main_arg0)) (m ((c.tc : Thread Cert.RSfIdeal.nD Cert.RSfIdeal.τ).loc Cert.RSfIdeal.main_arg1)) (m ((c.tc : Thread Cert.RSfIdeal.nD Cert.RSfIdeal.τ).loc Cert.RSfIdeal.main_arg2)) (m ((c.tc : Thread Cert.RSfIdeal.nD Cert.RSfIdeal.τ).loc Cert.RSfIdeal.main_arg3)) (m ((c.tc : Thread Cert.RSfIdeal.nD Cert.RSfIdeal.τ).loc Cert.RSfIdeal.main_arg4))) = (fun _ => 1#1)

def Pre_KQn (m : (ℓ : Loc Cert.KQn.nD Cert.KQn.τ Cert.KQn.sig) → Buf (Elt Bits) ℓ) : Prop :=
  True

def Pre_KQnIdeal (m : (ℓ : Loc Cert.KQnIdeal.nD Cert.KQnIdeal.τ Cert.KQnIdeal.sig) → Buf (Elt Ideal) ℓ) : Prop :=
  True

def Pre_KQnIdeal_qn_finite [hPre_qn_finite : Cert.Pre_qn_finite.Facts] (m : (ℓ : Loc Cert.KQnIdeal.nD Cert.KQnIdeal.τ Cert.KQnIdeal.sig) → Buf (Elt Ideal) ℓ) : Prop :=
  ∀ c : Dev Cert.KQnIdeal.nD,
    (Cert.Pre_qn_finite.fn (F := Ideal) (m ((c.tc : Thread Cert.KQnIdeal.nD Cert.KQnIdeal.τ).loc Cert.KQnIdeal.main_arg0)) (m ((c.tc : Thread Cert.KQnIdeal.nD Cert.KQnIdeal.τ).loc Cert.KQnIdeal.main_arg1)) (m ((c.tc : Thread Cert.KQnIdeal.nD Cert.KQnIdeal.τ).loc Cert.KQnIdeal.main_arg2)) (m ((c.tc : Thread Cert.KQnIdeal.nD Cert.KQnIdeal.τ).loc Cert.KQnIdeal.main_arg3)) (m ((c.tc : Thread Cert.KQnIdeal.nD Cert.KQnIdeal.τ).loc Cert.KQnIdeal.main_arg4)) (m ((c.tc : Thread Cert.KQnIdeal.nD Cert.KQnIdeal.τ).loc Cert.KQnIdeal.main_arg5))) = (fun _ => 1#1)

def Pre_RQnIdeal (m : (ℓ : Loc Cert.RQnIdeal.nD Cert.RQnIdeal.τ Cert.RQnIdeal.sig) → Buf (Elt Ideal) ℓ) : Prop :=
  True

def Pre_RQnIdeal_qn_finite [hPre_qn_finite : Cert.Pre_qn_finite.Facts] (m : (ℓ : Loc Cert.RQnIdeal.nD Cert.RQnIdeal.τ Cert.RQnIdeal.sig) → Buf (Elt Ideal) ℓ) : Prop :=
  ∀ c : Dev Cert.RQnIdeal.nD,
    (Cert.Pre_qn_finite.fn (F := Ideal) (m ((c.tc : Thread Cert.RQnIdeal.nD Cert.RQnIdeal.τ).loc Cert.RQnIdeal.main_arg0)) (m ((c.tc : Thread Cert.RQnIdeal.nD Cert.RQnIdeal.τ).loc Cert.RQnIdeal.main_arg1)) (m ((c.tc : Thread Cert.RQnIdeal.nD Cert.RQnIdeal.τ).loc Cert.RQnIdeal.main_arg2)) (m ((c.tc : Thread Cert.RQnIdeal.nD Cert.RQnIdeal.τ).loc Cert.RQnIdeal.main_arg3)) (m ((c.tc : Thread Cert.RQnIdeal.nD Cert.RQnIdeal.τ).loc Cert.RQnIdeal.main_arg4)) (m ((c.tc : Thread Cert.RQnIdeal.nD Cert.RQnIdeal.τ).loc Cert.RQnIdeal.main_arg5))) = (fun _ => 1#1)

def Pre_KAi (m : (ℓ : Loc Cert.KAi.nD Cert.KAi.τ Cert.KAi.sig) → Buf (Elt Bits) ℓ) : Prop :=
  True

def Pre_KAiIdeal (m : (ℓ : Loc Cert.KAiIdeal.nD Cert.KAiIdeal.τ Cert.KAiIdeal.sig) → Buf (Elt Ideal) ℓ) : Prop :=
  True

def Pre_RAiIdeal (m : (ℓ : Loc Cert.RAiIdeal.nD Cert.RAiIdeal.τ Cert.RAiIdeal.sig) → Buf (Elt Ideal) ℓ) : Prop :=
  True

def Pre_KAo (m : (ℓ : Loc Cert.KAo.nD Cert.KAo.τ Cert.KAo.sig) → Buf (Elt Bits) ℓ) : Prop :=
  True

def Pre_KAoIdeal (m : (ℓ : Loc Cert.KAoIdeal.nD Cert.KAoIdeal.τ Cert.KAoIdeal.sig) → Buf (Elt Ideal) ℓ) : Prop :=
  True

def Pre_RAoIdeal (m : (ℓ : Loc Cert.RAoIdeal.nD Cert.RAoIdeal.τ Cert.RAoIdeal.sig) → Buf (Elt Ideal) ℓ) : Prop :=
  True

def Pre_KAm (m : (ℓ : Loc Cert.KAm.nD Cert.KAm.τ Cert.KAm.sig) → Buf (Elt Bits) ℓ) : Prop :=
  True

def Pre_KAmIdeal (m : (ℓ : Loc Cert.KAmIdeal.nD Cert.KAmIdeal.τ Cert.KAmIdeal.sig) → Buf (Elt Ideal) ℓ) : Prop :=
  True

def Pre_RAmIdeal (m : (ℓ : Loc Cert.RAmIdeal.nD Cert.RAmIdeal.τ Cert.RAmIdeal.sig) → Buf (Elt Ideal) ℓ) : Prop :=
  True

def Pre_KAb (m : (ℓ : Loc Cert.KAb.nD Cert.KAb.τ Cert.KAb.sig) → Buf (Elt Bits) ℓ) : Prop :=
  True

def Pre_KAbIdeal (m : (ℓ : Loc Cert.KAbIdeal.nD Cert.KAbIdeal.τ Cert.KAbIdeal.sig) → Buf (Elt Ideal) ℓ) : Prop :=
  True

def Pre_RAbIdeal (m : (ℓ : Loc Cert.RAbIdeal.nD Cert.RAbIdeal.τ Cert.RAbIdeal.sig) → Buf (Elt Ideal) ℓ) : Prop :=
  True

def Pre_KAg (m : (ℓ : Loc Cert.KAg.nD Cert.KAg.τ Cert.KAg.sig) → Buf (Elt Bits) ℓ) : Prop :=
  True

def Pre_KAgIdeal (m : (ℓ : Loc Cert.KAgIdeal.nD Cert.KAgIdeal.τ Cert.KAgIdeal.sig) → Buf (Elt Ideal) ℓ) : Prop :=
  True

def Pre_RAgIdeal (m : (ℓ : Loc Cert.RAgIdeal.nD Cert.RAgIdeal.τ Cert.RAgIdeal.sig) → Buf (Elt Ideal) ℓ) : Prop :=
  True

def Pre_KAs (m : (ℓ : Loc Cert.KAs.nD Cert.KAs.τ Cert.KAs.sig) → Buf (Elt Bits) ℓ) : Prop :=
  True

def Pre_KAsIdeal (m : (ℓ : Loc Cert.KAsIdeal.nD Cert.KAsIdeal.τ Cert.KAsIdeal.sig) → Buf (Elt Ideal) ℓ) : Prop :=
  True

def Pre_RAsIdeal (m : (ℓ : Loc Cert.RAsIdeal.nD Cert.RAsIdeal.τ Cert.RAsIdeal.sig) → Buf (Elt Ideal) ℓ) : Prop :=
  True

def quiescent_KGate [hKGate : Cert.KGate.Facts] : Prop :=
  ∀ (m : (ℓ : Loc Cert.KGate.nD Cert.KGate.τ Cert.KGate.sig) → Buf (Elt Bits) ℓ) (g : Dev Cert.KGate.nD → PrngReg), Pre_KGate m →
    θ_run (Cert.KGate.defs (F := Bits)) (onTc (τ := Cert.KGate.τ) (Cert.KGate.main (F := Bits))) ⟨m, fun _ => 0, g⟩ (fun r => (∀ c : Dev Cert.KGate.nD,
      r.2.mem ((c.tc : Thread Cert.KGate.nD Cert.KGate.τ).loc Cert.KGate.main_arg0) = m ((c.tc : Thread Cert.KGate.nD Cert.KGate.τ).loc Cert.KGate.main_arg0)
      ∧ r.2.mem ((c.tc : Thread Cert.KGate.nD Cert.KGate.τ).loc Cert.KGate.main_arg1) = m ((c.tc : Thread Cert.KGate.nD Cert.KGate.τ).loc Cert.KGate.main_arg1)
      ∧ r.2.mem ((c.tc : Thread Cert.KGate.nD Cert.KGate.τ).loc Cert.KGate.main_arg2) = m ((c.tc : Thread Cert.KGate.nD Cert.KGate.τ).loc Cert.KGate.main_arg2)
      ∧ r.2.mem ((c.tc : Thread Cert.KGate.nD Cert.KGate.τ).loc Cert.KGate.main_arg3) = m ((c.tc : Thread Cert.KGate.nD Cert.KGate.τ).loc Cert.KGate.main_arg3)
      ∧ r.2.mem ((c.tc : Thread Cert.KGate.nD Cert.KGate.τ).loc Cert.KGate.main_arg4) = m ((c.tc : Thread Cert.KGate.nD Cert.KGate.τ).loc Cert.KGate.main_arg4)
      ∧ r.2.mem ((c.tc : Thread Cert.KGate.nD Cert.KGate.τ).loc Cert.KGate.main_arg5) = m ((c.tc : Thread Cert.KGate.nD Cert.KGate.τ).loc Cert.KGate.main_arg5)
      ∧ r.2.mem ((c.tc : Thread Cert.KGate.nD Cert.KGate.τ).loc Cert.KGate.main_arg6) = m ((c.tc : Thread Cert.KGate.nD Cert.KGate.τ).loc Cert.KGate.main_arg6))
      ∧ r.2.sem = fun _ => 0)

def quiescent_KGateIdeal [hKGateIdeal : Cert.KGateIdeal.Facts] : Prop :=
  ∀ (m : (ℓ : Loc Cert.KGateIdeal.nD Cert.KGateIdeal.τ Cert.KGateIdeal.sig) → Buf (Elt Ideal) ℓ) (g : Dev Cert.KGateIdeal.nD → PrngReg), Pre_KGateIdeal m →
    θ_run (Cert.KGateIdeal.defs (F := Ideal)) (onTc (τ := Cert.KGateIdeal.τ) (Cert.KGateIdeal.main (F := Ideal))) ⟨m, fun _ => 0, g⟩ (fun r => (∀ c : Dev Cert.KGateIdeal.nD,
      r.2.mem ((c.tc : Thread Cert.KGateIdeal.nD Cert.KGateIdeal.τ).loc Cert.KGateIdeal.main_arg0) = m ((c.tc : Thread Cert.KGateIdeal.nD Cert.KGateIdeal.τ).loc Cert.KGateIdeal.main_arg0)
      ∧ r.2.mem ((c.tc : Thread Cert.KGateIdeal.nD Cert.KGateIdeal.τ).loc Cert.KGateIdeal.main_arg1) = m ((c.tc : Thread Cert.KGateIdeal.nD Cert.KGateIdeal.τ).loc Cert.KGateIdeal.main_arg1)
      ∧ r.2.mem ((c.tc : Thread Cert.KGateIdeal.nD Cert.KGateIdeal.τ).loc Cert.KGateIdeal.main_arg2) = m ((c.tc : Thread Cert.KGateIdeal.nD Cert.KGateIdeal.τ).loc Cert.KGateIdeal.main_arg2)
      ∧ r.2.mem ((c.tc : Thread Cert.KGateIdeal.nD Cert.KGateIdeal.τ).loc Cert.KGateIdeal.main_arg3) = m ((c.tc : Thread Cert.KGateIdeal.nD Cert.KGateIdeal.τ).loc Cert.KGateIdeal.main_arg3)
      ∧ r.2.mem ((c.tc : Thread Cert.KGateIdeal.nD Cert.KGateIdeal.τ).loc Cert.KGateIdeal.main_arg4) = m ((c.tc : Thread Cert.KGateIdeal.nD Cert.KGateIdeal.τ).loc Cert.KGateIdeal.main_arg4)
      ∧ r.2.mem ((c.tc : Thread Cert.KGateIdeal.nD Cert.KGateIdeal.τ).loc Cert.KGateIdeal.main_arg5) = m ((c.tc : Thread Cert.KGateIdeal.nD Cert.KGateIdeal.τ).loc Cert.KGateIdeal.main_arg5)
      ∧ r.2.mem ((c.tc : Thread Cert.KGateIdeal.nD Cert.KGateIdeal.τ).loc Cert.KGateIdeal.main_arg6) = m ((c.tc : Thread Cert.KGateIdeal.nD Cert.KGateIdeal.τ).loc Cert.KGateIdeal.main_arg6))
      ∧ r.2.sem = fun _ => 0)

def quiescent_RGateIdeal [hRGateIdeal : Cert.RGateIdeal.Facts] : Prop :=
  ∀ (m : (ℓ : Loc Cert.RGateIdeal.nD Cert.RGateIdeal.τ Cert.RGateIdeal.sig) → Buf (Elt Ideal) ℓ) (g : Dev Cert.RGateIdeal.nD → PrngReg), Pre_RGateIdeal m →
    θ_run (Cert.RGateIdeal.defs (F := Ideal)) (onTc (τ := Cert.RGateIdeal.τ) (Cert.RGateIdeal.main (F := Ideal))) ⟨m, fun _ => 0, g⟩ (fun r => (∀ c : Dev Cert.RGateIdeal.nD,
      r.2.mem ((c.tc : Thread Cert.RGateIdeal.nD Cert.RGateIdeal.τ).loc Cert.RGateIdeal.main_arg0) = m ((c.tc : Thread Cert.RGateIdeal.nD Cert.RGateIdeal.τ).loc Cert.RGateIdeal.main_arg0)
      ∧ r.2.mem ((c.tc : Thread Cert.RGateIdeal.nD Cert.RGateIdeal.τ).loc Cert.RGateIdeal.main_arg1) = m ((c.tc : Thread Cert.RGateIdeal.nD Cert.RGateIdeal.τ).loc Cert.RGateIdeal.main_arg1)
      ∧ r.2.mem ((c.tc : Thread Cert.RGateIdeal.nD Cert.RGateIdeal.τ).loc Cert.RGateIdeal.main_arg2) = m ((c.tc : Thread Cert.RGateIdeal.nD Cert.RGateIdeal.τ).loc Cert.RGateIdeal.main_arg2)
      ∧ r.2.mem ((c.tc : Thread Cert.RGateIdeal.nD Cert.RGateIdeal.τ).loc Cert.RGateIdeal.main_arg3) = m ((c.tc : Thread Cert.RGateIdeal.nD Cert.RGateIdeal.τ).loc Cert.RGateIdeal.main_arg3)
      ∧ r.2.mem ((c.tc : Thread Cert.RGateIdeal.nD Cert.RGateIdeal.τ).loc Cert.RGateIdeal.main_arg4) = m ((c.tc : Thread Cert.RGateIdeal.nD Cert.RGateIdeal.τ).loc Cert.RGateIdeal.main_arg4)
      ∧ r.2.mem ((c.tc : Thread Cert.RGateIdeal.nD Cert.RGateIdeal.τ).loc Cert.RGateIdeal.main_arg5) = m ((c.tc : Thread Cert.RGateIdeal.nD Cert.RGateIdeal.τ).loc Cert.RGateIdeal.main_arg5)
      ∧ r.2.mem ((c.tc : Thread Cert.RGateIdeal.nD Cert.RGateIdeal.τ).loc Cert.RGateIdeal.main_arg6) = m ((c.tc : Thread Cert.RGateIdeal.nD Cert.RGateIdeal.τ).loc Cert.RGateIdeal.main_arg6))
      ∧ r.2.sem = fun _ => 0)

def quiescent_KMid [hKMid : Cert.KMid.Facts] : Prop :=
  ∀ (m : (ℓ : Loc Cert.KMid.nD Cert.KMid.τ Cert.KMid.sig) → Buf (Elt Bits) ℓ) (g : Dev Cert.KMid.nD → PrngReg), Pre_KMid m →
    θ_run (Cert.KMid.defs (F := Bits)) (onTc (τ := Cert.KMid.τ) (Cert.KMid.main (F := Bits))) ⟨m, fun _ => 0, g⟩ (fun r => (∀ c : Dev Cert.KMid.nD,
      r.2.mem ((c.tc : Thread Cert.KMid.nD Cert.KMid.τ).loc Cert.KMid.main_arg0) = m ((c.tc : Thread Cert.KMid.nD Cert.KMid.τ).loc Cert.KMid.main_arg0)
      ∧ r.2.mem ((c.tc : Thread Cert.KMid.nD Cert.KMid.τ).loc Cert.KMid.main_arg1) = m ((c.tc : Thread Cert.KMid.nD Cert.KMid.τ).loc Cert.KMid.main_arg1)
      ∧ r.2.mem ((c.tc : Thread Cert.KMid.nD Cert.KMid.τ).loc Cert.KMid.main_arg2) = m ((c.tc : Thread Cert.KMid.nD Cert.KMid.τ).loc Cert.KMid.main_arg2))
      ∧ r.2.sem = fun _ => 0)

def quiescent_KMidIdeal [hKMidIdeal : Cert.KMidIdeal.Facts] : Prop :=
  ∀ (m : (ℓ : Loc Cert.KMidIdeal.nD Cert.KMidIdeal.τ Cert.KMidIdeal.sig) → Buf (Elt Ideal) ℓ) (g : Dev Cert.KMidIdeal.nD → PrngReg), Pre_KMidIdeal m →
    θ_run (Cert.KMidIdeal.defs (F := Ideal)) (onTc (τ := Cert.KMidIdeal.τ) (Cert.KMidIdeal.main (F := Ideal))) ⟨m, fun _ => 0, g⟩ (fun r => (∀ c : Dev Cert.KMidIdeal.nD,
      r.2.mem ((c.tc : Thread Cert.KMidIdeal.nD Cert.KMidIdeal.τ).loc Cert.KMidIdeal.main_arg0) = m ((c.tc : Thread Cert.KMidIdeal.nD Cert.KMidIdeal.τ).loc Cert.KMidIdeal.main_arg0)
      ∧ r.2.mem ((c.tc : Thread Cert.KMidIdeal.nD Cert.KMidIdeal.τ).loc Cert.KMidIdeal.main_arg1) = m ((c.tc : Thread Cert.KMidIdeal.nD Cert.KMidIdeal.τ).loc Cert.KMidIdeal.main_arg1)
      ∧ r.2.mem ((c.tc : Thread Cert.KMidIdeal.nD Cert.KMidIdeal.τ).loc Cert.KMidIdeal.main_arg2) = m ((c.tc : Thread Cert.KMidIdeal.nD Cert.KMidIdeal.τ).loc Cert.KMidIdeal.main_arg2))
      ∧ r.2.sem = fun _ => 0)

def quiescent_KMidIdeal_pre_mid_finite [hKMidIdeal : Cert.KMidIdeal.Facts] [hPre_mid_finite : Cert.Pre_mid_finite.Facts] : Prop :=
  ∀ (m : (ℓ : Loc Cert.KMidIdeal.nD Cert.KMidIdeal.τ Cert.KMidIdeal.sig) → Buf (Elt Ideal) ℓ) (g : Dev Cert.KMidIdeal.nD → PrngReg), Pre_KMidIdeal_mid_finite m →
    θ_run (Cert.KMidIdeal.defs (F := Ideal)) (onTc (τ := Cert.KMidIdeal.τ) (Cert.KMidIdeal.main (F := Ideal))) ⟨m, fun _ => 0, g⟩ (fun r => (∀ c : Dev Cert.KMidIdeal.nD,
      r.2.mem ((c.tc : Thread Cert.KMidIdeal.nD Cert.KMidIdeal.τ).loc Cert.KMidIdeal.main_arg0) = m ((c.tc : Thread Cert.KMidIdeal.nD Cert.KMidIdeal.τ).loc Cert.KMidIdeal.main_arg0)
      ∧ r.2.mem ((c.tc : Thread Cert.KMidIdeal.nD Cert.KMidIdeal.τ).loc Cert.KMidIdeal.main_arg1) = m ((c.tc : Thread Cert.KMidIdeal.nD Cert.KMidIdeal.τ).loc Cert.KMidIdeal.main_arg1)
      ∧ r.2.mem ((c.tc : Thread Cert.KMidIdeal.nD Cert.KMidIdeal.τ).loc Cert.KMidIdeal.main_arg2) = m ((c.tc : Thread Cert.KMidIdeal.nD Cert.KMidIdeal.τ).loc Cert.KMidIdeal.main_arg2))
      ∧ r.2.sem = fun _ => 0)

def quiescent_RMidIdeal [hRMidIdeal : Cert.RMidIdeal.Facts] : Prop :=
  ∀ (m : (ℓ : Loc Cert.RMidIdeal.nD Cert.RMidIdeal.τ Cert.RMidIdeal.sig) → Buf (Elt Ideal) ℓ) (g : Dev Cert.RMidIdeal.nD → PrngReg), Pre_RMidIdeal m →
    θ_run (Cert.RMidIdeal.defs (F := Ideal)) (onTc (τ := Cert.RMidIdeal.τ) (Cert.RMidIdeal.main (F := Ideal))) ⟨m, fun _ => 0, g⟩ (fun r => (∀ c : Dev Cert.RMidIdeal.nD,
      r.2.mem ((c.tc : Thread Cert.RMidIdeal.nD Cert.RMidIdeal.τ).loc Cert.RMidIdeal.main_arg0) = m ((c.tc : Thread Cert.RMidIdeal.nD Cert.RMidIdeal.τ).loc Cert.RMidIdeal.main_arg0)
      ∧ r.2.mem ((c.tc : Thread Cert.RMidIdeal.nD Cert.RMidIdeal.τ).loc Cert.RMidIdeal.main_arg1) = m ((c.tc : Thread Cert.RMidIdeal.nD Cert.RMidIdeal.τ).loc Cert.RMidIdeal.main_arg1)
      ∧ r.2.mem ((c.tc : Thread Cert.RMidIdeal.nD Cert.RMidIdeal.τ).loc Cert.RMidIdeal.main_arg2) = m ((c.tc : Thread Cert.RMidIdeal.nD Cert.RMidIdeal.τ).loc Cert.RMidIdeal.main_arg2))
      ∧ r.2.sem = fun _ => 0)

def quiescent_RMidIdeal_pre_mid_finite [hRMidIdeal : Cert.RMidIdeal.Facts] [hPre_mid_finite : Cert.Pre_mid_finite.Facts] : Prop :=
  ∀ (m : (ℓ : Loc Cert.RMidIdeal.nD Cert.RMidIdeal.τ Cert.RMidIdeal.sig) → Buf (Elt Ideal) ℓ) (g : Dev Cert.RMidIdeal.nD → PrngReg), Pre_RMidIdeal_mid_finite m →
    θ_run (Cert.RMidIdeal.defs (F := Ideal)) (onTc (τ := Cert.RMidIdeal.τ) (Cert.RMidIdeal.main (F := Ideal))) ⟨m, fun _ => 0, g⟩ (fun r => (∀ c : Dev Cert.RMidIdeal.nD,
      r.2.mem ((c.tc : Thread Cert.RMidIdeal.nD Cert.RMidIdeal.τ).loc Cert.RMidIdeal.main_arg0) = m ((c.tc : Thread Cert.RMidIdeal.nD Cert.RMidIdeal.τ).loc Cert.RMidIdeal.main_arg0)
      ∧ r.2.mem ((c.tc : Thread Cert.RMidIdeal.nD Cert.RMidIdeal.τ).loc Cert.RMidIdeal.main_arg1) = m ((c.tc : Thread Cert.RMidIdeal.nD Cert.RMidIdeal.τ).loc Cert.RMidIdeal.main_arg1)
      ∧ r.2.mem ((c.tc : Thread Cert.RMidIdeal.nD Cert.RMidIdeal.τ).loc Cert.RMidIdeal.main_arg2) = m ((c.tc : Thread Cert.RMidIdeal.nD Cert.RMidIdeal.τ).loc Cert.RMidIdeal.main_arg2))
      ∧ r.2.sem = fun _ => 0)

def quiescent_KIn [hKIn : Cert.KIn.Facts] : Prop :=
  ∀ (m : (ℓ : Loc Cert.KIn.nD Cert.KIn.τ Cert.KIn.sig) → Buf (Elt Bits) ℓ) (g : Dev Cert.KIn.nD → PrngReg), Pre_KIn m →
    θ_run (Cert.KIn.defs (F := Bits)) (onTc (τ := Cert.KIn.τ) (Cert.KIn.main (F := Bits))) ⟨m, fun _ => 0, g⟩ (fun r => (∀ c : Dev Cert.KIn.nD,
      r.2.mem ((c.tc : Thread Cert.KIn.nD Cert.KIn.τ).loc Cert.KIn.main_arg0) = m ((c.tc : Thread Cert.KIn.nD Cert.KIn.τ).loc Cert.KIn.main_arg0)
      ∧ r.2.mem ((c.tc : Thread Cert.KIn.nD Cert.KIn.τ).loc Cert.KIn.main_arg1) = m ((c.tc : Thread Cert.KIn.nD Cert.KIn.τ).loc Cert.KIn.main_arg1)
      ∧ r.2.mem ((c.tc : Thread Cert.KIn.nD Cert.KIn.τ).loc Cert.KIn.main_arg2) = m ((c.tc : Thread Cert.KIn.nD Cert.KIn.τ).loc Cert.KIn.main_arg2)
      ∧ r.2.mem ((c.tc : Thread Cert.KIn.nD Cert.KIn.τ).loc Cert.KIn.main_arg3) = m ((c.tc : Thread Cert.KIn.nD Cert.KIn.τ).loc Cert.KIn.main_arg3)
      ∧ r.2.mem ((c.tc : Thread Cert.KIn.nD Cert.KIn.τ).loc Cert.KIn.main_arg4) = m ((c.tc : Thread Cert.KIn.nD Cert.KIn.τ).loc Cert.KIn.main_arg4))
      ∧ r.2.sem = fun _ => 0)

def quiescent_KInIdeal [hKInIdeal : Cert.KInIdeal.Facts] : Prop :=
  ∀ (m : (ℓ : Loc Cert.KInIdeal.nD Cert.KInIdeal.τ Cert.KInIdeal.sig) → Buf (Elt Ideal) ℓ) (g : Dev Cert.KInIdeal.nD → PrngReg), Pre_KInIdeal m →
    θ_run (Cert.KInIdeal.defs (F := Ideal)) (onTc (τ := Cert.KInIdeal.τ) (Cert.KInIdeal.main (F := Ideal))) ⟨m, fun _ => 0, g⟩ (fun r => (∀ c : Dev Cert.KInIdeal.nD,
      r.2.mem ((c.tc : Thread Cert.KInIdeal.nD Cert.KInIdeal.τ).loc Cert.KInIdeal.main_arg0) = m ((c.tc : Thread Cert.KInIdeal.nD Cert.KInIdeal.τ).loc Cert.KInIdeal.main_arg0)
      ∧ r.2.mem ((c.tc : Thread Cert.KInIdeal.nD Cert.KInIdeal.τ).loc Cert.KInIdeal.main_arg1) = m ((c.tc : Thread Cert.KInIdeal.nD Cert.KInIdeal.τ).loc Cert.KInIdeal.main_arg1)
      ∧ r.2.mem ((c.tc : Thread Cert.KInIdeal.nD Cert.KInIdeal.τ).loc Cert.KInIdeal.main_arg2) = m ((c.tc : Thread Cert.KInIdeal.nD Cert.KInIdeal.τ).loc Cert.KInIdeal.main_arg2)
      ∧ r.2.mem ((c.tc : Thread Cert.KInIdeal.nD Cert.KInIdeal.τ).loc Cert.KInIdeal.main_arg3) = m ((c.tc : Thread Cert.KInIdeal.nD Cert.KInIdeal.τ).loc Cert.KInIdeal.main_arg3)
      ∧ r.2.mem ((c.tc : Thread Cert.KInIdeal.nD Cert.KInIdeal.τ).loc Cert.KInIdeal.main_arg4) = m ((c.tc : Thread Cert.KInIdeal.nD Cert.KInIdeal.τ).loc Cert.KInIdeal.main_arg4))
      ∧ r.2.sem = fun _ => 0)

def quiescent_KInIdeal_pre_in_finite [hKInIdeal : Cert.KInIdeal.Facts] [hPre_in_finite : Cert.Pre_in_finite.Facts] : Prop :=
  ∀ (m : (ℓ : Loc Cert.KInIdeal.nD Cert.KInIdeal.τ Cert.KInIdeal.sig) → Buf (Elt Ideal) ℓ) (g : Dev Cert.KInIdeal.nD → PrngReg), Pre_KInIdeal_in_finite m →
    θ_run (Cert.KInIdeal.defs (F := Ideal)) (onTc (τ := Cert.KInIdeal.τ) (Cert.KInIdeal.main (F := Ideal))) ⟨m, fun _ => 0, g⟩ (fun r => (∀ c : Dev Cert.KInIdeal.nD,
      r.2.mem ((c.tc : Thread Cert.KInIdeal.nD Cert.KInIdeal.τ).loc Cert.KInIdeal.main_arg0) = m ((c.tc : Thread Cert.KInIdeal.nD Cert.KInIdeal.τ).loc Cert.KInIdeal.main_arg0)
      ∧ r.2.mem ((c.tc : Thread Cert.KInIdeal.nD Cert.KInIdeal.τ).loc Cert.KInIdeal.main_arg1) = m ((c.tc : Thread Cert.KInIdeal.nD Cert.KInIdeal.τ).loc Cert.KInIdeal.main_arg1)
      ∧ r.2.mem ((c.tc : Thread Cert.KInIdeal.nD Cert.KInIdeal.τ).loc Cert.KInIdeal.main_arg2) = m ((c.tc : Thread Cert.KInIdeal.nD Cert.KInIdeal.τ).loc Cert.KInIdeal.main_arg2)
      ∧ r.2.mem ((c.tc : Thread Cert.KInIdeal.nD Cert.KInIdeal.τ).loc Cert.KInIdeal.main_arg3) = m ((c.tc : Thread Cert.KInIdeal.nD Cert.KInIdeal.τ).loc Cert.KInIdeal.main_arg3)
      ∧ r.2.mem ((c.tc : Thread Cert.KInIdeal.nD Cert.KInIdeal.τ).loc Cert.KInIdeal.main_arg4) = m ((c.tc : Thread Cert.KInIdeal.nD Cert.KInIdeal.τ).loc Cert.KInIdeal.main_arg4))
      ∧ r.2.sem = fun _ => 0)

def quiescent_RInIdeal [hRInIdeal : Cert.RInIdeal.Facts] : Prop :=
  ∀ (m : (ℓ : Loc Cert.RInIdeal.nD Cert.RInIdeal.τ Cert.RInIdeal.sig) → Buf (Elt Ideal) ℓ) (g : Dev Cert.RInIdeal.nD → PrngReg), Pre_RInIdeal m →
    θ_run (Cert.RInIdeal.defs (F := Ideal)) (onTc (τ := Cert.RInIdeal.τ) (Cert.RInIdeal.main (F := Ideal))) ⟨m, fun _ => 0, g⟩ (fun r => (∀ c : Dev Cert.RInIdeal.nD,
      r.2.mem ((c.tc : Thread Cert.RInIdeal.nD Cert.RInIdeal.τ).loc Cert.RInIdeal.main_arg0) = m ((c.tc : Thread Cert.RInIdeal.nD Cert.RInIdeal.τ).loc Cert.RInIdeal.main_arg0)
      ∧ r.2.mem ((c.tc : Thread Cert.RInIdeal.nD Cert.RInIdeal.τ).loc Cert.RInIdeal.main_arg1) = m ((c.tc : Thread Cert.RInIdeal.nD Cert.RInIdeal.τ).loc Cert.RInIdeal.main_arg1)
      ∧ r.2.mem ((c.tc : Thread Cert.RInIdeal.nD Cert.RInIdeal.τ).loc Cert.RInIdeal.main_arg2) = m ((c.tc : Thread Cert.RInIdeal.nD Cert.RInIdeal.τ).loc Cert.RInIdeal.main_arg2)
      ∧ r.2.mem ((c.tc : Thread Cert.RInIdeal.nD Cert.RInIdeal.τ).loc Cert.RInIdeal.main_arg3) = m ((c.tc : Thread Cert.RInIdeal.nD Cert.RInIdeal.τ).loc Cert.RInIdeal.main_arg3)
      ∧ r.2.mem ((c.tc : Thread Cert.RInIdeal.nD Cert.RInIdeal.τ).loc Cert.RInIdeal.main_arg4) = m ((c.tc : Thread Cert.RInIdeal.nD Cert.RInIdeal.τ).loc Cert.RInIdeal.main_arg4))
      ∧ r.2.sem = fun _ => 0)

def quiescent_RInIdeal_pre_in_finite [hRInIdeal : Cert.RInIdeal.Facts] [hPre_in_finite : Cert.Pre_in_finite.Facts] : Prop :=
  ∀ (m : (ℓ : Loc Cert.RInIdeal.nD Cert.RInIdeal.τ Cert.RInIdeal.sig) → Buf (Elt Ideal) ℓ) (g : Dev Cert.RInIdeal.nD → PrngReg), Pre_RInIdeal_in_finite m →
    θ_run (Cert.RInIdeal.defs (F := Ideal)) (onTc (τ := Cert.RInIdeal.τ) (Cert.RInIdeal.main (F := Ideal))) ⟨m, fun _ => 0, g⟩ (fun r => (∀ c : Dev Cert.RInIdeal.nD,
      r.2.mem ((c.tc : Thread Cert.RInIdeal.nD Cert.RInIdeal.τ).loc Cert.RInIdeal.main_arg0) = m ((c.tc : Thread Cert.RInIdeal.nD Cert.RInIdeal.τ).loc Cert.RInIdeal.main_arg0)
      ∧ r.2.mem ((c.tc : Thread Cert.RInIdeal.nD Cert.RInIdeal.τ).loc Cert.RInIdeal.main_arg1) = m ((c.tc : Thread Cert.RInIdeal.nD Cert.RInIdeal.τ).loc Cert.RInIdeal.main_arg1)
      ∧ r.2.mem ((c.tc : Thread Cert.RInIdeal.nD Cert.RInIdeal.τ).loc Cert.RInIdeal.main_arg2) = m ((c.tc : Thread Cert.RInIdeal.nD Cert.RInIdeal.τ).loc Cert.RInIdeal.main_arg2)
      ∧ r.2.mem ((c.tc : Thread Cert.RInIdeal.nD Cert.RInIdeal.τ).loc Cert.RInIdeal.main_arg3) = m ((c.tc : Thread Cert.RInIdeal.nD Cert.RInIdeal.τ).loc Cert.RInIdeal.main_arg3)
      ∧ r.2.mem ((c.tc : Thread Cert.RInIdeal.nD Cert.RInIdeal.τ).loc Cert.RInIdeal.main_arg4) = m ((c.tc : Thread Cert.RInIdeal.nD Cert.RInIdeal.τ).loc Cert.RInIdeal.main_arg4))
      ∧ r.2.sem = fun _ => 0)

def quiescent_KDwo [hKDwo : Cert.KDwo.Facts] : Prop :=
  ∀ (m : (ℓ : Loc Cert.KDwo.nD Cert.KDwo.τ Cert.KDwo.sig) → Buf (Elt Bits) ℓ) (g : Dev Cert.KDwo.nD → PrngReg), Pre_KDwo m →
    θ_run (Cert.KDwo.defs (F := Bits)) (onTc (τ := Cert.KDwo.τ) (Cert.KDwo.main (F := Bits))) ⟨m, fun _ => 0, g⟩ (fun r => (∀ c : Dev Cert.KDwo.nD,
      r.2.mem ((c.tc : Thread Cert.KDwo.nD Cert.KDwo.τ).loc Cert.KDwo.main_arg0) = m ((c.tc : Thread Cert.KDwo.nD Cert.KDwo.τ).loc Cert.KDwo.main_arg0)
      ∧ r.2.mem ((c.tc : Thread Cert.KDwo.nD Cert.KDwo.τ).loc Cert.KDwo.main_arg1) = m ((c.tc : Thread Cert.KDwo.nD Cert.KDwo.τ).loc Cert.KDwo.main_arg1))
      ∧ r.2.sem = fun _ => 0)

def quiescent_KDwoIdeal [hKDwoIdeal : Cert.KDwoIdeal.Facts] : Prop :=
  ∀ (m : (ℓ : Loc Cert.KDwoIdeal.nD Cert.KDwoIdeal.τ Cert.KDwoIdeal.sig) → Buf (Elt Ideal) ℓ) (g : Dev Cert.KDwoIdeal.nD → PrngReg), Pre_KDwoIdeal m →
    θ_run (Cert.KDwoIdeal.defs (F := Ideal)) (onTc (τ := Cert.KDwoIdeal.τ) (Cert.KDwoIdeal.main (F := Ideal))) ⟨m, fun _ => 0, g⟩ (fun r => (∀ c : Dev Cert.KDwoIdeal.nD,
      r.2.mem ((c.tc : Thread Cert.KDwoIdeal.nD Cert.KDwoIdeal.τ).loc Cert.KDwoIdeal.main_arg0) = m ((c.tc : Thread Cert.KDwoIdeal.nD Cert.KDwoIdeal.τ).loc Cert.KDwoIdeal.main_arg0)
      ∧ r.2.mem ((c.tc : Thread Cert.KDwoIdeal.nD Cert.KDwoIdeal.τ).loc Cert.KDwoIdeal.main_arg1) = m ((c.tc : Thread Cert.KDwoIdeal.nD Cert.KDwoIdeal.τ).loc Cert.KDwoIdeal.main_arg1))
      ∧ r.2.sem = fun _ => 0)

def quiescent_RDwoIdeal [hRDwoIdeal : Cert.RDwoIdeal.Facts] : Prop :=
  ∀ (m : (ℓ : Loc Cert.RDwoIdeal.nD Cert.RDwoIdeal.τ Cert.RDwoIdeal.sig) → Buf (Elt Ideal) ℓ) (g : Dev Cert.RDwoIdeal.nD → PrngReg), Pre_RDwoIdeal m →
    θ_run (Cert.RDwoIdeal.defs (F := Ideal)) (onTc (τ := Cert.RDwoIdeal.τ) (Cert.RDwoIdeal.main (F := Ideal))) ⟨m, fun _ => 0, g⟩ (fun r => (∀ c : Dev Cert.RDwoIdeal.nD,
      r.2.mem ((c.tc : Thread Cert.RDwoIdeal.nD Cert.RDwoIdeal.τ).loc Cert.RDwoIdeal.main_arg0) = m ((c.tc : Thread Cert.RDwoIdeal.nD Cert.RDwoIdeal.τ).loc Cert.RDwoIdeal.main_arg0)
      ∧ r.2.mem ((c.tc : Thread Cert.RDwoIdeal.nD Cert.RDwoIdeal.τ).loc Cert.RDwoIdeal.main_arg1) = m ((c.tc : Thread Cert.RDwoIdeal.nD Cert.RDwoIdeal.τ).loc Cert.RDwoIdeal.main_arg1))
      ∧ r.2.sem = fun _ => 0)

def quiescent_KDwi [hKDwi : Cert.KDwi.Facts] : Prop :=
  ∀ (m : (ℓ : Loc Cert.KDwi.nD Cert.KDwi.τ Cert.KDwi.sig) → Buf (Elt Bits) ℓ) (g : Dev Cert.KDwi.nD → PrngReg), Pre_KDwi m →
    θ_run (Cert.KDwi.defs (F := Bits)) (onTc (τ := Cert.KDwi.τ) (Cert.KDwi.main (F := Bits))) ⟨m, fun _ => 0, g⟩ (fun r => (∀ c : Dev Cert.KDwi.nD,
      r.2.mem ((c.tc : Thread Cert.KDwi.nD Cert.KDwi.τ).loc Cert.KDwi.main_arg0) = m ((c.tc : Thread Cert.KDwi.nD Cert.KDwi.τ).loc Cert.KDwi.main_arg0)
      ∧ r.2.mem ((c.tc : Thread Cert.KDwi.nD Cert.KDwi.τ).loc Cert.KDwi.main_arg1) = m ((c.tc : Thread Cert.KDwi.nD Cert.KDwi.τ).loc Cert.KDwi.main_arg1))
      ∧ r.2.sem = fun _ => 0)

def quiescent_KDwiIdeal [hKDwiIdeal : Cert.KDwiIdeal.Facts] : Prop :=
  ∀ (m : (ℓ : Loc Cert.KDwiIdeal.nD Cert.KDwiIdeal.τ Cert.KDwiIdeal.sig) → Buf (Elt Ideal) ℓ) (g : Dev Cert.KDwiIdeal.nD → PrngReg), Pre_KDwiIdeal m →
    θ_run (Cert.KDwiIdeal.defs (F := Ideal)) (onTc (τ := Cert.KDwiIdeal.τ) (Cert.KDwiIdeal.main (F := Ideal))) ⟨m, fun _ => 0, g⟩ (fun r => (∀ c : Dev Cert.KDwiIdeal.nD,
      r.2.mem ((c.tc : Thread Cert.KDwiIdeal.nD Cert.KDwiIdeal.τ).loc Cert.KDwiIdeal.main_arg0) = m ((c.tc : Thread Cert.KDwiIdeal.nD Cert.KDwiIdeal.τ).loc Cert.KDwiIdeal.main_arg0)
      ∧ r.2.mem ((c.tc : Thread Cert.KDwiIdeal.nD Cert.KDwiIdeal.τ).loc Cert.KDwiIdeal.main_arg1) = m ((c.tc : Thread Cert.KDwiIdeal.nD Cert.KDwiIdeal.τ).loc Cert.KDwiIdeal.main_arg1))
      ∧ r.2.sem = fun _ => 0)

def quiescent_RDwiIdeal [hRDwiIdeal : Cert.RDwiIdeal.Facts] : Prop :=
  ∀ (m : (ℓ : Loc Cert.RDwiIdeal.nD Cert.RDwiIdeal.τ Cert.RDwiIdeal.sig) → Buf (Elt Ideal) ℓ) (g : Dev Cert.RDwiIdeal.nD → PrngReg), Pre_RDwiIdeal m →
    θ_run (Cert.RDwiIdeal.defs (F := Ideal)) (onTc (τ := Cert.RDwiIdeal.τ) (Cert.RDwiIdeal.main (F := Ideal))) ⟨m, fun _ => 0, g⟩ (fun r => (∀ c : Dev Cert.RDwiIdeal.nD,
      r.2.mem ((c.tc : Thread Cert.RDwiIdeal.nD Cert.RDwiIdeal.τ).loc Cert.RDwiIdeal.main_arg0) = m ((c.tc : Thread Cert.RDwiIdeal.nD Cert.RDwiIdeal.τ).loc Cert.RDwiIdeal.main_arg0)
      ∧ r.2.mem ((c.tc : Thread Cert.RDwiIdeal.nD Cert.RDwiIdeal.τ).loc Cert.RDwiIdeal.main_arg1) = m ((c.tc : Thread Cert.RDwiIdeal.nD Cert.RDwiIdeal.τ).loc Cert.RDwiIdeal.main_arg1))
      ∧ r.2.sem = fun _ => 0)

def quiescent_KDout [hKDout : Cert.KDout.Facts] : Prop :=
  ∀ (m : (ℓ : Loc Cert.KDout.nD Cert.KDout.τ Cert.KDout.sig) → Buf (Elt Bits) ℓ) (g : Dev Cert.KDout.nD → PrngReg), Pre_KDout m →
    θ_run (Cert.KDout.defs (F := Bits)) (onTc (τ := Cert.KDout.τ) (Cert.KDout.main (F := Bits))) ⟨m, fun _ => 0, g⟩ (fun r => (∀ c : Dev Cert.KDout.nD,
      r.2.mem ((c.tc : Thread Cert.KDout.nD Cert.KDout.τ).loc Cert.KDout.main_arg0) = m ((c.tc : Thread Cert.KDout.nD Cert.KDout.τ).loc Cert.KDout.main_arg0)
      ∧ r.2.mem ((c.tc : Thread Cert.KDout.nD Cert.KDout.τ).loc Cert.KDout.main_arg1) = m ((c.tc : Thread Cert.KDout.nD Cert.KDout.τ).loc Cert.KDout.main_arg1))
      ∧ r.2.sem = fun _ => 0)

def quiescent_KDoutIdeal [hKDoutIdeal : Cert.KDoutIdeal.Facts] : Prop :=
  ∀ (m : (ℓ : Loc Cert.KDoutIdeal.nD Cert.KDoutIdeal.τ Cert.KDoutIdeal.sig) → Buf (Elt Ideal) ℓ) (g : Dev Cert.KDoutIdeal.nD → PrngReg), Pre_KDoutIdeal m →
    θ_run (Cert.KDoutIdeal.defs (F := Ideal)) (onTc (τ := Cert.KDoutIdeal.τ) (Cert.KDoutIdeal.main (F := Ideal))) ⟨m, fun _ => 0, g⟩ (fun r => (∀ c : Dev Cert.KDoutIdeal.nD,
      r.2.mem ((c.tc : Thread Cert.KDoutIdeal.nD Cert.KDoutIdeal.τ).loc Cert.KDoutIdeal.main_arg0) = m ((c.tc : Thread Cert.KDoutIdeal.nD Cert.KDoutIdeal.τ).loc Cert.KDoutIdeal.main_arg0)
      ∧ r.2.mem ((c.tc : Thread Cert.KDoutIdeal.nD Cert.KDoutIdeal.τ).loc Cert.KDoutIdeal.main_arg1) = m ((c.tc : Thread Cert.KDoutIdeal.nD Cert.KDoutIdeal.τ).loc Cert.KDoutIdeal.main_arg1))
      ∧ r.2.sem = fun _ => 0)

def quiescent_RDoutIdeal [hRDoutIdeal : Cert.RDoutIdeal.Facts] : Prop :=
  ∀ (m : (ℓ : Loc Cert.RDoutIdeal.nD Cert.RDoutIdeal.τ Cert.RDoutIdeal.sig) → Buf (Elt Ideal) ℓ) (g : Dev Cert.RDoutIdeal.nD → PrngReg), Pre_RDoutIdeal m →
    θ_run (Cert.RDoutIdeal.defs (F := Ideal)) (onTc (τ := Cert.RDoutIdeal.τ) (Cert.RDoutIdeal.main (F := Ideal))) ⟨m, fun _ => 0, g⟩ (fun r => (∀ c : Dev Cert.RDoutIdeal.nD,
      r.2.mem ((c.tc : Thread Cert.RDoutIdeal.nD Cert.RDoutIdeal.τ).loc Cert.RDoutIdeal.main_arg0) = m ((c.tc : Thread Cert.RDoutIdeal.nD Cert.RDoutIdeal.τ).loc Cert.RDoutIdeal.main_arg0)
      ∧ r.2.mem ((c.tc : Thread Cert.RDoutIdeal.nD Cert.RDoutIdeal.τ).loc Cert.RDoutIdeal.main_arg1) = m ((c.tc : Thread Cert.RDoutIdeal.nD Cert.RDoutIdeal.τ).loc Cert.RDoutIdeal.main_arg1))
      ∧ r.2.sem = fun _ => 0)

def quiescent_KDbr [hKDbr : Cert.KDbr.Facts] : Prop :=
  ∀ (m : (ℓ : Loc Cert.KDbr.nD Cert.KDbr.τ Cert.KDbr.sig) → Buf (Elt Bits) ℓ) (g : Dev Cert.KDbr.nD → PrngReg), Pre_KDbr m →
    θ_run (Cert.KDbr.defs (F := Bits)) (onTc (τ := Cert.KDbr.τ) (Cert.KDbr.main (F := Bits))) ⟨m, fun _ => 0, g⟩ (fun r => (∀ c : Dev Cert.KDbr.nD,
      r.2.mem ((c.tc : Thread Cert.KDbr.nD Cert.KDbr.τ).loc Cert.KDbr.main_arg0) = m ((c.tc : Thread Cert.KDbr.nD Cert.KDbr.τ).loc Cert.KDbr.main_arg0)
      ∧ r.2.mem ((c.tc : Thread Cert.KDbr.nD Cert.KDbr.τ).loc Cert.KDbr.main_arg1) = m ((c.tc : Thread Cert.KDbr.nD Cert.KDbr.τ).loc Cert.KDbr.main_arg1))
      ∧ r.2.sem = fun _ => 0)

def quiescent_KDbrIdeal [hKDbrIdeal : Cert.KDbrIdeal.Facts] : Prop :=
  ∀ (m : (ℓ : Loc Cert.KDbrIdeal.nD Cert.KDbrIdeal.τ Cert.KDbrIdeal.sig) → Buf (Elt Ideal) ℓ) (g : Dev Cert.KDbrIdeal.nD → PrngReg), Pre_KDbrIdeal m →
    θ_run (Cert.KDbrIdeal.defs (F := Ideal)) (onTc (τ := Cert.KDbrIdeal.τ) (Cert.KDbrIdeal.main (F := Ideal))) ⟨m, fun _ => 0, g⟩ (fun r => (∀ c : Dev Cert.KDbrIdeal.nD,
      r.2.mem ((c.tc : Thread Cert.KDbrIdeal.nD Cert.KDbrIdeal.τ).loc Cert.KDbrIdeal.main_arg0) = m ((c.tc : Thread Cert.KDbrIdeal.nD Cert.KDbrIdeal.τ).loc Cert.KDbrIdeal.main_arg0)
      ∧ r.2.mem ((c.tc : Thread Cert.KDbrIdeal.nD Cert.KDbrIdeal.τ).loc Cert.KDbrIdeal.main_arg1) = m ((c.tc : Thread Cert.KDbrIdeal.nD Cert.KDbrIdeal.τ).loc Cert.KDbrIdeal.main_arg1))
      ∧ r.2.sem = fun _ => 0)

def quiescent_RDbrIdeal [hRDbrIdeal : Cert.RDbrIdeal.Facts] : Prop :=
  ∀ (m : (ℓ : Loc Cert.RDbrIdeal.nD Cert.RDbrIdeal.τ Cert.RDbrIdeal.sig) → Buf (Elt Ideal) ℓ) (g : Dev Cert.RDbrIdeal.nD → PrngReg), Pre_RDbrIdeal m →
    θ_run (Cert.RDbrIdeal.defs (F := Ideal)) (onTc (τ := Cert.RDbrIdeal.τ) (Cert.RDbrIdeal.main (F := Ideal))) ⟨m, fun _ => 0, g⟩ (fun r => (∀ c : Dev Cert.RDbrIdeal.nD,
      r.2.mem ((c.tc : Thread Cert.RDbrIdeal.nD Cert.RDbrIdeal.τ).loc Cert.RDbrIdeal.main_arg0) = m ((c.tc : Thread Cert.RDbrIdeal.nD Cert.RDbrIdeal.τ).loc Cert.RDbrIdeal.main_arg0)
      ∧ r.2.mem ((c.tc : Thread Cert.RDbrIdeal.nD Cert.RDbrIdeal.τ).loc Cert.RDbrIdeal.main_arg1) = m ((c.tc : Thread Cert.RDbrIdeal.nD Cert.RDbrIdeal.τ).loc Cert.RDbrIdeal.main_arg1))
      ∧ r.2.sem = fun _ => 0)

def quiescent_KDmix [hKDmix : Cert.KDmix.Facts] : Prop :=
  ∀ (m : (ℓ : Loc Cert.KDmix.nD Cert.KDmix.τ Cert.KDmix.sig) → Buf (Elt Bits) ℓ) (g : Dev Cert.KDmix.nD → PrngReg), Pre_KDmix m →
    θ_run (Cert.KDmix.defs (F := Bits)) (onTc (τ := Cert.KDmix.τ) (Cert.KDmix.main (F := Bits))) ⟨m, fun _ => 0, g⟩ (fun r => (∀ c : Dev Cert.KDmix.nD,
      r.2.mem ((c.tc : Thread Cert.KDmix.nD Cert.KDmix.τ).loc Cert.KDmix.main_arg0) = m ((c.tc : Thread Cert.KDmix.nD Cert.KDmix.τ).loc Cert.KDmix.main_arg0)
      ∧ r.2.mem ((c.tc : Thread Cert.KDmix.nD Cert.KDmix.τ).loc Cert.KDmix.main_arg1) = m ((c.tc : Thread Cert.KDmix.nD Cert.KDmix.τ).loc Cert.KDmix.main_arg1))
      ∧ r.2.sem = fun _ => 0)

def quiescent_KDmixIdeal [hKDmixIdeal : Cert.KDmixIdeal.Facts] : Prop :=
  ∀ (m : (ℓ : Loc Cert.KDmixIdeal.nD Cert.KDmixIdeal.τ Cert.KDmixIdeal.sig) → Buf (Elt Ideal) ℓ) (g : Dev Cert.KDmixIdeal.nD → PrngReg), Pre_KDmixIdeal m →
    θ_run (Cert.KDmixIdeal.defs (F := Ideal)) (onTc (τ := Cert.KDmixIdeal.τ) (Cert.KDmixIdeal.main (F := Ideal))) ⟨m, fun _ => 0, g⟩ (fun r => (∀ c : Dev Cert.KDmixIdeal.nD,
      r.2.mem ((c.tc : Thread Cert.KDmixIdeal.nD Cert.KDmixIdeal.τ).loc Cert.KDmixIdeal.main_arg0) = m ((c.tc : Thread Cert.KDmixIdeal.nD Cert.KDmixIdeal.τ).loc Cert.KDmixIdeal.main_arg0)
      ∧ r.2.mem ((c.tc : Thread Cert.KDmixIdeal.nD Cert.KDmixIdeal.τ).loc Cert.KDmixIdeal.main_arg1) = m ((c.tc : Thread Cert.KDmixIdeal.nD Cert.KDmixIdeal.τ).loc Cert.KDmixIdeal.main_arg1))
      ∧ r.2.sem = fun _ => 0)

def quiescent_RDmixIdeal [hRDmixIdeal : Cert.RDmixIdeal.Facts] : Prop :=
  ∀ (m : (ℓ : Loc Cert.RDmixIdeal.nD Cert.RDmixIdeal.τ Cert.RDmixIdeal.sig) → Buf (Elt Ideal) ℓ) (g : Dev Cert.RDmixIdeal.nD → PrngReg), Pre_RDmixIdeal m →
    θ_run (Cert.RDmixIdeal.defs (F := Ideal)) (onTc (τ := Cert.RDmixIdeal.τ) (Cert.RDmixIdeal.main (F := Ideal))) ⟨m, fun _ => 0, g⟩ (fun r => (∀ c : Dev Cert.RDmixIdeal.nD,
      r.2.mem ((c.tc : Thread Cert.RDmixIdeal.nD Cert.RDmixIdeal.τ).loc Cert.RDmixIdeal.main_arg0) = m ((c.tc : Thread Cert.RDmixIdeal.nD Cert.RDmixIdeal.τ).loc Cert.RDmixIdeal.main_arg0)
      ∧ r.2.mem ((c.tc : Thread Cert.RDmixIdeal.nD Cert.RDmixIdeal.τ).loc Cert.RDmixIdeal.main_arg1) = m ((c.tc : Thread Cert.RDmixIdeal.nD Cert.RDmixIdeal.τ).loc Cert.RDmixIdeal.main_arg1))
      ∧ r.2.sem = fun _ => 0)

def quiescent_KNt [hKNt : Cert.KNt.Facts] : Prop :=
  ∀ (m : (ℓ : Loc Cert.KNt.nD Cert.KNt.τ Cert.KNt.sig) → Buf (Elt Bits) ℓ) (g : Dev Cert.KNt.nD → PrngReg), Pre_KNt m →
    θ_run (Cert.KNt.defs (F := Bits)) (onTc (τ := Cert.KNt.τ) (Cert.KNt.main (F := Bits))) ⟨m, fun _ => 0, g⟩ (fun r => (∀ c : Dev Cert.KNt.nD,
      r.2.mem ((c.tc : Thread Cert.KNt.nD Cert.KNt.τ).loc Cert.KNt.main_arg0) = m ((c.tc : Thread Cert.KNt.nD Cert.KNt.τ).loc Cert.KNt.main_arg0)
      ∧ r.2.mem ((c.tc : Thread Cert.KNt.nD Cert.KNt.τ).loc Cert.KNt.main_arg1) = m ((c.tc : Thread Cert.KNt.nD Cert.KNt.τ).loc Cert.KNt.main_arg1)
      ∧ r.2.mem ((c.tc : Thread Cert.KNt.nD Cert.KNt.τ).loc Cert.KNt.main_arg2) = m ((c.tc : Thread Cert.KNt.nD Cert.KNt.τ).loc Cert.KNt.main_arg2)
      ∧ r.2.mem ((c.tc : Thread Cert.KNt.nD Cert.KNt.τ).loc Cert.KNt.main_arg3) = m ((c.tc : Thread Cert.KNt.nD Cert.KNt.τ).loc Cert.KNt.main_arg3)
      ∧ r.2.mem ((c.tc : Thread Cert.KNt.nD Cert.KNt.τ).loc Cert.KNt.main_arg4) = m ((c.tc : Thread Cert.KNt.nD Cert.KNt.τ).loc Cert.KNt.main_arg4))
      ∧ r.2.sem = fun _ => 0)

def quiescent_KNtIdeal [hKNtIdeal : Cert.KNtIdeal.Facts] : Prop :=
  ∀ (m : (ℓ : Loc Cert.KNtIdeal.nD Cert.KNtIdeal.τ Cert.KNtIdeal.sig) → Buf (Elt Ideal) ℓ) (g : Dev Cert.KNtIdeal.nD → PrngReg), Pre_KNtIdeal m →
    θ_run (Cert.KNtIdeal.defs (F := Ideal)) (onTc (τ := Cert.KNtIdeal.τ) (Cert.KNtIdeal.main (F := Ideal))) ⟨m, fun _ => 0, g⟩ (fun r => (∀ c : Dev Cert.KNtIdeal.nD,
      r.2.mem ((c.tc : Thread Cert.KNtIdeal.nD Cert.KNtIdeal.τ).loc Cert.KNtIdeal.main_arg0) = m ((c.tc : Thread Cert.KNtIdeal.nD Cert.KNtIdeal.τ).loc Cert.KNtIdeal.main_arg0)
      ∧ r.2.mem ((c.tc : Thread Cert.KNtIdeal.nD Cert.KNtIdeal.τ).loc Cert.KNtIdeal.main_arg1) = m ((c.tc : Thread Cert.KNtIdeal.nD Cert.KNtIdeal.τ).loc Cert.KNtIdeal.main_arg1)
      ∧ r.2.mem ((c.tc : Thread Cert.KNtIdeal.nD Cert.KNtIdeal.τ).loc Cert.KNtIdeal.main_arg2) = m ((c.tc : Thread Cert.KNtIdeal.nD Cert.KNtIdeal.τ).loc Cert.KNtIdeal.main_arg2)
      ∧ r.2.mem ((c.tc : Thread Cert.KNtIdeal.nD Cert.KNtIdeal.τ).loc Cert.KNtIdeal.main_arg3) = m ((c.tc : Thread Cert.KNtIdeal.nD Cert.KNtIdeal.τ).loc Cert.KNtIdeal.main_arg3)
      ∧ r.2.mem ((c.tc : Thread Cert.KNtIdeal.nD Cert.KNtIdeal.τ).loc Cert.KNtIdeal.main_arg4) = m ((c.tc : Thread Cert.KNtIdeal.nD Cert.KNtIdeal.τ).loc Cert.KNtIdeal.main_arg4))
      ∧ r.2.sem = fun _ => 0)

def quiescent_KNtIdeal_pre_nt_finite [hKNtIdeal : Cert.KNtIdeal.Facts] [hPre_nt_finite : Cert.Pre_nt_finite.Facts] : Prop :=
  ∀ (m : (ℓ : Loc Cert.KNtIdeal.nD Cert.KNtIdeal.τ Cert.KNtIdeal.sig) → Buf (Elt Ideal) ℓ) (g : Dev Cert.KNtIdeal.nD → PrngReg), Pre_KNtIdeal_nt_finite m →
    θ_run (Cert.KNtIdeal.defs (F := Ideal)) (onTc (τ := Cert.KNtIdeal.τ) (Cert.KNtIdeal.main (F := Ideal))) ⟨m, fun _ => 0, g⟩ (fun r => (∀ c : Dev Cert.KNtIdeal.nD,
      r.2.mem ((c.tc : Thread Cert.KNtIdeal.nD Cert.KNtIdeal.τ).loc Cert.KNtIdeal.main_arg0) = m ((c.tc : Thread Cert.KNtIdeal.nD Cert.KNtIdeal.τ).loc Cert.KNtIdeal.main_arg0)
      ∧ r.2.mem ((c.tc : Thread Cert.KNtIdeal.nD Cert.KNtIdeal.τ).loc Cert.KNtIdeal.main_arg1) = m ((c.tc : Thread Cert.KNtIdeal.nD Cert.KNtIdeal.τ).loc Cert.KNtIdeal.main_arg1)
      ∧ r.2.mem ((c.tc : Thread Cert.KNtIdeal.nD Cert.KNtIdeal.τ).loc Cert.KNtIdeal.main_arg2) = m ((c.tc : Thread Cert.KNtIdeal.nD Cert.KNtIdeal.τ).loc Cert.KNtIdeal.main_arg2)
      ∧ r.2.mem ((c.tc : Thread Cert.KNtIdeal.nD Cert.KNtIdeal.τ).loc Cert.KNtIdeal.main_arg3) = m ((c.tc : Thread Cert.KNtIdeal.nD Cert.KNtIdeal.τ).loc Cert.KNtIdeal.main_arg3)
      ∧ r.2.mem ((c.tc : Thread Cert.KNtIdeal.nD Cert.KNtIdeal.τ).loc Cert.KNtIdeal.main_arg4) = m ((c.tc : Thread Cert.KNtIdeal.nD Cert.KNtIdeal.τ).loc Cert.KNtIdeal.main_arg4))
      ∧ r.2.sem = fun _ => 0)

def quiescent_RNtIdeal [hRNtIdeal : Cert.RNtIdeal.Facts] : Prop :=
  ∀ (m : (ℓ : Loc Cert.RNtIdeal.nD Cert.RNtIdeal.τ Cert.RNtIdeal.sig) → Buf (Elt Ideal) ℓ) (g : Dev Cert.RNtIdeal.nD → PrngReg), Pre_RNtIdeal m →
    θ_run (Cert.RNtIdeal.defs (F := Ideal)) (onTc (τ := Cert.RNtIdeal.τ) (Cert.RNtIdeal.main (F := Ideal))) ⟨m, fun _ => 0, g⟩ (fun r => (∀ c : Dev Cert.RNtIdeal.nD,
      r.2.mem ((c.tc : Thread Cert.RNtIdeal.nD Cert.RNtIdeal.τ).loc Cert.RNtIdeal.main_arg0) = m ((c.tc : Thread Cert.RNtIdeal.nD Cert.RNtIdeal.τ).loc Cert.RNtIdeal.main_arg0)
      ∧ r.2.mem ((c.tc : Thread Cert.RNtIdeal.nD Cert.RNtIdeal.τ).loc Cert.RNtIdeal.main_arg1) = m ((c.tc : Thread Cert.RNtIdeal.nD Cert.RNtIdeal.τ).loc Cert.RNtIdeal.main_arg1)
      ∧ r.2.mem ((c.tc : Thread Cert.RNtIdeal.nD Cert.RNtIdeal.τ).loc Cert.RNtIdeal.main_arg2) = m ((c.tc : Thread Cert.RNtIdeal.nD Cert.RNtIdeal.τ).loc Cert.RNtIdeal.main_arg2)
      ∧ r.2.mem ((c.tc : Thread Cert.RNtIdeal.nD Cert.RNtIdeal.τ).loc Cert.RNtIdeal.main_arg3) = m ((c.tc : Thread Cert.RNtIdeal.nD Cert.RNtIdeal.τ).loc Cert.RNtIdeal.main_arg3)
      ∧ r.2.mem ((c.tc : Thread Cert.RNtIdeal.nD Cert.RNtIdeal.τ).loc Cert.RNtIdeal.main_arg4) = m ((c.tc : Thread Cert.RNtIdeal.nD Cert.RNtIdeal.τ).loc Cert.RNtIdeal.main_arg4))
      ∧ r.2.sem = fun _ => 0)

def quiescent_RNtIdeal_pre_nt_finite [hRNtIdeal : Cert.RNtIdeal.Facts] [hPre_nt_finite : Cert.Pre_nt_finite.Facts] : Prop :=
  ∀ (m : (ℓ : Loc Cert.RNtIdeal.nD Cert.RNtIdeal.τ Cert.RNtIdeal.sig) → Buf (Elt Ideal) ℓ) (g : Dev Cert.RNtIdeal.nD → PrngReg), Pre_RNtIdeal_nt_finite m →
    θ_run (Cert.RNtIdeal.defs (F := Ideal)) (onTc (τ := Cert.RNtIdeal.τ) (Cert.RNtIdeal.main (F := Ideal))) ⟨m, fun _ => 0, g⟩ (fun r => (∀ c : Dev Cert.RNtIdeal.nD,
      r.2.mem ((c.tc : Thread Cert.RNtIdeal.nD Cert.RNtIdeal.τ).loc Cert.RNtIdeal.main_arg0) = m ((c.tc : Thread Cert.RNtIdeal.nD Cert.RNtIdeal.τ).loc Cert.RNtIdeal.main_arg0)
      ∧ r.2.mem ((c.tc : Thread Cert.RNtIdeal.nD Cert.RNtIdeal.τ).loc Cert.RNtIdeal.main_arg1) = m ((c.tc : Thread Cert.RNtIdeal.nD Cert.RNtIdeal.τ).loc Cert.RNtIdeal.main_arg1)
      ∧ r.2.mem ((c.tc : Thread Cert.RNtIdeal.nD Cert.RNtIdeal.τ).loc Cert.RNtIdeal.main_arg2) = m ((c.tc : Thread Cert.RNtIdeal.nD Cert.RNtIdeal.τ).loc Cert.RNtIdeal.main_arg2)
      ∧ r.2.mem ((c.tc : Thread Cert.RNtIdeal.nD Cert.RNtIdeal.τ).loc Cert.RNtIdeal.main_arg3) = m ((c.tc : Thread Cert.RNtIdeal.nD Cert.RNtIdeal.τ).loc Cert.RNtIdeal.main_arg3)
      ∧ r.2.mem ((c.tc : Thread Cert.RNtIdeal.nD Cert.RNtIdeal.τ).loc Cert.RNtIdeal.main_arg4) = m ((c.tc : Thread Cert.RNtIdeal.nD Cert.RNtIdeal.τ).loc Cert.RNtIdeal.main_arg4))
      ∧ r.2.sem = fun _ => 0)

def quiescent_KFfi [hKFfi : Cert.KFfi.Facts] : Prop :=
  ∀ (m : (ℓ : Loc Cert.KFfi.nD Cert.KFfi.τ Cert.KFfi.sig) → Buf (Elt Bits) ℓ) (g : Dev Cert.KFfi.nD → PrngReg), Pre_KFfi m →
    θ_run (Cert.KFfi.defs (F := Bits)) (onTc (τ := Cert.KFfi.τ) (Cert.KFfi.main (F := Bits))) ⟨m, fun _ => 0, g⟩ (fun r => (∀ c : Dev Cert.KFfi.nD,
      r.2.mem ((c.tc : Thread Cert.KFfi.nD Cert.KFfi.τ).loc Cert.KFfi.main_arg0) = m ((c.tc : Thread Cert.KFfi.nD Cert.KFfi.τ).loc Cert.KFfi.main_arg0)
      ∧ r.2.mem ((c.tc : Thread Cert.KFfi.nD Cert.KFfi.τ).loc Cert.KFfi.main_arg1) = m ((c.tc : Thread Cert.KFfi.nD Cert.KFfi.τ).loc Cert.KFfi.main_arg1))
      ∧ r.2.sem = fun _ => 0)

def quiescent_KFfiIdeal [hKFfiIdeal : Cert.KFfiIdeal.Facts] : Prop :=
  ∀ (m : (ℓ : Loc Cert.KFfiIdeal.nD Cert.KFfiIdeal.τ Cert.KFfiIdeal.sig) → Buf (Elt Ideal) ℓ) (g : Dev Cert.KFfiIdeal.nD → PrngReg), Pre_KFfiIdeal m →
    θ_run (Cert.KFfiIdeal.defs (F := Ideal)) (onTc (τ := Cert.KFfiIdeal.τ) (Cert.KFfiIdeal.main (F := Ideal))) ⟨m, fun _ => 0, g⟩ (fun r => (∀ c : Dev Cert.KFfiIdeal.nD,
      r.2.mem ((c.tc : Thread Cert.KFfiIdeal.nD Cert.KFfiIdeal.τ).loc Cert.KFfiIdeal.main_arg0) = m ((c.tc : Thread Cert.KFfiIdeal.nD Cert.KFfiIdeal.τ).loc Cert.KFfiIdeal.main_arg0)
      ∧ r.2.mem ((c.tc : Thread Cert.KFfiIdeal.nD Cert.KFfiIdeal.τ).loc Cert.KFfiIdeal.main_arg1) = m ((c.tc : Thread Cert.KFfiIdeal.nD Cert.KFfiIdeal.τ).loc Cert.KFfiIdeal.main_arg1))
      ∧ r.2.sem = fun _ => 0)

def quiescent_RFfiIdeal [hRFfiIdeal : Cert.RFfiIdeal.Facts] : Prop :=
  ∀ (m : (ℓ : Loc Cert.RFfiIdeal.nD Cert.RFfiIdeal.τ Cert.RFfiIdeal.sig) → Buf (Elt Ideal) ℓ) (g : Dev Cert.RFfiIdeal.nD → PrngReg), Pre_RFfiIdeal m →
    θ_run (Cert.RFfiIdeal.defs (F := Ideal)) (onTc (τ := Cert.RFfiIdeal.τ) (Cert.RFfiIdeal.main (F := Ideal))) ⟨m, fun _ => 0, g⟩ (fun r => (∀ c : Dev Cert.RFfiIdeal.nD,
      r.2.mem ((c.tc : Thread Cert.RFfiIdeal.nD Cert.RFfiIdeal.τ).loc Cert.RFfiIdeal.main_arg0) = m ((c.tc : Thread Cert.RFfiIdeal.nD Cert.RFfiIdeal.τ).loc Cert.RFfiIdeal.main_arg0)
      ∧ r.2.mem ((c.tc : Thread Cert.RFfiIdeal.nD Cert.RFfiIdeal.τ).loc Cert.RFfiIdeal.main_arg1) = m ((c.tc : Thread Cert.RFfiIdeal.nD Cert.RFfiIdeal.τ).loc Cert.RFfiIdeal.main_arg1))
      ∧ r.2.sem = fun _ => 0)

def quiescent_KRes [hKRes : Cert.KRes.Facts] : Prop :=
  ∀ (m : (ℓ : Loc Cert.KRes.nD Cert.KRes.τ Cert.KRes.sig) → Buf (Elt Bits) ℓ) (g : Dev Cert.KRes.nD → PrngReg), Pre_KRes m →
    θ_run (Cert.KRes.defs (F := Bits)) (onTc (τ := Cert.KRes.τ) (Cert.KRes.main (F := Bits))) ⟨m, fun _ => 0, g⟩ (fun r => (∀ c : Dev Cert.KRes.nD,
      r.2.mem ((c.tc : Thread Cert.KRes.nD Cert.KRes.τ).loc Cert.KRes.main_arg0) = m ((c.tc : Thread Cert.KRes.nD Cert.KRes.τ).loc Cert.KRes.main_arg0)
      ∧ r.2.mem ((c.tc : Thread Cert.KRes.nD Cert.KRes.τ).loc Cert.KRes.main_arg1) = m ((c.tc : Thread Cert.KRes.nD Cert.KRes.τ).loc Cert.KRes.main_arg1)
      ∧ r.2.mem ((c.tc : Thread Cert.KRes.nD Cert.KRes.τ).loc Cert.KRes.main_arg2) = m ((c.tc : Thread Cert.KRes.nD Cert.KRes.τ).loc Cert.KRes.main_arg2))
      ∧ r.2.sem = fun _ => 0)

def quiescent_KResIdeal [hKResIdeal : Cert.KResIdeal.Facts] : Prop :=
  ∀ (m : (ℓ : Loc Cert.KResIdeal.nD Cert.KResIdeal.τ Cert.KResIdeal.sig) → Buf (Elt Ideal) ℓ) (g : Dev Cert.KResIdeal.nD → PrngReg), Pre_KResIdeal m →
    θ_run (Cert.KResIdeal.defs (F := Ideal)) (onTc (τ := Cert.KResIdeal.τ) (Cert.KResIdeal.main (F := Ideal))) ⟨m, fun _ => 0, g⟩ (fun r => (∀ c : Dev Cert.KResIdeal.nD,
      r.2.mem ((c.tc : Thread Cert.KResIdeal.nD Cert.KResIdeal.τ).loc Cert.KResIdeal.main_arg0) = m ((c.tc : Thread Cert.KResIdeal.nD Cert.KResIdeal.τ).loc Cert.KResIdeal.main_arg0)
      ∧ r.2.mem ((c.tc : Thread Cert.KResIdeal.nD Cert.KResIdeal.τ).loc Cert.KResIdeal.main_arg1) = m ((c.tc : Thread Cert.KResIdeal.nD Cert.KResIdeal.τ).loc Cert.KResIdeal.main_arg1)
      ∧ r.2.mem ((c.tc : Thread Cert.KResIdeal.nD Cert.KResIdeal.τ).loc Cert.KResIdeal.main_arg2) = m ((c.tc : Thread Cert.KResIdeal.nD Cert.KResIdeal.τ).loc Cert.KResIdeal.main_arg2))
      ∧ r.2.sem = fun _ => 0)

def quiescent_RResIdeal [hRResIdeal : Cert.RResIdeal.Facts] : Prop :=
  ∀ (m : (ℓ : Loc Cert.RResIdeal.nD Cert.RResIdeal.τ Cert.RResIdeal.sig) → Buf (Elt Ideal) ℓ) (g : Dev Cert.RResIdeal.nD → PrngReg), Pre_RResIdeal m →
    θ_run (Cert.RResIdeal.defs (F := Ideal)) (onTc (τ := Cert.RResIdeal.τ) (Cert.RResIdeal.main (F := Ideal))) ⟨m, fun _ => 0, g⟩ (fun r => (∀ c : Dev Cert.RResIdeal.nD,
      r.2.mem ((c.tc : Thread Cert.RResIdeal.nD Cert.RResIdeal.τ).loc Cert.RResIdeal.main_arg0) = m ((c.tc : Thread Cert.RResIdeal.nD Cert.RResIdeal.τ).loc Cert.RResIdeal.main_arg0)
      ∧ r.2.mem ((c.tc : Thread Cert.RResIdeal.nD Cert.RResIdeal.τ).loc Cert.RResIdeal.main_arg1) = m ((c.tc : Thread Cert.RResIdeal.nD Cert.RResIdeal.τ).loc Cert.RResIdeal.main_arg1)
      ∧ r.2.mem ((c.tc : Thread Cert.RResIdeal.nD Cert.RResIdeal.τ).loc Cert.RResIdeal.main_arg2) = m ((c.tc : Thread Cert.RResIdeal.nD Cert.RResIdeal.τ).loc Cert.RResIdeal.main_arg2))
      ∧ r.2.sem = fun _ => 0)

def quiescent_KProj [hKProj : Cert.KProj.Facts] : Prop :=
  ∀ (m : (ℓ : Loc Cert.KProj.nD Cert.KProj.τ Cert.KProj.sig) → Buf (Elt Bits) ℓ) (g : Dev Cert.KProj.nD → PrngReg), Pre_KProj m →
    θ_run (Cert.KProj.defs (F := Bits)) (onTc (τ := Cert.KProj.τ) (Cert.KProj.main (F := Bits))) ⟨m, fun _ => 0, g⟩ (fun r => (∀ c : Dev Cert.KProj.nD,
      r.2.mem ((c.tc : Thread Cert.KProj.nD Cert.KProj.τ).loc Cert.KProj.main_arg0) = m ((c.tc : Thread Cert.KProj.nD Cert.KProj.τ).loc Cert.KProj.main_arg0)
      ∧ r.2.mem ((c.tc : Thread Cert.KProj.nD Cert.KProj.τ).loc Cert.KProj.main_arg1) = m ((c.tc : Thread Cert.KProj.nD Cert.KProj.τ).loc Cert.KProj.main_arg1))
      ∧ r.2.sem = fun _ => 0)

def quiescent_KProjIdeal [hKProjIdeal : Cert.KProjIdeal.Facts] : Prop :=
  ∀ (m : (ℓ : Loc Cert.KProjIdeal.nD Cert.KProjIdeal.τ Cert.KProjIdeal.sig) → Buf (Elt Ideal) ℓ) (g : Dev Cert.KProjIdeal.nD → PrngReg), Pre_KProjIdeal m →
    θ_run (Cert.KProjIdeal.defs (F := Ideal)) (onTc (τ := Cert.KProjIdeal.τ) (Cert.KProjIdeal.main (F := Ideal))) ⟨m, fun _ => 0, g⟩ (fun r => (∀ c : Dev Cert.KProjIdeal.nD,
      r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
      ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1))
      ∧ r.2.sem = fun _ => 0)

def quiescent_RProjIdeal [hRProjIdeal : Cert.RProjIdeal.Facts] : Prop :=
  ∀ (m : (ℓ : Loc Cert.RProjIdeal.nD Cert.RProjIdeal.τ Cert.RProjIdeal.sig) → Buf (Elt Ideal) ℓ) (g : Dev Cert.RProjIdeal.nD → PrngReg), Pre_RProjIdeal m →
    θ_run (Cert.RProjIdeal.defs (F := Ideal)) (onTc (τ := Cert.RProjIdeal.τ) (Cert.RProjIdeal.main (F := Ideal))) ⟨m, fun _ => 0, g⟩ (fun r => (∀ c : Dev Cert.RProjIdeal.nD,
      r.2.mem ((c.tc : Thread Cert.RProjIdeal.nD Cert.RProjIdeal.τ).loc Cert.RProjIdeal.main_arg0) = m ((c.tc : Thread Cert.RProjIdeal.nD Cert.RProjIdeal.τ).loc Cert.RProjIdeal.main_arg0)
      ∧ r.2.mem ((c.tc : Thread Cert.RProjIdeal.nD Cert.RProjIdeal.τ).loc Cert.RProjIdeal.main_arg1) = m ((c.tc : Thread Cert.RProjIdeal.nD Cert.RProjIdeal.τ).loc Cert.RProjIdeal.main_arg1))
      ∧ r.2.sem = fun _ => 0)

def quiescent_KGf [hKGf : Cert.KGf.Facts] : Prop :=
  ∀ (m : (ℓ : Loc Cert.KGf.nD Cert.KGf.τ Cert.KGf.sig) → Buf (Elt Bits) ℓ) (g : Dev Cert.KGf.nD → PrngReg), Pre_KGf m →
    θ_run (Cert.KGf.defs (F := Bits)) (onTc (τ := Cert.KGf.τ) (Cert.KGf.main (F := Bits))) ⟨m, fun _ => 0, g⟩ (fun r => (∀ c : Dev Cert.KGf.nD,
      r.2.mem ((c.tc : Thread Cert.KGf.nD Cert.KGf.τ).loc Cert.KGf.main_arg0) = m ((c.tc : Thread Cert.KGf.nD Cert.KGf.τ).loc Cert.KGf.main_arg0)
      ∧ r.2.mem ((c.tc : Thread Cert.KGf.nD Cert.KGf.τ).loc Cert.KGf.main_arg1) = m ((c.tc : Thread Cert.KGf.nD Cert.KGf.τ).loc Cert.KGf.main_arg1)
      ∧ r.2.mem ((c.tc : Thread Cert.KGf.nD Cert.KGf.τ).loc Cert.KGf.main_arg2) = m ((c.tc : Thread Cert.KGf.nD Cert.KGf.τ).loc Cert.KGf.main_arg2)
      ∧ r.2.mem ((c.tc : Thread Cert.KGf.nD Cert.KGf.τ).loc Cert.KGf.main_arg3) = m ((c.tc : Thread Cert.KGf.nD Cert.KGf.τ).loc Cert.KGf.main_arg3)
      ∧ r.2.mem ((c.tc : Thread Cert.KGf.nD Cert.KGf.τ).loc Cert.KGf.main_arg4) = m ((c.tc : Thread Cert.KGf.nD Cert.KGf.τ).loc Cert.KGf.main_arg4)
      ∧ r.2.mem ((c.tc : Thread Cert.KGf.nD Cert.KGf.τ).loc Cert.KGf.main_arg5) = m ((c.tc : Thread Cert.KGf.nD Cert.KGf.τ).loc Cert.KGf.main_arg5)
      ∧ r.2.mem ((c.tc : Thread Cert.KGf.nD Cert.KGf.τ).loc Cert.KGf.main_arg6) = m ((c.tc : Thread Cert.KGf.nD Cert.KGf.τ).loc Cert.KGf.main_arg6))
      ∧ r.2.sem = fun _ => 0)

def quiescent_KGfIdeal [hKGfIdeal : Cert.KGfIdeal.Facts] : Prop :=
  ∀ (m : (ℓ : Loc Cert.KGfIdeal.nD Cert.KGfIdeal.τ Cert.KGfIdeal.sig) → Buf (Elt Ideal) ℓ) (g : Dev Cert.KGfIdeal.nD → PrngReg), Pre_KGfIdeal m →
    θ_run (Cert.KGfIdeal.defs (F := Ideal)) (onTc (τ := Cert.KGfIdeal.τ) (Cert.KGfIdeal.main (F := Ideal))) ⟨m, fun _ => 0, g⟩ (fun r => (∀ c : Dev Cert.KGfIdeal.nD,
      r.2.mem ((c.tc : Thread Cert.KGfIdeal.nD Cert.KGfIdeal.τ).loc Cert.KGfIdeal.main_arg0) = m ((c.tc : Thread Cert.KGfIdeal.nD Cert.KGfIdeal.τ).loc Cert.KGfIdeal.main_arg0)
      ∧ r.2.mem ((c.tc : Thread Cert.KGfIdeal.nD Cert.KGfIdeal.τ).loc Cert.KGfIdeal.main_arg1) = m ((c.tc : Thread Cert.KGfIdeal.nD Cert.KGfIdeal.τ).loc Cert.KGfIdeal.main_arg1)
      ∧ r.2.mem ((c.tc : Thread Cert.KGfIdeal.nD Cert.KGfIdeal.τ).loc Cert.KGfIdeal.main_arg2) = m ((c.tc : Thread Cert.KGfIdeal.nD Cert.KGfIdeal.τ).loc Cert.KGfIdeal.main_arg2)
      ∧ r.2.mem ((c.tc : Thread Cert.KGfIdeal.nD Cert.KGfIdeal.τ).loc Cert.KGfIdeal.main_arg3) = m ((c.tc : Thread Cert.KGfIdeal.nD Cert.KGfIdeal.τ).loc Cert.KGfIdeal.main_arg3)
      ∧ r.2.mem ((c.tc : Thread Cert.KGfIdeal.nD Cert.KGfIdeal.τ).loc Cert.KGfIdeal.main_arg4) = m ((c.tc : Thread Cert.KGfIdeal.nD Cert.KGfIdeal.τ).loc Cert.KGfIdeal.main_arg4)
      ∧ r.2.mem ((c.tc : Thread Cert.KGfIdeal.nD Cert.KGfIdeal.τ).loc Cert.KGfIdeal.main_arg5) = m ((c.tc : Thread Cert.KGfIdeal.nD Cert.KGfIdeal.τ).loc Cert.KGfIdeal.main_arg5)
      ∧ r.2.mem ((c.tc : Thread Cert.KGfIdeal.nD Cert.KGfIdeal.τ).loc Cert.KGfIdeal.main_arg6) = m ((c.tc : Thread Cert.KGfIdeal.nD Cert.KGfIdeal.τ).loc Cert.KGfIdeal.main_arg6))
      ∧ r.2.sem = fun _ => 0)

def quiescent_RGfIdeal [hRGfIdeal : Cert.RGfIdeal.Facts] : Prop :=
  ∀ (m : (ℓ : Loc Cert.RGfIdeal.nD Cert.RGfIdeal.τ Cert.RGfIdeal.sig) → Buf (Elt Ideal) ℓ) (g : Dev Cert.RGfIdeal.nD → PrngReg), Pre_RGfIdeal m →
    θ_run (Cert.RGfIdeal.defs (F := Ideal)) (onTc (τ := Cert.RGfIdeal.τ) (Cert.RGfIdeal.main (F := Ideal))) ⟨m, fun _ => 0, g⟩ (fun r => (∀ c : Dev Cert.RGfIdeal.nD,
      r.2.mem ((c.tc : Thread Cert.RGfIdeal.nD Cert.RGfIdeal.τ).loc Cert.RGfIdeal.main_arg0) = m ((c.tc : Thread Cert.RGfIdeal.nD Cert.RGfIdeal.τ).loc Cert.RGfIdeal.main_arg0)
      ∧ r.2.mem ((c.tc : Thread Cert.RGfIdeal.nD Cert.RGfIdeal.τ).loc Cert.RGfIdeal.main_arg1) = m ((c.tc : Thread Cert.RGfIdeal.nD Cert.RGfIdeal.τ).loc Cert.RGfIdeal.main_arg1)
      ∧ r.2.mem ((c.tc : Thread Cert.RGfIdeal.nD Cert.RGfIdeal.τ).loc Cert.RGfIdeal.main_arg2) = m ((c.tc : Thread Cert.RGfIdeal.nD Cert.RGfIdeal.τ).loc Cert.RGfIdeal.main_arg2)
      ∧ r.2.mem ((c.tc : Thread Cert.RGfIdeal.nD Cert.RGfIdeal.τ).loc Cert.RGfIdeal.main_arg3) = m ((c.tc : Thread Cert.RGfIdeal.nD Cert.RGfIdeal.τ).loc Cert.RGfIdeal.main_arg3)
      ∧ r.2.mem ((c.tc : Thread Cert.RGfIdeal.nD Cert.RGfIdeal.τ).loc Cert.RGfIdeal.main_arg4) = m ((c.tc : Thread Cert.RGfIdeal.nD Cert.RGfIdeal.τ).loc Cert.RGfIdeal.main_arg4)
      ∧ r.2.mem ((c.tc : Thread Cert.RGfIdeal.nD Cert.RGfIdeal.τ).loc Cert.RGfIdeal.main_arg5) = m ((c.tc : Thread Cert.RGfIdeal.nD Cert.RGfIdeal.τ).loc Cert.RGfIdeal.main_arg5)
      ∧ r.2.mem ((c.tc : Thread Cert.RGfIdeal.nD Cert.RGfIdeal.τ).loc Cert.RGfIdeal.main_arg6) = m ((c.tc : Thread Cert.RGfIdeal.nD Cert.RGfIdeal.τ).loc Cert.RGfIdeal.main_arg6))
      ∧ r.2.sem = fun _ => 0)

def quiescent_KRms [hKRms : Cert.KRms.Facts] : Prop :=
  ∀ (m : (ℓ : Loc Cert.KRms.nD Cert.KRms.τ Cert.KRms.sig) → Buf (Elt Bits) ℓ) (g : Dev Cert.KRms.nD → PrngReg), Pre_KRms m →
    θ_run (Cert.KRms.defs (F := Bits)) (onTc (τ := Cert.KRms.τ) (Cert.KRms.main (F := Bits))) ⟨m, fun _ => 0, g⟩ (fun r => (∀ c : Dev Cert.KRms.nD,
      r.2.mem ((c.tc : Thread Cert.KRms.nD Cert.KRms.τ).loc Cert.KRms.main_arg0) = m ((c.tc : Thread Cert.KRms.nD Cert.KRms.τ).loc Cert.KRms.main_arg0)
      ∧ r.2.mem ((c.tc : Thread Cert.KRms.nD Cert.KRms.τ).loc Cert.KRms.main_arg1) = m ((c.tc : Thread Cert.KRms.nD Cert.KRms.τ).loc Cert.KRms.main_arg1))
      ∧ r.2.sem = fun _ => 0)

def quiescent_KRmsIdeal [hKRmsIdeal : Cert.KRmsIdeal.Facts] : Prop :=
  ∀ (m : (ℓ : Loc Cert.KRmsIdeal.nD Cert.KRmsIdeal.τ Cert.KRmsIdeal.sig) → Buf (Elt Ideal) ℓ) (g : Dev Cert.KRmsIdeal.nD → PrngReg), Pre_KRmsIdeal m →
    θ_run (Cert.KRmsIdeal.defs (F := Ideal)) (onTc (τ := Cert.KRmsIdeal.τ) (Cert.KRmsIdeal.main (F := Ideal))) ⟨m, fun _ => 0, g⟩ (fun r => (∀ c : Dev Cert.KRmsIdeal.nD,
      r.2.mem ((c.tc : Thread Cert.KRmsIdeal.nD Cert.KRmsIdeal.τ).loc Cert.KRmsIdeal.main_arg0) = m ((c.tc : Thread Cert.KRmsIdeal.nD Cert.KRmsIdeal.τ).loc Cert.KRmsIdeal.main_arg0)
      ∧ r.2.mem ((c.tc : Thread Cert.KRmsIdeal.nD Cert.KRmsIdeal.τ).loc Cert.KRmsIdeal.main_arg1) = m ((c.tc : Thread Cert.KRmsIdeal.nD Cert.KRmsIdeal.τ).loc Cert.KRmsIdeal.main_arg1))
      ∧ r.2.sem = fun _ => 0)

def quiescent_RRmsIdeal [hRRmsIdeal : Cert.RRmsIdeal.Facts] : Prop :=
  ∀ (m : (ℓ : Loc Cert.RRmsIdeal.nD Cert.RRmsIdeal.τ Cert.RRmsIdeal.sig) → Buf (Elt Ideal) ℓ) (g : Dev Cert.RRmsIdeal.nD → PrngReg), Pre_RRmsIdeal m →
    θ_run (Cert.RRmsIdeal.defs (F := Ideal)) (onTc (τ := Cert.RRmsIdeal.τ) (Cert.RRmsIdeal.main (F := Ideal))) ⟨m, fun _ => 0, g⟩ (fun r => (∀ c : Dev Cert.RRmsIdeal.nD,
      r.2.mem ((c.tc : Thread Cert.RRmsIdeal.nD Cert.RRmsIdeal.τ).loc Cert.RRmsIdeal.main_arg0) = m ((c.tc : Thread Cert.RRmsIdeal.nD Cert.RRmsIdeal.τ).loc Cert.RRmsIdeal.main_arg0)
      ∧ r.2.mem ((c.tc : Thread Cert.RRmsIdeal.nD Cert.RRmsIdeal.τ).loc Cert.RRmsIdeal.main_arg1) = m ((c.tc : Thread Cert.RRmsIdeal.nD Cert.RRmsIdeal.τ).loc Cert.RRmsIdeal.main_arg1))
      ∧ r.2.sem = fun _ => 0)

def quiescent_KFf [hKFf : Cert.KFf.Facts] [hPre_tables : Cert.Pre_tables.Facts] : Prop :=
  ∀ (m : (ℓ : Loc Cert.KFf.nD Cert.KFf.τ Cert.KFf.sig) → Buf (Elt Bits) ℓ) (g : Dev Cert.KFf.nD → PrngReg), Pre_KFf m →
    θ_run (Cert.KFf.defs (F := Bits)) (onTc (τ := Cert.KFf.τ) (Cert.KFf.main (F := Bits))) ⟨m, fun _ => 0, g⟩ (fun r => (∀ c : Dev Cert.KFf.nD,
      r.2.mem ((c.tc : Thread Cert.KFf.nD Cert.KFf.τ).loc Cert.KFf.main_arg0) = m ((c.tc : Thread Cert.KFf.nD Cert.KFf.τ).loc Cert.KFf.main_arg0)
      ∧ r.2.mem ((c.tc : Thread Cert.KFf.nD Cert.KFf.τ).loc Cert.KFf.main_arg1) = m ((c.tc : Thread Cert.KFf.nD Cert.KFf.τ).loc Cert.KFf.main_arg1)
      ∧ r.2.mem ((c.tc : Thread Cert.KFf.nD Cert.KFf.τ).loc Cert.KFf.main_arg2) = m ((c.tc : Thread Cert.KFf.nD Cert.KFf.τ).loc Cert.KFf.main_arg2)
      ∧ r.2.mem ((c.tc : Thread Cert.KFf.nD Cert.KFf.τ).loc Cert.KFf.main_arg3) = m ((c.tc : Thread Cert.KFf.nD Cert.KFf.τ).loc Cert.KFf.main_arg3)
      ∧ r.2.mem ((c.tc : Thread Cert.KFf.nD Cert.KFf.τ).loc Cert.KFf.main_arg4) = m ((c.tc : Thread Cert.KFf.nD Cert.KFf.τ).loc Cert.KFf.main_arg4)
      ∧ r.2.mem ((c.tc : Thread Cert.KFf.nD Cert.KFf.τ).loc Cert.KFf.main_arg5) = m ((c.tc : Thread Cert.KFf.nD Cert.KFf.τ).loc Cert.KFf.main_arg5)
      ∧ r.2.mem ((c.tc : Thread Cert.KFf.nD Cert.KFf.τ).loc Cert.KFf.main_arg6) = m ((c.tc : Thread Cert.KFf.nD Cert.KFf.τ).loc Cert.KFf.main_arg6))
      ∧ r.2.sem = fun _ => 0)

def quiescent_KFfIdeal [hKFfIdeal : Cert.KFfIdeal.Facts] [hPre_tables : Cert.Pre_tables.Facts] : Prop :=
  ∀ (m : (ℓ : Loc Cert.KFfIdeal.nD Cert.KFfIdeal.τ Cert.KFfIdeal.sig) → Buf (Elt Ideal) ℓ) (g : Dev Cert.KFfIdeal.nD → PrngReg), Pre_KFfIdeal m →
    θ_run (Cert.KFfIdeal.defs (F := Ideal)) (onTc (τ := Cert.KFfIdeal.τ) (Cert.KFfIdeal.main (F := Ideal))) ⟨m, fun _ => 0, g⟩ (fun r => (∀ c : Dev Cert.KFfIdeal.nD,
      r.2.mem ((c.tc : Thread Cert.KFfIdeal.nD Cert.KFfIdeal.τ).loc Cert.KFfIdeal.main_arg0) = m ((c.tc : Thread Cert.KFfIdeal.nD Cert.KFfIdeal.τ).loc Cert.KFfIdeal.main_arg0)
      ∧ r.2.mem ((c.tc : Thread Cert.KFfIdeal.nD Cert.KFfIdeal.τ).loc Cert.KFfIdeal.main_arg1) = m ((c.tc : Thread Cert.KFfIdeal.nD Cert.KFfIdeal.τ).loc Cert.KFfIdeal.main_arg1)
      ∧ r.2.mem ((c.tc : Thread Cert.KFfIdeal.nD Cert.KFfIdeal.τ).loc Cert.KFfIdeal.main_arg2) = m ((c.tc : Thread Cert.KFfIdeal.nD Cert.KFfIdeal.τ).loc Cert.KFfIdeal.main_arg2)
      ∧ r.2.mem ((c.tc : Thread Cert.KFfIdeal.nD Cert.KFfIdeal.τ).loc Cert.KFfIdeal.main_arg3) = m ((c.tc : Thread Cert.KFfIdeal.nD Cert.KFfIdeal.τ).loc Cert.KFfIdeal.main_arg3)
      ∧ r.2.mem ((c.tc : Thread Cert.KFfIdeal.nD Cert.KFfIdeal.τ).loc Cert.KFfIdeal.main_arg4) = m ((c.tc : Thread Cert.KFfIdeal.nD Cert.KFfIdeal.τ).loc Cert.KFfIdeal.main_arg4)
      ∧ r.2.mem ((c.tc : Thread Cert.KFfIdeal.nD Cert.KFfIdeal.τ).loc Cert.KFfIdeal.main_arg5) = m ((c.tc : Thread Cert.KFfIdeal.nD Cert.KFfIdeal.τ).loc Cert.KFfIdeal.main_arg5)
      ∧ r.2.mem ((c.tc : Thread Cert.KFfIdeal.nD Cert.KFfIdeal.τ).loc Cert.KFfIdeal.main_arg6) = m ((c.tc : Thread Cert.KFfIdeal.nD Cert.KFfIdeal.τ).loc Cert.KFfIdeal.main_arg6))
      ∧ r.2.sem = fun _ => 0)

def quiescent_KFfIdeal_pre_ff_finite [hKFfIdeal : Cert.KFfIdeal.Facts] [hPre_ff_finite : Cert.Pre_ff_finite.Facts] : Prop :=
  ∀ (m : (ℓ : Loc Cert.KFfIdeal.nD Cert.KFfIdeal.τ Cert.KFfIdeal.sig) → Buf (Elt Ideal) ℓ) (g : Dev Cert.KFfIdeal.nD → PrngReg), Pre_KFfIdeal_ff_finite m →
    θ_run (Cert.KFfIdeal.defs (F := Ideal)) (onTc (τ := Cert.KFfIdeal.τ) (Cert.KFfIdeal.main (F := Ideal))) ⟨m, fun _ => 0, g⟩ (fun r => (∀ c : Dev Cert.KFfIdeal.nD,
      r.2.mem ((c.tc : Thread Cert.KFfIdeal.nD Cert.KFfIdeal.τ).loc Cert.KFfIdeal.main_arg0) = m ((c.tc : Thread Cert.KFfIdeal.nD Cert.KFfIdeal.τ).loc Cert.KFfIdeal.main_arg0)
      ∧ r.2.mem ((c.tc : Thread Cert.KFfIdeal.nD Cert.KFfIdeal.τ).loc Cert.KFfIdeal.main_arg1) = m ((c.tc : Thread Cert.KFfIdeal.nD Cert.KFfIdeal.τ).loc Cert.KFfIdeal.main_arg1)
      ∧ r.2.mem ((c.tc : Thread Cert.KFfIdeal.nD Cert.KFfIdeal.τ).loc Cert.KFfIdeal.main_arg2) = m ((c.tc : Thread Cert.KFfIdeal.nD Cert.KFfIdeal.τ).loc Cert.KFfIdeal.main_arg2)
      ∧ r.2.mem ((c.tc : Thread Cert.KFfIdeal.nD Cert.KFfIdeal.τ).loc Cert.KFfIdeal.main_arg3) = m ((c.tc : Thread Cert.KFfIdeal.nD Cert.KFfIdeal.τ).loc Cert.KFfIdeal.main_arg3)
      ∧ r.2.mem ((c.tc : Thread Cert.KFfIdeal.nD Cert.KFfIdeal.τ).loc Cert.KFfIdeal.main_arg4) = m ((c.tc : Thread Cert.KFfIdeal.nD Cert.KFfIdeal.τ).loc Cert.KFfIdeal.main_arg4)
      ∧ r.2.mem ((c.tc : Thread Cert.KFfIdeal.nD Cert.KFfIdeal.τ).loc Cert.KFfIdeal.main_arg5) = m ((c.tc : Thread Cert.KFfIdeal.nD Cert.KFfIdeal.τ).loc Cert.KFfIdeal.main_arg5)
      ∧ r.2.mem ((c.tc : Thread Cert.KFfIdeal.nD Cert.KFfIdeal.τ).loc Cert.KFfIdeal.main_arg6) = m ((c.tc : Thread Cert.KFfIdeal.nD Cert.KFfIdeal.τ).loc Cert.KFfIdeal.main_arg6))
      ∧ r.2.sem = fun _ => 0)

def quiescent_RFfIdeal [hRFfIdeal : Cert.RFfIdeal.Facts] : Prop :=
  ∀ (m : (ℓ : Loc Cert.RFfIdeal.nD Cert.RFfIdeal.τ Cert.RFfIdeal.sig) → Buf (Elt Ideal) ℓ) (g : Dev Cert.RFfIdeal.nD → PrngReg), Pre_RFfIdeal m →
    θ_run (Cert.RFfIdeal.defs (F := Ideal)) (onTc (τ := Cert.RFfIdeal.τ) (Cert.RFfIdeal.main (F := Ideal))) ⟨m, fun _ => 0, g⟩ (fun r => (∀ c : Dev Cert.RFfIdeal.nD,
      r.2.mem ((c.tc : Thread Cert.RFfIdeal.nD Cert.RFfIdeal.τ).loc Cert.RFfIdeal.main_arg0) = m ((c.tc : Thread Cert.RFfIdeal.nD Cert.RFfIdeal.τ).loc Cert.RFfIdeal.main_arg0)
      ∧ r.2.mem ((c.tc : Thread Cert.RFfIdeal.nD Cert.RFfIdeal.τ).loc Cert.RFfIdeal.main_arg1) = m ((c.tc : Thread Cert.RFfIdeal.nD Cert.RFfIdeal.τ).loc Cert.RFfIdeal.main_arg1)
      ∧ r.2.mem ((c.tc : Thread Cert.RFfIdeal.nD Cert.RFfIdeal.τ).loc Cert.RFfIdeal.main_arg2) = m ((c.tc : Thread Cert.RFfIdeal.nD Cert.RFfIdeal.τ).loc Cert.RFfIdeal.main_arg2)
      ∧ r.2.mem ((c.tc : Thread Cert.RFfIdeal.nD Cert.RFfIdeal.τ).loc Cert.RFfIdeal.main_arg3) = m ((c.tc : Thread Cert.RFfIdeal.nD Cert.RFfIdeal.τ).loc Cert.RFfIdeal.main_arg3)
      ∧ r.2.mem ((c.tc : Thread Cert.RFfIdeal.nD Cert.RFfIdeal.τ).loc Cert.RFfIdeal.main_arg4) = m ((c.tc : Thread Cert.RFfIdeal.nD Cert.RFfIdeal.τ).loc Cert.RFfIdeal.main_arg4)
      ∧ r.2.mem ((c.tc : Thread Cert.RFfIdeal.nD Cert.RFfIdeal.τ).loc Cert.RFfIdeal.main_arg5) = m ((c.tc : Thread Cert.RFfIdeal.nD Cert.RFfIdeal.τ).loc Cert.RFfIdeal.main_arg5)
      ∧ r.2.mem ((c.tc : Thread Cert.RFfIdeal.nD Cert.RFfIdeal.τ).loc Cert.RFfIdeal.main_arg6) = m ((c.tc : Thread Cert.RFfIdeal.nD Cert.RFfIdeal.τ).loc Cert.RFfIdeal.main_arg6))
      ∧ r.2.sem = fun _ => 0)

def quiescent_RFfIdeal_pre_ff_finite [hRFfIdeal : Cert.RFfIdeal.Facts] [hPre_ff_finite : Cert.Pre_ff_finite.Facts] : Prop :=
  ∀ (m : (ℓ : Loc Cert.RFfIdeal.nD Cert.RFfIdeal.τ Cert.RFfIdeal.sig) → Buf (Elt Ideal) ℓ) (g : Dev Cert.RFfIdeal.nD → PrngReg), Pre_RFfIdeal_ff_finite m →
    θ_run (Cert.RFfIdeal.defs (F := Ideal)) (onTc (τ := Cert.RFfIdeal.τ) (Cert.RFfIdeal.main (F := Ideal))) ⟨m, fun _ => 0, g⟩ (fun r => (∀ c : Dev Cert.RFfIdeal.nD,
      r.2.mem ((c.tc : Thread Cert.RFfIdeal.nD Cert.RFfIdeal.τ).loc Cert.RFfIdeal.main_arg0) = m ((c.tc : Thread Cert.RFfIdeal.nD Cert.RFfIdeal.τ).loc Cert.RFfIdeal.main_arg0)
      ∧ r.2.mem ((c.tc : Thread Cert.RFfIdeal.nD Cert.RFfIdeal.τ).loc Cert.RFfIdeal.main_arg1) = m ((c.tc : Thread Cert.RFfIdeal.nD Cert.RFfIdeal.τ).loc Cert.RFfIdeal.main_arg1)
      ∧ r.2.mem ((c.tc : Thread Cert.RFfIdeal.nD Cert.RFfIdeal.τ).loc Cert.RFfIdeal.main_arg2) = m ((c.tc : Thread Cert.RFfIdeal.nD Cert.RFfIdeal.τ).loc Cert.RFfIdeal.main_arg2)
      ∧ r.2.mem ((c.tc : Thread Cert.RFfIdeal.nD Cert.RFfIdeal.τ).loc Cert.RFfIdeal.main_arg3) = m ((c.tc : Thread Cert.RFfIdeal.nD Cert.RFfIdeal.τ).loc Cert.RFfIdeal.main_arg3)
      ∧ r.2.mem ((c.tc : Thread Cert.RFfIdeal.nD Cert.RFfIdeal.τ).loc Cert.RFfIdeal.main_arg4) = m ((c.tc : Thread Cert.RFfIdeal.nD Cert.RFfIdeal.τ).loc Cert.RFfIdeal.main_arg4)
      ∧ r.2.mem ((c.tc : Thread Cert.RFfIdeal.nD Cert.RFfIdeal.τ).loc Cert.RFfIdeal.main_arg5) = m ((c.tc : Thread Cert.RFfIdeal.nD Cert.RFfIdeal.τ).loc Cert.RFfIdeal.main_arg5)
      ∧ r.2.mem ((c.tc : Thread Cert.RFfIdeal.nD Cert.RFfIdeal.τ).loc Cert.RFfIdeal.main_arg6) = m ((c.tc : Thread Cert.RFfIdeal.nD Cert.RFfIdeal.τ).loc Cert.RFfIdeal.main_arg6))
      ∧ r.2.sem = fun _ => 0)

def quiescent_KSf [hKSf : Cert.KSf.Facts] : Prop :=
  ∀ (m : (ℓ : Loc Cert.KSf.nD Cert.KSf.τ Cert.KSf.sig) → Buf (Elt Bits) ℓ) (g : Dev Cert.KSf.nD → PrngReg), Pre_KSf m →
    θ_run (Cert.KSf.defs (F := Bits)) (onTc (τ := Cert.KSf.τ) (Cert.KSf.main (F := Bits))) ⟨m, fun _ => 0, g⟩ (fun r => (∀ c : Dev Cert.KSf.nD,
      r.2.mem ((c.tc : Thread Cert.KSf.nD Cert.KSf.τ).loc Cert.KSf.main_arg0) = m ((c.tc : Thread Cert.KSf.nD Cert.KSf.τ).loc Cert.KSf.main_arg0)
      ∧ r.2.mem ((c.tc : Thread Cert.KSf.nD Cert.KSf.τ).loc Cert.KSf.main_arg1) = m ((c.tc : Thread Cert.KSf.nD Cert.KSf.τ).loc Cert.KSf.main_arg1)
      ∧ r.2.mem ((c.tc : Thread Cert.KSf.nD Cert.KSf.τ).loc Cert.KSf.main_arg2) = m ((c.tc : Thread Cert.KSf.nD Cert.KSf.τ).loc Cert.KSf.main_arg2)
      ∧ r.2.mem ((c.tc : Thread Cert.KSf.nD Cert.KSf.τ).loc Cert.KSf.main_arg3) = m ((c.tc : Thread Cert.KSf.nD Cert.KSf.τ).loc Cert.KSf.main_arg3)
      ∧ r.2.mem ((c.tc : Thread Cert.KSf.nD Cert.KSf.τ).loc Cert.KSf.main_arg4) = m ((c.tc : Thread Cert.KSf.nD Cert.KSf.τ).loc Cert.KSf.main_arg4))
      ∧ r.2.sem = fun _ => 0)

def quiescent_KSfIdeal [hKSfIdeal : Cert.KSfIdeal.Facts] : Prop :=
  ∀ (m : (ℓ : Loc Cert.KSfIdeal.nD Cert.KSfIdeal.τ Cert.KSfIdeal.sig) → Buf (Elt Ideal) ℓ) (g : Dev Cert.KSfIdeal.nD → PrngReg), Pre_KSfIdeal m →
    θ_run (Cert.KSfIdeal.defs (F := Ideal)) (onTc (τ := Cert.KSfIdeal.τ) (Cert.KSfIdeal.main (F := Ideal))) ⟨m, fun _ => 0, g⟩ (fun r => (∀ c : Dev Cert.KSfIdeal.nD,
      r.2.mem ((c.tc : Thread Cert.KSfIdeal.nD Cert.KSfIdeal.τ).loc Cert.KSfIdeal.main_arg0) = m ((c.tc : Thread Cert.KSfIdeal.nD Cert.KSfIdeal.τ).loc Cert.KSfIdeal.main_arg0)
      ∧ r.2.mem ((c.tc : Thread Cert.KSfIdeal.nD Cert.KSfIdeal.τ).loc Cert.KSfIdeal.main_arg1) = m ((c.tc : Thread Cert.KSfIdeal.nD Cert.KSfIdeal.τ).loc Cert.KSfIdeal.main_arg1)
      ∧ r.2.mem ((c.tc : Thread Cert.KSfIdeal.nD Cert.KSfIdeal.τ).loc Cert.KSfIdeal.main_arg2) = m ((c.tc : Thread Cert.KSfIdeal.nD Cert.KSfIdeal.τ).loc Cert.KSfIdeal.main_arg2)
      ∧ r.2.mem ((c.tc : Thread Cert.KSfIdeal.nD Cert.KSfIdeal.τ).loc Cert.KSfIdeal.main_arg3) = m ((c.tc : Thread Cert.KSfIdeal.nD Cert.KSfIdeal.τ).loc Cert.KSfIdeal.main_arg3)
      ∧ r.2.mem ((c.tc : Thread Cert.KSfIdeal.nD Cert.KSfIdeal.τ).loc Cert.KSfIdeal.main_arg4) = m ((c.tc : Thread Cert.KSfIdeal.nD Cert.KSfIdeal.τ).loc Cert.KSfIdeal.main_arg4))
      ∧ r.2.sem = fun _ => 0)

def quiescent_KSfIdeal_pre_sf_finite [hKSfIdeal : Cert.KSfIdeal.Facts] [hPre_sf_finite : Cert.Pre_sf_finite.Facts] : Prop :=
  ∀ (m : (ℓ : Loc Cert.KSfIdeal.nD Cert.KSfIdeal.τ Cert.KSfIdeal.sig) → Buf (Elt Ideal) ℓ) (g : Dev Cert.KSfIdeal.nD → PrngReg), Pre_KSfIdeal_sf_finite m →
    θ_run (Cert.KSfIdeal.defs (F := Ideal)) (onTc (τ := Cert.KSfIdeal.τ) (Cert.KSfIdeal.main (F := Ideal))) ⟨m, fun _ => 0, g⟩ (fun r => (∀ c : Dev Cert.KSfIdeal.nD,
      r.2.mem ((c.tc : Thread Cert.KSfIdeal.nD Cert.KSfIdeal.τ).loc Cert.KSfIdeal.main_arg0) = m ((c.tc : Thread Cert.KSfIdeal.nD Cert.KSfIdeal.τ).loc Cert.KSfIdeal.main_arg0)
      ∧ r.2.mem ((c.tc : Thread Cert.KSfIdeal.nD Cert.KSfIdeal.τ).loc Cert.KSfIdeal.main_arg1) = m ((c.tc : Thread Cert.KSfIdeal.nD Cert.KSfIdeal.τ).loc Cert.KSfIdeal.main_arg1)
      ∧ r.2.mem ((c.tc : Thread Cert.KSfIdeal.nD Cert.KSfIdeal.τ).loc Cert.KSfIdeal.main_arg2) = m ((c.tc : Thread Cert.KSfIdeal.nD Cert.KSfIdeal.τ).loc Cert.KSfIdeal.main_arg2)
      ∧ r.2.mem ((c.tc : Thread Cert.KSfIdeal.nD Cert.KSfIdeal.τ).loc Cert.KSfIdeal.main_arg3) = m ((c.tc : Thread Cert.KSfIdeal.nD Cert.KSfIdeal.τ).loc Cert.KSfIdeal.main_arg3)
      ∧ r.2.mem ((c.tc : Thread Cert.KSfIdeal.nD Cert.KSfIdeal.τ).loc Cert.KSfIdeal.main_arg4) = m ((c.tc : Thread Cert.KSfIdeal.nD Cert.KSfIdeal.τ).loc Cert.KSfIdeal.main_arg4))
      ∧ r.2.sem = fun _ => 0)

def quiescent_RSfIdeal [hRSfIdeal : Cert.RSfIdeal.Facts] : Prop :=
  ∀ (m : (ℓ : Loc Cert.RSfIdeal.nD Cert.RSfIdeal.τ Cert.RSfIdeal.sig) → Buf (Elt Ideal) ℓ) (g : Dev Cert.RSfIdeal.nD → PrngReg), Pre_RSfIdeal m →
    θ_run (Cert.RSfIdeal.defs (F := Ideal)) (onTc (τ := Cert.RSfIdeal.τ) (Cert.RSfIdeal.main (F := Ideal))) ⟨m, fun _ => 0, g⟩ (fun r => (∀ c : Dev Cert.RSfIdeal.nD,
      r.2.mem ((c.tc : Thread Cert.RSfIdeal.nD Cert.RSfIdeal.τ).loc Cert.RSfIdeal.main_arg0) = m ((c.tc : Thread Cert.RSfIdeal.nD Cert.RSfIdeal.τ).loc Cert.RSfIdeal.main_arg0)
      ∧ r.2.mem ((c.tc : Thread Cert.RSfIdeal.nD Cert.RSfIdeal.τ).loc Cert.RSfIdeal.main_arg1) = m ((c.tc : Thread Cert.RSfIdeal.nD Cert.RSfIdeal.τ).loc Cert.RSfIdeal.main_arg1)
      ∧ r.2.mem ((c.tc : Thread Cert.RSfIdeal.nD Cert.RSfIdeal.τ).loc Cert.RSfIdeal.main_arg2) = m ((c.tc : Thread Cert.RSfIdeal.nD Cert.RSfIdeal.τ).loc Cert.RSfIdeal.main_arg2)
      ∧ r.2.mem ((c.tc : Thread Cert.RSfIdeal.nD Cert.RSfIdeal.τ).loc Cert.RSfIdeal.main_arg3) = m ((c.tc : Thread Cert.RSfIdeal.nD Cert.RSfIdeal.τ).loc Cert.RSfIdeal.main_arg3)
      ∧ r.2.mem ((c.tc : Thread Cert.RSfIdeal.nD Cert.RSfIdeal.τ).loc Cert.RSfIdeal.main_arg4) = m ((c.tc : Thread Cert.RSfIdeal.nD Cert.RSfIdeal.τ).loc Cert.RSfIdeal.main_arg4))
      ∧ r.2.sem = fun _ => 0)

def quiescent_RSfIdeal_pre_sf_finite [hRSfIdeal : Cert.RSfIdeal.Facts] [hPre_sf_finite : Cert.Pre_sf_finite.Facts] : Prop :=
  ∀ (m : (ℓ : Loc Cert.RSfIdeal.nD Cert.RSfIdeal.τ Cert.RSfIdeal.sig) → Buf (Elt Ideal) ℓ) (g : Dev Cert.RSfIdeal.nD → PrngReg), Pre_RSfIdeal_sf_finite m →
    θ_run (Cert.RSfIdeal.defs (F := Ideal)) (onTc (τ := Cert.RSfIdeal.τ) (Cert.RSfIdeal.main (F := Ideal))) ⟨m, fun _ => 0, g⟩ (fun r => (∀ c : Dev Cert.RSfIdeal.nD,
      r.2.mem ((c.tc : Thread Cert.RSfIdeal.nD Cert.RSfIdeal.τ).loc Cert.RSfIdeal.main_arg0) = m ((c.tc : Thread Cert.RSfIdeal.nD Cert.RSfIdeal.τ).loc Cert.RSfIdeal.main_arg0)
      ∧ r.2.mem ((c.tc : Thread Cert.RSfIdeal.nD Cert.RSfIdeal.τ).loc Cert.RSfIdeal.main_arg1) = m ((c.tc : Thread Cert.RSfIdeal.nD Cert.RSfIdeal.τ).loc Cert.RSfIdeal.main_arg1)
      ∧ r.2.mem ((c.tc : Thread Cert.RSfIdeal.nD Cert.RSfIdeal.τ).loc Cert.RSfIdeal.main_arg2) = m ((c.tc : Thread Cert.RSfIdeal.nD Cert.RSfIdeal.τ).loc Cert.RSfIdeal.main_arg2)
      ∧ r.2.mem ((c.tc : Thread Cert.RSfIdeal.nD Cert.RSfIdeal.τ).loc Cert.RSfIdeal.main_arg3) = m ((c.tc : Thread Cert.RSfIdeal.nD Cert.RSfIdeal.τ).loc Cert.RSfIdeal.main_arg3)
      ∧ r.2.mem ((c.tc : Thread Cert.RSfIdeal.nD Cert.RSfIdeal.τ).loc Cert.RSfIdeal.main_arg4) = m ((c.tc : Thread Cert.RSfIdeal.nD Cert.RSfIdeal.τ).loc Cert.RSfIdeal.main_arg4))
      ∧ r.2.sem = fun _ => 0)

def quiescent_KQn [hKQn : Cert.KQn.Facts] : Prop :=
  ∀ (m : (ℓ : Loc Cert.KQn.nD Cert.KQn.τ Cert.KQn.sig) → Buf (Elt Bits) ℓ) (g : Dev Cert.KQn.nD → PrngReg), Pre_KQn m →
    θ_run (Cert.KQn.defs (F := Bits)) (onTc (τ := Cert.KQn.τ) (Cert.KQn.main (F := Bits))) ⟨m, fun _ => 0, g⟩ (fun r => (∀ c : Dev Cert.KQn.nD,
      r.2.mem ((c.tc : Thread Cert.KQn.nD Cert.KQn.τ).loc Cert.KQn.main_arg0) = m ((c.tc : Thread Cert.KQn.nD Cert.KQn.τ).loc Cert.KQn.main_arg0)
      ∧ r.2.mem ((c.tc : Thread Cert.KQn.nD Cert.KQn.τ).loc Cert.KQn.main_arg1) = m ((c.tc : Thread Cert.KQn.nD Cert.KQn.τ).loc Cert.KQn.main_arg1)
      ∧ r.2.mem ((c.tc : Thread Cert.KQn.nD Cert.KQn.τ).loc Cert.KQn.main_arg2) = m ((c.tc : Thread Cert.KQn.nD Cert.KQn.τ).loc Cert.KQn.main_arg2)
      ∧ r.2.mem ((c.tc : Thread Cert.KQn.nD Cert.KQn.τ).loc Cert.KQn.main_arg3) = m ((c.tc : Thread Cert.KQn.nD Cert.KQn.τ).loc Cert.KQn.main_arg3)
      ∧ r.2.mem ((c.tc : Thread Cert.KQn.nD Cert.KQn.τ).loc Cert.KQn.main_arg4) = m ((c.tc : Thread Cert.KQn.nD Cert.KQn.τ).loc Cert.KQn.main_arg4)
      ∧ r.2.mem ((c.tc : Thread Cert.KQn.nD Cert.KQn.τ).loc Cert.KQn.main_arg5) = m ((c.tc : Thread Cert.KQn.nD Cert.KQn.τ).loc Cert.KQn.main_arg5))
      ∧ r.2.sem = fun _ => 0)

def quiescent_KQnIdeal [hKQnIdeal : Cert.KQnIdeal.Facts] : Prop :=
  ∀ (m : (ℓ : Loc Cert.KQnIdeal.nD Cert.KQnIdeal.τ Cert.KQnIdeal.sig) → Buf (Elt Ideal) ℓ) (g : Dev Cert.KQnIdeal.nD → PrngReg), Pre_KQnIdeal m →
    θ_run (Cert.KQnIdeal.defs (F := Ideal)) (onTc (τ := Cert.KQnIdeal.τ) (Cert.KQnIdeal.main (F := Ideal))) ⟨m, fun _ => 0, g⟩ (fun r => (∀ c : Dev Cert.KQnIdeal.nD,
      r.2.mem ((c.tc : Thread Cert.KQnIdeal.nD Cert.KQnIdeal.τ).loc Cert.KQnIdeal.main_arg0) = m ((c.tc : Thread Cert.KQnIdeal.nD Cert.KQnIdeal.τ).loc Cert.KQnIdeal.main_arg0)
      ∧ r.2.mem ((c.tc : Thread Cert.KQnIdeal.nD Cert.KQnIdeal.τ).loc Cert.KQnIdeal.main_arg1) = m ((c.tc : Thread Cert.KQnIdeal.nD Cert.KQnIdeal.τ).loc Cert.KQnIdeal.main_arg1)
      ∧ r.2.mem ((c.tc : Thread Cert.KQnIdeal.nD Cert.KQnIdeal.τ).loc Cert.KQnIdeal.main_arg2) = m ((c.tc : Thread Cert.KQnIdeal.nD Cert.KQnIdeal.τ).loc Cert.KQnIdeal.main_arg2)
      ∧ r.2.mem ((c.tc : Thread Cert.KQnIdeal.nD Cert.KQnIdeal.τ).loc Cert.KQnIdeal.main_arg3) = m ((c.tc : Thread Cert.KQnIdeal.nD Cert.KQnIdeal.τ).loc Cert.KQnIdeal.main_arg3)
      ∧ r.2.mem ((c.tc : Thread Cert.KQnIdeal.nD Cert.KQnIdeal.τ).loc Cert.KQnIdeal.main_arg4) = m ((c.tc : Thread Cert.KQnIdeal.nD Cert.KQnIdeal.τ).loc Cert.KQnIdeal.main_arg4)
      ∧ r.2.mem ((c.tc : Thread Cert.KQnIdeal.nD Cert.KQnIdeal.τ).loc Cert.KQnIdeal.main_arg5) = m ((c.tc : Thread Cert.KQnIdeal.nD Cert.KQnIdeal.τ).loc Cert.KQnIdeal.main_arg5))
      ∧ r.2.sem = fun _ => 0)

def quiescent_KQnIdeal_pre_qn_finite [hKQnIdeal : Cert.KQnIdeal.Facts] [hPre_qn_finite : Cert.Pre_qn_finite.Facts] : Prop :=
  ∀ (m : (ℓ : Loc Cert.KQnIdeal.nD Cert.KQnIdeal.τ Cert.KQnIdeal.sig) → Buf (Elt Ideal) ℓ) (g : Dev Cert.KQnIdeal.nD → PrngReg), Pre_KQnIdeal_qn_finite m →
    θ_run (Cert.KQnIdeal.defs (F := Ideal)) (onTc (τ := Cert.KQnIdeal.τ) (Cert.KQnIdeal.main (F := Ideal))) ⟨m, fun _ => 0, g⟩ (fun r => (∀ c : Dev Cert.KQnIdeal.nD,
      r.2.mem ((c.tc : Thread Cert.KQnIdeal.nD Cert.KQnIdeal.τ).loc Cert.KQnIdeal.main_arg0) = m ((c.tc : Thread Cert.KQnIdeal.nD Cert.KQnIdeal.τ).loc Cert.KQnIdeal.main_arg0)
      ∧ r.2.mem ((c.tc : Thread Cert.KQnIdeal.nD Cert.KQnIdeal.τ).loc Cert.KQnIdeal.main_arg1) = m ((c.tc : Thread Cert.KQnIdeal.nD Cert.KQnIdeal.τ).loc Cert.KQnIdeal.main_arg1)
      ∧ r.2.mem ((c.tc : Thread Cert.KQnIdeal.nD Cert.KQnIdeal.τ).loc Cert.KQnIdeal.main_arg2) = m ((c.tc : Thread Cert.KQnIdeal.nD Cert.KQnIdeal.τ).loc Cert.KQnIdeal.main_arg2)
      ∧ r.2.mem ((c.tc : Thread Cert.KQnIdeal.nD Cert.KQnIdeal.τ).loc Cert.KQnIdeal.main_arg3) = m ((c.tc : Thread Cert.KQnIdeal.nD Cert.KQnIdeal.τ).loc Cert.KQnIdeal.main_arg3)
      ∧ r.2.mem ((c.tc : Thread Cert.KQnIdeal.nD Cert.KQnIdeal.τ).loc Cert.KQnIdeal.main_arg4) = m ((c.tc : Thread Cert.KQnIdeal.nD Cert.KQnIdeal.τ).loc Cert.KQnIdeal.main_arg4)
      ∧ r.2.mem ((c.tc : Thread Cert.KQnIdeal.nD Cert.KQnIdeal.τ).loc Cert.KQnIdeal.main_arg5) = m ((c.tc : Thread Cert.KQnIdeal.nD Cert.KQnIdeal.τ).loc Cert.KQnIdeal.main_arg5))
      ∧ r.2.sem = fun _ => 0)

def quiescent_RQnIdeal [hRQnIdeal : Cert.RQnIdeal.Facts] : Prop :=
  ∀ (m : (ℓ : Loc Cert.RQnIdeal.nD Cert.RQnIdeal.τ Cert.RQnIdeal.sig) → Buf (Elt Ideal) ℓ) (g : Dev Cert.RQnIdeal.nD → PrngReg), Pre_RQnIdeal m →
    θ_run (Cert.RQnIdeal.defs (F := Ideal)) (onTc (τ := Cert.RQnIdeal.τ) (Cert.RQnIdeal.main (F := Ideal))) ⟨m, fun _ => 0, g⟩ (fun r => (∀ c : Dev Cert.RQnIdeal.nD,
      r.2.mem ((c.tc : Thread Cert.RQnIdeal.nD Cert.RQnIdeal.τ).loc Cert.RQnIdeal.main_arg0) = m ((c.tc : Thread Cert.RQnIdeal.nD Cert.RQnIdeal.τ).loc Cert.RQnIdeal.main_arg0)
      ∧ r.2.mem ((c.tc : Thread Cert.RQnIdeal.nD Cert.RQnIdeal.τ).loc Cert.RQnIdeal.main_arg1) = m ((c.tc : Thread Cert.RQnIdeal.nD Cert.RQnIdeal.τ).loc Cert.RQnIdeal.main_arg1)
      ∧ r.2.mem ((c.tc : Thread Cert.RQnIdeal.nD Cert.RQnIdeal.τ).loc Cert.RQnIdeal.main_arg2) = m ((c.tc : Thread Cert.RQnIdeal.nD Cert.RQnIdeal.τ).loc Cert.RQnIdeal.main_arg2)
      ∧ r.2.mem ((c.tc : Thread Cert.RQnIdeal.nD Cert.RQnIdeal.τ).loc Cert.RQnIdeal.main_arg3) = m ((c.tc : Thread Cert.RQnIdeal.nD Cert.RQnIdeal.τ).loc Cert.RQnIdeal.main_arg3)
      ∧ r.2.mem ((c.tc : Thread Cert.RQnIdeal.nD Cert.RQnIdeal.τ).loc Cert.RQnIdeal.main_arg4) = m ((c.tc : Thread Cert.RQnIdeal.nD Cert.RQnIdeal.τ).loc Cert.RQnIdeal.main_arg4)
      ∧ r.2.mem ((c.tc : Thread Cert.RQnIdeal.nD Cert.RQnIdeal.τ).loc Cert.RQnIdeal.main_arg5) = m ((c.tc : Thread Cert.RQnIdeal.nD Cert.RQnIdeal.τ).loc Cert.RQnIdeal.main_arg5))
      ∧ r.2.sem = fun _ => 0)

def quiescent_RQnIdeal_pre_qn_finite [hRQnIdeal : Cert.RQnIdeal.Facts] [hPre_qn_finite : Cert.Pre_qn_finite.Facts] : Prop :=
  ∀ (m : (ℓ : Loc Cert.RQnIdeal.nD Cert.RQnIdeal.τ Cert.RQnIdeal.sig) → Buf (Elt Ideal) ℓ) (g : Dev Cert.RQnIdeal.nD → PrngReg), Pre_RQnIdeal_qn_finite m →
    θ_run (Cert.RQnIdeal.defs (F := Ideal)) (onTc (τ := Cert.RQnIdeal.τ) (Cert.RQnIdeal.main (F := Ideal))) ⟨m, fun _ => 0, g⟩ (fun r => (∀ c : Dev Cert.RQnIdeal.nD,
      r.2.mem ((c.tc : Thread Cert.RQnIdeal.nD Cert.RQnIdeal.τ).loc Cert.RQnIdeal.main_arg0) = m ((c.tc : Thread Cert.RQnIdeal.nD Cert.RQnIdeal.τ).loc Cert.RQnIdeal.main_arg0)
      ∧ r.2.mem ((c.tc : Thread Cert.RQnIdeal.nD Cert.RQnIdeal.τ).loc Cert.RQnIdeal.main_arg1) = m ((c.tc : Thread Cert.RQnIdeal.nD Cert.RQnIdeal.τ).loc Cert.RQnIdeal.main_arg1)
      ∧ r.2.mem ((c.tc : Thread Cert.RQnIdeal.nD Cert.RQnIdeal.τ).loc Cert.RQnIdeal.main_arg2) = m ((c.tc : Thread Cert.RQnIdeal.nD Cert.RQnIdeal.τ).loc Cert.RQnIdeal.main_arg2)
      ∧ r.2.mem ((c.tc : Thread Cert.RQnIdeal.nD Cert.RQnIdeal.τ).loc Cert.RQnIdeal.main_arg3) = m ((c.tc : Thread Cert.RQnIdeal.nD Cert.RQnIdeal.τ).loc Cert.RQnIdeal.main_arg3)
      ∧ r.2.mem ((c.tc : Thread Cert.RQnIdeal.nD Cert.RQnIdeal.τ).loc Cert.RQnIdeal.main_arg4) = m ((c.tc : Thread Cert.RQnIdeal.nD Cert.RQnIdeal.τ).loc Cert.RQnIdeal.main_arg4)
      ∧ r.2.mem ((c.tc : Thread Cert.RQnIdeal.nD Cert.RQnIdeal.τ).loc Cert.RQnIdeal.main_arg5) = m ((c.tc : Thread Cert.RQnIdeal.nD Cert.RQnIdeal.τ).loc Cert.RQnIdeal.main_arg5))
      ∧ r.2.sem = fun _ => 0)

def quiescent_KAi [hKAi : Cert.KAi.Facts] : Prop :=
  ∀ (m : (ℓ : Loc Cert.KAi.nD Cert.KAi.τ Cert.KAi.sig) → Buf (Elt Bits) ℓ) (g : Dev Cert.KAi.nD → PrngReg), Pre_KAi m →
    θ_run (Cert.KAi.defs (F := Bits)) (onTc (τ := Cert.KAi.τ) (Cert.KAi.main (F := Bits))) ⟨m, fun _ => 0, g⟩ (fun r => (∀ c : Dev Cert.KAi.nD,
      r.2.mem ((c.tc : Thread Cert.KAi.nD Cert.KAi.τ).loc Cert.KAi.main_arg0) = m ((c.tc : Thread Cert.KAi.nD Cert.KAi.τ).loc Cert.KAi.main_arg0)
      ∧ r.2.mem ((c.tc : Thread Cert.KAi.nD Cert.KAi.τ).loc Cert.KAi.main_arg1) = m ((c.tc : Thread Cert.KAi.nD Cert.KAi.τ).loc Cert.KAi.main_arg1)
      ∧ r.2.mem ((c.tc : Thread Cert.KAi.nD Cert.KAi.τ).loc Cert.KAi.main_arg2) = m ((c.tc : Thread Cert.KAi.nD Cert.KAi.τ).loc Cert.KAi.main_arg2)
      ∧ r.2.mem ((c.tc : Thread Cert.KAi.nD Cert.KAi.τ).loc Cert.KAi.main_arg3) = m ((c.tc : Thread Cert.KAi.nD Cert.KAi.τ).loc Cert.KAi.main_arg3))
      ∧ r.2.sem = fun _ => 0)

def quiescent_KAiIdeal [hKAiIdeal : Cert.KAiIdeal.Facts] : Prop :=
  ∀ (m : (ℓ : Loc Cert.KAiIdeal.nD Cert.KAiIdeal.τ Cert.KAiIdeal.sig) → Buf (Elt Ideal) ℓ) (g : Dev Cert.KAiIdeal.nD → PrngReg), Pre_KAiIdeal m →
    θ_run (Cert.KAiIdeal.defs (F := Ideal)) (onTc (τ := Cert.KAiIdeal.τ) (Cert.KAiIdeal.main (F := Ideal))) ⟨m, fun _ => 0, g⟩ (fun r => (∀ c : Dev Cert.KAiIdeal.nD,
      r.2.mem ((c.tc : Thread Cert.KAiIdeal.nD Cert.KAiIdeal.τ).loc Cert.KAiIdeal.main_arg0) = m ((c.tc : Thread Cert.KAiIdeal.nD Cert.KAiIdeal.τ).loc Cert.KAiIdeal.main_arg0)
      ∧ r.2.mem ((c.tc : Thread Cert.KAiIdeal.nD Cert.KAiIdeal.τ).loc Cert.KAiIdeal.main_arg1) = m ((c.tc : Thread Cert.KAiIdeal.nD Cert.KAiIdeal.τ).loc Cert.KAiIdeal.main_arg1)
      ∧ r.2.mem ((c.tc : Thread Cert.KAiIdeal.nD Cert.KAiIdeal.τ).loc Cert.KAiIdeal.main_arg2) = m ((c.tc : Thread Cert.KAiIdeal.nD Cert.KAiIdeal.τ).loc Cert.KAiIdeal.main_arg2)
      ∧ r.2.mem ((c.tc : Thread Cert.KAiIdeal.nD Cert.KAiIdeal.τ).loc Cert.KAiIdeal.main_arg3) = m ((c.tc : Thread Cert.KAiIdeal.nD Cert.KAiIdeal.τ).loc Cert.KAiIdeal.main_arg3))
      ∧ r.2.sem = fun _ => 0)

def quiescent_RAiIdeal [hRAiIdeal : Cert.RAiIdeal.Facts] : Prop :=
  ∀ (m : (ℓ : Loc Cert.RAiIdeal.nD Cert.RAiIdeal.τ Cert.RAiIdeal.sig) → Buf (Elt Ideal) ℓ) (g : Dev Cert.RAiIdeal.nD → PrngReg), Pre_RAiIdeal m →
    θ_run (Cert.RAiIdeal.defs (F := Ideal)) (onTc (τ := Cert.RAiIdeal.τ) (Cert.RAiIdeal.main (F := Ideal))) ⟨m, fun _ => 0, g⟩ (fun r => (∀ c : Dev Cert.RAiIdeal.nD,
      r.2.mem ((c.tc : Thread Cert.RAiIdeal.nD Cert.RAiIdeal.τ).loc Cert.RAiIdeal.main_arg0) = m ((c.tc : Thread Cert.RAiIdeal.nD Cert.RAiIdeal.τ).loc Cert.RAiIdeal.main_arg0)
      ∧ r.2.mem ((c.tc : Thread Cert.RAiIdeal.nD Cert.RAiIdeal.τ).loc Cert.RAiIdeal.main_arg1) = m ((c.tc : Thread Cert.RAiIdeal.nD Cert.RAiIdeal.τ).loc Cert.RAiIdeal.main_arg1)
      ∧ r.2.mem ((c.tc : Thread Cert.RAiIdeal.nD Cert.RAiIdeal.τ).loc Cert.RAiIdeal.main_arg2) = m ((c.tc : Thread Cert.RAiIdeal.nD Cert.RAiIdeal.τ).loc Cert.RAiIdeal.main_arg2)
      ∧ r.2.mem ((c.tc : Thread Cert.RAiIdeal.nD Cert.RAiIdeal.τ).loc Cert.RAiIdeal.main_arg3) = m ((c.tc : Thread Cert.RAiIdeal.nD Cert.RAiIdeal.τ).loc Cert.RAiIdeal.main_arg3))
      ∧ r.2.sem = fun _ => 0)

def quiescent_KAo [hKAo : Cert.KAo.Facts] : Prop :=
  ∀ (m : (ℓ : Loc Cert.KAo.nD Cert.KAo.τ Cert.KAo.sig) → Buf (Elt Bits) ℓ) (g : Dev Cert.KAo.nD → PrngReg), Pre_KAo m →
    θ_run (Cert.KAo.defs (F := Bits)) (onTc (τ := Cert.KAo.τ) (Cert.KAo.main (F := Bits))) ⟨m, fun _ => 0, g⟩ (fun r => (∀ c : Dev Cert.KAo.nD,
      r.2.mem ((c.tc : Thread Cert.KAo.nD Cert.KAo.τ).loc Cert.KAo.main_arg0) = m ((c.tc : Thread Cert.KAo.nD Cert.KAo.τ).loc Cert.KAo.main_arg0)
      ∧ r.2.mem ((c.tc : Thread Cert.KAo.nD Cert.KAo.τ).loc Cert.KAo.main_arg1) = m ((c.tc : Thread Cert.KAo.nD Cert.KAo.τ).loc Cert.KAo.main_arg1)
      ∧ r.2.mem ((c.tc : Thread Cert.KAo.nD Cert.KAo.τ).loc Cert.KAo.main_arg2) = m ((c.tc : Thread Cert.KAo.nD Cert.KAo.τ).loc Cert.KAo.main_arg2)
      ∧ r.2.mem ((c.tc : Thread Cert.KAo.nD Cert.KAo.τ).loc Cert.KAo.main_arg3) = m ((c.tc : Thread Cert.KAo.nD Cert.KAo.τ).loc Cert.KAo.main_arg3))
      ∧ r.2.sem = fun _ => 0)

def quiescent_KAoIdeal [hKAoIdeal : Cert.KAoIdeal.Facts] : Prop :=
  ∀ (m : (ℓ : Loc Cert.KAoIdeal.nD Cert.KAoIdeal.τ Cert.KAoIdeal.sig) → Buf (Elt Ideal) ℓ) (g : Dev Cert.KAoIdeal.nD → PrngReg), Pre_KAoIdeal m →
    θ_run (Cert.KAoIdeal.defs (F := Ideal)) (onTc (τ := Cert.KAoIdeal.τ) (Cert.KAoIdeal.main (F := Ideal))) ⟨m, fun _ => 0, g⟩ (fun r => (∀ c : Dev Cert.KAoIdeal.nD,
      r.2.mem ((c.tc : Thread Cert.KAoIdeal.nD Cert.KAoIdeal.τ).loc Cert.KAoIdeal.main_arg0) = m ((c.tc : Thread Cert.KAoIdeal.nD Cert.KAoIdeal.τ).loc Cert.KAoIdeal.main_arg0)
      ∧ r.2.mem ((c.tc : Thread Cert.KAoIdeal.nD Cert.KAoIdeal.τ).loc Cert.KAoIdeal.main_arg1) = m ((c.tc : Thread Cert.KAoIdeal.nD Cert.KAoIdeal.τ).loc Cert.KAoIdeal.main_arg1)
      ∧ r.2.mem ((c.tc : Thread Cert.KAoIdeal.nD Cert.KAoIdeal.τ).loc Cert.KAoIdeal.main_arg2) = m ((c.tc : Thread Cert.KAoIdeal.nD Cert.KAoIdeal.τ).loc Cert.KAoIdeal.main_arg2)
      ∧ r.2.mem ((c.tc : Thread Cert.KAoIdeal.nD Cert.KAoIdeal.τ).loc Cert.KAoIdeal.main_arg3) = m ((c.tc : Thread Cert.KAoIdeal.nD Cert.KAoIdeal.τ).loc Cert.KAoIdeal.main_arg3))
      ∧ r.2.sem = fun _ => 0)

def quiescent_RAoIdeal [hRAoIdeal : Cert.RAoIdeal.Facts] : Prop :=
  ∀ (m : (ℓ : Loc Cert.RAoIdeal.nD Cert.RAoIdeal.τ Cert.RAoIdeal.sig) → Buf (Elt Ideal) ℓ) (g : Dev Cert.RAoIdeal.nD → PrngReg), Pre_RAoIdeal m →
    θ_run (Cert.RAoIdeal.defs (F := Ideal)) (onTc (τ := Cert.RAoIdeal.τ) (Cert.RAoIdeal.main (F := Ideal))) ⟨m, fun _ => 0, g⟩ (fun r => (∀ c : Dev Cert.RAoIdeal.nD,
      r.2.mem ((c.tc : Thread Cert.RAoIdeal.nD Cert.RAoIdeal.τ).loc Cert.RAoIdeal.main_arg0) = m ((c.tc : Thread Cert.RAoIdeal.nD Cert.RAoIdeal.τ).loc Cert.RAoIdeal.main_arg0)
      ∧ r.2.mem ((c.tc : Thread Cert.RAoIdeal.nD Cert.RAoIdeal.τ).loc Cert.RAoIdeal.main_arg1) = m ((c.tc : Thread Cert.RAoIdeal.nD Cert.RAoIdeal.τ).loc Cert.RAoIdeal.main_arg1)
      ∧ r.2.mem ((c.tc : Thread Cert.RAoIdeal.nD Cert.RAoIdeal.τ).loc Cert.RAoIdeal.main_arg2) = m ((c.tc : Thread Cert.RAoIdeal.nD Cert.RAoIdeal.τ).loc Cert.RAoIdeal.main_arg2)
      ∧ r.2.mem ((c.tc : Thread Cert.RAoIdeal.nD Cert.RAoIdeal.τ).loc Cert.RAoIdeal.main_arg3) = m ((c.tc : Thread Cert.RAoIdeal.nD Cert.RAoIdeal.τ).loc Cert.RAoIdeal.main_arg3))
      ∧ r.2.sem = fun _ => 0)

def quiescent_KAm [hKAm : Cert.KAm.Facts] : Prop :=
  ∀ (m : (ℓ : Loc Cert.KAm.nD Cert.KAm.τ Cert.KAm.sig) → Buf (Elt Bits) ℓ) (g : Dev Cert.KAm.nD → PrngReg), Pre_KAm m →
    θ_run (Cert.KAm.defs (F := Bits)) (onTc (τ := Cert.KAm.τ) (Cert.KAm.main (F := Bits))) ⟨m, fun _ => 0, g⟩ (fun r => (∀ c : Dev Cert.KAm.nD,
      r.2.mem ((c.tc : Thread Cert.KAm.nD Cert.KAm.τ).loc Cert.KAm.main_arg0) = m ((c.tc : Thread Cert.KAm.nD Cert.KAm.τ).loc Cert.KAm.main_arg0)
      ∧ r.2.mem ((c.tc : Thread Cert.KAm.nD Cert.KAm.τ).loc Cert.KAm.main_arg1) = m ((c.tc : Thread Cert.KAm.nD Cert.KAm.τ).loc Cert.KAm.main_arg1)
      ∧ r.2.mem ((c.tc : Thread Cert.KAm.nD Cert.KAm.τ).loc Cert.KAm.main_arg2) = m ((c.tc : Thread Cert.KAm.nD Cert.KAm.τ).loc Cert.KAm.main_arg2)
      ∧ r.2.mem ((c.tc : Thread Cert.KAm.nD Cert.KAm.τ).loc Cert.KAm.main_arg3) = m ((c.tc : Thread Cert.KAm.nD Cert.KAm.τ).loc Cert.KAm.main_arg3))
      ∧ r.2.sem = fun _ => 0)

def quiescent_KAmIdeal [hKAmIdeal : Cert.KAmIdeal.Facts] : Prop :=
  ∀ (m : (ℓ : Loc Cert.KAmIdeal.nD Cert.KAmIdeal.τ Cert.KAmIdeal.sig) → Buf (Elt Ideal) ℓ) (g : Dev Cert.KAmIdeal.nD → PrngReg), Pre_KAmIdeal m →
    θ_run (Cert.KAmIdeal.defs (F := Ideal)) (onTc (τ := Cert.KAmIdeal.τ) (Cert.KAmIdeal.main (F := Ideal))) ⟨m, fun _ => 0, g⟩ (fun r => (∀ c : Dev Cert.KAmIdeal.nD,
      r.2.mem ((c.tc : Thread Cert.KAmIdeal.nD Cert.KAmIdeal.τ).loc Cert.KAmIdeal.main_arg0) = m ((c.tc : Thread Cert.KAmIdeal.nD Cert.KAmIdeal.τ).loc Cert.KAmIdeal.main_arg0)
      ∧ r.2.mem ((c.tc : Thread Cert.KAmIdeal.nD Cert.KAmIdeal.τ).loc Cert.KAmIdeal.main_arg1) = m ((c.tc : Thread Cert.KAmIdeal.nD Cert.KAmIdeal.τ).loc Cert.KAmIdeal.main_arg1)
      ∧ r.2.mem ((c.tc : Thread Cert.KAmIdeal.nD Cert.KAmIdeal.τ).loc Cert.KAmIdeal.main_arg2) = m ((c.tc : Thread Cert.KAmIdeal.nD Cert.KAmIdeal.τ).loc Cert.KAmIdeal.main_arg2)
      ∧ r.2.mem ((c.tc : Thread Cert.KAmIdeal.nD Cert.KAmIdeal.τ).loc Cert.KAmIdeal.main_arg3) = m ((c.tc : Thread Cert.KAmIdeal.nD Cert.KAmIdeal.τ).loc Cert.KAmIdeal.main_arg3))
      ∧ r.2.sem = fun _ => 0)

def quiescent_RAmIdeal [hRAmIdeal : Cert.RAmIdeal.Facts] : Prop :=
  ∀ (m : (ℓ : Loc Cert.RAmIdeal.nD Cert.RAmIdeal.τ Cert.RAmIdeal.sig) → Buf (Elt Ideal) ℓ) (g : Dev Cert.RAmIdeal.nD → PrngReg), Pre_RAmIdeal m →
    θ_run (Cert.RAmIdeal.defs (F := Ideal)) (onTc (τ := Cert.RAmIdeal.τ) (Cert.RAmIdeal.main (F := Ideal))) ⟨m, fun _ => 0, g⟩ (fun r => (∀ c : Dev Cert.RAmIdeal.nD,
      r.2.mem ((c.tc : Thread Cert.RAmIdeal.nD Cert.RAmIdeal.τ).loc Cert.RAmIdeal.main_arg0) = m ((c.tc : Thread Cert.RAmIdeal.nD Cert.RAmIdeal.τ).loc Cert.RAmIdeal.main_arg0)
      ∧ r.2.mem ((c.tc : Thread Cert.RAmIdeal.nD Cert.RAmIdeal.τ).loc Cert.RAmIdeal.main_arg1) = m ((c.tc : Thread Cert.RAmIdeal.nD Cert.RAmIdeal.τ).loc Cert.RAmIdeal.main_arg1)
      ∧ r.2.mem ((c.tc : Thread Cert.RAmIdeal.nD Cert.RAmIdeal.τ).loc Cert.RAmIdeal.main_arg2) = m ((c.tc : Thread Cert.RAmIdeal.nD Cert.RAmIdeal.τ).loc Cert.RAmIdeal.main_arg2)
      ∧ r.2.mem ((c.tc : Thread Cert.RAmIdeal.nD Cert.RAmIdeal.τ).loc Cert.RAmIdeal.main_arg3) = m ((c.tc : Thread Cert.RAmIdeal.nD Cert.RAmIdeal.τ).loc Cert.RAmIdeal.main_arg3))
      ∧ r.2.sem = fun _ => 0)

def quiescent_KAb [hKAb : Cert.KAb.Facts] : Prop :=
  ∀ (m : (ℓ : Loc Cert.KAb.nD Cert.KAb.τ Cert.KAb.sig) → Buf (Elt Bits) ℓ) (g : Dev Cert.KAb.nD → PrngReg), Pre_KAb m →
    θ_run (Cert.KAb.defs (F := Bits)) (onTc (τ := Cert.KAb.τ) (Cert.KAb.main (F := Bits))) ⟨m, fun _ => 0, g⟩ (fun r => (∀ c : Dev Cert.KAb.nD,
      r.2.mem ((c.tc : Thread Cert.KAb.nD Cert.KAb.τ).loc Cert.KAb.main_arg0) = m ((c.tc : Thread Cert.KAb.nD Cert.KAb.τ).loc Cert.KAb.main_arg0)
      ∧ r.2.mem ((c.tc : Thread Cert.KAb.nD Cert.KAb.τ).loc Cert.KAb.main_arg1) = m ((c.tc : Thread Cert.KAb.nD Cert.KAb.τ).loc Cert.KAb.main_arg1)
      ∧ r.2.mem ((c.tc : Thread Cert.KAb.nD Cert.KAb.τ).loc Cert.KAb.main_arg2) = m ((c.tc : Thread Cert.KAb.nD Cert.KAb.τ).loc Cert.KAb.main_arg2)
      ∧ r.2.mem ((c.tc : Thread Cert.KAb.nD Cert.KAb.τ).loc Cert.KAb.main_arg3) = m ((c.tc : Thread Cert.KAb.nD Cert.KAb.τ).loc Cert.KAb.main_arg3))
      ∧ r.2.sem = fun _ => 0)

def quiescent_KAbIdeal [hKAbIdeal : Cert.KAbIdeal.Facts] : Prop :=
  ∀ (m : (ℓ : Loc Cert.KAbIdeal.nD Cert.KAbIdeal.τ Cert.KAbIdeal.sig) → Buf (Elt Ideal) ℓ) (g : Dev Cert.KAbIdeal.nD → PrngReg), Pre_KAbIdeal m →
    θ_run (Cert.KAbIdeal.defs (F := Ideal)) (onTc (τ := Cert.KAbIdeal.τ) (Cert.KAbIdeal.main (F := Ideal))) ⟨m, fun _ => 0, g⟩ (fun r => (∀ c : Dev Cert.KAbIdeal.nD,
      r.2.mem ((c.tc : Thread Cert.KAbIdeal.nD Cert.KAbIdeal.τ).loc Cert.KAbIdeal.main_arg0) = m ((c.tc : Thread Cert.KAbIdeal.nD Cert.KAbIdeal.τ).loc Cert.KAbIdeal.main_arg0)
      ∧ r.2.mem ((c.tc : Thread Cert.KAbIdeal.nD Cert.KAbIdeal.τ).loc Cert.KAbIdeal.main_arg1) = m ((c.tc : Thread Cert.KAbIdeal.nD Cert.KAbIdeal.τ).loc Cert.KAbIdeal.main_arg1)
      ∧ r.2.mem ((c.tc : Thread Cert.KAbIdeal.nD Cert.KAbIdeal.τ).loc Cert.KAbIdeal.main_arg2) = m ((c.tc : Thread Cert.KAbIdeal.nD Cert.KAbIdeal.τ).loc Cert.KAbIdeal.main_arg2)
      ∧ r.2.mem ((c.tc : Thread Cert.KAbIdeal.nD Cert.KAbIdeal.τ).loc Cert.KAbIdeal.main_arg3) = m ((c.tc : Thread Cert.KAbIdeal.nD Cert.KAbIdeal.τ).loc Cert.KAbIdeal.main_arg3))
      ∧ r.2.sem = fun _ => 0)

def quiescent_RAbIdeal [hRAbIdeal : Cert.RAbIdeal.Facts] : Prop :=
  ∀ (m : (ℓ : Loc Cert.RAbIdeal.nD Cert.RAbIdeal.τ Cert.RAbIdeal.sig) → Buf (Elt Ideal) ℓ) (g : Dev Cert.RAbIdeal.nD → PrngReg), Pre_RAbIdeal m →
    θ_run (Cert.RAbIdeal.defs (F := Ideal)) (onTc (τ := Cert.RAbIdeal.τ) (Cert.RAbIdeal.main (F := Ideal))) ⟨m, fun _ => 0, g⟩ (fun r => (∀ c : Dev Cert.RAbIdeal.nD,
      r.2.mem ((c.tc : Thread Cert.RAbIdeal.nD Cert.RAbIdeal.τ).loc Cert.RAbIdeal.main_arg0) = m ((c.tc : Thread Cert.RAbIdeal.nD Cert.RAbIdeal.τ).loc Cert.RAbIdeal.main_arg0)
      ∧ r.2.mem ((c.tc : Thread Cert.RAbIdeal.nD Cert.RAbIdeal.τ).loc Cert.RAbIdeal.main_arg1) = m ((c.tc : Thread Cert.RAbIdeal.nD Cert.RAbIdeal.τ).loc Cert.RAbIdeal.main_arg1)
      ∧ r.2.mem ((c.tc : Thread Cert.RAbIdeal.nD Cert.RAbIdeal.τ).loc Cert.RAbIdeal.main_arg2) = m ((c.tc : Thread Cert.RAbIdeal.nD Cert.RAbIdeal.τ).loc Cert.RAbIdeal.main_arg2)
      ∧ r.2.mem ((c.tc : Thread Cert.RAbIdeal.nD Cert.RAbIdeal.τ).loc Cert.RAbIdeal.main_arg3) = m ((c.tc : Thread Cert.RAbIdeal.nD Cert.RAbIdeal.τ).loc Cert.RAbIdeal.main_arg3))
      ∧ r.2.sem = fun _ => 0)

def quiescent_KAg [hKAg : Cert.KAg.Facts] : Prop :=
  ∀ (m : (ℓ : Loc Cert.KAg.nD Cert.KAg.τ Cert.KAg.sig) → Buf (Elt Bits) ℓ) (g : Dev Cert.KAg.nD → PrngReg), Pre_KAg m →
    θ_run (Cert.KAg.defs (F := Bits)) (onTc (τ := Cert.KAg.τ) (Cert.KAg.main (F := Bits))) ⟨m, fun _ => 0, g⟩ (fun r => (∀ c : Dev Cert.KAg.nD,
      r.2.mem ((c.tc : Thread Cert.KAg.nD Cert.KAg.τ).loc Cert.KAg.main_arg0) = m ((c.tc : Thread Cert.KAg.nD Cert.KAg.τ).loc Cert.KAg.main_arg0)
      ∧ r.2.mem ((c.tc : Thread Cert.KAg.nD Cert.KAg.τ).loc Cert.KAg.main_arg1) = m ((c.tc : Thread Cert.KAg.nD Cert.KAg.τ).loc Cert.KAg.main_arg1)
      ∧ r.2.mem ((c.tc : Thread Cert.KAg.nD Cert.KAg.τ).loc Cert.KAg.main_arg2) = m ((c.tc : Thread Cert.KAg.nD Cert.KAg.τ).loc Cert.KAg.main_arg2)
      ∧ r.2.mem ((c.tc : Thread Cert.KAg.nD Cert.KAg.τ).loc Cert.KAg.main_arg3) = m ((c.tc : Thread Cert.KAg.nD Cert.KAg.τ).loc Cert.KAg.main_arg3))
      ∧ r.2.sem = fun _ => 0)

def quiescent_KAgIdeal [hKAgIdeal : Cert.KAgIdeal.Facts] : Prop :=
  ∀ (m : (ℓ : Loc Cert.KAgIdeal.nD Cert.KAgIdeal.τ Cert.KAgIdeal.sig) → Buf (Elt Ideal) ℓ) (g : Dev Cert.KAgIdeal.nD → PrngReg), Pre_KAgIdeal m →
    θ_run (Cert.KAgIdeal.defs (F := Ideal)) (onTc (τ := Cert.KAgIdeal.τ) (Cert.KAgIdeal.main (F := Ideal))) ⟨m, fun _ => 0, g⟩ (fun r => (∀ c : Dev Cert.KAgIdeal.nD,
      r.2.mem ((c.tc : Thread Cert.KAgIdeal.nD Cert.KAgIdeal.τ).loc Cert.KAgIdeal.main_arg0) = m ((c.tc : Thread Cert.KAgIdeal.nD Cert.KAgIdeal.τ).loc Cert.KAgIdeal.main_arg0)
      ∧ r.2.mem ((c.tc : Thread Cert.KAgIdeal.nD Cert.KAgIdeal.τ).loc Cert.KAgIdeal.main_arg1) = m ((c.tc : Thread Cert.KAgIdeal.nD Cert.KAgIdeal.τ).loc Cert.KAgIdeal.main_arg1)
      ∧ r.2.mem ((c.tc : Thread Cert.KAgIdeal.nD Cert.KAgIdeal.τ).loc Cert.KAgIdeal.main_arg2) = m ((c.tc : Thread Cert.KAgIdeal.nD Cert.KAgIdeal.τ).loc Cert.KAgIdeal.main_arg2)
      ∧ r.2.mem ((c.tc : Thread Cert.KAgIdeal.nD Cert.KAgIdeal.τ).loc Cert.KAgIdeal.main_arg3) = m ((c.tc : Thread Cert.KAgIdeal.nD Cert.KAgIdeal.τ).loc Cert.KAgIdeal.main_arg3))
      ∧ r.2.sem = fun _ => 0)

def quiescent_RAgIdeal [hRAgIdeal : Cert.RAgIdeal.Facts] : Prop :=
  ∀ (m : (ℓ : Loc Cert.RAgIdeal.nD Cert.RAgIdeal.τ Cert.RAgIdeal.sig) → Buf (Elt Ideal) ℓ) (g : Dev Cert.RAgIdeal.nD → PrngReg), Pre_RAgIdeal m →
    θ_run (Cert.RAgIdeal.defs (F := Ideal)) (onTc (τ := Cert.RAgIdeal.τ) (Cert.RAgIdeal.main (F := Ideal))) ⟨m, fun _ => 0, g⟩ (fun r => (∀ c : Dev Cert.RAgIdeal.nD,
      r.2.mem ((c.tc : Thread Cert.RAgIdeal.nD Cert.RAgIdeal.τ).loc Cert.RAgIdeal.main_arg0) = m ((c.tc : Thread Cert.RAgIdeal.nD Cert.RAgIdeal.τ).loc Cert.RAgIdeal.main_arg0)
      ∧ r.2.mem ((c.tc : Thread Cert.RAgIdeal.nD Cert.RAgIdeal.τ).loc Cert.RAgIdeal.main_arg1) = m ((c.tc : Thread Cert.RAgIdeal.nD Cert.RAgIdeal.τ).loc Cert.RAgIdeal.main_arg1)
      ∧ r.2.mem ((c.tc : Thread Cert.RAgIdeal.nD Cert.RAgIdeal.τ).loc Cert.RAgIdeal.main_arg2) = m ((c.tc : Thread Cert.RAgIdeal.nD Cert.RAgIdeal.τ).loc Cert.RAgIdeal.main_arg2)
      ∧ r.2.mem ((c.tc : Thread Cert.RAgIdeal.nD Cert.RAgIdeal.τ).loc Cert.RAgIdeal.main_arg3) = m ((c.tc : Thread Cert.RAgIdeal.nD Cert.RAgIdeal.τ).loc Cert.RAgIdeal.main_arg3))
      ∧ r.2.sem = fun _ => 0)

def quiescent_KAs [hKAs : Cert.KAs.Facts] : Prop :=
  ∀ (m : (ℓ : Loc Cert.KAs.nD Cert.KAs.τ Cert.KAs.sig) → Buf (Elt Bits) ℓ) (g : Dev Cert.KAs.nD → PrngReg), Pre_KAs m →
    θ_run (Cert.KAs.defs (F := Bits)) (onTc (τ := Cert.KAs.τ) (Cert.KAs.main (F := Bits))) ⟨m, fun _ => 0, g⟩ (fun r => (∀ c : Dev Cert.KAs.nD,
      r.2.mem ((c.tc : Thread Cert.KAs.nD Cert.KAs.τ).loc Cert.KAs.main_arg0) = m ((c.tc : Thread Cert.KAs.nD Cert.KAs.τ).loc Cert.KAs.main_arg0)
      ∧ r.2.mem ((c.tc : Thread Cert.KAs.nD Cert.KAs.τ).loc Cert.KAs.main_arg1) = m ((c.tc : Thread Cert.KAs.nD Cert.KAs.τ).loc Cert.KAs.main_arg1)
      ∧ r.2.mem ((c.tc : Thread Cert.KAs.nD Cert.KAs.τ).loc Cert.KAs.main_arg2) = m ((c.tc : Thread Cert.KAs.nD Cert.KAs.τ).loc Cert.KAs.main_arg2)
      ∧ r.2.mem ((c.tc : Thread Cert.KAs.nD Cert.KAs.τ).loc Cert.KAs.main_arg3) = m ((c.tc : Thread Cert.KAs.nD Cert.KAs.τ).loc Cert.KAs.main_arg3))
      ∧ r.2.sem = fun _ => 0)

def quiescent_KAsIdeal [hKAsIdeal : Cert.KAsIdeal.Facts] : Prop :=
  ∀ (m : (ℓ : Loc Cert.KAsIdeal.nD Cert.KAsIdeal.τ Cert.KAsIdeal.sig) → Buf (Elt Ideal) ℓ) (g : Dev Cert.KAsIdeal.nD → PrngReg), Pre_KAsIdeal m →
    θ_run (Cert.KAsIdeal.defs (F := Ideal)) (onTc (τ := Cert.KAsIdeal.τ) (Cert.KAsIdeal.main (F := Ideal))) ⟨m, fun _ => 0, g⟩ (fun r => (∀ c : Dev Cert.KAsIdeal.nD,
      r.2.mem ((c.tc : Thread Cert.KAsIdeal.nD Cert.KAsIdeal.τ).loc Cert.KAsIdeal.main_arg0) = m ((c.tc : Thread Cert.KAsIdeal.nD Cert.KAsIdeal.τ).loc Cert.KAsIdeal.main_arg0)
      ∧ r.2.mem ((c.tc : Thread Cert.KAsIdeal.nD Cert.KAsIdeal.τ).loc Cert.KAsIdeal.main_arg1) = m ((c.tc : Thread Cert.KAsIdeal.nD Cert.KAsIdeal.τ).loc Cert.KAsIdeal.main_arg1)
      ∧ r.2.mem ((c.tc : Thread Cert.KAsIdeal.nD Cert.KAsIdeal.τ).loc Cert.KAsIdeal.main_arg2) = m ((c.tc : Thread Cert.KAsIdeal.nD Cert.KAsIdeal.τ).loc Cert.KAsIdeal.main_arg2)
      ∧ r.2.mem ((c.tc : Thread Cert.KAsIdeal.nD Cert.KAsIdeal.τ).loc Cert.KAsIdeal.main_arg3) = m ((c.tc : Thread Cert.KAsIdeal.nD Cert.KAsIdeal.τ).loc Cert.KAsIdeal.main_arg3))
      ∧ r.2.sem = fun _ => 0)

def quiescent_RAsIdeal [hRAsIdeal : Cert.RAsIdeal.Facts] : Prop :=
  ∀ (m : (ℓ : Loc Cert.RAsIdeal.nD Cert.RAsIdeal.τ Cert.RAsIdeal.sig) → Buf (Elt Ideal) ℓ) (g : Dev Cert.RAsIdeal.nD → PrngReg), Pre_RAsIdeal m →
    θ_run (Cert.RAsIdeal.defs (F := Ideal)) (onTc (τ := Cert.RAsIdeal.τ) (Cert.RAsIdeal.main (F := Ideal))) ⟨m, fun _ => 0, g⟩ (fun r => (∀ c : Dev Cert.RAsIdeal.nD,
      r.2.mem ((c.tc : Thread Cert.RAsIdeal.nD Cert.RAsIdeal.τ).loc Cert.RAsIdeal.main_arg0) = m ((c.tc : Thread Cert.RAsIdeal.nD Cert.RAsIdeal.τ).loc Cert.RAsIdeal.main_arg0)
      ∧ r.2.mem ((c.tc : Thread Cert.RAsIdeal.nD Cert.RAsIdeal.τ).loc Cert.RAsIdeal.main_arg1) = m ((c.tc : Thread Cert.RAsIdeal.nD Cert.RAsIdeal.τ).loc Cert.RAsIdeal.main_arg1)
      ∧ r.2.mem ((c.tc : Thread Cert.RAsIdeal.nD Cert.RAsIdeal.τ).loc Cert.RAsIdeal.main_arg2) = m ((c.tc : Thread Cert.RAsIdeal.nD Cert.RAsIdeal.τ).loc Cert.RAsIdeal.main_arg2)
      ∧ r.2.mem ((c.tc : Thread Cert.RAsIdeal.nD Cert.RAsIdeal.τ).loc Cert.RAsIdeal.main_arg3) = m ((c.tc : Thread Cert.RAsIdeal.nD Cert.RAsIdeal.τ).loc Cert.RAsIdeal.main_arg3))
      ∧ r.2.sem = fun _ => 0)

def preserves_KGate_KGateIdeal : Prop :=
  True

def algebraic_KGateIdeal_RGateIdeal [hKGateIdeal : Cert.KGateIdeal.Facts] [hRGateIdeal : Cert.RGateIdeal.Facts] : Prop :=
  ∀ (m : (ℓ : Loc Cert.KGateIdeal.nD Cert.KGateIdeal.τ Cert.KGateIdeal.sig) → Buf (Elt Ideal) ℓ) (g : Dev Cert.KGateIdeal.nD → PrngReg)
    (m' : (ℓ : Loc Cert.RGateIdeal.nD Cert.RGateIdeal.τ Cert.RGateIdeal.sig) → Buf (Elt Ideal) ℓ) (g' : Dev Cert.RGateIdeal.nD → PrngReg), Pre_KGateIdeal m →
    (∀ c : Dev Cert.KGateIdeal.nD,
      m' ((c.tc : Thread Cert.RGateIdeal.nD Cert.RGateIdeal.τ).loc Cert.RGateIdeal.main_arg0) = m ((c.tc : Thread Cert.KGateIdeal.nD Cert.KGateIdeal.τ).loc Cert.KGateIdeal.main_arg0)
      ∧ m' ((c.tc : Thread Cert.RGateIdeal.nD Cert.RGateIdeal.τ).loc Cert.RGateIdeal.main_arg1) = m ((c.tc : Thread Cert.KGateIdeal.nD Cert.KGateIdeal.τ).loc Cert.KGateIdeal.main_arg1)
      ∧ m' ((c.tc : Thread Cert.RGateIdeal.nD Cert.RGateIdeal.τ).loc Cert.RGateIdeal.main_arg2) = m ((c.tc : Thread Cert.KGateIdeal.nD Cert.KGateIdeal.τ).loc Cert.KGateIdeal.main_arg2)
      ∧ m' ((c.tc : Thread Cert.RGateIdeal.nD Cert.RGateIdeal.τ).loc Cert.RGateIdeal.main_arg3) = m ((c.tc : Thread Cert.KGateIdeal.nD Cert.KGateIdeal.τ).loc Cert.KGateIdeal.main_arg3)
      ∧ m' ((c.tc : Thread Cert.RGateIdeal.nD Cert.RGateIdeal.τ).loc Cert.RGateIdeal.main_arg4) = m ((c.tc : Thread Cert.KGateIdeal.nD Cert.KGateIdeal.τ).loc Cert.KGateIdeal.main_arg4)
      ∧ m' ((c.tc : Thread Cert.RGateIdeal.nD Cert.RGateIdeal.τ).loc Cert.RGateIdeal.main_arg5) = m ((c.tc : Thread Cert.KGateIdeal.nD Cert.KGateIdeal.τ).loc Cert.KGateIdeal.main_arg5)
      ∧ m' ((c.tc : Thread Cert.RGateIdeal.nD Cert.RGateIdeal.τ).loc Cert.RGateIdeal.main_arg6) = m ((c.tc : Thread Cert.KGateIdeal.nD Cert.KGateIdeal.τ).loc Cert.KGateIdeal.main_arg6)) →
    ∃ (v0 : (c : Dev Cert.KGateIdeal.nD) → Buf (Elt Ideal) ((c.tc : Thread Cert.KGateIdeal.nD Cert.KGateIdeal.τ).loc Cert.KGateIdeal.main_v0_0)) (v1 : (c : Dev Cert.KGateIdeal.nD) → Buf (Elt Ideal) ((c.tc : Thread Cert.KGateIdeal.nD Cert.KGateIdeal.τ).loc Cert.KGateIdeal.main_v0_1)) (v2 : (c : Dev Cert.KGateIdeal.nD) → Buf (Elt Ideal) ((c.tc : Thread Cert.KGateIdeal.nD Cert.KGateIdeal.τ).loc Cert.KGateIdeal.main_v0_2)) (v3 : (c : Dev Cert.KGateIdeal.nD) → Buf (Elt Ideal) ((c.tc : Thread Cert.KGateIdeal.nD Cert.KGateIdeal.τ).loc Cert.KGateIdeal.main_v0_3)) (v4 : (c : Dev Cert.KGateIdeal.nD) → Buf (Elt Ideal) ((c.tc : Thread Cert.KGateIdeal.nD Cert.KGateIdeal.τ).loc Cert.KGateIdeal.main_v0_4)) (v5 : (c : Dev Cert.KGateIdeal.nD) → Buf (Elt Ideal) ((c.tc : Thread Cert.KGateIdeal.nD Cert.KGateIdeal.τ).loc Cert.KGateIdeal.main_v0_5)) (v6 : (c : Dev Cert.KGateIdeal.nD) → Buf (Elt Ideal) ((c.tc : Thread Cert.KGateIdeal.nD Cert.KGateIdeal.τ).loc Cert.KGateIdeal.main_v0_6)),
      θ_run (Cert.KGateIdeal.defs (F := Ideal)) (onTc (τ := Cert.KGateIdeal.τ) (Cert.KGateIdeal.main (F := Ideal))) ⟨m, fun _ => 0, g⟩ (fun r => ∀ c : Dev Cert.KGateIdeal.nD,
          r.2.mem ((c.tc : Thread Cert.KGateIdeal.nD Cert.KGateIdeal.τ).loc Cert.KGateIdeal.main_v0_0) = v0 c
          ∧ r.2.mem ((c.tc : Thread Cert.KGateIdeal.nD Cert.KGateIdeal.τ).loc Cert.KGateIdeal.main_v0_1) = v1 c
          ∧ r.2.mem ((c.tc : Thread Cert.KGateIdeal.nD Cert.KGateIdeal.τ).loc Cert.KGateIdeal.main_v0_2) = v2 c
          ∧ r.2.mem ((c.tc : Thread Cert.KGateIdeal.nD Cert.KGateIdeal.τ).loc Cert.KGateIdeal.main_v0_3) = v3 c
          ∧ r.2.mem ((c.tc : Thread Cert.KGateIdeal.nD Cert.KGateIdeal.τ).loc Cert.KGateIdeal.main_v0_4) = v4 c
          ∧ r.2.mem ((c.tc : Thread Cert.KGateIdeal.nD Cert.KGateIdeal.τ).loc Cert.KGateIdeal.main_v0_5) = v5 c
          ∧ r.2.mem ((c.tc : Thread Cert.KGateIdeal.nD Cert.KGateIdeal.τ).loc Cert.KGateIdeal.main_v0_6) = v6 c
          ∧ r.2.mem ((c.tc : Thread Cert.KGateIdeal.nD Cert.KGateIdeal.τ).loc Cert.KGateIdeal.main_arg0) = m ((c.tc : Thread Cert.KGateIdeal.nD Cert.KGateIdeal.τ).loc Cert.KGateIdeal.main_arg0)
          ∧ r.2.mem ((c.tc : Thread Cert.KGateIdeal.nD Cert.KGateIdeal.τ).loc Cert.KGateIdeal.main_arg1) = m ((c.tc : Thread Cert.KGateIdeal.nD Cert.KGateIdeal.τ).loc Cert.KGateIdeal.main_arg1)
          ∧ r.2.mem ((c.tc : Thread Cert.KGateIdeal.nD Cert.KGateIdeal.τ).loc Cert.KGateIdeal.main_arg2) = m ((c.tc : Thread Cert.KGateIdeal.nD Cert.KGateIdeal.τ).loc Cert.KGateIdeal.main_arg2)
          ∧ r.2.mem ((c.tc : Thread Cert.KGateIdeal.nD Cert.KGateIdeal.τ).loc Cert.KGateIdeal.main_arg3) = m ((c.tc : Thread Cert.KGateIdeal.nD Cert.KGateIdeal.τ).loc Cert.KGateIdeal.main_arg3)
          ∧ r.2.mem ((c.tc : Thread Cert.KGateIdeal.nD Cert.KGateIdeal.τ).loc Cert.KGateIdeal.main_arg4) = m ((c.tc : Thread Cert.KGateIdeal.nD Cert.KGateIdeal.τ).loc Cert.KGateIdeal.main_arg4)
          ∧ r.2.mem ((c.tc : Thread Cert.KGateIdeal.nD Cert.KGateIdeal.τ).loc Cert.KGateIdeal.main_arg5) = m ((c.tc : Thread Cert.KGateIdeal.nD Cert.KGateIdeal.τ).loc Cert.KGateIdeal.main_arg5)
          ∧ r.2.mem ((c.tc : Thread Cert.KGateIdeal.nD Cert.KGateIdeal.τ).loc Cert.KGateIdeal.main_arg6) = m ((c.tc : Thread Cert.KGateIdeal.nD Cert.KGateIdeal.τ).loc Cert.KGateIdeal.main_arg6))
      ∧ θ_run (Cert.RGateIdeal.defs (F := Ideal)) (onTc (τ := Cert.RGateIdeal.τ) (Cert.RGateIdeal.main (F := Ideal))) ⟨m', fun _ => 0, g'⟩ (fun r => ∀ c : Dev Cert.RGateIdeal.nD,
          r.2.mem ((c.tc : Thread Cert.RGateIdeal.nD Cert.RGateIdeal.τ).loc Cert.RGateIdeal.main_v42) = v0 c
          ∧ r.2.mem ((c.tc : Thread Cert.RGateIdeal.nD Cert.RGateIdeal.τ).loc Cert.RGateIdeal.main_v43) = v1 c
          ∧ r.2.mem ((c.tc : Thread Cert.RGateIdeal.nD Cert.RGateIdeal.τ).loc Cert.RGateIdeal.main_v44) = v2 c
          ∧ r.2.mem ((c.tc : Thread Cert.RGateIdeal.nD Cert.RGateIdeal.τ).loc Cert.RGateIdeal.main_v45) = v3 c
          ∧ r.2.mem ((c.tc : Thread Cert.RGateIdeal.nD Cert.RGateIdeal.τ).loc Cert.RGateIdeal.main_v38) = v4 c
          ∧ r.2.mem ((c.tc : Thread Cert.RGateIdeal.nD Cert.RGateIdeal.τ).loc Cert.RGateIdeal.main_v47) = v5 c
          ∧ r.2.mem ((c.tc : Thread Cert.RGateIdeal.nD Cert.RGateIdeal.τ).loc Cert.RGateIdeal.main_v41) = v6 c
          ∧ r.2.mem ((c.tc : Thread Cert.RGateIdeal.nD Cert.RGateIdeal.τ).loc Cert.RGateIdeal.main_arg0) = m' ((c.tc : Thread Cert.RGateIdeal.nD Cert.RGateIdeal.τ).loc Cert.RGateIdeal.main_arg0)
          ∧ r.2.mem ((c.tc : Thread Cert.RGateIdeal.nD Cert.RGateIdeal.τ).loc Cert.RGateIdeal.main_arg1) = m' ((c.tc : Thread Cert.RGateIdeal.nD Cert.RGateIdeal.τ).loc Cert.RGateIdeal.main_arg1)
          ∧ r.2.mem ((c.tc : Thread Cert.RGateIdeal.nD Cert.RGateIdeal.τ).loc Cert.RGateIdeal.main_arg2) = m' ((c.tc : Thread Cert.RGateIdeal.nD Cert.RGateIdeal.τ).loc Cert.RGateIdeal.main_arg2)
          ∧ r.2.mem ((c.tc : Thread Cert.RGateIdeal.nD Cert.RGateIdeal.τ).loc Cert.RGateIdeal.main_arg3) = m' ((c.tc : Thread Cert.RGateIdeal.nD Cert.RGateIdeal.τ).loc Cert.RGateIdeal.main_arg3)
          ∧ r.2.mem ((c.tc : Thread Cert.RGateIdeal.nD Cert.RGateIdeal.τ).loc Cert.RGateIdeal.main_arg4) = m' ((c.tc : Thread Cert.RGateIdeal.nD Cert.RGateIdeal.τ).loc Cert.RGateIdeal.main_arg4)
          ∧ r.2.mem ((c.tc : Thread Cert.RGateIdeal.nD Cert.RGateIdeal.τ).loc Cert.RGateIdeal.main_arg5) = m' ((c.tc : Thread Cert.RGateIdeal.nD Cert.RGateIdeal.τ).loc Cert.RGateIdeal.main_arg5)
          ∧ r.2.mem ((c.tc : Thread Cert.RGateIdeal.nD Cert.RGateIdeal.τ).loc Cert.RGateIdeal.main_arg6) = m' ((c.tc : Thread Cert.RGateIdeal.nD Cert.RGateIdeal.τ).loc Cert.RGateIdeal.main_arg6))

def preserves_KMid_KMidIdeal : Prop :=
  True

def algebraic_KMidIdeal_RMidIdeal_pre_mid_finite [hKMidIdeal : Cert.KMidIdeal.Facts] [hRMidIdeal : Cert.RMidIdeal.Facts] [hPre_mid_finite : Cert.Pre_mid_finite.Facts] : Prop :=
  ∀ (m : (ℓ : Loc Cert.KMidIdeal.nD Cert.KMidIdeal.τ Cert.KMidIdeal.sig) → Buf (Elt Ideal) ℓ) (g : Dev Cert.KMidIdeal.nD → PrngReg)
    (m' : (ℓ : Loc Cert.RMidIdeal.nD Cert.RMidIdeal.τ Cert.RMidIdeal.sig) → Buf (Elt Ideal) ℓ) (g' : Dev Cert.RMidIdeal.nD → PrngReg), Pre_KMidIdeal_mid_finite m →
    (∀ c : Dev Cert.KMidIdeal.nD,
      m' ((c.tc : Thread Cert.RMidIdeal.nD Cert.RMidIdeal.τ).loc Cert.RMidIdeal.main_arg0) = m ((c.tc : Thread Cert.KMidIdeal.nD Cert.KMidIdeal.τ).loc Cert.KMidIdeal.main_arg0)
      ∧ m' ((c.tc : Thread Cert.RMidIdeal.nD Cert.RMidIdeal.τ).loc Cert.RMidIdeal.main_arg1) = m ((c.tc : Thread Cert.KMidIdeal.nD Cert.KMidIdeal.τ).loc Cert.KMidIdeal.main_arg1)
      ∧ m' ((c.tc : Thread Cert.RMidIdeal.nD Cert.RMidIdeal.τ).loc Cert.RMidIdeal.main_arg2) = m ((c.tc : Thread Cert.KMidIdeal.nD Cert.KMidIdeal.τ).loc Cert.KMidIdeal.main_arg2)) →
    ∃ (v0 : (c : Dev Cert.KMidIdeal.nD) → Buf (Elt Ideal) ((c.tc : Thread Cert.KMidIdeal.nD Cert.KMidIdeal.τ).loc Cert.KMidIdeal.main_v0)),
      θ_run (Cert.KMidIdeal.defs (F := Ideal)) (onTc (τ := Cert.KMidIdeal.τ) (Cert.KMidIdeal.main (F := Ideal))) ⟨m, fun _ => 0, g⟩ (fun r => ∀ c : Dev Cert.KMidIdeal.nD,
          r.2.mem ((c.tc : Thread Cert.KMidIdeal.nD Cert.KMidIdeal.τ).loc Cert.KMidIdeal.main_v0) = v0 c
          ∧ r.2.mem ((c.tc : Thread Cert.KMidIdeal.nD Cert.KMidIdeal.τ).loc Cert.KMidIdeal.main_arg0) = m ((c.tc : Thread Cert.KMidIdeal.nD Cert.KMidIdeal.τ).loc Cert.KMidIdeal.main_arg0)
          ∧ r.2.mem ((c.tc : Thread Cert.KMidIdeal.nD Cert.KMidIdeal.τ).loc Cert.KMidIdeal.main_arg1) = m ((c.tc : Thread Cert.KMidIdeal.nD Cert.KMidIdeal.τ).loc Cert.KMidIdeal.main_arg1)
          ∧ r.2.mem ((c.tc : Thread Cert.KMidIdeal.nD Cert.KMidIdeal.τ).loc Cert.KMidIdeal.main_arg2) = m ((c.tc : Thread Cert.KMidIdeal.nD Cert.KMidIdeal.τ).loc Cert.KMidIdeal.main_arg2))
      ∧ θ_run (Cert.RMidIdeal.defs (F := Ideal)) (onTc (τ := Cert.RMidIdeal.τ) (Cert.RMidIdeal.main (F := Ideal))) ⟨m', fun _ => 0, g'⟩ (fun r => ∀ c : Dev Cert.RMidIdeal.nD,
          r.2.mem ((c.tc : Thread Cert.RMidIdeal.nD Cert.RMidIdeal.τ).loc Cert.RMidIdeal.main_v23) = v0 c
          ∧ r.2.mem ((c.tc : Thread Cert.RMidIdeal.nD Cert.RMidIdeal.τ).loc Cert.RMidIdeal.main_arg0) = m' ((c.tc : Thread Cert.RMidIdeal.nD Cert.RMidIdeal.τ).loc Cert.RMidIdeal.main_arg0)
          ∧ r.2.mem ((c.tc : Thread Cert.RMidIdeal.nD Cert.RMidIdeal.τ).loc Cert.RMidIdeal.main_arg1) = m' ((c.tc : Thread Cert.RMidIdeal.nD Cert.RMidIdeal.τ).loc Cert.RMidIdeal.main_arg1)
          ∧ r.2.mem ((c.tc : Thread Cert.RMidIdeal.nD Cert.RMidIdeal.τ).loc Cert.RMidIdeal.main_arg2) = m' ((c.tc : Thread Cert.RMidIdeal.nD Cert.RMidIdeal.τ).loc Cert.RMidIdeal.main_arg2))

def preserves_KIn_KInIdeal : Prop :=
  True

def algebraic_KInIdeal_RInIdeal_pre_in_finite [hKInIdeal : Cert.KInIdeal.Facts] [hRInIdeal : Cert.RInIdeal.Facts] [hPre_in_finite : Cert.Pre_in_finite.Facts] : Prop :=
  ∀ (m : (ℓ : Loc Cert.KInIdeal.nD Cert.KInIdeal.τ Cert.KInIdeal.sig) → Buf (Elt Ideal) ℓ) (g : Dev Cert.KInIdeal.nD → PrngReg)
    (m' : (ℓ : Loc Cert.RInIdeal.nD Cert.RInIdeal.τ Cert.RInIdeal.sig) → Buf (Elt Ideal) ℓ) (g' : Dev Cert.RInIdeal.nD → PrngReg), Pre_KInIdeal_in_finite m →
    (∀ c : Dev Cert.KInIdeal.nD,
      m' ((c.tc : Thread Cert.RInIdeal.nD Cert.RInIdeal.τ).loc Cert.RInIdeal.main_arg0) = m ((c.tc : Thread Cert.KInIdeal.nD Cert.KInIdeal.τ).loc Cert.KInIdeal.main_arg0)
      ∧ m' ((c.tc : Thread Cert.RInIdeal.nD Cert.RInIdeal.τ).loc Cert.RInIdeal.main_arg1) = m ((c.tc : Thread Cert.KInIdeal.nD Cert.KInIdeal.τ).loc Cert.KInIdeal.main_arg1)
      ∧ m' ((c.tc : Thread Cert.RInIdeal.nD Cert.RInIdeal.τ).loc Cert.RInIdeal.main_arg2) = m ((c.tc : Thread Cert.KInIdeal.nD Cert.KInIdeal.τ).loc Cert.KInIdeal.main_arg2)
      ∧ m' ((c.tc : Thread Cert.RInIdeal.nD Cert.RInIdeal.τ).loc Cert.RInIdeal.main_arg3) = m ((c.tc : Thread Cert.KInIdeal.nD Cert.KInIdeal.τ).loc Cert.KInIdeal.main_arg3)
      ∧ m' ((c.tc : Thread Cert.RInIdeal.nD Cert.RInIdeal.τ).loc Cert.RInIdeal.main_arg4) = m ((c.tc : Thread Cert.KInIdeal.nD Cert.KInIdeal.τ).loc Cert.KInIdeal.main_arg4)) →
    ∃ (v0 : (c : Dev Cert.KInIdeal.nD) → Buf (Elt Ideal) ((c.tc : Thread Cert.KInIdeal.nD Cert.KInIdeal.τ).loc Cert.KInIdeal.main_v0_0)) (v1 : (c : Dev Cert.KInIdeal.nD) → Buf (Elt Ideal) ((c.tc : Thread Cert.KInIdeal.nD Cert.KInIdeal.τ).loc Cert.KInIdeal.main_v0_1)) (v2 : (c : Dev Cert.KInIdeal.nD) → Buf (Elt Ideal) ((c.tc : Thread Cert.KInIdeal.nD Cert.KInIdeal.τ).loc Cert.KInIdeal.main_v0_2)),
      θ_run (Cert.KInIdeal.defs (F := Ideal)) (onTc (τ := Cert.KInIdeal.τ) (Cert.KInIdeal.main (F := Ideal))) ⟨m, fun _ => 0, g⟩ (fun r => ∀ c : Dev Cert.KInIdeal.nD,
          r.2.mem ((c.tc : Thread Cert.KInIdeal.nD Cert.KInIdeal.τ).loc Cert.KInIdeal.main_v0_0) = v0 c
          ∧ r.2.mem ((c.tc : Thread Cert.KInIdeal.nD Cert.KInIdeal.τ).loc Cert.KInIdeal.main_v0_1) = v1 c
          ∧ r.2.mem ((c.tc : Thread Cert.KInIdeal.nD Cert.KInIdeal.τ).loc Cert.KInIdeal.main_v0_2) = v2 c
          ∧ r.2.mem ((c.tc : Thread Cert.KInIdeal.nD Cert.KInIdeal.τ).loc Cert.KInIdeal.main_arg0) = m ((c.tc : Thread Cert.KInIdeal.nD Cert.KInIdeal.τ).loc Cert.KInIdeal.main_arg0)
          ∧ r.2.mem ((c.tc : Thread Cert.KInIdeal.nD Cert.KInIdeal.τ).loc Cert.KInIdeal.main_arg1) = m ((c.tc : Thread Cert.KInIdeal.nD Cert.KInIdeal.τ).loc Cert.KInIdeal.main_arg1)
          ∧ r.2.mem ((c.tc : Thread Cert.KInIdeal.nD Cert.KInIdeal.τ).loc Cert.KInIdeal.main_arg2) = m ((c.tc : Thread Cert.KInIdeal.nD Cert.KInIdeal.τ).loc Cert.KInIdeal.main_arg2)
          ∧ r.2.mem ((c.tc : Thread Cert.KInIdeal.nD Cert.KInIdeal.τ).loc Cert.KInIdeal.main_arg3) = m ((c.tc : Thread Cert.KInIdeal.nD Cert.KInIdeal.τ).loc Cert.KInIdeal.main_arg3)
          ∧ r.2.mem ((c.tc : Thread Cert.KInIdeal.nD Cert.KInIdeal.τ).loc Cert.KInIdeal.main_arg4) = m ((c.tc : Thread Cert.KInIdeal.nD Cert.KInIdeal.τ).loc Cert.KInIdeal.main_arg4))
      ∧ θ_run (Cert.RInIdeal.defs (F := Ideal)) (onTc (τ := Cert.RInIdeal.τ) (Cert.RInIdeal.main (F := Ideal))) ⟨m', fun _ => 0, g'⟩ (fun r => ∀ c : Dev Cert.RInIdeal.nD,
          r.2.mem ((c.tc : Thread Cert.RInIdeal.nD Cert.RInIdeal.τ).loc Cert.RInIdeal.main_v44) = v0 c
          ∧ r.2.mem ((c.tc : Thread Cert.RInIdeal.nD Cert.RInIdeal.τ).loc Cert.RInIdeal.main_v46) = v1 c
          ∧ r.2.mem ((c.tc : Thread Cert.RInIdeal.nD Cert.RInIdeal.τ).loc Cert.RInIdeal.main_v48) = v2 c
          ∧ r.2.mem ((c.tc : Thread Cert.RInIdeal.nD Cert.RInIdeal.τ).loc Cert.RInIdeal.main_arg0) = m' ((c.tc : Thread Cert.RInIdeal.nD Cert.RInIdeal.τ).loc Cert.RInIdeal.main_arg0)
          ∧ r.2.mem ((c.tc : Thread Cert.RInIdeal.nD Cert.RInIdeal.τ).loc Cert.RInIdeal.main_arg1) = m' ((c.tc : Thread Cert.RInIdeal.nD Cert.RInIdeal.τ).loc Cert.RInIdeal.main_arg1)
          ∧ r.2.mem ((c.tc : Thread Cert.RInIdeal.nD Cert.RInIdeal.τ).loc Cert.RInIdeal.main_arg2) = m' ((c.tc : Thread Cert.RInIdeal.nD Cert.RInIdeal.τ).loc Cert.RInIdeal.main_arg2)
          ∧ r.2.mem ((c.tc : Thread Cert.RInIdeal.nD Cert.RInIdeal.τ).loc Cert.RInIdeal.main_arg3) = m' ((c.tc : Thread Cert.RInIdeal.nD Cert.RInIdeal.τ).loc Cert.RInIdeal.main_arg3)
          ∧ r.2.mem ((c.tc : Thread Cert.RInIdeal.nD Cert.RInIdeal.τ).loc Cert.RInIdeal.main_arg4) = m' ((c.tc : Thread Cert.RInIdeal.nD Cert.RInIdeal.τ).loc Cert.RInIdeal.main_arg4))

def preserves_KDwo_KDwoIdeal : Prop :=
  True

def algebraic_KDwoIdeal_RDwoIdeal [hKDwoIdeal : Cert.KDwoIdeal.Facts] [hRDwoIdeal : Cert.RDwoIdeal.Facts] : Prop :=
  ∀ (m : (ℓ : Loc Cert.KDwoIdeal.nD Cert.KDwoIdeal.τ Cert.KDwoIdeal.sig) → Buf (Elt Ideal) ℓ) (g : Dev Cert.KDwoIdeal.nD → PrngReg)
    (m' : (ℓ : Loc Cert.RDwoIdeal.nD Cert.RDwoIdeal.τ Cert.RDwoIdeal.sig) → Buf (Elt Ideal) ℓ) (g' : Dev Cert.RDwoIdeal.nD → PrngReg), Pre_KDwoIdeal m →
    (∀ c : Dev Cert.KDwoIdeal.nD,
      m' ((c.tc : Thread Cert.RDwoIdeal.nD Cert.RDwoIdeal.τ).loc Cert.RDwoIdeal.main_arg0) = m ((c.tc : Thread Cert.KDwoIdeal.nD Cert.KDwoIdeal.τ).loc Cert.KDwoIdeal.main_arg0)
      ∧ m' ((c.tc : Thread Cert.RDwoIdeal.nD Cert.RDwoIdeal.τ).loc Cert.RDwoIdeal.main_arg1) = m ((c.tc : Thread Cert.KDwoIdeal.nD Cert.KDwoIdeal.τ).loc Cert.KDwoIdeal.main_arg1)) →
    ∃ (v0 : (c : Dev Cert.KDwoIdeal.nD) → Buf (Elt Ideal) ((c.tc : Thread Cert.KDwoIdeal.nD Cert.KDwoIdeal.τ).loc Cert.KDwoIdeal.main_v0)),
      θ_run (Cert.KDwoIdeal.defs (F := Ideal)) (onTc (τ := Cert.KDwoIdeal.τ) (Cert.KDwoIdeal.main (F := Ideal))) ⟨m, fun _ => 0, g⟩ (fun r => ∀ c : Dev Cert.KDwoIdeal.nD,
          r.2.mem ((c.tc : Thread Cert.KDwoIdeal.nD Cert.KDwoIdeal.τ).loc Cert.KDwoIdeal.main_v0) = v0 c
          ∧ r.2.mem ((c.tc : Thread Cert.KDwoIdeal.nD Cert.KDwoIdeal.τ).loc Cert.KDwoIdeal.main_arg0) = m ((c.tc : Thread Cert.KDwoIdeal.nD Cert.KDwoIdeal.τ).loc Cert.KDwoIdeal.main_arg0)
          ∧ r.2.mem ((c.tc : Thread Cert.KDwoIdeal.nD Cert.KDwoIdeal.τ).loc Cert.KDwoIdeal.main_arg1) = m ((c.tc : Thread Cert.KDwoIdeal.nD Cert.KDwoIdeal.τ).loc Cert.KDwoIdeal.main_arg1))
      ∧ θ_run (Cert.RDwoIdeal.defs (F := Ideal)) (onTc (τ := Cert.RDwoIdeal.τ) (Cert.RDwoIdeal.main (F := Ideal))) ⟨m', fun _ => 0, g'⟩ (fun r => ∀ c : Dev Cert.RDwoIdeal.nD,
          r.2.mem ((c.tc : Thread Cert.RDwoIdeal.nD Cert.RDwoIdeal.τ).loc Cert.RDwoIdeal.main_v11) = v0 c
          ∧ r.2.mem ((c.tc : Thread Cert.RDwoIdeal.nD Cert.RDwoIdeal.τ).loc Cert.RDwoIdeal.main_arg0) = m' ((c.tc : Thread Cert.RDwoIdeal.nD Cert.RDwoIdeal.τ).loc Cert.RDwoIdeal.main_arg0)
          ∧ r.2.mem ((c.tc : Thread Cert.RDwoIdeal.nD Cert.RDwoIdeal.τ).loc Cert.RDwoIdeal.main_arg1) = m' ((c.tc : Thread Cert.RDwoIdeal.nD Cert.RDwoIdeal.τ).loc Cert.RDwoIdeal.main_arg1))

def preserves_KDwi_KDwiIdeal : Prop :=
  True

def algebraic_KDwiIdeal_RDwiIdeal [hKDwiIdeal : Cert.KDwiIdeal.Facts] [hRDwiIdeal : Cert.RDwiIdeal.Facts] : Prop :=
  ∀ (m : (ℓ : Loc Cert.KDwiIdeal.nD Cert.KDwiIdeal.τ Cert.KDwiIdeal.sig) → Buf (Elt Ideal) ℓ) (g : Dev Cert.KDwiIdeal.nD → PrngReg)
    (m' : (ℓ : Loc Cert.RDwiIdeal.nD Cert.RDwiIdeal.τ Cert.RDwiIdeal.sig) → Buf (Elt Ideal) ℓ) (g' : Dev Cert.RDwiIdeal.nD → PrngReg), Pre_KDwiIdeal m →
    (∀ c : Dev Cert.KDwiIdeal.nD,
      m' ((c.tc : Thread Cert.RDwiIdeal.nD Cert.RDwiIdeal.τ).loc Cert.RDwiIdeal.main_arg0) = m ((c.tc : Thread Cert.KDwiIdeal.nD Cert.KDwiIdeal.τ).loc Cert.KDwiIdeal.main_arg0)
      ∧ m' ((c.tc : Thread Cert.RDwiIdeal.nD Cert.RDwiIdeal.τ).loc Cert.RDwiIdeal.main_arg1) = m ((c.tc : Thread Cert.KDwiIdeal.nD Cert.KDwiIdeal.τ).loc Cert.KDwiIdeal.main_arg1)) →
    ∃ (v0 : (c : Dev Cert.KDwiIdeal.nD) → Buf (Elt Ideal) ((c.tc : Thread Cert.KDwiIdeal.nD Cert.KDwiIdeal.τ).loc Cert.KDwiIdeal.main_v0)),
      θ_run (Cert.KDwiIdeal.defs (F := Ideal)) (onTc (τ := Cert.KDwiIdeal.τ) (Cert.KDwiIdeal.main (F := Ideal))) ⟨m, fun _ => 0, g⟩ (fun r => ∀ c : Dev Cert.KDwiIdeal.nD,
          r.2.mem ((c.tc : Thread Cert.KDwiIdeal.nD Cert.KDwiIdeal.τ).loc Cert.KDwiIdeal.main_v0) = v0 c
          ∧ r.2.mem ((c.tc : Thread Cert.KDwiIdeal.nD Cert.KDwiIdeal.τ).loc Cert.KDwiIdeal.main_arg0) = m ((c.tc : Thread Cert.KDwiIdeal.nD Cert.KDwiIdeal.τ).loc Cert.KDwiIdeal.main_arg0)
          ∧ r.2.mem ((c.tc : Thread Cert.KDwiIdeal.nD Cert.KDwiIdeal.τ).loc Cert.KDwiIdeal.main_arg1) = m ((c.tc : Thread Cert.KDwiIdeal.nD Cert.KDwiIdeal.τ).loc Cert.KDwiIdeal.main_arg1))
      ∧ θ_run (Cert.RDwiIdeal.defs (F := Ideal)) (onTc (τ := Cert.RDwiIdeal.τ) (Cert.RDwiIdeal.main (F := Ideal))) ⟨m', fun _ => 0, g'⟩ (fun r => ∀ c : Dev Cert.RDwiIdeal.nD,
          r.2.mem ((c.tc : Thread Cert.RDwiIdeal.nD Cert.RDwiIdeal.τ).loc Cert.RDwiIdeal.main_v16) = v0 c
          ∧ r.2.mem ((c.tc : Thread Cert.RDwiIdeal.nD Cert.RDwiIdeal.τ).loc Cert.RDwiIdeal.main_arg0) = m' ((c.tc : Thread Cert.RDwiIdeal.nD Cert.RDwiIdeal.τ).loc Cert.RDwiIdeal.main_arg0)
          ∧ r.2.mem ((c.tc : Thread Cert.RDwiIdeal.nD Cert.RDwiIdeal.τ).loc Cert.RDwiIdeal.main_arg1) = m' ((c.tc : Thread Cert.RDwiIdeal.nD Cert.RDwiIdeal.τ).loc Cert.RDwiIdeal.main_arg1))

def preserves_KDout_KDoutIdeal : Prop :=
  True

def algebraic_KDoutIdeal_RDoutIdeal [hKDoutIdeal : Cert.KDoutIdeal.Facts] [hRDoutIdeal : Cert.RDoutIdeal.Facts] : Prop :=
  ∀ (m : (ℓ : Loc Cert.KDoutIdeal.nD Cert.KDoutIdeal.τ Cert.KDoutIdeal.sig) → Buf (Elt Ideal) ℓ) (g : Dev Cert.KDoutIdeal.nD → PrngReg)
    (m' : (ℓ : Loc Cert.RDoutIdeal.nD Cert.RDoutIdeal.τ Cert.RDoutIdeal.sig) → Buf (Elt Ideal) ℓ) (g' : Dev Cert.RDoutIdeal.nD → PrngReg), Pre_KDoutIdeal m →
    (∀ c : Dev Cert.KDoutIdeal.nD,
      m' ((c.tc : Thread Cert.RDoutIdeal.nD Cert.RDoutIdeal.τ).loc Cert.RDoutIdeal.main_arg0) = m ((c.tc : Thread Cert.KDoutIdeal.nD Cert.KDoutIdeal.τ).loc Cert.KDoutIdeal.main_arg0)
      ∧ m' ((c.tc : Thread Cert.RDoutIdeal.nD Cert.RDoutIdeal.τ).loc Cert.RDoutIdeal.main_arg1) = m ((c.tc : Thread Cert.KDoutIdeal.nD Cert.KDoutIdeal.τ).loc Cert.KDoutIdeal.main_arg1)) →
    ∃ (v0 : (c : Dev Cert.KDoutIdeal.nD) → Buf (Elt Ideal) ((c.tc : Thread Cert.KDoutIdeal.nD Cert.KDoutIdeal.τ).loc Cert.KDoutIdeal.main_v0)),
      θ_run (Cert.KDoutIdeal.defs (F := Ideal)) (onTc (τ := Cert.KDoutIdeal.τ) (Cert.KDoutIdeal.main (F := Ideal))) ⟨m, fun _ => 0, g⟩ (fun r => ∀ c : Dev Cert.KDoutIdeal.nD,
          r.2.mem ((c.tc : Thread Cert.KDoutIdeal.nD Cert.KDoutIdeal.τ).loc Cert.KDoutIdeal.main_v0) = v0 c
          ∧ r.2.mem ((c.tc : Thread Cert.KDoutIdeal.nD Cert.KDoutIdeal.τ).loc Cert.KDoutIdeal.main_arg0) = m ((c.tc : Thread Cert.KDoutIdeal.nD Cert.KDoutIdeal.τ).loc Cert.KDoutIdeal.main_arg0)
          ∧ r.2.mem ((c.tc : Thread Cert.KDoutIdeal.nD Cert.KDoutIdeal.τ).loc Cert.KDoutIdeal.main_arg1) = m ((c.tc : Thread Cert.KDoutIdeal.nD Cert.KDoutIdeal.τ).loc Cert.KDoutIdeal.main_arg1))
      ∧ θ_run (Cert.RDoutIdeal.defs (F := Ideal)) (onTc (τ := Cert.RDoutIdeal.τ) (Cert.RDoutIdeal.main (F := Ideal))) ⟨m', fun _ => 0, g'⟩ (fun r => ∀ c : Dev Cert.RDoutIdeal.nD,
          r.2.mem ((c.tc : Thread Cert.RDoutIdeal.nD Cert.RDoutIdeal.τ).loc Cert.RDoutIdeal.main_v11) = v0 c
          ∧ r.2.mem ((c.tc : Thread Cert.RDoutIdeal.nD Cert.RDoutIdeal.τ).loc Cert.RDoutIdeal.main_arg0) = m' ((c.tc : Thread Cert.RDoutIdeal.nD Cert.RDoutIdeal.τ).loc Cert.RDoutIdeal.main_arg0)
          ∧ r.2.mem ((c.tc : Thread Cert.RDoutIdeal.nD Cert.RDoutIdeal.τ).loc Cert.RDoutIdeal.main_arg1) = m' ((c.tc : Thread Cert.RDoutIdeal.nD Cert.RDoutIdeal.τ).loc Cert.RDoutIdeal.main_arg1))

def preserves_KDbr_KDbrIdeal : Prop :=
  True

def algebraic_KDbrIdeal_RDbrIdeal [hKDbrIdeal : Cert.KDbrIdeal.Facts] [hRDbrIdeal : Cert.RDbrIdeal.Facts] : Prop :=
  ∀ (m : (ℓ : Loc Cert.KDbrIdeal.nD Cert.KDbrIdeal.τ Cert.KDbrIdeal.sig) → Buf (Elt Ideal) ℓ) (g : Dev Cert.KDbrIdeal.nD → PrngReg)
    (m' : (ℓ : Loc Cert.RDbrIdeal.nD Cert.RDbrIdeal.τ Cert.RDbrIdeal.sig) → Buf (Elt Ideal) ℓ) (g' : Dev Cert.RDbrIdeal.nD → PrngReg), Pre_KDbrIdeal m →
    (∀ c : Dev Cert.KDbrIdeal.nD,
      m' ((c.tc : Thread Cert.RDbrIdeal.nD Cert.RDbrIdeal.τ).loc Cert.RDbrIdeal.main_arg0) = m ((c.tc : Thread Cert.KDbrIdeal.nD Cert.KDbrIdeal.τ).loc Cert.KDbrIdeal.main_arg0)
      ∧ m' ((c.tc : Thread Cert.RDbrIdeal.nD Cert.RDbrIdeal.τ).loc Cert.RDbrIdeal.main_arg1) = m ((c.tc : Thread Cert.KDbrIdeal.nD Cert.KDbrIdeal.τ).loc Cert.KDbrIdeal.main_arg1)) →
    ∃ (v0 : (c : Dev Cert.KDbrIdeal.nD) → Buf (Elt Ideal) ((c.tc : Thread Cert.KDbrIdeal.nD Cert.KDbrIdeal.τ).loc Cert.KDbrIdeal.main_v0)),
      θ_run (Cert.KDbrIdeal.defs (F := Ideal)) (onTc (τ := Cert.KDbrIdeal.τ) (Cert.KDbrIdeal.main (F := Ideal))) ⟨m, fun _ => 0, g⟩ (fun r => ∀ c : Dev Cert.KDbrIdeal.nD,
          r.2.mem ((c.tc : Thread Cert.KDbrIdeal.nD Cert.KDbrIdeal.τ).loc Cert.KDbrIdeal.main_v0) = v0 c
          ∧ r.2.mem ((c.tc : Thread Cert.KDbrIdeal.nD Cert.KDbrIdeal.τ).loc Cert.KDbrIdeal.main_arg0) = m ((c.tc : Thread Cert.KDbrIdeal.nD Cert.KDbrIdeal.τ).loc Cert.KDbrIdeal.main_arg0)
          ∧ r.2.mem ((c.tc : Thread Cert.KDbrIdeal.nD Cert.KDbrIdeal.τ).loc Cert.KDbrIdeal.main_arg1) = m ((c.tc : Thread Cert.KDbrIdeal.nD Cert.KDbrIdeal.τ).loc Cert.KDbrIdeal.main_arg1))
      ∧ θ_run (Cert.RDbrIdeal.defs (F := Ideal)) (onTc (τ := Cert.RDbrIdeal.τ) (Cert.RDbrIdeal.main (F := Ideal))) ⟨m', fun _ => 0, g'⟩ (fun r => ∀ c : Dev Cert.RDbrIdeal.nD,
          r.2.mem ((c.tc : Thread Cert.RDbrIdeal.nD Cert.RDbrIdeal.τ).loc Cert.RDbrIdeal.main_v11) = v0 c
          ∧ r.2.mem ((c.tc : Thread Cert.RDbrIdeal.nD Cert.RDbrIdeal.τ).loc Cert.RDbrIdeal.main_arg0) = m' ((c.tc : Thread Cert.RDbrIdeal.nD Cert.RDbrIdeal.τ).loc Cert.RDbrIdeal.main_arg0)
          ∧ r.2.mem ((c.tc : Thread Cert.RDbrIdeal.nD Cert.RDbrIdeal.τ).loc Cert.RDbrIdeal.main_arg1) = m' ((c.tc : Thread Cert.RDbrIdeal.nD Cert.RDbrIdeal.τ).loc Cert.RDbrIdeal.main_arg1))

def preserves_KDmix_KDmixIdeal : Prop :=
  True

def algebraic_KDmixIdeal_RDmixIdeal [hKDmixIdeal : Cert.KDmixIdeal.Facts] [hRDmixIdeal : Cert.RDmixIdeal.Facts] : Prop :=
  ∀ (m : (ℓ : Loc Cert.KDmixIdeal.nD Cert.KDmixIdeal.τ Cert.KDmixIdeal.sig) → Buf (Elt Ideal) ℓ) (g : Dev Cert.KDmixIdeal.nD → PrngReg)
    (m' : (ℓ : Loc Cert.RDmixIdeal.nD Cert.RDmixIdeal.τ Cert.RDmixIdeal.sig) → Buf (Elt Ideal) ℓ) (g' : Dev Cert.RDmixIdeal.nD → PrngReg), Pre_KDmixIdeal m →
    (∀ c : Dev Cert.KDmixIdeal.nD,
      m' ((c.tc : Thread Cert.RDmixIdeal.nD Cert.RDmixIdeal.τ).loc Cert.RDmixIdeal.main_arg0) = m ((c.tc : Thread Cert.KDmixIdeal.nD Cert.KDmixIdeal.τ).loc Cert.KDmixIdeal.main_arg0)
      ∧ m' ((c.tc : Thread Cert.RDmixIdeal.nD Cert.RDmixIdeal.τ).loc Cert.RDmixIdeal.main_arg1) = m ((c.tc : Thread Cert.KDmixIdeal.nD Cert.KDmixIdeal.τ).loc Cert.KDmixIdeal.main_arg1)) →
    ∃ (v0 : (c : Dev Cert.KDmixIdeal.nD) → Buf (Elt Ideal) ((c.tc : Thread Cert.KDmixIdeal.nD Cert.KDmixIdeal.τ).loc Cert.KDmixIdeal.main_v0)),
      θ_run (Cert.KDmixIdeal.defs (F := Ideal)) (onTc (τ := Cert.KDmixIdeal.τ) (Cert.KDmixIdeal.main (F := Ideal))) ⟨m, fun _ => 0, g⟩ (fun r => ∀ c : Dev Cert.KDmixIdeal.nD,
          r.2.mem ((c.tc : Thread Cert.KDmixIdeal.nD Cert.KDmixIdeal.τ).loc Cert.KDmixIdeal.main_v0) = v0 c
          ∧ r.2.mem ((c.tc : Thread Cert.KDmixIdeal.nD Cert.KDmixIdeal.τ).loc Cert.KDmixIdeal.main_arg0) = m ((c.tc : Thread Cert.KDmixIdeal.nD Cert.KDmixIdeal.τ).loc Cert.KDmixIdeal.main_arg0)
          ∧ r.2.mem ((c.tc : Thread Cert.KDmixIdeal.nD Cert.KDmixIdeal.τ).loc Cert.KDmixIdeal.main_arg1) = m ((c.tc : Thread Cert.KDmixIdeal.nD Cert.KDmixIdeal.τ).loc Cert.KDmixIdeal.main_arg1))
      ∧ θ_run (Cert.RDmixIdeal.defs (F := Ideal)) (onTc (τ := Cert.RDmixIdeal.τ) (Cert.RDmixIdeal.main (F := Ideal))) ⟨m', fun _ => 0, g'⟩ (fun r => ∀ c : Dev Cert.RDmixIdeal.nD,
          r.2.mem ((c.tc : Thread Cert.RDmixIdeal.nD Cert.RDmixIdeal.τ).loc Cert.RDmixIdeal.main_v11) = v0 c
          ∧ r.2.mem ((c.tc : Thread Cert.RDmixIdeal.nD Cert.RDmixIdeal.τ).loc Cert.RDmixIdeal.main_arg0) = m' ((c.tc : Thread Cert.RDmixIdeal.nD Cert.RDmixIdeal.τ).loc Cert.RDmixIdeal.main_arg0)
          ∧ r.2.mem ((c.tc : Thread Cert.RDmixIdeal.nD Cert.RDmixIdeal.τ).loc Cert.RDmixIdeal.main_arg1) = m' ((c.tc : Thread Cert.RDmixIdeal.nD Cert.RDmixIdeal.τ).loc Cert.RDmixIdeal.main_arg1))

def preserves_KNt_KNtIdeal : Prop :=
  True

def algebraic_KNtIdeal_RNtIdeal_pre_nt_finite [hKNtIdeal : Cert.KNtIdeal.Facts] [hRNtIdeal : Cert.RNtIdeal.Facts] [hPre_nt_finite : Cert.Pre_nt_finite.Facts] : Prop :=
  ∀ (m : (ℓ : Loc Cert.KNtIdeal.nD Cert.KNtIdeal.τ Cert.KNtIdeal.sig) → Buf (Elt Ideal) ℓ) (g : Dev Cert.KNtIdeal.nD → PrngReg)
    (m' : (ℓ : Loc Cert.RNtIdeal.nD Cert.RNtIdeal.τ Cert.RNtIdeal.sig) → Buf (Elt Ideal) ℓ) (g' : Dev Cert.RNtIdeal.nD → PrngReg), Pre_KNtIdeal_nt_finite m →
    (∀ c : Dev Cert.KNtIdeal.nD,
      m' ((c.tc : Thread Cert.RNtIdeal.nD Cert.RNtIdeal.τ).loc Cert.RNtIdeal.main_arg0) = m ((c.tc : Thread Cert.KNtIdeal.nD Cert.KNtIdeal.τ).loc Cert.KNtIdeal.main_arg0)
      ∧ m' ((c.tc : Thread Cert.RNtIdeal.nD Cert.RNtIdeal.τ).loc Cert.RNtIdeal.main_arg1) = m ((c.tc : Thread Cert.KNtIdeal.nD Cert.KNtIdeal.τ).loc Cert.KNtIdeal.main_arg1)
      ∧ m' ((c.tc : Thread Cert.RNtIdeal.nD Cert.RNtIdeal.τ).loc Cert.RNtIdeal.main_arg2) = m ((c.tc : Thread Cert.KNtIdeal.nD Cert.KNtIdeal.τ).loc Cert.KNtIdeal.main_arg2)
      ∧ m' ((c.tc : Thread Cert.RNtIdeal.nD Cert.RNtIdeal.τ).loc Cert.RNtIdeal.main_arg3) = m ((c.tc : Thread Cert.KNtIdeal.nD Cert.KNtIdeal.τ).loc Cert.KNtIdeal.main_arg3)
      ∧ m' ((c.tc : Thread Cert.RNtIdeal.nD Cert.RNtIdeal.τ).loc Cert.RNtIdeal.main_arg4) = m ((c.tc : Thread Cert.KNtIdeal.nD Cert.KNtIdeal.τ).loc Cert.KNtIdeal.main_arg4)) →
    ∃ (v0 : (c : Dev Cert.KNtIdeal.nD) → Buf (Elt Ideal) ((c.tc : Thread Cert.KNtIdeal.nD Cert.KNtIdeal.τ).loc Cert.KNtIdeal.main_v0_0)) (v1 : (c : Dev Cert.KNtIdeal.nD) → Buf (Elt Ideal) ((c.tc : Thread Cert.KNtIdeal.nD Cert.KNtIdeal.τ).loc Cert.KNtIdeal.main_v0_1)) (v2 : (c : Dev Cert.KNtIdeal.nD) → Buf (Elt Ideal) ((c.tc : Thread Cert.KNtIdeal.nD Cert.KNtIdeal.τ).loc Cert.KNtIdeal.main_v0_2)),
      θ_run (Cert.KNtIdeal.defs (F := Ideal)) (onTc (τ := Cert.KNtIdeal.τ) (Cert.KNtIdeal.main (F := Ideal))) ⟨m, fun _ => 0, g⟩ (fun r => ∀ c : Dev Cert.KNtIdeal.nD,
          r.2.mem ((c.tc : Thread Cert.KNtIdeal.nD Cert.KNtIdeal.τ).loc Cert.KNtIdeal.main_v0_0) = v0 c
          ∧ r.2.mem ((c.tc : Thread Cert.KNtIdeal.nD Cert.KNtIdeal.τ).loc Cert.KNtIdeal.main_v0_1) = v1 c
          ∧ r.2.mem ((c.tc : Thread Cert.KNtIdeal.nD Cert.KNtIdeal.τ).loc Cert.KNtIdeal.main_v0_2) = v2 c
          ∧ r.2.mem ((c.tc : Thread Cert.KNtIdeal.nD Cert.KNtIdeal.τ).loc Cert.KNtIdeal.main_arg0) = m ((c.tc : Thread Cert.KNtIdeal.nD Cert.KNtIdeal.τ).loc Cert.KNtIdeal.main_arg0)
          ∧ r.2.mem ((c.tc : Thread Cert.KNtIdeal.nD Cert.KNtIdeal.τ).loc Cert.KNtIdeal.main_arg1) = m ((c.tc : Thread Cert.KNtIdeal.nD Cert.KNtIdeal.τ).loc Cert.KNtIdeal.main_arg1)
          ∧ r.2.mem ((c.tc : Thread Cert.KNtIdeal.nD Cert.KNtIdeal.τ).loc Cert.KNtIdeal.main_arg2) = m ((c.tc : Thread Cert.KNtIdeal.nD Cert.KNtIdeal.τ).loc Cert.KNtIdeal.main_arg2)
          ∧ r.2.mem ((c.tc : Thread Cert.KNtIdeal.nD Cert.KNtIdeal.τ).loc Cert.KNtIdeal.main_arg3) = m ((c.tc : Thread Cert.KNtIdeal.nD Cert.KNtIdeal.τ).loc Cert.KNtIdeal.main_arg3)
          ∧ r.2.mem ((c.tc : Thread Cert.KNtIdeal.nD Cert.KNtIdeal.τ).loc Cert.KNtIdeal.main_arg4) = m ((c.tc : Thread Cert.KNtIdeal.nD Cert.KNtIdeal.τ).loc Cert.KNtIdeal.main_arg4))
      ∧ θ_run (Cert.RNtIdeal.defs (F := Ideal)) (onTc (τ := Cert.RNtIdeal.τ) (Cert.RNtIdeal.main (F := Ideal))) ⟨m', fun _ => 0, g'⟩ (fun r => ∀ c : Dev Cert.RNtIdeal.nD,
          r.2.mem ((c.tc : Thread Cert.RNtIdeal.nD Cert.RNtIdeal.τ).loc Cert.RNtIdeal.main_v38) = v0 c
          ∧ r.2.mem ((c.tc : Thread Cert.RNtIdeal.nD Cert.RNtIdeal.τ).loc Cert.RNtIdeal.main_v40) = v1 c
          ∧ r.2.mem ((c.tc : Thread Cert.RNtIdeal.nD Cert.RNtIdeal.τ).loc Cert.RNtIdeal.main_v42) = v2 c
          ∧ r.2.mem ((c.tc : Thread Cert.RNtIdeal.nD Cert.RNtIdeal.τ).loc Cert.RNtIdeal.main_arg0) = m' ((c.tc : Thread Cert.RNtIdeal.nD Cert.RNtIdeal.τ).loc Cert.RNtIdeal.main_arg0)
          ∧ r.2.mem ((c.tc : Thread Cert.RNtIdeal.nD Cert.RNtIdeal.τ).loc Cert.RNtIdeal.main_arg1) = m' ((c.tc : Thread Cert.RNtIdeal.nD Cert.RNtIdeal.τ).loc Cert.RNtIdeal.main_arg1)
          ∧ r.2.mem ((c.tc : Thread Cert.RNtIdeal.nD Cert.RNtIdeal.τ).loc Cert.RNtIdeal.main_arg2) = m' ((c.tc : Thread Cert.RNtIdeal.nD Cert.RNtIdeal.τ).loc Cert.RNtIdeal.main_arg2)
          ∧ r.2.mem ((c.tc : Thread Cert.RNtIdeal.nD Cert.RNtIdeal.τ).loc Cert.RNtIdeal.main_arg3) = m' ((c.tc : Thread Cert.RNtIdeal.nD Cert.RNtIdeal.τ).loc Cert.RNtIdeal.main_arg3)
          ∧ r.2.mem ((c.tc : Thread Cert.RNtIdeal.nD Cert.RNtIdeal.τ).loc Cert.RNtIdeal.main_arg4) = m' ((c.tc : Thread Cert.RNtIdeal.nD Cert.RNtIdeal.τ).loc Cert.RNtIdeal.main_arg4))

def preserves_KFfi_KFfiIdeal : Prop :=
  True

def algebraic_KFfiIdeal_RFfiIdeal [hKFfiIdeal : Cert.KFfiIdeal.Facts] [hRFfiIdeal : Cert.RFfiIdeal.Facts] : Prop :=
  ∀ (m : (ℓ : Loc Cert.KFfiIdeal.nD Cert.KFfiIdeal.τ Cert.KFfiIdeal.sig) → Buf (Elt Ideal) ℓ) (g : Dev Cert.KFfiIdeal.nD → PrngReg)
    (m' : (ℓ : Loc Cert.RFfiIdeal.nD Cert.RFfiIdeal.τ Cert.RFfiIdeal.sig) → Buf (Elt Ideal) ℓ) (g' : Dev Cert.RFfiIdeal.nD → PrngReg), Pre_KFfiIdeal m →
    (∀ c : Dev Cert.KFfiIdeal.nD,
      m' ((c.tc : Thread Cert.RFfiIdeal.nD Cert.RFfiIdeal.τ).loc Cert.RFfiIdeal.main_arg0) = m ((c.tc : Thread Cert.KFfiIdeal.nD Cert.KFfiIdeal.τ).loc Cert.KFfiIdeal.main_arg0)
      ∧ m' ((c.tc : Thread Cert.RFfiIdeal.nD Cert.RFfiIdeal.τ).loc Cert.RFfiIdeal.main_arg1) = m ((c.tc : Thread Cert.KFfiIdeal.nD Cert.KFfiIdeal.τ).loc Cert.KFfiIdeal.main_arg1)) →
    ∃ (v0 : (c : Dev Cert.KFfiIdeal.nD) → Buf (Elt Ideal) ((c.tc : Thread Cert.KFfiIdeal.nD Cert.KFfiIdeal.τ).loc Cert.KFfiIdeal.main_v0_0)) (v1 : (c : Dev Cert.KFfiIdeal.nD) → Buf (Elt Ideal) ((c.tc : Thread Cert.KFfiIdeal.nD Cert.KFfiIdeal.τ).loc Cert.KFfiIdeal.main_v0_1)) (v2 : (c : Dev Cert.KFfiIdeal.nD) → Buf (Elt Ideal) ((c.tc : Thread Cert.KFfiIdeal.nD Cert.KFfiIdeal.τ).loc Cert.KFfiIdeal.main_v0_2)),
      θ_run (Cert.KFfiIdeal.defs (F := Ideal)) (onTc (τ := Cert.KFfiIdeal.τ) (Cert.KFfiIdeal.main (F := Ideal))) ⟨m, fun _ => 0, g⟩ (fun r => ∀ c : Dev Cert.KFfiIdeal.nD,
          r.2.mem ((c.tc : Thread Cert.KFfiIdeal.nD Cert.KFfiIdeal.τ).loc Cert.KFfiIdeal.main_v0_0) = v0 c
          ∧ r.2.mem ((c.tc : Thread Cert.KFfiIdeal.nD Cert.KFfiIdeal.τ).loc Cert.KFfiIdeal.main_v0_1) = v1 c
          ∧ r.2.mem ((c.tc : Thread Cert.KFfiIdeal.nD Cert.KFfiIdeal.τ).loc Cert.KFfiIdeal.main_v0_2) = v2 c
          ∧ r.2.mem ((c.tc : Thread Cert.KFfiIdeal.nD Cert.KFfiIdeal.τ).loc Cert.KFfiIdeal.main_arg0) = m ((c.tc : Thread Cert.KFfiIdeal.nD Cert.KFfiIdeal.τ).loc Cert.KFfiIdeal.main_arg0)
          ∧ r.2.mem ((c.tc : Thread Cert.KFfiIdeal.nD Cert.KFfiIdeal.τ).loc Cert.KFfiIdeal.main_arg1) = m ((c.tc : Thread Cert.KFfiIdeal.nD Cert.KFfiIdeal.τ).loc Cert.KFfiIdeal.main_arg1))
      ∧ θ_run (Cert.RFfiIdeal.defs (F := Ideal)) (onTc (τ := Cert.RFfiIdeal.τ) (Cert.RFfiIdeal.main (F := Ideal))) ⟨m', fun _ => 0, g'⟩ (fun r => ∀ c : Dev Cert.RFfiIdeal.nD,
          r.2.mem ((c.tc : Thread Cert.RFfiIdeal.nD Cert.RFfiIdeal.τ).loc Cert.RFfiIdeal.main_v10) = v0 c
          ∧ r.2.mem ((c.tc : Thread Cert.RFfiIdeal.nD Cert.RFfiIdeal.τ).loc Cert.RFfiIdeal.main_v11) = v1 c
          ∧ r.2.mem ((c.tc : Thread Cert.RFfiIdeal.nD Cert.RFfiIdeal.τ).loc Cert.RFfiIdeal.main_v13) = v2 c
          ∧ r.2.mem ((c.tc : Thread Cert.RFfiIdeal.nD Cert.RFfiIdeal.τ).loc Cert.RFfiIdeal.main_arg0) = m' ((c.tc : Thread Cert.RFfiIdeal.nD Cert.RFfiIdeal.τ).loc Cert.RFfiIdeal.main_arg0)
          ∧ r.2.mem ((c.tc : Thread Cert.RFfiIdeal.nD Cert.RFfiIdeal.τ).loc Cert.RFfiIdeal.main_arg1) = m' ((c.tc : Thread Cert.RFfiIdeal.nD Cert.RFfiIdeal.τ).loc Cert.RFfiIdeal.main_arg1))

def preserves_KRes_KResIdeal : Prop :=
  True

def algebraic_KResIdeal_RResIdeal [hKResIdeal : Cert.KResIdeal.Facts] [hRResIdeal : Cert.RResIdeal.Facts] : Prop :=
  ∀ (m : (ℓ : Loc Cert.KResIdeal.nD Cert.KResIdeal.τ Cert.KResIdeal.sig) → Buf (Elt Ideal) ℓ) (g : Dev Cert.KResIdeal.nD → PrngReg)
    (m' : (ℓ : Loc Cert.RResIdeal.nD Cert.RResIdeal.τ Cert.RResIdeal.sig) → Buf (Elt Ideal) ℓ) (g' : Dev Cert.RResIdeal.nD → PrngReg), Pre_KResIdeal m →
    (∀ c : Dev Cert.KResIdeal.nD,
      m' ((c.tc : Thread Cert.RResIdeal.nD Cert.RResIdeal.τ).loc Cert.RResIdeal.main_arg0) = m ((c.tc : Thread Cert.KResIdeal.nD Cert.KResIdeal.τ).loc Cert.KResIdeal.main_arg0)
      ∧ m' ((c.tc : Thread Cert.RResIdeal.nD Cert.RResIdeal.τ).loc Cert.RResIdeal.main_arg1) = m ((c.tc : Thread Cert.KResIdeal.nD Cert.KResIdeal.τ).loc Cert.KResIdeal.main_arg1)
      ∧ m' ((c.tc : Thread Cert.RResIdeal.nD Cert.RResIdeal.τ).loc Cert.RResIdeal.main_arg2) = m ((c.tc : Thread Cert.KResIdeal.nD Cert.KResIdeal.τ).loc Cert.KResIdeal.main_arg2)) →
    ∃ (v0 : (c : Dev Cert.KResIdeal.nD) → Buf (Elt Ideal) ((c.tc : Thread Cert.KResIdeal.nD Cert.KResIdeal.τ).loc Cert.KResIdeal.main_v0)),
      θ_run (Cert.KResIdeal.defs (F := Ideal)) (onTc (τ := Cert.KResIdeal.τ) (Cert.KResIdeal.main (F := Ideal))) ⟨m, fun _ => 0, g⟩ (fun r => ∀ c : Dev Cert.KResIdeal.nD,
          r.2.mem ((c.tc : Thread Cert.KResIdeal.nD Cert.KResIdeal.τ).loc Cert.KResIdeal.main_v0) = v0 c
          ∧ r.2.mem ((c.tc : Thread Cert.KResIdeal.nD Cert.KResIdeal.τ).loc Cert.KResIdeal.main_arg0) = m ((c.tc : Thread Cert.KResIdeal.nD Cert.KResIdeal.τ).loc Cert.KResIdeal.main_arg0)
          ∧ r.2.mem ((c.tc : Thread Cert.KResIdeal.nD Cert.KResIdeal.τ).loc Cert.KResIdeal.main_arg1) = m ((c.tc : Thread Cert.KResIdeal.nD Cert.KResIdeal.τ).loc Cert.KResIdeal.main_arg1)
          ∧ r.2.mem ((c.tc : Thread Cert.KResIdeal.nD Cert.KResIdeal.τ).loc Cert.KResIdeal.main_arg2) = m ((c.tc : Thread Cert.KResIdeal.nD Cert.KResIdeal.τ).loc Cert.KResIdeal.main_arg2))
      ∧ θ_run (Cert.RResIdeal.defs (F := Ideal)) (onTc (τ := Cert.RResIdeal.τ) (Cert.RResIdeal.main (F := Ideal))) ⟨m', fun _ => 0, g'⟩ (fun r => ∀ c : Dev Cert.RResIdeal.nD,
          r.2.mem ((c.tc : Thread Cert.RResIdeal.nD Cert.RResIdeal.τ).loc Cert.RResIdeal.main_v5) = v0 c
          ∧ r.2.mem ((c.tc : Thread Cert.RResIdeal.nD Cert.RResIdeal.τ).loc Cert.RResIdeal.main_arg0) = m' ((c.tc : Thread Cert.RResIdeal.nD Cert.RResIdeal.τ).loc Cert.RResIdeal.main_arg0)
          ∧ r.2.mem ((c.tc : Thread Cert.RResIdeal.nD Cert.RResIdeal.τ).loc Cert.RResIdeal.main_arg1) = m' ((c.tc : Thread Cert.RResIdeal.nD Cert.RResIdeal.τ).loc Cert.RResIdeal.main_arg1)
          ∧ r.2.mem ((c.tc : Thread Cert.RResIdeal.nD Cert.RResIdeal.τ).loc Cert.RResIdeal.main_arg2) = m' ((c.tc : Thread Cert.RResIdeal.nD Cert.RResIdeal.τ).loc Cert.RResIdeal.main_arg2))

def preserves_KProj_KProjIdeal : Prop :=
  True

def algebraic_KProjIdeal_RProjIdeal [hKProjIdeal : Cert.KProjIdeal.Facts] [hRProjIdeal : Cert.RProjIdeal.Facts] : Prop :=
  ∀ (m : (ℓ : Loc Cert.KProjIdeal.nD Cert.KProjIdeal.τ Cert.KProjIdeal.sig) → Buf (Elt Ideal) ℓ) (g : Dev Cert.KProjIdeal.nD → PrngReg)
    (m' : (ℓ : Loc Cert.RProjIdeal.nD Cert.RProjIdeal.τ Cert.RProjIdeal.sig) → Buf (Elt Ideal) ℓ) (g' : Dev Cert.RProjIdeal.nD → PrngReg), Pre_KProjIdeal m →
    (∀ c : Dev Cert.KProjIdeal.nD,
      m' ((c.tc : Thread Cert.RProjIdeal.nD Cert.RProjIdeal.τ).loc Cert.RProjIdeal.main_arg0) = m ((c.tc : Thread Cert.KProjIdeal.nD Cert.KProjIdeal.τ).loc Cert.KProjIdeal.main_arg0)
      ∧ m' ((c.tc : Thread Cert.RProjIdeal.nD Cert.RProjIdeal.τ).loc Cert.RProjIdeal.main_arg1) = m ((c.tc : Thread Cert.KProjIdeal.nD Cert.KProjIdeal.τ).loc Cert.KProjIdeal.main_arg1)) →
    ∃ (v0 : (c : Dev Cert.KProjIdeal.nD) → Buf (Elt Ideal) ((c.tc : Thread Cert.KProjIdeal.nD Cert.KProjIdeal.τ).loc Cert.KProjIdeal.main_v0)),
      θ_run (Cert.KProjIdeal.defs (F := Ideal)) (onTc (τ := Cert.KProjIdeal.τ) (Cert.KProjIdeal.main (F := Ideal))) ⟨m, fun _ => 0, g⟩ (fun r => ∀ c : Dev Cert.KProjIdeal.nD,
          r.2.mem ((c.tc : Thread Cert.KProjIdeal.nD Cert.KProjIdeal.τ).loc Cert.KProjIdeal.main_v0) = v0 c
          ∧ r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
          ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1))
      ∧ θ_run (Cert.RProjIdeal.defs (F := Ideal)) (onTc (τ := Cert.RProjIdeal.τ) (Cert.RProjIdeal.main (F := Ideal))) ⟨m', fun _ => 0, g'⟩ (fun r => ∀ c : Dev Cert.RProjIdeal.nD,
          r.2.mem ((c.tc : Thread Cert.RProjIdeal.nD Cert.RProjIdeal.τ).loc Cert.RProjIdeal.main_v2) = v0 c
          ∧ r.2.mem ((c.tc : Thread Cert.RProjIdeal.nD Cert.RProjIdeal.τ).loc Cert.RProjIdeal.main_arg0) = m' ((c.tc : Thread Cert.RProjIdeal.nD Cert.RProjIdeal.τ).loc Cert.RProjIdeal.main_arg0)
          ∧ r.2.mem ((c.tc : Thread Cert.RProjIdeal.nD Cert.RProjIdeal.τ).loc Cert.RProjIdeal.main_arg1) = m' ((c.tc : Thread Cert.RProjIdeal.nD Cert.RProjIdeal.τ).loc Cert.RProjIdeal.main_arg1))

def preserves_KGf_KGfIdeal : Prop :=
  True

def algebraic_KGfIdeal_RGfIdeal [hKGfIdeal : Cert.KGfIdeal.Facts] [hRGfIdeal : Cert.RGfIdeal.Facts] : Prop :=
  ∀ (m : (ℓ : Loc Cert.KGfIdeal.nD Cert.KGfIdeal.τ Cert.KGfIdeal.sig) → Buf (Elt Ideal) ℓ) (g : Dev Cert.KGfIdeal.nD → PrngReg)
    (m' : (ℓ : Loc Cert.RGfIdeal.nD Cert.RGfIdeal.τ Cert.RGfIdeal.sig) → Buf (Elt Ideal) ℓ) (g' : Dev Cert.RGfIdeal.nD → PrngReg), Pre_KGfIdeal m →
    (∀ c : Dev Cert.KGfIdeal.nD,
      m' ((c.tc : Thread Cert.RGfIdeal.nD Cert.RGfIdeal.τ).loc Cert.RGfIdeal.main_arg0) = m ((c.tc : Thread Cert.KGfIdeal.nD Cert.KGfIdeal.τ).loc Cert.KGfIdeal.main_arg0)
      ∧ m' ((c.tc : Thread Cert.RGfIdeal.nD Cert.RGfIdeal.τ).loc Cert.RGfIdeal.main_arg1) = m ((c.tc : Thread Cert.KGfIdeal.nD Cert.KGfIdeal.τ).loc Cert.KGfIdeal.main_arg1)
      ∧ m' ((c.tc : Thread Cert.RGfIdeal.nD Cert.RGfIdeal.τ).loc Cert.RGfIdeal.main_arg2) = m ((c.tc : Thread Cert.KGfIdeal.nD Cert.KGfIdeal.τ).loc Cert.KGfIdeal.main_arg2)
      ∧ m' ((c.tc : Thread Cert.RGfIdeal.nD Cert.RGfIdeal.τ).loc Cert.RGfIdeal.main_arg3) = m ((c.tc : Thread Cert.KGfIdeal.nD Cert.KGfIdeal.τ).loc Cert.KGfIdeal.main_arg3)
      ∧ m' ((c.tc : Thread Cert.RGfIdeal.nD Cert.RGfIdeal.τ).loc Cert.RGfIdeal.main_arg4) = m ((c.tc : Thread Cert.KGfIdeal.nD Cert.KGfIdeal.τ).loc Cert.KGfIdeal.main_arg4)
      ∧ m' ((c.tc : Thread Cert.RGfIdeal.nD Cert.RGfIdeal.τ).loc Cert.RGfIdeal.main_arg5) = m ((c.tc : Thread Cert.KGfIdeal.nD Cert.KGfIdeal.τ).loc Cert.KGfIdeal.main_arg5)
      ∧ m' ((c.tc : Thread Cert.RGfIdeal.nD Cert.RGfIdeal.τ).loc Cert.RGfIdeal.main_arg6) = m ((c.tc : Thread Cert.KGfIdeal.nD Cert.KGfIdeal.τ).loc Cert.KGfIdeal.main_arg6)) →
    ∃ (v0 : (c : Dev Cert.KGfIdeal.nD) → Buf (Elt Ideal) ((c.tc : Thread Cert.KGfIdeal.nD Cert.KGfIdeal.τ).loc Cert.KGfIdeal.main_v0_0)) (v1 : (c : Dev Cert.KGfIdeal.nD) → Buf (Elt Ideal) ((c.tc : Thread Cert.KGfIdeal.nD Cert.KGfIdeal.τ).loc Cert.KGfIdeal.main_v0_1)) (v2 : (c : Dev Cert.KGfIdeal.nD) → Buf (Elt Ideal) ((c.tc : Thread Cert.KGfIdeal.nD Cert.KGfIdeal.τ).loc Cert.KGfIdeal.main_v0_2)) (v3 : (c : Dev Cert.KGfIdeal.nD) → Buf (Elt Ideal) ((c.tc : Thread Cert.KGfIdeal.nD Cert.KGfIdeal.τ).loc Cert.KGfIdeal.main_v0_3)) (v4 : (c : Dev Cert.KGfIdeal.nD) → Buf (Elt Ideal) ((c.tc : Thread Cert.KGfIdeal.nD Cert.KGfIdeal.τ).loc Cert.KGfIdeal.main_v0_4)) (v5 : (c : Dev Cert.KGfIdeal.nD) → Buf (Elt Ideal) ((c.tc : Thread Cert.KGfIdeal.nD Cert.KGfIdeal.τ).loc Cert.KGfIdeal.main_v0_5)),
      θ_run (Cert.KGfIdeal.defs (F := Ideal)) (onTc (τ := Cert.KGfIdeal.τ) (Cert.KGfIdeal.main (F := Ideal))) ⟨m, fun _ => 0, g⟩ (fun r => ∀ c : Dev Cert.KGfIdeal.nD,
          r.2.mem ((c.tc : Thread Cert.KGfIdeal.nD Cert.KGfIdeal.τ).loc Cert.KGfIdeal.main_v0_0) = v0 c
          ∧ r.2.mem ((c.tc : Thread Cert.KGfIdeal.nD Cert.KGfIdeal.τ).loc Cert.KGfIdeal.main_v0_1) = v1 c
          ∧ r.2.mem ((c.tc : Thread Cert.KGfIdeal.nD Cert.KGfIdeal.τ).loc Cert.KGfIdeal.main_v0_2) = v2 c
          ∧ r.2.mem ((c.tc : Thread Cert.KGfIdeal.nD Cert.KGfIdeal.τ).loc Cert.KGfIdeal.main_v0_3) = v3 c
          ∧ r.2.mem ((c.tc : Thread Cert.KGfIdeal.nD Cert.KGfIdeal.τ).loc Cert.KGfIdeal.main_v0_4) = v4 c
          ∧ r.2.mem ((c.tc : Thread Cert.KGfIdeal.nD Cert.KGfIdeal.τ).loc Cert.KGfIdeal.main_v0_5) = v5 c
          ∧ r.2.mem ((c.tc : Thread Cert.KGfIdeal.nD Cert.KGfIdeal.τ).loc Cert.KGfIdeal.main_arg0) = m ((c.tc : Thread Cert.KGfIdeal.nD Cert.KGfIdeal.τ).loc Cert.KGfIdeal.main_arg0)
          ∧ r.2.mem ((c.tc : Thread Cert.KGfIdeal.nD Cert.KGfIdeal.τ).loc Cert.KGfIdeal.main_arg1) = m ((c.tc : Thread Cert.KGfIdeal.nD Cert.KGfIdeal.τ).loc Cert.KGfIdeal.main_arg1)
          ∧ r.2.mem ((c.tc : Thread Cert.KGfIdeal.nD Cert.KGfIdeal.τ).loc Cert.KGfIdeal.main_arg2) = m ((c.tc : Thread Cert.KGfIdeal.nD Cert.KGfIdeal.τ).loc Cert.KGfIdeal.main_arg2)
          ∧ r.2.mem ((c.tc : Thread Cert.KGfIdeal.nD Cert.KGfIdeal.τ).loc Cert.KGfIdeal.main_arg3) = m ((c.tc : Thread Cert.KGfIdeal.nD Cert.KGfIdeal.τ).loc Cert.KGfIdeal.main_arg3)
          ∧ r.2.mem ((c.tc : Thread Cert.KGfIdeal.nD Cert.KGfIdeal.τ).loc Cert.KGfIdeal.main_arg4) = m ((c.tc : Thread Cert.KGfIdeal.nD Cert.KGfIdeal.τ).loc Cert.KGfIdeal.main_arg4)
          ∧ r.2.mem ((c.tc : Thread Cert.KGfIdeal.nD Cert.KGfIdeal.τ).loc Cert.KGfIdeal.main_arg5) = m ((c.tc : Thread Cert.KGfIdeal.nD Cert.KGfIdeal.τ).loc Cert.KGfIdeal.main_arg5)
          ∧ r.2.mem ((c.tc : Thread Cert.KGfIdeal.nD Cert.KGfIdeal.τ).loc Cert.KGfIdeal.main_arg6) = m ((c.tc : Thread Cert.KGfIdeal.nD Cert.KGfIdeal.τ).loc Cert.KGfIdeal.main_arg6))
      ∧ θ_run (Cert.RGfIdeal.defs (F := Ideal)) (onTc (τ := Cert.RGfIdeal.τ) (Cert.RGfIdeal.main (F := Ideal))) ⟨m', fun _ => 0, g'⟩ (fun r => ∀ c : Dev Cert.RGfIdeal.nD,
          r.2.mem ((c.tc : Thread Cert.RGfIdeal.nD Cert.RGfIdeal.τ).loc Cert.RGfIdeal.main_v25) = v0 c
          ∧ r.2.mem ((c.tc : Thread Cert.RGfIdeal.nD Cert.RGfIdeal.τ).loc Cert.RGfIdeal.main_v27) = v1 c
          ∧ r.2.mem ((c.tc : Thread Cert.RGfIdeal.nD Cert.RGfIdeal.τ).loc Cert.RGfIdeal.main_v28) = v2 c
          ∧ r.2.mem ((c.tc : Thread Cert.RGfIdeal.nD Cert.RGfIdeal.τ).loc Cert.RGfIdeal.main_v29) = v3 c
          ∧ r.2.mem ((c.tc : Thread Cert.RGfIdeal.nD Cert.RGfIdeal.τ).loc Cert.RGfIdeal.main_v30) = v4 c
          ∧ r.2.mem ((c.tc : Thread Cert.RGfIdeal.nD Cert.RGfIdeal.τ).loc Cert.RGfIdeal.main_v31) = v5 c
          ∧ r.2.mem ((c.tc : Thread Cert.RGfIdeal.nD Cert.RGfIdeal.τ).loc Cert.RGfIdeal.main_arg0) = m' ((c.tc : Thread Cert.RGfIdeal.nD Cert.RGfIdeal.τ).loc Cert.RGfIdeal.main_arg0)
          ∧ r.2.mem ((c.tc : Thread Cert.RGfIdeal.nD Cert.RGfIdeal.τ).loc Cert.RGfIdeal.main_arg1) = m' ((c.tc : Thread Cert.RGfIdeal.nD Cert.RGfIdeal.τ).loc Cert.RGfIdeal.main_arg1)
          ∧ r.2.mem ((c.tc : Thread Cert.RGfIdeal.nD Cert.RGfIdeal.τ).loc Cert.RGfIdeal.main_arg2) = m' ((c.tc : Thread Cert.RGfIdeal.nD Cert.RGfIdeal.τ).loc Cert.RGfIdeal.main_arg2)
          ∧ r.2.mem ((c.tc : Thread Cert.RGfIdeal.nD Cert.RGfIdeal.τ).loc Cert.RGfIdeal.main_arg3) = m' ((c.tc : Thread Cert.RGfIdeal.nD Cert.RGfIdeal.τ).loc Cert.RGfIdeal.main_arg3)
          ∧ r.2.mem ((c.tc : Thread Cert.RGfIdeal.nD Cert.RGfIdeal.τ).loc Cert.RGfIdeal.main_arg4) = m' ((c.tc : Thread Cert.RGfIdeal.nD Cert.RGfIdeal.τ).loc Cert.RGfIdeal.main_arg4)
          ∧ r.2.mem ((c.tc : Thread Cert.RGfIdeal.nD Cert.RGfIdeal.τ).loc Cert.RGfIdeal.main_arg5) = m' ((c.tc : Thread Cert.RGfIdeal.nD Cert.RGfIdeal.τ).loc Cert.RGfIdeal.main_arg5)
          ∧ r.2.mem ((c.tc : Thread Cert.RGfIdeal.nD Cert.RGfIdeal.τ).loc Cert.RGfIdeal.main_arg6) = m' ((c.tc : Thread Cert.RGfIdeal.nD Cert.RGfIdeal.τ).loc Cert.RGfIdeal.main_arg6))

def preserves_KRms_KRmsIdeal : Prop :=
  True

def algebraic_KRmsIdeal_RRmsIdeal [hKRmsIdeal : Cert.KRmsIdeal.Facts] [hRRmsIdeal : Cert.RRmsIdeal.Facts] : Prop :=
  ∀ (m : (ℓ : Loc Cert.KRmsIdeal.nD Cert.KRmsIdeal.τ Cert.KRmsIdeal.sig) → Buf (Elt Ideal) ℓ) (g : Dev Cert.KRmsIdeal.nD → PrngReg)
    (m' : (ℓ : Loc Cert.RRmsIdeal.nD Cert.RRmsIdeal.τ Cert.RRmsIdeal.sig) → Buf (Elt Ideal) ℓ) (g' : Dev Cert.RRmsIdeal.nD → PrngReg), Pre_KRmsIdeal m →
    (∀ c : Dev Cert.KRmsIdeal.nD,
      m' ((c.tc : Thread Cert.RRmsIdeal.nD Cert.RRmsIdeal.τ).loc Cert.RRmsIdeal.main_arg0) = m ((c.tc : Thread Cert.KRmsIdeal.nD Cert.KRmsIdeal.τ).loc Cert.KRmsIdeal.main_arg0)
      ∧ m' ((c.tc : Thread Cert.RRmsIdeal.nD Cert.RRmsIdeal.τ).loc Cert.RRmsIdeal.main_arg1) = m ((c.tc : Thread Cert.KRmsIdeal.nD Cert.KRmsIdeal.τ).loc Cert.KRmsIdeal.main_arg1)) →
    ∃ (v0 : (c : Dev Cert.KRmsIdeal.nD) → Buf (Elt Ideal) ((c.tc : Thread Cert.KRmsIdeal.nD Cert.KRmsIdeal.τ).loc Cert.KRmsIdeal.main_v0_0)) (v1 : (c : Dev Cert.KRmsIdeal.nD) → Buf (Elt Ideal) ((c.tc : Thread Cert.KRmsIdeal.nD Cert.KRmsIdeal.τ).loc Cert.KRmsIdeal.main_v0_1)),
      θ_run (Cert.KRmsIdeal.defs (F := Ideal)) (onTc (τ := Cert.KRmsIdeal.τ) (Cert.KRmsIdeal.main (F := Ideal))) ⟨m, fun _ => 0, g⟩ (fun r => ∀ c : Dev Cert.KRmsIdeal.nD,
          r.2.mem ((c.tc : Thread Cert.KRmsIdeal.nD Cert.KRmsIdeal.τ).loc Cert.KRmsIdeal.main_v0_0) = v0 c
          ∧ r.2.mem ((c.tc : Thread Cert.KRmsIdeal.nD Cert.KRmsIdeal.τ).loc Cert.KRmsIdeal.main_v0_1) = v1 c
          ∧ r.2.mem ((c.tc : Thread Cert.KRmsIdeal.nD Cert.KRmsIdeal.τ).loc Cert.KRmsIdeal.main_arg0) = m ((c.tc : Thread Cert.KRmsIdeal.nD Cert.KRmsIdeal.τ).loc Cert.KRmsIdeal.main_arg0)
          ∧ r.2.mem ((c.tc : Thread Cert.KRmsIdeal.nD Cert.KRmsIdeal.τ).loc Cert.KRmsIdeal.main_arg1) = m ((c.tc : Thread Cert.KRmsIdeal.nD Cert.KRmsIdeal.τ).loc Cert.KRmsIdeal.main_arg1))
      ∧ θ_run (Cert.RRmsIdeal.defs (F := Ideal)) (onTc (τ := Cert.RRmsIdeal.τ) (Cert.RRmsIdeal.main (F := Ideal))) ⟨m', fun _ => 0, g'⟩ (fun r => ∀ c : Dev Cert.RRmsIdeal.nD,
          r.2.mem ((c.tc : Thread Cert.RRmsIdeal.nD Cert.RRmsIdeal.τ).loc Cert.RRmsIdeal.main_v12) = v0 c
          ∧ r.2.mem ((c.tc : Thread Cert.RRmsIdeal.nD Cert.RRmsIdeal.τ).loc Cert.RRmsIdeal.main_v14) = v1 c
          ∧ r.2.mem ((c.tc : Thread Cert.RRmsIdeal.nD Cert.RRmsIdeal.τ).loc Cert.RRmsIdeal.main_arg0) = m' ((c.tc : Thread Cert.RRmsIdeal.nD Cert.RRmsIdeal.τ).loc Cert.RRmsIdeal.main_arg0)
          ∧ r.2.mem ((c.tc : Thread Cert.RRmsIdeal.nD Cert.RRmsIdeal.τ).loc Cert.RRmsIdeal.main_arg1) = m' ((c.tc : Thread Cert.RRmsIdeal.nD Cert.RRmsIdeal.τ).loc Cert.RRmsIdeal.main_arg1))

def preserves_KFf_KFfIdeal : Prop :=
  IdealRules.named_const.Statement Cert.KFfIdeal.κ "mask" .f32 0xF149F2CA#32 ⊥

def algebraic_KFfIdeal_RFfIdeal_pre_ff_finite [hKFfIdeal : Cert.KFfIdeal.Facts] [hRFfIdeal : Cert.RFfIdeal.Facts] [hPre_ff_finite : Cert.Pre_ff_finite.Facts] : Prop :=
  ∀ (m : (ℓ : Loc Cert.KFfIdeal.nD Cert.KFfIdeal.τ Cert.KFfIdeal.sig) → Buf (Elt Ideal) ℓ) (g : Dev Cert.KFfIdeal.nD → PrngReg)
    (m' : (ℓ : Loc Cert.RFfIdeal.nD Cert.RFfIdeal.τ Cert.RFfIdeal.sig) → Buf (Elt Ideal) ℓ) (g' : Dev Cert.RFfIdeal.nD → PrngReg), Pre_KFfIdeal_ff_finite m →
    (∀ c : Dev Cert.KFfIdeal.nD,
      m' ((c.tc : Thread Cert.RFfIdeal.nD Cert.RFfIdeal.τ).loc Cert.RFfIdeal.main_arg0) = m ((c.tc : Thread Cert.KFfIdeal.nD Cert.KFfIdeal.τ).loc Cert.KFfIdeal.main_arg0)
      ∧ m' ((c.tc : Thread Cert.RFfIdeal.nD Cert.RFfIdeal.τ).loc Cert.RFfIdeal.main_arg1) = m ((c.tc : Thread Cert.KFfIdeal.nD Cert.KFfIdeal.τ).loc Cert.KFfIdeal.main_arg1)
      ∧ m' ((c.tc : Thread Cert.RFfIdeal.nD Cert.RFfIdeal.τ).loc Cert.RFfIdeal.main_arg2) = m ((c.tc : Thread Cert.KFfIdeal.nD Cert.KFfIdeal.τ).loc Cert.KFfIdeal.main_arg2)
      ∧ m' ((c.tc : Thread Cert.RFfIdeal.nD Cert.RFfIdeal.τ).loc Cert.RFfIdeal.main_arg3) = m ((c.tc : Thread Cert.KFfIdeal.nD Cert.KFfIdeal.τ).loc Cert.KFfIdeal.main_arg3)
      ∧ m' ((c.tc : Thread Cert.RFfIdeal.nD Cert.RFfIdeal.τ).loc Cert.RFfIdeal.main_arg4) = m ((c.tc : Thread Cert.KFfIdeal.nD Cert.KFfIdeal.τ).loc Cert.KFfIdeal.main_arg4)
      ∧ m' ((c.tc : Thread Cert.RFfIdeal.nD Cert.RFfIdeal.τ).loc Cert.RFfIdeal.main_arg5) = m ((c.tc : Thread Cert.KFfIdeal.nD Cert.KFfIdeal.τ).loc Cert.KFfIdeal.main_arg5)
      ∧ m' ((c.tc : Thread Cert.RFfIdeal.nD Cert.RFfIdeal.τ).loc Cert.RFfIdeal.main_arg6) = m ((c.tc : Thread Cert.KFfIdeal.nD Cert.KFfIdeal.τ).loc Cert.KFfIdeal.main_arg6)) →
    ∃ (v0 : (c : Dev Cert.KFfIdeal.nD) → Buf (Elt Ideal) ((c.tc : Thread Cert.KFfIdeal.nD Cert.KFfIdeal.τ).loc Cert.KFfIdeal.main_v0_0)) (v1 : (c : Dev Cert.KFfIdeal.nD) → Buf (Elt Ideal) ((c.tc : Thread Cert.KFfIdeal.nD Cert.KFfIdeal.τ).loc Cert.KFfIdeal.main_v0_1)),
      θ_run (Cert.KFfIdeal.defs (F := Ideal)) (onTc (τ := Cert.KFfIdeal.τ) (Cert.KFfIdeal.main (F := Ideal))) ⟨m, fun _ => 0, g⟩ (fun r => ∀ c : Dev Cert.KFfIdeal.nD,
          r.2.mem ((c.tc : Thread Cert.KFfIdeal.nD Cert.KFfIdeal.τ).loc Cert.KFfIdeal.main_v0_0) = v0 c
          ∧ r.2.mem ((c.tc : Thread Cert.KFfIdeal.nD Cert.KFfIdeal.τ).loc Cert.KFfIdeal.main_v0_1) = v1 c
          ∧ r.2.mem ((c.tc : Thread Cert.KFfIdeal.nD Cert.KFfIdeal.τ).loc Cert.KFfIdeal.main_arg0) = m ((c.tc : Thread Cert.KFfIdeal.nD Cert.KFfIdeal.τ).loc Cert.KFfIdeal.main_arg0)
          ∧ r.2.mem ((c.tc : Thread Cert.KFfIdeal.nD Cert.KFfIdeal.τ).loc Cert.KFfIdeal.main_arg1) = m ((c.tc : Thread Cert.KFfIdeal.nD Cert.KFfIdeal.τ).loc Cert.KFfIdeal.main_arg1)
          ∧ r.2.mem ((c.tc : Thread Cert.KFfIdeal.nD Cert.KFfIdeal.τ).loc Cert.KFfIdeal.main_arg2) = m ((c.tc : Thread Cert.KFfIdeal.nD Cert.KFfIdeal.τ).loc Cert.KFfIdeal.main_arg2)
          ∧ r.2.mem ((c.tc : Thread Cert.KFfIdeal.nD Cert.KFfIdeal.τ).loc Cert.KFfIdeal.main_arg3) = m ((c.tc : Thread Cert.KFfIdeal.nD Cert.KFfIdeal.τ).loc Cert.KFfIdeal.main_arg3)
          ∧ r.2.mem ((c.tc : Thread Cert.KFfIdeal.nD Cert.KFfIdeal.τ).loc Cert.KFfIdeal.main_arg4) = m ((c.tc : Thread Cert.KFfIdeal.nD Cert.KFfIdeal.τ).loc Cert.KFfIdeal.main_arg4)
          ∧ r.2.mem ((c.tc : Thread Cert.KFfIdeal.nD Cert.KFfIdeal.τ).loc Cert.KFfIdeal.main_arg5) = m ((c.tc : Thread Cert.KFfIdeal.nD Cert.KFfIdeal.τ).loc Cert.KFfIdeal.main_arg5)
          ∧ r.2.mem ((c.tc : Thread Cert.KFfIdeal.nD Cert.KFfIdeal.τ).loc Cert.KFfIdeal.main_arg6) = m ((c.tc : Thread Cert.KFfIdeal.nD Cert.KFfIdeal.τ).loc Cert.KFfIdeal.main_arg6))
      ∧ θ_run (Cert.RFfIdeal.defs (F := Ideal)) (onTc (τ := Cert.RFfIdeal.τ) (Cert.RFfIdeal.main (F := Ideal))) ⟨m', fun _ => 0, g'⟩ (fun r => ∀ c : Dev Cert.RFfIdeal.nD,
          r.2.mem ((c.tc : Thread Cert.RFfIdeal.nD Cert.RFfIdeal.τ).loc Cert.RFfIdeal.main_v49) = v0 c
          ∧ r.2.mem ((c.tc : Thread Cert.RFfIdeal.nD Cert.RFfIdeal.τ).loc Cert.RFfIdeal.main_v48) = v1 c
          ∧ r.2.mem ((c.tc : Thread Cert.RFfIdeal.nD Cert.RFfIdeal.τ).loc Cert.RFfIdeal.main_arg0) = m' ((c.tc : Thread Cert.RFfIdeal.nD Cert.RFfIdeal.τ).loc Cert.RFfIdeal.main_arg0)
          ∧ r.2.mem ((c.tc : Thread Cert.RFfIdeal.nD Cert.RFfIdeal.τ).loc Cert.RFfIdeal.main_arg1) = m' ((c.tc : Thread Cert.RFfIdeal.nD Cert.RFfIdeal.τ).loc Cert.RFfIdeal.main_arg1)
          ∧ r.2.mem ((c.tc : Thread Cert.RFfIdeal.nD Cert.RFfIdeal.τ).loc Cert.RFfIdeal.main_arg2) = m' ((c.tc : Thread Cert.RFfIdeal.nD Cert.RFfIdeal.τ).loc Cert.RFfIdeal.main_arg2)
          ∧ r.2.mem ((c.tc : Thread Cert.RFfIdeal.nD Cert.RFfIdeal.τ).loc Cert.RFfIdeal.main_arg3) = m' ((c.tc : Thread Cert.RFfIdeal.nD Cert.RFfIdeal.τ).loc Cert.RFfIdeal.main_arg3)
          ∧ r.2.mem ((c.tc : Thread Cert.RFfIdeal.nD Cert.RFfIdeal.τ).loc Cert.RFfIdeal.main_arg4) = m' ((c.tc : Thread Cert.RFfIdeal.nD Cert.RFfIdeal.τ).loc Cert.RFfIdeal.main_arg4)
          ∧ r.2.mem ((c.tc : Thread Cert.RFfIdeal.nD Cert.RFfIdeal.τ).loc Cert.RFfIdeal.main_arg5) = m' ((c.tc : Thread Cert.RFfIdeal.nD Cert.RFfIdeal.τ).loc Cert.RFfIdeal.main_arg5)
          ∧ r.2.mem ((c.tc : Thread Cert.RFfIdeal.nD Cert.RFfIdeal.τ).loc Cert.RFfIdeal.main_arg6) = m' ((c.tc : Thread Cert.RFfIdeal.nD Cert.RFfIdeal.τ).loc Cert.RFfIdeal.main_arg6))

def preserves_KSf_KSfIdeal : Prop :=
  IdealRules.named_const.Statement Cert.KSfIdeal.κ "mask" .f32 0xF149F2CA#32 ⊥

def algebraic_KSfIdeal_RSfIdeal_pre_sf_finite [hKSfIdeal : Cert.KSfIdeal.Facts] [hRSfIdeal : Cert.RSfIdeal.Facts] [hPre_sf_finite : Cert.Pre_sf_finite.Facts] : Prop :=
  ∀ (m : (ℓ : Loc Cert.KSfIdeal.nD Cert.KSfIdeal.τ Cert.KSfIdeal.sig) → Buf (Elt Ideal) ℓ) (g : Dev Cert.KSfIdeal.nD → PrngReg)
    (m' : (ℓ : Loc Cert.RSfIdeal.nD Cert.RSfIdeal.τ Cert.RSfIdeal.sig) → Buf (Elt Ideal) ℓ) (g' : Dev Cert.RSfIdeal.nD → PrngReg), Pre_KSfIdeal_sf_finite m →
    (∀ c : Dev Cert.KSfIdeal.nD,
      m' ((c.tc : Thread Cert.RSfIdeal.nD Cert.RSfIdeal.τ).loc Cert.RSfIdeal.main_arg0) = m ((c.tc : Thread Cert.KSfIdeal.nD Cert.KSfIdeal.τ).loc Cert.KSfIdeal.main_arg0)
      ∧ m' ((c.tc : Thread Cert.RSfIdeal.nD Cert.RSfIdeal.τ).loc Cert.RSfIdeal.main_arg1) = m ((c.tc : Thread Cert.KSfIdeal.nD Cert.KSfIdeal.τ).loc Cert.KSfIdeal.main_arg1)
      ∧ m' ((c.tc : Thread Cert.RSfIdeal.nD Cert.RSfIdeal.τ).loc Cert.RSfIdeal.main_arg2) = m ((c.tc : Thread Cert.KSfIdeal.nD Cert.KSfIdeal.τ).loc Cert.KSfIdeal.main_arg2)
      ∧ m' ((c.tc : Thread Cert.RSfIdeal.nD Cert.RSfIdeal.τ).loc Cert.RSfIdeal.main_arg3) = m ((c.tc : Thread Cert.KSfIdeal.nD Cert.KSfIdeal.τ).loc Cert.KSfIdeal.main_arg3)
      ∧ m' ((c.tc : Thread Cert.RSfIdeal.nD Cert.RSfIdeal.τ).loc Cert.RSfIdeal.main_arg4) = m ((c.tc : Thread Cert.KSfIdeal.nD Cert.KSfIdeal.τ).loc Cert.KSfIdeal.main_arg4)) →
    ∃ (v0 : (c : Dev Cert.KSfIdeal.nD) → Buf (Elt Ideal) ((c.tc : Thread Cert.KSfIdeal.nD Cert.KSfIdeal.τ).loc Cert.KSfIdeal.main_v0_0)) (v1 : (c : Dev Cert.KSfIdeal.nD) → Buf (Elt Ideal) ((c.tc : Thread Cert.KSfIdeal.nD Cert.KSfIdeal.τ).loc Cert.KSfIdeal.main_v0_1)),
      θ_run (Cert.KSfIdeal.defs (F := Ideal)) (onTc (τ := Cert.KSfIdeal.τ) (Cert.KSfIdeal.main (F := Ideal))) ⟨m, fun _ => 0, g⟩ (fun r => ∀ c : Dev Cert.KSfIdeal.nD,
          r.2.mem ((c.tc : Thread Cert.KSfIdeal.nD Cert.KSfIdeal.τ).loc Cert.KSfIdeal.main_v0_0) = v0 c
          ∧ r.2.mem ((c.tc : Thread Cert.KSfIdeal.nD Cert.KSfIdeal.τ).loc Cert.KSfIdeal.main_v0_1) = v1 c
          ∧ r.2.mem ((c.tc : Thread Cert.KSfIdeal.nD Cert.KSfIdeal.τ).loc Cert.KSfIdeal.main_arg0) = m ((c.tc : Thread Cert.KSfIdeal.nD Cert.KSfIdeal.τ).loc Cert.KSfIdeal.main_arg0)
          ∧ r.2.mem ((c.tc : Thread Cert.KSfIdeal.nD Cert.KSfIdeal.τ).loc Cert.KSfIdeal.main_arg1) = m ((c.tc : Thread Cert.KSfIdeal.nD Cert.KSfIdeal.τ).loc Cert.KSfIdeal.main_arg1)
          ∧ r.2.mem ((c.tc : Thread Cert.KSfIdeal.nD Cert.KSfIdeal.τ).loc Cert.KSfIdeal.main_arg2) = m ((c.tc : Thread Cert.KSfIdeal.nD Cert.KSfIdeal.τ).loc Cert.KSfIdeal.main_arg2)
          ∧ r.2.mem ((c.tc : Thread Cert.KSfIdeal.nD Cert.KSfIdeal.τ).loc Cert.KSfIdeal.main_arg3) = m ((c.tc : Thread Cert.KSfIdeal.nD Cert.KSfIdeal.τ).loc Cert.KSfIdeal.main_arg3)
          ∧ r.2.mem ((c.tc : Thread Cert.KSfIdeal.nD Cert.KSfIdeal.τ).loc Cert.KSfIdeal.main_arg4) = m ((c.tc : Thread Cert.KSfIdeal.nD Cert.KSfIdeal.τ).loc Cert.KSfIdeal.main_arg4))
      ∧ θ_run (Cert.RSfIdeal.defs (F := Ideal)) (onTc (τ := Cert.RSfIdeal.τ) (Cert.RSfIdeal.main (F := Ideal))) ⟨m', fun _ => 0, g'⟩ (fun r => ∀ c : Dev Cert.RSfIdeal.nD,
          r.2.mem ((c.tc : Thread Cert.RSfIdeal.nD Cert.RSfIdeal.τ).loc Cert.RSfIdeal.main_v110) = v0 c
          ∧ r.2.mem ((c.tc : Thread Cert.RSfIdeal.nD Cert.RSfIdeal.τ).loc Cert.RSfIdeal.main_v113) = v1 c
          ∧ r.2.mem ((c.tc : Thread Cert.RSfIdeal.nD Cert.RSfIdeal.τ).loc Cert.RSfIdeal.main_arg0) = m' ((c.tc : Thread Cert.RSfIdeal.nD Cert.RSfIdeal.τ).loc Cert.RSfIdeal.main_arg0)
          ∧ r.2.mem ((c.tc : Thread Cert.RSfIdeal.nD Cert.RSfIdeal.τ).loc Cert.RSfIdeal.main_arg1) = m' ((c.tc : Thread Cert.RSfIdeal.nD Cert.RSfIdeal.τ).loc Cert.RSfIdeal.main_arg1)
          ∧ r.2.mem ((c.tc : Thread Cert.RSfIdeal.nD Cert.RSfIdeal.τ).loc Cert.RSfIdeal.main_arg2) = m' ((c.tc : Thread Cert.RSfIdeal.nD Cert.RSfIdeal.τ).loc Cert.RSfIdeal.main_arg2)
          ∧ r.2.mem ((c.tc : Thread Cert.RSfIdeal.nD Cert.RSfIdeal.τ).loc Cert.RSfIdeal.main_arg3) = m' ((c.tc : Thread Cert.RSfIdeal.nD Cert.RSfIdeal.τ).loc Cert.RSfIdeal.main_arg3)
          ∧ r.2.mem ((c.tc : Thread Cert.RSfIdeal.nD Cert.RSfIdeal.τ).loc Cert.RSfIdeal.main_arg4) = m' ((c.tc : Thread Cert.RSfIdeal.nD Cert.RSfIdeal.τ).loc Cert.RSfIdeal.main_arg4))

def preserves_KQn_KQnIdeal : Prop :=
  True

def algebraic_KQnIdeal_RQnIdeal_pre_qn_finite [hKQnIdeal : Cert.KQnIdeal.Facts] [hRQnIdeal : Cert.RQnIdeal.Facts] [hPre_qn_finite : Cert.Pre_qn_finite.Facts] : Prop :=
  ∀ (m : (ℓ : Loc Cert.KQnIdeal.nD Cert.KQnIdeal.τ Cert.KQnIdeal.sig) → Buf (Elt Ideal) ℓ) (g : Dev Cert.KQnIdeal.nD → PrngReg)
    (m' : (ℓ : Loc Cert.RQnIdeal.nD Cert.RQnIdeal.τ Cert.RQnIdeal.sig) → Buf (Elt Ideal) ℓ) (g' : Dev Cert.RQnIdeal.nD → PrngReg), Pre_KQnIdeal_qn_finite m →
    (∀ c : Dev Cert.KQnIdeal.nD,
      m' ((c.tc : Thread Cert.RQnIdeal.nD Cert.RQnIdeal.τ).loc Cert.RQnIdeal.main_arg0) = m ((c.tc : Thread Cert.KQnIdeal.nD Cert.KQnIdeal.τ).loc Cert.KQnIdeal.main_arg0)
      ∧ m' ((c.tc : Thread Cert.RQnIdeal.nD Cert.RQnIdeal.τ).loc Cert.RQnIdeal.main_arg1) = m ((c.tc : Thread Cert.KQnIdeal.nD Cert.KQnIdeal.τ).loc Cert.KQnIdeal.main_arg1)
      ∧ m' ((c.tc : Thread Cert.RQnIdeal.nD Cert.RQnIdeal.τ).loc Cert.RQnIdeal.main_arg2) = m ((c.tc : Thread Cert.KQnIdeal.nD Cert.KQnIdeal.τ).loc Cert.KQnIdeal.main_arg2)
      ∧ m' ((c.tc : Thread Cert.RQnIdeal.nD Cert.RQnIdeal.τ).loc Cert.RQnIdeal.main_arg3) = m ((c.tc : Thread Cert.KQnIdeal.nD Cert.KQnIdeal.τ).loc Cert.KQnIdeal.main_arg3)
      ∧ m' ((c.tc : Thread Cert.RQnIdeal.nD Cert.RQnIdeal.τ).loc Cert.RQnIdeal.main_arg4) = m ((c.tc : Thread Cert.KQnIdeal.nD Cert.KQnIdeal.τ).loc Cert.KQnIdeal.main_arg4)
      ∧ m' ((c.tc : Thread Cert.RQnIdeal.nD Cert.RQnIdeal.τ).loc Cert.RQnIdeal.main_arg5) = m ((c.tc : Thread Cert.KQnIdeal.nD Cert.KQnIdeal.τ).loc Cert.KQnIdeal.main_arg5)) →
    ∃ (v0 : (c : Dev Cert.KQnIdeal.nD) → Buf (Elt Ideal) ((c.tc : Thread Cert.KQnIdeal.nD Cert.KQnIdeal.τ).loc Cert.KQnIdeal.main_v0_0)) (v1 : (c : Dev Cert.KQnIdeal.nD) → Buf (Elt Ideal) ((c.tc : Thread Cert.KQnIdeal.nD Cert.KQnIdeal.τ).loc Cert.KQnIdeal.main_v0_1)) (v2 : (c : Dev Cert.KQnIdeal.nD) → Buf (Elt Ideal) ((c.tc : Thread Cert.KQnIdeal.nD Cert.KQnIdeal.τ).loc Cert.KQnIdeal.main_v0_2)) (v3 : (c : Dev Cert.KQnIdeal.nD) → Buf (Elt Ideal) ((c.tc : Thread Cert.KQnIdeal.nD Cert.KQnIdeal.τ).loc Cert.KQnIdeal.main_v0_3)) (v4 : (c : Dev Cert.KQnIdeal.nD) → Buf (Elt Ideal) ((c.tc : Thread Cert.KQnIdeal.nD Cert.KQnIdeal.τ).loc Cert.KQnIdeal.main_v0_4)) (v5 : (c : Dev Cert.KQnIdeal.nD) → Buf (Elt Ideal) ((c.tc : Thread Cert.KQnIdeal.nD Cert.KQnIdeal.τ).loc Cert.KQnIdeal.main_v0_5)) (v6 : (c : Dev Cert.KQnIdeal.nD) → Buf (Elt Ideal) ((c.tc : Thread Cert.KQnIdeal.nD Cert.KQnIdeal.τ).loc Cert.KQnIdeal.main_v0_6)) (v7 : (c : Dev Cert.KQnIdeal.nD) → Buf (Elt Ideal) ((c.tc : Thread Cert.KQnIdeal.nD Cert.KQnIdeal.τ).loc Cert.KQnIdeal.main_v0_7)) (v8 : (c : Dev Cert.KQnIdeal.nD) → Buf (Elt Ideal) ((c.tc : Thread Cert.KQnIdeal.nD Cert.KQnIdeal.τ).loc Cert.KQnIdeal.main_v0_8)),
      θ_run (Cert.KQnIdeal.defs (F := Ideal)) (onTc (τ := Cert.KQnIdeal.τ) (Cert.KQnIdeal.main (F := Ideal))) ⟨m, fun _ => 0, g⟩ (fun r => ∀ c : Dev Cert.KQnIdeal.nD,
          r.2.mem ((c.tc : Thread Cert.KQnIdeal.nD Cert.KQnIdeal.τ).loc Cert.KQnIdeal.main_v0_0) = v0 c
          ∧ r.2.mem ((c.tc : Thread Cert.KQnIdeal.nD Cert.KQnIdeal.τ).loc Cert.KQnIdeal.main_v0_1) = v1 c
          ∧ r.2.mem ((c.tc : Thread Cert.KQnIdeal.nD Cert.KQnIdeal.τ).loc Cert.KQnIdeal.main_v0_2) = v2 c
          ∧ r.2.mem ((c.tc : Thread Cert.KQnIdeal.nD Cert.KQnIdeal.τ).loc Cert.KQnIdeal.main_v0_3) = v3 c
          ∧ r.2.mem ((c.tc : Thread Cert.KQnIdeal.nD Cert.KQnIdeal.τ).loc Cert.KQnIdeal.main_v0_4) = v4 c
          ∧ r.2.mem ((c.tc : Thread Cert.KQnIdeal.nD Cert.KQnIdeal.τ).loc Cert.KQnIdeal.main_v0_5) = v5 c
          ∧ r.2.mem ((c.tc : Thread Cert.KQnIdeal.nD Cert.KQnIdeal.τ).loc Cert.KQnIdeal.main_v0_6) = v6 c
          ∧ r.2.mem ((c.tc : Thread Cert.KQnIdeal.nD Cert.KQnIdeal.τ).loc Cert.KQnIdeal.main_v0_7) = v7 c
          ∧ r.2.mem ((c.tc : Thread Cert.KQnIdeal.nD Cert.KQnIdeal.τ).loc Cert.KQnIdeal.main_v0_8) = v8 c
          ∧ r.2.mem ((c.tc : Thread Cert.KQnIdeal.nD Cert.KQnIdeal.τ).loc Cert.KQnIdeal.main_arg0) = m ((c.tc : Thread Cert.KQnIdeal.nD Cert.KQnIdeal.τ).loc Cert.KQnIdeal.main_arg0)
          ∧ r.2.mem ((c.tc : Thread Cert.KQnIdeal.nD Cert.KQnIdeal.τ).loc Cert.KQnIdeal.main_arg1) = m ((c.tc : Thread Cert.KQnIdeal.nD Cert.KQnIdeal.τ).loc Cert.KQnIdeal.main_arg1)
          ∧ r.2.mem ((c.tc : Thread Cert.KQnIdeal.nD Cert.KQnIdeal.τ).loc Cert.KQnIdeal.main_arg2) = m ((c.tc : Thread Cert.KQnIdeal.nD Cert.KQnIdeal.τ).loc Cert.KQnIdeal.main_arg2)
          ∧ r.2.mem ((c.tc : Thread Cert.KQnIdeal.nD Cert.KQnIdeal.τ).loc Cert.KQnIdeal.main_arg3) = m ((c.tc : Thread Cert.KQnIdeal.nD Cert.KQnIdeal.τ).loc Cert.KQnIdeal.main_arg3)
          ∧ r.2.mem ((c.tc : Thread Cert.KQnIdeal.nD Cert.KQnIdeal.τ).loc Cert.KQnIdeal.main_arg4) = m ((c.tc : Thread Cert.KQnIdeal.nD Cert.KQnIdeal.τ).loc Cert.KQnIdeal.main_arg4)
          ∧ r.2.mem ((c.tc : Thread Cert.KQnIdeal.nD Cert.KQnIdeal.τ).loc Cert.KQnIdeal.main_arg5) = m ((c.tc : Thread Cert.KQnIdeal.nD Cert.KQnIdeal.τ).loc Cert.KQnIdeal.main_arg5))
      ∧ θ_run (Cert.RQnIdeal.defs (F := Ideal)) (onTc (τ := Cert.RQnIdeal.τ) (Cert.RQnIdeal.main (F := Ideal))) ⟨m', fun _ => 0, g'⟩ (fun r => ∀ c : Dev Cert.RQnIdeal.nD,
          r.2.mem ((c.tc : Thread Cert.RQnIdeal.nD Cert.RQnIdeal.τ).loc Cert.RQnIdeal.main_v18) = v0 c
          ∧ r.2.mem ((c.tc : Thread Cert.RQnIdeal.nD Cert.RQnIdeal.τ).loc Cert.RQnIdeal.main_v43) = v1 c
          ∧ r.2.mem ((c.tc : Thread Cert.RQnIdeal.nD Cert.RQnIdeal.τ).loc Cert.RQnIdeal.main_v45) = v2 c
          ∧ r.2.mem ((c.tc : Thread Cert.RQnIdeal.nD Cert.RQnIdeal.τ).loc Cert.RQnIdeal.main_v64) = v3 c
          ∧ r.2.mem ((c.tc : Thread Cert.RQnIdeal.nD Cert.RQnIdeal.τ).loc Cert.RQnIdeal.main_v87) = v4 c
          ∧ r.2.mem ((c.tc : Thread Cert.RQnIdeal.nD Cert.RQnIdeal.τ).loc Cert.RQnIdeal.main_v93) = v5 c
          ∧ r.2.mem ((c.tc : Thread Cert.RQnIdeal.nD Cert.RQnIdeal.τ).loc Cert.RQnIdeal.main_v94) = v6 c
          ∧ r.2.mem ((c.tc : Thread Cert.RQnIdeal.nD Cert.RQnIdeal.τ).loc Cert.RQnIdeal.main_v95) = v7 c
          ∧ r.2.mem ((c.tc : Thread Cert.RQnIdeal.nD Cert.RQnIdeal.τ).loc Cert.RQnIdeal.main_v96) = v8 c
          ∧ r.2.mem ((c.tc : Thread Cert.RQnIdeal.nD Cert.RQnIdeal.τ).loc Cert.RQnIdeal.main_arg0) = m' ((c.tc : Thread Cert.RQnIdeal.nD Cert.RQnIdeal.τ).loc Cert.RQnIdeal.main_arg0)
          ∧ r.2.mem ((c.tc : Thread Cert.RQnIdeal.nD Cert.RQnIdeal.τ).loc Cert.RQnIdeal.main_arg1) = m' ((c.tc : Thread Cert.RQnIdeal.nD Cert.RQnIdeal.τ).loc Cert.RQnIdeal.main_arg1)
          ∧ r.2.mem ((c.tc : Thread Cert.RQnIdeal.nD Cert.RQnIdeal.τ).loc Cert.RQnIdeal.main_arg2) = m' ((c.tc : Thread Cert.RQnIdeal.nD Cert.RQnIdeal.τ).loc Cert.RQnIdeal.main_arg2)
          ∧ r.2.mem ((c.tc : Thread Cert.RQnIdeal.nD Cert.RQnIdeal.τ).loc Cert.RQnIdeal.main_arg3) = m' ((c.tc : Thread Cert.RQnIdeal.nD Cert.RQnIdeal.τ).loc Cert.RQnIdeal.main_arg3)
          ∧ r.2.mem ((c.tc : Thread Cert.RQnIdeal.nD Cert.RQnIdeal.τ).loc Cert.RQnIdeal.main_arg4) = m' ((c.tc : Thread Cert.RQnIdeal.nD Cert.RQnIdeal.τ).loc Cert.RQnIdeal.main_arg4)
          ∧ r.2.mem ((c.tc : Thread Cert.RQnIdeal.nD Cert.RQnIdeal.τ).loc Cert.RQnIdeal.main_arg5) = m' ((c.tc : Thread Cert.RQnIdeal.nD Cert.RQnIdeal.τ).loc Cert.RQnIdeal.main_arg5))

def preserves_KAi_KAiIdeal : Prop :=
  True

def algebraic_KAiIdeal_RAiIdeal [hKAiIdeal : Cert.KAiIdeal.Facts] [hRAiIdeal : Cert.RAiIdeal.Facts] : Prop :=
  ∀ (m : (ℓ : Loc Cert.KAiIdeal.nD Cert.KAiIdeal.τ Cert.KAiIdeal.sig) → Buf (Elt Ideal) ℓ) (g : Dev Cert.KAiIdeal.nD → PrngReg)
    (m' : (ℓ : Loc Cert.RAiIdeal.nD Cert.RAiIdeal.τ Cert.RAiIdeal.sig) → Buf (Elt Ideal) ℓ) (g' : Dev Cert.RAiIdeal.nD → PrngReg), Pre_KAiIdeal m →
    (∀ c : Dev Cert.KAiIdeal.nD,
      m' ((c.tc : Thread Cert.RAiIdeal.nD Cert.RAiIdeal.τ).loc Cert.RAiIdeal.main_arg0) = m ((c.tc : Thread Cert.KAiIdeal.nD Cert.KAiIdeal.τ).loc Cert.KAiIdeal.main_arg0)
      ∧ m' ((c.tc : Thread Cert.RAiIdeal.nD Cert.RAiIdeal.τ).loc Cert.RAiIdeal.main_arg1) = m ((c.tc : Thread Cert.KAiIdeal.nD Cert.KAiIdeal.τ).loc Cert.KAiIdeal.main_arg1)
      ∧ m' ((c.tc : Thread Cert.RAiIdeal.nD Cert.RAiIdeal.τ).loc Cert.RAiIdeal.main_arg2) = m ((c.tc : Thread Cert.KAiIdeal.nD Cert.KAiIdeal.τ).loc Cert.KAiIdeal.main_arg2)
      ∧ m' ((c.tc : Thread Cert.RAiIdeal.nD Cert.RAiIdeal.τ).loc Cert.RAiIdeal.main_arg3) = m ((c.tc : Thread Cert.KAiIdeal.nD Cert.KAiIdeal.τ).loc Cert.KAiIdeal.main_arg3)) →
    ∃ (v0 : (c : Dev Cert.KAiIdeal.nD) → Buf (Elt Ideal) ((c.tc : Thread Cert.KAiIdeal.nD Cert.KAiIdeal.τ).loc Cert.KAiIdeal.main_v0_0)) (v1 : (c : Dev Cert.KAiIdeal.nD) → Buf (Elt Ideal) ((c.tc : Thread Cert.KAiIdeal.nD Cert.KAiIdeal.τ).loc Cert.KAiIdeal.main_v0_1)) (v2 : (c : Dev Cert.KAiIdeal.nD) → Buf (Elt Ideal) ((c.tc : Thread Cert.KAiIdeal.nD Cert.KAiIdeal.τ).loc Cert.KAiIdeal.main_v0_2)),
      θ_run (Cert.KAiIdeal.defs (F := Ideal)) (onTc (τ := Cert.KAiIdeal.τ) (Cert.KAiIdeal.main (F := Ideal))) ⟨m, fun _ => 0, g⟩ (fun r => ∀ c : Dev Cert.KAiIdeal.nD,
          r.2.mem ((c.tc : Thread Cert.KAiIdeal.nD Cert.KAiIdeal.τ).loc Cert.KAiIdeal.main_v0_0) = v0 c
          ∧ r.2.mem ((c.tc : Thread Cert.KAiIdeal.nD Cert.KAiIdeal.τ).loc Cert.KAiIdeal.main_v0_1) = v1 c
          ∧ r.2.mem ((c.tc : Thread Cert.KAiIdeal.nD Cert.KAiIdeal.τ).loc Cert.KAiIdeal.main_v0_2) = v2 c
          ∧ r.2.mem ((c.tc : Thread Cert.KAiIdeal.nD Cert.KAiIdeal.τ).loc Cert.KAiIdeal.main_arg0) = m ((c.tc : Thread Cert.KAiIdeal.nD Cert.KAiIdeal.τ).loc Cert.KAiIdeal.main_arg0)
          ∧ r.2.mem ((c.tc : Thread Cert.KAiIdeal.nD Cert.KAiIdeal.τ).loc Cert.KAiIdeal.main_arg1) = m ((c.tc : Thread Cert.KAiIdeal.nD Cert.KAiIdeal.τ).loc Cert.KAiIdeal.main_arg1)
          ∧ r.2.mem ((c.tc : Thread Cert.KAiIdeal.nD Cert.KAiIdeal.τ).loc Cert.KAiIdeal.main_arg2) = m ((c.tc : Thread Cert.KAiIdeal.nD Cert.KAiIdeal.τ).loc Cert.KAiIdeal.main_arg2)
          ∧ r.2.mem ((c.tc : Thread Cert.KAiIdeal.nD Cert.KAiIdeal.τ).loc Cert.KAiIdeal.main_arg3) = m ((c.tc : Thread Cert.KAiIdeal.nD Cert.KAiIdeal.τ).loc Cert.KAiIdeal.main_arg3))
      ∧ θ_run (Cert.RAiIdeal.defs (F := Ideal)) (onTc (τ := Cert.RAiIdeal.τ) (Cert.RAiIdeal.main (F := Ideal))) ⟨m', fun _ => 0, g'⟩ (fun r => ∀ c : Dev Cert.RAiIdeal.nD,
          r.2.mem ((c.tc : Thread Cert.RAiIdeal.nD Cert.RAiIdeal.τ).loc Cert.RAiIdeal.main_v23) = v0 c
          ∧ r.2.mem ((c.tc : Thread Cert.RAiIdeal.nD Cert.RAiIdeal.τ).loc Cert.RAiIdeal.main_v4) = v1 c
          ∧ r.2.mem ((c.tc : Thread Cert.RAiIdeal.nD Cert.RAiIdeal.τ).loc Cert.RAiIdeal.main_v10) = v2 c
          ∧ r.2.mem ((c.tc : Thread Cert.RAiIdeal.nD Cert.RAiIdeal.τ).loc Cert.RAiIdeal.main_arg0) = m' ((c.tc : Thread Cert.RAiIdeal.nD Cert.RAiIdeal.τ).loc Cert.RAiIdeal.main_arg0)
          ∧ r.2.mem ((c.tc : Thread Cert.RAiIdeal.nD Cert.RAiIdeal.τ).loc Cert.RAiIdeal.main_arg1) = m' ((c.tc : Thread Cert.RAiIdeal.nD Cert.RAiIdeal.τ).loc Cert.RAiIdeal.main_arg1)
          ∧ r.2.mem ((c.tc : Thread Cert.RAiIdeal.nD Cert.RAiIdeal.τ).loc Cert.RAiIdeal.main_arg2) = m' ((c.tc : Thread Cert.RAiIdeal.nD Cert.RAiIdeal.τ).loc Cert.RAiIdeal.main_arg2)
          ∧ r.2.mem ((c.tc : Thread Cert.RAiIdeal.nD Cert.RAiIdeal.τ).loc Cert.RAiIdeal.main_arg3) = m' ((c.tc : Thread Cert.RAiIdeal.nD Cert.RAiIdeal.τ).loc Cert.RAiIdeal.main_arg3))

def preserves_KAo_KAoIdeal : Prop :=
  True

def algebraic_KAoIdeal_RAoIdeal [hKAoIdeal : Cert.KAoIdeal.Facts] [hRAoIdeal : Cert.RAoIdeal.Facts] : Prop :=
  ∀ (m : (ℓ : Loc Cert.KAoIdeal.nD Cert.KAoIdeal.τ Cert.KAoIdeal.sig) → Buf (Elt Ideal) ℓ) (g : Dev Cert.KAoIdeal.nD → PrngReg)
    (m' : (ℓ : Loc Cert.RAoIdeal.nD Cert.RAoIdeal.τ Cert.RAoIdeal.sig) → Buf (Elt Ideal) ℓ) (g' : Dev Cert.RAoIdeal.nD → PrngReg), Pre_KAoIdeal m →
    (∀ c : Dev Cert.KAoIdeal.nD,
      m' ((c.tc : Thread Cert.RAoIdeal.nD Cert.RAoIdeal.τ).loc Cert.RAoIdeal.main_arg0) = m ((c.tc : Thread Cert.KAoIdeal.nD Cert.KAoIdeal.τ).loc Cert.KAoIdeal.main_arg0)
      ∧ m' ((c.tc : Thread Cert.RAoIdeal.nD Cert.RAoIdeal.τ).loc Cert.RAoIdeal.main_arg1) = m ((c.tc : Thread Cert.KAoIdeal.nD Cert.KAoIdeal.τ).loc Cert.KAoIdeal.main_arg1)
      ∧ m' ((c.tc : Thread Cert.RAoIdeal.nD Cert.RAoIdeal.τ).loc Cert.RAoIdeal.main_arg2) = m ((c.tc : Thread Cert.KAoIdeal.nD Cert.KAoIdeal.τ).loc Cert.KAoIdeal.main_arg2)
      ∧ m' ((c.tc : Thread Cert.RAoIdeal.nD Cert.RAoIdeal.τ).loc Cert.RAoIdeal.main_arg3) = m ((c.tc : Thread Cert.KAoIdeal.nD Cert.KAoIdeal.τ).loc Cert.KAoIdeal.main_arg3)) →
    ∃ (v0 : (c : Dev Cert.KAoIdeal.nD) → Buf (Elt Ideal) ((c.tc : Thread Cert.KAoIdeal.nD Cert.KAoIdeal.τ).loc Cert.KAoIdeal.main_v0_0)) (v1 : (c : Dev Cert.KAoIdeal.nD) → Buf (Elt Ideal) ((c.tc : Thread Cert.KAoIdeal.nD Cert.KAoIdeal.τ).loc Cert.KAoIdeal.main_v0_1)) (v2 : (c : Dev Cert.KAoIdeal.nD) → Buf (Elt Ideal) ((c.tc : Thread Cert.KAoIdeal.nD Cert.KAoIdeal.τ).loc Cert.KAoIdeal.main_v0_2)),
      θ_run (Cert.KAoIdeal.defs (F := Ideal)) (onTc (τ := Cert.KAoIdeal.τ) (Cert.KAoIdeal.main (F := Ideal))) ⟨m, fun _ => 0, g⟩ (fun r => ∀ c : Dev Cert.KAoIdeal.nD,
          r.2.mem ((c.tc : Thread Cert.KAoIdeal.nD Cert.KAoIdeal.τ).loc Cert.KAoIdeal.main_v0_0) = v0 c
          ∧ r.2.mem ((c.tc : Thread Cert.KAoIdeal.nD Cert.KAoIdeal.τ).loc Cert.KAoIdeal.main_v0_1) = v1 c
          ∧ r.2.mem ((c.tc : Thread Cert.KAoIdeal.nD Cert.KAoIdeal.τ).loc Cert.KAoIdeal.main_v0_2) = v2 c
          ∧ r.2.mem ((c.tc : Thread Cert.KAoIdeal.nD Cert.KAoIdeal.τ).loc Cert.KAoIdeal.main_arg0) = m ((c.tc : Thread Cert.KAoIdeal.nD Cert.KAoIdeal.τ).loc Cert.KAoIdeal.main_arg0)
          ∧ r.2.mem ((c.tc : Thread Cert.KAoIdeal.nD Cert.KAoIdeal.τ).loc Cert.KAoIdeal.main_arg1) = m ((c.tc : Thread Cert.KAoIdeal.nD Cert.KAoIdeal.τ).loc Cert.KAoIdeal.main_arg1)
          ∧ r.2.mem ((c.tc : Thread Cert.KAoIdeal.nD Cert.KAoIdeal.τ).loc Cert.KAoIdeal.main_arg2) = m ((c.tc : Thread Cert.KAoIdeal.nD Cert.KAoIdeal.τ).loc Cert.KAoIdeal.main_arg2)
          ∧ r.2.mem ((c.tc : Thread Cert.KAoIdeal.nD Cert.KAoIdeal.τ).loc Cert.KAoIdeal.main_arg3) = m ((c.tc : Thread Cert.KAoIdeal.nD Cert.KAoIdeal.τ).loc Cert.KAoIdeal.main_arg3))
      ∧ θ_run (Cert.RAoIdeal.defs (F := Ideal)) (onTc (τ := Cert.RAoIdeal.τ) (Cert.RAoIdeal.main (F := Ideal))) ⟨m', fun _ => 0, g'⟩ (fun r => ∀ c : Dev Cert.RAoIdeal.nD,
          r.2.mem ((c.tc : Thread Cert.RAoIdeal.nD Cert.RAoIdeal.τ).loc Cert.RAoIdeal.main_v23) = v0 c
          ∧ r.2.mem ((c.tc : Thread Cert.RAoIdeal.nD Cert.RAoIdeal.τ).loc Cert.RAoIdeal.main_v4) = v1 c
          ∧ r.2.mem ((c.tc : Thread Cert.RAoIdeal.nD Cert.RAoIdeal.τ).loc Cert.RAoIdeal.main_v10) = v2 c
          ∧ r.2.mem ((c.tc : Thread Cert.RAoIdeal.nD Cert.RAoIdeal.τ).loc Cert.RAoIdeal.main_arg0) = m' ((c.tc : Thread Cert.RAoIdeal.nD Cert.RAoIdeal.τ).loc Cert.RAoIdeal.main_arg0)
          ∧ r.2.mem ((c.tc : Thread Cert.RAoIdeal.nD Cert.RAoIdeal.τ).loc Cert.RAoIdeal.main_arg1) = m' ((c.tc : Thread Cert.RAoIdeal.nD Cert.RAoIdeal.τ).loc Cert.RAoIdeal.main_arg1)
          ∧ r.2.mem ((c.tc : Thread Cert.RAoIdeal.nD Cert.RAoIdeal.τ).loc Cert.RAoIdeal.main_arg2) = m' ((c.tc : Thread Cert.RAoIdeal.nD Cert.RAoIdeal.τ).loc Cert.RAoIdeal.main_arg2)
          ∧ r.2.mem ((c.tc : Thread Cert.RAoIdeal.nD Cert.RAoIdeal.τ).loc Cert.RAoIdeal.main_arg3) = m' ((c.tc : Thread Cert.RAoIdeal.nD Cert.RAoIdeal.τ).loc Cert.RAoIdeal.main_arg3))

def preserves_KAm_KAmIdeal : Prop :=
  True

def algebraic_KAmIdeal_RAmIdeal [hKAmIdeal : Cert.KAmIdeal.Facts] [hRAmIdeal : Cert.RAmIdeal.Facts] : Prop :=
  ∀ (m : (ℓ : Loc Cert.KAmIdeal.nD Cert.KAmIdeal.τ Cert.KAmIdeal.sig) → Buf (Elt Ideal) ℓ) (g : Dev Cert.KAmIdeal.nD → PrngReg)
    (m' : (ℓ : Loc Cert.RAmIdeal.nD Cert.RAmIdeal.τ Cert.RAmIdeal.sig) → Buf (Elt Ideal) ℓ) (g' : Dev Cert.RAmIdeal.nD → PrngReg), Pre_KAmIdeal m →
    (∀ c : Dev Cert.KAmIdeal.nD,
      m' ((c.tc : Thread Cert.RAmIdeal.nD Cert.RAmIdeal.τ).loc Cert.RAmIdeal.main_arg0) = m ((c.tc : Thread Cert.KAmIdeal.nD Cert.KAmIdeal.τ).loc Cert.KAmIdeal.main_arg0)
      ∧ m' ((c.tc : Thread Cert.RAmIdeal.nD Cert.RAmIdeal.τ).loc Cert.RAmIdeal.main_arg1) = m ((c.tc : Thread Cert.KAmIdeal.nD Cert.KAmIdeal.τ).loc Cert.KAmIdeal.main_arg1)
      ∧ m' ((c.tc : Thread Cert.RAmIdeal.nD Cert.RAmIdeal.τ).loc Cert.RAmIdeal.main_arg2) = m ((c.tc : Thread Cert.KAmIdeal.nD Cert.KAmIdeal.τ).loc Cert.KAmIdeal.main_arg2)
      ∧ m' ((c.tc : Thread Cert.RAmIdeal.nD Cert.RAmIdeal.τ).loc Cert.RAmIdeal.main_arg3) = m ((c.tc : Thread Cert.KAmIdeal.nD Cert.KAmIdeal.τ).loc Cert.KAmIdeal.main_arg3)) →
    ∃ (v0 : (c : Dev Cert.KAmIdeal.nD) → Buf (Elt Ideal) ((c.tc : Thread Cert.KAmIdeal.nD Cert.KAmIdeal.τ).loc Cert.KAmIdeal.main_v0_0)) (v1 : (c : Dev Cert.KAmIdeal.nD) → Buf (Elt Ideal) ((c.tc : Thread Cert.KAmIdeal.nD Cert.KAmIdeal.τ).loc Cert.KAmIdeal.main_v0_1)) (v2 : (c : Dev Cert.KAmIdeal.nD) → Buf (Elt Ideal) ((c.tc : Thread Cert.KAmIdeal.nD Cert.KAmIdeal.τ).loc Cert.KAmIdeal.main_v0_2)),
      θ_run (Cert.KAmIdeal.defs (F := Ideal)) (onTc (τ := Cert.KAmIdeal.τ) (Cert.KAmIdeal.main (F := Ideal))) ⟨m, fun _ => 0, g⟩ (fun r => ∀ c : Dev Cert.KAmIdeal.nD,
          r.2.mem ((c.tc : Thread Cert.KAmIdeal.nD Cert.KAmIdeal.τ).loc Cert.KAmIdeal.main_v0_0) = v0 c
          ∧ r.2.mem ((c.tc : Thread Cert.KAmIdeal.nD Cert.KAmIdeal.τ).loc Cert.KAmIdeal.main_v0_1) = v1 c
          ∧ r.2.mem ((c.tc : Thread Cert.KAmIdeal.nD Cert.KAmIdeal.τ).loc Cert.KAmIdeal.main_v0_2) = v2 c
          ∧ r.2.mem ((c.tc : Thread Cert.KAmIdeal.nD Cert.KAmIdeal.τ).loc Cert.KAmIdeal.main_arg0) = m ((c.tc : Thread Cert.KAmIdeal.nD Cert.KAmIdeal.τ).loc Cert.KAmIdeal.main_arg0)
          ∧ r.2.mem ((c.tc : Thread Cert.KAmIdeal.nD Cert.KAmIdeal.τ).loc Cert.KAmIdeal.main_arg1) = m ((c.tc : Thread Cert.KAmIdeal.nD Cert.KAmIdeal.τ).loc Cert.KAmIdeal.main_arg1)
          ∧ r.2.mem ((c.tc : Thread Cert.KAmIdeal.nD Cert.KAmIdeal.τ).loc Cert.KAmIdeal.main_arg2) = m ((c.tc : Thread Cert.KAmIdeal.nD Cert.KAmIdeal.τ).loc Cert.KAmIdeal.main_arg2)
          ∧ r.2.mem ((c.tc : Thread Cert.KAmIdeal.nD Cert.KAmIdeal.τ).loc Cert.KAmIdeal.main_arg3) = m ((c.tc : Thread Cert.KAmIdeal.nD Cert.KAmIdeal.τ).loc Cert.KAmIdeal.main_arg3))
      ∧ θ_run (Cert.RAmIdeal.defs (F := Ideal)) (onTc (τ := Cert.RAmIdeal.τ) (Cert.RAmIdeal.main (F := Ideal))) ⟨m', fun _ => 0, g'⟩ (fun r => ∀ c : Dev Cert.RAmIdeal.nD,
          r.2.mem ((c.tc : Thread Cert.RAmIdeal.nD Cert.RAmIdeal.τ).loc Cert.RAmIdeal.main_v23) = v0 c
          ∧ r.2.mem ((c.tc : Thread Cert.RAmIdeal.nD Cert.RAmIdeal.τ).loc Cert.RAmIdeal.main_v4) = v1 c
          ∧ r.2.mem ((c.tc : Thread Cert.RAmIdeal.nD Cert.RAmIdeal.τ).loc Cert.RAmIdeal.main_v10) = v2 c
          ∧ r.2.mem ((c.tc : Thread Cert.RAmIdeal.nD Cert.RAmIdeal.τ).loc Cert.RAmIdeal.main_arg0) = m' ((c.tc : Thread Cert.RAmIdeal.nD Cert.RAmIdeal.τ).loc Cert.RAmIdeal.main_arg0)
          ∧ r.2.mem ((c.tc : Thread Cert.RAmIdeal.nD Cert.RAmIdeal.τ).loc Cert.RAmIdeal.main_arg1) = m' ((c.tc : Thread Cert.RAmIdeal.nD Cert.RAmIdeal.τ).loc Cert.RAmIdeal.main_arg1)
          ∧ r.2.mem ((c.tc : Thread Cert.RAmIdeal.nD Cert.RAmIdeal.τ).loc Cert.RAmIdeal.main_arg2) = m' ((c.tc : Thread Cert.RAmIdeal.nD Cert.RAmIdeal.τ).loc Cert.RAmIdeal.main_arg2)
          ∧ r.2.mem ((c.tc : Thread Cert.RAmIdeal.nD Cert.RAmIdeal.τ).loc Cert.RAmIdeal.main_arg3) = m' ((c.tc : Thread Cert.RAmIdeal.nD Cert.RAmIdeal.τ).loc Cert.RAmIdeal.main_arg3))

def preserves_KAb_KAbIdeal : Prop :=
  True

def algebraic_KAbIdeal_RAbIdeal [hKAbIdeal : Cert.KAbIdeal.Facts] [hRAbIdeal : Cert.RAbIdeal.Facts] : Prop :=
  ∀ (m : (ℓ : Loc Cert.KAbIdeal.nD Cert.KAbIdeal.τ Cert.KAbIdeal.sig) → Buf (Elt Ideal) ℓ) (g : Dev Cert.KAbIdeal.nD → PrngReg)
    (m' : (ℓ : Loc Cert.RAbIdeal.nD Cert.RAbIdeal.τ Cert.RAbIdeal.sig) → Buf (Elt Ideal) ℓ) (g' : Dev Cert.RAbIdeal.nD → PrngReg), Pre_KAbIdeal m →
    (∀ c : Dev Cert.KAbIdeal.nD,
      m' ((c.tc : Thread Cert.RAbIdeal.nD Cert.RAbIdeal.τ).loc Cert.RAbIdeal.main_arg0) = m ((c.tc : Thread Cert.KAbIdeal.nD Cert.KAbIdeal.τ).loc Cert.KAbIdeal.main_arg0)
      ∧ m' ((c.tc : Thread Cert.RAbIdeal.nD Cert.RAbIdeal.τ).loc Cert.RAbIdeal.main_arg1) = m ((c.tc : Thread Cert.KAbIdeal.nD Cert.KAbIdeal.τ).loc Cert.KAbIdeal.main_arg1)
      ∧ m' ((c.tc : Thread Cert.RAbIdeal.nD Cert.RAbIdeal.τ).loc Cert.RAbIdeal.main_arg2) = m ((c.tc : Thread Cert.KAbIdeal.nD Cert.KAbIdeal.τ).loc Cert.KAbIdeal.main_arg2)
      ∧ m' ((c.tc : Thread Cert.RAbIdeal.nD Cert.RAbIdeal.τ).loc Cert.RAbIdeal.main_arg3) = m ((c.tc : Thread Cert.KAbIdeal.nD Cert.KAbIdeal.τ).loc Cert.KAbIdeal.main_arg3)) →
    ∃ (v0 : (c : Dev Cert.KAbIdeal.nD) → Buf (Elt Ideal) ((c.tc : Thread Cert.KAbIdeal.nD Cert.KAbIdeal.τ).loc Cert.KAbIdeal.main_v0_0)) (v1 : (c : Dev Cert.KAbIdeal.nD) → Buf (Elt Ideal) ((c.tc : Thread Cert.KAbIdeal.nD Cert.KAbIdeal.τ).loc Cert.KAbIdeal.main_v0_1)) (v2 : (c : Dev Cert.KAbIdeal.nD) → Buf (Elt Ideal) ((c.tc : Thread Cert.KAbIdeal.nD Cert.KAbIdeal.τ).loc Cert.KAbIdeal.main_v0_2)),
      θ_run (Cert.KAbIdeal.defs (F := Ideal)) (onTc (τ := Cert.KAbIdeal.τ) (Cert.KAbIdeal.main (F := Ideal))) ⟨m, fun _ => 0, g⟩ (fun r => ∀ c : Dev Cert.KAbIdeal.nD,
          r.2.mem ((c.tc : Thread Cert.KAbIdeal.nD Cert.KAbIdeal.τ).loc Cert.KAbIdeal.main_v0_0) = v0 c
          ∧ r.2.mem ((c.tc : Thread Cert.KAbIdeal.nD Cert.KAbIdeal.τ).loc Cert.KAbIdeal.main_v0_1) = v1 c
          ∧ r.2.mem ((c.tc : Thread Cert.KAbIdeal.nD Cert.KAbIdeal.τ).loc Cert.KAbIdeal.main_v0_2) = v2 c
          ∧ r.2.mem ((c.tc : Thread Cert.KAbIdeal.nD Cert.KAbIdeal.τ).loc Cert.KAbIdeal.main_arg0) = m ((c.tc : Thread Cert.KAbIdeal.nD Cert.KAbIdeal.τ).loc Cert.KAbIdeal.main_arg0)
          ∧ r.2.mem ((c.tc : Thread Cert.KAbIdeal.nD Cert.KAbIdeal.τ).loc Cert.KAbIdeal.main_arg1) = m ((c.tc : Thread Cert.KAbIdeal.nD Cert.KAbIdeal.τ).loc Cert.KAbIdeal.main_arg1)
          ∧ r.2.mem ((c.tc : Thread Cert.KAbIdeal.nD Cert.KAbIdeal.τ).loc Cert.KAbIdeal.main_arg2) = m ((c.tc : Thread Cert.KAbIdeal.nD Cert.KAbIdeal.τ).loc Cert.KAbIdeal.main_arg2)
          ∧ r.2.mem ((c.tc : Thread Cert.KAbIdeal.nD Cert.KAbIdeal.τ).loc Cert.KAbIdeal.main_arg3) = m ((c.tc : Thread Cert.KAbIdeal.nD Cert.KAbIdeal.τ).loc Cert.KAbIdeal.main_arg3))
      ∧ θ_run (Cert.RAbIdeal.defs (F := Ideal)) (onTc (τ := Cert.RAbIdeal.τ) (Cert.RAbIdeal.main (F := Ideal))) ⟨m', fun _ => 0, g'⟩ (fun r => ∀ c : Dev Cert.RAbIdeal.nD,
          r.2.mem ((c.tc : Thread Cert.RAbIdeal.nD Cert.RAbIdeal.τ).loc Cert.RAbIdeal.main_v23) = v0 c
          ∧ r.2.mem ((c.tc : Thread Cert.RAbIdeal.nD Cert.RAbIdeal.τ).loc Cert.RAbIdeal.main_v4) = v1 c
          ∧ r.2.mem ((c.tc : Thread Cert.RAbIdeal.nD Cert.RAbIdeal.τ).loc Cert.RAbIdeal.main_v10) = v2 c
          ∧ r.2.mem ((c.tc : Thread Cert.RAbIdeal.nD Cert.RAbIdeal.τ).loc Cert.RAbIdeal.main_arg0) = m' ((c.tc : Thread Cert.RAbIdeal.nD Cert.RAbIdeal.τ).loc Cert.RAbIdeal.main_arg0)
          ∧ r.2.mem ((c.tc : Thread Cert.RAbIdeal.nD Cert.RAbIdeal.τ).loc Cert.RAbIdeal.main_arg1) = m' ((c.tc : Thread Cert.RAbIdeal.nD Cert.RAbIdeal.τ).loc Cert.RAbIdeal.main_arg1)
          ∧ r.2.mem ((c.tc : Thread Cert.RAbIdeal.nD Cert.RAbIdeal.τ).loc Cert.RAbIdeal.main_arg2) = m' ((c.tc : Thread Cert.RAbIdeal.nD Cert.RAbIdeal.τ).loc Cert.RAbIdeal.main_arg2)
          ∧ r.2.mem ((c.tc : Thread Cert.RAbIdeal.nD Cert.RAbIdeal.τ).loc Cert.RAbIdeal.main_arg3) = m' ((c.tc : Thread Cert.RAbIdeal.nD Cert.RAbIdeal.τ).loc Cert.RAbIdeal.main_arg3))

def preserves_KAg_KAgIdeal : Prop :=
  True

def algebraic_KAgIdeal_RAgIdeal [hKAgIdeal : Cert.KAgIdeal.Facts] [hRAgIdeal : Cert.RAgIdeal.Facts] : Prop :=
  ∀ (m : (ℓ : Loc Cert.KAgIdeal.nD Cert.KAgIdeal.τ Cert.KAgIdeal.sig) → Buf (Elt Ideal) ℓ) (g : Dev Cert.KAgIdeal.nD → PrngReg)
    (m' : (ℓ : Loc Cert.RAgIdeal.nD Cert.RAgIdeal.τ Cert.RAgIdeal.sig) → Buf (Elt Ideal) ℓ) (g' : Dev Cert.RAgIdeal.nD → PrngReg), Pre_KAgIdeal m →
    (∀ c : Dev Cert.KAgIdeal.nD,
      m' ((c.tc : Thread Cert.RAgIdeal.nD Cert.RAgIdeal.τ).loc Cert.RAgIdeal.main_arg0) = m ((c.tc : Thread Cert.KAgIdeal.nD Cert.KAgIdeal.τ).loc Cert.KAgIdeal.main_arg0)
      ∧ m' ((c.tc : Thread Cert.RAgIdeal.nD Cert.RAgIdeal.τ).loc Cert.RAgIdeal.main_arg1) = m ((c.tc : Thread Cert.KAgIdeal.nD Cert.KAgIdeal.τ).loc Cert.KAgIdeal.main_arg1)
      ∧ m' ((c.tc : Thread Cert.RAgIdeal.nD Cert.RAgIdeal.τ).loc Cert.RAgIdeal.main_arg2) = m ((c.tc : Thread Cert.KAgIdeal.nD Cert.KAgIdeal.τ).loc Cert.KAgIdeal.main_arg2)
      ∧ m' ((c.tc : Thread Cert.RAgIdeal.nD Cert.RAgIdeal.τ).loc Cert.RAgIdeal.main_arg3) = m ((c.tc : Thread Cert.KAgIdeal.nD Cert.KAgIdeal.τ).loc Cert.KAgIdeal.main_arg3)) →
    ∃ (v0 : (c : Dev Cert.KAgIdeal.nD) → Buf (Elt Ideal) ((c.tc : Thread Cert.KAgIdeal.nD Cert.KAgIdeal.τ).loc Cert.KAgIdeal.main_v0_0)) (v1 : (c : Dev Cert.KAgIdeal.nD) → Buf (Elt Ideal) ((c.tc : Thread Cert.KAgIdeal.nD Cert.KAgIdeal.τ).loc Cert.KAgIdeal.main_v0_1)) (v2 : (c : Dev Cert.KAgIdeal.nD) → Buf (Elt Ideal) ((c.tc : Thread Cert.KAgIdeal.nD Cert.KAgIdeal.τ).loc Cert.KAgIdeal.main_v0_2)),
      θ_run (Cert.KAgIdeal.defs (F := Ideal)) (onTc (τ := Cert.KAgIdeal.τ) (Cert.KAgIdeal.main (F := Ideal))) ⟨m, fun _ => 0, g⟩ (fun r => ∀ c : Dev Cert.KAgIdeal.nD,
          r.2.mem ((c.tc : Thread Cert.KAgIdeal.nD Cert.KAgIdeal.τ).loc Cert.KAgIdeal.main_v0_0) = v0 c
          ∧ r.2.mem ((c.tc : Thread Cert.KAgIdeal.nD Cert.KAgIdeal.τ).loc Cert.KAgIdeal.main_v0_1) = v1 c
          ∧ r.2.mem ((c.tc : Thread Cert.KAgIdeal.nD Cert.KAgIdeal.τ).loc Cert.KAgIdeal.main_v0_2) = v2 c
          ∧ r.2.mem ((c.tc : Thread Cert.KAgIdeal.nD Cert.KAgIdeal.τ).loc Cert.KAgIdeal.main_arg0) = m ((c.tc : Thread Cert.KAgIdeal.nD Cert.KAgIdeal.τ).loc Cert.KAgIdeal.main_arg0)
          ∧ r.2.mem ((c.tc : Thread Cert.KAgIdeal.nD Cert.KAgIdeal.τ).loc Cert.KAgIdeal.main_arg1) = m ((c.tc : Thread Cert.KAgIdeal.nD Cert.KAgIdeal.τ).loc Cert.KAgIdeal.main_arg1)
          ∧ r.2.mem ((c.tc : Thread Cert.KAgIdeal.nD Cert.KAgIdeal.τ).loc Cert.KAgIdeal.main_arg2) = m ((c.tc : Thread Cert.KAgIdeal.nD Cert.KAgIdeal.τ).loc Cert.KAgIdeal.main_arg2)
          ∧ r.2.mem ((c.tc : Thread Cert.KAgIdeal.nD Cert.KAgIdeal.τ).loc Cert.KAgIdeal.main_arg3) = m ((c.tc : Thread Cert.KAgIdeal.nD Cert.KAgIdeal.τ).loc Cert.KAgIdeal.main_arg3))
      ∧ θ_run (Cert.RAgIdeal.defs (F := Ideal)) (onTc (τ := Cert.RAgIdeal.τ) (Cert.RAgIdeal.main (F := Ideal))) ⟨m', fun _ => 0, g'⟩ (fun r => ∀ c : Dev Cert.RAgIdeal.nD,
          r.2.mem ((c.tc : Thread Cert.RAgIdeal.nD Cert.RAgIdeal.τ).loc Cert.RAgIdeal.main_v23) = v0 c
          ∧ r.2.mem ((c.tc : Thread Cert.RAgIdeal.nD Cert.RAgIdeal.τ).loc Cert.RAgIdeal.main_v4) = v1 c
          ∧ r.2.mem ((c.tc : Thread Cert.RAgIdeal.nD Cert.RAgIdeal.τ).loc Cert.RAgIdeal.main_v10) = v2 c
          ∧ r.2.mem ((c.tc : Thread Cert.RAgIdeal.nD Cert.RAgIdeal.τ).loc Cert.RAgIdeal.main_arg0) = m' ((c.tc : Thread Cert.RAgIdeal.nD Cert.RAgIdeal.τ).loc Cert.RAgIdeal.main_arg0)
          ∧ r.2.mem ((c.tc : Thread Cert.RAgIdeal.nD Cert.RAgIdeal.τ).loc Cert.RAgIdeal.main_arg1) = m' ((c.tc : Thread Cert.RAgIdeal.nD Cert.RAgIdeal.τ).loc Cert.RAgIdeal.main_arg1)
          ∧ r.2.mem ((c.tc : Thread Cert.RAgIdeal.nD Cert.RAgIdeal.τ).loc Cert.RAgIdeal.main_arg2) = m' ((c.tc : Thread Cert.RAgIdeal.nD Cert.RAgIdeal.τ).loc Cert.RAgIdeal.main_arg2)
          ∧ r.2.mem ((c.tc : Thread Cert.RAgIdeal.nD Cert.RAgIdeal.τ).loc Cert.RAgIdeal.main_arg3) = m' ((c.tc : Thread Cert.RAgIdeal.nD Cert.RAgIdeal.τ).loc Cert.RAgIdeal.main_arg3))

def preserves_KAs_KAsIdeal : Prop :=
  True

def algebraic_KAsIdeal_RAsIdeal [hKAsIdeal : Cert.KAsIdeal.Facts] [hRAsIdeal : Cert.RAsIdeal.Facts] : Prop :=
  ∀ (m : (ℓ : Loc Cert.KAsIdeal.nD Cert.KAsIdeal.τ Cert.KAsIdeal.sig) → Buf (Elt Ideal) ℓ) (g : Dev Cert.KAsIdeal.nD → PrngReg)
    (m' : (ℓ : Loc Cert.RAsIdeal.nD Cert.RAsIdeal.τ Cert.RAsIdeal.sig) → Buf (Elt Ideal) ℓ) (g' : Dev Cert.RAsIdeal.nD → PrngReg), Pre_KAsIdeal m →
    (∀ c : Dev Cert.KAsIdeal.nD,
      m' ((c.tc : Thread Cert.RAsIdeal.nD Cert.RAsIdeal.τ).loc Cert.RAsIdeal.main_arg0) = m ((c.tc : Thread Cert.KAsIdeal.nD Cert.KAsIdeal.τ).loc Cert.KAsIdeal.main_arg0)
      ∧ m' ((c.tc : Thread Cert.RAsIdeal.nD Cert.RAsIdeal.τ).loc Cert.RAsIdeal.main_arg1) = m ((c.tc : Thread Cert.KAsIdeal.nD Cert.KAsIdeal.τ).loc Cert.KAsIdeal.main_arg1)
      ∧ m' ((c.tc : Thread Cert.RAsIdeal.nD Cert.RAsIdeal.τ).loc Cert.RAsIdeal.main_arg2) = m ((c.tc : Thread Cert.KAsIdeal.nD Cert.KAsIdeal.τ).loc Cert.KAsIdeal.main_arg2)
      ∧ m' ((c.tc : Thread Cert.RAsIdeal.nD Cert.RAsIdeal.τ).loc Cert.RAsIdeal.main_arg3) = m ((c.tc : Thread Cert.KAsIdeal.nD Cert.KAsIdeal.τ).loc Cert.KAsIdeal.main_arg3)) →
    ∃ (v0 : (c : Dev Cert.KAsIdeal.nD) → Buf (Elt Ideal) ((c.tc : Thread Cert.KAsIdeal.nD Cert.KAsIdeal.τ).loc Cert.KAsIdeal.main_v0_0)) (v1 : (c : Dev Cert.KAsIdeal.nD) → Buf (Elt Ideal) ((c.tc : Thread Cert.KAsIdeal.nD Cert.KAsIdeal.τ).loc Cert.KAsIdeal.main_v0_1)) (v2 : (c : Dev Cert.KAsIdeal.nD) → Buf (Elt Ideal) ((c.tc : Thread Cert.KAsIdeal.nD Cert.KAsIdeal.τ).loc Cert.KAsIdeal.main_v0_2)),
      θ_run (Cert.KAsIdeal.defs (F := Ideal)) (onTc (τ := Cert.KAsIdeal.τ) (Cert.KAsIdeal.main (F := Ideal))) ⟨m, fun _ => 0, g⟩ (fun r => ∀ c : Dev Cert.KAsIdeal.nD,
          r.2.mem ((c.tc : Thread Cert.KAsIdeal.nD Cert.KAsIdeal.τ).loc Cert.KAsIdeal.main_v0_0) = v0 c
          ∧ r.2.mem ((c.tc : Thread Cert.KAsIdeal.nD Cert.KAsIdeal.τ).loc Cert.KAsIdeal.main_v0_1) = v1 c
          ∧ r.2.mem ((c.tc : Thread Cert.KAsIdeal.nD Cert.KAsIdeal.τ).loc Cert.KAsIdeal.main_v0_2) = v2 c
          ∧ r.2.mem ((c.tc : Thread Cert.KAsIdeal.nD Cert.KAsIdeal.τ).loc Cert.KAsIdeal.main_arg0) = m ((c.tc : Thread Cert.KAsIdeal.nD Cert.KAsIdeal.τ).loc Cert.KAsIdeal.main_arg0)
          ∧ r.2.mem ((c.tc : Thread Cert.KAsIdeal.nD Cert.KAsIdeal.τ).loc Cert.KAsIdeal.main_arg1) = m ((c.tc : Thread Cert.KAsIdeal.nD Cert.KAsIdeal.τ).loc Cert.KAsIdeal.main_arg1)
          ∧ r.2.mem ((c.tc : Thread Cert.KAsIdeal.nD Cert.KAsIdeal.τ).loc Cert.KAsIdeal.main_arg2) = m ((c.tc : Thread Cert.KAsIdeal.nD Cert.KAsIdeal.τ).loc Cert.KAsIdeal.main_arg2)
          ∧ r.2.mem ((c.tc : Thread Cert.KAsIdeal.nD Cert.KAsIdeal.τ).loc Cert.KAsIdeal.main_arg3) = m ((c.tc : Thread Cert.KAsIdeal.nD Cert.KAsIdeal.τ).loc Cert.KAsIdeal.main_arg3))
      ∧ θ_run (Cert.RAsIdeal.defs (F := Ideal)) (onTc (τ := Cert.RAsIdeal.τ) (Cert.RAsIdeal.main (F := Ideal))) ⟨m', fun _ => 0, g'⟩ (fun r => ∀ c : Dev Cert.RAsIdeal.nD,
          r.2.mem ((c.tc : Thread Cert.RAsIdeal.nD Cert.RAsIdeal.τ).loc Cert.RAsIdeal.main_v23) = v0 c
          ∧ r.2.mem ((c.tc : Thread Cert.RAsIdeal.nD Cert.RAsIdeal.τ).loc Cert.RAsIdeal.main_v4) = v1 c
          ∧ r.2.mem ((c.tc : Thread Cert.RAsIdeal.nD Cert.RAsIdeal.τ).loc Cert.RAsIdeal.main_v10) = v2 c
          ∧ r.2.mem ((c.tc : Thread Cert.RAsIdeal.nD Cert.RAsIdeal.τ).loc Cert.RAsIdeal.main_arg0) = m' ((c.tc : Thread Cert.RAsIdeal.nD Cert.RAsIdeal.τ).loc Cert.RAsIdeal.main_arg0)
          ∧ r.2.mem ((c.tc : Thread Cert.RAsIdeal.nD Cert.RAsIdeal.τ).loc Cert.RAsIdeal.main_arg1) = m' ((c.tc : Thread Cert.RAsIdeal.nD Cert.RAsIdeal.τ).loc Cert.RAsIdeal.main_arg1)
          ∧ r.2.mem ((c.tc : Thread Cert.RAsIdeal.nD Cert.RAsIdeal.τ).loc Cert.RAsIdeal.main_arg2) = m' ((c.tc : Thread Cert.RAsIdeal.nD Cert.RAsIdeal.τ).loc Cert.RAsIdeal.main_arg2)
          ∧ r.2.mem ((c.tc : Thread Cert.RAsIdeal.nD Cert.RAsIdeal.τ).loc Cert.RAsIdeal.main_arg3) = m' ((c.tc : Thread Cert.RAsIdeal.nD Cert.RAsIdeal.τ).loc Cert.RAsIdeal.main_arg3))

def Claim : Prop :=
  ∃ (hKGate : Cert.KGate.Facts) (hKGateIdeal : Cert.KGateIdeal.Facts) (hRGateIdeal : Cert.RGateIdeal.Facts) (hKMid : Cert.KMid.Facts) (hKMidIdeal : Cert.KMidIdeal.Facts) (hRMidIdeal : Cert.RMidIdeal.Facts) (hKIn : Cert.KIn.Facts) (hKInIdeal : Cert.KInIdeal.Facts) (hRInIdeal : Cert.RInIdeal.Facts) (hKDwo : Cert.KDwo.Facts) (hKDwoIdeal : Cert.KDwoIdeal.Facts) (hRDwoIdeal : Cert.RDwoIdeal.Facts) (hKDwi : Cert.KDwi.Facts) (hKDwiIdeal : Cert.KDwiIdeal.Facts) (hRDwiIdeal : Cert.RDwiIdeal.Facts) (hKDout : Cert.KDout.Facts) (hKDoutIdeal : Cert.KDoutIdeal.Facts) (hRDoutIdeal : Cert.RDoutIdeal.Facts) (hKDbr : Cert.KDbr.Facts) (hKDbrIdeal : Cert.KDbrIdeal.Facts) (hRDbrIdeal : Cert.RDbrIdeal.Facts) (hKDmix : Cert.KDmix.Facts) (hKDmixIdeal : Cert.KDmixIdeal.Facts) (hRDmixIdeal : Cert.RDmixIdeal.Facts) (hKNt : Cert.KNt.Facts) (hKNtIdeal : Cert.KNtIdeal.Facts) (hRNtIdeal : Cert.RNtIdeal.Facts) (hKFfi : Cert.KFfi.Facts) (hKFfiIdeal : Cert.KFfiIdeal.Facts) (hRFfiIdeal : Cert.RFfiIdeal.Facts) (hKRes : Cert.KRes.Facts) (hKResIdeal : Cert.KResIdeal.Facts) (hRResIdeal : Cert.RResIdeal.Facts) (hKProj : Cert.KProj.Facts) (hKProjIdeal : Cert.KProjIdeal.Facts) (hRProjIdeal : Cert.RProjIdeal.Facts) (hKGf : Cert.KGf.Facts) (hKGfIdeal : Cert.KGfIdeal.Facts) (hRGfIdeal : Cert.RGfIdeal.Facts) (hKRms : Cert.KRms.Facts) (hKRmsIdeal : Cert.KRmsIdeal.Facts) (hRRmsIdeal : Cert.RRmsIdeal.Facts) (hKFf : Cert.KFf.Facts) (hKFfIdeal : Cert.KFfIdeal.Facts) (hRFfIdeal : Cert.RFfIdeal.Facts) (hKSf : Cert.KSf.Facts) (hKSfIdeal : Cert.KSfIdeal.Facts) (hRSfIdeal : Cert.RSfIdeal.Facts) (hKQn : Cert.KQn.Facts) (hKQnIdeal : Cert.KQnIdeal.Facts) (hRQnIdeal : Cert.RQnIdeal.Facts) (hKAi : Cert.KAi.Facts) (hKAiIdeal : Cert.KAiIdeal.Facts) (hRAiIdeal : Cert.RAiIdeal.Facts) (hKAo : Cert.KAo.Facts) (hKAoIdeal : Cert.KAoIdeal.Facts) (hRAoIdeal : Cert.RAoIdeal.Facts) (hKAm : Cert.KAm.Facts) (hKAmIdeal : Cert.KAmIdeal.Facts) (hRAmIdeal : Cert.RAmIdeal.Facts) (hKAb : Cert.KAb.Facts) (hKAbIdeal : Cert.KAbIdeal.Facts) (hRAbIdeal : Cert.RAbIdeal.Facts) (hKAg : Cert.KAg.Facts) (hKAgIdeal : Cert.KAgIdeal.Facts) (hRAgIdeal : Cert.RAgIdeal.Facts) (hKAs : Cert.KAs.Facts) (hKAsIdeal : Cert.KAsIdeal.Facts) (hRAsIdeal : Cert.RAsIdeal.Facts) (hPre_mid_finite : Cert.Pre_mid_finite.Facts) (hPre_in_finite : Cert.Pre_in_finite.Facts) (hPre_nt_finite : Cert.Pre_nt_finite.Facts) (hPre_tables : Cert.Pre_tables.Facts) (hPre_ff_finite : Cert.Pre_ff_finite.Facts) (hPre_sf_finite : Cert.Pre_sf_finite.Facts) (hPre_qn_finite : Cert.Pre_qn_finite.Facts),
    quiescent_KGate (hKGate := hKGate)
    ∧ quiescent_KGateIdeal (hKGateIdeal := hKGateIdeal)
    ∧ quiescent_RGateIdeal (hRGateIdeal := hRGateIdeal)
    ∧ quiescent_KMid (hKMid := hKMid)
    ∧ quiescent_KMidIdeal (hKMidIdeal := hKMidIdeal)
    ∧ quiescent_KMidIdeal_pre_mid_finite (hKMidIdeal := hKMidIdeal) (hPre_mid_finite := hPre_mid_finite)
    ∧ quiescent_RMidIdeal (hRMidIdeal := hRMidIdeal)
    ∧ quiescent_RMidIdeal_pre_mid_finite (hRMidIdeal := hRMidIdeal) (hPre_mid_finite := hPre_mid_finite)
    ∧ quiescent_KIn (hKIn := hKIn)
    ∧ quiescent_KInIdeal (hKInIdeal := hKInIdeal)
    ∧ quiescent_KInIdeal_pre_in_finite (hKInIdeal := hKInIdeal) (hPre_in_finite := hPre_in_finite)
    ∧ quiescent_RInIdeal (hRInIdeal := hRInIdeal)
    ∧ quiescent_RInIdeal_pre_in_finite (hRInIdeal := hRInIdeal) (hPre_in_finite := hPre_in_finite)
    ∧ quiescent_KDwo (hKDwo := hKDwo)
    ∧ quiescent_KDwoIdeal (hKDwoIdeal := hKDwoIdeal)
    ∧ quiescent_RDwoIdeal (hRDwoIdeal := hRDwoIdeal)
    ∧ quiescent_KDwi (hKDwi := hKDwi)
    ∧ quiescent_KDwiIdeal (hKDwiIdeal := hKDwiIdeal)
    ∧ quiescent_RDwiIdeal (hRDwiIdeal := hRDwiIdeal)
    ∧ quiescent_KDout (hKDout := hKDout)
    ∧ quiescent_KDoutIdeal (hKDoutIdeal := hKDoutIdeal)
    ∧ quiescent_RDoutIdeal (hRDoutIdeal := hRDoutIdeal)
    ∧ quiescent_KDbr (hKDbr := hKDbr)
    ∧ quiescent_KDbrIdeal (hKDbrIdeal := hKDbrIdeal)
    ∧ quiescent_RDbrIdeal (hRDbrIdeal := hRDbrIdeal)
    ∧ quiescent_KDmix (hKDmix := hKDmix)
    ∧ quiescent_KDmixIdeal (hKDmixIdeal := hKDmixIdeal)
    ∧ quiescent_RDmixIdeal (hRDmixIdeal := hRDmixIdeal)
    ∧ quiescent_KNt (hKNt := hKNt)
    ∧ quiescent_KNtIdeal (hKNtIdeal := hKNtIdeal)
    ∧ quiescent_KNtIdeal_pre_nt_finite (hKNtIdeal := hKNtIdeal) (hPre_nt_finite := hPre_nt_finite)
    ∧ quiescent_RNtIdeal (hRNtIdeal := hRNtIdeal)
    ∧ quiescent_RNtIdeal_pre_nt_finite (hRNtIdeal := hRNtIdeal) (hPre_nt_finite := hPre_nt_finite)
    ∧ quiescent_KFfi (hKFfi := hKFfi)
    ∧ quiescent_KFfiIdeal (hKFfiIdeal := hKFfiIdeal)
    ∧ quiescent_RFfiIdeal (hRFfiIdeal := hRFfiIdeal)
    ∧ quiescent_KRes (hKRes := hKRes)
    ∧ quiescent_KResIdeal (hKResIdeal := hKResIdeal)
    ∧ quiescent_RResIdeal (hRResIdeal := hRResIdeal)
    ∧ quiescent_KProj (hKProj := hKProj)
    ∧ quiescent_KProjIdeal (hKProjIdeal := hKProjIdeal)
    ∧ quiescent_RProjIdeal (hRProjIdeal := hRProjIdeal)
    ∧ quiescent_KGf (hKGf := hKGf)
    ∧ quiescent_KGfIdeal (hKGfIdeal := hKGfIdeal)
    ∧ quiescent_RGfIdeal (hRGfIdeal := hRGfIdeal)
    ∧ quiescent_KRms (hKRms := hKRms)
    ∧ quiescent_KRmsIdeal (hKRmsIdeal := hKRmsIdeal)
    ∧ quiescent_RRmsIdeal (hRRmsIdeal := hRRmsIdeal)
    ∧ quiescent_KFf (hKFf := hKFf) (hPre_tables := hPre_tables)
    ∧ quiescent_KFfIdeal (hKFfIdeal := hKFfIdeal) (hPre_tables := hPre_tables)
    ∧ quiescent_KFfIdeal_pre_ff_finite (hKFfIdeal := hKFfIdeal) (hPre_ff_finite := hPre_ff_finite)
    ∧ quiescent_RFfIdeal (hRFfIdeal := hRFfIdeal)
    ∧ quiescent_RFfIdeal_pre_ff_finite (hRFfIdeal := hRFfIdeal) (hPre_ff_finite := hPre_ff_finite)
    ∧ quiescent_KSf (hKSf := hKSf)
    ∧ quiescent_KSfIdeal (hKSfIdeal := hKSfIdeal)
    ∧ quiescent_KSfIdeal_pre_sf_finite (hKSfIdeal := hKSfIdeal) (hPre_sf_finite := hPre_sf_finite)
    ∧ quiescent_RSfIdeal (hRSfIdeal := hRSfIdeal)
    ∧ quiescent_RSfIdeal_pre_sf_finite (hRSfIdeal := hRSfIdeal) (hPre_sf_finite := hPre_sf_finite)
    ∧ quiescent_KQn (hKQn := hKQn)
    ∧ quiescent_KQnIdeal (hKQnIdeal := hKQnIdeal)
    ∧ quiescent_KQnIdeal_pre_qn_finite (hKQnIdeal := hKQnIdeal) (hPre_qn_finite := hPre_qn_finite)
    ∧ quiescent_RQnIdeal (hRQnIdeal := hRQnIdeal)
    ∧ quiescent_RQnIdeal_pre_qn_finite (hRQnIdeal := hRQnIdeal) (hPre_qn_finite := hPre_qn_finite)
    ∧ quiescent_KAi (hKAi := hKAi)
    ∧ quiescent_KAiIdeal (hKAiIdeal := hKAiIdeal)
    ∧ quiescent_RAiIdeal (hRAiIdeal := hRAiIdeal)
    ∧ quiescent_KAo (hKAo := hKAo)
    ∧ quiescent_KAoIdeal (hKAoIdeal := hKAoIdeal)
    ∧ quiescent_RAoIdeal (hRAoIdeal := hRAoIdeal)
    ∧ quiescent_KAm (hKAm := hKAm)
    ∧ quiescent_KAmIdeal (hKAmIdeal := hKAmIdeal)
    ∧ quiescent_RAmIdeal (hRAmIdeal := hRAmIdeal)
    ∧ quiescent_KAb (hKAb := hKAb)
    ∧ quiescent_KAbIdeal (hKAbIdeal := hKAbIdeal)
    ∧ quiescent_RAbIdeal (hRAbIdeal := hRAbIdeal)
    ∧ quiescent_KAg (hKAg := hKAg)
    ∧ quiescent_KAgIdeal (hKAgIdeal := hKAgIdeal)
    ∧ quiescent_RAgIdeal (hRAgIdeal := hRAgIdeal)
    ∧ quiescent_KAs (hKAs := hKAs)
    ∧ quiescent_KAsIdeal (hKAsIdeal := hKAsIdeal)
    ∧ quiescent_RAsIdeal (hRAsIdeal := hRAsIdeal)
    ∧ preserves_KGate_KGateIdeal
    ∧ algebraic_KGateIdeal_RGateIdeal (hKGateIdeal := hKGateIdeal) (hRGateIdeal := hRGateIdeal)
    ∧ preserves_KMid_KMidIdeal
    ∧ algebraic_KMidIdeal_RMidIdeal_pre_mid_finite (hKMidIdeal := hKMidIdeal) (hRMidIdeal := hRMidIdeal) (hPre_mid_finite := hPre_mid_finite)
    ∧ preserves_KIn_KInIdeal
    ∧ algebraic_KInIdeal_RInIdeal_pre_in_finite (hKInIdeal := hKInIdeal) (hRInIdeal := hRInIdeal) (hPre_in_finite := hPre_in_finite)
    ∧ preserves_KDwo_KDwoIdeal
    ∧ algebraic_KDwoIdeal_RDwoIdeal (hKDwoIdeal := hKDwoIdeal) (hRDwoIdeal := hRDwoIdeal)
    ∧ preserves_KDwi_KDwiIdeal
    ∧ algebraic_KDwiIdeal_RDwiIdeal (hKDwiIdeal := hKDwiIdeal) (hRDwiIdeal := hRDwiIdeal)
    ∧ preserves_KDout_KDoutIdeal
    ∧ algebraic_KDoutIdeal_RDoutIdeal (hKDoutIdeal := hKDoutIdeal) (hRDoutIdeal := hRDoutIdeal)
    ∧ preserves_KDbr_KDbrIdeal
    ∧ algebraic_KDbrIdeal_RDbrIdeal (hKDbrIdeal := hKDbrIdeal) (hRDbrIdeal := hRDbrIdeal)
    ∧ preserves_KDmix_KDmixIdeal
    ∧ algebraic_KDmixIdeal_RDmixIdeal (hKDmixIdeal := hKDmixIdeal) (hRDmixIdeal := hRDmixIdeal)
    ∧ preserves_KNt_KNtIdeal
    ∧ algebraic_KNtIdeal_RNtIdeal_pre_nt_finite (hKNtIdeal := hKNtIdeal) (hRNtIdeal := hRNtIdeal) (hPre_nt_finite := hPre_nt_finite)
    ∧ preserves_KFfi_KFfiIdeal
    ∧ algebraic_KFfiIdeal_RFfiIdeal (hKFfiIdeal := hKFfiIdeal) (hRFfiIdeal := hRFfiIdeal)
    ∧ preserves_KRes_KResIdeal
    ∧ algebraic_KResIdeal_RResIdeal (hKResIdeal := hKResIdeal) (hRResIdeal := hRResIdeal)
    ∧ preserves_KProj_KProjIdeal
    ∧ algebraic_KProjIdeal_RProjIdeal (hKProjIdeal := hKProjIdeal) (hRProjIdeal := hRProjIdeal)
    ∧ preserves_KGf_KGfIdeal
    ∧ algebraic_KGfIdeal_RGfIdeal (hKGfIdeal := hKGfIdeal) (hRGfIdeal := hRGfIdeal)
    ∧ preserves_KRms_KRmsIdeal
    ∧ algebraic_KRmsIdeal_RRmsIdeal (hKRmsIdeal := hKRmsIdeal) (hRRmsIdeal := hRRmsIdeal)
    ∧ preserves_KFf_KFfIdeal
    ∧ algebraic_KFfIdeal_RFfIdeal_pre_ff_finite (hKFfIdeal := hKFfIdeal) (hRFfIdeal := hRFfIdeal) (hPre_ff_finite := hPre_ff_finite)
    ∧ preserves_KSf_KSfIdeal
    ∧ algebraic_KSfIdeal_RSfIdeal_pre_sf_finite (hKSfIdeal := hKSfIdeal) (hRSfIdeal := hRSfIdeal) (hPre_sf_finite := hPre_sf_finite)
    ∧ preserves_KQn_KQnIdeal
    ∧ algebraic_KQnIdeal_RQnIdeal_pre_qn_finite (hKQnIdeal := hKQnIdeal) (hRQnIdeal := hRQnIdeal) (hPre_qn_finite := hPre_qn_finite)
    ∧ preserves_KAi_KAiIdeal
    ∧ algebraic_KAiIdeal_RAiIdeal (hKAiIdeal := hKAiIdeal) (hRAiIdeal := hRAiIdeal)
    ∧ preserves_KAo_KAoIdeal
    ∧ algebraic_KAoIdeal_RAoIdeal (hKAoIdeal := hKAoIdeal) (hRAoIdeal := hRAoIdeal)
    ∧ preserves_KAm_KAmIdeal
    ∧ algebraic_KAmIdeal_RAmIdeal (hKAmIdeal := hKAmIdeal) (hRAmIdeal := hRAmIdeal)
    ∧ preserves_KAb_KAbIdeal
    ∧ algebraic_KAbIdeal_RAbIdeal (hKAbIdeal := hKAbIdeal) (hRAbIdeal := hRAbIdeal)
    ∧ preserves_KAg_KAgIdeal
    ∧ algebraic_KAgIdeal_RAgIdeal (hKAgIdeal := hKAgIdeal) (hRAgIdeal := hRAgIdeal)
    ∧ preserves_KAs_KAsIdeal
    ∧ algebraic_KAsIdeal_RAsIdeal (hKAsIdeal := hKAsIdeal) (hRAsIdeal := hRAsIdeal)
-- ==== Pre_ff_finite.lean ====
abbrev S66 : Shape := ⟨1, ![66]⟩
abbrev S4224x512 : Shape := ⟨2, ![4224, 512]⟩
abbrev S4224x128 : Shape := ⟨2, ![4224, 128]⟩
abbrev S8x4224 : Shape := ⟨2, ![8, 4224]⟩
abbrev S_ : Shape := ⟨0, ![]⟩

class Facts : Prop where
  reducesTo_S66_S_d0 : S66.ReducesTo [0] S_
  h_S_ : 0 < S_.numel
  bcast_S_S4224x512 : S_.BroadcastsInDim S4224x512 (![] : Fin 0 → Fin S4224x512.rank)
  reducesTo_S4224x512_S_d0_1 : S4224x512.ReducesTo [0, 1] S_
  bcast_S_S4224x128 : S_.BroadcastsInDim S4224x128 (![] : Fin 0 → Fin S4224x128.rank)
  reducesTo_S4224x128_S_d0_1 : S4224x128.ReducesTo [0, 1] S_
  bcast_S_S8x4224 : S_.BroadcastsInDim S8x4224 (![] : Fin 0 → Fin S8x4224.rank)
  reducesTo_S8x4224_S_d0_1 : S8x4224.ReducesTo [0, 1] S_

variable [Facts]

noncomputable abbrev lit0 : Fin 66 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32
  | _ => 0#32

noncomputable abbrev lit1 : Fin 66 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32 | 36 => 0#32 | 37 => 1#32 | 38 => 2#32 | 39 => 3#32
  | 40 => 4#32 | 41 => 5#32 | 42 => 6#32 | 43 => 7#32 | 44 => 8#32 | 45 => 0#32 | 46 => 1#32 | 47 => 2#32
  | 48 => 3#32 | 49 => 4#32 | 50 => 5#32 | 51 => 6#32 | 52 => 7#32 | 53 => 8#32 | 54 => 9#32 | 55 => 0#32
  | 56 => 1#32 | 57 => 2#32 | 58 => 3#32 | 59 => 4#32 | 60 => 5#32 | 61 => 6#32 | 62 => 7#32 | 63 => 8#32
  | 64 => 9#32 | 65 => 10#32
  | _ => 0#32

def fn_part2 {F : FTy → Type} [FloatOps F] (main_arg6 : FVec F S8x4224 .f32) (main_v25 : IVec S_ 1) (main_v31 : IVec S_ 1) : IVec S_ 1 :=
  let main_v32 : IVec S_ 1 := andi main_v25 main_v31
  let main_cst_14 : FVec F S_ .f32 := constant S_ .f32 0xFF800000#32
  let main_v33 : FVec F S8x4224 .f32 := broadcastInDim S8x4224 ![] bcast_S_S8x4224 main_cst_14
  let main_v34 : IVec S8x4224 1 := cmpf .ogt main_arg6 main_v33
  let main_cst_15 : FVec F S_ .f32 := constant S_ .f32 0x7F800000#32
  let main_v35 : FVec F S8x4224 .f32 := broadcastInDim S8x4224 ![] bcast_S_S8x4224 main_cst_15
  let main_v36 : IVec S8x4224 1 := cmpf .olt main_arg6 main_v35
  let main_v37 : IVec S8x4224 1 := andi main_v34 main_v36
  let main_c_16 : IVec S_ 1 := constantI S_ 1 1#1
  let main_v38 : IVec S_ 1 := (fun x v => Host.reduce IntOp.andi x v reducesTo_S8x4224_S_d0_1 h_S_) main_v37 main_c_16
  let main_v39 : IVec S_ 1 := andi main_v32 main_v38
  main_v39

def fn_part1 {F : FTy → Type} [FloatOps F] (main_arg3 : FVec F S4224x512 .bf16) (main_arg4 : FVec F S4224x512 .bf16) (main_arg5 : FVec F S4224x128 .f32) (main_arg6 : FVec F S8x4224 .f32) (main_v11 : IVec S_ 1) (main_v13 : IVec S4224x512 1) (main_v14 : FVec F S4224x512 .bf16) : IVec S_ 1 :=
  let main_v15 : IVec S4224x512 1 := cmpf .olt main_arg3 main_v14
  let main_v16 : IVec S4224x512 1 := andi main_v13 main_v15
  let main_c_7 : IVec S_ 1 := constantI S_ 1 1#1
  let main_v17 : IVec S_ 1 := (fun x v => Host.reduce IntOp.andi x v reducesTo_S4224x512_S_d0_1 h_S_) main_v16 main_c_7
  let main_v18 : IVec S_ 1 := andi main_v11 main_v17
  let main_cst_8 : FVec F S_ .bf16 := constant S_ .bf16 0xFF80#16
  let main_v19 : FVec F S4224x512 .bf16 := broadcastInDim S4224x512 ![] bcast_S_S4224x512 main_cst_8
  let main_v20 : IVec S4224x512 1 := cmpf .ogt main_arg4 main_v19
  let main_cst_9 : FVec F S_ .bf16 := constant S_ .bf16 0x7F80#16
  let main_v21 : FVec F S4224x512 .bf16 := broadcastInDim S4224x512 ![] bcast_S_S4224x512 main_cst_9
  let main_v22 : IVec S4224x512 1 := cmpf .olt main_arg4 main_v21
  let main_v23 : IVec S4224x512 1 := andi main_v20 main_v22
  let main_c_10 : IVec S_ 1 := constantI S_ 1 1#1
  let main_v24 : IVec S_ 1 := (fun x v => Host.reduce IntOp.andi x v reducesTo_S4224x512_S_d0_1 h_S_) main_v23 main_c_10
  let main_v25 : IVec S_ 1 := andi main_v18 main_v24
  let main_cst_11 : FVec F S_ .f32 := constant S_ .f32 0xFF800000#32
  let main_v26 : FVec F S4224x128 .f32 := broadcastInDim S4224x128 ![] bcast_S_S4224x128 main_cst_11
  let main_v27 : IVec S4224x128 1 := cmpf .ogt main_arg5 main_v26
  let main_cst_12 : FVec F S_ .f32 := constant S_ .f32 0x7F800000#32
  let main_v28 : FVec F S4224x128 .f32 := broadcastInDim S4224x128 ![] bcast_S_S4224x128 main_cst_12
  let main_v29 : IVec S4224x128 1 := cmpf .olt main_arg5 main_v28
  let main_v30 : IVec S4224x128 1 := andi main_v27 main_v29
  let main_c_13 : IVec S_ 1 := constantI S_ 1 1#1
  let main_v31 : IVec S_ 1 := (fun x v => Host.reduce IntOp.andi x v reducesTo_S4224x128_S_d0_1 h_S_) main_v30 main_c_13
  fn_part2 (F := F) main_arg6 main_v25 main_v31

def fn {F : FTy → Type} [FloatOps F] (main_arg0 : IVec S66 32) (main_arg1 : IVec S66 32) (main_arg2 : FVec F S4224x512 .bf16) (main_arg3 : FVec F S4224x512 .bf16) (main_arg4 : FVec F S4224x512 .bf16) (main_arg5 : FVec F S4224x128 .f32) (main_arg6 : FVec F S8x4224 .f32) : IVec S_ 1 :=
  let main_c : IVec S66 32 := fun i => lit0 (S66.rowMajor i)
  let main_c_0 : IVec S66 32 := fun i => lit1 (S66.rowMajor i)
  let main_v0 : IVec S66 1 := cmpi .eq main_arg0 main_c
  let main_c_1 : IVec S_ 1 := constantI S_ 1 1#1
  let main_v1 : IVec S_ 1 := (fun x v => Host.reduce IntOp.andi x v reducesTo_S66_S_d0 h_S_) main_v0 main_c_1
  let main_v2 : IVec S66 1 := cmpi .eq main_arg1 main_c_0
  let main_c_2 : IVec S_ 1 := constantI S_ 1 1#1
  let main_v3 : IVec S_ 1 := (fun x v => Host.reduce IntOp.andi x v reducesTo_S66_S_d0 h_S_) main_v2 main_c_2
  let main_v4 : IVec S_ 1 := andi main_v1 main_v3
  let main_cst : FVec F S_ .bf16 := constant S_ .bf16 0xFF80#16
  let main_v5 : FVec F S4224x512 .bf16 := broadcastInDim S4224x512 ![] bcast_S_S4224x512 main_cst
  let main_v6 : IVec S4224x512 1 := cmpf .ogt main_arg2 main_v5
  let main_cst_3 : FVec F S_ .bf16 := constant S_ .bf16 0x7F80#16
  let main_v7 : FVec F S4224x512 .bf16 := broadcastInDim S4224x512 ![] bcast_S_S4224x512 main_cst_3
  let main_v8 : IVec S4224x512 1 := cmpf .olt main_arg2 main_v7
  let main_v9 : IVec S4224x512 1 := andi main_v6 main_v8
  let main_c_4 : IVec S_ 1 := constantI S_ 1 1#1
  let main_v10 : IVec S_ 1 := (fun x v => Host.reduce IntOp.andi x v reducesTo_S4224x512_S_d0_1 h_S_) main_v9 main_c_4
  let main_v11 : IVec S_ 1 := andi main_v4 main_v10
  let main_cst_5 : FVec F S_ .bf16 := constant S_ .bf16 0xFF80#16
  let main_v12 : FVec F S4224x512 .bf16 := broadcastInDim S4224x512 ![] bcast_S_S4224x512 main_cst_5
  let main_v13 : IVec S4224x512 1 := cmpf .ogt main_arg3 main_v12
  let main_cst_6 : FVec F S_ .bf16 := constant S_ .bf16 0x7F80#16
  let main_v14 : FVec F S4224x512 .bf16 := broadcastInDim S4224x512 ![] bcast_S_S4224x512 main_cst_6
  fn_part1 (F := F) main_arg3 main_arg4 main_arg5 main_arg6 main_v11 main_v13 main_v14
-- ==== Pre_in_finite.lean ====
abbrev S2x4224x2816 : Shape := ⟨3, ![2, 4224, 2816]⟩
abbrev S1024x5632 : Shape := ⟨2, ![1024, 5632]⟩
abbrev S4224x1024 : Shape := ⟨2, ![4224, 1024]⟩
abbrev S1x1024 : Shape := ⟨2, ![1, 1024]⟩
abbrev S_ : Shape := ⟨0, ![]⟩

class Facts : Prop where
  bcast_S_S2x4224x2816 : S_.BroadcastsInDim S2x4224x2816 (![] : Fin 0 → Fin S2x4224x2816.rank)
  reducesTo_S2x4224x2816_S_d0_1_2 : S2x4224x2816.ReducesTo [0, 1, 2] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S4224x1024 : S_.BroadcastsInDim S4224x1024 (![] : Fin 0 → Fin S4224x1024.rank)
  reducesTo_S4224x1024_S_d0_1 : S4224x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg2 : FVec F S4224x1024 .f32) (main_arg3 : FVec F S1x1024 .f32) (main_v12 : IVec S_ 1) (main_v14 : IVec S4224x1024 1) (main_v15 : FVec F S4224x1024 .f32) : IVec S_ 1 :=
  let main_v16 : IVec S4224x1024 1 := cmpf .olt main_arg2 main_v15
  let main_v17 : IVec S4224x1024 1 := andi main_v14 main_v16
  let main_c_6 : IVec S_ 1 := constantI S_ 1 1#1
  let main_v18 : IVec S_ 1 := (fun x v => Host.reduce IntOp.andi x v reducesTo_S4224x1024_S_d0_1 h_S_) main_v17 main_c_6
  let main_v19 : IVec S_ 1 := andi main_v12 main_v18
  let main_cst_7 : FVec F S_ .f32 := constant S_ .f32 0xFF800000#32
  let main_v20 : FVec F S1x1024 .f32 := broadcastInDim S1x1024 ![] bcast_S_S1x1024 main_cst_7
  let main_v21 : IVec S1x1024 1 := cmpf .ogt main_arg3 main_v20
  let main_cst_8 : FVec F S_ .f32 := constant S_ .f32 0x7F800000#32
  let main_v22 : FVec F S1x1024 .f32 := broadcastInDim S1x1024 ![] bcast_S_S1x1024 main_cst_8
  let main_v23 : IVec S1x1024 1 := cmpf .olt main_arg3 main_v22
  let main_v24 : IVec S1x1024 1 := andi main_v21 main_v23
  let main_c_9 : IVec S_ 1 := constantI S_ 1 1#1
  let main_v25 : IVec S_ 1 := (fun x v => Host.reduce IntOp.andi x v reducesTo_S1x1024_S_d0_1 h_S_) main_v24 main_c_9
  let main_v26 : IVec S_ 1 := andi main_v19 main_v25
  main_v26

def fn {F : FTy → Type} [FloatOps F] (main_arg0 : FVec F S2x4224x2816 .bf16) (main_arg1 : FVec F S1024x5632 .bf16) (main_arg2 : FVec F S4224x1024 .f32) (main_arg3 : FVec F S1x1024 .f32) (main_arg4 : FVec F S4224x1024 .f32) : IVec S_ 1 :=
  let main_cst : FVec F S_ .bf16 := constant S_ .bf16 0xFF80#16
  let main_v0 : FVec F S2x4224x2816 .bf16 := broadcastInDim S2x4224x2816 ![] bcast_S_S2x4224x2816 main_cst
  let main_v1 : IVec S2x4224x2816 1 := cmpf .ogt main_arg0 main_v0
  let main_cst_0 : FVec F S_ .bf16 := constant S_ .bf16 0x7F80#16
  let main_v2 : FVec F S2x4224x2816 .bf16 := broadcastInDim S2x4224x2816 ![] bcast_S_S2x4224x2816 main_cst_0
  let main_v3 : IVec S2x4224x2816 1 := cmpf .olt main_arg0 main_v2
  let main_v4 : IVec S2x4224x2816 1 := andi main_v1 main_v3
  let main_c : IVec S_ 1 := constantI S_ 1 1#1
  let main_v5 : IVec S_ 1 := (fun x v => Host.reduce IntOp.andi x v reducesTo_S2x4224x2816_S_d0_1_2 h_S_) main_v4 main_c
  let main_cst_1 : FVec F S_ .bf16 := constant S_ .bf16 0xFF80#16
  let main_v6 : FVec F S1024x5632 .bf16 := broadcastInDim S1024x5632 ![] bcast_S_S1024x5632 main_cst_1
  let main_v7 : IVec S1024x5632 1 := cmpf .ogt main_arg1 main_v6
  let main_cst_2 : FVec F S_ .bf16 := constant S_ .bf16 0x7F80#16
  let main_v8 : FVec F S1024x5632 .bf16 := broadcastInDim S1024x5632 ![] bcast_S_S1024x5632 main_cst_2
  let main_v9 : IVec S1024x5632 1 := cmpf .olt main_arg1 main_v8
  let main_v10 : IVec S1024x5632 1 := andi main_v7 main_v9
  let main_c_3 : IVec S_ 1 := constantI S_ 1 1#1
  let main_v11 : IVec S_ 1 := (fun x v => Host.reduce IntOp.andi x v reducesTo_S1024x5632_S_d0_1 h_S_) main_v10 main_c_3
  let main_v12 : IVec S_ 1 := andi main_v5 main_v11
  let main_cst_4 : FVec F S_ .f32 := constant S_ .f32 0xFF800000#32
  let main_v13 : FVec F S4224x1024 .f32 := broadcastInDim S4224x1024 ![] bcast_S_S4224x1024 main_cst_4
  let main_v14 : IVec S4224x1024 1 := cmpf .ogt main_arg2 main_v13
  let main_cst_5 : FVec F S_ .f32 := constant S_ .f32 0x7F800000#32
  let main_v15 : FVec F S4224x1024 .f32 := broadcastInDim S4224x1024 ![] bcast_S_S4224x1024 main_cst_5
  fn_part1 (F := F) main_arg2 main_arg3 main_v12 main_v14 main_v15
-- ==== Pre_mid_finite.lean ====
abbrev S4224x1024 : Shape := ⟨2, ![4224, 1024]⟩
abbrev S2816x1024 : Shape := ⟨2, ![2816, 1024]⟩
abbrev S2x4224x2816 : Shape := ⟨3, ![2, 4224, 2816]⟩
abbrev S_ : Shape := ⟨0, ![]⟩
abbrev S1x4224x2816 : Shape := ⟨3, ![1, 4224, 2816]⟩
abbrev S4224x2816 : Shape := ⟨2, ![4224, 2816]⟩

class Facts : Prop where
  bcast_S_S4224x1024 : S_.BroadcastsInDim S4224x1024 (![] : Fin 0 → Fin S4224x1024.rank)
  reducesTo_S4224x1024_S_d0_1 : S4224x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  slices_S2x4224x2816_S1x4224x2816_1_0_0 : S2x4224x2816.Slices ![1, 0, 0] S1x4224x2816
  shapeCasts_S1x4224x2816_S4224x2816 : S1x4224x2816.ShapeCasts S4224x2816
  bcast_S_S4224x2816 : S_.BroadcastsInDim S4224x2816 (![] : Fin 0 → Fin S4224x2816.rank)
  reducesTo_S4224x2816_S_d0_1 : S4224x2816.ReducesTo [0, 1] S_

variable [Facts]

def fn_part1 {F : FTy → Type} [FloatOps F] (main_v12 : IVec S_ 1) (main_v14 : FVec F S4224x2816 .bf16) (main_v16 : IVec S4224x2816 1) : IVec S_ 1 :=
  let main_cst_5 : FVec F S_ .bf16 := constant S_ .bf16 0x7F80#16
  let main_v17 : FVec F S4224x2816 .bf16 := broadcastInDim S4224x2816 ![] bcast_S_S4224x2816 main_cst_5
  let main_v18 : IVec S4224x2816 1 := cmpf .olt main_v14 main_v17
  let main_v19 : IVec S4224x2816 1 := andi main_v16 main_v18
  let main_c_6 : IVec S_ 1 := constantI S_ 1 1#1
  let main_v20 : IVec S_ 1 := (fun x v => Host.reduce IntOp.andi x v reducesTo_S4224x2816_S_d0_1 h_S_) main_v19 main_c_6
  let main_v21 : IVec S_ 1 := andi main_v12 main_v20
  main_v21

def fn {F : FTy → Type} [FloatOps F] (main_arg0 : FVec F S4224x1024 .bf16) (main_arg1 : FVec F S2816x1024 .bf16) (main_arg2 : FVec F S2x4224x2816 .bf16) : IVec S_ 1 :=
  let main_cst : FVec F S_ .bf16 := constant S_ .bf16 0xFF80#16
  let main_v0 : FVec F S4224x1024 .bf16 := broadcastInDim S4224x1024 ![] bcast_S_S4224x1024 main_cst
  let main_v1 : IVec S4224x1024 1 := cmpf .ogt main_arg0 main_v0
  let main_cst_0 : FVec F S_ .bf16 := constant S_ .bf16 0x7F80#16
  let main_v2 : FVec F S4224x1024 .bf16 := broadcastInDim S4224x1024 ![] bcast_S_S4224x1024 main_cst_0
  let main_v3 : IVec S4224x1024 1 := cmpf .olt main_arg0 main_v2
  let main_v4 : IVec S4224x1024 1 := andi main_v1 main_v3
  let main_c : IVec S_ 1 := constantI S_ 1 1#1
  let main_v5 : IVec S_ 1 := (fun x v => Host.reduce IntOp.andi x v reducesTo_S4224x1024_S_d0_1 h_S_) main_v4 main_c
  let main_cst_1 : FVec F S_ .bf16 := constant S_ .bf16 0xFF80#16
  let main_v6 : FVec F S2816x1024 .bf16 := broadcastInDim S2816x1024 ![] bcast_S_S2816x1024 main_cst_1
  let main_v7 : IVec S2816x1024 1 := cmpf .ogt main_arg1 main_v6
  let main_cst_2 : FVec F S_ .bf16 := constant S_ .bf16 0x7F80#16
  let main_v8 : FVec F S2816x1024 .bf16 := broadcastInDim S2816x1024 ![] bcast_S_S2816x1024 main_cst_2
  let main_v9 : IVec S2816x1024 1 := cmpf .olt main_arg1 main_v8
  let main_v10 : IVec S2816x1024 1 := andi main_v7 main_v9
  let main_c_3 : IVec S_ 1 := constantI S_ 1 1#1
  let main_v11 : IVec S_ 1 := (fun x v => Host.reduce IntOp.andi x v reducesTo_S2816x1024_S_d0_1 h_S_) main_v10 main_c_3
  let main_v12 : IVec S_ 1 := andi main_v5 main_v11
  let main_v13 : FVec F S1x4224x2816 .bf16 := (extractStridedSlice S1x4224x2816 ![1, 0, 0] · slices_S2x4224x2816_S1x4224x2816_1_0_0) main_arg2
  let main_v14 : FVec F S4224x2816 .bf16 := shapeCast S4224x2816 main_v13 shapeCasts_S1x4224x2816_S4224x2816
  let main_cst_4 : FVec F S_ .bf16 := constant S_ .bf16 0xFF80#16
  let main_v15 : FVec F S4224x2816 .bf16 := broadcastInDim S4224x2816 ![] bcast_S_S4224x2816 main_cst_4
  let main_v16 : IVec S4224x2816 1 := cmpf .ogt main_v14 main_v15
  fn_part1 (F := F) main_v12 main_v14 main_v16
-- ==== Pre_nt_finite.lean ====
abbrev S4224x4480 : Shape := ⟨2, ![4224, 4480]⟩
abbrev S1024x4480 : Shape := ⟨2, ![1024, 4480]⟩
abbrev S4224x1024 : Shape := ⟨2, ![4224, 1024]⟩
abbrev S1x1024 : Shape := ⟨2, ![1, 1024]⟩
abbrev S_ : Shape := ⟨0, ![]⟩

class Facts : Prop where
  bcast_S_S4224x4480 : S_.BroadcastsInDim S4224x4480 (![] : Fin 0 → Fin S4224x4480.rank)
  reducesTo_S4224x4480_S_d0_1 : S4224x4480.ReducesTo [0, 1] S_
  h_S_ : 0 < S_.numel
  bcast_S_S1024x4480 : S_.BroadcastsInDim S1024x4480 (![] : Fin 0 → Fin S1024x4480.rank)
  reducesTo_S1024x4480_S_d0_1 : S1024x4480.ReducesTo [0, 1] S_
  bcast_S_S4224x1024 : S_.BroadcastsInDim S4224x1024 (![] : Fin 0 → Fin S4224x1024.rank)
  reducesTo_S4224x1024_S_d0_1 : S4224x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg2 : FVec F S4224x1024 .f32) (main_arg3 : FVec F S1x1024 .f32) (main_v12 : IVec S_ 1) (main_v14 : IVec S4224x1024 1) (main_v15 : FVec F S4224x1024 .f32) : IVec S_ 1 :=
  let main_v16 : IVec S4224x1024 1 := cmpf .olt main_arg2 main_v15
  let main_v17 : IVec S4224x1024 1 := andi main_v14 main_v16
  let main_c_6 : IVec S_ 1 := constantI S_ 1 1#1
  let main_v18 : IVec S_ 1 := (fun x v => Host.reduce IntOp.andi x v reducesTo_S4224x1024_S_d0_1 h_S_) main_v17 main_c_6
  let main_v19 : IVec S_ 1 := andi main_v12 main_v18
  let main_cst_7 : FVec F S_ .f32 := constant S_ .f32 0xFF800000#32
  let main_v20 : FVec F S1x1024 .f32 := broadcastInDim S1x1024 ![] bcast_S_S1x1024 main_cst_7
  let main_v21 : IVec S1x1024 1 := cmpf .ogt main_arg3 main_v20
  let main_cst_8 : FVec F S_ .f32 := constant S_ .f32 0x7F800000#32
  let main_v22 : FVec F S1x1024 .f32 := broadcastInDim S1x1024 ![] bcast_S_S1x1024 main_cst_8
  let main_v23 : IVec S1x1024 1 := cmpf .olt main_arg3 main_v22
  let main_v24 : IVec S1x1024 1 := andi main_v21 main_v23
  let main_c_9 : IVec S_ 1 := constantI S_ 1 1#1
  let main_v25 : IVec S_ 1 := (fun x v => Host.reduce IntOp.andi x v reducesTo_S1x1024_S_d0_1 h_S_) main_v24 main_c_9
  let main_v26 : IVec S_ 1 := andi main_v19 main_v25
  main_v26

def fn {F : FTy → Type} [FloatOps F] (main_arg0 : FVec F S4224x4480 .bf16) (main_arg1 : FVec F S1024x4480 .bf16) (main_arg2 : FVec F S4224x1024 .f32) (main_arg3 : FVec F S1x1024 .f32) (main_arg4 : FVec F S4224x1024 .f32) : IVec S_ 1 :=
  let main_cst : FVec F S_ .bf16 := constant S_ .bf16 0xFF80#16
  let main_v0 : FVec F S4224x4480 .bf16 := broadcastInDim S4224x4480 ![] bcast_S_S4224x4480 main_cst
  let main_v1 : IVec S4224x4480 1 := cmpf .ogt main_arg0 main_v0
  let main_cst_0 : FVec F S_ .bf16 := constant S_ .bf16 0x7F80#16
  let main_v2 : FVec F S4224x4480 .bf16 := broadcastInDim S4224x4480 ![] bcast_S_S4224x4480 main_cst_0
  let main_v3 : IVec S4224x4480 1 := cmpf .olt main_arg0 main_v2
  let main_v4 : IVec S4224x4480 1 := andi main_v1 main_v3
  let main_c : IVec S_ 1 := constantI S_ 1 1#1
  let main_v5 : IVec S_ 1 := (fun x v => Host.reduce IntOp.andi x v reducesTo_S4224x4480_S_d0_1 h_S_) main_v4 main_c
  let main_cst_1 : FVec F S_ .bf16 := constant S_ .bf16 0xFF80#16
  let main_v6 : FVec F S1024x4480 .bf16 := broadcastInDim S1024x4480 ![] bcast_S_S1024x4480 main_cst_1
  let main_v7 : IVec S1024x4480 1 := cmpf .ogt main_arg1 main_v6
  let main_cst_2 : FVec F S_ .bf16 := constant S_ .bf16 0x7F80#16
  let main_v8 : FVec F S1024x4480 .bf16 := broadcastInDim S1024x4480 ![] bcast_S_S1024x4480 main_cst_2
  let main_v9 : IVec S1024x4480 1 := cmpf .olt main_arg1 main_v8
  let main_v10 : IVec S1024x4480 1 := andi main_v7 main_v9
  let main_c_3 : IVec S_ 1 := constantI S_ 1 1#1
  let main_v11 : IVec S_ 1 := (fun x v => Host.reduce IntOp.andi x v reducesTo_S1024x4480_S_d0_1 h_S_) main_v10 main_c_3
  let main_v12 : IVec S_ 1 := andi main_v5 main_v11
  let main_cst_4 : FVec F S_ .f32 := constant S_ .f32 0xFF800000#32
  let main_v13 : FVec F S4224x1024 .f32 := broadcastInDim S4224x1024 ![] bcast_S_S4224x1024 main_cst_4
  let main_v14 : IVec S4224x1024 1 := cmpf .ogt main_arg2 main_v13
  let main_cst_5 : FVec F S_ .f32 := constant S_ .f32 0x7F800000#32
  let main_v15 : FVec F S4224x1024 .f32 := broadcastInDim S4224x1024 ![] bcast_S_S4224x1024 main_cst_5
  fn_part1 (F := F) main_arg2 main_arg3 main_v12 main_v14 main_v15
-- ==== Pre_qn_finite.lean ====
abbrev S4224x4480 : Shape := ⟨2, ![4224, 4480]⟩
abbrev S1x512 : Shape := ⟨2, ![1, 512]⟩
abbrev S1x128 : Shape := ⟨2, ![1, 128]⟩
abbrev S4224x1024 : Shape := ⟨2, ![4224, 1024]⟩
abbrev S_ : Shape := ⟨0, ![]⟩
abbrev S4224x640 : Shape := ⟨2, ![4224, 640]⟩

class Facts : Prop where
  slices_S4224x4480_S4224x1024_0_2048 : S4224x4480.Slices ![0, 2048] S4224x1024
  bcast_S_S4224x1024 : S_.BroadcastsInDim S4224x1024 (![] : Fin 0 → Fin S4224x1024.rank)
  reducesTo_S4224x1024_S_d0_1 : S4224x1024.ReducesTo [0, 1] S_
  h_S_ : 0 < S_.numel
  slices_S4224x4480_S4224x640_0_3584 : S4224x4480.Slices ![0, 3584] S4224x640
  bcast_S_S4224x640 : S_.BroadcastsInDim S4224x640 (![] : Fin 0 → Fin S4224x640.rank)
  reducesTo_S4224x640_S_d0_1 : S4224x640.ReducesTo [0, 1] S_

variable [Facts]

def fn {F : FTy → Type} [FloatOps F] (main_arg0 : FVec F S4224x4480 .f32) (main_arg1 : FVec F S1x512 .f32) (main_arg2 : FVec F S1x512 .f32) (main_arg3 : FVec F S1x512 .f32) (main_arg4 : FVec F S1x128 .f32) (main_arg5 : FVec F S1x128 .f32) : IVec S_ 1 :=
  let main_v0 : FVec F S4224x1024 .f32 := (extractStridedSlice S4224x1024 ![0, 2048] · slices_S4224x4480_S4224x1024_0_2048) main_arg0
  let main_cst : FVec F S_ .f32 := constant S_ .f32 0xFF800000#32
  let main_v1 : FVec F S4224x1024 .f32 := broadcastInDim S4224x1024 ![] bcast_S_S4224x1024 main_cst
  let main_v2 : IVec S4224x1024 1 := cmpf .ogt main_v0 main_v1
  let main_cst_0 : FVec F S_ .f32 := constant S_ .f32 0x7F800000#32
  let main_v3 : FVec F S4224x1024 .f32 := broadcastInDim S4224x1024 ![] bcast_S_S4224x1024 main_cst_0
  let main_v4 : IVec S4224x1024 1 := cmpf .olt main_v0 main_v3
  let main_v5 : IVec S4224x1024 1 := andi main_v2 main_v4
  let main_c : IVec S_ 1 := constantI S_ 1 1#1
  let main_v6 : IVec S_ 1 := (fun x v => Host.reduce IntOp.andi x v reducesTo_S4224x1024_S_d0_1 h_S_) main_v5 main_c
  let main_v7 : FVec F S4224x640 .f32 := (extractStridedSlice S4224x640 ![0, 3584] · slices_S4224x4480_S4224x640_0_3584) main_arg0
  let main_cst_1 : FVec F S_ .f32 := constant S_ .f32 0xFF800000#32
  let main_v8 : FVec F S4224x640 .f32 := broadcastInDim S4224x640 ![] bcast_S_S4224x640 main_cst_1
  let main_v9 : IVec S4224x640 1 := cmpf .ogt main_v7 main_v8
  let main_cst_2 : FVec F S_ .f32 := constant S_ .f32 0x7F800000#32
  let main_v10 : FVec F S4224x640 .f32 := broadcastInDim S4224x640 ![] bcast_S_S4224x640 main_cst_2
  let main_v11 : IVec S4224x640 1 := cmpf .olt main_v7 main_v10
  let main_v12 : IVec S4224x640 1 := andi main_v9 main_v11
  let main_c_3 : IVec S_ 1 := constantI S_ 1 1#1
  let main_v13 : IVec S_ 1 := (fun x v => Host.reduce IntOp.andi x v reducesTo_S4224x640_S_d0_1 h_S_) main_v12 main_c_3
  let main_v14 : IVec S_ 1 := andi main_v6 main_v13
  main_v14
-- ==== Pre_sf_finite.lean ====
abbrev S8 : Shape := ⟨1, ![8]⟩
abbrev S4224x512 : Shape := ⟨2, ![4224, 512]⟩
abbrev S2x4224x128 : Shape := ⟨3, ![2, 4224, 128]⟩
abbrev S8x128x384 : Shape := ⟨3, ![8, 128, 384]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S4224x512 : S_.BroadcastsInDim S4224x512 (![] : Fin 0 → Fin S4224x512.rank)
  reducesTo_S4224x512_S_d0_1 : S4224x512.ReducesTo [0, 1] S_
  bcast_S_S2x4224x128 : S_.BroadcastsInDim S2x4224x128 (![] : Fin 0 → Fin S2x4224x128.rank)
  reducesTo_S2x4224x128_S_d0_1_2 : S2x4224x128.ReducesTo [0, 1, 2] S_
  bcast_S_S8x128x384 : S_.BroadcastsInDim S8x128x384 (![] : Fin 0 → Fin S8x128x384.rank)
  reducesTo_S8x128x384_S_d0_1_2 : S8x128x384.ReducesTo [0, 1, 2] S_

variable [Facts]

def fn_part1 {F : FTy → Type} [FloatOps F] (main_arg2 : FVec F S2x4224x128 .bf16) (main_arg4 : FVec F S8x128x384 .f32) (main_v12 : IVec S_ 1) (main_v14 : IVec S2x4224x128 1) (main_v15 : FVec F S2x4224x128 .bf16) : IVec S_ 1 :=
  let main_v16 : IVec S2x4224x128 1 := cmpf .olt main_arg2 main_v15
  let main_v17 : IVec S2x4224x128 1 := andi main_v14 main_v16
  let main_c_6 : IVec S_ 1 := constantI S_ 1 1#1
  let main_v18 : IVec S_ 1 := (fun x v => Host.reduce IntOp.andi x v reducesTo_S2x4224x128_S_d0_1_2 h_S_) main_v17 main_c_6
  let main_v19 : IVec S_ 1 := andi main_v12 main_v18
  let main_cst_7 : FVec F S_ .f32 := constant S_ .f32 0xFF800000#32
  let main_v20 : FVec F S8x128x384 .f32 := broadcastInDim S8x128x384 ![] bcast_S_S8x128x384 main_cst_7
  let main_v21 : IVec S8x128x384 1 := cmpf .ogt main_arg4 main_v20
  let main_cst_8 : FVec F S_ .f32 := constant S_ .f32 0x7F800000#32
  let main_v22 : FVec F S8x128x384 .f32 := broadcastInDim S8x128x384 ![] bcast_S_S8x128x384 main_cst_8
  let main_v23 : IVec S8x128x384 1 := cmpf .olt main_arg4 main_v22
  let main_v24 : IVec S8x128x384 1 := andi main_v21 main_v23
  let main_c_9 : IVec S_ 1 := constantI S_ 1 1#1
  let main_v25 : IVec S_ 1 := (fun x v => Host.reduce IntOp.andi x v reducesTo_S8x128x384_S_d0_1_2 h_S_) main_v24 main_c_9
  let main_v26 : IVec S_ 1 := andi main_v19 main_v25
  main_v26

def fn {F : FTy → Type} [FloatOps F] (main_arg0 : FVec F S8 .f32) (main_arg1 : FVec F S4224x512 .bf16) (main_arg2 : FVec F S2x4224x128 .bf16) (main_arg3 : FVec F S2x4224x128 .bf16) (main_arg4 : FVec F S8x128x384 .f32) : IVec S_ 1 :=
  let main_cst : FVec F S_ .f32 := constant S_ .f32 0xFF800000#32
  let main_v0 : FVec F S8 .f32 := broadcastInDim S8 ![] bcast_S_S8 main_cst
  let main_v1 : IVec S8 1 := cmpf .ogt main_arg0 main_v0
  let main_cst_0 : FVec F S_ .f32 := constant S_ .f32 0x7F800000#32
  let main_v2 : FVec F S8 .f32 := broadcastInDim S8 ![] bcast_S_S8 main_cst_0
  let main_v3 : IVec S8 1 := cmpf .olt main_arg0 main_v2
  let main_v4 : IVec S8 1 := andi main_v1 main_v3
  let main_c : IVec S_ 1 := constantI S_ 1 1#1
  let main_v5 : IVec S_ 1 := (fun x v => Host.reduce IntOp.andi x v reducesTo_S8_S_d0 h_S_) main_v4 main_c
  let main_cst_1 : FVec F S_ .bf16 := constant S_ .bf16 0xFF80#16
  let main_v6 : FVec F S4224x512 .bf16 := broadcastInDim S4224x512 ![] bcast_S_S4224x512 main_cst_1
  let main_v7 : IVec S4224x512 1 := cmpf .ogt main_arg1 main_v6
  let main_cst_2 : FVec F S_ .bf16 := constant S_ .bf16 0x7F80#16
  let main_v8 : FVec F S4224x512 .bf16 := broadcastInDim S4224x512 ![] bcast_S_S4224x512 main_cst_2
  let main_v9 : IVec S4224x512 1 := cmpf .olt main_arg1 main_v8
  let main_v10 : IVec S4224x512 1 := andi main_v7 main_v9
  let main_c_3 : IVec S_ 1 := constantI S_ 1 1#1
  let main_v11 : IVec S_ 1 := (fun x v => Host.reduce IntOp.andi x v reducesTo_S4224x512_S_d0_1 h_S_) main_v10 main_c_3
  let main_v12 : IVec S_ 1 := andi main_v5 main_v11
  let main_cst_4 : FVec F S_ .bf16 := constant S_ .bf16 0xFF80#16
  let main_v13 : FVec F S2x4224x128 .bf16 := broadcastInDim S2x4224x128 ![] bcast_S_S2x4224x128 main_cst_4
  let main_v14 : IVec S2x4224x128 1 := cmpf .ogt main_arg2 main_v13
  let main_cst_5 : FVec F S_ .bf16 := constant S_ .bf16 0x7F80#16
  let main_v15 : FVec F S2x4224x128 .bf16 := broadcastInDim S2x4224x128 ![] bcast_S_S2x4224x128 main_cst_5
  fn_part1 (F := F) main_arg2 main_arg4 main_v12 main_v14 main_v15
-- ==== Pre_tables.lean ====
abbrev S66 : Shape := ⟨1, ![66]⟩
abbrev S4224x512 : Shape := ⟨2, ![4224, 512]⟩
abbrev S4224x128 : Shape := ⟨2, ![4224, 128]⟩
abbrev S8x4224 : Shape := ⟨2, ![8, 4224]⟩
abbrev S_ : Shape := ⟨0, ![]⟩

class Facts : Prop where
  reducesTo_S66_S_d0 : S66.ReducesTo [0] S_
  h_S_ : 0 < S_.numel

variable [Facts]

noncomputable abbrev lit0 : Fin 66 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32 | 36 => 8#32 | 37 => 8#32 | 38 => 8#32 | 39 => 8#32
  | 40 => 8#32 | 41 => 8#32 | 42 => 8#32 | 43 => 8#32 | 44 => 8#32 | 45 => 9#32 | 46 => 9#32 | 47 => 9#32
  | 48 => 9#32 | 49 => 9#32 | 50 => 9#32 | 51 => 9#32 | 52 => 9#32 | 53 => 9#32 | 54 => 9#32 | 55 => 10#32
  | 56 => 10#32 | 57 => 10#32 | 58 => 10#32 | 59 => 10#32 | 60 => 10#32 | 61 => 10#32 | 62 => 10#32 | 63 => 10#32
  | 64 => 10#32 | 65 => 10#32
  | _ => 0#32

noncomputable abbrev lit1 : Fin 66 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32 | 36 => 0#32 | 37 => 1#32 | 38 => 2#32 | 39 => 3#32
  | 40 => 4#32 | 41 => 5#32 | 42 => 6#32 | 43 => 7#32 | 44 => 8#32 | 45 => 0#32 | 46 => 1#32 | 47 => 2#32
  | 48 => 3#32 | 49 => 4#32 | 50 => 5#32 | 51 => 6#32 | 52 => 7#32 | 53 => 8#32 | 54 => 9#32 | 55 => 0#32
  | 56 => 1#32 | 57 => 2#32 | 58 => 3#32 | 59 => 4#32 | 60 => 5#32 | 61 => 6#32 | 62 => 7#32 | 63 => 8#32
  | 64 => 9#32 | 65 => 10#32
  | _ => 0#32

def fn {F : FTy → Type} [FloatOps F] (main_arg0 : IVec S66 32) (main_arg1 : IVec S66 32) (main_arg2 : FVec F S4224x512 .bf16) (main_arg3 : FVec F S4224x512 .bf16) (main_arg4 : FVec F S4224x512 .bf16) (main_arg5 : FVec F S4224x128 .f32) (main_arg6 : FVec F S8x4224 .f32) : IVec S_ 1 :=
  let main_c : IVec S66 32 := fun i => lit0 (S66.rowMajor i)
  let main_c_0 : IVec S66 32 := fun i => lit1 (S66.rowMajor i)
  let main_v0 : IVec S66 1 := cmpi .eq main_arg0 main_c
  let main_c_1 : IVec S_ 1 := constantI S_ 1 1#1
  let main_v1 : IVec S_ 1 := (fun x v => Host.reduce IntOp.andi x v reducesTo_S66_S_d0 h_S_) main_v0 main_c_1
  let main_v2 : IVec S66 1 := cmpi .eq main_arg1 main_c_0
  let main_c_2 : IVec S_ 1 := constantI S_ 1 1#1
  let main_v3 : IVec S_ 1 := (fun x v => Host.reduce IntOp.andi x v reducesTo_S66_S_d0 h_S_) main_v2 main_c_2
  let main_v4 : IVec S_ 1 := andi main_v1 main_v3
  main_v4
-- ==== KGate.lean ====
abbrev S4224x1024 : Shape := ⟨2, ![4224, 1024]⟩
abbrev S1024x1024 : Shape := ⟨2, ![1024, 1024]⟩
abbrev S4224x4480 : Shape := ⟨2, ![4224, 4480]⟩
abbrev S512x1024 : Shape := ⟨2, ![512, 1024]⟩
abbrev S4224x512 : Shape := ⟨2, ![4224, 512]⟩
abbrev S512x4224 : Shape := ⟨2, ![512, 4224]⟩
abbrev S384x1024 : Shape := ⟨2, ![384, 1024]⟩
abbrev S384x512 : Shape := ⟨2, ![384, 512]⟩
abbrev S512x384 : Shape := ⟨2, ![512, 384]⟩

abbrev nBuf : Space → Nat
  | .hbm => 14
  | .vmem => 27
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .bf16⟩
  | .hbm, ⟨3, _⟩ => ⟨S4224x1024, .bf16⟩
  | .hbm, ⟨4, _⟩ => ⟨S4224x4480, .f32⟩
  | .hbm, ⟨5, _⟩ => ⟨S512x1024, .bf16⟩
  | .hbm, ⟨6, _⟩ => ⟨S512x1024, .bf16⟩
  | .hbm, ⟨7, _⟩ => ⟨S4224x1024, .bf16⟩
  | .hbm, ⟨8, _⟩ => ⟨S4224x1024, .bf16⟩
  | .hbm, ⟨9, _⟩ => ⟨S4224x1024, .bf16⟩
  | .hbm, ⟨10, _⟩ => ⟨S4224x1024, .bf16⟩
  | .hbm, ⟨11, _⟩ => ⟨S4224x512, .f32⟩
  | .hbm, ⟨12, _⟩ => ⟨S512x4224, .bf16⟩
  | .hbm, ⟨13, _⟩ => ⟨S4224x512, .f32⟩
  | .local _ .vmem, ⟨0, _⟩ => ⟨S384x1024, .bf16⟩
  | .local _ .vmem, ⟨1, _⟩ => ⟨S384x1024, .bf16⟩
  | .local _ .vmem, ⟨2, _⟩ => ⟨S1024x1024, .bf16⟩
  | .local _ .vmem, ⟨3, _⟩ => ⟨S384x1024, .bf16⟩
  | .local _ .vmem, ⟨4, _⟩ => ⟨S384x1024, .bf16⟩
  | .local _ .vmem, ⟨5, _⟩ => ⟨S384x1024, .bf16⟩
  | .local _ .vmem, ⟨6, _⟩ => ⟨S384x1024, .bf16⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S512x1024, .bf16⟩
  | .local _ .vmem, ⟨12, _⟩ => ⟨S512x1024, .bf16⟩
  | .local _ .vmem, ⟨13, _⟩ => ⟨S384x1024, .bf16⟩
  | .local _ .vmem, ⟨14, _⟩ => ⟨S384x1024, .bf16⟩
  | .local _ .vmem, ⟨15, _⟩ => ⟨S384x1024, .bf16⟩
  | .local _ .vmem, ⟨16, _⟩ => ⟨S384x1024, .bf16⟩
  | .local _ .vmem, ⟨17, _⟩ => ⟨S384x1024, .bf16⟩
  | .local _ .vmem, ⟨18, _⟩ => ⟨S384x1024, .bf16⟩
  | .local _ .vmem, ⟨19, _⟩ => ⟨S384x1024, .bf16⟩
  | .local _ .vmem, ⟨20, _⟩ => ⟨S384x1024, .bf16⟩
  | .local _ .vmem, ⟨21, _⟩ => ⟨S384x512, .f32⟩
  | .local _ .vmem, ⟨22, _⟩ => ⟨S384x512, .f32⟩
  | .local _ .vmem, ⟨23, _⟩ => ⟨S512x384, .bf16⟩
  | .local _ .vmem, ⟨24, _⟩ => ⟨S512x384, .bf16⟩
  | .local _ .vmem, ⟨25, _⟩ => ⟨S384x512, .f32⟩
  | .local _ .vmem, ⟨26, _⟩ => ⟨S384x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S384x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== RGateIdeal.lean ====
abbrev S4224x1024 : Shape := ⟨2, ![4224, 1024]⟩
abbrev S1024x1024 : Shape := ⟨2, ![1024, 1024]⟩
abbrev S4224x4480 : Shape := ⟨2, ![4224, 4480]⟩
abbrev S512x1024 : Shape := ⟨2, ![512, 1024]⟩
abbrev S_ : Shape := ⟨0, ![]⟩
abbrev S4224x512 : Shape := ⟨2, ![4224, 512]⟩
abbrev S512x4224 : Shape := ⟨2, ![512, 4224]⟩

abbrev nBuf : Space → Nat
  | .hbm => 62
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .bf16⟩
  | .hbm, ⟨3, _⟩ => ⟨S4224x1024, .bf16⟩
  | .hbm, ⟨4, _⟩ => ⟨S4224x4480, .f32⟩
  | .hbm, ⟨5, _⟩ => ⟨S512x1024, .bf16⟩
  | .hbm, ⟨6, _⟩ => ⟨S512x1024, .bf16⟩
  | .hbm, ⟨7, _⟩ => ⟨S4224x1024, .f32⟩
  | .hbm, ⟨8, _⟩ => ⟨S4224x1024, .f32⟩
  | .hbm, ⟨9, _⟩ => ⟨S4224x1024, .f32⟩
  | .hbm, ⟨10, _⟩ => ⟨S4224x1024, .f32⟩
  | .hbm, ⟨11, _⟩ => ⟨S4224x1024, .f32⟩
  | .hbm, ⟨12, _⟩ => ⟨S4224x1024, .f32⟩
  | .hbm, ⟨13, _⟩ => ⟨S_, .f32⟩
  | .hbm, ⟨14, _⟩ => ⟨S4224x1024, .f32⟩
  | .hbm, ⟨15, _⟩ => ⟨S4224x1024, .f32⟩
  | .hbm, ⟨16, _⟩ => ⟨S_, .f32⟩
  | .hbm, ⟨17, _⟩ => ⟨S4224x1024, .f32⟩
  | .hbm, ⟨18, _⟩ => ⟨S4224x1024, .f32⟩
  | .hbm, ⟨19, _⟩ => ⟨S_, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S4224x1024, .f32⟩
  | .hbm, ⟨25, _⟩ => ⟨S4224x1024, .f32⟩
  | .hbm, ⟨26, _⟩ => ⟨S_, .f32⟩
  | .hbm, ⟨27, _⟩ => ⟨S4224x1024, .f32⟩
  | .hbm, ⟨28, _⟩ => ⟨S4224x1024, .f32⟩
  | .hbm, ⟨29, _⟩ => ⟨S_, .f32⟩
  | .hbm, ⟨30, _⟩ => ⟨S4224x1024, .f32⟩
  | .hbm, ⟨31, _⟩ => ⟨S4224x1024, .f32⟩
  | .hbm, ⟨32, _⟩ => ⟨S_, .f32⟩
  | .hbm, ⟨33, _⟩ => ⟨S4224x1024, .f32⟩
  | .hbm, ⟨34, _⟩ => ⟨S4224x1024, .f32⟩
  | .hbm, ⟨35, _⟩ => ⟨S4224x1024, .f32⟩
  | .hbm, ⟨36, _⟩ => ⟨S4224x1024, .f32⟩
  | .hbm, ⟨37, _⟩ => ⟨S4224x1024, .f32⟩
  | .hbm, ⟨38, _⟩ => ⟨S1024x1024, .f32⟩
  | .hbm, ⟨39, _⟩ => ⟨S4224x1024, .f32⟩
  | .hbm, ⟨40, _⟩ => ⟨S4224x1024, .f32⟩
  | .hbm, ⟨41, _⟩ => ⟨S4224x1024, .f32⟩
  | .hbm, ⟨42, _⟩ => ⟨S4224x1024, .f32⟩
  | .hbm, ⟨43, _⟩ => ⟨S4224x1024, .f32⟩
  | .hbm, ⟨44, _⟩ => ⟨S4224x1024, .f32⟩
  | .hbm, ⟨45, _⟩ => ⟨S4224x1024, .f32⟩
  | .hbm, ⟨46, _⟩ => ⟨S4224x1024, .f32⟩
  | .hbm, ⟨47, _⟩ => ⟨S4224x1024, .f32⟩
  | .hbm, ⟨48, _⟩ => ⟨S_, .f32⟩
  | .hbm, ⟨49, _⟩ => ⟨S4224x512, .f32⟩
  | .hbm, ⟨50, _⟩ => ⟨S512x1024, .f32⟩
  | .hbm, ⟨51, _⟩ => ⟨S4224x1024, .f32⟩
  | .hbm, ⟨52, _⟩ => ⟨S4224x512, .f32⟩
  | .hbm, ⟨53, _⟩ => ⟨S512x1024, .f32⟩
  | .hbm, ⟨54, _⟩ => ⟨S4224x1024, .f32⟩
  | .hbm, ⟨55, _⟩ => ⟨S4224x512, .f32⟩
  | .hbm, ⟨56, _⟩ => ⟨S4224x1024, .bf16⟩
  | .hbm, ⟨57, _⟩ => ⟨S4224x1024, .bf16⟩
  | .hbm, ⟨58, _⟩ => ⟨S4224x1024, .bf16⟩
  | .hbm, ⟨59, _⟩ => ⟨S4224x1024, .bf16⟩
  | .hbm, ⟨60, _⟩ => ⟨S512x4224, .f32⟩
  | .hbm, ⟨61, _⟩ => ⟨S512x4224, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== KMid.lean ====
abbrev S4224x1024 : Shape := ⟨2, ![4224, 1024]⟩
abbrev S2816x1024 : Shape := ⟨2, ![2816, 1024]⟩
abbrev S2x4224x2816 : Shape := ⟨3, ![2, 4224, 2816]⟩
abbrev S384x1024 : Shape := ⟨2, ![384, 1024]⟩
abbrev S1408x1024 : Shape := ⟨2, ![1408, 1024]⟩
abbrev S2x384x1408 : Shape := ⟨3, ![2, 384, 1408]⟩
abbrev S384x1408 : Shape := ⟨2, ![384, 1408]⟩
abbrev S1x384x1408 : Shape := ⟨3, ![1, 384, 1408]⟩

abbrev nBuf : Space → Nat
  | .hbm => 4
  | .vmem => 8
  | .smem => 0
  | _ => 0

abbrev bufTy : (tb : Table) → Fin (tcTables nBuf tb) → BufTy
  | .hbm, ⟨0, _⟩ => ⟨S4224x1024, .bf16⟩
  | .hbm, ⟨1, _⟩ => ⟨S2816x1024, .bf16⟩
  | .hbm, ⟨2, _⟩ => ⟨S2x4224x2816, .bf16⟩
  | .hbm, ⟨3, _⟩ => ⟨S2x4224x2816, .bf16⟩
  | .local _ .vmem, ⟨0, _⟩ => ⟨S384x1024, .bf16⟩
  | .local _ .vmem, ⟨1, _⟩ => ⟨S384x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x384x1408, .bf16⟩
  | .local _ .vmem, ⟨5, _⟩ => ⟨S2x384x1408, .bf16⟩
  | .local _ .vmem, ⟨6, _⟩ => ⟨S2x384x1408, .bf16⟩
  | .local _ .vmem, ⟨7, _⟩ => ⟨S2x384x1408, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x384x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x384x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RMidIdeal.lean ====
abbrev S4224x1024 : Shape := ⟨2, ![4224, 1024]⟩
abbrev S2816x1024 : Shape := ⟨2, ![2816, 1024]⟩
abbrev S2x4224x2816 : Shape := ⟨3, ![2, 4224, 2816]⟩
abbrev S1x4224x2816 : Shape := ⟨3, ![1, 4224, 2816]⟩
abbrev S4224x2816 : Shape := ⟨2, ![4224, 2816]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S2816x1024, .bf16⟩
  | .hbm, ⟨2, _⟩ => ⟨S2x4224x2816, .bf16⟩
  | .hbm, ⟨3, _⟩ => ⟨S2x4224x2816, .f32⟩
  | .hbm, ⟨4, _⟩ => ⟨S1x4224x2816, .f32⟩
  | .hbm, ⟨5, _⟩ => ⟨S4224x2816, .f32⟩
  | .hbm, ⟨6, _⟩ => ⟨S1x4224x2816, .f32⟩
  | .hbm, ⟨7, _⟩ => ⟨S4224x2816, .f32⟩
  | .hbm, ⟨8, _⟩ => ⟨S4224x2816, .f32⟩
  | .hbm, ⟨9, _⟩ => ⟨S4224x2816, .f32⟩
  | .hbm, ⟨10, _⟩ => ⟨S_, .f32⟩
  | .hbm, ⟨11, _⟩ => ⟨S4224x2816, .f32⟩
  | .hbm, ⟨12, _⟩ => ⟨S4224x2816, .f32⟩
  | .hbm, ⟨13, _⟩ => ⟨S_, .f32⟩
  | .hbm, ⟨14, _⟩ => ⟨S4224x2816, .f32⟩
  | .hbm, ⟨15, _⟩ => ⟨S4224x2816, .f32⟩
  | .hbm, ⟨16, _⟩ => ⟨S_, .f32⟩
  | .hbm, ⟨17, _⟩ => ⟨S4224x2816, .f32⟩
  | .hbm, ⟨18, _⟩ => ⟨S4224x2816, .f32⟩
  | .hbm, ⟨19, _⟩ => ⟨S4224x2816, .f32⟩
  | .hbm, ⟨20, _⟩ => ⟨S4224x2816, .f32⟩
  | .hbm, ⟨21, _⟩ => ⟨S4224x2816, .f32⟩
  | .hbm, ⟨22, _⟩ => ⟨S2816x1024, .f32⟩
  | .hbm, ⟨23, _⟩ => ⟨S4224x1024, .f32⟩
  | .hbm, ⟨24, _⟩ => ⟨S_, .f32⟩
  | .hbm, ⟨25, _⟩ => ⟨S4224x1024, .f32⟩
  | .hbm, ⟨26, _⟩ => ⟨S4224x1024, .f32⟩
  | .hbm, ⟨27, _⟩ => ⟨S4224x1024, .f32⟩
  | .hbm, ⟨28, _⟩ => ⟨S_, .f32⟩
  | .hbm, ⟨29, _⟩ => ⟨S4224x1024, .f32⟩
  | .hbm, ⟨30, _⟩ => ⟨S4224x1024, .f32⟩
  | .hbm, ⟨31, _⟩ => ⟨S4224x2816, .f32⟩
  | .hbm, ⟨32, _⟩ => ⟨S4224x2816, .f32⟩
  | .hbm, ⟨33, _⟩ => ⟨S4224x2816, .f32⟩
  | .hbm, ⟨34, _⟩ => ⟨S4224x2816, .f32⟩
  | .hbm, ⟨35, _⟩ => ⟨S4224x2816, .f32⟩
  | .hbm, ⟨36, _⟩ => ⟨S4224x2816, .f32⟩
  | .hbm, ⟨37, _⟩ => ⟨S4224x2816, .f32⟩
  | .hbm, ⟨38, _⟩ => ⟨S1x4224x2816, .f32⟩
  | .hbm, ⟨39, _⟩ => ⟨S_, .f32⟩
  | .hbm, ⟨40, _⟩ => ⟨S2x4224x2816, .f32⟩
  | .hbm, ⟨41, _⟩ => ⟨S1x4224x2816, .f32⟩
  | .hbm, ⟨42, _⟩ => ⟨S_, .f32⟩
  | .hbm, ⟨43, _⟩ => ⟨S2x4224x2816, .f32⟩
  | .hbm, ⟨44, _⟩ => ⟨S2x4224x2816, .f32⟩
  | .hbm, ⟨45, _⟩ => ⟨S2x4224x2816, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v5_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v5_1 : Ref sig .tc := ⟨.hbm, 19, rfl⟩
abbrev main_v5_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩

abbrev nD : Nat := 1
abbrev τ : Topo := Topo.v7x

variable {F : FTy → Type} [FloatOps F]
-- ==== KIn.lean ====
abbrev S2x4224x2816 : Shape := ⟨3, ![2, 4224, 2816]⟩
abbrev S1024x5632 : Shape := ⟨2, ![1024, 5632]⟩
abbrev S4224x1024 : Shape := ⟨2, ![4224, 1024]⟩
abbrev S1x1024 : Shape := ⟨2, ![1, 1024]⟩
abbrev S8x1024 : Shape := ⟨2, ![8, 1024]⟩
abbrev S2x384x2816 : Shape := ⟨3, ![2, 384, 2816]⟩
abbrev S1024x2816 : Shape := ⟨2, ![1024, 2816]⟩
abbrev S384x1024 : Shape := ⟨2, ![384, 1024]⟩
abbrev S1x384x2816 : Shape := ⟨3, ![1, 384, 2816]⟩
abbrev S384x2816 : Shape := ⟨2, ![384, 2816]⟩
abbrev S384 : Shape := ⟨1, ![384]⟩
abbrev S384x1 : Shape := ⟨2, ![384, 1]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S2x4224x2816, .bf16⟩
  | .hbm, ⟨1, _⟩ => ⟨S1024x5632, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S4224x1024, .f32⟩
  | .hbm, ⟨6, _⟩ => ⟨S4224x1024, .bf16⟩
  | .hbm, ⟨7, _⟩ => ⟨S8x1024, .f32⟩
  | .local _ .vmem, ⟨0, _⟩ => ⟨S2x384x2816, .bf16⟩
  | .local _ .vmem, ⟨1, _⟩ => ⟨S2x384x2816, .bf16⟩
  | .local _ .vmem, ⟨2, _⟩ => ⟨S1024x2816, .bf16⟩
  | .local _ .vmem, ⟨3, _⟩ => ⟨S1024x2816, .bf16⟩
  | .local _ .vmem, ⟨4, _⟩ => ⟨S384x1024, .f32⟩
  | .local _ .vmem, ⟨5, _⟩ => ⟨S384x1024, .f32⟩
  | .local _ .vmem, ⟨6, _⟩ => ⟨S1x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .bf16⟩
  | .local _ .vmem, ⟨12, _⟩ => ⟨S384x1024, .bf16⟩
  | .local _ .vmem, ⟨13, _⟩ => ⟨S8x1024, .f32⟩
  | _, _ => ⟨S2x4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RInIdeal.lean ====
abbrev S2x4224x2816 : Shape := ⟨3, ![2, 4224, 2816]⟩
abbrev S1024x5632 : Shape := ⟨2, ![1024, 5632]⟩
abbrev S4224x1024 : Shape := ⟨2, ![4224, 1024]⟩
abbrev S1x1024 : Shape := ⟨2, ![1, 1024]⟩
abbrev S1x4224x2816 : Shape := ⟨3, ![1, 4224, 2816]⟩
abbrev S4224x2816 : Shape := ⟨2, ![4224, 2816]⟩
abbrev S4224x5632 : Shape := ⟨2, ![4224, 5632]⟩
abbrev S_ : Shape := ⟨0, ![]⟩
abbrev S4224 : Shape := ⟨1, ![4224]⟩
abbrev S4224x1 : Shape := ⟨2, ![4224, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2x4224x2816, .bf16⟩
  | .hbm, ⟨1, _⟩ => ⟨S1024x5632, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S1x4224x2816, .bf16⟩
  | .hbm, ⟨6, _⟩ => ⟨S4224x2816, .bf16⟩
  | .hbm, ⟨7, _⟩ => ⟨S4224x2816, .f32⟩
  | .hbm, ⟨8, _⟩ => ⟨S1x4224x2816, .bf16⟩
  | .hbm, ⟨9, _⟩ => ⟨S4224x2816, .bf16⟩
  | .hbm, ⟨10, _⟩ => ⟨S4224x2816, .f32⟩
  | .hbm, ⟨11, _⟩ => ⟨S4224x5632, .f32⟩
  | .hbm, ⟨12, _⟩ => ⟨S4224x1024, .f32⟩
  | .hbm, ⟨13, _⟩ => ⟨S_, .f32⟩
  | .hbm, ⟨14, _⟩ => ⟨S4224, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S_, .f32⟩
  | .hbm, ⟨20, _⟩ => ⟨S4224x1, .f32⟩
  | .hbm, ⟨21, _⟩ => ⟨S4224x1, .f32⟩
  | .hbm, ⟨22, _⟩ => ⟨S4224x1, .f32⟩
  | .hbm, ⟨23, _⟩ => ⟨S4224x1, .f32⟩
  | .hbm, ⟨24, _⟩ => ⟨S_, .f32⟩
  | .hbm, ⟨25, _⟩ => ⟨S4224x1, .f32⟩
  | .hbm, ⟨26, _⟩ => ⟨S4224x1, .f32⟩
  | .hbm, ⟨27, _⟩ => ⟨S4224x1024, .f32⟩
  | .hbm, ⟨28, _⟩ => ⟨S4224x1024, .f32⟩
  | .hbm, ⟨29, _⟩ => ⟨S4224x1024, .f32⟩
  | .hbm, ⟨30, _⟩ => ⟨S4224x1024, .f32⟩
  | .hbm, ⟨31, _⟩ => ⟨S1024x5632, .f32⟩
  | .hbm, ⟨32, _⟩ => ⟨S4224x5632, .f32⟩
  | .hbm, ⟨33, _⟩ => ⟨S4224x1024, .f32⟩
  | .hbm, ⟨34, _⟩ => ⟨S4224x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4224x1024, .f32⟩
  | .hbm, ⟨39, _⟩ => ⟨S4224x1024, .f32⟩
  | .hbm, ⟨40, _⟩ => ⟨S4224x1024, .f32⟩
  | .hbm, ⟨41, _⟩ => ⟨S_, .f32⟩
  | .hbm, ⟨42, _⟩ => ⟨S4224, .f32⟩
  | .hbm, ⟨43, _⟩ => ⟨S4224x1, .f32⟩
  | .hbm, ⟨44, _⟩ => ⟨S4224x1024, .f32⟩
  | .hbm, ⟨45, _⟩ => ⟨S4224x1024, .f32⟩
  | .hbm, ⟨46, _⟩ => ⟨S4224x1, .f32⟩
  | .hbm, ⟨47, _⟩ => ⟨S_, .f32⟩
  | .hbm, ⟨48, _⟩ => ⟨S4224x1, .f32⟩
  | .hbm, ⟨49, _⟩ => ⟨S4224x1, .f32⟩
  | .hbm, ⟨50, _⟩ => ⟨S_, .f32⟩
  | .hbm, ⟨51, _⟩ => ⟨S4224, .f32⟩
  | .hbm, ⟨52, _⟩ => ⟨S4224x1024, .f32⟩
  | .hbm, ⟨53, _⟩ => ⟨S4224x1024, .f32⟩
  | .hbm, ⟨54, _⟩ => ⟨S4224x1024, .f32⟩
  | .hbm, ⟨55, _⟩ => ⟨S4224x1024, .f32⟩
  | .hbm, ⟨56, _⟩ => ⟨S4224x1024, .f32⟩
  | .hbm, ⟨57, _⟩ => ⟨S4224x1024, .f32⟩
  | .hbm, ⟨58, _⟩ => ⟨S4224x1024, .f32⟩
  | .hbm, ⟨59, _⟩ => ⟨S4224x1024, .bf16⟩
  | .hbm, ⟨60, _⟩ => ⟨S_, .f32⟩
  | .hbm, ⟨61, _⟩ => ⟨S7x1024, .f32⟩
  | .hbm, ⟨62, _⟩ => ⟨S8x1024, .f32⟩
  | _, _ => ⟨S2x4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== KDwo.lean ====
abbrev S2816x4224 : Shape := ⟨2, ![2816, 4224]⟩
abbrev S4224x1024 : Shape := ⟨2, ![4224, 1024]⟩
abbrev S2816x1024 : Shape := ⟨2, ![2816, 1024]⟩
abbrev S256x4224 : Shape := ⟨2, ![256, 4224]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2816x4224, .bf16⟩
  | .hbm, ⟨1, _⟩ => ⟨S4224x1024, .bf16⟩
  | .hbm, ⟨2, _⟩ => ⟨S2816x1024, .bf16⟩
  | .local _ .vmem, ⟨0, _⟩ => ⟨S256x4224, .bf16⟩
  | .local _ .vmem, ⟨1, _⟩ => ⟨S256x4224, .bf16⟩
  | .local _ .vmem, ⟨2, _⟩ => ⟨S4224x1024, .bf16⟩
  | .local _ .vmem, ⟨3, _⟩ => ⟨S256x1024, .bf16⟩
  | .local _ .vmem, ⟨4, _⟩ => ⟨S256x1024, .bf16⟩
  | _, _ => ⟨S2816x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RDwoIdeal.lean ====
abbrev S2816x4224 : Shape := ⟨2, ![2816, 4224]⟩
abbrev S4224x1024 : Shape := ⟨2, ![4224, 1024]⟩
abbrev S_ : Shape := ⟨0, ![]⟩
abbrev S2816x1024 : Shape := ⟨2, ![2816, 1024]⟩
abbrev S4224x2816 : Shape := ⟨2, ![4224, 2816]⟩
abbrev S1024x2816 : Shape := ⟨2, ![1024, 2816]⟩

abbrev nBuf : Space → Nat
  | .hbm => 17
  | .vmem => 0
  | .smem => 0
  | _ => 0

abbrev bufTy : (tb : Table) → Fin (tcTables nBuf tb) → BufTy
  | .hbm, ⟨0, _⟩ => ⟨S2816x4224, .bf16⟩
  | .hbm, ⟨1, _⟩ => ⟨S4224x1024, .bf16⟩
  | .hbm, ⟨2, _⟩ => ⟨S_, .f32⟩
  | .hbm, ⟨3, _⟩ => ⟨S2816x1024, .f32⟩
  | .hbm, ⟨4, _⟩ => ⟨S2816x4224, .f32⟩
  | .hbm, ⟨5, _⟩ => ⟨S4224x2816, .f32⟩
  | .hbm, ⟨6, _⟩ => ⟨S4224x1024, .f32⟩
  | .hbm, ⟨7, _⟩ => ⟨S_, .f32⟩
  | .hbm, ⟨8, _⟩ => ⟨S4224x1024, .f32⟩
  | .hbm, ⟨9, _⟩ => ⟨S4224x1024, .f32⟩
  | .hbm, ⟨10, _⟩ => ⟨S4224x1024, .f32⟩
  | .hbm, ⟨11, _⟩ => ⟨S_, .f32⟩
  | .hbm, ⟨12, _⟩ => ⟨S4224x1024, .f32⟩
  | .hbm, ⟨13, _⟩ => ⟨S4224x1024, .f32⟩
  | .hbm, ⟨14, _⟩ => ⟨S1024x2816, .f32⟩
  | .hbm, ⟨15, _⟩ => ⟨S2816x1024, .f32⟩
  | .hbm, ⟨16, _⟩ => ⟨S2816x1024, .bf16⟩
  | _, _ => ⟨S2816x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== KDwi.lean ====
abbrev S1024x4224 : Shape := ⟨2, ![1024, 4224]⟩
abbrev S2x4224x2816 : Shape := ⟨3, ![2, 4224, 2816]⟩
abbrev S1024x5632 : Shape := ⟨2, ![1024, 5632]⟩
abbrev S1x4224x256 : Shape := ⟨3, ![1, 4224, 256]⟩
abbrev S1024x256 : Shape := ⟨2, ![1024, 256]⟩
abbrev S4224x256 : Shape := ⟨2, ![4224, 256]⟩

abbrev nBuf : Space → Nat
  | .hbm => 3
  | .vmem => 5
  | .smem => 0
  | _ => 0

abbrev bufTy : (tb : Table) → Fin (tcTables nBuf tb) → BufTy
  | .hbm, ⟨0, _⟩ => ⟨S1024x4224, .bf16⟩
  | .hbm, ⟨1, _⟩ => ⟨S2x4224x2816, .bf16⟩
  | .hbm, ⟨2, _⟩ => ⟨S1024x5632, .bf16⟩
  | .local _ .vmem, ⟨0, _⟩ => ⟨S1024x4224, .bf16⟩
  | .local _ .vmem, ⟨1, _⟩ => ⟨S1x4224x256, .bf16⟩
  | .local _ .vmem, ⟨2, _⟩ => ⟨S1x4224x256, .bf16⟩
  | .local _ .vmem, ⟨3, _⟩ => ⟨S1024x256, .bf16⟩
  | .local _ .vmem, ⟨4, _⟩ => ⟨S1024x256, .bf16⟩
  | _, _ => ⟨S1024x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4224 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4224x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RDwiIdeal.lean ====
abbrev S1024x4224 : Shape := ⟨2, ![1024, 4224]⟩
abbrev S2x4224x2816 : Shape := ⟨3, ![2, 4224, 2816]⟩
abbrev S1x4224x2816 : Shape := ⟨3, ![1, 4224, 2816]⟩
abbrev S4224x2816 : Shape := ⟨2, ![4224, 2816]⟩
abbrev S4224x5632 : Shape := ⟨2, ![4224, 5632]⟩
abbrev S_ : Shape := ⟨0, ![]⟩
abbrev S1024x5632 : Shape := ⟨2, ![1024, 5632]⟩
abbrev S4224x1024 : Shape := ⟨2, ![4224, 1024]⟩
abbrev S5632x1024 : Shape := ⟨2, ![5632, 1024]⟩

abbrev nBuf : Space → Nat
  | .hbm => 22
  | .vmem => 0
  | .smem => 0
  | _ => 0

abbrev bufTy : (tb : Table) → Fin (tcTables nBuf tb) → BufTy
  | .hbm, ⟨0, _⟩ => ⟨S1024x4224, .bf16⟩
  | .hbm, ⟨1, _⟩ => ⟨S2x4224x2816, .bf16⟩
  | .hbm, ⟨2, _⟩ => ⟨S1x4224x2816, .bf16⟩
  | .hbm, ⟨3, _⟩ => ⟨S4224x2816, .bf16⟩
  | .hbm, ⟨4, _⟩ => ⟨S1x4224x2816, .bf16⟩
  | .hbm, ⟨5, _⟩ => ⟨S4224x2816, .bf16⟩
  | .hbm, ⟨6, _⟩ => ⟨S4224x5632, .bf16⟩
  | .hbm, ⟨7, _⟩ => ⟨S_, .f32⟩
  | .hbm, ⟨8, _⟩ => ⟨S1024x5632, .f32⟩
  | .hbm, ⟨9, _⟩ => ⟨S1024x4224, .f32⟩
  | .hbm, ⟨10, _⟩ => ⟨S4224x1024, .f32⟩
  | .hbm, ⟨11, _⟩ => ⟨S4224x5632, .f32⟩
  | .hbm, ⟨12, _⟩ => ⟨S_, .f32⟩
  | .hbm, ⟨13, _⟩ => ⟨S4224x5632, .f32⟩
  | .hbm, ⟨14, _⟩ => ⟨S4224x5632, .f32⟩
  | .hbm, ⟨15, _⟩ => ⟨S4224x5632, .f32⟩
  | .hbm, ⟨16, _⟩ => ⟨S_, .f32⟩
  | .hbm, ⟨17, _⟩ => ⟨S4224x5632, .f32⟩
  | .hbm, ⟨18, _⟩ => ⟨S4224x5632, .f32⟩
  | .hbm, ⟨19, _⟩ => ⟨S5632x1024, .f32⟩
  | .hbm, ⟨20, _⟩ => ⟨S1024x5632, .f32⟩
  | .hbm, ⟨21, _⟩ => ⟨S1024x5632, .bf16⟩
  | _, _ => ⟨S1024x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== KDout.lean ====
abbrev S1024x4224 : Shape := ⟨2, ![1024, 4224]⟩
abbrev S4224x1024 : Shape := ⟨2, ![4224, 1024]⟩
abbrev S1024x1024 : Shape := ⟨2, ![1024, 1024]⟩
abbrev S512x4224 : Shape := ⟨2, ![512, 4224]⟩
abbrev S4224x512 : Shape := ⟨2, ![4224, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x4224, .bf16⟩
  | .hbm, ⟨1, _⟩ => ⟨S4224x1024, .bf16⟩
  | .hbm, ⟨2, _⟩ => ⟨S1024x1024, .bf16⟩
  | .local _ .vmem, ⟨0, _⟩ => ⟨S512x4224, .bf16⟩
  | .local _ .vmem, ⟨1, _⟩ => ⟨S512x4224, .bf16⟩
  | .local _ .vmem, ⟨2, _⟩ => ⟨S4224x512, .bf16⟩
  | .local _ .vmem, ⟨3, _⟩ => ⟨S4224x512, .bf16⟩
  | .local _ .vmem, ⟨4, _⟩ => ⟨S512x512, .bf16⟩
  | .local _ .vmem, ⟨5, _⟩ => ⟨S512x512, .bf16⟩
  | _, _ => ⟨S1024x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RDoutIdeal.lean ====
abbrev S1024x4224 : Shape := ⟨2, ![1024, 4224]⟩
abbrev S4224x1024 : Shape := ⟨2, ![4224, 1024]⟩
abbrev S_ : Shape := ⟨0, ![]⟩
abbrev S1024x1024 : Shape := ⟨2, ![1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S1024x4224, .bf16⟩
  | .hbm, ⟨1, _⟩ => ⟨S4224x1024, .bf16⟩
  | .hbm, ⟨2, _⟩ => ⟨S_, .f32⟩
  | .hbm, ⟨3, _⟩ => ⟨S1024x1024, .f32⟩
  | .hbm, ⟨4, _⟩ => ⟨S1024x4224, .f32⟩
  | .hbm, ⟨5, _⟩ => ⟨S4224x1024, .f32⟩
  | .hbm, ⟨6, _⟩ => ⟨S4224x1024, .f32⟩
  | .hbm, ⟨7, _⟩ => ⟨S_, .f32⟩
  | .hbm, ⟨8, _⟩ => ⟨S4224x1024, .f32⟩
  | .hbm, ⟨9, _⟩ => ⟨S4224x1024, .f32⟩
  | .hbm, ⟨10, _⟩ => ⟨S4224x1024, .f32⟩
  | .hbm, ⟨11, _⟩ => ⟨S_, .f32⟩
  | .hbm, ⟨12, _⟩ => ⟨S4224x1024, .f32⟩
  | .hbm, ⟨13, _⟩ => ⟨S4224x1024, .f32⟩
  | .hbm, ⟨14, _⟩ => ⟨S1024x1024, .f32⟩
  | .hbm, ⟨15, _⟩ => ⟨S1024x1024, .f32⟩
  | .hbm, ⟨16, _⟩ => ⟨S1024x1024, .bf16⟩
  | _, _ => ⟨S1024x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== KDbr.lean ====
abbrev S512x4224 : Shape := ⟨2, ![512, 4224]⟩
abbrev S4224x1024 : Shape := ⟨2, ![4224, 1024]⟩
abbrev S512x1024 : Shape := ⟨2, ![512, 1024]⟩
abbrev S4224x512 : Shape := ⟨2, ![4224, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x4224, .bf16⟩
  | .hbm, ⟨1, _⟩ => ⟨S4224x1024, .bf16⟩
  | .hbm, ⟨2, _⟩ => ⟨S512x1024, .bf16⟩
  | .local _ .vmem, ⟨0, _⟩ => ⟨S512x4224, .bf16⟩
  | .local _ .vmem, ⟨1, _⟩ => ⟨S4224x512, .bf16⟩
  | .local _ .vmem, ⟨2, _⟩ => ⟨S4224x512, .bf16⟩
  | .local _ .vmem, ⟨3, _⟩ => ⟨S512x512, .bf16⟩
  | .local _ .vmem, ⟨4, _⟩ => ⟨S512x512, .bf16⟩
  | _, _ => ⟨S512x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4224 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RDbrIdeal.lean ====
abbrev S512x4224 : Shape := ⟨2, ![512, 4224]⟩
abbrev S4224x1024 : Shape := ⟨2, ![4224, 1024]⟩
abbrev S_ : Shape := ⟨0, ![]⟩
abbrev S512x1024 : Shape := ⟨2, ![512, 1024]⟩
abbrev S4224x512 : Shape := ⟨2, ![4224, 512]⟩
abbrev S1024x512 : Shape := ⟨2, ![1024, 512]⟩

abbrev nBuf : Space → Nat
  | .hbm => 17
  | .vmem => 0
  | .smem => 0
  | _ => 0

abbrev bufTy : (tb : Table) → Fin (tcTables nBuf tb) → BufTy
  | .hbm, ⟨0, _⟩ => ⟨S512x4224, .bf16⟩
  | .hbm, ⟨1, _⟩ => ⟨S4224x1024, .bf16⟩
  | .hbm, ⟨2, _⟩ => ⟨S_, .f32⟩
  | .hbm, ⟨3, _⟩ => ⟨S512x1024, .f32⟩
  | .hbm, ⟨4, _⟩ => ⟨S512x4224, .f32⟩
  | .hbm, ⟨5, _⟩ => ⟨S4224x512, .f32⟩
  | .hbm, ⟨6, _⟩ => ⟨S4224x1024, .f32⟩
  | .hbm, ⟨7, _⟩ => ⟨S_, .f32⟩
  | .hbm, ⟨8, _⟩ => ⟨S4224x1024, .f32⟩
  | .hbm, ⟨9, _⟩ => ⟨S4224x1024, .f32⟩
  | .hbm, ⟨10, _⟩ => ⟨S4224x1024, .f32⟩
  | .hbm, ⟨11, _⟩ => ⟨S_, .f32⟩
  | .hbm, ⟨12, _⟩ => ⟨S4224x1024, .f32⟩
  | .hbm, ⟨13, _⟩ => ⟨S4224x1024, .f32⟩
  | .hbm, ⟨14, _⟩ => ⟨S1024x512, .f32⟩
  | .hbm, ⟨15, _⟩ => ⟨S512x1024, .f32⟩
  | .hbm, ⟨16, _⟩ => ⟨S512x1024, .bf16⟩
  | _, _ => ⟨S512x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== KDmix.lean ====
abbrev S1024x4224 : Shape := ⟨2, ![1024, 4224]⟩
abbrev S4224x4480 : Shape := ⟨2, ![4224, 4480]⟩
abbrev S1024x4480 : Shape := ⟨2, ![1024, 4480]⟩
abbrev S4224x640 : Shape := ⟨2, ![4224, 640]⟩
abbrev S1024x640 : Shape := ⟨2, ![1024, 640]⟩

abbrev nBuf : Space → Nat
  | .hbm => 3
  | .vmem => 5
  | .smem => 0
  | _ => 0

abbrev bufTy : (tb : Table) → Fin (tcTables nBuf tb) → BufTy
  | .hbm, ⟨0, _⟩ => ⟨S1024x4224, .bf16⟩
  | .hbm, ⟨1, _⟩ => ⟨S4224x4480, .bf16⟩
  | .hbm, ⟨2, _⟩ => ⟨S1024x4480, .bf16⟩
  | .local _ .vmem, ⟨0, _⟩ => ⟨S1024x4224, .bf16⟩
  | .local _ .vmem, ⟨1, _⟩ => ⟨S4224x640, .bf16⟩
  | .local _ .vmem, ⟨2, _⟩ => ⟨S4224x640, .bf16⟩
  | .local _ .vmem, ⟨3, _⟩ => ⟨S1024x640, .bf16⟩
  | .local _ .vmem, ⟨4, _⟩ => ⟨S1024x640, .bf16⟩
  | _, _ => ⟨S1024x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4224 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4224x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RDmixIdeal.lean ====
abbrev S1024x4224 : Shape := ⟨2, ![1024, 4224]⟩
abbrev S4224x4480 : Shape := ⟨2, ![4224, 4480]⟩
abbrev S_ : Shape := ⟨0, ![]⟩
abbrev S1024x4480 : Shape := ⟨2, ![1024, 4480]⟩
abbrev S4224x1024 : Shape := ⟨2, ![4224, 1024]⟩
abbrev S4480x1024 : Shape := ⟨2, ![4480, 1024]⟩

abbrev nBuf : Space → Nat
  | .hbm => 17
  | .vmem => 0
  | .smem => 0
  | _ => 0

abbrev bufTy : (tb : Table) → Fin (tcTables nBuf tb) → BufTy
  | .hbm, ⟨0, _⟩ => ⟨S1024x4224, .bf16⟩
  | .hbm, ⟨1, _⟩ => ⟨S4224x4480, .bf16⟩
  | .hbm, ⟨2, _⟩ => ⟨S_, .f32⟩
  | .hbm, ⟨3, _⟩ => ⟨S1024x4480, .f32⟩
  | .hbm, ⟨4, _⟩ => ⟨S1024x4224, .f32⟩
  | .hbm, ⟨5, _⟩ => ⟨S4224x1024, .f32⟩
  | .hbm, ⟨6, _⟩ => ⟨S4224x4480, .f32⟩
  | .hbm, ⟨7, _⟩ => ⟨S_, .f32⟩
  | .hbm, ⟨8, _⟩ => ⟨S4224x4480, .f32⟩
  | .hbm, ⟨9, _⟩ => ⟨S4224x4480, .f32⟩
  | .hbm, ⟨10, _⟩ => ⟨S4224x4480, .f32⟩
  | .hbm, ⟨11, _⟩ => ⟨S_, .f32⟩
  | .hbm, ⟨12, _⟩ => ⟨S4224x4480, .f32⟩
  | .hbm, ⟨13, _⟩ => ⟨S4224x4480, .f32⟩
  | .hbm, ⟨14, _⟩ => ⟨S4480x1024, .f32⟩
  | .hbm, ⟨15, _⟩ => ⟨S1024x4480, .f32⟩
  | .hbm, ⟨16, _⟩ => ⟨S1024x4480, .bf16⟩
  | _, _ => ⟨S1024x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== KNt.lean ====
abbrev S4224x4480 : Shape := ⟨2, ![4224, 4480]⟩
abbrev S1024x4480 : Shape := ⟨2, ![1024, 4480]⟩
abbrev S4224x1024 : Shape := ⟨2, ![4224, 1024]⟩
abbrev S1x1024 : Shape := ⟨2, ![1, 1024]⟩
abbrev S8x1024 : Shape := ⟨2, ![8, 1024]⟩
abbrev S384x4480 : Shape := ⟨2, ![384, 4480]⟩
abbrev S384x1024 : Shape := ⟨2, ![384, 1024]⟩
abbrev S384 : Shape := ⟨1, ![384]⟩
abbrev S384x1 : Shape := ⟨2, ![384, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4224x4480, .bf16⟩
  | .hbm, ⟨1, _⟩ => ⟨S1024x4480, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S4224x1024, .f32⟩
  | .hbm, ⟨6, _⟩ => ⟨S4224x1024, .bf16⟩
  | .hbm, ⟨7, _⟩ => ⟨S8x1024, .f32⟩
  | .local _ .vmem, ⟨0, _⟩ => ⟨S384x4480, .bf16⟩
  | .local _ .vmem, ⟨1, _⟩ => ⟨S384x4480, .bf16⟩
  | .local _ .vmem, ⟨2, _⟩ => ⟨S1024x4480, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .bf16⟩
  | .local _ .vmem, ⟨11, _⟩ => ⟨S384x1024, .bf16⟩
  | .local _ .vmem, ⟨12, _⟩ => ⟨S8x1024, .f32⟩
  | _, _ => ⟨S4224x4480, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x4480 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4480 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RNtIdeal.lean ====
abbrev S4224x4480 : Shape := ⟨2, ![4224, 4480]⟩
abbrev S1024x4480 : Shape := ⟨2, ![1024, 4480]⟩
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4224x4480, .bf16⟩
  | .hbm, ⟨1, _⟩ => ⟨S1024x4480, .bf16⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S1024x4480, .f32⟩
  | .hbm, ⟨25, _⟩ => ⟨S4224x4480, .f32⟩
  | .hbm, ⟨26, _⟩ => ⟨S4224x4480, .f32⟩
  | .hbm, ⟨27, _⟩ => ⟨S4224x1024, .f32⟩
  | .hbm, ⟨28, _⟩ => ⟨S4224x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4224x1024, .f32⟩
  | .hbm, ⟨33, _⟩ => ⟨S4224x1024, .f32⟩
  | .hbm, ⟨34, _⟩ => ⟨S4224x1024, .f32⟩
  | .hbm, ⟨35, _⟩ => ⟨S_, .f32⟩
  | .hbm, ⟨36, _⟩ => ⟨S4224, .f32⟩
  | .hbm, ⟨37, _⟩ => ⟨S4224x1, .f32⟩
  | .hbm, ⟨38, _⟩ => ⟨S4224x1024, .f32⟩
  | .hbm, ⟨39, _⟩ => ⟨S4224x1024, .f32⟩
  | .hbm, ⟨40, _⟩ => ⟨S4224x1, .f32⟩
  | .hbm, ⟨41, _⟩ => ⟨S_, .f32⟩
  | .hbm, ⟨42, _⟩ => ⟨S4224x1, .f32⟩
  | .hbm, ⟨43, _⟩ => ⟨S4224x1, .f32⟩
  | .hbm, ⟨44, _⟩ => ⟨S_, .f32⟩
  | .hbm, ⟨45, _⟩ => ⟨S4224, .f32⟩
  | .hbm, ⟨46, _⟩ => ⟨S4224x1024, .f32⟩
  | .hbm, ⟨47, _⟩ => ⟨S4224x1024, .f32⟩
  | .hbm, ⟨48, _⟩ => ⟨S4224x1024, .f32⟩
  | .hbm, ⟨49, _⟩ => ⟨S4224x1024, .f32⟩
  | .hbm, ⟨50, _⟩ => ⟨S4224x1024, .f32⟩
  | .hbm, ⟨51, _⟩ => ⟨S4224x1024, .f32⟩
  | .hbm, ⟨52, _⟩ => ⟨S4224x1024, .f32⟩
  | .hbm, ⟨53, _⟩ => ⟨S4224x1024, .bf16⟩
  | .hbm, ⟨54, _⟩ => ⟨S_, .f32⟩
  | .hbm, ⟨55, _⟩ => ⟨S7x1024, .f32⟩
  | .hbm, ⟨56, _⟩ => ⟨S8x1024, .f32⟩
  | _, _ => ⟨S4224x4480, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== KFfi.lean ====
abbrev S4224x1024 : Shape := ⟨2, ![4224, 1024]⟩
abbrev S1024x5632 : Shape := ⟨2, ![1024, 5632]⟩
abbrev S2x4224x2816 : Shape := ⟨3, ![2, 4224, 2816]⟩
abbrev S4224x2816 : Shape := ⟨2, ![4224, 2816]⟩
abbrev S2816x4224 : Shape := ⟨2, ![2816, 4224]⟩
abbrev S384x1024 : Shape := ⟨2, ![384, 1024]⟩
abbrev S1024x1408 : Shape := ⟨2, ![1024, 1408]⟩
abbrev S2x384x1408 : Shape := ⟨3, ![2, 384, 1408]⟩
abbrev S384x1408 : Shape := ⟨2, ![384, 1408]⟩
abbrev S1408x384 : Shape := ⟨2, ![1408, 384]⟩
abbrev S1x384x1408 : Shape := ⟨3, ![1, 384, 1408]⟩

abbrev nBuf : Space → Nat
  | .hbm => 5
  | .vmem => 12
  | .smem => 0
  | _ => 0

abbrev bufTy : (tb : Table) → Fin (tcTables nBuf tb) → BufTy
  | .hbm, ⟨0, _⟩ => ⟨S4224x1024, .bf16⟩
  | .hbm, ⟨1, _⟩ => ⟨S1024x5632, .bf16⟩
  | .hbm, ⟨2, _⟩ => ⟨S2x4224x2816, .bf16⟩
  | .hbm, ⟨3, _⟩ => ⟨S4224x2816, .bf16⟩
  | .hbm, ⟨4, _⟩ => ⟨S2816x4224, .bf16⟩
  | .local _ .vmem, ⟨0, _⟩ => ⟨S384x1024, .bf16⟩
  | .local _ .vmem, ⟨1, _⟩ => ⟨S384x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S2x384x1408, .bf16⟩
  | .local _ .vmem, ⟨7, _⟩ => ⟨S2x384x1408, .bf16⟩
  | .local _ .vmem, ⟨8, _⟩ => ⟨S384x1408, .bf16⟩
  | .local _ .vmem, ⟨9, _⟩ => ⟨S384x1408, .bf16⟩
  | .local _ .vmem, ⟨10, _⟩ => ⟨S1408x384, .bf16⟩
  | .local _ .vmem, ⟨11, _⟩ => ⟨S1408x384, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x384x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1408x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RFfiIdeal.lean ====
abbrev S4224x1024 : Shape := ⟨2, ![4224, 1024]⟩
abbrev S1024x5632 : Shape := ⟨2, ![1024, 5632]⟩
abbrev S4224x5632 : Shape := ⟨2, ![4224, 5632]⟩
abbrev S4224x2816 : Shape := ⟨2, ![4224, 2816]⟩
abbrev S_ : Shape := ⟨0, ![]⟩
abbrev S1x4224x2816 : Shape := ⟨3, ![1, 4224, 2816]⟩
abbrev S2x4224x2816 : Shape := ⟨3, ![2, 4224, 2816]⟩
abbrev S2816x4224 : Shape := ⟨2, ![2816, 4224]⟩

abbrev nBuf : Space → Nat
  | .hbm => 24
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x5632, .bf16⟩
  | .hbm, ⟨2, _⟩ => ⟨S4224x1024, .f32⟩
  | .hbm, ⟨3, _⟩ => ⟨S1024x5632, .f32⟩
  | .hbm, ⟨4, _⟩ => ⟨S4224x5632, .f32⟩
  | .hbm, ⟨5, _⟩ => ⟨S4224x2816, .f32⟩
  | .hbm, ⟨6, _⟩ => ⟨S4224x2816, .f32⟩
  | .hbm, ⟨7, _⟩ => ⟨S4224x2816, .f32⟩
  | .hbm, ⟨8, _⟩ => ⟨S4224x2816, .f32⟩
  | .hbm, ⟨9, _⟩ => ⟨S_, .f32⟩
  | .hbm, ⟨10, _⟩ => ⟨S4224x2816, .f32⟩
  | .hbm, ⟨11, _⟩ => ⟨S4224x2816, .f32⟩
  | .hbm, ⟨12, _⟩ => ⟨S_, .f32⟩
  | .hbm, ⟨13, _⟩ => ⟨S4224x2816, .f32⟩
  | .hbm, ⟨14, _⟩ => ⟨S4224x2816, .f32⟩
  | .hbm, ⟨15, _⟩ => ⟨S4224x2816, .f32⟩
  | .hbm, ⟨16, _⟩ => ⟨S4224x2816, .f32⟩
  | .hbm, ⟨17, _⟩ => ⟨S1x4224x2816, .f32⟩
  | .hbm, ⟨18, _⟩ => ⟨S1x4224x2816, .f32⟩
  | .hbm, ⟨19, _⟩ => ⟨S2x4224x2816, .f32⟩
  | .hbm, ⟨20, _⟩ => ⟨S2x4224x2816, .bf16⟩
  | .hbm, ⟨21, _⟩ => ⟨S4224x2816, .bf16⟩
  | .hbm, ⟨22, _⟩ => ⟨S2816x4224, .f32⟩
  | .hbm, ⟨23, _⟩ => ⟨S2816x4224, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== KRes.lean ====
abbrev S4224x2816 : Shape := ⟨2, ![4224, 2816]⟩
abbrev S2816x1024 : Shape := ⟨2, ![2816, 1024]⟩
abbrev S4224x1024 : Shape := ⟨2, ![4224, 1024]⟩
abbrev S384x2816 : Shape := ⟨2, ![384, 2816]⟩
abbrev S384x1024 : Shape := ⟨2, ![384, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .hbm, ⟨3, _⟩ => ⟨S4224x1024, .f32⟩
  | .local _ .vmem, ⟨0, _⟩ => ⟨S384x2816, .bf16⟩
  | .local _ .vmem, ⟨1, _⟩ => ⟨S384x2816, .bf16⟩
  | .local _ .vmem, ⟨2, _⟩ => ⟨S2816x1024, .bf16⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RResIdeal.lean ====
abbrev S4224x2816 : Shape := ⟨2, ![4224, 2816]⟩
abbrev S2816x1024 : Shape := ⟨2, ![2816, 1024]⟩
abbrev S4224x1024 : Shape := ⟨2, ![4224, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .hbm, ⟨3, _⟩ => ⟨S4224x2816, .f32⟩
  | .hbm, ⟨4, _⟩ => ⟨S2816x1024, .f32⟩
  | .hbm, ⟨5, _⟩ => ⟨S4224x1024, .f32⟩
  | .hbm, ⟨6, _⟩ => ⟨S_, .f32⟩
  | .hbm, ⟨7, _⟩ => ⟨S4224x1024, .f32⟩
  | .hbm, ⟨8, _⟩ => ⟨S4224x1024, .f32⟩
  | .hbm, ⟨9, _⟩ => ⟨S4224x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KProj.lean ====
abbrev S4224x1024 : Shape := ⟨2, ![4224, 1024]⟩
abbrev S1024x4480 : Shape := ⟨2, ![1024, 4480]⟩
abbrev S4224x4480 : Shape := ⟨2, ![4224, 4480]⟩
abbrev S384x1024 : Shape := ⟨2, ![384, 1024]⟩
abbrev S384x4480 : Shape := ⟨2, ![384, 4480]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .bf16⟩
  | .hbm, ⟨1, _⟩ => ⟨S1024x4480, .bf16⟩
  | .hbm, ⟨2, _⟩ => ⟨S4224x4480, .f32⟩
  | .local _ .vmem, ⟨0, _⟩ => ⟨S384x1024, .bf16⟩
  | .local _ .vmem, ⟨1, _⟩ => ⟨S384x1024, .bf16⟩
  | .local _ .vmem, ⟨2, _⟩ => ⟨S1024x4480, .bf16⟩
  | .local _ .vmem, ⟨3, _⟩ => ⟨S384x4480, .f32⟩
  | .local _ .vmem, ⟨4, _⟩ => ⟨S384x4480, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4480 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S384x4480 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RProjIdeal.lean ====
abbrev S4224x1024 : Shape := ⟨2, ![4224, 1024]⟩
abbrev S1024x4480 : Shape := ⟨2, ![1024, 4480]⟩
abbrev S4224x4480 : Shape := ⟨2, ![4224, 4480]⟩

abbrev nBuf : Space → Nat
  | .hbm => 5
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x4480, .bf16⟩
  | .hbm, ⟨2, _⟩ => ⟨S4224x1024, .f32⟩
  | .hbm, ⟨3, _⟩ => ⟨S1024x4480, .f32⟩
  | .hbm, ⟨4, _⟩ => ⟨S4224x4480, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KGf.lean ====
abbrev S4224x512 : Shape := ⟨2, ![4224, 512]⟩
abbrev S512x1024 : Shape := ⟨2, ![512, 1024]⟩
abbrev S4224x4480 : Shape := ⟨2, ![4224, 4480]⟩
abbrev S1024x1024 : Shape := ⟨2, ![1024, 1024]⟩
abbrev S4224x1024 : Shape := ⟨2, ![4224, 1024]⟩
abbrev S1024x4224 : Shape := ⟨2, ![1024, 4224]⟩
abbrev S512x4224 : Shape := ⟨2, ![512, 4224]⟩
abbrev S384x512 : Shape := ⟨2, ![384, 512]⟩
abbrev S384x1024 : Shape := ⟨2, ![384, 1024]⟩
abbrev S1024x384 : Shape := ⟨2, ![1024, 384]⟩
abbrev S512x384 : Shape := ⟨2, ![512, 384]⟩

abbrev nBuf : Space → Nat
  | .hbm => 13
  | .vmem => 25
  | .smem => 0
  | _ => 0

abbrev bufTy : (tb : Table) → Fin (tcTables nBuf tb) → BufTy
  | .hbm, ⟨0, _⟩ => ⟨S4224x512, .bf16⟩
  | .hbm, ⟨1, _⟩ => ⟨S4224x512, .bf16⟩
  | .hbm, ⟨2, _⟩ => ⟨S512x1024, .bf16⟩
  | .hbm, ⟨3, _⟩ => ⟨S512x1024, .bf16⟩
  | .hbm, ⟨4, _⟩ => ⟨S4224x4480, .f32⟩
  | .hbm, ⟨5, _⟩ => ⟨S1024x1024, .bf16⟩
  | .hbm, ⟨6, _⟩ => ⟨S4224x1024, .f32⟩
  | .hbm, ⟨7, _⟩ => ⟨S4224x1024, .f32⟩
  | .hbm, ⟨8, _⟩ => ⟨S1024x4224, .bf16⟩
  | .hbm, ⟨9, _⟩ => ⟨S4224x1024, .bf16⟩
  | .hbm, ⟨10, _⟩ => ⟨S4224x1024, .bf16⟩
  | .hbm, ⟨11, _⟩ => ⟨S512x4224, .bf16⟩
  | .hbm, ⟨12, _⟩ => ⟨S512x4224, .bf16⟩
  | .local _ .vmem, ⟨0, _⟩ => ⟨S384x512, .bf16⟩
  | .local _ .vmem, ⟨1, _⟩ => ⟨S384x512, .bf16⟩
  | .local _ .vmem, ⟨2, _⟩ => ⟨S384x512, .bf16⟩
  | .local _ .vmem, ⟨3, _⟩ => ⟨S384x512, .bf16⟩
  | .local _ .vmem, ⟨4, _⟩ => ⟨S512x1024, .bf16⟩
  | .local _ .vmem, ⟨5, _⟩ => ⟨S512x1024, .bf16⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S1024x1024, .bf16⟩
  | .local _ .vmem, ⟨11, _⟩ => ⟨S384x1024, .f32⟩
  | .local _ .vmem, ⟨12, _⟩ => ⟨S384x1024, .f32⟩
  | .local _ .vmem, ⟨13, _⟩ => ⟨S384x1024, .f32⟩
  | .local _ .vmem, ⟨14, _⟩ => ⟨S384x1024, .f32⟩
  | .local _ .vmem, ⟨15, _⟩ => ⟨S1024x384, .bf16⟩
  | .local _ .vmem, ⟨16, _⟩ => ⟨S1024x384, .bf16⟩
  | .local _ .vmem, ⟨17, _⟩ => ⟨S384x1024, .bf16⟩
  | .local _ .vmem, ⟨18, _⟩ => ⟨S384x1024, .bf16⟩
  | .local _ .vmem, ⟨19, _⟩ => ⟨S384x1024, .bf16⟩
  | .local _ .vmem, ⟨20, _⟩ => ⟨S384x1024, .bf16⟩
  | .local _ .vmem, ⟨21, _⟩ => ⟨S512x384, .bf16⟩
  | .local _ .vmem, ⟨22, _⟩ => ⟨S512x384, .bf16⟩
  | .local _ .vmem, ⟨23, _⟩ => ⟨S512x384, .bf16⟩
  | .local _ .vmem, ⟨24, _⟩ => ⟨S512x384, .bf16⟩
  | _, _ => ⟨S4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RGfIdeal.lean ====
abbrev S4224x512 : Shape := ⟨2, ![4224, 512]⟩
abbrev S512x1024 : Shape := ⟨2, ![512, 1024]⟩
abbrev S4224x4480 : Shape := ⟨2, ![4224, 4480]⟩
abbrev S1024x1024 : Shape := ⟨2, ![1024, 1024]⟩
abbrev S4224x1024 : Shape := ⟨2, ![4224, 1024]⟩
abbrev S_ : Shape := ⟨0, ![]⟩
abbrev S1024x4224 : Shape := ⟨2, ![1024, 4224]⟩
abbrev S512x4224 : Shape := ⟨2, ![512, 4224]⟩

abbrev nBuf : Space → Nat
  | .hbm => 43
  | .vmem => 0
  | .smem => 0
  | _ => 0

abbrev bufTy : (tb : Table) → Fin (tcTables nBuf tb) → BufTy
  | .hbm, ⟨0, _⟩ => ⟨S4224x512, .bf16⟩
  | .hbm, ⟨1, _⟩ => ⟨S4224x512, .bf16⟩
  | .hbm, ⟨2, _⟩ => ⟨S512x1024, .bf16⟩
  | .hbm, ⟨3, _⟩ => ⟨S512x1024, .bf16⟩
  | .hbm, ⟨4, _⟩ => ⟨S4224x4480, .f32⟩
  | .hbm, ⟨5, _⟩ => ⟨S1024x1024, .bf16⟩
  | .hbm, ⟨6, _⟩ => ⟨S4224x1024, .f32⟩
  | .hbm, ⟨7, _⟩ => ⟨S4224x512, .f32⟩
  | .hbm, ⟨8, _⟩ => ⟨S512x1024, .f32⟩
  | .hbm, ⟨9, _⟩ => ⟨S4224x1024, .f32⟩
  | .hbm, ⟨10, _⟩ => ⟨S4224x512, .f32⟩
  | .hbm, ⟨11, _⟩ => ⟨S512x1024, .f32⟩
  | .hbm, ⟨12, _⟩ => ⟨S4224x1024, .f32⟩
  | .hbm, ⟨13, _⟩ => ⟨S4224x1024, .f32⟩
  | .hbm, ⟨14, _⟩ => ⟨S4224x1024, .f32⟩
  | .hbm, ⟨15, _⟩ => ⟨S4224x1024, .f32⟩
  | .hbm, ⟨16, _⟩ => ⟨S_, .f32⟩
  | .hbm, ⟨17, _⟩ => ⟨S4224x1024, .f32⟩
  | .hbm, ⟨18, _⟩ => ⟨S4224x1024, .f32⟩
  | .hbm, ⟨19, _⟩ => ⟨S_, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S4224x1024, .f32⟩
  | .hbm, ⟨25, _⟩ => ⟨S4224x1024, .f32⟩
  | .hbm, ⟨26, _⟩ => ⟨S_, .f32⟩
  | .hbm, ⟨27, _⟩ => ⟨S4224x1024, .f32⟩
  | .hbm, ⟨28, _⟩ => ⟨S4224x1024, .f32⟩
  | .hbm, ⟨29, _⟩ => ⟨S_, .f32⟩
  | .hbm, ⟨30, _⟩ => ⟨S4224x1024, .f32⟩
  | .hbm, ⟨31, _⟩ => ⟨S4224x1024, .f32⟩
  | .hbm, ⟨32, _⟩ => ⟨S4224x1024, .f32⟩
  | .hbm, ⟨33, _⟩ => ⟨S4224x1024, .f32⟩
  | .hbm, ⟨34, _⟩ => ⟨S1024x1024, .f32⟩
  | .hbm, ⟨35, _⟩ => ⟨S4224x1024, .f32⟩
  | .hbm, ⟨36, _⟩ => ⟨S4224x1024, .f32⟩
  | .hbm, ⟨37, _⟩ => ⟨S1024x4224, .f32⟩
  | .hbm, ⟨38, _⟩ => ⟨S1024x4224, .bf16⟩
  | .hbm, ⟨39, _⟩ => ⟨S4224x1024, .bf16⟩
  | .hbm, ⟨40, _⟩ => ⟨S4224x1024, .bf16⟩
  | .hbm, ⟨41, _⟩ => ⟨S512x4224, .bf16⟩
  | .hbm, ⟨42, _⟩ => ⟨S512x4224, .bf16⟩
  | _, _ => ⟨S4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== KRms.lean ====
abbrev S4224x1024 : Shape := ⟨2, ![4224, 1024]⟩
abbrev S1x1024 : Shape := ⟨2, ![1, 1024]⟩
abbrev S1024x4224 : Shape := ⟨2, ![1024, 4224]⟩
abbrev S384x1024 : Shape := ⟨2, ![384, 1024]⟩
abbrev S1024x384 : Shape := ⟨2, ![1024, 384]⟩
abbrev S384 : Shape := ⟨1, ![384]⟩
abbrev S384x1 : Shape := ⟨2, ![384, 1]⟩

abbrev nBuf : Space → Nat
  | .hbm => 4
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .bf16⟩
  | .hbm, ⟨3, _⟩ => ⟨S1024x4224, .bf16⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S384x1024, .bf16⟩
  | .local _ .vmem, ⟨4, _⟩ => ⟨S384x1024, .bf16⟩
  | .local _ .vmem, ⟨5, _⟩ => ⟨S1024x384, .bf16⟩
  | .local _ .vmem, ⟨6, _⟩ => ⟨S1024x384, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RRmsIdeal.lean ====
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩
abbrev S1024x4224 : Shape := ⟨2, ![1024, 4224]⟩

abbrev nBuf : Space → Nat
  | .hbm => 20
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x1, .f32⟩
  | .hbm, ⟨13, _⟩ => ⟨S4224x1024, .f32⟩
  | .hbm, ⟨14, _⟩ => ⟨S4224x1024, .f32⟩
  | .hbm, ⟨15, _⟩ => ⟨S4224x1024, .f32⟩
  | .hbm, ⟨16, _⟩ => ⟨S4224x1024, .f32⟩
  | .hbm, ⟨17, _⟩ => ⟨S4224x1024, .bf16⟩
  | .hbm, ⟨18, _⟩ => ⟨S1024x4224, .f32⟩
  | .hbm, ⟨19, _⟩ => ⟨S1024x4224, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== KFf.lean ====
abbrev S66 : Shape := ⟨1, ![66]⟩
abbrev S4224x512 : Shape := ⟨2, ![4224, 512]⟩
abbrev S4224x128 : Shape := ⟨2, ![4224, 128]⟩
abbrev S8x4224 : Shape := ⟨2, ![8, 4224]⟩
abbrev S384x128 : Shape := ⟨2, ![384, 128]⟩
abbrev S1 : Shape := ⟨1, ![1]⟩
abbrev S8x384 : Shape := ⟨2, ![8, 384]⟩
abbrev S2x384x128 : Shape := ⟨3, ![2, 384, 128]⟩
abbrev S1x128 : Shape := ⟨2, ![1, 128]⟩
abbrev S384 : Shape := ⟨1, ![384]⟩
abbrev S384x1 : Shape := ⟨2, ![384, 1]⟩
abbrev S1x384x128 : Shape := ⟨3, ![1, 384, 128]⟩
abbrev S384x256 : Shape := ⟨2, ![384, 256]⟩
abbrev S1x384 : Shape := ⟨2, ![1, 384]⟩
abbrev S384x384 : Shape := ⟨2, ![384, 384]⟩
abbrev S8x1 : Shape := ⟨2, ![8, 1]⟩

abbrev nBuf : Space → Nat
  | .hbm => 7
  | .vmem => 18
  | .smem => 2
  | _ => 0

abbrev bufTy : (tb : Table) → Fin (tcTables nBuf tb) → BufTy
  | .hbm, ⟨0, _⟩ => ⟨S4224x512, .bf16⟩
  | .hbm, ⟨1, _⟩ => ⟨S4224x512, .bf16⟩
  | .hbm, ⟨2, _⟩ => ⟨S4224x512, .bf16⟩
  | .hbm, ⟨3, _⟩ => ⟨S4224x128, .f32⟩
  | .hbm, ⟨4, _⟩ => ⟨S8x4224, .f32⟩
  | .hbm, ⟨5, _⟩ => ⟨S4224x512, .bf16⟩
  | .hbm, ⟨6, _⟩ => ⟨S4224x512, .f32⟩
  | .local _ .vmem, ⟨0, _⟩ => ⟨S384x128, .bf16⟩
  | .local _ .vmem, ⟨1, _⟩ => ⟨S384x128, .bf16⟩
  | .local _ .vmem, ⟨2, _⟩ => ⟨S384x128, .bf16⟩
  | .local _ .vmem, ⟨3, _⟩ => ⟨S384x128, .bf16⟩
  | .local _ .vmem, ⟨4, _⟩ => ⟨S384x128, .bf16⟩
  | .local _ .vmem, ⟨5, _⟩ => ⟨S384x128, .bf16⟩
  | .local _ .vmem, ⟨6, _⟩ => ⟨S384x128, .f32⟩
  | .local _ .vmem, ⟨7, _⟩ => ⟨S384x128, .f32⟩
  | .local _ .vmem, ⟨8, _⟩ => ⟨S8x384, .f32⟩
  | .local _ .vmem, ⟨9, _⟩ => ⟨S8x384, .f32⟩
  | .local _ .vmem, ⟨10, _⟩ => ⟨S384x128, .bf16⟩
  | .local _ .vmem, ⟨11, _⟩ => ⟨S384x128, .bf16⟩
  | .local _ .vmem, ⟨12, _⟩ => ⟨S384x128, .f32⟩
  | .local _ .vmem, ⟨13, _⟩ => ⟨S384x128, .f32⟩
  | .local _ .vmem, ⟨14, _⟩ => ⟨S2x384x128, .f32⟩
  | .local _ .vmem, ⟨15, _⟩ => ⟨S2x384x128, .f32⟩
  | .local _ .vmem, ⟨16, _⟩ => ⟨S384x128, .f32⟩
  | .local _ .vmem, ⟨17, _⟩ => ⟨S2x384x128, .f32⟩
  | .local _ .smem, ⟨0, _⟩ => ⟨S66, .i32⟩
  | .local _ .smem, ⟨1, _⟩ => ⟨S66, .i32⟩
  | _, _ => ⟨S4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0_0 : Ref sig .tc := ⟨.hbm, 5, rfl⟩
abbrev main_v0_1 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 66], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v1 : BitVec 32) (v3 : BitVec 32) : BitVec 1 :=
  let v18 : BitVec 1 := Scalar.cmpi .eq v3 v1
  let v19 : BitVec 32 := Scalar.extui v18
  let c0_i32_4 : BitVec 32 := 0#32
  let v20 : BitVec 1 := Scalar.cmpi .ne v19 c0_i32_4
  v20

def cc0_transform_0 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S66) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S66) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S66) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S66) ![v0.toNat] S1.size (k0_off1_inb i)) numel1_S1
  let c0_i32 : BitVec 32 := 0#32
  let c0_i32_0 : BitVec 32 := 0#32
  ![v1.toNat, c0_i32.toNat]

def cc0_transform_4 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S66) ![v0.toNat] S1.size (k0_off1_inb i)) numel1_S1
  let c0_i32 : BitVec 32 := 0#32
  let c0_i32_0 : BitVec 32 := 0#32
  ![c0_i32.toNat, v1.toNat]

def cc0_transform_5 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S66) ![v0.toNat] S1.size (k0_off1_inb i)) numel1_S1
  let c0_i32 : BitVec 32 := 0#32
  ![v1.toNat, arg0.toNat]

def cc0_transform_6 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S66) ![v0.toNat] S1.size (k0_off1_inb i)) numel1_S1
  let c0_i32 : BitVec 32 := 0#32
  ![v1.toNat, arg0.toNat]

abbrev stage0_0 : Fin 2 → Memref sig .tc .vmem S384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S384x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KFfIdeal.lean ====
variable {F : FTy → Type} [FloatOps F] [Named F]
def κ : String → Option EReal := fun
  | "mask" => some ⊥
  | _ => none
-- ==== RFfIdeal.lean ====
abbrev S66 : Shape := ⟨1, ![66]⟩
abbrev S4224x512 : Shape := ⟨2, ![4224, 512]⟩
abbrev S4224x128 : Shape := ⟨2, ![4224, 128]⟩
abbrev S8x4224 : Shape := ⟨2, ![8, 4224]⟩
abbrev S4224x8x64 : Shape := ⟨3, ![4224, 8, 64]⟩
abbrev S8x4224x64 : Shape := ⟨3, ![8, 4224, 64]⟩
abbrev S8x4224x4224 : Shape := ⟨3, ![8, 4224, 4224]⟩
abbrev S4224x8 : Shape := ⟨2, ![4224, 8]⟩
abbrev S8x4224x1 : Shape := ⟨3, ![8, 4224, 1]⟩
abbrev S8x1x4224 : Shape := ⟨3, ![8, 1, 4224]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S_ : Shape := ⟨0, ![]⟩
abbrev S1x4224x4224 : Shape := ⟨3, ![1, 4224, 4224]⟩
abbrev S4224x8x1 : Shape := ⟨3, ![4224, 8, 1]⟩

abbrev nBuf : Space → Nat
  | .hbm => 64
  | .vmem => 0
  | .smem => 0
  | _ => 0

abbrev bufTy : (tb : Table) → Fin (tcTables nBuf tb) → BufTy
  | .hbm, ⟨0, _⟩ => ⟨S66, .i32⟩
  | .hbm, ⟨1, _⟩ => ⟨S66, .i32⟩
  | .hbm, ⟨2, _⟩ => ⟨S4224x512, .bf16⟩
  | .hbm, ⟨3, _⟩ => ⟨S4224x512, .bf16⟩
  | .hbm, ⟨4, _⟩ => ⟨S4224x512, .bf16⟩
  | .hbm, ⟨5, _⟩ => ⟨S4224x128, .f32⟩
  | .hbm, ⟨6, _⟩ => ⟨S8x4224, .f32⟩
  | .hbm, ⟨7, _⟩ => ⟨S4224x512, .f32⟩
  | .hbm, ⟨8, _⟩ => ⟨S4224x8x64, .f32⟩
  | .hbm, ⟨9, _⟩ => ⟨S8x4224x64, .f32⟩
  | .hbm, ⟨10, _⟩ => ⟨S4224x512, .f32⟩
  | .hbm, ⟨11, _⟩ => ⟨S4224x8x64, .f32⟩
  | .hbm, ⟨12, _⟩ => ⟨S8x4224x64, .f32⟩
  | .hbm, ⟨13, _⟩ => ⟨S8x4224x4224, .f32⟩
  | .hbm, ⟨14, _⟩ => ⟨S4224x8, .f32⟩
  | .hbm, ⟨15, _⟩ => ⟨S8x4224, .f32⟩
  | .hbm, ⟨16, _⟩ => ⟨S8x4224x1, .f32⟩
  | .hbm, ⟨17, _⟩ => ⟨S8x4224x4224, .f32⟩
  | .hbm, ⟨18, _⟩ => ⟨S8x4224x4224, .f32⟩
  | .hbm, ⟨19, _⟩ => ⟨S8x1x4224, .f32⟩
  | .hbm, ⟨20, _⟩ => ⟨S8x4224x4224, .f32⟩
  | .hbm, ⟨21, _⟩ => ⟨S8x4224x4224, .f32⟩
  | .hbm, ⟨22, _⟩ => ⟨S4224, .i32⟩
  | .hbm, ⟨23, _⟩ => ⟨S1x4224, .i32⟩
  | .hbm, ⟨24, _⟩ => ⟨S4224x1, .i32⟩
  | .hbm, ⟨25, _⟩ => ⟨S4224x4224, .i32⟩
  | .hbm, ⟨26, _⟩ => ⟨S4224x4224, .i32⟩
  | .hbm, ⟨27, _⟩ => ⟨S4224x4224, .i1⟩
  | .hbm, ⟨28, _⟩ => ⟨S_, .i32⟩
  | .hbm, ⟨29, _⟩ => ⟨S4224, .i32⟩
  | .hbm, ⟨30, _⟩ => ⟨S4224, .i1⟩
  | .hbm, ⟨31, _⟩ => ⟨S1x4224, .i1⟩
  | .hbm, ⟨32, _⟩ => ⟨S4224x4224, .i1⟩
  | .hbm, ⟨33, _⟩ => ⟨S4224x4224, .i1⟩
  | .hbm, ⟨34, _⟩ => ⟨S1x4224x4224, .i1⟩
  | .hbm, ⟨35, _⟩ => ⟨S_, .f32⟩
  | .hbm, ⟨36, _⟩ => ⟨S_, .f32⟩
  | .hbm, ⟨37, _⟩ => ⟨S8x4224x4224, .i1⟩
  | .hbm, ⟨38, _⟩ => ⟨S8x4224x4224, .f32⟩
  | .hbm, ⟨39, _⟩ => ⟨S8x4224x4224, .f32⟩
  | .hbm, ⟨40, _⟩ => ⟨S_, .f32⟩
  | .hbm, ⟨41, _⟩ => ⟨S8x4224, .f32⟩
  | .hbm, ⟨42, _⟩ => ⟨S8x4224x1, .f32⟩
  | .hbm, ⟨43, _⟩ => ⟨S8x4224x4224, .f32⟩
  | .hbm, ⟨44, _⟩ => ⟨S8x4224x4224, .f32⟩
  | .hbm, ⟨45, _⟩ => ⟨S8x4224x4224, .f32⟩
  | .hbm, ⟨46, _⟩ => ⟨S_, .f32⟩
  | .hbm, ⟨47, _⟩ => ⟨S8x4224, .f32⟩
  | .hbm, ⟨48, _⟩ => ⟨S4224x512, .f32⟩
  | .hbm, ⟨49, _⟩ => ⟨S4224x8x64, .f32⟩
  | .hbm, ⟨50, _⟩ => ⟨S8x4224x64, .f32⟩
  | .hbm, ⟨51, _⟩ => ⟨S8x4224x64, .f32⟩
  | .hbm, ⟨52, _⟩ => ⟨S8x4224x1, .f32⟩
  | .hbm, ⟨53, _⟩ => ⟨S8x4224x64, .f32⟩
  | .hbm, ⟨54, _⟩ => ⟨S8x4224x64, .f32⟩
  | .hbm, ⟨55, _⟩ => ⟨S4224x8x64, .f32⟩
  | .hbm, ⟨56, _⟩ => ⟨S4224x512, .f32⟩
  | .hbm, ⟨57, _⟩ => ⟨S8x4224, .f32⟩
  | .hbm, ⟨58, _⟩ => ⟨S8x4224, .f32⟩
  | .hbm, ⟨59, _⟩ => ⟨S4224x8, .f32⟩
  | .hbm, ⟨60, _⟩ => ⟨S4224x8x1, .f32⟩
  | .hbm, ⟨61, _⟩ => ⟨S4224x8x64, .f32⟩
  | .hbm, ⟨62, _⟩ => ⟨S4224x512, .f32⟩
  | .hbm, ⟨63, _⟩ => ⟨S4224x512, .bf16⟩
  | _, _ => ⟨S66, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v27 : Ref sig .tc := ⟨.hbm, 39, rfl⟩
abbrev main_cst_0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_1 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== KSf.lean ====
abbrev S8 : Shape := ⟨1, ![8]⟩
abbrev S4224x512 : Shape := ⟨2, ![4224, 512]⟩
abbrev S2x4224x128 : Shape := ⟨3, ![2, 4224, 128]⟩
abbrev S8x128x384 : Shape := ⟨3, ![8, 128, 384]⟩
abbrev S384x128 : Shape := ⟨2, ![384, 128]⟩
abbrev S1x128x128 : Shape := ⟨3, ![1, 128, 128]⟩
abbrev S1x384x128 : Shape := ⟨3, ![1, 384, 128]⟩
abbrev S2x128x384 : Shape := ⟨3, ![2, 128, 384]⟩
abbrev S1x128 : Shape := ⟨2, ![1, 128]⟩
abbrev S128x128 : Shape := ⟨2, ![128, 128]⟩
abbrev S512x128 : Shape := ⟨2, ![512, 128]⟩
abbrev S1 : Shape := ⟨1, ![1]⟩
abbrev S256x128 : Shape := ⟨2, ![256, 128]⟩
abbrev S128x1 : Shape := ⟨2, ![128, 1]⟩
abbrev S1x384 : Shape := ⟨2, ![1, 384]⟩
abbrev S128x384 : Shape := ⟨2, ![128, 384]⟩
abbrev S1x128x384 : Shape := ⟨3, ![1, 128, 384]⟩
abbrev S128 : Shape := ⟨1, ![128]⟩

abbrev nBuf : Space → Nat
  | .hbm => 7
  | .vmem => 20
  | .smem => 1
  | _ => 0

abbrev bufTy : (tb : Table) → Fin (tcTables nBuf tb) → BufTy
  | .hbm, ⟨0, _⟩ => ⟨S8, .f32⟩
  | .hbm, ⟨1, _⟩ => ⟨S4224x512, .bf16⟩
  | .hbm, ⟨2, _⟩ => ⟨S2x4224x128, .bf16⟩
  | .hbm, ⟨3, _⟩ => ⟨S2x4224x128, .bf16⟩
  | .hbm, ⟨4, _⟩ => ⟨S8x128x384, .f32⟩
  | .hbm, ⟨5, _⟩ => ⟨S4224x512, .bf16⟩
  | .hbm, ⟨6, _⟩ => ⟨S4224x512, .f32⟩
  | .local _ .vmem, ⟨0, _⟩ => ⟨S384x128, .bf16⟩
  | .local _ .vmem, ⟨1, _⟩ => ⟨S384x128, .bf16⟩
  | .local _ .vmem, ⟨2, _⟩ => ⟨S1x128x128, .bf16⟩
  | .local _ .vmem, ⟨3, _⟩ => ⟨S1x128x128, .bf16⟩
  | .local _ .vmem, ⟨4, _⟩ => ⟨S1x384x128, .bf16⟩
  | .local _ .vmem, ⟨5, _⟩ => ⟨S1x384x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x384x128, .bf16⟩
  | .local _ .vmem, ⟨11, _⟩ => ⟨S1x384x128, .bf16⟩
  | .local _ .vmem, ⟨12, _⟩ => ⟨S1x128x128, .bf16⟩
  | .local _ .vmem, ⟨13, _⟩ => ⟨S1x128x128, .bf16⟩
  | .local _ .vmem, ⟨14, _⟩ => ⟨S2x128x384, .f32⟩
  | .local _ .vmem, ⟨15, _⟩ => ⟨S2x128x384, .f32⟩
  | .local _ .vmem, ⟨16, _⟩ => ⟨S384x128, .bf16⟩
  | .local _ .vmem, ⟨17, _⟩ => ⟨S384x128, .bf16⟩
  | .local _ .vmem, ⟨18, _⟩ => ⟨S384x128, .f32⟩
  | .local _ .vmem, ⟨19, _⟩ => ⟨S384x128, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 11], ![false, false]⟩

def k0_off1 (i : grid0.Coords) (c0_i32 : BitVec 32) : Fin 1 → Nat :=
  let c2_i32 : BitVec 32 := 2#32
  let arg0 : BitVec 32 := BitVec.ofNat 32 (i 0).val
  let v13 : BitVec 32 := Scalar.muli c2_i32 arg0
  let v14 : BitVec 32 := Scalar.addi v13 c0_i32
  let v15 : Index := Scalar.indexCast v14
  ![v15.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli arg1 c3_i32
  let c1_i32_4 : BitVec 32 := 1#32
  let v18 : BitVec 32 := Scalar.subi v17 c1_i32_4
  let c0_i32_5 : BitVec 32 := 0#32
  let v19 : BitVec 32 := Scalar.maxsi v18 c0_i32_5
  let c0_i32_6 : BitVec 32 := 0#32
  let c0_i32_7 : BitVec 32 := 0#32
  ![v16.toNat, v19.toNat, c0_i32_6.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 32 := Scalar.muli arg1 c3_i32
  let c1_i32_4 : BitVec 32 := 1#32
  let v18 : BitVec 32 := Scalar.subi v17 c1_i32_4
  let c0_i32_5 : BitVec 32 := 0#32
  let v19 : BitVec 32 := Scalar.maxsi v18 c0_i32_5
  let c0_i32_6 : BitVec 32 := 0#32
  let c0_i32_7 : BitVec 32 := 0#32
  ![v16.toNat, v19.toNat, c0_i32_6.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x384x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x128x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S384x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S384x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KSfIdeal.lean ====
variable {F : FTy → Type} [FloatOps F] [Named F]
def κ : String → Option EReal := fun
  | "mask" => some ⊥
  | _ => none
-- ==== RSfIdeal.lean ====
abbrev S8 : Shape := ⟨1, ![8]⟩
abbrev S4224x512 : Shape := ⟨2, ![4224, 512]⟩
abbrev S2x4224x128 : Shape := ⟨3, ![2, 4224, 128]⟩
abbrev S8x128x384 : Shape := ⟨3, ![8, 128, 384]⟩
abbrev S4224x8x64 : Shape := ⟨3, ![4224, 8, 64]⟩
abbrev S8x4224x64 : Shape := ⟨3, ![8, 4224, 64]⟩
abbrev S8x33x128x64 : Shape := ⟨4, ![8, 33, 128, 64]⟩
abbrev S33 : Shape := ⟨1, ![33]⟩
abbrev S33x1x1 : Shape := ⟨3, ![33, 1, 1]⟩
abbrev S_ : Shape := ⟨0, ![]⟩
abbrev S128 : Shape := ⟨1, ![128]⟩
abbrev S1x128x1 : Shape := ⟨3, ![1, 128, 1]⟩
abbrev S33x128x1 : Shape := ⟨3, ![33, 128, 1]⟩
abbrev S256 : Shape := ⟨1, ![256]⟩
abbrev S1x1x256 : Shape := ⟨3, ![1, 1, 256]⟩
abbrev S33x1x256 : Shape := ⟨3, ![33, 1, 256]⟩
abbrev S33x128x256 : Shape := ⟨3, ![33, 128, 256]⟩
abbrev S16 : Shape := ⟨1, ![16]⟩
abbrev S1x1x16 : Shape := ⟨3, ![1, 1, 16]⟩
abbrev S33x128x16 : Shape := ⟨3, ![33, 128, 16]⟩
abbrev S33x128x272 : Shape := ⟨3, ![33, 128, 272]⟩
abbrev S2x4224x2x64 : Shape := ⟨4, ![2, 4224, 2, 64]⟩
abbrev S2x2x4224x64 : Shape := ⟨4, ![2, 2, 4224, 64]⟩
abbrev S2x1x2x4224x64 : Shape := ⟨5, ![2, 1, 2, 4224, 64]⟩
abbrev S2x2x2x4224x64 : Shape := ⟨5, ![2, 2, 2, 4224, 64]⟩
abbrev S8x128x64 : Shape := ⟨3, ![8, 128, 64]⟩
abbrev S8x4352x64 : Shape := ⟨3, ![8, 4352, 64]⟩
abbrev S8x34x128x64 : Shape := ⟨4, ![8, 34, 128, 64]⟩
abbrev S8x16x64 : Shape := ⟨3, ![8, 16, 64]⟩
abbrev S8x1x16x64 : Shape := ⟨4, ![8, 1, 16, 64]⟩
abbrev S8x33x16x64 : Shape := ⟨4, ![8, 33, 16, 64]⟩
abbrev S8x33x272x64 : Shape := ⟨4, ![8, 33, 272, 64]⟩
abbrev S8x33x128x272 : Shape := ⟨4, ![8, 33, 128, 272]⟩
abbrev S8x128x256 : Shape := ⟨3, ![8, 128, 256]⟩
abbrev S8x128x16 : Shape := ⟨3, ![8, 128, 16]⟩
abbrev S8x128x272 : Shape := ⟨3, ![8, 128, 272]⟩
abbrev S8x1x128x272 : Shape := ⟨4, ![8, 1, 128, 272]⟩
abbrev S1x33x128x272 : Shape := ⟨4, ![1, 33, 128, 272]⟩
abbrev S8x1x1x1 : Shape := ⟨4, ![8, 1, 1, 1]⟩
abbrev S8x33x128 : Shape := ⟨3, ![8, 33, 128]⟩
abbrev S8x33x128x1 : Shape := ⟨4, ![8, 33, 128, 1]⟩

abbrev nBuf : Space → Nat
  | .hbm => 135
  | .vmem => 0
  | .smem => 0
  | _ => 0

abbrev hbmTy0_0 (i : Nat) : BufTy := match i % 128 with
  | 0 => ⟨S8, .f32⟩
  | 1 => ⟨S4224x512, .bf16⟩
  | 2 => ⟨S2x4224x128, .bf16⟩
  | 3 => ⟨S2x4224x128, .bf16⟩
  | 4 => ⟨S8x128x384, .f32⟩
  | 5 => ⟨S4224x512, .f32⟩
  | 6 => ⟨S4224x8x64, .f32⟩
  | 7 => ⟨S8x4224x64, .f32⟩
  | 8 => ⟨S8x33x128x64, .f32⟩
  | 9 => ⟨S33, .i32⟩
  | 10 => ⟨S33x1x1, .i32⟩
  | 11 => ⟨S_, .i32⟩
  | 12 => ⟨S33x1x1, .i32⟩
  | 13 => ⟨S33x1x1, .i32⟩
  | 14 => ⟨S128, .i32⟩
  | 15 => ⟨S1x128x1, .i32⟩
  | 16 => ⟨S33x128x1, .i32⟩
  | 17 => ⟨S33x128x1, .i32⟩
  | 18 => ⟨S33x128x1, .i32⟩
  | 19 => ⟨S33, .i32⟩
  | 20 => ⟨S33x1x1, .i32⟩
  | 21 => ⟨S_, .i32⟩
  | 22 => ⟨S33x1x1, .i32⟩
  | 23 => ⟨S33x1x1, .i32⟩
  | 24 => ⟨S_, .i32⟩
  | 25 => ⟨S33x1x1, .i32⟩
  | 26 => ⟨S33x1x1, .i32⟩
  | 27 => ⟨S256, .i32⟩
  | 28 => ⟨S1x1x256, .i32⟩
  | 29 => ⟨S33x1x256, .i32⟩
  | 30 => ⟨S33x1x256, .i32⟩
  | 31 => ⟨S33x1x256, .i32⟩
  | 32 => ⟨S33x128x256, .i32⟩
  | 33 => ⟨S33x128x256, .i32⟩
  | 34 => ⟨S33x128x256, .i32⟩
  | 35 => ⟨S_, .i32⟩
  | 36 => ⟨S33x128x256, .i32⟩
  | 37 => ⟨S33x128x256, .i1⟩
  | 38 => ⟨S_, .i32⟩
  | 39 => ⟨S33x128x256, .i32⟩
  | 40 => ⟨S33x128x256, .i1⟩
  | 41 => ⟨S33x128x256, .i1⟩
  | 42 => ⟨S_, .i32⟩
  | 43 => ⟨S33x1x256, .i32⟩
  | 44 => ⟨S33x1x256, .i1⟩
  | 45 => ⟨S33x128x256, .i1⟩
  | 46 => ⟨S33x128x256, .i1⟩
  | 47 => ⟨S16, .i32⟩
  | 48 => ⟨S1x1x16, .i32⟩
  | 49 => ⟨S_, .i32⟩
  | 50 => ⟨S1x1x16, .i32⟩
  | 51 => ⟨S1x1x16, .i32⟩
  | 52 => ⟨S33x128x16, .i32⟩
  | 53 => ⟨S33x128x16, .i32⟩
  | 54 => ⟨S33x128x16, .i32⟩
  | 55 => ⟨S_, .i32⟩
  | 56 => ⟨S33x128x16, .i32⟩
  | 57 => ⟨S33x128x16, .i1⟩
  | 58 => ⟨S33x128x272, .i1⟩
  | 59 => ⟨S2x4224x128, .f32⟩
  | 60 => ⟨S2x4224x2x64, .f32⟩
  | 61 => ⟨S2x2x4224x64, .f32⟩
  | 62 => ⟨S2x1x2x4224x64, .f32⟩
  | 63 => ⟨S2x2x2x4224x64, .f32⟩
  | 64 => ⟨S8x4224x64, .f32⟩
  | 65 => ⟨S8x128x64, .f32⟩
  | 66 => ⟨S_, .f32⟩
  | 67 => ⟨S8x128x64, .f32⟩
  | 68 => ⟨S8x4352x64, .f32⟩
  | 69 => ⟨S8x34x128x64, .f32⟩
  | 70 => ⟨S8x16x64, .f32⟩
  | 71 => ⟨S8x1x16x64, .f32⟩
  | 72 => ⟨S8x33x16x64, .f32⟩
  | 73 => ⟨S8x33x128x64, .f32⟩
  | 74 => ⟨S8x33x128x64, .f32⟩
  | 75 => ⟨S8x33x272x64, .f32⟩
  | 76 => ⟨S8x33x128x272, .f32⟩
  | 77 => ⟨S8x128x256, .f32⟩
  | 78 => ⟨S8x128x16, .f32⟩
  | 79 => ⟨S8x128x272, .f32⟩
  | 80 => ⟨S8x1x128x272, .f32⟩
  | 81 => ⟨S8x33x128x272, .f32⟩
  | 82 => ⟨S8x33x128x272, .f32⟩
  | 83 => ⟨S1x33x128x272, .i1⟩
  | 84 => ⟨S_, .f32⟩
  | 85 => ⟨S_, .f32⟩
  | 86 => ⟨S8x33x128x272, .i1⟩
  | 87 => ⟨S8x33x128x272, .f32⟩
  | 88 => ⟨S8x33x128x272, .f32⟩
  | 89 => ⟨S8x1x1x1, .f32⟩
  | 90 => ⟨S_, .f32⟩
  | 91 => ⟨S8x33x128, .f32⟩
  | 92 => ⟨S8x33x128x1, .f32⟩
  | 93 => ⟨S8x33x128x1, .f32⟩
  | 94 => ⟨S8x33x128x1, .f32⟩
  | 95 => ⟨S8x33x128x272, .f32⟩
  | 96 => ⟨S8x33x128x272, .f32⟩
  | 97 => ⟨S8x33x128x272, .f32⟩
  | 98 => ⟨S_, .f32⟩
  | 99 => ⟨S8x33x128, .f32⟩
  | 100 => ⟨S8x33x128x1, .f32⟩
  | 101 => ⟨S8x33x128x1, .f32⟩
  | 102 => ⟨S8x33x128x1, .f32⟩
  | 103 => ⟨S8x33x128x1, .f32⟩
  | 104 => ⟨S8x33x128x1, .f32⟩
  | 105 => ⟨S8x33x128x272, .f32⟩
  | 106 => ⟨S8x33x128x272, .f32⟩
  | 107 => ⟨S2x4224x128, .f32⟩
  | 108 => ⟨S2x4224x2x64, .f32⟩
  | 109 => ⟨S2x2x4224x64, .f32⟩
  | 110 => ⟨S2x1x2x4224x64, .f32⟩
  | 111 => ⟨S2x2x2x4224x64, .f32⟩
  | 112 => ⟨S8x4224x64, .f32⟩
  | 113 => ⟨S8x128x64, .f32⟩
  | 114 => ⟨S_, .f32⟩
  | 115 => ⟨S8x128x64, .f32⟩
  | 116 => ⟨S8x4352x64, .f32⟩
  | 117 => ⟨S8x34x128x64, .f32⟩
  | 118 => ⟨S8x16x64, .f32⟩
  | 119 => ⟨S8x1x16x64, .f32⟩
  | 120 => ⟨S8x33x16x64, .f32⟩
  | 121 => ⟨S8x33x128x64, .f32⟩
  | 122 => ⟨S8x33x128x64, .f32⟩
  | 123 => ⟨S8x33x272x64, .f32⟩
  | 124 => ⟨S8x33x128x64, .f32⟩
  | 125 => ⟨S8x33x128x1, .f32⟩
  | 126 => ⟨S8x33x128x1, .f32⟩
  | 127 => ⟨S8x33x128x64, .f32⟩
  | _ => ⟨S8, .f32⟩

abbrev hbmTy0_1 (i : Nat) : BufTy := match i % 128 with
  | 0 => ⟨S8x4224x64, .f32⟩
  | 1 => ⟨S4224x8x64, .f32⟩
  | 2 => ⟨S4224x512, .f32⟩
  | 3 => ⟨S4224x512, .bf16⟩
  | 4 => ⟨S8x4224x64, .f32⟩
  | 5 => ⟨S4224x8x64, .f32⟩
  | 6 => ⟨S4224x512, .f32⟩
  | _ => ⟨S8, .f32⟩

abbrev hbmTy (i : Nat) : BufTy := match i / 128 with
  | 0 => hbmTy0_0 i
  | 1 => hbmTy0_1 i
  | _ => ⟨S8, .f32⟩

abbrev bufTy : (tb : Table) → Fin (tcTables nBuf tb) → BufTy
  | .hbm, ⟨i, _⟩ => hbmTy i
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_c_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_7 : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_v70 : Ref sig .tc := ⟨.hbm, 88, rfl⟩
abbrev main_v71 : Ref sig .tc := ⟨.hbm, 89, rfl⟩
abbrev main_cst_8 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_9 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_10 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩

abbrev nD : Nat := 1
abbrev τ : Topo := Topo.v7x

variable {F : FTy → Type} [FloatOps F]
-- ==== KQn.lean ====
abbrev S4224x4480 : Shape := ⟨2, ![4224, 4480]⟩
abbrev S1x512 : Shape := ⟨2, ![1, 512]⟩
abbrev S1x128 : Shape := ⟨2, ![1, 128]⟩
abbrev S4224x512 : Shape := ⟨2, ![4224, 512]⟩
abbrev S2x4224x128 : Shape := ⟨3, ![2, 4224, 128]⟩
abbrev S4224x128 : Shape := ⟨2, ![4224, 128]⟩
abbrev S8x4224 : Shape := ⟨2, ![8, 4224]⟩
abbrev S512x4224 : Shape := ⟨2, ![512, 4224]⟩
abbrev S384x512 : Shape := ⟨2, ![384, 512]⟩
abbrev S384x128 : Shape := ⟨2, ![384, 128]⟩
abbrev S2x384x128 : Shape := ⟨3, ![2, 384, 128]⟩
abbrev S8x384 : Shape := ⟨2, ![8, 384]⟩
abbrev S512x384 : Shape := ⟨2, ![512, 384]⟩
abbrev S8x128 : Shape := ⟨2, ![8, 128]⟩
abbrev S128x128 : Shape := ⟨2, ![128, 128]⟩
abbrev S128x384 : Shape := ⟨2, ![128, 384]⟩
abbrev S1x384x128 : Shape := ⟨3, ![1, 384, 128]⟩
abbrev S384x384 : Shape := ⟨2, ![384, 384]⟩

abbrev nBuf : Space → Nat
  | .hbm => 15
  | .vmem => 38
  | .smem => 0
  | _ => 0

abbrev bufTy : (tb : Table) → Fin (tcTables nBuf tb) → BufTy
  | .hbm, ⟨0, _⟩ => ⟨S4224x4480, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x128, .f32⟩
  | .hbm, ⟨5, _⟩ => ⟨S1x128, .f32⟩
  | .hbm, ⟨6, _⟩ => ⟨S4224x512, .bf16⟩
  | .hbm, ⟨7, _⟩ => ⟨S4224x512, .bf16⟩
  | .hbm, ⟨8, _⟩ => ⟨S4224x512, .bf16⟩
  | .hbm, ⟨9, _⟩ => ⟨S4224x512, .bf16⟩
  | .hbm, ⟨10, _⟩ => ⟨S2x4224x128, .bf16⟩
  | .hbm, ⟨11, _⟩ => ⟨S2x4224x128, .bf16⟩
  | .hbm, ⟨12, _⟩ => ⟨S4224x128, .f32⟩
  | .hbm, ⟨13, _⟩ => ⟨S8x4224, .f32⟩
  | .hbm, ⟨14, _⟩ => ⟨S512x4224, .bf16⟩
  | .local _ .vmem, ⟨0, _⟩ => ⟨S384x512, .f32⟩
  | .local _ .vmem, ⟨1, _⟩ => ⟨S384x512, .f32⟩
  | .local _ .vmem, ⟨2, _⟩ => ⟨S384x512, .f32⟩
  | .local _ .vmem, ⟨3, _⟩ => ⟨S384x512, .f32⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .f32⟩
  | .local _ .vmem, ⟨8, _⟩ => ⟨S384x128, .f32⟩
  | .local _ .vmem, ⟨9, _⟩ => ⟨S384x128, .f32⟩
  | .local _ .vmem, ⟨10, _⟩ => ⟨S384x128, .f32⟩
  | .local _ .vmem, ⟨11, _⟩ => ⟨S384x128, .f32⟩
  | .local _ .vmem, ⟨12, _⟩ => ⟨S384x128, .f32⟩
  | .local _ .vmem, ⟨13, _⟩ => ⟨S384x128, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x128, .f32⟩
  | .local _ .vmem, ⟨18, _⟩ => ⟨S1x128, .f32⟩
  | .local _ .vmem, ⟨19, _⟩ => ⟨S384x512, .bf16⟩
  | .local _ .vmem, ⟨20, _⟩ => ⟨S384x512, .bf16⟩
  | .local _ .vmem, ⟨21, _⟩ => ⟨S384x512, .bf16⟩
  | .local _ .vmem, ⟨22, _⟩ => ⟨S384x512, .bf16⟩
  | .local _ .vmem, ⟨23, _⟩ => ⟨S384x512, .bf16⟩
  | .local _ .vmem, ⟨24, _⟩ => ⟨S384x512, .bf16⟩
  | .local _ .vmem, ⟨25, _⟩ => ⟨S384x512, .bf16⟩
  | .local _ .vmem, ⟨26, _⟩ => ⟨S384x512, .bf16⟩
  | .local _ .vmem, ⟨27, _⟩ => ⟨S2x384x128, .bf16⟩
  | .local _ .vmem, ⟨28, _⟩ => ⟨S2x384x128, .bf16⟩
  | .local _ .vmem, ⟨29, _⟩ => ⟨S2x384x128, .bf16⟩
  | .local _ .vmem, ⟨30, _⟩ => ⟨S2x384x128, .bf16⟩
  | .local _ .vmem, ⟨31, _⟩ => ⟨S384x128, .f32⟩
  | .local _ .vmem, ⟨32, _⟩ => ⟨S384x128, .f32⟩
  | .local _ .vmem, ⟨33, _⟩ => ⟨S8x384, .f32⟩
  | .local _ .vmem, ⟨34, _⟩ => ⟨S8x384, .f32⟩
  | .local _ .vmem, ⟨35, _⟩ => ⟨S512x384, .bf16⟩
  | .local _ .vmem, ⟨36, _⟩ => ⟨S512x384, .bf16⟩
  | .local _ .vmem, ⟨37, _⟩ => ⟨S8x128, .f32⟩
  | _, _ => ⟨S4224x4480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev main_v0_8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_5 (i : grid0.Coords) : Fin 2 → Nat :=
  let arg0 : BitVec 32 := BitVec.ofNat 32 (i 0).val
  let c33_i32 : BitVec 32 := 33#32
  let c0_i32 : BitVec 32 := 0#32
  ![arg0.toNat, c33_i32.toNat]

def cc0_transform_6 (i : grid0.Coords) : Fin 2 → Nat :=
  let arg0 : BitVec 32 := BitVec.ofNat 32 (i 0).val
  let c34_i32 : BitVec 32 := 34#32
  let c0_i32 : BitVec 32 := 0#32
  ![arg0.toNat, c34_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S384x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S384x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S384x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S384x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x384x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x384x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S384x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x384 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x384 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== RQnIdeal.lean ====
abbrev S4224x4480 : Shape := ⟨2, ![4224, 4480]⟩
abbrev S1x512 : Shape := ⟨2, ![1, 512]⟩
abbrev S1x128 : Shape := ⟨2, ![1, 128]⟩
abbrev S4224x512 : Shape := ⟨2, ![4224, 512]⟩
abbrev S4224x8x64 : Shape := ⟨3, ![4224, 8, 64]⟩
abbrev S_ : Shape := ⟨0, ![]⟩
abbrev S4224x8 : Shape := ⟨2, ![4224, 8]⟩
abbrev S4224x8x1 : Shape := ⟨3, ![4224, 8, 1]⟩
abbrev S1x8x64 : Shape := ⟨3, ![1, 8, 64]⟩
abbrev S1x8 : Shape := ⟨2, ![1, 8]⟩
abbrev S4224x128 : Shape := ⟨2, ![4224, 128]⟩
abbrev S4224x2x64 : Shape := ⟨3, ![4224, 2, 64]⟩
abbrev S4224x2 : Shape := ⟨2, ![4224, 2]⟩
abbrev S4224x2x1 : Shape := ⟨3, ![4224, 2, 1]⟩
abbrev S1x2x64 : Shape := ⟨3, ![1, 2, 64]⟩
abbrev S4224x2x1x64 : Shape := ⟨4, ![4224, 2, 1, 64]⟩
abbrev S2x4224x1x64 : Shape := ⟨4, ![2, 4224, 1, 64]⟩
abbrev S2x4224x2x64 : Shape := ⟨4, ![2, 4224, 2, 64]⟩
abbrev S2x4224x128 : Shape := ⟨3, ![2, 4224, 128]⟩
abbrev S8x4224 : Shape := ⟨2, ![8, 4224]⟩
abbrev S512x4224 : Shape := ⟨2, ![512, 4224]⟩

abbrev nBuf : Space → Nat
  | .hbm => 138
  | .vmem => 0
  | .smem => 0
  | _ => 0

abbrev hbmTy0_0 (i : Nat) : BufTy := match i % 128 with
  | 0 => ⟨S4224x4480, .f32⟩
  | 1 => ⟨S1x512, .f32⟩
  | 2 => ⟨S1x512, .f32⟩
  | 3 => ⟨S1x512, .f32⟩
  | 4 => ⟨S1x128, .f32⟩
  | 5 => ⟨S1x128, .f32⟩
  | 6 => ⟨S4224x512, .f32⟩
  | 7 => ⟨S4224x8x64, .f32⟩
  | 8 => ⟨S4224x8x64, .f32⟩
  | 9 => ⟨S_, .f32⟩
  | 10 => ⟨S4224x8, .f32⟩
  | 11 => ⟨S4224x8x1, .f32⟩
  | 12 => ⟨S_, .f32⟩
  | 13 => ⟨S4224x8x1, .f32⟩
  | 14 => ⟨S4224x8x1, .f32⟩
  | 15 => ⟨S_, .f32⟩
  | 16 => ⟨S4224x8x1, .f32⟩
  | 17 => ⟨S4224x8x1, .f32⟩
  | 18 => ⟨S4224x8x1, .f32⟩
  | 19 => ⟨S4224x8x64, .f32⟩
  | 20 => ⟨S4224x8x64, .f32⟩
  | 21 => ⟨S1x8x64, .f32⟩
  | 22 => ⟨S4224x8x64, .f32⟩
  | 23 => ⟨S4224x8x64, .f32⟩
  | 24 => ⟨S_, .f32⟩
  | 25 => ⟨S4224x8x64, .f32⟩
  | 26 => ⟨S4224x8x64, .f32⟩
  | 27 => ⟨S4224x512, .f32⟩
  | 28 => ⟨S4224x512, .bf16⟩
  | 29 => ⟨S4224x8, .f32⟩
  | 30 => ⟨S1x8, .f32⟩
  | 31 => ⟨S4224x8, .f32⟩
  | 32 => ⟨S4224x8, .f32⟩
  | 33 => ⟨S4224x8, .f32⟩
  | 34 => ⟨S_, .f32⟩
  | 35 => ⟨S4224x8, .f32⟩
  | 36 => ⟨S4224x8, .f32⟩
  | 37 => ⟨S4224x8, .f32⟩
  | 38 => ⟨S4224x8, .f32⟩
  | 39 => ⟨S4224x8, .i1⟩
  | 40 => ⟨S4224x8, .f32⟩
  | 41 => ⟨S4224x8, .f32⟩
  | 42 => ⟨S4224x8, .f32⟩
  | 43 => ⟨S4224x8, .f32⟩
  | 44 => ⟨S4224x8, .f32⟩
  | 45 => ⟨S4224x8, .f32⟩
  | 46 => ⟨S4224x8, .f32⟩
  | 47 => ⟨S4224x8, .f32⟩
  | 48 => ⟨S4224x8, .f32⟩
  | 49 => ⟨S_, .f32⟩
  | 50 => ⟨S_, .f32⟩
  | 51 => ⟨S4224x8, .f32⟩
  | 52 => ⟨S4224x512, .f32⟩
  | 53 => ⟨S4224x8x64, .f32⟩
  | 54 => ⟨S4224x8x64, .f32⟩
  | 55 => ⟨S_, .f32⟩
  | 56 => ⟨S4224x8, .f32⟩
  | 57 => ⟨S4224x8x1, .f32⟩
  | 58 => ⟨S_, .f32⟩
  | 59 => ⟨S4224x8x1, .f32⟩
  | 60 => ⟨S4224x8x1, .f32⟩
  | 61 => ⟨S_, .f32⟩
  | 62 => ⟨S4224x8x1, .f32⟩
  | 63 => ⟨S4224x8x1, .f32⟩
  | 64 => ⟨S4224x8x1, .f32⟩
  | 65 => ⟨S4224x8x64, .f32⟩
  | 66 => ⟨S4224x8x64, .f32⟩
  | 67 => ⟨S1x8x64, .f32⟩
  | 68 => ⟨S4224x8x64, .f32⟩
  | 69 => ⟨S4224x8x64, .f32⟩
  | 70 => ⟨S_, .f32⟩
  | 71 => ⟨S4224x8x64, .f32⟩
  | 72 => ⟨S4224x8x64, .f32⟩
  | 73 => ⟨S4224x512, .f32⟩
  | 74 => ⟨S4224x512, .bf16⟩
  | 75 => ⟨S4224x512, .f32⟩
  | 76 => ⟨S4224x512, .bf16⟩
  | 77 => ⟨S4224x512, .f32⟩
  | 78 => ⟨S4224x8x64, .f32⟩
  | 79 => ⟨S4224x8x64, .f32⟩
  | 80 => ⟨S_, .f32⟩
  | 81 => ⟨S4224x8, .f32⟩
  | 82 => ⟨S4224x8x1, .f32⟩
  | 83 => ⟨S_, .f32⟩
  | 84 => ⟨S4224x8x1, .f32⟩
  | 85 => ⟨S4224x8x1, .f32⟩
  | 86 => ⟨S_, .f32⟩
  | 87 => ⟨S4224x8x1, .f32⟩
  | 88 => ⟨S4224x8x1, .f32⟩
  | 89 => ⟨S4224x8x1, .f32⟩
  | 90 => ⟨S4224x8x64, .f32⟩
  | 91 => ⟨S4224x8x64, .f32⟩
  | 92 => ⟨S1x8x64, .f32⟩
  | 93 => ⟨S4224x8x64, .f32⟩
  | 94 => ⟨S4224x8x64, .f32⟩
  | 95 => ⟨S_, .f32⟩
  | 96 => ⟨S4224x8x64, .f32⟩
  | 97 => ⟨S4224x8x64, .f32⟩
  | 98 => ⟨S4224x512, .f32⟩
  | 99 => ⟨S4224x512, .bf16⟩
  | 100 => ⟨S4224x128, .f32⟩
  | 101 => ⟨S4224x2x64, .f32⟩
  | 102 => ⟨S4224x2x64, .f32⟩
  | 103 => ⟨S_, .f32⟩
  | 104 => ⟨S4224x2, .f32⟩
  | 105 => ⟨S4224x2x1, .f32⟩
  | 106 => ⟨S_, .f32⟩
  | 107 => ⟨S4224x2x1, .f32⟩
  | 108 => ⟨S4224x2x1, .f32⟩
  | 109 => ⟨S_, .f32⟩
  | 110 => ⟨S4224x2x1, .f32⟩
  | 111 => ⟨S4224x2x1, .f32⟩
  | 112 => ⟨S4224x2x1, .f32⟩
  | 113 => ⟨S4224x2x64, .f32⟩
  | 114 => ⟨S4224x2x64, .f32⟩
  | 115 => ⟨S1x2x64, .f32⟩
  | 116 => ⟨S4224x2x64, .f32⟩
  | 117 => ⟨S4224x2x64, .f32⟩
  | 118 => ⟨S_, .f32⟩
  | 119 => ⟨S4224x2x64, .f32⟩
  | 120 => ⟨S4224x2x64, .f32⟩
  | 121 => ⟨S4224x128, .f32⟩
  | 122 => ⟨S4224x2x1x64, .f32⟩
  | 123 => ⟨S2x4224x1x64, .f32⟩
  | 124 => ⟨S2x4224x2x64, .f32⟩
  | 125 => ⟨S2x4224x128, .f32⟩
  | 126 => ⟨S2x4224x128, .bf16⟩
  | 127 => ⟨S4224x128, .f32⟩
  | _ => ⟨S4224x4480, .f32⟩

abbrev hbmTy0_1 (i : Nat) : BufTy := match i % 128 with
  | 0 => ⟨S4224x2x1x64, .f32⟩
  | 1 => ⟨S2x4224x1x64, .f32⟩
  | 2 => ⟨S2x4224x2x64, .f32⟩
  | 3 => ⟨S2x4224x128, .f32⟩
  | 4 => ⟨S2x4224x128, .bf16⟩
  | 5 => ⟨S_, .i32⟩
  | 6 => ⟨S_, .f32⟩
  | 7 => ⟨S4224x128, .f32⟩
  | 8 => ⟨S8x4224, .f32⟩
  | 9 => ⟨S512x4224, .bf16⟩
  | _ => ⟨S4224x4480, .f32⟩

abbrev hbmTy (i : Nat) : BufTy := match i / 128 with
  | 0 => hbmTy0_0 i
  | 1 => hbmTy0_1 i
  | _ => ⟨S4224x4480, .f32⟩

abbrev bufTy : (tb : Table) → Fin (tcTables nBuf tb) → BufTy
  | .hbm, ⟨i, _⟩ => hbmTy i
  | _, _ => ⟨S4224x4480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_v1 : Ref sig .tc := ⟨.hbm, 47, rfl⟩
abbrev main_v23 : Ref sig .tc := ⟨.hbm, 48, rfl⟩
abbrev main_call1_call0_cst : Ref sig .tc := ⟨.hbm, 49, rfl⟩
abbrev main_call1_call0_v0 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_3 : Ref sig .tc := ⟨.hbm, 55, rfl⟩
abbrev main_v28 : Ref sig .tc := ⟨.hbm, 56, rfl⟩
abbrev main_v29 : Ref sig .tc := ⟨.hbm, 57, rfl⟩
abbrev main_cst_4 : Ref sig .tc := ⟨.hbm, 58, rfl⟩
abbrev main_v30 : Ref sig .tc := ⟨.hbm, 59, rfl⟩
abbrev main_v31 : Ref sig .tc := ⟨.hbm, 60, rfl⟩
abbrev main_cst_5 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_6 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_7 : Ref sig .tc := ⟨.hbm, 80, rfl⟩
abbrev main_v49 : Ref sig .tc := ⟨.hbm, 81, rfl⟩
abbrev main_v50 : Ref sig .tc := ⟨.hbm, 82, rfl⟩
abbrev main_cst_8 : Ref sig .tc := ⟨.hbm, 83, rfl⟩
abbrev main_v51 : Ref sig .tc := ⟨.hbm, 84, rfl⟩
abbrev main_v52 : Ref sig .tc := ⟨.hbm, 85, rfl⟩
abbrev main_cst_9 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_10 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_11 : Ref sig .tc := ⟨.hbm, 103, rfl⟩
abbrev main_v68 : Ref sig .tc := ⟨.hbm, 104, rfl⟩
abbrev main_v69 : Ref sig .tc := ⟨.hbm, 105, rfl⟩
abbrev main_cst_12 : Ref sig .tc := ⟨.hbm, 106, rfl⟩
abbrev main_v70 : Ref sig .tc := ⟨.hbm, 107, rfl⟩
abbrev main_v71 : Ref sig .tc := ⟨.hbm, 108, rfl⟩
abbrev main_cst_13 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_14 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_c : Ref sig .tc := ⟨.hbm, 133, rfl⟩
abbrev main_call2_v0 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩

abbrev nD : Nat := 1
abbrev τ : Topo := Topo.v7x

variable {F : FTy → Type} [FloatOps F]
-- ==== KAi.lean ====
abbrev S2x1024x1408 : Shape := ⟨3, ![2, 1024, 1408]⟩
abbrev S1x512x1408 : Shape := ⟨3, ![1, 512, 1408]⟩
abbrev S512x1408 : Shape := ⟨2, ![512, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .local _ .vmem, ⟨0, _⟩ => ⟨S1x512x1408, .f32⟩
  | .local _ .vmem, ⟨1, _⟩ => ⟨S1x512x1408, .f32⟩
  | .local _ .vmem, ⟨2, _⟩ => ⟨S1x512x1408, .f32⟩
  | .local _ .vmem, ⟨3, _⟩ => ⟨S1x512x1408, .f32⟩
  | .local _ .vmem, ⟨4, _⟩ => ⟨S1x512x1408, .f32⟩
  | .local _ .vmem, ⟨5, _⟩ => ⟨S1x512x1408, .f32⟩
  | .local _ .vmem, ⟨6, _⟩ => ⟨S1x512x1408, .f32⟩
  | .local _ .vmem, ⟨7, _⟩ => ⟨S1x512x1408, .f32⟩
  | .local _ .vmem, ⟨8, _⟩ => ⟨S1x512x1408, .f32⟩
  | .local _ .vmem, ⟨9, _⟩ => ⟨S1x512x1408, .f32⟩
  | .local _ .vmem, ⟨10, _⟩ => ⟨S1x512x1408, .f32⟩
  | .local _ .vmem, ⟨11, _⟩ => ⟨S1x512x1408, .f32⟩
  | .local _ .vmem, ⟨12, _⟩ => ⟨S1x512x1408, .f32⟩
  | .local _ .vmem, ⟨13, _⟩ => ⟨S1x512x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KAiIdeal.lean ====
abbrev S2x1024x1408 : Shape := ⟨3, ![2, 1024, 1408]⟩
abbrev S1x512x1408 : Shape := ⟨3, ![1, 512, 1408]⟩
abbrev S512x1408 : Shape := ⟨2, ![512, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .local _ .vmem, ⟨0, _⟩ => ⟨S1x512x1408, .f32⟩
  | .local _ .vmem, ⟨1, _⟩ => ⟨S1x512x1408, .f32⟩
  | .local _ .vmem, ⟨2, _⟩ => ⟨S1x512x1408, .f32⟩
  | .local _ .vmem, ⟨3, _⟩ => ⟨S1x512x1408, .f32⟩
  | .local _ .vmem, ⟨4, _⟩ => ⟨S1x512x1408, .f32⟩
  | .local _ .vmem, ⟨5, _⟩ => ⟨S1x512x1408, .f32⟩
  | .local _ .vmem, ⟨6, _⟩ => ⟨S1x512x1408, .f32⟩
  | .local _ .vmem, ⟨7, _⟩ => ⟨S1x512x1408, .f32⟩
  | .local _ .vmem, ⟨8, _⟩ => ⟨S1x512x1408, .f32⟩
  | .local _ .vmem, ⟨9, _⟩ => ⟨S1x512x1408, .f32⟩
  | .local _ .vmem, ⟨10, _⟩ => ⟨S1x512x1408, .f32⟩
  | .local _ .vmem, ⟨11, _⟩ => ⟨S1x512x1408, .f32⟩
  | .local _ .vmem, ⟨12, _⟩ => ⟨S1x512x1408, .f32⟩
  | .local _ .vmem, ⟨13, _⟩ => ⟨S1x512x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RAiIdeal.lean ====
abbrev S2x1024x1408 : Shape := ⟨3, ![2, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KAo.lean ====
abbrev S2x704x1024 : Shape := ⟨3, ![2, 704, 1024]⟩
abbrev S1x352x1024 : Shape := ⟨3, ![1, 352, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KAoIdeal.lean ====
abbrev S2x704x1024 : Shape := ⟨3, ![2, 704, 1024]⟩
abbrev S1x352x1024 : Shape := ⟨3, ![1, 352, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RAoIdeal.lean ====
abbrev S2x704x1024 : Shape := ⟨3, ![2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KAm.lean ====
abbrev S2x1090x1024 : Shape := ⟨3, ![2, 1090, 1024]⟩
abbrev S1x1090x256 : Shape := ⟨3, ![1, 1090, 256]⟩
abbrev S1090x256 : Shape := ⟨2, ![1090, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x1090x1024, .f32⟩
  | .hbm, ⟨1, _⟩ => ⟨S2x1090x1024, .f32⟩
  | .hbm, ⟨2, _⟩ => ⟨S2x1090x1024, .f32⟩
  | .hbm, ⟨3, _⟩ => ⟨S2x1090x1024, .f32⟩
  | .hbm, ⟨4, _⟩ => ⟨S2x1090x1024, .f32⟩
  | .hbm, ⟨5, _⟩ => ⟨S2x1090x1024, .f32⟩
  | .hbm, ⟨6, _⟩ => ⟨S2x1090x1024, .f32⟩
  | .local _ .vmem, ⟨0, _⟩ => ⟨S1x1090x256, .f32⟩
  | .local _ .vmem, ⟨1, _⟩ => ⟨S1x1090x256, .f32⟩
  | .local _ .vmem, ⟨2, _⟩ => ⟨S1x1090x256, .f32⟩
  | .local _ .vmem, ⟨3, _⟩ => ⟨S1x1090x256, .f32⟩
  | .local _ .vmem, ⟨4, _⟩ => ⟨S1x1090x256, .f32⟩
  | .local _ .vmem, ⟨5, _⟩ => ⟨S1x1090x256, .f32⟩
  | .local _ .vmem, ⟨6, _⟩ => ⟨S1x1090x256, .f32⟩
  | .local _ .vmem, ⟨7, _⟩ => ⟨S1x1090x256, .f32⟩
  | .local _ .vmem, ⟨8, _⟩ => ⟨S1x1090x256, .f32⟩
  | .local _ .vmem, ⟨9, _⟩ => ⟨S1x1090x256, .f32⟩
  | .local _ .vmem, ⟨10, _⟩ => ⟨S1x1090x256, .f32⟩
  | .local _ .vmem, ⟨11, _⟩ => ⟨S1x1090x256, .f32⟩
  | .local _ .vmem, ⟨12, _⟩ => ⟨S1x1090x256, .f32⟩
  | .local _ .vmem, ⟨13, _⟩ => ⟨S1x1090x256, .f32⟩
  | _, _ => ⟨S2x1090x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1090x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1090x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1090x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1090x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1090x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1090x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1090x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KAmIdeal.lean ====
abbrev S2x1090x1024 : Shape := ⟨3, ![2, 1090, 1024]⟩
abbrev S1x1090x256 : Shape := ⟨3, ![1, 1090, 256]⟩
abbrev S1090x256 : Shape := ⟨2, ![1090, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x1090x1024, .f32⟩
  | .hbm, ⟨1, _⟩ => ⟨S2x1090x1024, .f32⟩
  | .hbm, ⟨2, _⟩ => ⟨S2x1090x1024, .f32⟩
  | .hbm, ⟨3, _⟩ => ⟨S2x1090x1024, .f32⟩
  | .hbm, ⟨4, _⟩ => ⟨S2x1090x1024, .f32⟩
  | .hbm, ⟨5, _⟩ => ⟨S2x1090x1024, .f32⟩
  | .hbm, ⟨6, _⟩ => ⟨S2x1090x1024, .f32⟩
  | .local _ .vmem, ⟨0, _⟩ => ⟨S1x1090x256, .f32⟩
  | .local _ .vmem, ⟨1, _⟩ => ⟨S1x1090x256, .f32⟩
  | .local _ .vmem, ⟨2, _⟩ => ⟨S1x1090x256, .f32⟩
  | .local _ .vmem, ⟨3, _⟩ => ⟨S1x1090x256, .f32⟩
  | .local _ .vmem, ⟨4, _⟩ => ⟨S1x1090x256, .f32⟩
  | .local _ .vmem, ⟨5, _⟩ => ⟨S1x1090x256, .f32⟩
  | .local _ .vmem, ⟨6, _⟩ => ⟨S1x1090x256, .f32⟩
  | .local _ .vmem, ⟨7, _⟩ => ⟨S1x1090x256, .f32⟩
  | .local _ .vmem, ⟨8, _⟩ => ⟨S1x1090x256, .f32⟩
  | .local _ .vmem, ⟨9, _⟩ => ⟨S1x1090x256, .f32⟩
  | .local _ .vmem, ⟨10, _⟩ => ⟨S1x1090x256, .f32⟩
  | .local _ .vmem, ⟨11, _⟩ => ⟨S1x1090x256, .f32⟩
  | .local _ .vmem, ⟨12, _⟩ => ⟨S1x1090x256, .f32⟩
  | .local _ .vmem, ⟨13, _⟩ => ⟨S1x1090x256, .f32⟩
  | _, _ => ⟨S2x1090x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1090x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1090x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1090x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1090x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1090x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1090x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1090x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RAmIdeal.lean ====
abbrev S2x1090x1024 : Shape := ⟨3, ![2, 1090, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1090x1024, .f32⟩
  | .hbm, ⟨1, _⟩ => ⟨S2x1090x1024, .f32⟩
  | .hbm, ⟨2, _⟩ => ⟨S2x1090x1024, .f32⟩
  | .hbm, ⟨3, _⟩ => ⟨S2x1090x1024, .f32⟩
  | .hbm, ⟨4, _⟩ => ⟨S_, .f32⟩
  | .hbm, ⟨5, _⟩ => ⟨S2x1090x1024, .f32⟩
  | .hbm, ⟨6, _⟩ => ⟨S2x1090x1024, .f32⟩
  | .hbm, ⟨7, _⟩ => ⟨S_, .f32⟩
  | .hbm, ⟨8, _⟩ => ⟨S2x1090x1024, .f32⟩
  | .hbm, ⟨9, _⟩ => ⟨S2x1090x1024, .f32⟩
  | .hbm, ⟨10, _⟩ => ⟨S2x1090x1024, .f32⟩
  | .hbm, ⟨11, _⟩ => ⟨S_, .f32⟩
  | .hbm, ⟨12, _⟩ => ⟨S2x1090x1024, .f32⟩
  | .hbm, ⟨13, _⟩ => ⟨S2x1090x1024, .f32⟩
  | .hbm, ⟨14, _⟩ => ⟨S2x1090x1024, .f32⟩
  | .hbm, ⟨15, _⟩ => ⟨S_, .f32⟩
  | .hbm, ⟨16, _⟩ => ⟨S2x1090x1024, .f32⟩
  | .hbm, ⟨17, _⟩ => ⟨S2x1090x1024, .f32⟩
  | .hbm, ⟨18, _⟩ => ⟨S2x1090x1024, .f32⟩
  | .hbm, ⟨19, _⟩ => ⟨S_, .f32⟩
  | .hbm, ⟨20, _⟩ => ⟨S2x1090x1024, .f32⟩
  | .hbm, ⟨21, _⟩ => ⟨S2x1090x1024, .f32⟩
  | .hbm, ⟨22, _⟩ => ⟨S_, .f32⟩
  | .hbm, ⟨23, _⟩ => ⟨S2x1090x1024, .f32⟩
  | .hbm, ⟨24, _⟩ => ⟨S2x1090x1024, .f32⟩
  | .hbm, ⟨25, _⟩ => ⟨S2x1090x1024, .f32⟩
  | .hbm, ⟨26, _⟩ => ⟨S_, .f32⟩
  | .hbm, ⟨27, _⟩ => ⟨S2x1090x1024, .f32⟩
  | .hbm, ⟨28, _⟩ => ⟨S2x1090x1024, .f32⟩
  | .hbm, ⟨29, _⟩ => ⟨S2x1090x1024, .f32⟩
  | .hbm, ⟨30, _⟩ => ⟨S_, .f32⟩
  | .hbm, ⟨31, _⟩ => ⟨S2x1090x1024, .f32⟩
  | .hbm, ⟨32, _⟩ => ⟨S2x1090x1024, .f32⟩
  | .hbm, ⟨33, _⟩ => ⟨S2x1090x1024, .f32⟩
  | .hbm, ⟨34, _⟩ => ⟨S_, .f32⟩
  | .hbm, ⟨35, _⟩ => ⟨S2x1090x1024, .f32⟩
  | .hbm, ⟨36, _⟩ => ⟨S2x1090x1024, .f32⟩
  | _, _ => ⟨S2x1090x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KAb.lean ====
abbrev S2x512x256 : Shape := ⟨3, ![2, 512, 256]⟩
abbrev S1x256x256 : Shape := ⟨3, ![1, 256, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S2x512x256, .f32⟩
  | .hbm, ⟨5, _⟩ => ⟨S2x512x256, .f32⟩
  | .hbm, ⟨6, _⟩ => ⟨S2x512x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KAbIdeal.lean ====
abbrev S2x512x256 : Shape := ⟨3, ![2, 512, 256]⟩
abbrev S1x256x256 : Shape := ⟨3, ![1, 256, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S2x512x256, .f32⟩
  | .hbm, ⟨5, _⟩ => ⟨S2x512x256, .f32⟩
  | .hbm, ⟨6, _⟩ => ⟨S2x512x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RAbIdeal.lean ====
abbrev S2x512x256 : Shape := ⟨3, ![2, 512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x256, .f32⟩
  | .hbm, ⟨2, _⟩ => ⟨S2x512x256, .f32⟩
  | .hbm, ⟨3, _⟩ => ⟨S2x512x256, .f32⟩
  | .hbm, ⟨4, _⟩ => ⟨S_, .f32⟩
  | .hbm, ⟨5, _⟩ => ⟨S2x512x256, .f32⟩
  | .hbm, ⟨6, _⟩ => ⟨S2x512x256, .f32⟩
  | .hbm, ⟨7, _⟩ => ⟨S_, .f32⟩
  | .hbm, ⟨8, _⟩ => ⟨S2x512x256, .f32⟩
  | .hbm, ⟨9, _⟩ => ⟨S2x512x256, .f32⟩
  | .hbm, ⟨10, _⟩ => ⟨S2x512x256, .f32⟩
  | .hbm, ⟨11, _⟩ => ⟨S_, .f32⟩
  | .hbm, ⟨12, _⟩ => ⟨S2x512x256, .f32⟩
  | .hbm, ⟨13, _⟩ => ⟨S2x512x256, .f32⟩
  | .hbm, ⟨14, _⟩ => ⟨S2x512x256, .f32⟩
  | .hbm, ⟨15, _⟩ => ⟨S_, .f32⟩
  | .hbm, ⟨16, _⟩ => ⟨S2x512x256, .f32⟩
  | .hbm, ⟨17, _⟩ => ⟨S2x512x256, .f32⟩
  | .hbm, ⟨18, _⟩ => ⟨S2x512x256, .f32⟩
  | .hbm, ⟨19, _⟩ => ⟨S_, .f32⟩
  | .hbm, ⟨20, _⟩ => ⟨S2x512x256, .f32⟩
  | .hbm, ⟨21, _⟩ => ⟨S2x512x256, .f32⟩
  | .hbm, ⟨22, _⟩ => ⟨S_, .f32⟩
  | .hbm, ⟨23, _⟩ => ⟨S2x512x256, .f32⟩
  | .hbm, ⟨24, _⟩ => ⟨S2x512x256, .f32⟩
  | .hbm, ⟨25, _⟩ => ⟨S2x512x256, .f32⟩
  | .hbm, ⟨26, _⟩ => ⟨S_, .f32⟩
  | .hbm, ⟨27, _⟩ => ⟨S2x512x256, .f32⟩
  | .hbm, ⟨28, _⟩ => ⟨S2x512x256, .f32⟩
  | .hbm, ⟨29, _⟩ => ⟨S2x512x256, .f32⟩
  | .hbm, ⟨30, _⟩ => ⟨S_, .f32⟩
  | .hbm, ⟨31, _⟩ => ⟨S2x512x256, .f32⟩
  | .hbm, ⟨32, _⟩ => ⟨S2x512x256, .f32⟩
  | .hbm, ⟨33, _⟩ => ⟨S2x512x256, .f32⟩
  | .hbm, ⟨34, _⟩ => ⟨S_, .f32⟩
  | .hbm, ⟨35, _⟩ => ⟨S2x512x256, .f32⟩
  | .hbm, ⟨36, _⟩ => ⟨S2x512x256, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KAg.lean ====
abbrev S2x256x1024 : Shape := ⟨3, ![2, 256, 1024]⟩
abbrev S1x128x1024 : Shape := ⟨3, ![1, 128, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KAgIdeal.lean ====
abbrev S2x256x1024 : Shape := ⟨3, ![2, 256, 1024]⟩
abbrev S1x128x1024 : Shape := ⟨3, ![1, 128, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RAgIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KAs.lean ====
abbrev S1x96x128 : Shape := ⟨3, ![1, 96, 128]⟩
abbrev S96x128 : Shape := ⟨2, ![96, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x96x128, .f32⟩
  | .hbm, ⟨1, _⟩ => ⟨S1x96x128, .f32⟩
  | .hbm, ⟨2, _⟩ => ⟨S1x96x128, .f32⟩
  | .hbm, ⟨3, _⟩ => ⟨S1x96x128, .f32⟩
  | .hbm, ⟨4, _⟩ => ⟨S1x96x128, .f32⟩
  | .hbm, ⟨5, _⟩ => ⟨S1x96x128, .f32⟩
  | .hbm, ⟨6, _⟩ => ⟨S1x96x128, .f32⟩
  | .local _ .vmem, ⟨0, _⟩ => ⟨S1x96x128, .f32⟩
  | .local _ .vmem, ⟨1, _⟩ => ⟨S1x96x128, .f32⟩
  | .local _ .vmem, ⟨2, _⟩ => ⟨S1x96x128, .f32⟩
  | .local _ .vmem, ⟨3, _⟩ => ⟨S1x96x128, .f32⟩
  | .local _ .vmem, ⟨4, _⟩ => ⟨S1x96x128, .f32⟩
  | .local _ .vmem, ⟨5, _⟩ => ⟨S1x96x128, .f32⟩
  | .local _ .vmem, ⟨6, _⟩ => ⟨S1x96x128, .f32⟩
  | _, _ => ⟨S1x96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x96x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== RAsIdeal.lean ====
abbrev S1x96x128 : Shape := ⟨3, ![1, 96, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x96x128, .f32⟩
  | .hbm, ⟨1, _⟩ => ⟨S1x96x128, .f32⟩
  | .hbm, ⟨2, _⟩ => ⟨S1x96x128, .f32⟩
  | .hbm, ⟨3, _⟩ => ⟨S1x96x128, .f32⟩
  | .hbm, ⟨4, _⟩ => ⟨S_, .f32⟩
  | .hbm, ⟨5, _⟩ => ⟨S1x96x128, .f32⟩
  | .hbm, ⟨6, _⟩ => ⟨S1x96x128, .f32⟩
  | .hbm, ⟨7, _⟩ => ⟨S_, .f32⟩
  | .hbm, ⟨8, _⟩ => ⟨S1x96x128, .f32⟩
  | .hbm, ⟨9, _⟩ => ⟨S1x96x128, .f32⟩
  | .hbm, ⟨10, _⟩ => ⟨S1x96x128, .f32⟩
  | .hbm, ⟨11, _⟩ => ⟨S_, .f32⟩
  | .hbm, ⟨12, _⟩ => ⟨S1x96x128, .f32⟩
  | .hbm, ⟨13, _⟩ => ⟨S1x96x128, .f32⟩
  | .hbm, ⟨14, _⟩ => ⟨S1x96x128, .f32⟩
  | .hbm, ⟨15, _⟩ => ⟨S_, .f32⟩
  | .hbm, ⟨16, _⟩ => ⟨S1x96x128, .f32⟩
  | .hbm, ⟨17, _⟩ => ⟨S1x96x128, .f32⟩
  | .hbm, ⟨18, _⟩ => ⟨S1x96x128, .f32⟩
  | .hbm, ⟨19, _⟩ => ⟨S_, .f32⟩
  | .hbm, ⟨20, _⟩ => ⟨S1x96x128, .f32⟩
  | .hbm, ⟨21, _⟩ => ⟨S1x96x128, .f32⟩
  | .hbm, ⟨22, _⟩ => ⟨S_, .f32⟩
  | .hbm, ⟨23, _⟩ => ⟨S1x96x128, .f32⟩
  | .hbm, ⟨24, _⟩ => ⟨S1x96x128, .f32⟩
  | .hbm, ⟨25, _⟩ => ⟨S1x96x128, .f32⟩
  | .hbm, ⟨26, _⟩ => ⟨S_, .f32⟩
  | .hbm, ⟨27, _⟩ => ⟨S1x96x128, .f32⟩
  | .hbm, ⟨28, _⟩ => ⟨S1x96x128, .f32⟩
  | .hbm, ⟨29, _⟩ => ⟨S1x96x128, .f32⟩
  | .hbm, ⟨30, _⟩ => ⟨S_, .f32⟩
  | .hbm, ⟨31, _⟩ => ⟨S1x96x128, .f32⟩
  | .hbm, ⟨32, _⟩ => ⟨S1x96x128, .f32⟩
  | .hbm, ⟨33, _⟩ => ⟨S1x96x128, .f32⟩
  | .hbm, ⟨34, _⟩ => ⟨S_, .f32⟩
  | .hbm, ⟨35, _⟩ => ⟨S1x96x128, .f32⟩
  | .hbm, ⟨36, _⟩ => ⟨S1x96x128, .f32⟩
  | _, _ => ⟨S1x96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Gate.Blocks.lean ====
/-
  What one grid point of the gate's backward call leaves in each output block, as the payload its one store writes.
-/
module

public import proofs.«01_k».proof.Proof.Gen.KGateIdeal.Value

@[expose] public section

noncomputable section

namespace Cert.Gate

open Cert.KGateIdeal Cert.KGateIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem zeros2 : (![0, 0] : Fin 2 → Nat) = fun _ => 0 := by
  funext a; fin_cases a <;> rfl

/-- The block of the gradient of the first branch's gated output (output window 8) that point `t` leaves. -/
theorem outs_8 (c : Dev nD) (t : Fin cfg0.N) :
    (outsAt0 m c t).1 = k0_pay8 (iblk m c 0 t) (iblk m c 1 t) (X0_4 m c t) := by
  unfold outsAt0 out0_A_8
  dsimp only
  rw [View.read_writes_eq_canon _ _ _ (cover0_A_8 c _ _ _ _ _ _ _ _ _ _ _ _ _ _ _ _ _ _ _ _ _ _ _ _ _ _ _ _ _ _ _ _ _ _ _ _ _ _ _ )]
  unfold kernelRun0_A
  dsimp only
  sl_unfold_words
  simp only [View.readAt_eq_ld, Memref.IsWhole.read_unread]
  rw [View.canon_unit_zero zeros2]
  simp only [View.ld_unit_zero (S := S384x1024) zeros2, View.ld_unit_zero (S := S1024x1024) zeros2, View.ld_unit_zero (S := S512x1024) zeros2]

/-- The block of the gradient of the second branch's gated output (output window 9) that point `t` leaves. -/
theorem outs_9 (c : Dev nD) (t : Fin cfg0.N) :
    (outsAt0 m c t).2.1 = k0_pay9 (iblk m c 0 t) (iblk m c 1 t) (X0_5 m c t) := by
  unfold outsAt0 out0_A_9
  dsimp only
  rw [View.read_writes_eq_canon _ _ _ (cover0_A_9 c _ _ _ _ _ _ _ _ _ _ _ _ _ _ _ _ _ _ _ _ _ _ _ _ _ _ _ _ _ _ _ _ _ _ _ _ _ _ _ )]
  unfold kernelRun0_A
  dsimp only
  sl_unfold_words
  simp only [View.readAt_eq_ld, Memref.IsWhole.read_unread]
  rw [View.canon_unit_zero zeros2]
  simp only [View.ld_unit_zero (S := S384x1024) zeros2, View.ld_unit_zero (S := S1024x1024) zeros2, View.ld_unit_zero (S := S512x1024) zeros2]

/-- The block of the gradient of the first gate's input (output window 10) that point `t` leaves. -/
theorem outs_10 (c : Dev nD) (t : Fin cfg0.N) :
    (outsAt0 m c t).2.2.1 = k0_pay10 (iblk m c 0 t) (iblk m c 1 t) (X0_4 m c t) (iblk m c 2 t) := by
  unfold outsAt0 out0_A_10
  dsimp only
  rw [View.read_writes_eq_canon _ _ _ (cover0_A_10 c _ _ _ _ _ _ _ _ _ _ _ _ _ _ _ _ _ _ _ _ _ _ _ _ _ _ _ _ _ _ _ _ _ _ _ _ _ _ _ )]
  unfold kernelRun0_A
  dsimp only
  sl_unfold_words
  simp only [View.readAt_eq_ld, Memref.IsWhole.read_unread]
  rw [View.canon_unit_zero zeros2]
  simp only [View.ld_unit_zero (S := S384x1024) zeros2, View.ld_unit_zero (S := S1024x1024) zeros2, View.ld_unit_zero (S := S512x1024) zeros2]

/-- The block of the gradient of the second gate's input (output window 11) that point `t` leaves. -/
theorem outs_11 (c : Dev nD) (t : Fin cfg0.N) :
    (outsAt0 m c t).2.2.2.1 = k0_pay1 (k0_pay5 (iblk m c 0 t) (iblk m c 1 t)) (k0_pay7 (X0_5 m c t)) (iblk m c 3 t) := by
  unfold outsAt0 out0_A_11
  dsimp only
  rw [View.read_writes_eq_canon _ _ _ (cover0_A_11 c _ _ _ _ _ _ _ _ _ _ _ _ _ _ _ _ _ _ _ _ _ _ _ _ _ _ _ _ _ _ _ _ _ _ _ _ _ _ _ )]
  unfold kernelRun0_A
  dsimp only
  sl_unfold_words
  simp only [View.readAt_eq_ld, Memref.IsWhole.read_unread]
  rw [View.canon_unit_zero zeros2]
  simp only [View.ld_unit_zero (S := S384x1024) zeros2, View.ld_unit_zero (S := S1024x1024) zeros2, View.ld_unit_zero (S := S512x1024) zeros2]

/-- The block of the gradient of the first branch's output, as rows (output window 12) that point `t` leaves. -/
theorem outs_12 (c : Dev nD) (t : Fin cfg0.N) :
    (outsAt0 m c t).2.2.2.2.1 = k0_pay2 (k0_pay8 (iblk m c 0 t) (iblk m c 1 t) (X0_4 m c t)) (iblk m c 6 t) := by
  unfold outsAt0 out0_A_12
  dsimp only
  rw [View.read_writes_eq_canon _ _ _ (cover0_A_12 c _ _ _ _ _ _ _ _ _ _ _ _ _ _ _ _ _ _ _ _ _ _ _ _ _ _ _ _ _ _ _ _ _ _ _ _ _ _ _ )]
  unfold kernelRun0_A
  dsimp only
  sl_unfold_words
  simp only [View.readAt_eq_ld, Memref.IsWhole.read_unread]
  rw [View.canon_unit_zero zeros2]
  simp only [View.ld_unit_zero (S := S384x1024) zeros2, View.ld_unit_zero (S := S1024x1024) zeros2, View.ld_unit_zero (S := S512x1024) zeros2]

/-- The block of the gradient of the first branch's output, transposed (output window 13) that point `t` leaves. -/
theorem outs_13 (c : Dev nD) (t : Fin cfg0.N) :
    (outsAt0 m c t).2.2.2.2.2.1 = k0_pay3 (k0_pay8 (iblk m c 0 t) (iblk m c 1 t) (X0_4 m c t)) (iblk m c 6 t) := by
  unfold outsAt0 out0_A_13
  dsimp only
  rw [View.read_writes_eq_canon _ _ _ (cover0_A_13 c _ _ _ _ _ _ _ _ _ _ _ _ _ _ _ _ _ _ _ _ _ _ _ _ _ _ _ _ _ _ _ _ _ _ _ _ _ _ _ )]
  unfold kernelRun0_A
  dsimp only
  sl_unfold_words
  simp only [View.readAt_eq_ld, Memref.IsWhole.read_unread]
  rw [View.canon_unit_zero zeros2]
  simp only [View.ld_unit_zero (S := S384x1024) zeros2, View.ld_unit_zero (S := S1024x1024) zeros2, View.ld_unit_zero (S := S512x1024) zeros2]

/-- The block of the gradient of the second branch's output (output window 14) that point `t` leaves. -/
theorem outs_14 (c : Dev nD) (t : Fin cfg0.N) :
    (outsAt0 m c t).2.2.2.2.2.2 = k0_pay4 (k0_pay9 (iblk m c 0 t) (iblk m c 1 t) (X0_5 m c t)) (iblk m c 7 t) := by
  unfold outsAt0 out0_A_14
  dsimp only
  rw [View.read_writes_eq_canon _ _ _ (cover0_A_14 c _ _ _ _ _ _ _ _ _ _ _ _ _ _ _ _ _ _ _ _ _ _ _ _ _ _ _ _ _ _ _ _ _ _ _ _ _ _ _ )]
  unfold kernelRun0_A
  dsimp only
  sl_unfold_words
  simp only [View.readAt_eq_ld, Memref.IsWhole.read_unread]
  rw [View.canon_unit_zero zeros2]
  simp only [View.ld_unit_zero (S := S384x1024) zeros2, View.ld_unit_zero (S := S1024x1024) zeros2, View.ld_unit_zero (S := S512x1024) zeros2]

end Cert.Gate

end
-- ==== Proof.Gate.Reads.lean ====
/-
  Where the gate's backward call reads its arrays and writes its results: the rows and columns of each block.
-/
module

public import proofs.«01_k».proof.Proof.Gen.KGateIdeal.Value
public import Idealize.ShloMosaic.Lib.Pointwise

@[expose] public section

noncomputable section

namespace Cert.Gate

open Cert.KGateIdeal Cert.KGateIdeal.Gen Idealize.ShloMosaic Idealize.ShloMosaic.TcCoe Idealize.SL.Sem

variable {F : FTy → Type} [FloatOps F]
variable (m : (ℓ : Loc nD τ sig) → Buf (Elt F) ℓ)

theorem n_pts : cfg0.N = 11 := rfl

/-- The block of window 0 at point `t`, as block numbers. -/
theorem idx_0 : ∀ t : Fin cfg0.N, win0_0.index t = ![t.val, 0] :=
  (by decide +kernel : ∀ t : Fin grid0.N, win0_0.index t = ![t.val, 0])

/-- The block of window 1 at point `t`, as block numbers. -/
theorem idx_1 : ∀ t : Fin cfg0.N, win0_1.index t = ![0, 0] :=
  (by decide +kernel : ∀ t : Fin grid0.N, win0_1.index t = ![0, 0])

/-- The block of window 2 at point `t`, as block numbers. -/
theorem idx_2 : ∀ t : Fin cfg0.N, win0_2.index t = ![t.val, 0] :=
  (by decide +kernel : ∀ t : Fin grid0.N, win0_2.index t = ![t.val, 0])

/-- The block of window 3 at point `t`, as block numbers. -/
theorem idx_3 : ∀ t : Fin cfg0.N, win0_3.index t = ![t.val, 0] :=
  (by decide +kernel : ∀ t : Fin grid0.N, win0_3.index t = ![t.val, 0])

/-- The block of window 4 at point `t`, as block numbers. -/
theorem idx_4 : ∀ t : Fin cfg0.N, win0_4.index t = ![t.val, 0] :=
  (by decide +kernel : ∀ t : Fin grid0.N, win0_4.index t = ![t.val, 0])

/-- The block of window 5 at point `t`, as block numbers. -/
theorem idx_5 : ∀ t : Fin cfg0.N, win0_5.index t = ![t.val, 1] :=
  (by decide +kernel : ∀ t : Fin grid0.N, win0_5.index t = ![t.val, 1])

/-- The block of window 6 at point `t`, as block numbers. -/
theorem idx_6 : ∀ t : Fin cfg0.N, win0_6.index t = ![0, 0] :=
  (by decide +kernel : ∀ t : Fin grid0.N, win0_6.index t = ![0, 0])

/-- The block of window 7 at point `t`, as block numbers. -/
theorem idx_7 : ∀ t : Fin cfg0.N, win0_7.index t = ![0, 0] :=
  (by decide +kernel : ∀ t : Fin grid0.N, win0_7.index t = ![0, 0])

/-- The block of window 8 at point `t`, as block numbers. -/
theorem idx_8 : ∀ t : Fin cfg0.N, win0_8.index t = ![t.val, 0] :=
  (by decide +kernel : ∀ t : Fin grid0.N, win0_8.index t = ![t.val, 0])

/-- The block of window 9 at point `t`, as block numbers. -/
theorem idx_9 : ∀ t : Fin cfg0.N, win0_9.index t = ![t.val, 0] :=
  (by decide +kernel : ∀ t : Fin grid0.N, win0_9.index t = ![t.val, 0])

/-- The block of window 10 at point `t`, as block numbers. -/
theorem idx_10 : ∀ t : Fin cfg0.N, win0_10.index t = ![t.val, 0] :=
  (by decide +kernel : ∀ t : Fin grid0.N, win0_10.index t = ![t.val, 0])

/-- The block of window 11 at point `t`, as block numbers. -/
theorem idx_11 : ∀ t : Fin cfg0.N, win0_11.index t = ![t.val, 0] :=
  (by decide +kernel : ∀ t : Fin grid0.N, win0_11.index t = ![t.val, 0])

/-- The block of window 12 at point `t`, as block numbers. -/
theorem idx_12 : ∀ t : Fin cfg0.N, win0_12.index t = ![t.val, 0] :=
  (by decide +kernel : ∀ t : Fin grid0.N, win0_12.index t = ![t.val, 0])

/-- The block of window 13 at point `t`, as block numbers. -/
theorem idx_13 : ∀ t : Fin cfg0.N, win0_13.index t = ![0, t.val] :=
  (by decide +kernel : ∀ t : Fin grid0.N, win0_13.index t = ![0, t.val])

/-- The block of window 14 at point `t`, as block numbers. -/
theorem idx_14 : ∀ t : Fin cfg0.N, win0_14.index t = ![t.val, 0] :=
  (by decide +kernel : ∀ t : Fin grid0.N, win0_14.index t = ![t.val, 0])

/-- Input window 0 reads its array at these coordinates. -/
theorem rd_0 (c : Dev nD) (t : Fin cfg0.N) (p : Fin 384) (q : Fin 1024) :
    iblk m c 0 t (ix2 p q : S384x1024.Idx) = m ((c : Thread nD τ).loc main_arg0) (ix2 ⟨384 * t.val + p.val, by have := t.isLt; have := p.isLt; have := n_pts; omega⟩ q : S4224x1024.Idx) := by
  unfold iblk
  rw [View.read_apply]
  show m ((c : Thread nD τ).loc main_arg0) _ = _
  congr 1
  funext a
  apply Fin.ext
  show ((win0_0.rect t).emb _ a : Nat) = _
  rw [Pipeline.Window.rect_emb_val win0_0 t _ a rfl, idx_0 t]
  match a with
  | ⟨0, _⟩ => exact congrArg (· + p.val) (Nat.mul_comm _ _)
  | ⟨1, _⟩ => exact (congrArg (· + q.val) (Nat.zero_mul _)).trans (Nat.zero_add _)

/-- Input window 1 reads its array at these coordinates. -/
theorem rd_1 (c : Dev nD) (t : Fin cfg0.N) (p : Fin 1024) (q : Fin 1024) :
    iblk m c 1 t (ix2 p q : S1024x1024.Idx) = m ((c : Thread nD τ).loc main_arg1) (ix2 p q : S1024x1024.Idx) := by
  unfold iblk
  rw [View.read_apply]
  show m ((c : Thread nD τ).loc main_arg1) _ = _
  congr 1
  funext a
  apply Fin.ext
  show ((win0_1.rect t).emb _ a : Nat) = _
  rw [Pipeline.Window.rect_emb_val win0_1 t _ a rfl, idx_1 t]
  match a with
  | ⟨0, _⟩ => exact (congrArg (· + p.val) (Nat.zero_mul _)).trans (Nat.zero_add _)
  | ⟨1, _⟩ => exact (congrArg (· + q.val) (Nat.zero_mul _)).trans (Nat.zero_add _)

/-- Input window 2 reads its array at these coordinates. -/
theorem rd_2 (c : Dev nD) (t : Fin cfg0.N) (p : Fin 384) (q : Fin 1024) :
    iblk m c 2 t (ix2 p q : S384x1024.Idx) = m ((c : Thread nD τ).loc main_arg2) (ix2 ⟨384 * t.val + p.val, by have := t.isLt; have := p.isLt; have := n_pts; omega⟩ q : S4224x1024.Idx) := by
  unfold iblk
  rw [View.read_apply]
  show m ((c : Thread nD τ).loc main_arg2) _ = _
  congr 1
  funext a
  apply Fin.ext
  show ((win0_2.rect t).emb _ a : Nat) = _
  rw [Pipeline.Window.rect_emb_val win0_2 t _ a rfl, idx_2 t]
  match a with
  | ⟨0, _⟩ => exact congrArg (· + p.val) (Nat.mul_comm _ _)
  | ⟨1, _⟩ => exact (congrArg (· + q.val) (Nat.zero_mul _)).trans (Nat.zero_add _)

/-- Input window 3 reads its array at these coordinates. -/
theorem rd_3 (c : Dev nD) (t : Fin cfg0.N) (p : Fin 384) (q : Fin 1024) :
    iblk m c 3 t (ix2 p q : S384x1024.Idx) = m ((c : Thread nD τ).loc main_arg3) (ix2 ⟨384 * t.val + p.val, by have := t.isLt; have := p.isLt; have := n_pts; omega⟩ q : S4224x1024.Idx) := by
  unfold iblk
  rw [View.read_apply]
  show m ((c : Thread nD τ).loc main_arg3) _ = _
  congr 1
  funext a
  apply Fin.ext
  show ((win0_3.rect t).emb _ a : Nat) = _
  rw [Pipeline.Window.rect_emb_val win0_3 t _ a rfl, idx_3 t]
  match a with
  | ⟨0, _⟩ => exact congrArg (· + p.val) (Nat.mul_comm _ _)
  | ⟨1, _⟩ => exact (congrArg (· + q.val) (Nat.zero_mul _)).trans (Nat.zero_add _)

/-- Input window 4 reads its array at these coordinates. -/
theorem rd_4 (c : Dev nD) (t : Fin cfg0.N) (p : Fin 384) (q : Fin 1024) :
    X0_4 m c t (ix2 p q : S384x1024.Idx) = m ((c : Thread nD τ).loc main_arg4) (ix2 ⟨384 * t.val + p.val, by have := t.isLt; have := p.isLt; have := n_pts; omega⟩ ⟨q.val, by have := q.isLt; omega⟩ : S4224x4480.Idx) := by
  unfold X0_4 Pipeline.Window.fill
  rw [dif_pos (moved0_4 t _)]
  unfold iblk
  rw [View.read_apply]
  show m ((c : Thread nD τ).loc main_arg4) _ = _
  congr 1
  funext a
  apply Fin.ext
  show ((win0_4.rect t).emb _ a : Nat) = _
  rw [Pipeline.Window.rect_emb_val win0_4 t _ a rfl, idx_4 t]
  match a with
  | ⟨0, _⟩ => exact congrArg (· + p.val) (Nat.mul_comm _ _)
  | ⟨1, _⟩ => exact (congrArg (· + q.val) (Nat.zero_mul _)).trans (Nat.zero_add _)

/-- Input window 5 reads its array at these coordinates. -/
theorem rd_5 (c : Dev nD) (t : Fin cfg0.N) (p : Fin 384) (q : Fin 1024) :
    X0_5 m c t (ix2 p q : S384x1024.Idx) = m ((c : Thread nD τ).loc main_arg4) (ix2 ⟨384 * t.val + p.val, by have := t.isLt; have := p.isLt; have := n_pts; omega⟩ ⟨1024 + q.val, by have := q.isLt; omega⟩ : S4224x4480.Idx) := by
  unfold X0_5 Pipeline.Window.fill
  rw [dif_pos (moved0_5 t _)]
  unfold iblk
  rw [View.read_apply]
  show m ((c : Thread nD τ).loc main_arg4) _ = _
  congr 1
  funext a
  apply Fin.ext
  show ((win0_5.rect t).emb _ a : Nat) = _
  rw [Pipeline.Window.rect_emb_val win0_5 t _ a rfl, idx_5 t]
  match a with
  | ⟨0, _⟩ => exact congrArg (· + p.val) (Nat.mul_comm _ _)
  | ⟨1, _⟩ => exact congrArg (· + q.val) (Nat.mul_comm _ _)

/-- Input window 6 reads its array at these coordinates. -/
theorem rd_6 (c : Dev nD) (t : Fin cfg0.N) (p : Fin 512) (q : Fin 1024) :
    iblk m c 6 t (ix2 p q : S512x1024.Idx) = m ((c : Thread nD τ).loc main_arg5) (ix2 p q : S512x1024.Idx) := by
  unfold iblk
  rw [View.read_apply]
  show m ((c : Thread nD τ).loc main_arg5) _ = _
  congr 1
  funext a
  apply Fin.ext
  show ((win0_6.rect t).emb _ a : Nat) = _
  rw [Pipeline.Window.rect_emb_val win0_6 t _ a rfl, idx_6 t]
  match a with
  | ⟨0, _⟩ => exact (congrArg (· + p.val) (Nat.zero_mul _)).trans (Nat.zero_add _)
  | ⟨1, _⟩ => exact (congrArg (· + q.val) (Nat.zero_mul _)).trans (Nat.zero_add _)

/-- Input window 7 reads its array at these coordinates. -/
theorem rd_7 (c : Dev nD) (t : Fin cfg0.N) (p : Fin 512) (q : Fin 1024) :
    iblk m c 7 t (ix2 p q : S512x1024.Idx) = m ((c : Thread nD τ).loc main_arg6) (ix2 p q : S512x1024.Idx) := by
  unfold iblk
  rw [View.read_apply]
  show m ((c : Thread nD τ).loc main_arg6) _ = _
  congr 1
  funext a
  apply Fin.ext
  show ((win0_7.rect t).emb _ a : Nat) = _
  rw [Pipeline.Window.rect_emb_val win0_7 t _ a rfl, idx_7 t]
  match a with
  | ⟨0, _⟩ => exact (congrArg (· + p.val) (Nat.zero_mul _)).trans (Nat.zero_add _)
  | ⟨1, _⟩ => exact (congrArg (· + q.val) (Nat.zero_mul _)).trans (Nat.zero_add _)

/-- The block of output window 8 at point `t`, read off an array `G`. -/
theorem ow_8 (c : Dev nD) (t : Fin cfg0.N) (G : Vec F S4224x1024 .bf16) (p : Fin 384) (q : Fin 1024) :
    ((cfg0.win 8).blk t).view.read (Elt F) G (ix2 p q : S384x1024.Idx) = G (ix2 ⟨384 * t.val + p.val, by have := t.isLt; have := p.isLt; have := n_pts; omega⟩ q : S4224x1024.Idx) := by
  rw [View.read_apply]
  show G _ = _
  congr 1
  funext a
  apply Fin.ext
  show ((win0_8.rect t).emb _ a : Nat) = _
  rw [Pipeline.Window.rect_emb_val win0_8 t _ a rfl, idx_8 t]
  match a with
  | ⟨0, _⟩ => exact congrArg (· + p.val) (Nat.mul_comm _ _)
  | ⟨1, _⟩ => exact (congrArg (· + q.val) (Nat.zero_mul _)).trans (Nat.zero_add _)

/-- Every element of output window 8's array lies in a block that is written back. -/
theorem cover_8 (c : Dev nD) (i : ((cfg0.win 8).arr.view.loc (c.tc : Thread nD τ)).2.ty.Idx) :
    ∃ t : Fin cfg0.N, (cfg0.win 8).flush t = true ∧ i ∈ ((cfg0.win 8).blk t).view.set := by
  have h0 : (i 0).val < 4224 := (i 0).isLt
  have h1 : (i 1).val < 1024 := (i 1).isLt
  obtain ⟨t, ht⟩ : ∃ t : Fin cfg0.N, t.val = (i 0).val / 384 := ⟨⟨(i 0).val / 384, by have := n_pts; omega⟩, rfl⟩
  refine ⟨t, flush0_8 t, ?_⟩
  show i ∈ ((View.whole main_v0_0).slice (win0_8.rect t)).set
  rw [View.set_slice_whole, Rect.mem_set_unit]
  intro a
  match a with
  | ⟨0, _⟩ =>
    show win0_8.index t 0 * 384 ≤ (i 0).val ∧ (i 0).val < win0_8.index t 0 * 384 + 384
    rw [idx_8]
    show t.val * 384 ≤ (i 0).val ∧ (i 0).val < t.val * 384 + 384
    omega
  | ⟨1, _⟩ =>
    show win0_8.index t 1 * 1024 ≤ (i 1).val ∧ (i 1).val < win0_8.index t 1 * 1024 + 1024
    rw [idx_8]
    show 0 * 1024 ≤ (i 1).val ∧ (i 1).val < 0 * 1024 + 1024
    omega

/-- The block of output window 9 at point `t`, read off an array `G`. -/
theorem ow_9 (c : Dev nD) (t : Fin cfg0.N) (G : Vec F S4224x1024 .bf16) (p : Fin 384) (q : Fin 1024) :
    ((cfg0.win 9).blk t).view.read (Elt F) G (ix2 p q : S384x1024.Idx) = G (ix2 ⟨384 * t.val + p.val, by have := t.isLt; have := p.isLt; have := n_pts; omega⟩ q : S4224x1024.Idx) := by
  rw [View.read_apply]
  show G _ = _
  congr 1
  funext a
  apply Fin.ext
  show ((win0_9.rect t).emb _ a : Nat) = _
  rw [Pipeline.Window.rect_emb_val win0_9 t _ a rfl, idx_9 t]
  match a with
  | ⟨0, _⟩ => exact congrArg (· + p.val) (Nat.mul_comm _ _)
  | ⟨1, _⟩ => exact (congrArg (· + q.val) (Nat.zero_mul _)).trans (Nat.zero_add _)

/-- Every element of output window 9's array lies in a block that is written back. -/
theorem cover_9 (c : Dev nD) (i : ((cfg0.win 9).arr.view.loc (c.tc : Thread nD τ)).2.ty.Idx) :
    ∃ t : Fin cfg0.N, (cfg0.win 9).flush t = true ∧ i ∈ ((cfg0.win 9).blk t).view.set := by
  have h0 : (i 0).val < 4224 := (i 0).isLt
  have h1 : (i 1).val < 1024 := (i 1).isLt
  obtain ⟨t, ht⟩ : ∃ t : Fin cfg0.N, t.val = (i 0).val / 384 := ⟨⟨(i 0).val / 384, by have := n_pts; omega⟩, rfl⟩
  refine ⟨t, flush0_9 t, ?_⟩
  show i ∈ ((View.whole main_v0_1).slice (win0_9.rect t)).set
  rw [View.set_slice_whole, Rect.mem_set_unit]
  intro a
  match a with
  | ⟨0, _⟩ =>
    show win0_9.index t 0 * 384 ≤ (i 0).val ∧ (i 0).val < win0_9.index t 0 * 384 + 384
    rw [idx_9]
    show t.val * 384 ≤ (i 0).val ∧ (i 0).val < t.val * 384 + 384
    omega
  | ⟨1, _⟩ =>
    show win0_9.index t 1 * 1024 ≤ (i 1).val ∧ (i 1).val < win0_9.index t 1 * 1024 + 1024
    rw [idx_9]
    show 0 * 1024 ≤ (i 1).val ∧ (i 1).val < 0 * 1024 + 1024
    omega

/-- The block of output window 10 at point `t`, read off an array `G`. -/
theorem ow_10 (c : Dev nD) (t : Fin cfg0.N) (G : Vec F S4224x1024 .bf16) (p : Fin 384) (q : Fin 1024) :
    ((cfg0.win 10).blk t).view.read (Elt F) G (ix2 p q : S384x1024.Idx) = G (ix2 ⟨384 * t.val + p.val, by have := t.isLt; have := p.isLt; have := n_pts; omega⟩ q : S4224x1024.Idx) := by
  rw [View.read_apply]
  show G _ = _
  congr 1
  funext a
  apply Fin.ext
  show ((win0_10.rect t).emb _ a : Nat) = _
  rw [Pipeline.Window.rect_emb_val win0_10 t _ a rfl, idx_10 t]
  match a with
  | ⟨0, _⟩ => exact congrArg (· + p.val) (Nat.mul_comm _ _)
  | ⟨1, _⟩ => exact (congrArg (· + q.val) (Nat.zero_mul _)).trans (Nat.zero_add _)

/-- Every element of output window 10's array lies in a block that is written back. -/
theorem cover_10 (c : Dev nD) (i : ((cfg0.win 10).arr.view.loc (c.tc : Thread nD τ)).2.ty.Idx) :
    ∃ t : Fin cfg0.N, (cfg0.win 10).flush t = true ∧ i ∈ ((cfg0.win 10).blk t).view.set := by
  have h0 : (i 0).val < 4224 := (i 0).isLt
  have h1 : (i 1).val < 1024 := (i 1).isLt
  obtain ⟨t, ht⟩ : ∃ t : Fin cfg0.N, t.val = (i 0).val / 384 := ⟨⟨(i 0).val / 384, by have := n_pts; omega⟩, rfl⟩
  refine ⟨t, flush0_10 t, ?_⟩
  show i ∈ ((View.whole main_v0_2).slice (win0_10.rect t)).set
  rw [View.set_slice_whole, Rect.mem_set_unit]
  intro a
  match a with
  | ⟨0, _⟩ =>
    show win0_10.index t 0 * 384 ≤ (i 0).val ∧ (i 0).val < win0_10.index t 0 * 384 + 384
    rw [idx_10]
    show t.val * 384 ≤ (i 0).val ∧ (i 0).val < t.val * 384 + 384
    omega
  | ⟨1, _⟩ =>
    show win0_10.index t 1 * 1024 ≤ (i 1).val ∧ (i 1).val < win0_10.index t 1 * 1024 + 1024
    rw [idx_10]
    show 0 * 1024 ≤ (i 1).val ∧ (i 1).val < 0 * 1024 + 1024
    omega

/-- The block of output window 11 at point `t`, read off an array `G`. -/
theorem ow_11 (c : Dev nD) (t : Fin cfg0.N) (G : Vec F S4224x1024 .bf16) (p : Fin 384) (q : Fin 1024) :
    ((cfg0.win 11).blk t).view.read (Elt F) G (ix2 p q : S384x1024.Idx) = G (ix2 ⟨384 * t.val + p.val, by have := t.isLt; have := p.isLt; have := n_pts; omega⟩ q : S4224x1024.Idx) := by
  rw [View.read_apply]
  show G _ = _
  congr 1
  funext a
  apply Fin.ext
  show ((win0_11.rect t).emb _ a : Nat) = _
  rw [Pipeline.Window.rect_emb_val win0_11 t _ a rfl, idx_11 t]
  match a with
  | ⟨0, _⟩ => exact congrArg (· + p.val) (Nat.mul_comm _ _)
  | ⟨1, _⟩ => exact (congrArg (· + q.val) (Nat.zero_mul _)).trans (Nat.zero_add _)

/-- Every element of output window 11's array lies in a block that is written back. -/
theorem cover_11 (c : Dev nD) (i : ((cfg0.win 11).arr.view.loc (c.tc : Thread nD τ)).2.ty.Idx) :
    ∃ t : Fin cfg0.N, (cfg0.win 11).flush t = true ∧ i ∈ ((cfg0.win 11).blk t).view.set := by
  have h0 : (i 0).val < 4224 := (i 0).isLt
  have h1 : (i 1).val < 1024 := (i 1).isLt
  obtain ⟨t, ht⟩ : ∃ t : Fin cfg0.N, t.val = (i 0).val / 384 := ⟨⟨(i 0).val / 384, by have := n_pts; omega⟩, rfl⟩
  refine ⟨t, flush0_11 t, ?_⟩
  show i ∈ ((View.whole main_v0_3).slice (win0_11.rect t)).set
  rw [View.set_slice_whole, Rect.mem_set_unit]
  intro a
  match a with
  | ⟨0, _⟩ =>
    show win0_11.index t 0 * 384 ≤ (i 0).val ∧ (i 0).val < win0_11.index t 0 * 384 + 384
    rw [idx_11]
    show t.val * 384 ≤ (i 0).val ∧ (i 0).val < t.val * 384 + 384
    omega
  | ⟨1, _⟩ =>
    show win0_11.index t 1 * 1024 ≤ (i 1).val ∧ (i 1).val < win0_11.index t 1 * 1024 + 1024
    rw [idx_11]
    show 0 * 1024 ≤ (i 1).val ∧ (i 1).val < 0 * 1024 + 1024
    omega

/-- The block of output window 12 at point `t`, read off an array `G`. -/
theorem ow_12 (c : Dev nD) (t : Fin cfg0.N) (G : Vec F S4224x512 .f32) (p : Fin 384) (q : Fin 512) :
    ((cfg0.win 12).blk t).view.read (Elt F) G (ix2 p q : S384x512.Idx) = G (ix2 ⟨384 * t.val + p.val, by have := t.isLt; have := p.isLt; have := n_pts; omega⟩ q : S4224x512.Idx) := by
  rw [View.read_apply]
  show G _ = _
  congr 1
  funext a
  apply Fin.ext
  show ((win0_12.rect t).emb _ a : Nat) = _
  rw [Pipeline.Window.rect_emb_val win0_12 t _ a rfl, idx_12 t]
  match a with
  | ⟨0, _⟩ => exact congrArg (· + p.val) (Nat.mul_comm _ _)
  | ⟨1, _⟩ => exact (congrArg (· + q.val) (Nat.zero_mul _)).trans (Nat.zero_add _)

/-- Every element of output window 12's array lies in a block that is written back. -/
theorem cover_12 (c : Dev nD) (i : ((cfg0.win 12).arr.view.loc (c.tc : Thread nD τ)).2.ty.Idx) :
    ∃ t : Fin cfg0.N, (cfg0.win 12).flush t = true ∧ i ∈ ((cfg0.win 12).blk t).view.set := by
  have h0 : (i 0).val < 4224 := (i 0).isLt
  have h1 : (i 1).val < 512 := (i 1).isLt
  obtain ⟨t, ht⟩ : ∃ t : Fin cfg0.N, t.val = (i 0).val / 384 := ⟨⟨(i 0).val / 384, by have := n_pts; omega⟩, rfl⟩
  refine ⟨t, flush0_12 t, ?_⟩
  show i ∈ ((View.whole main_v0_4).slice (win0_12.rect t)).set
  rw [View.set_slice_whole, Rect.mem_set_unit]
  intro a
  match a with
  | ⟨0, _⟩ =>
    show win0_12.index t 0 * 384 ≤ (i 0).val ∧ (i 0).val < win0_12.index t 0 * 384 + 384
    rw [idx_12]
    show t.val * 384 ≤ (i 0).val ∧ (i 0).val < t.val * 384 + 384
    omega
  | ⟨1, _⟩ =>
    show win0_12.index t 1 * 512 ≤ (i 1).val ∧ (i 1).val < win0_12.index t 1 * 512 + 512
    rw [idx_12]
    show 0 * 512 ≤ (i 1).val ∧ (i 1).val < 0 * 512 + 512
    omega

/-- The block of output window 13 at point `t`, read off an array `G`. -/
theorem ow_13 (c : Dev nD) (t : Fin cfg0.N) (G : Vec F S512x4224 .bf16) (p : Fin 512) (q : Fin 384) :
    ((cfg0.win 13).blk t).view.read (Elt F) G (ix2 p q : S512x384.Idx) = G (ix2 p ⟨384 * t.val + q.val, by have := t.isLt; have := q.isLt; have := n_pts; omega⟩ : S512x4224.Idx) := by
  rw [View.read_apply]
  show G _ = _
  congr 1
  funext a
  apply Fin.ext
  show ((win0_13.rect t).emb _ a : Nat) = _
  rw [Pipeline.Window.rect_emb_val win0_13 t _ a rfl, idx_13 t]
  match a with
  | ⟨0, _⟩ => exact (congrArg (· + p.val) (Nat.zero_mul _)).trans (Nat.zero_add _)
  | ⟨1, _⟩ => exact congrArg (· + q.val) (Nat.mul_comm _ _)

/-- Every element of output window 13's array lies in a block that is written back. -/
theorem cover_13 (c : Dev nD) (i : ((cfg0.win 13).arr.view.loc (c.tc : Thread nD τ)).2.ty.Idx) :
    ∃ t : Fin cfg0.N, (cfg0.win 13).flush t = true ∧ i ∈ ((cfg0.win 13).blk t).view.set := by
  have h0 : (i 0).val < 512 := (i 0).isLt
  have h1 : (i 1).val < 4224 := (i 1).isLt
  obtain ⟨t, ht⟩ : ∃ t : Fin cfg0.N, t.val = (i 1).val / 384 := ⟨⟨(i 1).val / 384, by have := n_pts; omega⟩, rfl⟩
  refine ⟨t, flush0_13 t, ?_⟩
  show i ∈ ((View.whole main_v0_5).slice (win0_13.rect t)).set
  rw [View.set_slice_whole, Rect.mem_set_unit]
  intro a
  match a with
  | ⟨0, _⟩ =>
    show win0_13.index t 0 * 512 ≤ (i 0).val ∧ (i 0).val < win0_13.index t 0 * 512 + 512
    rw [idx_13]
    show 0 * 512 ≤ (i 0).val ∧ (i 0).val < 0 * 512 + 512
    omega
  | ⟨1, _⟩ =>
    show win0_13.index t 1 * 384 ≤ (i 1).val ∧ (i 1).val < win0_13.index t 1 * 384 + 384
    rw [idx_13]
    show t.val * 384 ≤ (i 1).val ∧ (i 1).val < t.val * 384 + 384
    omega

/-- The block of output window 14 at point `t`, read off an array `G`. -/
theorem ow_14 (c : Dev nD) (t : Fin cfg0.N) (G : Vec F S4224x512 .f32) (p : Fin 384) (q : Fin 512) :
    ((cfg0.win 14).blk t).view.read (Elt F) G (ix2 p q : S384x512.Idx) = G (ix2 ⟨384 * t.val + p.val, by have := t.isLt; have := p.isLt; have := n_pts; omega⟩ q : S4224x512.Idx) := by
  rw [View.read_apply]
  show G _ = _
  congr 1
  funext a
  apply Fin.ext
  show ((win0_14.rect t).emb _ a : Nat) = _
  rw [Pipeline.Window.rect_emb_val win0_14 t _ a rfl, idx_14 t]
  match a with
  | ⟨0, _⟩ => exact congrArg (· + p.val) (Nat.mul_comm _ _)
  | ⟨1, _⟩ => exact (congrArg (· + q.val) (Nat.zero_mul _)).trans (Nat.zero_add _)

/-- Every element of output window 14's array lies in a block that is written back. -/
theorem cover_14 (c : Dev nD) (i : ((cfg0.win 14).arr.view.loc (c.tc : Thread nD τ)).2.ty.Idx) :
    ∃ t : Fin cfg0.N, (cfg0.win 14).flush t = true ∧ i ∈ ((cfg0.win 14).blk t).view.set := by
  have h0 : (i 0).val < 4224 := (i 0).isLt
  have h1 : (i 1).val < 512 := (i 1).isLt
  obtain ⟨t, ht⟩ : ∃ t : Fin cfg0.N, t.val = (i 0).val / 384 := ⟨⟨(i 0).val / 384, by have := n_pts; omega⟩, rfl⟩
  refine ⟨t, flush0_14 t, ?_⟩
  show i ∈ ((View.whole main_v0_6).slice (win0_14.rect t)).set
  rw [View.set_slice_whole, Rect.mem_set_unit]
  intro a
  match a with
  | ⟨0, _⟩ =>
    show win0_14.index t 0 * 384 ≤ (i 0).val ∧ (i 0).val < win0_14.index t 0 * 384 + 384
    rw [idx_14]
    show t.val * 384 ≤ (i 0).val ∧ (i 0).val < t.val * 384 + 384
    omega
  | ⟨1, _⟩ =>
    show win0_14.index t 1 * 512 ≤ (i 1).val ∧ (i 1).val < win0_14.index t 1 * 512 + 512
    rw [idx_14]
    show 0 * 512 ≤ (i 1).val ∧ (i 1).val < 0 * 512 + 512
    omega

end Cert.Gate

end
-- ==== Proof.Sigmoid.lean ====
/-
  The logistic function of an extended real, in the two forms the programs spell it.
-/
module

public import Idealize.ShloMosaic.Lib.Pointwise

@[expose] public section

noncomputable section

namespace Cert.Sig

open Idealize.ShloMosaic

theorem half : Ideal.ofBits .f32 0x3F000000#32 = ((1 / 2 : ℝ) : EReal) := by
  simp [Ideal.ofBits, Ideal.ieee, -EReal.coe_mul]; norm_num

/-- The logistic function of a real number. -/
def sg (x : ℝ) : ℝ := 1 / (1 + Real.exp (-x))

theorem sg_pos (x : ℝ) : 0 < 1 + Real.exp (-x) := by positivity

/-- One half of the hyperbolic tangent of one half of a real, plus one half, is its logistic function. -/
theorem sg_tanh (x : ℝ) : (1 / 2 : ℝ) * Real.tanh (1 / 2 * x) + 1 / 2 = sg x := by
  unfold sg
  rw [Real.tanh_eq_sinh_div_cosh, Real.sinh_eq, Real.cosh_eq]
  have e : Real.exp (-x) = Real.exp (-(1 / 2 * x)) * Real.exp (-(1 / 2 * x)) := by
    rw [← Real.exp_add]; ring_nf
  have i : Real.exp (1 / 2 * x) * Real.exp (-(1 / 2 * x)) = 1 := by rw [← Real.exp_add]; simp
  rw [e]
  set a := Real.exp (1 / 2 * x)
  set b := Real.exp (-(1 / 2 * x))
  have ha : 0 < a := Real.exp_pos _
  have hb : 0 < b := Real.exp_pos _
  field_simp
  nlinarith [i]

/-- The kernels' form of the logistic function, at any extended real, is the quotient that the reference computes. -/
theorem tanh_eq_div (x : EReal) :
    Ideal.ofBits .f32 0x3F000000#32 * Ideal.tanh (Ideal.ofBits .f32 0x3F000000#32 * x) + Ideal.ofBits .f32 0x3F000000#32
      = Ideal.div 1 (1 + Ideal.exp (-x)) := by
  rw [half]
  induction x with
  | bot =>
    rw [EReal.coe_mul_bot_of_pos (by norm_num), Ideal.tanh_bot, EReal.neg_bot, Ideal.exp_top]
    rw [EReal.add_top_of_ne_bot (by decide)]
    simp [Ideal.div]
    norm_cast
    norm_num
  | top =>
    rw [EReal.coe_mul_top_of_pos (by norm_num), Ideal.tanh_top, EReal.neg_top, Ideal.exp_bot]
    simp [Ideal.div]
    norm_cast
    norm_num
  | coe r =>
    rw [← EReal.coe_mul, Ideal.tanh_coe, ← EReal.coe_mul, ← EReal.coe_add, sg_tanh, ← EReal.coe_neg, Ideal.exp_coe]
    rw [← EReal.coe_one, ← EReal.coe_add, Ideal.div_coe (sg_pos r).ne', ← EReal.coe_mul]
    congr 1
    unfold sg; ring

end Cert.Sig

end
-- ==== Proof.Gate.Values.lean ====
/-
  The arrays the gate's backward call leaves are the reference's gradients, at the extended reals.
-/
module

public import proofs.«01_k».proof.Proof.Gate.Blocks
public import proofs.«01_k».proof.Proof.Gate.Reads
public import proofs.«01_k».proof.Proof.Gen.RGateIdeal.Read
public import proofs.«01_k».proof.Proof.Sigmoid

@[expose] public section

noncomputable section

namespace Cert.Gate

open Cert.KGateIdeal Cert.KGateIdeal.Gen Idealize.ShloMosaic Idealize.ShloMosaic.TcCoe Idealize.SL.Sem
open Cert.RGateIdeal.Read

variable (m : (ℓ : Loc nD τ sig) → Buf (Elt Ideal) ℓ)

/-- What point `t` writes back to the gradient of the first branch's projection is that block of the reference's. -/
theorem flushed_8 (c : Dev nD) (t : Fin cfg0.N) :
    (dats m 0 c).flushed 8 t = ((cfg0.win 8).blk t).view.read (Elt Ideal)
      (val_main_v42 (F := Ideal) (m ((c : Thread nD τ).loc main_arg0)) (m ((c : Thread nD τ).loc main_arg1)) (m ((c : Thread nD τ).loc main_arg4))) := by
  rw [Cert.KGateIdeal.Value.flushed8, outs_8]
  funext y
  obtain ⟨p, q, rfl⟩ : ∃ (p : Fin 384) (q : Fin 1024), y = ix2 p q := ⟨y 0, y 1, eq_ix2 y⟩
  refine Eq.trans ?_ (ow_8 c t _ p q).symm
  show (k0_pay8 (iblk m c 0 t) (iblk m c 1 t) (X0_4 m c t)) (ix2 p q) = _
  unfold_payloads
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_cst, val_main_cst_0, val_main_cst_1, val_main_cst_2, val_main_cst_3, val_main_cst_4, val_main_cst_5]
  simp only [rd_0, rd_1, rd_2, rd_3, rd_4, rd_5, rd_6, rd_7, Cert.Sig.tanh_eq_div]
  ac_rfl

/-- The whole array. -/
theorem final_8 (c : Dev nD) :
    (dats m 0 c).arrAt 8 cfg0.N = val_main_v42 (F := Ideal) (m ((c : Thread nD τ).loc main_arg0)) (m ((c : Thread nD τ).loc main_arg1)) (m ((c : Thread nD τ).loc main_arg4)) :=
  (dats m 0 c).arrAt_eq_of_cover 8 _ (fun t _ => flushed_8 m c t) (cover_8 c)

/-- What point `t` writes back to the gradient of the second branch's projection is that block of the reference's. -/
theorem flushed_9 (c : Dev nD) (t : Fin cfg0.N) :
    (dats m 0 c).flushed 9 t = ((cfg0.win 9).blk t).view.read (Elt Ideal)
      (val_main_v43 (F := Ideal) (m ((c : Thread nD τ).loc main_arg0)) (m ((c : Thread nD τ).loc main_arg1)) (m ((c : Thread nD τ).loc main_arg4))) := by
  rw [Cert.KGateIdeal.Value.flushed9, outs_9]
  funext y
  obtain ⟨p, q, rfl⟩ : ∃ (p : Fin 384) (q : Fin 1024), y = ix2 p q := ⟨y 0, y 1, eq_ix2 y⟩
  refine Eq.trans ?_ (ow_9 c t _ p q).symm
  show (k0_pay9 (iblk m c 0 t) (iblk m c 1 t) (X0_5 m c t)) (ix2 p q) = _
  unfold_payloads
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_cst, val_main_cst_0, val_main_cst_1, val_main_cst_2, val_main_cst_3, val_main_cst_4, val_main_cst_5]
  simp only [rd_0, rd_1, rd_2, rd_3, rd_4, rd_5, rd_6, rd_7, Cert.Sig.tanh_eq_div]
  ac_rfl

/-- The whole array. -/
theorem final_9 (c : Dev nD) :
    (dats m 0 c).arrAt 9 cfg0.N = val_main_v43 (F := Ideal) (m ((c : Thread nD τ).loc main_arg0)) (m ((c : Thread nD τ).loc main_arg1)) (m ((c : Thread nD τ).loc main_arg4)) :=
  (dats m 0 c).arrAt_eq_of_cover 9 _ (fun t _ => flushed_9 m c t) (cover_9 c)

/-- What point `t` writes back to the gradient of the first gate's input is that block of the reference's. -/
theorem flushed_10 (c : Dev nD) (t : Fin cfg0.N) :
    (dats m 0 c).flushed 10 t = ((cfg0.win 10).blk t).view.read (Elt Ideal)
      (val_main_v44 (F := Ideal) (m ((c : Thread nD τ).loc main_arg0)) (m ((c : Thread nD τ).loc main_arg1)) (m ((c : Thread nD τ).loc main_arg2)) (m ((c : Thread nD τ).loc main_arg4))) := by
  rw [Cert.KGateIdeal.Value.flushed10, outs_10]
  funext y
  obtain ⟨p, q, rfl⟩ : ∃ (p : Fin 384) (q : Fin 1024), y = ix2 p q := ⟨y 0, y 1, eq_ix2 y⟩
  refine Eq.trans ?_ (ow_10 c t _ p q).symm
  show (k0_pay10 (iblk m c 0 t) (iblk m c 1 t) (X0_4 m c t) (iblk m c 2 t)) (ix2 p q) = _
  unfold_payloads
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_cst, val_main_cst_0, val_main_cst_1, val_main_cst_2, val_main_cst_3, val_main_cst_4, val_main_cst_5]
  simp only [rd_0, rd_1, rd_2, rd_3, rd_4, rd_5, rd_6, rd_7, Cert.Sig.tanh_eq_div]

/-- The whole array. -/
theorem final_10 (c : Dev nD) :
    (dats m 0 c).arrAt 10 cfg0.N = val_main_v44 (F := Ideal) (m ((c : Thread nD τ).loc main_arg0)) (m ((c : Thread nD τ).loc main_arg1)) (m ((c : Thread nD τ).loc main_arg2)) (m ((c : Thread nD τ).loc main_arg4)) :=
  (dats m 0 c).arrAt_eq_of_cover 10 _ (fun t _ => flushed_10 m c t) (cover_10 c)

/-- What point `t` writes back to the gradient of the second gate's input is that block of the reference's. -/
theorem flushed_11 (c : Dev nD) (t : Fin cfg0.N) :
    (dats m 0 c).flushed 11 t = ((cfg0.win 11).blk t).view.read (Elt Ideal)
      (val_main_v45 (F := Ideal) (m ((c : Thread nD τ).loc main_arg0)) (m ((c : Thread nD τ).loc main_arg1)) (m ((c : Thread nD τ).loc main_arg3)) (m ((c : Thread nD τ).loc main_arg4))) := by
  rw [Cert.KGateIdeal.Value.flushed11, outs_11]
  funext y
  obtain ⟨p, q, rfl⟩ : ∃ (p : Fin 384) (q : Fin 1024), y = ix2 p q := ⟨y 0, y 1, eq_ix2 y⟩
  refine Eq.trans ?_ (ow_11 c t _ p q).symm
  show (k0_pay1 (k0_pay5 (iblk m c 0 t) (iblk m c 1 t)) (k0_pay7 (X0_5 m c t)) (iblk m c 3 t)) (ix2 p q) = _
  unfold_payloads
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_cst, val_main_cst_0, val_main_cst_1, val_main_cst_2, val_main_cst_3, val_main_cst_4, val_main_cst_5]
  simp only [rd_0, rd_1, rd_2, rd_3, rd_4, rd_5, rd_6, rd_7, Cert.Sig.tanh_eq_div]

/-- The whole array. -/
theorem final_11 (c : Dev nD) :
    (dats m 0 c).arrAt 11 cfg0.N = val_main_v45 (F := Ideal) (m ((c : Thread nD τ).loc main_arg0)) (m ((c : Thread nD τ).loc main_arg1)) (m ((c : Thread nD τ).loc main_arg3)) (m ((c : Thread nD τ).loc main_arg4)) :=
  (dats m 0 c).arrAt_eq_of_cover 11 _ (fun t _ => flushed_11 m c t) (cover_11 c)

/-- What point `t` writes back to the gradient of the first branch's output, as rows is that block of the reference's. -/
theorem flushed_12 (c : Dev nD) (t : Fin cfg0.N) :
    (dats m 0 c).flushed 12 t = ((cfg0.win 12).blk t).view.read (Elt Ideal)
      (val_main_v38 (F := Ideal) (m ((c : Thread nD τ).loc main_arg0)) (m ((c : Thread nD τ).loc main_arg1)) (m ((c : Thread nD τ).loc main_arg4)) (m ((c : Thread nD τ).loc main_arg5))) := by
  rw [Cert.KGateIdeal.Value.flushed12, outs_12]
  funext y
  obtain ⟨p, q, rfl⟩ : ∃ (p : Fin 384) (q : Fin 512), y = ix2 p q := ⟨y 0, y 1, eq_ix2 y⟩
  refine Eq.trans ?_ (ow_12 c t _ p q).symm
  show (k0_pay2 (k0_pay8 (iblk m c 0 t) (iblk m c 1 t) (X0_4 m c t)) (iblk m c 6 t)) (ix2 p q) = _
  unfold_payloads
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_cst, val_main_cst_0, val_main_cst_1, val_main_cst_2, val_main_cst_3, val_main_cst_4, val_main_cst_5]
  simp only [rd_0, rd_1, rd_2, rd_3, rd_4, rd_5, rd_6, rd_7, Cert.Sig.tanh_eq_div]
  ac_rfl

/-- The whole array. -/
theorem final_12 (c : Dev nD) :
    (dats m 0 c).arrAt 12 cfg0.N = val_main_v38 (F := Ideal) (m ((c : Thread nD τ).loc main_arg0)) (m ((c : Thread nD τ).loc main_arg1)) (m ((c : Thread nD τ).loc main_arg4)) (m ((c : Thread nD τ).loc main_arg5)) :=
  (dats m 0 c).arrAt_eq_of_cover 12 _ (fun t _ => flushed_12 m c t) (cover_12 c)

/-- What point `t` writes back to the gradient of the first branch's output, transposed is that block of the reference's. -/
theorem flushed_13 (c : Dev nD) (t : Fin cfg0.N) :
    (dats m 0 c).flushed 13 t = ((cfg0.win 13).blk t).view.read (Elt Ideal)
      (val_main_v47 (F := Ideal) (m ((c : Thread nD τ).loc main_arg0)) (m ((c : Thread nD τ).loc main_arg1)) (m ((c : Thread nD τ).loc main_arg4)) (m ((c : Thread nD τ).loc main_arg5))) := by
  rw [Cert.KGateIdeal.Value.flushed13, outs_13]
  funext y
  obtain ⟨p, q, rfl⟩ : ∃ (p : Fin 512) (q : Fin 384), y = ix2 p q := ⟨y 0, y 1, eq_ix2 y⟩
  refine Eq.trans ?_ (ow_13 c t _ p q).symm
  show (k0_pay3 (k0_pay8 (iblk m c 0 t) (iblk m c 1 t) (X0_4 m c t)) (iblk m c 6 t)) (ix2 p q) = _
  unfold_payloads
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_cst, val_main_cst_0, val_main_cst_1, val_main_cst_2, val_main_cst_3, val_main_cst_4, val_main_cst_5]
  simp only [rd_0, rd_1, rd_2, rd_3, rd_4, rd_5, rd_6, rd_7, Cert.Sig.tanh_eq_div]
  ac_rfl

/-- The whole array. -/
theorem final_13 (c : Dev nD) :
    (dats m 0 c).arrAt 13 cfg0.N = val_main_v47 (F := Ideal) (m ((c : Thread nD τ).loc main_arg0)) (m ((c : Thread nD τ).loc main_arg1)) (m ((c : Thread nD τ).loc main_arg4)) (m ((c : Thread nD τ).loc main_arg5)) :=
  (dats m 0 c).arrAt_eq_of_cover 13 _ (fun t _ => flushed_13 m c t) (cover_13 c)

/-- What point `t` writes back to the gradient of the second branch's output is that block of the reference's. -/
theorem flushed_14 (c : Dev nD) (t : Fin cfg0.N) :
    (dats m 0 c).flushed 14 t = ((cfg0.win 14).blk t).view.read (Elt Ideal)
      (val_main_v41 (F := Ideal) (m ((c : Thread nD τ).loc main_arg0)) (m ((c : Thread nD τ).loc main_arg1)) (m ((c : Thread nD τ).loc main_arg4)) (m ((c : Thread nD τ).loc main_arg6))) := by
  rw [Cert.KGateIdeal.Value.flushed14, outs_14]
  funext y
  obtain ⟨p, q, rfl⟩ : ∃ (p : Fin 384) (q : Fin 512), y = ix2 p q := ⟨y 0, y 1, eq_ix2 y⟩
  refine Eq.trans ?_ (ow_14 c t _ p q).symm
  show (k0_pay4 (k0_pay9 (iblk m c 0 t) (iblk m c 1 t) (X0_5 m c t)) (iblk m c 7 t)) (ix2 p q) = _
  unfold_payloads
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_cst, val_main_cst_0, val_main_cst_1, val_main_cst_2, val_main_cst_3, val_main_cst_4, val_main_cst_5]
  simp only [rd_0, rd_1, rd_2, rd_3, rd_4, rd_5, rd_6, rd_7, Cert.Sig.tanh_eq_div]
  ac_rfl

/-- The whole array. -/
theorem final_14 (c : Dev nD) :
    (dats m 0 c).arrAt 14 cfg0.N = val_main_v41 (F := Ideal) (m ((c : Thread nD τ).loc main_arg0)) (m ((c : Thread nD τ).loc main_arg1)) (m ((c : Thread nD τ).loc main_arg4)) (m ((c : Thread nD τ).loc main_arg6)) :=
  (dats m 0 c).arrAt_eq_of_cover 14 _ (fun t _ => flushed_14 m c t) (cover_14 c)

end Cert.Gate

end
-- ==== Proof.Gate.Claim.lean ====
/-
  The gate's backward call and its reference end with equal results.
-/
module

public import proofs.«01_k».proof.Defs
public import proofs.«01_k».proof.Proof.Gate.Values

@[expose] public section

noncomputable section

namespace Cert.Gate

open Cert.KGateIdeal Cert.KGateIdeal.Gen Idealize.ShloMosaic Idealize.ShloMosaic.TcCoe Idealize.SL.Sem

/-- The value claim of the gate's backward call: the seven arrays it leaves are the reference's. -/
theorem algebraic : Cert.algebraic_KGateIdeal_RGateIdeal := by
  intro m g m' g' _ ha
  refine ⟨fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N, fun c => (dats m 0 c).arrAt 13 cfg0.N,
    fun c => (dats m 0 c).arrAt 14 cfg0.N, Cert.KGateIdeal.Value.run_blocks m g, ?_⟩
  refine (θ_run _ _ _).mono (fun r h c => ?_) (Cert.RGateIdeal.Value.run m' g')
  obtain ⟨h0, h1, h2, h3, h4, h5, h6, hargs⟩ := h c
  obtain ⟨a0, a1, a2, a3, a4, a5, a6⟩ := ha c
  refine ⟨h0.trans ?_, h1.trans ?_, h2.trans ?_, h3.trans ?_, h4.trans ?_, h5.trans ?_, h6.trans ?_, hargs⟩
  · exact (Cert.RGateIdeal.Read.val_main_v42_eq _ _ _ ).trans (Eq.trans (by rw [a0, a1, a4]) (final_8 m c).symm)
  · exact (Cert.RGateIdeal.Read.val_main_v43_eq _ _ _ ).trans (Eq.trans (by rw [a0, a1, a4]) (final_9 m c).symm)
  · exact (Cert.RGateIdeal.Read.val_main_v44_eq _ _ _ _ ).trans (Eq.trans (by rw [a0, a1, a2, a4]) (final_10 m c).symm)
  · exact (Cert.RGateIdeal.Read.val_main_v45_eq _ _ _ _ ).trans (Eq.trans (by rw [a0, a1, a3, a4]) (final_11 m c).symm)
  · exact (Cert.RGateIdeal.Read.val_main_v38_eq _ _ _ _ ).trans (Eq.trans (by rw [a0, a1, a4, a5]) (final_12 m c).symm)
  · exact (Cert.RGateIdeal.Read.val_main_v47_eq _ _ _ _ ).trans (Eq.trans (by rw [a0, a1, a4, a5]) (final_13 m c).symm)
  · exact (Cert.RGateIdeal.Read.val_main_v41_eq _ _ _ _ ).trans (Eq.trans (by rw [a0, a1, a4, a6]) (final_14 m c).symm)

end Cert.Gate

end
-- ==== Proof.Mid.Reads.lean ====
/-
  Where the feed-forward block's middle backward call reads its arrays and writes its results: the rows and columns of each block.
-/
module

public import proofs.«01_k».proof.Proof.Gen.KMidIdeal.Value
public import Idealize.ShloMosaic.Lib.Pointwise

@[expose] public section

noncomputable section

namespace Cert.Mid

open Cert.KMidIdeal Cert.KMidIdeal.Gen Idealize.ShloMosaic Idealize.ShloMosaic.TcCoe Idealize.SL.Sem

variable {F : FTy → Type} [FloatOps F]
variable (m : (ℓ : Loc nD τ sig) → Buf (Elt F) ℓ)

theorem n_pts : cfg0.N = 22 := rfl

/-- The block of window 0 at point `t`, as block numbers. -/
theorem idx_0 : ∀ t : Fin cfg0.N, win0_0.index t = ![t.val % 11, 0] :=
  (by decide +kernel : ∀ t : Fin grid0.N, win0_0.index t = ![t.val % 11, 0])

/-- The block of window 1 at point `t`, as block numbers. -/
theorem idx_1 : ∀ t : Fin cfg0.N, win0_1.index t = ![t.val / 11, 0] :=
  (by decide +kernel : ∀ t : Fin grid0.N, win0_1.index t = ![t.val / 11, 0])

/-- The block of window 2 at point `t`, as block numbers. -/
theorem idx_2 : ∀ t : Fin cfg0.N, win0_2.index t = ![0, t.val % 11, t.val / 11] :=
  (by decide +kernel : ∀ t : Fin grid0.N, win0_2.index t = ![0, t.val % 11, t.val / 11])

/-- The block of window 3 at point `t`, as block numbers. -/
theorem idx_3 : ∀ t : Fin cfg0.N, win0_3.index t = ![0, t.val % 11, t.val / 11] :=
  (by decide +kernel : ∀ t : Fin grid0.N, win0_3.index t = ![0, t.val % 11, t.val / 11])

/-- Input window 0 reads its array at these coordinates. -/
theorem rd_0 (c : Dev nD) (t : Fin cfg0.N) (p : Fin 384) (q : Fin 1024) :
    iblk m c 0 t (ix2 p q : S384x1024.Idx) = m ((c : Thread nD τ).loc main_arg0) (ix2 ⟨384 * (t.val % 11) + p.val, by have := t.isLt; have := p.isLt; have := n_pts; omega⟩ q : S4224x1024.Idx) := by
  unfold iblk
  rw [View.read_apply]
  show m ((c : Thread nD τ).loc main_arg0) _ = _
  congr 1
  funext a
  apply Fin.ext
  show ((win0_0.rect t).emb _ a : Nat) = _
  rw [Pipeline.Window.rect_emb_val win0_0 t _ a rfl, idx_0 t]
  match a with
  | ⟨0, _⟩ => exact congrArg (· + p.val) (Nat.mul_comm _ _)
  | ⟨1, _⟩ => exact (congrArg (· + q.val) (Nat.zero_mul _)).trans (Nat.zero_add _)

/-- Input window 1 reads its array at these coordinates. -/
theorem rd_1 (c : Dev nD) (t : Fin cfg0.N) (p : Fin 1408) (q : Fin 1024) :
    iblk m c 1 t (ix2 p q : S1408x1024.Idx) = m ((c : Thread nD τ).loc main_arg1) (ix2 ⟨1408 * (t.val / 11) + p.val, by have := t.isLt; have := p.isLt; have := n_pts; omega⟩ q : S2816x1024.Idx) := by
  unfold iblk
  rw [View.read_apply]
  show m ((c : Thread nD τ).loc main_arg1) _ = _
  congr 1
  funext a
  apply Fin.ext
  show ((win0_1.rect t).emb _ a : Nat) = _
  rw [Pipeline.Window.rect_emb_val win0_1 t _ a rfl, idx_1 t]
  match a with
  | ⟨0, _⟩ => exact congrArg (· + p.val) (Nat.mul_comm _ _)
  | ⟨1, _⟩ => exact (congrArg (· + q.val) (Nat.zero_mul _)).trans (Nat.zero_add _)

/-- Input window 2 reads its array at these coordinates. -/
theorem rd_2 (c : Dev nD) (t : Fin cfg0.N) (p : Fin 2) (q : Fin 384) (r : Fin 1408) :
    iblk m c 2 t (ix3 p q r : S2x384x1408.Idx) = m ((c : Thread nD τ).loc main_arg2) (ix3 p ⟨384 * (t.val % 11) + q.val, by have := t.isLt; have := q.isLt; have := n_pts; omega⟩ ⟨1408 * (t.val / 11) + r.val, by have := t.isLt; have := r.isLt; have := n_pts; omega⟩ : S2x4224x2816.Idx) := by
  unfold iblk
  rw [View.read_apply]
  show m ((c : Thread nD τ).loc main_arg2) _ = _
  congr 1
  funext a
  apply Fin.ext
  show ((win0_2.rect t).emb _ a : Nat) = _
  rw [Pipeline.Window.rect_emb_val win0_2 t _ a rfl, idx_2 t]
  match a with
  | ⟨0, _⟩ => exact (congrArg (· + p.val) (Nat.zero_mul _)).trans (Nat.zero_add _)
  | ⟨1, _⟩ => exact congrArg (· + q.val) (Nat.mul_comm _ _)
  | ⟨2, _⟩ => exact congrArg (· + r.val) (Nat.mul_comm _ _)

/-- The block of output window 3 at point `t`, read off an array `G`. -/
theorem ow_3 (c : Dev nD) (t : Fin cfg0.N) (G : Vec F S2x4224x2816 .bf16) (p : Fin 2) (q : Fin 384) (r : Fin 1408) :
    ((cfg0.win 3).blk t).view.read (Elt F) G (ix3 p q r : S2x384x1408.Idx) = G (ix3 p ⟨384 * (t.val % 11) + q.val, by have := t.isLt; have := q.isLt; have := n_pts; omega⟩ ⟨1408 * (t.val / 11) + r.val, by have := t.isLt; have := r.isLt; have := n_pts; omega⟩ : S2x4224x2816.Idx) := by
  rw [View.read_apply]
  show G _ = _
  congr 1
  funext a
  apply Fin.ext
  show ((win0_3.rect t).emb _ a : Nat) = _
  rw [Pipeline.Window.rect_emb_val win0_3 t _ a rfl, idx_3 t]
  match a with
  | ⟨0, _⟩ => exact (congrArg (· + p.val) (Nat.zero_mul _)).trans (Nat.zero_add _)
  | ⟨1, _⟩ => exact congrArg (· + q.val) (Nat.mul_comm _ _)
  | ⟨2, _⟩ => exact congrArg (· + r.val) (Nat.mul_comm _ _)

/-- Every element of output window 3's array lies in a block that is written back. -/
theorem cover_3 (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0).val < 2 := (i 0).isLt
  have h1 : (i 1).val < 4224 := (i 1).isLt
  have h2 : (i 2).val < 2816 := (i 2).isLt
  obtain ⟨t, ht⟩ : ∃ t : Fin cfg0.N, t.val = (i 2).val / 1408 * 11 + (i 1).val / 384 := ⟨⟨(i 2).val / 1408 * 11 + (i 1).val / 384, by have := n_pts; omega⟩, rfl⟩
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 2 ≤ (i 0).val ∧ (i 0).val < win0_3.index t 0 * 2 + 2
    rw [idx_3]
    show 0 * 2 ≤ (i 0).val ∧ (i 0).val < 0 * 2 + 2
    omega
  | ⟨1, _⟩ =>
    show win0_3.index t 1 * 384 ≤ (i 1).val ∧ (i 1).val < win0_3.index t 1 * 384 + 384
    rw [idx_3]
    show (t.val % 11) * 384 ≤ (i 1).val ∧ (i 1).val < (t.val % 11) * 384 + 384
    omega
  | ⟨2, _⟩ =>
    show win0_3.index t 2 * 1408 ≤ (i 2).val ∧ (i 2).val < win0_3.index t 2 * 1408 + 1408
    rw [idx_3]
    show (t.val / 11) * 1408 ≤ (i 2).val ∧ (i 2).val < (t.val / 11) * 1408 + 1408
    omega

end Cert.Mid

end
-- ==== Proof.Real.lean ====
/-
  Finite extended reals: what the preconditions say of an element, and sums and products of finite elements.
-/
module

public import Idealize.ShloMosaic.PureOps.Ideal.Laws
public import Idealize.ShloMosaic.Lib.ReduceAll
public import Idealize.ShloMosaic.Lib.IdealHost
public import proofs.«01_k».proof.Proof.Sigmoid

@[expose] public section

noncomputable section

namespace Cert.Re

open Idealize.ShloMosaic

/-- An extended real that is a real number. -/
def Fin' (a : EReal) : Prop := ∃ r : ℝ, a = (r : EReal)

theorem bot_bf16 : Ideal.ofBits .bf16 0xFF80#16 = (⊥ : EReal) := by simp [Ideal.ofBits, Ideal.ieee]
theorem top_bf16 : Ideal.ofBits .bf16 0x7F80#16 = (⊤ : EReal) := by simp [Ideal.ofBits, Ideal.ieee]
theorem bot_f32 : Ideal.ofBits .f32 0xFF800000#32 = (⊥ : EReal) := by simp [Ideal.ofBits, Ideal.ieee]
theorem top_f32 : Ideal.ofBits .f32 0x7F800000#32 = (⊤ : EReal) := by simp [Ideal.ofBits, Ideal.ieee]

theorem fin_of_lt (a : EReal) (h1 : ⊥ < a) (h2 : a < ⊤) : Fin' a := by
  induction a with
  | bot => exact absurd h1 (lt_irrefl _)
  | top => exact absurd h2 (lt_irrefl _)
  | coe r => exact ⟨r, rfl⟩

/-- The precondition's test of one element: above minus infinity and below infinity. -/
theorem fin_of_cmp (a : EReal) (h : IntOp.andi (Ideal.cmp .ogt a ⊥) (Ideal.cmp .olt a ⊤) = 1#1) : Fin' a := by
  obtain ⟨h1, h2⟩ := IntOp.andi_eq_one.1 h
  refine fin_of_lt a ?_ ?_
  · by_contra hc; simp [Ideal.cmp, hc] at h1
  · by_contra hc; simp [Ideal.cmp, hc] at h2

theorem fin_mul {a b : EReal} (ha : Fin' a) (hb : Fin' b) : Fin' (a * b) := by
  obtain ⟨x, rfl⟩ := ha; obtain ⟨y, rfl⟩ := hb; exact ⟨x * y, (EReal.coe_mul x y).symm⟩

theorem fin_add {a b : EReal} (ha : Fin' a) (hb : Fin' b) : Fin' (a + b) := by
  obtain ⟨x, rfl⟩ := ha; obtain ⟨y, rfl⟩ := hb; exact ⟨x + y, (EReal.coe_add x y).symm⟩

theorem fin_sum {ι : Type} (s : Finset ι) (f : ι → EReal) (h : ∀ i ∈ s, Fin' (f i)) : Fin' (∑ i ∈ s, f i) := by
  classical
  induction s using Finset.induction_on with
  | empty => exact ⟨0, by simp⟩
  | insert a s ha ih =>
    rw [Finset.sum_insert ha]
    exact fin_add (h a (Finset.mem_insert_self _ _)) (ih fun i hi => h i (Finset.mem_insert_of_mem hi))

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The logistic function over the extended reals is finite. -/
theorem sig_coe (g : ℝ) : Ideal.div 1 (1 + Ideal.exp (-(g : EReal))) = ((1 / (1 + Real.exp (-g)) : ℝ) : EReal) := by
  have h0 : (1 + Real.exp (-g)) ≠ 0 := (Cert.Sig.sg_pos g).ne'
  rw [← EReal.coe_neg]
  show Ideal.div 1 (1 + ((Real.exp (-g) : ℝ) : EReal)) = _
  rw [← EReal.coe_one, ← EReal.coe_add, Ideal.div_coe h0, ← EReal.coe_mul, one_mul]

theorem sig_top : Ideal.div 1 (1 + Ideal.exp (-(⊤ : EReal))) = 1 := by
  rw [EReal.neg_top]
  show Ideal.div 1 (1 + 0) = 1
  rw [add_zero]
  have := Ideal.div_coe (one_ne_zero) 1
  rw [EReal.coe_one] at this
  rw [this]; norm_num

theorem sig_bot : Ideal.div 1 (1 + Ideal.exp (-(⊥ : EReal))) = 0 := by
  rw [EReal.neg_bot]
  show Ideal.div 1 (1 + ⊤) = 0
  have : (1 : EReal) + ⊤ = ⊤ := by rw [← EReal.coe_one, EReal.coe_add_top]
  rw [this]
  simp [Ideal.div]

/-- The gradient of `g * sig g` in its two spellings, at a finite cotangent. -/
theorem swish_grad (X g : EReal) (hX : Fin' X) :
    X * (Ideal.div 1 (1 + Ideal.exp (-g)) * (1 + g * (1 - Ideal.div 1 (1 + Ideal.exp (-g)))))
      = X * Ideal.div 1 (1 + Ideal.exp (-g)) + g * X * (Ideal.div 1 (1 + Ideal.exp (-g)) * (1 - Ideal.div 1 (1 + Ideal.exp (-g)))) := by
  obtain ⟨x, rfl⟩ := hX
  induction g with
  | bot => rw [sig_bot]; simp
  | top =>
    rw [sig_top]
    have : (1 : EReal) - 1 = 0 := by rw [← EReal.coe_one, ← EReal.coe_sub, sub_self, EReal.coe_zero]
    rw [this]; simp
  | coe g =>
    rw [sig_coe, ← EReal.coe_one]
    simp only [← EReal.coe_sub, ← EReal.coe_mul, ← EReal.coe_add]
    congr 1
    ring

end Cert.Re

end
-- ==== Proof.Mid.Values.lean ====
/-
  The array the feed-forward block's middle backward call leaves is the reference's gradient, at the extended reals.
-/
module

public import proofs.«01_k».proof.Proof.Mid.Reads
public import proofs.«01_k».proof.Proof.Gen.RMidIdeal.Read
public import proofs.«01_k».proof.Proof.Real
public import Idealize.ShloMosaic.Lib.Pipeline.ValueKit.Tiles

@[expose] public section

noncomputable section

namespace Cert.Mid

open Cert.KMidIdeal Cert.KMidIdeal.Gen Idealize.ShloMosaic Idealize.ShloMosaic.TcCoe Idealize.SL.Sem
open Cert.RMidIdeal.Read

/-- The product the block multiplies back through the down projection, halved. -/
def A (x0 : Vec Ideal S384x1024 .bf16) (x1 : Vec Ideal S1408x1024 .bf16) (r : Fin 384) (k : Fin 1408) : EReal :=
  ∑ x : Fin 1024, x0 (ix2 r x) * Ideal.ofBits .bf16 0x3F00#16 * x1 (ix2 k x)

/-- The block left in the gradient's first plane: the gate's. -/
theorem out_gate (x0 : Vec Ideal S384x1024 .bf16) (x1 : Vec Ideal S1408x1024 .bf16) (x2 : Vec Ideal S2x384x1408 .bf16) (r : Fin 384) (k : Fin 1408) :
    out0_3 x0 x1 x2 (ix3 0 r k) = A x0 x1 r k * x2 (ix3 1 r k) *
      (Ideal.div 1 (1 + Ideal.exp (-(x2 (ix3 0 r k)))) * (1 + x2 (ix3 0 r k) * (1 - Ideal.div 1 (1 + Ideal.exp (-(x2 (ix3 0 r k))))))) := by
  unfold out0_3
  refine View.canon_eq_of_allAt _ _ _ (cover0_3 _ _ _) ?_
  refine View.allAt_cons_unit _ _ _ _ _ ?_ (View.allAt_cons_unit _ _ _ _ _ ?_ (View.allAt_nil _ _))
  · intro x hx
    have h := hx 0
    have hb : ((ix3 (0 : Fin 2) r k : S2x384x1408.Idx) 0).val = 0 := rfl
    rw [hb] at h
    exact absurd h (by show ¬ (0 = 1 + _); omega)
  · intro x hx
    have h1 : x = ix3 0 r k := by
      funext a
      apply Fin.ext
      have := hx a
      match a with
      | ⟨0, _⟩ => exact (Nat.zero_add _).symm.trans this.symm
      | ⟨1, _⟩ => exact (Nat.zero_add _).symm.trans this.symm
      | ⟨2, _⟩ => exact (Nat.zero_add _).symm.trans this.symm
    subst h1
    unfold_payloads
    pointwise
    simp only [Cert.Sig.tanh_eq_div, A]

/-- The block left in the gradient's second plane: the value's. -/
theorem out_val (x0 : Vec Ideal S384x1024 .bf16) (x1 : Vec Ideal S1408x1024 .bf16) (x2 : Vec Ideal S2x384x1408 .bf16) (r : Fin 384) (k : Fin 1408) :
    out0_3 x0 x1 x2 (ix3 1 r k) = A x0 x1 r k * (x2 (ix3 0 r k) * Ideal.div 1 (1 + Ideal.exp (-(x2 (ix3 0 r k))))) := by
  unfold out0_3
  refine View.canon_eq_of_allAt _ _ _ (cover0_3 _ _ _) ?_
  refine View.allAt_cons_unit _ _ _ _ _ ?_ (View.allAt_cons_unit _ _ _ _ _ ?_ (View.allAt_nil _ _))
  · intro x hx
    have h1 : x = ix3 0 r k := by
      funext a
      apply Fin.ext
      have := hx a
      match a with
      | ⟨0, _⟩ => exact Nat.lt_one_iff.1 (x 0).isLt
      | ⟨1, _⟩ => exact (Nat.zero_add _).symm.trans this.symm
      | ⟨2, _⟩ => exact (Nat.zero_add _).symm.trans this.symm
    subst h1
    unfold_payloads
    pointwise
    simp only [Cert.Sig.tanh_eq_div, A]
  · intro x hx
    have h := hx 0
    have hb : ((ix3 (1 : Fin 2) r k : S2x384x1408.Idx) 0).val = 1 := rfl
    rw [hb] at h
    have h2 : (x 0).val < 1 := (x 0).isLt
    exact absurd h (by show ¬ (1 = 0 + (x 0).val); omega)

/-- The same product over the whole arrays, as the reference takes it. -/
def B (x0 : Vec Ideal S4224x1024 .bf16) (x1 : Vec Ideal S2816x1024 .bf16) (r : Fin 4224) (k : Fin 2816) : EReal :=
  ∑ x : Fin 1024, Ideal.ofBits .f32 0x3F000000#32 * x0 (ix2 r x) * x1 (ix2 k x)

theorem half_bf16 : Ideal.ofBits .bf16 0x3F00#16 = ((1 / 2 : ℝ) : EReal) := by
  simp [Ideal.ofBits, Ideal.ieee, -EReal.coe_mul]; norm_num

theorem B_fin (x0 : Vec Ideal S4224x1024 .bf16) (x1 : Vec Ideal S2816x1024 .bf16) (h0 : ∀ i, Cert.Re.Fin' (x0 i)) (h1 : ∀ i, Cert.Re.Fin' (x1 i))
    (r : Fin 4224) (k : Fin 2816) : Cert.Re.Fin' (B x0 x1 r k) := by
  refine Cert.Re.fin_sum _ _ fun x _ => Cert.Re.fin_mul (Cert.Re.fin_mul ?_ (h0 _)) (h1 _)
  rw [Cert.Sig.half]; exact ⟨_, rfl⟩

theorem ref_gate (x0 : Vec Ideal S4224x1024 .bf16) (x1 : Vec Ideal S2816x1024 .bf16) (x2 : Vec Ideal S2x4224x2816 .bf16) (r : Fin 4224) (k : Fin 2816) :
    val_main_v23 (F := Ideal) x0 x1 x2 (ix3 0 r k) = (B x0 x1 r k * x2 (ix3 1 r k)) * Ideal.div 1 (1 + Ideal.exp (-(x2 (ix3 0 r k))))
      + x2 (ix3 0 r k) * (B x0 x1 r k * x2 (ix3 1 r k)) * (Ideal.div 1 (1 + Ideal.exp (-(x2 (ix3 0 r k)))) * (1 - Ideal.div 1 (1 + Ideal.exp (-(x2 (ix3 0 r k)))))) := by
  pointwise [val_main_v0, val_main_v1, val_main_v2, val_main_v3, val_main_v4, val_main_call0_v0, val_main_call0_v1, val_main_call0_cst, val_main_call0_v2, val_main_call0_v3, val_main_call0_cst_0, val_main_call0_v4, val_main_v5_2, val_main_call0_cst_1, val_main_call0_v6, val_main_call0_v7, val_main_v5_1, val_main_v5_0, val_main_v6, val_main_v7, val_main_v8, val_main_cst, val_main_v9, val_main_v10, val_main_v11, val_main_cst_0, val_main_v12, val_main_v13, val_main_v14, val_main_v15, val_main_v16, val_main_call1_v0, val_main_call1_v1, val_main_call1_v2, val_main_v17, val_main_v18, val_main_cst_1, val_main_v19, val_main_v20, val_main_cst_2, val_main_v21, val_main_v22, val_main_v23]
  simp [B]

theorem ref_val (x0 : Vec Ideal S4224x1024 .bf16) (x1 : Vec Ideal S2816x1024 .bf16) (x2 : Vec Ideal S2x4224x2816 .bf16) (r : Fin 4224) (k : Fin 2816) :
    val_main_v23 (F := Ideal) x0 x1 x2 (ix3 1 r k) = x2 (ix3 0 r k) * Ideal.div 1 (1 + Ideal.exp (-(x2 (ix3 0 r k)))) * B x0 x1 r k := by
  pointwise [val_main_v0, val_main_v1, val_main_v2, val_main_v3, val_main_v4, val_main_call0_v0, val_main_call0_v1, val_main_call0_cst, val_main_call0_v2, val_main_call0_v3, val_main_call0_cst_0, val_main_call0_v4, val_main_v5_2, val_main_call0_cst_1, val_main_call0_v6, val_main_call0_v7, val_main_v5_1, val_main_v5_0, val_main_v6, val_main_v7, val_main_v8, val_main_cst, val_main_v9, val_main_v10, val_main_v11, val_main_cst_0, val_main_v12, val_main_v13, val_main_v14, val_main_v15, val_main_v16, val_main_call1_v0, val_main_call1_v1, val_main_call1_v2, val_main_v17, val_main_v18, val_main_cst_1, val_main_v19, val_main_v20, val_main_cst_2, val_main_v21, val_main_v22, val_main_v23]
  simp [B]

variable (m : (ℓ : Loc nD τ sig) → Buf (Elt Ideal) ℓ)

/-- What point `t` writes back is that block of the reference's gradient. -/
theorem flushed_3 (c : Dev nD) (h0 : ∀ i : S4224x1024.Idx, Cert.Re.Fin' (m ((c : Thread nD τ).loc main_arg0) i)) (h1 : ∀ i : S2816x1024.Idx, Cert.Re.Fin' (m ((c : Thread nD τ).loc main_arg1) i))
    (h2 : ∀ (r : Fin 4224) (k : Fin 2816), Cert.Re.Fin' (m ((c : Thread nD τ).loc main_arg2) (ix3 1 r k : S2x4224x2816.Idx))) (t : Fin cfg0.N) :
    (dats m 0 c).flushed 3 t = ((cfg0.win 3).blk t).view.read (Elt Ideal)
      (val_main_v23 (F := Ideal) (m ((c : Thread nD τ).loc main_arg0)) (m ((c : Thread nD τ).loc main_arg1)) (m ((c : Thread nD τ).loc main_arg2))) := by
  rw [Cert.KMidIdeal.Value.flushed3]
  funext y
  obtain ⟨e, p, q, rfl⟩ : ∃ (e : Fin 2) (p : Fin 384) (q : Fin 1408), y = ix3 e p q := ⟨y 0, y 1, y 2, eq_ix3 y⟩
  refine Eq.trans ?_ (ow_3 c t _ e p q).symm
  show out0_3 _ _ _ (ix3 e p q) = _
  have hA : A (iblk m c 0 t) (iblk m c 1 t) p q = B (m ((c : Thread nD τ).loc main_arg0)) (m ((c : Thread nD τ).loc main_arg1))
      ⟨384 * (t.val % 11) + p.val, by have := t.isLt; have := p.isLt; have := n_pts; omega⟩
      ⟨1408 * (t.val / 11) + q.val, by have := t.isLt; have := q.isLt; have := n_pts; omega⟩ := by
    unfold A B
    refine Finset.sum_congr rfl fun x _ => ?_
    rw [rd_0, rd_1, half_bf16, Cert.Sig.half]
    exact congrArg (· * _) (mul_comm _ _)
  match e with
  | ⟨0, _⟩ =>
    refine (out_gate _ _ _ p q).trans (Eq.trans ?_ (ref_gate _ _ _ _ _).symm)
    rw [hA, rd_2, rd_2]
    exact Cert.Re.swish_grad _ _ (Cert.Re.fin_mul (B_fin _ _ h0 h1 _ _) (h2 _ _))
  | ⟨1, _⟩ =>
    refine (out_val _ _ _ p q).trans (Eq.trans ?_ (ref_val _ _ _ _ _).symm)
    rw [hA, rd_2]
    exact mul_comm _ _

/-- The whole array. -/
theorem final_3 (c : Dev nD) (h0 : ∀ i : S4224x1024.Idx, Cert.Re.Fin' (m ((c : Thread nD τ).loc main_arg0) i)) (h1 : ∀ i : S2816x1024.Idx, Cert.Re.Fin' (m ((c : Thread nD τ).loc main_arg1) i))
    (h2 : ∀ (r : Fin 4224) (k : Fin 2816), Cert.Re.Fin' (m ((c : Thread nD τ).loc main_arg2) (ix3 1 r k : S2x4224x2816.Idx))) :
    (dats m 0 c).arrAt 3 cfg0.N = val_main_v23 (F := Ideal) (m ((c : Thread nD τ).loc main_arg0)) (m ((c : Thread nD τ).loc main_arg1)) (m ((c : Thread nD τ).loc main_arg2)) :=
  (dats m 0 c).arrAt_eq_of_cover 3 _ (fun t _ => flushed_3 m c h0 h1 h2 t) (cover_3 c)

end Cert.Mid

end
-- ==== Proof.Mid.Claim.lean ====
/-
  The feed-forward block's middle backward call and its reference end with equal results, where the arguments it
  multiplies are finite.
-/
module

public import proofs.«01_k».proof.Defs
public import proofs.«01_k».proof.Proof.Mid.Values

@[expose] public section

noncomputable section

namespace Cert.Mid

open Cert.KMidIdeal Cert.KMidIdeal.Gen Idealize.ShloMosaic Idealize.ShloMosaic.TcCoe Idealize.SL.Sem

/-- The precondition's side conditions. -/
theorem pre_facts : Cert.Pre_mid_finite.Facts := by
  constructor <;> decide

/-- The precondition read element by element. -/
theorem pre_fin [Cert.Pre_mid_finite.Facts] (x0 : Vec Ideal S4224x1024 .bf16) (x1 : Vec Ideal S2816x1024 .bf16) (x2 : Vec Ideal S2x4224x2816 .bf16)
    (h : Cert.Pre_mid_finite.fn (F := Ideal) x0 x1 x2 = fun _ => 1#1) :
    (∀ i, Cert.Re.Fin' (x0 i)) ∧ (∀ i, Cert.Re.Fin' (x1 i)) ∧ (∀ (r : Fin 4224) (k : Fin 2816), Cert.Re.Fin' (x2 (ix3 1 r k : S2x4224x2816.Idx))) := by
  have h' := congrFun h (fun a => a.elim0)
  dsimp only [Cert.Pre_mid_finite.fn, Cert.Pre_mid_finite.fn_part1] at h'
  obtain ⟨h12, h3⟩ := IntOp.andi_eq_one.1 h'
  obtain ⟨h1, h2⟩ := IntOp.andi_eq_one.1 h12
  haveI : Subsingleton Cert.Pre_mid_finite.S_.Idx := ⟨fun a b => funext fun i => i.elim0⟩
  refine ⟨fun i => ?_, fun i => ?_, fun r k => ?_⟩
  · have e := Host.reduce_andi_all _ _ _ _ _ h1 i
    revert e
    obtain ⟨p, q, rfl⟩ : ∃ (p : Fin 4224) (q : Fin 1024), i = ix2 p q := ⟨i 0, i 1, eq_ix2 i⟩
    pointwise
    rw [Cert.Re.bot_bf16, Cert.Re.top_bf16]
    exact Cert.Re.fin_of_cmp _
  · have e := Host.reduce_andi_all _ _ _ _ _ h2 i
    revert e
    obtain ⟨p, q, rfl⟩ : ∃ (p : Fin 2816) (q : Fin 1024), i = ix2 p q := ⟨i 0, i 1, eq_ix2 i⟩
    pointwise
    rw [Cert.Re.bot_bf16, Cert.Re.top_bf16]
    exact Cert.Re.fin_of_cmp _
  · have e := Host.reduce_andi_all _ _ _ _ _ h3 (ix2 r k)
    revert e
    pointwise
    rw [Cert.Re.bot_bf16, Cert.Re.top_bf16]
    exact Cert.Re.fin_of_cmp _

/-- The value claim of the middle backward call. -/
theorem algebraic [Cert.Pre_mid_finite.Facts] : Cert.algebraic_KMidIdeal_RMidIdeal_pre_mid_finite := by
  intro m g m' g' hp ha
  refine ⟨fun c => (dats m 0 c).arrAt 3 cfg0.N, Cert.KMidIdeal.Value.run_blocks m g, ?_⟩
  refine (θ_run _ _ _).mono (fun r h c => ?_) (Cert.RMidIdeal.Value.run m' g')
  obtain ⟨h0, hargs⟩ := h c
  obtain ⟨a0, a1, a2⟩ := ha c
  obtain ⟨f0, f1, f2⟩ := pre_fin _ _ _ (hp c)
  refine ⟨h0.trans ?_, hargs⟩
  exact (Cert.RMidIdeal.Read.val_main_v23_eq _ _ _).trans (Eq.trans (by rw [a0, a1, a2]) (final_3 m c f0 f1 f2).symm)

end Cert.Mid

end
-- ==== Proof.In.Reads.lean ====
/-
  Where the feed-forward block's last backward call reads its arrays and writes its results: the rows and columns of each block.
-/
module

public import proofs.«01_k».proof.Proof.Gen.KInIdeal.Value
public import Idealize.ShloMosaic.Lib.Pointwise

@[expose] public section

noncomputable section

namespace Cert.In

open Cert.KInIdeal Cert.KInIdeal.Gen Idealize.ShloMosaic Idealize.ShloMosaic.TcCoe Idealize.SL.Sem

variable {F : FTy → Type} [FloatOps F]
variable (m : (ℓ : Loc nD τ sig) → Buf (Elt F) ℓ)

theorem n_pts : cfg0.N = 11 := rfl

/-- The block of window 0 at point `t`, as block numbers. -/
theorem idx_0 : ∀ t : Fin cfg0.N, win0_0.index t = ![0, t.val, 0] :=
  (by decide +kernel : ∀ t : Fin grid0.N, win0_0.index t = ![0, t.val, 0])

/-- The block of window 1 at point `t`, as block numbers. -/
theorem idx_1 : ∀ t : Fin cfg0.N, win0_1.index t = ![0, 0] :=
  (by decide +kernel : ∀ t : Fin grid0.N, win0_1.index t = ![0, 0])

/-- The block of window 2 at point `t`, as block numbers. -/
theorem idx_2 : ∀ t : Fin cfg0.N, win0_2.index t = ![0, 1] :=
  (by decide +kernel : ∀ t : Fin grid0.N, win0_2.index t = ![0, 1])

/-- The block of window 3 at point `t`, as block numbers. -/
theorem idx_3 : ∀ t : Fin cfg0.N, win0_3.index t = ![t.val, 0] :=
  (by decide +kernel : ∀ t : Fin grid0.N, win0_3.index t = ![t.val, 0])

/-- The block of window 4 at point `t`, as block numbers. -/
theorem idx_4 : ∀ t : Fin cfg0.N, win0_4.index t = ![0, 0] :=
  (by decide +kernel : ∀ t : Fin grid0.N, win0_4.index t = ![0, 0])

/-- The block of window 5 at point `t`, as block numbers. -/
theorem idx_5 : ∀ t : Fin cfg0.N, win0_5.index t = ![t.val, 0] :=
  (by decide +kernel : ∀ t : Fin grid0.N, win0_5.index t = ![t.val, 0])

/-- The block of window 6 at point `t`, as block numbers. -/
theorem idx_6 : ∀ t : Fin cfg0.N, win0_6.index t = ![t.val, 0] :=
  (by decide +kernel : ∀ t : Fin grid0.N, win0_6.index t = ![t.val, 0])

/-- The block of window 7 at point `t`, as block numbers. -/
theorem idx_7 : ∀ t : Fin cfg0.N, win0_7.index t = ![t.val, 0] :=
  (by decide +kernel : ∀ t : Fin grid0.N, win0_7.index t = ![t.val, 0])

/-- The block of window 8 at point `t`, as block numbers. -/
theorem idx_8 : ∀ t : Fin cfg0.N, win0_8.index t = ![0, 0] :=
  (by decide +kernel : ∀ t : Fin grid0.N, win0_8.index t = ![0, 0])

/-- Input window 0 reads its array at these coordinates. -/
theorem rd_0 (c : Dev nD) (t : Fin cfg0.N) (p : Fin 2) (q : Fin 384) (r : Fin 2816) :
    iblk m c 0 t (ix3 p q r : S2x384x2816.Idx) = m ((c : Thread nD τ).loc main_arg0) (ix3 p ⟨384 * t.val + q.val, by have := t.isLt; have := q.isLt; have := n_pts; omega⟩ r : S2x4224x2816.Idx) := by
  unfold iblk
  rw [View.read_apply]
  show m ((c : Thread nD τ).loc main_arg0) _ = _
  congr 1
  funext a
  apply Fin.ext
  show ((win0_0.rect t).emb _ a : Nat) = _
  rw [Pipeline.Window.rect_emb_val win0_0 t _ a rfl, idx_0 t]
  match a with
  | ⟨0, _⟩ => exact (congrArg (· + p.val) (Nat.zero_mul _)).trans (Nat.zero_add _)
  | ⟨1, _⟩ => exact congrArg (· + q.val) (Nat.mul_comm _ _)
  | ⟨2, _⟩ => exact (congrArg (· + r.val) (Nat.zero_mul _)).trans (Nat.zero_add _)

/-- Input window 1 reads its array at these coordinates. -/
theorem rd_1 (c : Dev nD) (t : Fin cfg0.N) (p : Fin 1024) (q : Fin 2816) :
    iblk m c 1 t (ix2 p q : S1024x2816.Idx) = m ((c : Thread nD τ).loc main_arg1) (ix2 p ⟨q.val, by have := q.isLt; omega⟩ : S1024x5632.Idx) := by
  unfold iblk
  rw [View.read_apply]
  show m ((c : Thread nD τ).loc main_arg1) _ = _
  congr 1
  funext a
  apply Fin.ext
  show ((win0_1.rect t).emb _ a : Nat) = _
  rw [Pipeline.Window.rect_emb_val win0_1 t _ a rfl, idx_1 t]
  match a with
  | ⟨0, _⟩ => exact (congrArg (· + p.val) (Nat.zero_mul _)).trans (Nat.zero_add _)
  | ⟨1, _⟩ => exact (congrArg (· + q.val) (Nat.zero_mul _)).trans (Nat.zero_add _)

/-- Input window 2 reads its array at these coordinates. -/
theorem rd_2 (c : Dev nD) (t : Fin cfg0.N) (p : Fin 1024) (q : Fin 2816) :
    iblk m c 2 t (ix2 p q : S1024x2816.Idx) = m ((c : Thread nD τ).loc main_arg1) (ix2 p ⟨2816 + q.val, by have := q.isLt; omega⟩ : S1024x5632.Idx) := by
  unfold iblk
  rw [View.read_apply]
  show m ((c : Thread nD τ).loc main_arg1) _ = _
  congr 1
  funext a
  apply Fin.ext
  show ((win0_2.rect t).emb _ a : Nat) = _
  rw [Pipeline.Window.rect_emb_val win0_2 t _ a rfl, idx_2 t]
  match a with
  | ⟨0, _⟩ => exact (congrArg (· + p.val) (Nat.zero_mul _)).trans (Nat.zero_add _)
  | ⟨1, _⟩ => exact congrArg (· + q.val) (Nat.mul_comm _ _)

/-- Input window 3 reads its array at these coordinates. -/
theorem rd_3 (c : Dev nD) (t : Fin cfg0.N) (p : Fin 384) (q : Fin 1024) :
    iblk m c 3 t (ix2 p q : S384x1024.Idx) = m ((c : Thread nD τ).loc main_arg2) (ix2 ⟨384 * t.val + p.val, by have := t.isLt; have := p.isLt; have := n_pts; omega⟩ q : S4224x1024.Idx) := by
  unfold iblk
  rw [View.read_apply]
  show m ((c : Thread nD τ).loc main_arg2) _ = _
  congr 1
  funext a
  apply Fin.ext
  show ((win0_3.rect t).emb _ a : Nat) = _
  rw [Pipeline.Window.rect_emb_val win0_3 t _ a rfl, idx_3 t]
  match a with
  | ⟨0, _⟩ => exact congrArg (· + p.val) (Nat.mul_comm _ _)
  | ⟨1, _⟩ => exact (congrArg (· + q.val) (Nat.zero_mul _)).trans (Nat.zero_add _)

/-- Input window 4 reads its array at these coordinates. -/
theorem rd_4 (c : Dev nD) (t : Fin cfg0.N) (p : Fin 1) (q : Fin 1024) :
    iblk m c 4 t (ix2 p q : S1x1024.Idx) = m ((c : Thread nD τ).loc main_arg3) (ix2 p q : S1x1024.Idx) := by
  unfold iblk
  rw [View.read_apply]
  show m ((c : Thread nD τ).loc main_arg3) _ = _
  congr 1
  funext a
  apply Fin.ext
  show ((win0_4.rect t).emb _ a : Nat) = _
  rw [Pipeline.Window.rect_emb_val win0_4 t _ a rfl, idx_4 t]
  match a with
  | ⟨0, _⟩ => exact (congrArg (· + p.val) (Nat.zero_mul _)).trans (Nat.zero_add _)
  | ⟨1, _⟩ => exact (congrArg (· + q.val) (Nat.zero_mul _)).trans (Nat.zero_add _)

/-- Input window 5 reads its array at these coordinates. -/
theorem rd_5 (c : Dev nD) (t : Fin cfg0.N) (p : Fin 384) (q : Fin 1024) :
    iblk m c 5 t (ix2 p q : S384x1024.Idx) = m ((c : Thread nD τ).loc main_arg4) (ix2 ⟨384 * t.val + p.val, by have := t.isLt; have := p.isLt; have := n_pts; omega⟩ q : S4224x1024.Idx) := by
  unfold iblk
  rw [View.read_apply]
  show m ((c : Thread nD τ).loc main_arg4) _ = _
  congr 1
  funext a
  apply Fin.ext
  show ((win0_5.rect t).emb _ a : Nat) = _
  rw [Pipeline.Window.rect_emb_val win0_5 t _ a rfl, idx_5 t]
  match a with
  | ⟨0, _⟩ => exact congrArg (· + p.val) (Nat.mul_comm _ _)
  | ⟨1, _⟩ => exact (congrArg (· + q.val) (Nat.zero_mul _)).trans (Nat.zero_add _)

/-- The block of output window 6 at point `t`, read off an array `G`. -/
theorem ow_6 (c : Dev nD) (t : Fin cfg0.N) (G : Vec F S4224x1024 .f32) (p : Fin 384) (q : Fin 1024) :
    ((cfg0.win 6).blk t).view.read (Elt F) G (ix2 p q : S384x1024.Idx) = G (ix2 ⟨384 * t.val + p.val, by have := t.isLt; have := p.isLt; have := n_pts; omega⟩ q : S4224x1024.Idx) := by
  rw [View.read_apply]
  show G _ = _
  congr 1
  funext a
  apply Fin.ext
  show ((win0_6.rect t).emb _ a : Nat) = _
  rw [Pipeline.Window.rect_emb_val win0_6 t _ a rfl, idx_6 t]
  match a with
  | ⟨0, _⟩ => exact congrArg (· + p.val) (Nat.mul_comm _ _)
  | ⟨1, _⟩ => exact (congrArg (· + q.val) (Nat.zero_mul _)).trans (Nat.zero_add _)

/-- Every element of output window 6's array lies in a block that is written back. -/
theorem cover_6 (c : Dev nD) (i : ((cfg0.win 6).arr.view.loc (c.tc : Thread nD τ)).2.ty.Idx) :
    ∃ t : Fin cfg0.N, (cfg0.win 6).flush t = true ∧ i ∈ ((cfg0.win 6).blk t).view.set := by
  have h0 : (i 0).val < 4224 := (i 0).isLt
  have h1 : (i 1).val < 1024 := (i 1).isLt
  obtain ⟨t, ht⟩ : ∃ t : Fin cfg0.N, t.val = (i 0).val / 384 := ⟨⟨(i 0).val / 384, by have := n_pts; omega⟩, rfl⟩
  refine ⟨t, flush0_6 t, ?_⟩
  show i ∈ ((View.whole main_v0_0).slice (win0_6.rect t)).set
  rw [View.set_slice_whole, Rect.mem_set_unit]
  intro a
  match a with
  | ⟨0, _⟩ =>
    show win0_6.index t 0 * 384 ≤ (i 0).val ∧ (i 0).val < win0_6.index t 0 * 384 + 384
    rw [idx_6]
    show t.val * 384 ≤ (i 0).val ∧ (i 0).val < t.val * 384 + 384
    omega
  | ⟨1, _⟩ =>
    show win0_6.index t 1 * 1024 ≤ (i 1).val ∧ (i 1).val < win0_6.index t 1 * 1024 + 1024
    rw [idx_6]
    show 0 * 1024 ≤ (i 1).val ∧ (i 1).val < 0 * 1024 + 1024
    omega

/-- The block of output window 7 at point `t`, read off an array `G`. -/
theorem ow_7 (c : Dev nD) (t : Fin cfg0.N) (G : Vec F S4224x1024 .bf16) (p : Fin 384) (q : Fin 1024) :
    ((cfg0.win 7).blk t).view.read (Elt F) G (ix2 p q : S384x1024.Idx) = G (ix2 ⟨384 * t.val + p.val, by have := t.isLt; have := p.isLt; have := n_pts; omega⟩ q : S4224x1024.Idx) := by
  rw [View.read_apply]
  show G _ = _
  congr 1
  funext a
  apply Fin.ext
  show ((win0_7.rect t).emb _ a : Nat) = _
  rw [Pipeline.Window.rect_emb_val win0_7 t _ a rfl, idx_7 t]
  match a with
  | ⟨0, _⟩ => exact congrArg (· + p.val) (Nat.mul_comm _ _)
  | ⟨1, _⟩ => exact (congrArg (· + q.val) (Nat.zero_mul _)).trans (Nat.zero_add _)

/-- Every element of output window 7's array lies in a block that is written back. -/
theorem cover_7 (c : Dev nD) (i : ((cfg0.win 7).arr.view.loc (c.tc : Thread nD τ)).2.ty.Idx) :
    ∃ t : Fin cfg0.N, (cfg0.win 7).flush t = true ∧ i ∈ ((cfg0.win 7).blk t).view.set := by
  have h0 : (i 0).val < 4224 := (i 0).isLt
  have h1 : (i 1).val < 1024 := (i 1).isLt
  obtain ⟨t, ht⟩ : ∃ t : Fin cfg0.N, t.val = (i 0).val / 384 := ⟨⟨(i 0).val / 384, by have := n_pts; omega⟩, rfl⟩
  refine ⟨t, flush0_7 t, ?_⟩
  show i ∈ ((View.whole main_v0_1).slice (win0_7.rect t)).set
  rw [View.set_slice_whole, Rect.mem_set_unit]
  intro a
  match a with
  | ⟨0, _⟩ =>
    show win0_7.index t 0 * 384 ≤ (i 0).val ∧ (i 0).val < win0_7.index t 0 * 384 + 384
    rw [idx_7]
    show t.val * 384 ≤ (i 0).val ∧ (i 0).val < t.val * 384 + 384
    omega
  | ⟨1, _⟩ =>
    show win0_7.index t 1 * 1024 ≤ (i 1).val ∧ (i 1).val < win0_7.index t 1 * 1024 + 1024
    rw [idx_7]
    show 0 * 1024 ≤ (i 1).val ∧ (i 1).val < 0 * 1024 + 1024
    omega

/-- The block of output window 8 at point `t`, read off an array `G`. -/
theorem ow_8 (c : Dev nD) (t : Fin cfg0.N) (G : Vec F S8x1024 .f32) (p : Fin 8) (q : Fin 1024) :
    ((cfg0.win 8).blk t).view.read (Elt F) G (ix2 p q : S8x1024.Idx) = G (ix2 p q : S8x1024.Idx) := by
  rw [View.read_apply]
  show G _ = _
  congr 1
  funext a
  apply Fin.ext
  show ((win0_8.rect t).emb _ a : Nat) = _
  rw [Pipeline.Window.rect_emb_val win0_8 t _ a rfl, idx_8 t]
  match a with
  | ⟨0, _⟩ => exact (congrArg (· + p.val) (Nat.zero_mul _)).trans (Nat.zero_add _)
  | ⟨1, _⟩ => exact (congrArg (· + q.val) (Nat.zero_mul _)).trans (Nat.zero_add _)

/-- Every element of output window 8's array lies in a block that is written back. -/
theorem cover_8 (c : Dev nD) (i : ((cfg0.win 8).arr.view.loc (c.tc : Thread nD τ)).2.ty.Idx) :
    ∃ t : Fin cfg0.N, (cfg0.win 8).flush t = true ∧ i ∈ ((cfg0.win 8).blk t).view.set := by
  have h0 : (i 0).val < 8 := (i 0).isLt
  have h1 : (i 1).val < 1024 := (i 1).isLt
  obtain ⟨t, ht⟩ : ∃ t : Fin cfg0.N, t.val = 10 := ⟨⟨10, by have := n_pts; omega⟩, rfl⟩
  refine ⟨t, (flush0_8 t).2 (by rw [ht]), ?_⟩
  show i ∈ ((View.whole main_v0_2).slice (win0_8.rect t)).set
  rw [View.set_slice_whole, Rect.mem_set_unit]
  intro a
  match a with
  | ⟨0, _⟩ =>
    show win0_8.index t 0 * 8 ≤ (i 0).val ∧ (i 0).val < win0_8.index t 0 * 8 + 8
    rw [idx_8]
    show 0 * 8 ≤ (i 0).val ∧ (i 0).val < 0 * 8 + 8
    omega
  | ⟨1, _⟩ =>
    show win0_8.index t 1 * 1024 ≤ (i 1).val ∧ (i 1).val < win0_8.index t 1 * 1024 + 1024
    rw [idx_8]
    show 0 * 1024 ≤ (i 1).val ∧ (i 1).val < 0 * 1024 + 1024
    omega

end Cert.In

end
-- ==== Proof.In.Blocks.lean ====
/-
  What each point of the feed-forward block's last backward call leaves in its output blocks, as the products it stores.
-/
module

public import proofs.«01_k».proof.Proof.Gen.KInIdeal.Value
public import Idealize.ShloMosaic.Lib.Pointwise
public import Idealize.ShloMosaic.Lib.Pipeline.ValueKit.Tiles
public import Idealize.ShloMosaic.Lib.WritesUnit
public import Idealize.ShloMosaic.Lib.VecWindow

@[expose] public section

noncomputable section

namespace Cert.In

open Cert.KInIdeal Cert.KInIdeal.Gen Idealize.ShloMosaic Idealize.ShloMosaic.TcCoe Idealize.SL.Sem

variable {F : FTy → Type} [FloatOps F]
variable (m : (ℓ : Loc nD τ sig) → Buf (Elt F) ℓ)

theorem zeros2 : (![0, 0] : Fin 2 → Nat) = fun _ => 0 := by
  funext a; fin_cases a <;> rfl

/-- The input gradient's block at point `t`. -/
abbrev dhBlk (c : Dev nD) (t : Fin cfg0.N) : Vec F S384x1024 .f32 :=
  k0_pay7 (View.ld (iblk m c 0 t) (Rect.unit ![0, 0, 0] ![1, 384, 2816] inb_S2x384x2816_S1x384x2816_0_0_0)) (iblk m c 1 t)
    (View.ld (iblk m c 0 t) (Rect.unit ![1, 0, 0] ![1, 384, 2816] inb_S2x384x2816_S1x384x2816_1_0_0)) (iblk m c 2 t) (iblk m c 3 t)
    (iblk m c 4 t) (iblk m c 5 t)

/-- The gain gradient's row after point `t`, over the row `v` it had. -/
abbrev dgRow (c : Dev nD) (t : Fin cfg0.N) (v : Vec F S1x1024 .f32) : Vec F S1x1024 .f32 :=
  k0_pay3 (k0_pay4 (View.ld (iblk m c 0 t) (Rect.unit ![0, 0, 0] ![1, 384, 2816] inb_S2x384x2816_S1x384x2816_0_0_0)) (iblk m c 1 t)
    (View.ld (iblk m c 0 t) (Rect.unit ![1, 0, 0] ![1, 384, 2816] inb_S2x384x2816_S1x384x2816_1_0_0)) (iblk m c 2 t))
    (k0_pay6 (iblk m c 3 t)) v

theorem outs_6 (c : Dev nD) (t : Fin cfg0.N) : (outsAt0 m c t.val t.isLt).1 = dhBlk m c t := by
  by_cases h0 : t.val % 11 = 0
  · rw [outsAt0_A m c t h0]
    unfold out0_A_6
    dsimp only
    rw [View.read_writes_eq_canon _ _ _ (cover0_A_6 c _ _ _ _ _ _ _ _ _ _ _ _ _ _ _ _ _ _ _ _ _ _ _ _ _ _ )]
    unfold kernelRun0_A
    dsimp only
    sl_unfold_words
    simp only [View.readAt_eq_ld, Memref.IsWhole.read_unread]
    rw [View.canon_unit_zero zeros2]
    simp only [View.ld_unit_zero (S := S1024x2816) zeros2, View.ld_unit_zero (S := S384x1024) zeros2, View.ld_unit_zero (S := S1x1024) zeros2]
    rfl
  · rw [outsAt0_B m c t h0]
    unfold out0_B_6
    dsimp only
    rw [View.read_writes_eq_canon _ _ _ (cover0_B_6 c _ _ _ _ _ _ _ _ _ _ _ _ _ _ _ _ _ _ _ _ _ _ _ _ _ _ _ )]
    unfold kernelRun0_B
    dsimp only
    sl_unfold_words
    simp only [View.readAt_eq_ld, Memref.IsWhole.read_unread]
    rw [View.canon_unit_zero zeros2]
    simp only [View.ld_unit_zero (S := S1024x2816) zeros2, View.ld_unit_zero (S := S384x1024) zeros2, View.ld_unit_zero (S := S1x1024) zeros2]
    rfl

theorem outs_7 (c : Dev nD) (t : Fin cfg0.N) : (outsAt0 m c t.val t.isLt).2.1 = k0_pay1 (dhBlk m c t) := by
  by_cases h0 : t.val % 11 = 0
  · rw [outsAt0_A m c t h0]
    unfold out0_A_7
    dsimp only
    rw [View.read_writes_eq_canon _ _ _ (cover0_A_7 c _ _ _ _ _ _ _ _ _ _ _ _ _ _ _ _ _ _ _ _ _ _ _ _ _ _ )]
    unfold kernelRun0_A
    dsimp only
    sl_unfold_words
    simp only [View.readAt_eq_ld, Memref.IsWhole.read_unread]
    rw [View.canon_unit_zero zeros2]
    simp only [View.ld_unit_zero (S := S1024x2816) zeros2, View.ld_unit_zero (S := S384x1024) zeros2, View.ld_unit_zero (S := S1x1024) zeros2]
    rfl
  · rw [outsAt0_B m c t h0]
    unfold out0_B_7
    dsimp only
    rw [View.read_writes_eq_canon _ _ _ (cover0_B_7 c _ _ _ _ _ _ _ _ _ _ _ _ _ _ _ _ _ _ _ _ _ _ _ _ _ _ _ )]
    unfold kernelRun0_B
    dsimp only
    sl_unfold_words
    simp only [View.readAt_eq_ld, Memref.IsWhole.read_unread]
    rw [View.canon_unit_zero zeros2]
    simp only [View.ld_unit_zero (S := S1024x2816) zeros2, View.ld_unit_zero (S := S384x1024) zeros2, View.ld_unit_zero (S := S1x1024) zeros2]
    rfl

section Rows

variable {sig' : RefSig} {κ : Kind} {sp : Space} (v : View sig' κ sp S8x1024 .f32)

/-- A store of row 0 over a store of the whole block, read back. -/
theorem row_over_block (f : v.ty.Contents (Elt F)) (w : Vec F S1x1024 .f32) (w0 : Vec F S8x1024 .f32) (r : Fin 8) (k : Fin 1024) :
    v.read (Elt F) (v.writes (Elt F) f [⟨Rect.unit ![0, 0] ![1, 1024] inb_S8x1024_S1x1024_0_0, w⟩, ⟨Rect.unit ![0, 0] ![8, 1024] inb_S8x1024_S8x1024_0_0, w0⟩]) (ix2 r k)
      = if r.val = 0 then w (ix2 0 k) else w0 (ix2 r k) := by
  split_ifs with hr
  · exact View.read_writes_cons_unit_of_mem v f inb_S8x1024_S1x1024_0_0 w _ (ix2 r k) (ix2 0 k : S1x1024.Idx) rfl (fun a => by
      match a with
      | ⟨0, _⟩ => exact hr
      | ⟨1, _⟩ => exact (Nat.zero_add _).symm)
  · refine (View.read_writes_cons_unit_of_not_mem v f inb_S8x1024_S1x1024_0_0 w _ (ix2 r k) rfl (0 : Fin 2) (Or.inr ?_)).trans ?_
    · show 0 + 1 ≤ r.val; omega
    · exact View.read_writes_cons_unit_of_mem v f inb_S8x1024_S8x1024_0_0 w0 _ (ix2 r k) (ix2 r k : S8x1024.Idx) rfl (fun a => by
        match a with
        | ⟨0, _⟩ => exact (Nat.zero_add _).symm
        | ⟨1, _⟩ => exact (Nat.zero_add _).symm)

/-- A store of row 0 alone, read back over what the block held. -/
theorem row_over_kept (f : v.ty.Contents (Elt F)) (w : Vec F S1x1024 .f32) (r : Fin 8) (k : Fin 1024) :
    v.read (Elt F) (v.writes (Elt F) f [⟨Rect.unit ![0, 0] ![1, 1024] inb_S8x1024_S1x1024_0_0, w⟩]) (ix2 r k)
      = if r.val = 0 then w (ix2 0 k) else v.read (Elt F) f (ix2 r k) := by
  split_ifs with hr
  · exact View.read_writes_cons_unit_of_mem v f inb_S8x1024_S1x1024_0_0 w _ (ix2 r k) (ix2 0 k : S1x1024.Idx) rfl (fun a => by
      match a with
      | ⟨0, _⟩ => exact hr
      | ⟨1, _⟩ => exact (Nat.zero_add _).symm)
  · refine (View.read_writes_cons_unit_of_not_mem v f inb_S8x1024_S1x1024_0_0 w _ (ix2 r k) rfl (0 : Fin 2) (Or.inr ?_)).trans ?_
    · show 0 + 1 ≤ r.val; omega
    · rfl

/-- Row 0 loaded from a block. -/
theorem ld_row (w : Vec F S8x1024 .f32) (k : Fin 1024) :
    (View.ld w (Rect.unit ![0, 0] ![1, 1024] inb_S8x1024_S1x1024_0_0) : Vec F S1x1024 .f32) (ix2 0 k) = w (ix2 0 k) := by
  show w _ = _
  refine congrArg w (funext fun a => Fin.ext ?_)
  match a with
  | ⟨0, _⟩ => rfl
  | ⟨1, _⟩ => show 0 + 1 * k.val = k.val; omega

/-- Row 0 loaded after a store of the whole block. -/
theorem readCov_row (w : Vec F S8x1024 .f32) (k : Fin 1024) :
    v.readCov (Val := Elt F) [⟨Rect.unit ![0, 0] ![8, 1024] inb_S8x1024_S8x1024_0_0, w⟩] (Rect.unit (s := S8x1024) ![0, 0] ![1, 1024] inb_S8x1024_S1x1024_0_0).toLoadRect (ix2 0 k : S1x1024.Idx)
      = w (ix2 0 k) := by
  unfold View.readCov
  rw [View.readAt_eq_ld]
  refine (ld_row _ k).trans ?_
  exact View.read_writes_cons_unit_of_mem v _ inb_S8x1024_S8x1024_0_0 w _ (ix2 0 k) (ix2 0 k : S8x1024.Idx) rfl (fun a => by
        match a with
        | ⟨0, _⟩ => exact (Nat.zero_add _).symm
        | ⟨1, _⟩ => exact (Nat.zero_add _).symm)

end Rows

/-- At the first point the row is over zeros and the other rows are zero. -/
theorem outs_8_first (c : Dev nD) (t : Fin cfg0.N) (h0 : t.val % 11 = 0) :
    ∃ v : Vec F S1x1024 .f32, (∀ k : Fin 1024, v (ix2 0 k) = k0_pay2 (ix2 0 k)) ∧ ∀ (r : Fin 8) (k : Fin 1024),
    (outsAt0 m c t.val t.isLt).2.2 (ix2 r k) = if r.val = 0 then dgRow m c t v (ix2 0 k) else k0_pay2 (ix2 r k) := by
  rw [outsAt0_A m c t h0]
  unfold out0_A_8
  dsimp only
  unfold kernelRun0_A
  dsimp only
  sl_unfold_words
  simp only [View.readAt_eq_ld, Memref.IsWhole.read_unread]
  simp only [View.ld_unit_zero (S := S1024x2816) zeros2, View.ld_unit_zero (S := S384x1024) zeros2, View.ld_unit_zero (S := S1x1024) zeros2]
  refine ⟨_, fun k => readCov_row (ms0_8 t).view k0_pay2 k, fun r k => ?_⟩
  exact row_over_block _ _ _ _ r k

/-- At a later point the row is over what the point before left, and the other rows stay. -/
theorem outs_8_next (c : Dev nD) (t : Fin cfg0.N) (h0 : ¬ t.val % 11 = 0) :
    ∃ v : Vec F S1x1024 .f32, (∀ k : Fin 1024, v (ix2 0 k) = (outsAt0 m c (t.val - 1) (Nat.lt_of_le_of_lt (Nat.sub_le _ _) t.isLt)).2.2 (ix2 0 k)) ∧
    ∀ (r : Fin 8) (k : Fin 1024), (outsAt0 m c t.val t.isLt).2.2 (ix2 r k) =
      if r.val = 0 then dgRow m c t v (ix2 0 k)
      else (outsAt0 m c (t.val - 1) (Nat.lt_of_le_of_lt (Nat.sub_le _ _) t.isLt)).2.2 (ix2 r k) := by
  rw [outsAt0_B m c t h0]
  generalize outsAt0 m c (t.val - 1) (Nat.lt_of_le_of_lt (Nat.sub_le _ _) t.isLt) = prev
  unfold out0_B_8
  dsimp only
  unfold kernelRun0_B
  dsimp only
  sl_unfold_words
  simp only [View.readAt_eq_ld, Memref.IsWhole.read_unread]
  simp only [View.ld_unit_zero (S := S1024x2816) zeros2, View.ld_unit_zero (S := S384x1024) zeros2, View.ld_unit_zero (S := S1x1024) zeros2]
  refine ⟨_, fun k => ld_row prev.2.2 k, fun r k => ?_⟩
  refine (row_over_kept _ _ _ r k).trans ?_
  rw [Memref.IsWhole.read_unread]
  rfl

end Cert.In

end
-- ==== Proof.Rms.lean ====
/-
  The gradient of a row's root-mean-square normalization, in the two spellings the backward calls and their references use.
-/
module

public import proofs.«01_k».proof.Proof.Real

@[expose] public section

noncomputable section

namespace Cert.Re

open Idealize.ShloMosaic

theorem eq_1024 : Ideal.ofBits .f32 0x44800000#32 = ((1024 : ℝ) : EReal) := by
  simp [Ideal.ofBits, Ideal.ieee]
  rw [← EReal.coe_mul]
  norm_num

theorem eq_neg_half : Ideal.ofBits .f32 0xBF000000#32 = ((-(1 / 2) : ℝ) : EReal) := by
  simp [Ideal.ofBits, Ideal.ieee]
  rw [← EReal.coe_mul]
  norm_num

theorem eps_pos : ∃ e : ℝ, 0 < e ∧ Ideal.ofBits .f32 0x358637BD#32 = (e : EReal) := by
  refine ⟨8796093 * (1 / 8796093022208), by norm_num, ?_⟩
  simp [Ideal.ofBits, Ideal.ieee]
  norm_num

theorem div_real (a b : ℝ) (hb : b ≠ 0) : Ideal.div (a : EReal) (b : EReal) = ((a / b : ℝ) : EReal) := by
  rw [Ideal.div_coe hb, ← EReal.coe_mul, mul_one_div]

theorem rsqrt_pos (a : ℝ) (ha : 0 < a) : Ideal.rsqrt (a : EReal) = (((Real.sqrt a)⁻¹ : ℝ) : EReal) := by
  rw [Ideal.rsqrt_coe, if_neg (not_lt.2 ha.le), if_neg ha.ne']

/-- The reciprocal root mean square of a row of 1024 finite elements is a real number whose square is the reciprocal of the mean square. -/
theorem rms_real (h : Fin 1024 → ℝ) :
    ∃ w R : ℝ, 0 < w ∧ R * R = 1 / w ∧
      Ideal.div (∑ x, (h x : EReal) * (h x : EReal)) (Ideal.ofBits .f32 0x44800000#32) + Ideal.ofBits .f32 0x358637BD#32 = (w : EReal) ∧
      Ideal.rsqrt (w : EReal) = (R : EReal) := by
  obtain ⟨e, he, hE⟩ := eps_pos
  have hw : 0 < (∑ x, h x * h x) / 1024 + e := by
    have : 0 ≤ ∑ x, h x * h x := Finset.sum_nonneg fun x _ => mul_self_nonneg _
    positivity
  refine ⟨(∑ x, h x * h x) / 1024 + e, (Real.sqrt ((∑ x, h x * h x) / 1024 + e))⁻¹, hw, ?_, ?_, rsqrt_pos _ hw⟩
  · rw [← mul_inv, Real.mul_self_sqrt hw.le, one_div]
  · simp only [← EReal.coe_mul]
    rw [coe_sum, eq_1024, div_real _ _ (by norm_num), hE, ← EReal.coe_add]

/-- The normalization's gradient with respect to its input, at finite rows: `d` the cotangent of the normalized row, `g` the gain. -/
theorem rms_grad (h g d : Fin 1024 → EReal) (hh : ∀ x, Fin' (h x)) (hg : ∀ x, Fin' (g x)) (hd : ∀ x, Fin' (d x)) (k : Fin 1024)
    (m z : EReal)
    (hm : m = Ideal.div (∑ x, h x * h x) (Ideal.ofBits .f32 0x44800000#32) + Ideal.ofBits .f32 0x358637BD#32)
    (hz : z = Ideal.div ((∑ x, h x * (d x * g x)) * (Ideal.ofBits .f32 0xBF000000#32 * Ideal.div (Ideal.rsqrt m) m)) (Ideal.ofBits .f32 0x44800000#32)) :
    Ideal.rsqrt m * (d k * g k - h k * Ideal.rsqrt m *
        Ideal.div (∑ x, d x * g x * (h x * Ideal.rsqrt m)) (Ideal.ofBits .f32 0x44800000#32))
      = d k * g k * Ideal.rsqrt m + h k * z + z * h k := by
  choose h' hh using hh
  choose g' hg using hg
  choose d' hd using hd
  obtain rfl : h = fun x => (h' x : EReal) := funext hh
  obtain rfl : g = fun x => (g' x : EReal) := funext hg
  obtain rfl : d = fun x => (d' x : EReal) := funext hd
  obtain ⟨w, R, hw, hR, e1, e2⟩ := rms_real h'
  dsimp only at hm hz ⊢
  rw [e1] at hm
  subst hm hz
  rw [e2, eq_1024, eq_neg_half, div_real _ _ hw.ne']
  simp only [← EReal.coe_mul]
  rw [coe_sum, coe_sum]
  simp only [← EReal.coe_mul]
  rw [div_real _ _ (by norm_num), div_real _ _ (by norm_num)]
  simp only [← EReal.coe_mul, ← EReal.coe_sub, ← EReal.coe_add]
  congr 1
  have hS : ∑ x, d' x * g' x * (h' x * R) = R * ∑ x, h' x * (d' x * g' x) := by
    rw [Finset.mul_sum]; exact Finset.sum_congr rfl fun x _ => by ring
  rw [hS]
  have hw' : R / w = R * (R * R) := by rw [hR]; ring
  rw [hw']
  ring

end Cert.Re

end
-- ==== Proof.In.Values.lean ====
/-
  The arrays the feed-forward block's last backward call leaves are the reference's gradients, at the extended reals.
-/
module

public import proofs.«01_k».proof.Proof.In.Reads
public import proofs.«01_k».proof.Proof.In.Blocks
public import proofs.«01_k».proof.Proof.Gen.RInIdeal.Read
public import proofs.«01_k».proof.Proof.Rms

@[expose] public section

noncomputable section

namespace Cert.In

open Cert.KInIdeal Cert.KInIdeal.Gen Idealize.ShloMosaic Idealize.ShloMosaic.TcCoe Idealize.SL.Sem
open Cert.RInIdeal.Read

variable (m : (ℓ : Loc nD τ sig) → Buf (Elt Ideal) ℓ)

/-- A sum over both halves of the inner dimension is the sum over each half. -/
theorem sum_halves (f : Fin 5632 → EReal) :
    ∑ x, f x = (∑ x : Fin 2816, f ⟨x.val, by have := x.isLt; omega⟩) + ∑ x : Fin 2816, f ⟨2816 + x.val, by have := x.isLt; omega⟩ :=
  Fin.sum_univ_add (M := EReal) (a := 2816) (b := 2816) f

/-- Row `r` of the rows of block `t`. -/
abbrev row (t : Fin cfg0.N) (p : Fin 384) : Fin 4224 := ⟨384 * t.val + p.val, by have := t.isLt; have := p.isLt; have := n_pts; omega⟩

/-- The cotangent of the normalized rows. -/
theorem v24_apply (x0 : Vec Ideal S2x4224x2816 .bf16) (x1 : Vec Ideal S1024x5632 .bf16) (r : Fin 4224) (k : Fin 1024) :
    val_main_v24 (F := Ideal) x0 x1 (ix2 r k) =
      (∑ x : Fin 2816, x0 (ix3 0 r x : S2x4224x2816.Idx) * x1 (ix2 k ⟨x.val, by have := x.isLt; omega⟩ : S1024x5632.Idx))
      + ∑ x : Fin 2816, x0 (ix3 1 r x : S2x4224x2816.Idx) * x1 (ix2 k ⟨2816 + x.val, by have := x.isLt; omega⟩ : S1024x5632.Idx) := by
  pointwise [val_main_v24, val_main_v22, val_main_v6, val_main_v5, val_main_v4, val_main_v3, val_main_v2, val_main_v1, val_main_v0]

/-- The block's cotangent is that block of the reference's. -/
theorem d_blk (c : Dev nD) (t : Fin cfg0.N) (p : Fin 384) (k : Fin 1024) :
    k0_pay4 (View.ld (iblk m c 0 t) (Rect.unit ![0, 0, 0] ![1, 384, 2816] inb_S2x384x2816_S1x384x2816_0_0_0)) (iblk m c 1 t)
    (View.ld (iblk m c 0 t) (Rect.unit ![1, 0, 0] ![1, 384, 2816] inb_S2x384x2816_S1x384x2816_1_0_0)) (iblk m c 2 t) (ix2 p k)
     = val_main_v24 (F := Ideal) (m ((c : Thread nD τ).loc main_arg0)) (m ((c : Thread nD τ).loc main_arg1)) (ix2 (row t p) k) := by
  rw [v24_apply]
  unfold_payloads
  pointwise
  simp only [rd_0, rd_1, rd_2]

/-- The mean square of a row, offset. -/
abbrev ms (h : Fin 1024 → EReal) : EReal :=
  Ideal.div (∑ x, h x * h x) (Ideal.ofBits .f32 0x44800000#32) + Ideal.ofBits .f32 0x358637BD#32

/-- The gradient of a normalized row, as the reference's transpose spells it. -/
abbrev back (h g d : Fin 1024 → EReal) : EReal :=
  Ideal.div ((∑ x, h x * (d x * g x)) * (Ideal.ofBits .f32 0xBF000000#32 * Ideal.div (Ideal.rsqrt (ms h)) (ms h))) (Ideal.ofBits .f32 0x44800000#32)

theorem dh_blk (v0 v2 v4 v6 v9 v10 v11) (p : Fin 384) (k : Fin 1024) :
    k0_pay7 (F := Ideal) v0 v2 v4 v6 v9 v10 v11 (ix2 p k) = v11 (ix2 p k) +
      Ideal.rsqrt (ms fun x => v9 (ix2 p x)) * (k0_pay4 v0 v2 v4 v6 (ix2 p k) * v10 (ix2 0 k) - v9 (ix2 p k) * Ideal.rsqrt (ms fun x => v9 (ix2 p x)) *
        Ideal.div (∑ x, k0_pay4 v0 v2 v4 v6 (ix2 p x) * v10 (ix2 0 x) * (v9 (ix2 p x) * Ideal.rsqrt (ms fun x => v9 (ix2 p x)))) (Ideal.ofBits .f32 0x44800000#32)) := by
  unfold k0_pay7
  generalize hd : k0_pay4 v0 v2 v4 v6 = d
  unfold_payloads
  pointwise

theorem dg_blk (d : Vec Ideal S384x1024 .f32) (v9 v41) (k : Fin 1024) :
    k0_pay3 (F := Ideal) d (k0_pay6 v9) v41 (ix2 0 k) = v41 (ix2 0 k) +
      ∑ p, d (ix2 p k) * (v9 (ix2 p k) * Ideal.rsqrt (ms fun x => v9 (ix2 p x))) := by
  unfold_payloads
  pointwise

theorem ref_dh (x0 x1 x2 x3 x4) (p : Fin 4224) (k : Fin 1024) :
    val_main_v44 (F := Ideal) x0 x1 x2 x3 x4 (ix2 p k) = x4 (ix2 p k) +
      (val_main_v24 x0 x1 (ix2 p k) * x3 (ix2 0 k) * Ideal.rsqrt (ms fun x => x2 (ix2 p x))
        + x2 (ix2 p k) * back (fun x => x2 (ix2 p x)) (fun x => x3 (ix2 0 x)) (fun x => val_main_v24 x0 x1 (ix2 p x))
        + back (fun x => x2 (ix2 p x)) (fun x => x3 (ix2 0 x)) (fun x => val_main_v24 x0 x1 (ix2 p x)) * x2 (ix2 p k)) := by
  unfold val_main_v44 val_main_v43 val_main_v42 val_main_v41 val_main_v40 val_main_v39 val_main_v38 val_main_v37 val_main_v35 val_main_v34 val_main_v32 val_main_v31 val_main_v30 val_main_v29
  generalize hd : val_main_v24 x0 x1 = d
  pointwise [val_main_v28, val_main_v33, val_main_v36, val_main_v17, val_main_v16, val_main_v15, val_main_v14, val_main_v13, val_main_v12, val_main_v11, val_main_v10, val_main_v9, val_main_v8, val_main_v7, val_main_cst, val_main_cst_0, val_main_cst_1, val_main_cst_2, val_main_cst_3, val_main_cst_4, val_main_cst_5, val_main_cst_6]
  simp only [Fin.sum_univ_one]

/-- One row's term of the gain's gradient. -/
abbrev term (x0 : Vec Ideal S2x4224x2816 .bf16) (x1 : Vec Ideal S1024x5632 .bf16) (x2 : Vec Ideal S4224x1024 .f32) (k : Fin 1024) (r : Fin 4224) : EReal :=
  val_main_v24 (F := Ideal) x0 x1 (ix2 r k) * (x2 (ix2 r k) * Ideal.rsqrt (ms fun x => x2 (ix2 r x)))

theorem ref_dg (x0 x1 x2) (r : Fin 8) (k : Fin 1024) :
    val_main_v48 (F := Ideal) x0 x1 x2 (ix2 r k) = if r.val = 0 then ∑ p, term x0 x1 x2 k p else 0 := by
  unfold val_main_v48 val_main_v27 val_main_v26 val_main_v25
  simp only [term]
  generalize hd : val_main_v24 x0 x1 = d
  pointwise [val_main_v47, val_main_v19, val_main_v18, val_main_v14, val_main_v13, val_main_v12, val_main_v11, val_main_v10, val_main_v9, val_main_v8, val_main_v7, val_main_cst, val_main_cst_0, val_main_cst_1, val_main_cst_2, val_main_cst_3, val_main_cst_4, val_main_cst_5, val_main_cst_6, val_main_cst_7]
  by_cases hr : r.val = 0
  · rw [dif_pos (by omega), if_pos hr]
    exact Finset.sum_congr rfl fun x _ => EReal.mul_comm _ _
  · rw [dif_neg (by omega), if_neg hr]

theorem add_eq (a : EReal) {x y : EReal} (h : x = y) : a + x = a + y := by rw [h]

section Dh

variable (c : Dev nD)
  (f0 : ∀ i, Cert.Re.Fin' ((m ((c : Thread nD τ).loc main_arg0)) i)) (f1 : ∀ i, Cert.Re.Fin' ((m ((c : Thread nD τ).loc main_arg1)) i))
  (f2 : ∀ i, Cert.Re.Fin' ((m ((c : Thread nD τ).loc main_arg2)) i)) (f3 : ∀ i, Cert.Re.Fin' ((m ((c : Thread nD τ).loc main_arg3)) i))

include f0 f1 in
theorem d_fin (r : Fin 4224) (k : Fin 1024) :
    Cert.Re.Fin' (val_main_v24 (F := Ideal) (m ((c : Thread nD τ).loc main_arg0)) (m ((c : Thread nD τ).loc main_arg1)) (ix2 r k)) := by
  rw [v24_apply]
  exact Cert.Re.fin_add (Cert.Re.fin_sum _ _ fun x _ => Cert.Re.fin_mul (f0 _) (f1 _)) (Cert.Re.fin_sum _ _ fun x _ => Cert.Re.fin_mul (f0 _) (f1 _))

include f0 f1 f2 f3 in
/-- The block of the input's gradient is that block of the reference's. -/
theorem dh_eq (t : Fin cfg0.N) (p : Fin 384) (k : Fin 1024) :
    dhBlk m c t (ix2 p k) = val_main_v44 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (ix2 (row t p) k) := by
  refine (dh_blk _ _ _ _ _ _ _ p k).trans ?_
  rw [ref_dh]
  simp only [d_blk]
  simp only [rd_3, rd_4, rd_5]
  exact add_eq _ (Cert.Re.rms_grad (fun x => (m ((c : Thread nD τ).loc main_arg2)) (ix2 (row t p) x : S4224x1024.Idx))
    (fun x => (m ((c : Thread nD τ).loc main_arg3)) (ix2 0 x : S1x1024.Idx))
    (fun x => val_main_v24 (F := Ideal) (m ((c : Thread nD τ).loc main_arg0)) (m ((c : Thread nD τ).loc main_arg1)) (ix2 (row t p) x))
    (fun x => f2 _) (fun x => f3 _) (fun x => d_fin m c f0 f1 (row t p) x) k _ _ rfl rfl)

include f0 f1 f2 f3 in
theorem flushed_6 (t : Fin cfg0.N) :
    (dats m 0 c).flushed 6 t = ((cfg0.win 6).blk t).view.read (Elt Ideal)
      (val_main_v44 (F := Ideal) (m ((c : Thread nD τ).loc main_arg0)) (m ((c : Thread nD τ).loc main_arg1))
      (m ((c : Thread nD τ).loc main_arg2)) (m ((c : Thread nD τ).loc main_arg3)) (m ((c : Thread nD τ).loc main_arg4))) := by
  rw [Cert.KInIdeal.Value.flushed6, outs_6]
  funext y
  obtain ⟨p, q, rfl⟩ : ∃ (p : Fin 384) (q : Fin 1024), y = ix2 p q := ⟨y 0, y 1, eq_ix2 y⟩
  refine Eq.trans ?_ (ow_6 c t _ p q).symm
  exact dh_eq m c f0 f1 f2 f3 t p q

include f0 f1 f2 f3 in
/-- The whole gradient with respect to the input. -/
theorem final_6 :
    (dats m 0 c).arrAt 6 cfg0.N = val_main_v44 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) :=
  (dats m 0 c).arrAt_eq_of_cover 6 _ (fun t _ => flushed_6 m c f0 f1 f2 f3 t) (cover_6 c)

include f0 f1 f2 f3 in
theorem flushed_7 (t : Fin cfg0.N) :
    (dats m 0 c).flushed 7 t = ((cfg0.win 7).blk t).view.read (Elt Ideal)
      (val_main_v46 (F := Ideal) (m ((c : Thread nD τ).loc main_arg0)) (m ((c : Thread nD τ).loc main_arg1))
      (m ((c : Thread nD τ).loc main_arg2)) (m ((c : Thread nD τ).loc main_arg3)) (m ((c : Thread nD τ).loc main_arg4))) := by
  rw [Cert.KInIdeal.Value.flushed7, outs_7]
  funext y
  obtain ⟨p, q, rfl⟩ : ∃ (p : Fin 384) (q : Fin 1024), y = ix2 p q := ⟨y 0, y 1, eq_ix2 y⟩
  refine Eq.trans ?_ (ow_7 c t _ p q).symm
  exact dh_eq m c f0 f1 f2 f3 t p q

include f0 f1 f2 f3 in
/-- The same gradient in the narrower format. -/
theorem final_7 :
    (dats m 0 c).arrAt 7 cfg0.N = val_main_v46 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) :=
  (dats m 0 c).arrAt_eq_of_cover 7 _ (fun t _ => flushed_7 m c f0 f1 f2 f3 t) (cover_7 c)

end Dh

/-- The gain's gradient over the rows of block `n`. -/
def part (c : Dev nD) (k : Fin 1024) (n : ℕ) : EReal :=
  if h : n < 11 then ∑ p : Fin 384, term (m ((c : Thread nD τ).loc main_arg0)) (m ((c : Thread nD τ).loc main_arg1)) (m ((c : Thread nD τ).loc main_arg2)) k (row ⟨n, h⟩ p) else 0

theorem dgRow_apply (c : Dev nD) (t : Fin cfg0.N) (v : Vec Ideal S1x1024 .f32) (k : Fin 1024) :
    dgRow m c t v (ix2 0 k) = v (ix2 0 k) + part m c k t.val := by
  refine (dg_blk _ _ _ k).trans ?_
  unfold part
  rw [dif_pos (show t.val < 11 from t.isLt)]
  simp only [d_blk]
  simp only [rd_3]

theorem zero_row (r : Fin 8) (k : Fin 1024) : k0_pay2 (F := Ideal) (ix2 r k) = 0 := by
  unfold_payloads
  pointwise

/-- After point `n`: the first row holds the gain's gradient over the blocks so far, the others are zero. -/
theorem outs_8 (c : Dev nD) : ∀ (n : ℕ) (hn : n < cfg0.N) (r : Fin 8) (k : Fin 1024),
    (outsAt0 m c n hn).2.2 (ix2 r k) = if r.val = 0 then ∑ b ∈ Finset.range (n + 1), part m c k b else 0 := by
  intro n
  induction n with
  | zero =>
    intro hn r k
    obtain ⟨v, hv, ho⟩ := outs_8_first m c ⟨0, hn⟩ rfl
    refine (ho r k).trans ?_
    rw [dgRow_apply, hv, zero_row, zero_row, zero_add, Finset.sum_range_one]
  | succ n ih =>
    intro hn r k
    have hN : n + 1 < 11 := hn
    obtain ⟨v, hv, ho⟩ := outs_8_next m c ⟨n + 1, hn⟩ (by show ¬ (n + 1) % 11 = 0; omega)
    refine (ho r k).trans ?_
    rw [dgRow_apply, hv]
    have e0 := (ih (Nat.lt_of_succ_lt hn) 0 k).trans (if_pos rfl)
    have er := ih (Nat.lt_of_succ_lt hn) r k
    split_ifs with hr
    · rw [Finset.sum_range_succ]
      exact congrArg (· + part m c k (n + 1)) e0
    · rw [if_neg hr] at er
      exact er

/-- Sums over 11 blocks of 384 rows add up to the sum over all rows. -/
theorem rows_sum (f : Fin 4224 → EReal) (g : ℕ → EReal)
    (e : ∀ b : Fin 11, g b.val = ∑ p : Fin 384, f ⟨384 * b.val + p.val, by have := b.isLt; have := p.isLt; omega⟩) :
    ∑ b ∈ Finset.range 11, g b = ∑ r, f r := by
  rw [← Fin.sum_univ_eq_sum_range g 11]
  refine (Finset.sum_congr rfl fun b _ => e b).trans ?_
  rw [← Fintype.sum_prod_type' (fun (b : Fin 11) (p : Fin 384) => f ⟨384 * b.val + p.val, by have := b.isLt; have := p.isLt; omega⟩)]
  refine Fintype.sum_equiv (finProdFinEquiv (m := 11) (n := 384)) _ _ fun x => congrArg f (Fin.ext ?_)
  show 384 * x.1.val + x.2.val = x.2.val + 384 * x.1.val
  omega

/-- The blocks' parts add up to the sum over all rows. -/
theorem parts (c : Dev nD) (k : Fin 1024) :
    ∑ b ∈ Finset.range 11, part m c k b = ∑ r, term (m ((c : Thread nD τ).loc main_arg0)) (m ((c : Thread nD τ).loc main_arg1)) (m ((c : Thread nD τ).loc main_arg2)) k r :=
  rows_sum _ _ fun b => by
    unfold part
    exact dif_pos b.isLt

theorem flushed_8 (c : Dev nD) (t : Fin cfg0.N) (ht : (cfg0.win 8).flush t = true) :
    (dats m 0 c).flushed 8 t = ((cfg0.win 8).blk t).view.read (Elt Ideal)
      (val_main_v48 (F := Ideal) (m ((c : Thread nD τ).loc main_arg0)) (m ((c : Thread nD τ).loc main_arg1)) (m ((c : Thread nD τ).loc main_arg2))) := by
  rw [Cert.KInIdeal.Value.flushed8]
  funext y
  obtain ⟨p, q, rfl⟩ : ∃ (p : Fin 8) (q : Fin 1024), y = ix2 p q := ⟨y 0, y 1, eq_ix2 y⟩
  refine Eq.trans ?_ (ow_8 c t _ p q).symm
  have h10 : t.val = 10 := by have := (flush0_8 t).1 ht; have := t.isLt; have := n_pts; omega
  refine (outs_8 m c t.val t.isLt p q).trans ?_
  rw [ref_dg, h10, parts]

/-- The gain's gradient, in the first of eight rows. -/
theorem final_8 (c : Dev nD) :
    (dats m 0 c).arrAt 8 cfg0.N = val_main_v48 (F := Ideal) (m ((c : Thread nD τ).loc main_arg0)) (m ((c : Thread nD τ).loc main_arg1)) (m ((c : Thread nD τ).loc main_arg2)) :=
  (dats m 0 c).arrAt_eq_of_cover 8 _ (fun t ht => flushed_8 m c t ht) (cover_8 c)

end Cert.In

end
-- ==== Proof.In.Claim.lean ====
/-
  The feed-forward block's last backward call and its reference end with equal results, where the arguments are finite.
-/
module

public import proofs.«01_k».proof.Defs
public import proofs.«01_k».proof.Proof.In.Values

@[expose] public section

noncomputable section

namespace Cert.In

open Cert.KInIdeal Cert.KInIdeal.Gen Idealize.ShloMosaic Idealize.ShloMosaic.TcCoe Idealize.SL.Sem

/-- The precondition's side conditions. -/
theorem pre_facts : Cert.Pre_in_finite.Facts := by
  constructor <;> decide

/-- The precondition read element by element. -/
theorem pre_fin [Cert.Pre_in_finite.Facts] (x0 : Vec Ideal S2x4224x2816 .bf16) (x1 : Vec Ideal S1024x5632 .bf16) (x2 : Vec Ideal S4224x1024 .f32)
    (x3 : Vec Ideal S1x1024 .f32) (x4 : Vec Ideal S4224x1024 .f32)
    (h : Cert.Pre_in_finite.fn (F := Ideal) x0 x1 x2 x3 x4 = fun _ => 1#1) :
    (∀ i, Cert.Re.Fin' (x0 i)) ∧ (∀ i, Cert.Re.Fin' (x1 i)) ∧ (∀ i, Cert.Re.Fin' (x2 i)) ∧ (∀ i, Cert.Re.Fin' (x3 i)) := by
  have h' := congrFun h (fun a => a.elim0)
  dsimp only [Cert.Pre_in_finite.fn, Cert.Pre_in_finite.fn_part1] at h'
  obtain ⟨h123, h4⟩ := IntOp.andi_eq_one.1 h'
  obtain ⟨h12, h3⟩ := IntOp.andi_eq_one.1 h123
  obtain ⟨h1, h2⟩ := IntOp.andi_eq_one.1 h12
  haveI : Subsingleton Cert.Pre_in_finite.S_.Idx := ⟨fun a b => funext fun i => i.elim0⟩
  refine ⟨fun i => ?_, fun i => ?_, fun i => ?_, fun i => ?_⟩
  · have e := Host.reduce_andi_all _ _ _ _ _ h1 i
    revert e
    obtain ⟨p, q, r, rfl⟩ : ∃ (p : Fin 2) (q : Fin 4224) (r : Fin 2816), i = ix3 p q r := ⟨i 0, i 1, i 2, eq_ix3 i⟩
    pointwise
    rw [Cert.Re.bot_bf16, Cert.Re.top_bf16]
    exact Cert.Re.fin_of_cmp _
  · have e := Host.reduce_andi_all _ _ _ _ _ h2 i
    revert e
    obtain ⟨p, q, rfl⟩ : ∃ (p : Fin 1024) (q : Fin 5632), i = ix2 p q := ⟨i 0, i 1, eq_ix2 i⟩
    pointwise
    rw [Cert.Re.bot_bf16, Cert.Re.top_bf16]
    exact Cert.Re.fin_of_cmp _
  · have e := Host.reduce_andi_all _ _ _ _ _ h3 i
    revert e
    obtain ⟨p, q, rfl⟩ : ∃ (p : Fin 4224) (q : Fin 1024), i = ix2 p q := ⟨i 0, i 1, eq_ix2 i⟩
    pointwise
    rw [Cert.Re.bot_f32, Cert.Re.top_f32]
    exact Cert.Re.fin_of_cmp _
  · have e := Host.reduce_andi_all _ _ _ _ _ h4 i
    revert e
    obtain ⟨p, q, rfl⟩ : ∃ (p : Fin 1) (q : Fin 1024), i = ix2 p q := ⟨i 0, i 1, eq_ix2 i⟩
    pointwise
    rw [Cert.Re.bot_f32, Cert.Re.top_f32]
    exact Cert.Re.fin_of_cmp _

/-- The value claim of the last backward call. -/
theorem algebraic [Cert.Pre_in_finite.Facts] : Cert.algebraic_KInIdeal_RInIdeal_pre_in_finite := by
  intro m g m' g' hp ha
  refine ⟨fun c => (dats m 0 c).arrAt 6 cfg0.N, fun c => (dats m 0 c).arrAt 7 cfg0.N, fun c => (dats m 0 c).arrAt 8 cfg0.N,
    Cert.KInIdeal.Value.run_blocks m g, ?_⟩
  refine (θ_run _ _ _).mono (fun r h c => ?_) (Cert.RInIdeal.Value.run m' g')
  obtain ⟨h0, h1, h2, hargs⟩ := h c
  obtain ⟨a0, a1, a2, a3, a4⟩ := ha c
  obtain ⟨f0, f1, f2, f3⟩ := pre_fin _ _ _ _ _ (hp c)
  refine ⟨h0.trans ?_, h1.trans ?_, h2.trans ?_, hargs⟩
  · exact (Cert.RInIdeal.Read.val_main_v44_eq _ _).trans (Eq.trans (by rw [a0, a1, a2, a3, a4]) (final_6 m c f0 f1 f2 f3).symm)
  · exact (Cert.RInIdeal.Read.val_main_v46_eq _ _).trans (Eq.trans (by rw [a0, a1, a2, a3, a4]) (final_7 m c f0 f1 f2 f3).symm)
  · exact (Cert.RInIdeal.Read.val_main_v48_eq _ _ _).trans (Eq.trans (by rw [a0, a1, a2]) (final_8 m c).symm)

end Cert.In

end
-- ==== Proof.Tile.lean ====
/-
  A block of a whole array read at an index, and the arithmetic of a block's coordinates.
-/
module

public import Idealize.ShloMosaic.Lib.Pointwise
public import Idealize.ShloMosaic.Lib.Pipeline.ValueKit.Tiles
public import proofs.«01_k».proof.Proof.Sigmoid

@[expose] public section

noncomputable section

namespace Cert.Tile

open Idealize.ShloMosaic

/-- A rectangle of a whole array, read at `x`, is the array at the index that `x` is moved to. -/
theorem slice_read {sig : RefSig} {κ : Kind} {Val : EltTy → Type} {b : Ref sig κ} (r : Rect b.ty.shape) (G : b.ty.Contents Val) (x : r.shape.Idx) (y : b.ty.shape.Idx)
    (h : ∀ a, (r.emb x a : Nat) = y a) : ((View.whole b).slice r).read Val G x = G y := by
  rw [View.read_apply]
  show G _ = _
  congr 1
  funext a
  exact Fin.ext (h a)

theorem at_block (i b v : Nat) : i * b + v = b * i + v := by rw [Nat.mul_comm]
theorem at_zero (b v : Nat) : 0 * b + v = v := by rw [Nat.zero_mul, Nat.zero_add]
theorem at_one (i : Nat) : i * 1 + 0 = i := by omega

theorem zeros2 : (![0, 0] : Fin 2 → Nat) = fun _ => 0 := by
  funext a; fin_cases a <;> rfl

/-- An index of a plane one thick, from its two coordinates. -/
theorem plane_eq {M N : Nat} (x y : (⟨3, ![1, M, N]⟩ : Shape).Idx) (h0 : (y 0).val = 0) (h1 : (y 1).val = 0 + (x 1).val) (h2 : (y 2).val = 0 + (x 2).val) : x = y := by
  funext a
  apply Fin.ext
  match a with
  | ⟨0, _⟩ => exact (Nat.lt_one_iff.1 (x 0).isLt).trans h0.symm
  | ⟨1, _⟩ => exact (Nat.zero_add _).symm.trans h1.symm
  | ⟨2, _⟩ => exact (Nat.zero_add _).symm.trans h2.symm

/-- A half of a sum over the extended reals is the sum of the halves. -/
theorem half_sum {ι : Type} (s : Finset ι) (f : ι → EReal) :
    Ideal.ofBits .f32 0x3F000000#32 * ∑ i ∈ s, f i = ∑ i ∈ s, Ideal.ofBits .f32 0x3F000000#32 * f i := by
  classical
  rw [Cert.Sig.half]
  induction s using Finset.induction_on with
  | empty => simp
  | insert a s ha ih =>
    rw [Finset.sum_insert ha, Finset.sum_insert ha, ← ih]
    exact EReal.left_distrib_of_nonneg_of_ne_top (by exact_mod_cast (by norm_num : (0 : ℝ) ≤ 1 / 2)) (EReal.coe_ne_top _) _ _

/-- A product of a halved operand is half of the product with the operands exchanged. -/
theorem half_dot {ι : Type} (s : Finset ι) (a b : ι → EReal) :
    ∑ i ∈ s, Ideal.ofBits .f32 0x3F000000#32 * b i * a i = Ideal.ofBits .f32 0x3F000000#32 * ∑ i ∈ s, a i * b i := by
  rw [half_sum]
  exact Finset.sum_congr rfl fun i _ => by rw [mul_assoc, mul_comm (b i)]

/-- A product with the operands exchanged. -/
theorem dot_comm {ι : Type} (s : Finset ι) (a b : ι → EReal) : ∑ i ∈ s, b i * a i = ∑ i ∈ s, a i * b i :=
  Finset.sum_congr rfl fun i _ => mul_comm _ _

end Cert.Tile

end
-- ==== Proof.Dwo.Reads.lean ====
/-
  Where the weight-gradient product of the down projection reads its arrays and writes its results: the rows and columns of each block.
-/
module

public import proofs.«01_k».proof.Proof.Gen.KDwoIdeal.Value
public import proofs.«01_k».proof.Proof.Tile

@[expose] public section

noncomputable section

namespace Cert.Dwo

open Cert.KDwoIdeal Cert.KDwoIdeal.Gen Idealize.ShloMosaic Idealize.ShloMosaic.TcCoe Idealize.SL.Sem

variable {F : FTy → Type} [FloatOps F]
variable (m : (ℓ : Loc nD τ sig) → Buf (Elt F) ℓ)

theorem n_pts : cfg0.N = 11 := rfl

theorem idx_0 : ∀ t : Fin cfg0.N, win0_0.index t = ![t.val, 0] :=
  (by decide +kernel : ∀ t : Fin grid0.N, win0_0.index t = ![t.val, 0])

theorem idx_1 : ∀ t : Fin cfg0.N, win0_1.index t = ![0, 0] :=
  (by decide +kernel : ∀ t : Fin grid0.N, win0_1.index t = ![0, 0])

theorem idx_2 : ∀ t : Fin cfg0.N, win0_2.index t = ![t.val, 0] :=
  (by decide +kernel : ∀ t : Fin grid0.N, win0_2.index t = ![t.val, 0])

/-- Input window 0 reads its array at these coordinates. -/
theorem rd_0 (c : Dev nD) (t : Fin cfg0.N) (p : Fin 256) (q : Fin 4224) :
    iblk m c 0 t (ix2 p q : S256x4224.Idx) = m ((c : Thread nD τ).loc main_arg0) (ix2 ⟨256 * t.val + p.val, by have := t.isLt; have := p.isLt; have := n_pts; omega⟩ q : S2816x4224.Idx) := by
  refine Cert.Tile.slice_read (Val := Elt F) (b := main_arg0) (win0_0.rect t) _ _ _ fun a => ?_
  rw [Pipeline.Window.rect_emb_val win0_0 t _ a rfl, idx_0 t]
  match a with
  | ⟨0, _⟩ => exact Cert.Tile.at_block _ _ _
  | ⟨1, _⟩ => exact Cert.Tile.at_zero _ _

/-- Input window 1 reads its array at these coordinates. -/
theorem rd_1 (c : Dev nD) (t : Fin cfg0.N) (p : Fin 4224) (q : Fin 1024) :
    iblk m c 1 t (ix2 p q : S4224x1024.Idx) = m ((c : Thread nD τ).loc main_arg1) (ix2 p q : S4224x1024.Idx) := by
  refine Cert.Tile.slice_read (Val := Elt F) (b := main_arg1) (win0_1.rect t) _ _ _ fun a => ?_
  rw [Pipeline.Window.rect_emb_val win0_1 t _ a rfl, idx_1 t]
  match a with
  | ⟨0, _⟩ => exact Cert.Tile.at_zero _ _
  | ⟨1, _⟩ => exact Cert.Tile.at_zero _ _

/-- The block of output window 2 at point `t`, read off an array `G`. -/
theorem ow_2 (c : Dev nD) (t : Fin cfg0.N) (G : Vec F S2816x1024 .bf16) (p : Fin 256) (q : Fin 1024) :
    ((cfg0.win 2).blk t).view.read (Elt F) G (ix2 p q : S256x1024.Idx) = G (ix2 ⟨256 * t.val + p.val, by have := t.isLt; have := p.isLt; have := n_pts; omega⟩ q : S2816x1024.Idx) := by
  refine Cert.Tile.slice_read (Val := Elt F) (b := main_v0) (win0_2.rect t) _ _ _ fun a => ?_
  rw [Pipeline.Window.rect_emb_val win0_2 t _ a rfl, idx_2 t]
  match a with
  | ⟨0, _⟩ => exact Cert.Tile.at_block _ _ _
  | ⟨1, _⟩ => exact Cert.Tile.at_zero _ _

/-- Every element of output window 2's array lies in a block that is written back. -/
theorem cover_2 (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0).val < 2816 := (i 0).isLt
  have h1 : (i 1).val < 1024 := (i 1).isLt
  obtain ⟨t, ht⟩ : ∃ t : Fin cfg0.N, t.val = (i 0).val / 256 := ⟨⟨(i 0).val / 256, by have := n_pts; omega⟩, rfl⟩
  refine ⟨t, flush0_2 t, ?_⟩
  show i ∈ ((View.whole main_v0).slice (win0_2.rect t)).set
  rw [View.set_slice_whole, Rect.mem_set_unit]
  intro a
  show win0_2.index t a * S256x1024.size a ≤ _ ∧ _ < win0_2.index t a * S256x1024.size a + S256x1024.size a
  rw [idx_2]
  match a with
  | ⟨0, _⟩ => exact (by omega : t.val * 256 ≤ (i 0).val ∧ (i 0).val < t.val * 256 + 256)
  | ⟨1, _⟩ => exact (by omega : 0 * 1024 ≤ (i 1).val ∧ (i 1).val < 0 * 1024 + 1024)

end Cert.Dwo

end
-- ==== Proof.Dwo.Claim.lean ====
/-
  The weight gradient of the down projection, over the whole arrays.
-/
module

public import proofs.«01_k».proof.Defs
public import proofs.«01_k».proof.Proof.Dwo.Reads
public import proofs.«01_k».proof.Proof.Gen.RDwoIdeal.Read
public import proofs.«01_k».proof.Proof.Gen.RDwoIdeal.Run

@[expose] public section

noncomputable section

namespace Cert.Dwo

open Cert.KDwoIdeal Cert.KDwoIdeal.Gen Idealize.ShloMosaic Idealize.ShloMosaic.TcCoe Idealize.SL.Sem
open Cert.RDwoIdeal.Read

/-- The product of one block. -/
theorem out_2 (x0 : Vec Ideal S256x4224 .bf16) (x1 : Vec Ideal S4224x1024 .bf16) (p : Fin 256) (q : Fin 1024) :
    out0_2 x0 x1 (ix2 p q) = Ideal.ofBits .f32 0x3F000000#32 * ∑ k : Fin 4224, x0 (ix2 p k) * x1 (ix2 k q) := by
  unfold out0_2
  rw [View.canon_unit_zero Cert.Tile.zeros2]
  unfold_payloads
  pointwise

/-- The reference's product. -/
theorem ref_2 (x0 : Vec Ideal S2816x4224 .bf16) (x1 : Vec Ideal S4224x1024 .bf16) (p : Fin 2816) (q : Fin 1024) :
    val_main_v11 (F := Ideal) x0 x1 (ix2 p q) = Ideal.ofBits .f32 0x3F000000#32 * ∑ k : Fin 4224, x0 (ix2 p k) * x1 (ix2 k q) := by
  pointwise [val_main_cst, val_main_v0, val_main_v1, val_main_v2, val_main_v3, val_main_cst_0, val_main_v4, val_main_v5, val_main_v6, val_main_cst_1, val_main_v7, val_main_v8, val_main_v9, val_main_v10, val_main_v11]
  exact Cert.Tile.half_dot _ _ _

variable (m : (ℓ : Loc nD τ sig) → Buf (Elt Ideal) ℓ)

/-- What point `t` writes back is that block of the reference's product. -/
theorem flushed_2 (c : Dev nD) (t : Fin cfg0.N) :
    (dats m 0 c).flushed 2 t = ((cfg0.win 2).blk t).view.read (Elt Ideal)
      (val_main_v11 (F := Ideal) (m ((c : Thread nD τ).loc main_arg0)) (m ((c : Thread nD τ).loc main_arg1))) := by
  rw [Cert.KDwoIdeal.Value.flushed2]
  funext y
  obtain ⟨p, q, rfl⟩ : ∃ (p : Fin 256) (q : Fin 1024), y = ix2 p q := ⟨y 0, y 1, eq_ix2 y⟩
  refine Eq.trans ?_ (ow_2 c t _ p q).symm
  refine (out_2 _ _ p q).trans (Eq.trans ?_ (ref_2 _ _ _ _).symm)
  simp only [rd_0, rd_1]

/-- The value claim of this call. -/
theorem algebraic : Cert.algebraic_KDwoIdeal_RDwoIdeal := by
  intro m g m' g' _ ha
  refine ⟨fun c => (dats m 0 c).arrAt 2 cfg0.N, Cert.KDwoIdeal.Value.run_blocks m g, ?_⟩
  refine (θ_run _ _ _).mono (fun r h c => ?_) (Cert.RDwoIdeal.Value.run m' g')
  obtain ⟨h0, hargs⟩ := h c
  obtain ⟨a0, a1⟩ := ha c
  refine ⟨h0.trans ?_, hargs⟩
  exact (val_main_v11_eq _ _).trans (Eq.trans (by rw [a0, a1]) ((dats m 0 c).arrAt_eq_of_cover 2 _ (fun t _ => flushed_2 m c t) (cover_2 c)).symm)

end Cert.Dwo

end
-- ==== Proof.Dwi.Reads.lean ====
/-
  Where the weight-gradient product of the up projection reads its arrays and writes its results: the rows and columns of each block.
-/
module

public import proofs.«01_k».proof.Proof.Gen.KDwiIdeal.Value
public import proofs.«01_k».proof.Proof.Tile

@[expose] public section

noncomputable section

namespace Cert.Dwi

open Cert.KDwiIdeal Cert.KDwiIdeal.Gen Idealize.ShloMosaic Idealize.ShloMosaic.TcCoe Idealize.SL.Sem

variable {F : FTy → Type} [FloatOps F]
variable (m : (ℓ : Loc nD τ sig) → Buf (Elt F) ℓ)

theorem n_pts : cfg0.N = 22 := rfl

theorem idx_0 : ∀ t : Fin cfg0.N, win0_0.index t = ![0, 0] :=
  (by decide +kernel : ∀ t : Fin grid0.N, win0_0.index t = ![0, 0])

theorem idx_1 : ∀ t : Fin cfg0.N, win0_1.index t = ![t.val / 11, 0, t.val % 11] :=
  (by decide +kernel : ∀ t : Fin grid0.N, win0_1.index t = ![t.val / 11, 0, t.val % 11])

theorem idx_2 : ∀ t : Fin cfg0.N, win0_2.index t = ![0, t.val] :=
  (by decide +kernel : ∀ t : Fin grid0.N, win0_2.index t = ![0, t.val])

/-- Input window 0 reads its array at these coordinates. -/
theorem rd_0 (c : Dev nD) (t : Fin cfg0.N) (p : Fin 1024) (q : Fin 4224) :
    iblk m c 0 t (ix2 p q : S1024x4224.Idx) = m ((c : Thread nD τ).loc main_arg0) (ix2 p q : S1024x4224.Idx) := by
  refine Cert.Tile.slice_read (Val := Elt F) (b := main_arg0) (win0_0.rect t) _ _ _ fun a => ?_
  rw [Pipeline.Window.rect_emb_val win0_0 t _ a rfl, idx_0 t]
  match a with
  | ⟨0, _⟩ => exact Cert.Tile.at_zero _ _
  | ⟨1, _⟩ => exact Cert.Tile.at_zero _ _

/-- Input window 1 reads its array at these coordinates. -/
theorem rd_1 (c : Dev nD) (t : Fin cfg0.N) (p : Fin 1) (q : Fin 4224) (r : Fin 256) :
    iblk m c 1 t (ix3 p q r : S1x4224x256.Idx) = m ((c : Thread nD τ).loc main_arg1) (ix3 ⟨1 * (t.val / 11) + p.val, by have := t.isLt; have := p.isLt; have := n_pts; omega⟩ q ⟨256 * (t.val % 11) + r.val, by have := t.isLt; have := r.isLt; have := n_pts; omega⟩ : S2x4224x2816.Idx) := by
  refine Cert.Tile.slice_read (Val := Elt F) (b := main_arg1) (win0_1.rect t) _ _ _ fun a => ?_
  rw [Pipeline.Window.rect_emb_val win0_1 t _ a rfl, idx_1 t]
  match a with
  | ⟨0, _⟩ => exact Cert.Tile.at_block _ _ _
  | ⟨1, _⟩ => exact Cert.Tile.at_zero _ _
  | ⟨2, _⟩ => exact Cert.Tile.at_block _ _ _

/-- The block of output window 2 at point `t`, read off an array `G`. -/
theorem ow_2 (c : Dev nD) (t : Fin cfg0.N) (G : Vec F S1024x5632 .bf16) (p : Fin 1024) (q : Fin 256) :
    ((cfg0.win 2).blk t).view.read (Elt F) G (ix2 p q : S1024x256.Idx) = G (ix2 p ⟨256 * t.val + q.val, by have := t.isLt; have := q.isLt; have := n_pts; omega⟩ : S1024x5632.Idx) := by
  refine Cert.Tile.slice_read (Val := Elt F) (b := main_v0) (win0_2.rect t) _ _ _ fun a => ?_
  rw [Pipeline.Window.rect_emb_val win0_2 t _ a rfl, idx_2 t]
  match a with
  | ⟨0, _⟩ => exact Cert.Tile.at_zero _ _
  | ⟨1, _⟩ => exact Cert.Tile.at_block _ _ _

/-- Every element of output window 2's array lies in a block that is written back. -/
theorem cover_2 (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0).val < 1024 := (i 0).isLt
  have h1 : (i 1).val < 5632 := (i 1).isLt
  obtain ⟨t, ht⟩ : ∃ t : Fin cfg0.N, t.val = (i 1).val / 256 := ⟨⟨(i 1).val / 256, by have := n_pts; omega⟩, rfl⟩
  refine ⟨t, flush0_2 t, ?_⟩
  show i ∈ ((View.whole main_v0).slice (win0_2.rect t)).set
  rw [View.set_slice_whole, Rect.mem_set_unit]
  intro a
  show win0_2.index t a * S1024x256.size a ≤ _ ∧ _ < win0_2.index t a * S1024x256.size a + S1024x256.size a
  rw [idx_2]
  match a with
  | ⟨0, _⟩ => exact (by omega : 0 * 1024 ≤ (i 0).val ∧ (i 0).val < 0 * 1024 + 1024)
  | ⟨1, _⟩ => exact (by omega : t.val * 256 ≤ (i 1).val ∧ (i 1).val < t.val * 256 + 256)

end Cert.Dwi

end
-- ==== Proof.Dwi.Claim.lean ====
/-
  The weight gradient of the up projection, over the whole arrays.
-/
module

public import proofs.«01_k».proof.Defs
public import proofs.«01_k».proof.Proof.Dwi.Reads
public import proofs.«01_k».proof.Proof.Gen.RDwiIdeal.Read
public import proofs.«01_k».proof.Proof.Gen.RDwiIdeal.Run

@[expose] public section

noncomputable section

namespace Cert.Dwi

open Cert.KDwiIdeal Cert.KDwiIdeal.Gen Idealize.ShloMosaic Idealize.ShloMosaic.TcCoe Idealize.SL.Sem
open Cert.RDwiIdeal.Read

/-- The product of one block. -/
theorem out_2 (x0 : Vec Ideal S1024x4224 .bf16) (x1 : Vec Ideal S1x4224x256 .bf16) (p : Fin 1024) (q : Fin 256) :
    out0_2 x0 x1 (ix2 p q) = ∑ k : Fin 4224, x0 (ix2 p k) * x1 (ix3 0 k q) := by
  unfold out0_2
  rw [View.canon_unit_zero Cert.Tile.zeros2]
  unfold_payloads
  pointwise

/-- The reference's product. -/
theorem ref_2 (x0 : Vec Ideal S1024x4224 .bf16) (x1 : Vec Ideal S2x4224x2816 .bf16) (p : Fin 1024) (q : Fin 5632) :
    val_main_v16 (F := Ideal) x0 x1 (ix2 p q) = ∑ k : Fin 4224, x0 (ix2 p k) * (if h : q.val < 2816 then x1 (ix3 0 k ⟨q.val, h⟩) else x1 (ix3 1 k ⟨q.val - 2816, by omega⟩)) := by
  pointwise [val_main_v0, val_main_v1, val_main_v2, val_main_v3, val_main_v4, val_main_cst, val_main_v5, val_main_v6, val_main_v7, val_main_v8, val_main_cst_0, val_main_v9, val_main_v10, val_main_v11, val_main_cst_1, val_main_v12, val_main_v13, val_main_v14, val_main_v15, val_main_v16]
  exact Cert.Tile.dot_comm _ _ _

variable (m : (ℓ : Loc nD τ sig) → Buf (Elt Ideal) ℓ)

/-- What point `t` writes back is that block of the reference's product. -/
theorem flushed_2 (c : Dev nD) (t : Fin cfg0.N) :
    (dats m 0 c).flushed 2 t = ((cfg0.win 2).blk t).view.read (Elt Ideal)
      (val_main_v16 (F := Ideal) (m ((c : Thread nD τ).loc main_arg0)) (m ((c : Thread nD τ).loc main_arg1))) := by
  rw [Cert.KDwiIdeal.Value.flushed2]
  funext y
  obtain ⟨p, q, rfl⟩ : ∃ (p : Fin 1024) (q : Fin 256), y = ix2 p q := ⟨y 0, y 1, eq_ix2 y⟩
  refine Eq.trans ?_ (ow_2 c t _ p q).symm
  refine (out_2 _ _ p q).trans (Eq.trans ?_ (ref_2 _ _ _ _).symm)
  simp only [rd_0, rd_1]
  refine Finset.sum_congr rfl fun k _ => ?_
  have hq := q.isLt
  split_ifs with h
  · have e0 : (⟨1 * (t.val / 11) + (0 : Fin 1).val, by have := t.isLt; have := n_pts; omega⟩ : Fin 2) = 0 := Fin.ext (by show 1 * (t.val / 11) + 0 = 0; omega)
    have e1 : (⟨256 * (t.val % 11) + q.val, by omega⟩ : Fin 2816) = ⟨256 * t.val + q.val, h⟩ := Fin.ext (by show 256 * (t.val % 11) + q.val = 256 * t.val + q.val; omega)
    rw [e0, e1]
  · have ht : t.val < 22 := t.isLt
    have e0 : (⟨1 * (t.val / 11) + (0 : Fin 1).val, by have := n_pts; omega⟩ : Fin 2) = 1 := Fin.ext (by show 1 * (t.val / 11) + 0 = 1; omega)
    have e1 : (⟨256 * (t.val % 11) + q.val, by omega⟩ : Fin 2816) = ⟨256 * t.val + q.val - 2816, by omega⟩ := Fin.ext (by show 256 * (t.val % 11) + q.val = 256 * t.val + q.val - 2816; omega)
    rw [e0, e1]

/-- The value claim of this call. -/
theorem algebraic : Cert.algebraic_KDwiIdeal_RDwiIdeal := by
  intro m g m' g' _ ha
  refine ⟨fun c => (dats m 0 c).arrAt 2 cfg0.N, Cert.KDwiIdeal.Value.run_blocks m g, ?_⟩
  refine (θ_run _ _ _).mono (fun r h c => ?_) (Cert.RDwiIdeal.Value.run m' g')
  obtain ⟨h0, hargs⟩ := h c
  obtain ⟨a0, a1⟩ := ha c
  refine ⟨h0.trans ?_, hargs⟩
  exact (val_main_v16_eq _ _).trans (Eq.trans (by rw [a0, a1]) ((dats m 0 c).arrAt_eq_of_cover 2 _ (fun t _ => flushed_2 m c t) (cover_2 c)).symm)

end Cert.Dwi

end
-- ==== Proof.Dout.Reads.lean ====
/-
  Where the weight-gradient product of the output projection reads its arrays and writes its results: the rows and columns of each block.
-/
module

public import proofs.«01_k».proof.Proof.Gen.KDoutIdeal.Value
public import proofs.«01_k».proof.Proof.Tile

@[expose] public section

noncomputable section

namespace Cert.Dout

open Cert.KDoutIdeal Cert.KDoutIdeal.Gen Idealize.ShloMosaic Idealize.ShloMosaic.TcCoe Idealize.SL.Sem

variable {F : FTy → Type} [FloatOps F]
variable (m : (ℓ : Loc nD τ sig) → Buf (Elt F) ℓ)

theorem n_pts : cfg0.N = 4 := rfl

theorem idx_0 : ∀ t : Fin cfg0.N, win0_0.index t = ![t.val / 2, 0] :=
  (by decide +kernel : ∀ t : Fin grid0.N, win0_0.index t = ![t.val / 2, 0])

theorem idx_1 : ∀ t : Fin cfg0.N, win0_1.index t = ![0, t.val % 2] :=
  (by decide +kernel : ∀ t : Fin grid0.N, win0_1.index t = ![0, t.val % 2])

theorem idx_2 : ∀ t : Fin cfg0.N, win0_2.index t = ![t.val / 2, t.val % 2] :=
  (by decide +kernel : ∀ t : Fin grid0.N, win0_2.index t = ![t.val / 2, t.val % 2])

/-- Input window 0 reads its array at these coordinates. -/
theorem rd_0 (c : Dev nD) (t : Fin cfg0.N) (p : Fin 512) (q : Fin 4224) :
    iblk m c 0 t (ix2 p q : S512x4224.Idx) = m ((c : Thread nD τ).loc main_arg0) (ix2 ⟨512 * (t.val / 2) + p.val, by have := t.isLt; have := p.isLt; have := n_pts; omega⟩ q : S1024x4224.Idx) := by
  refine Cert.Tile.slice_read (Val := Elt F) (b := main_arg0) (win0_0.rect t) _ _ _ fun a => ?_
  rw [Pipeline.Window.rect_emb_val win0_0 t _ a rfl, idx_0 t]
  match a with
  | ⟨0, _⟩ => exact Cert.Tile.at_block _ _ _
  | ⟨1, _⟩ => exact Cert.Tile.at_zero _ _

/-- Input window 1 reads its array at these coordinates. -/
theorem rd_1 (c : Dev nD) (t : Fin cfg0.N) (p : Fin 4224) (q : Fin 512) :
    iblk m c 1 t (ix2 p q : S4224x512.Idx) = m ((c : Thread nD τ).loc main_arg1) (ix2 p ⟨512 * (t.val % 2) + q.val, by have := t.isLt; have := q.isLt; have := n_pts; omega⟩ : S4224x1024.Idx) := by
  refine Cert.Tile.slice_read (Val := Elt F) (b := main_arg1) (win0_1.rect t) _ _ _ fun a => ?_
  rw [Pipeline.Window.rect_emb_val win0_1 t _ a rfl, idx_1 t]
  match a with
  | ⟨0, _⟩ => exact Cert.Tile.at_zero _ _
  | ⟨1, _⟩ => exact Cert.Tile.at_block _ _ _

/-- The block of output window 2 at point `t`, read off an array `G`. -/
theorem ow_2 (c : Dev nD) (t : Fin cfg0.N) (G : Vec F S1024x1024 .bf16) (p : Fin 512) (q : Fin 512) :
    ((cfg0.win 2).blk t).view.read (Elt F) G (ix2 p q : S512x512.Idx) = G (ix2 ⟨512 * (t.val / 2) + p.val, by have := t.isLt; have := p.isLt; have := n_pts; omega⟩ ⟨512 * (t.val % 2) + q.val, by have := t.isLt; have := q.isLt; have := n_pts; omega⟩ : S1024x1024.Idx) := by
  refine Cert.Tile.slice_read (Val := Elt F) (b := main_v0) (win0_2.rect t) _ _ _ fun a => ?_
  rw [Pipeline.Window.rect_emb_val win0_2 t _ a rfl, idx_2 t]
  match a with
  | ⟨0, _⟩ => exact Cert.Tile.at_block _ _ _
  | ⟨1, _⟩ => exact Cert.Tile.at_block _ _ _

/-- Every element of output window 2's array lies in a block that is written back. -/
theorem cover_2 (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0).val < 1024 := (i 0).isLt
  have h1 : (i 1).val < 1024 := (i 1).isLt
  obtain ⟨t, ht⟩ : ∃ t : Fin cfg0.N, t.val = (i 0).val / 512 * 2 + (i 1).val / 512 := ⟨⟨(i 0).val / 512 * 2 + (i 1).val / 512, by have := n_pts; omega⟩, rfl⟩
  refine ⟨t, flush0_2 t, ?_⟩
  show i ∈ ((View.whole main_v0).slice (win0_2.rect t)).set
  rw [View.set_slice_whole, Rect.mem_set_unit]
  intro a
  show win0_2.index t a * S512x512.size a ≤ _ ∧ _ < win0_2.index t a * S512x512.size a + S512x512.size a
  rw [idx_2]
  match a with
  | ⟨0, _⟩ => exact (by omega : (t.val / 2) * 512 ≤ (i 0).val ∧ (i 0).val < (t.val / 2) * 512 + 512)
  | ⟨1, _⟩ => exact (by omega : (t.val % 2) * 512 ≤ (i 1).val ∧ (i 1).val < (t.val % 2) * 512 + 512)

end Cert.Dout

end
-- ==== Proof.Dout.Claim.lean ====
/-
  The weight gradient of the output projection, over the whole arrays.
-/
module

public import proofs.«01_k».proof.Defs
public import proofs.«01_k».proof.Proof.Dout.Reads
public import proofs.«01_k».proof.Proof.Gen.RDoutIdeal.Read
public import proofs.«01_k».proof.Proof.Gen.RDoutIdeal.Run

@[expose] public section

noncomputable section

namespace Cert.Dout

open Cert.KDoutIdeal Cert.KDoutIdeal.Gen Idealize.ShloMosaic Idealize.ShloMosaic.TcCoe Idealize.SL.Sem
open Cert.RDoutIdeal.Read

/-- The product of one block. -/
theorem out_2 (x0 : Vec Ideal S512x4224 .bf16) (x1 : Vec Ideal S4224x512 .bf16) (p : Fin 512) (q : Fin 512) :
    out0_2 x0 x1 (ix2 p q) = ∑ k : Fin 4224, x0 (ix2 p k) * x1 (ix2 k q) := by
  unfold out0_2
  rw [View.canon_unit_zero Cert.Tile.zeros2]
  unfold_payloads
  pointwise

/-- The reference's product. -/
theorem ref_2 (x0 : Vec Ideal S1024x4224 .bf16) (x1 : Vec Ideal S4224x1024 .bf16) (p : Fin 1024) (q : Fin 1024) :
    val_main_v11 (F := Ideal) x0 x1 (ix2 p q) = ∑ k : Fin 4224, x0 (ix2 p k) * x1 (ix2 k q) := by
  pointwise [val_main_cst, val_main_v0, val_main_v1, val_main_v2, val_main_v3, val_main_cst_0, val_main_v4, val_main_v5, val_main_v6, val_main_cst_1, val_main_v7, val_main_v8, val_main_v9, val_main_v10, val_main_v11]
  exact Cert.Tile.dot_comm _ _ _

variable (m : (ℓ : Loc nD τ sig) → Buf (Elt Ideal) ℓ)

/-- What point `t` writes back is that block of the reference's product. -/
theorem flushed_2 (c : Dev nD) (t : Fin cfg0.N) :
    (dats m 0 c).flushed 2 t = ((cfg0.win 2).blk t).view.read (Elt Ideal)
      (val_main_v11 (F := Ideal) (m ((c : Thread nD τ).loc main_arg0)) (m ((c : Thread nD τ).loc main_arg1))) := by
  rw [Cert.KDoutIdeal.Value.flushed2]
  funext y
  obtain ⟨p, q, rfl⟩ : ∃ (p : Fin 512) (q : Fin 512), y = ix2 p q := ⟨y 0, y 1, eq_ix2 y⟩
  refine Eq.trans ?_ (ow_2 c t _ p q).symm
  refine (out_2 _ _ p q).trans (Eq.trans ?_ (ref_2 _ _ _ _).symm)
  simp only [rd_0, rd_1]

/-- The value claim of this call. -/
theorem algebraic : Cert.algebraic_KDoutIdeal_RDoutIdeal := by
  intro m g m' g' _ ha
  refine ⟨fun c => (dats m 0 c).arrAt 2 cfg0.N, Cert.KDoutIdeal.Value.run_blocks m g, ?_⟩
  refine (θ_run _ _ _).mono (fun r h c => ?_) (Cert.RDoutIdeal.Value.run m' g')
  obtain ⟨h0, hargs⟩ := h c
  obtain ⟨a0, a1⟩ := ha c
  refine ⟨h0.trans ?_, hargs⟩
  exact (val_main_v11_eq _ _).trans (Eq.trans (by rw [a0, a1]) ((dats m 0 c).arrAt_eq_of_cover 2 _ (fun t _ => flushed_2 m c t) (cover_2 c)).symm)

end Cert.Dout

end
-- ==== Proof.Dbr.Reads.lean ====
/-
  Where the weight-gradient product of one attention branch reads its arrays and writes its results: the rows and columns of each block.
-/
module

public import proofs.«01_k».proof.Proof.Gen.KDbrIdeal.Value
public import proofs.«01_k».proof.Proof.Tile

@[expose] public section

noncomputable section

namespace Cert.Dbr

open Cert.KDbrIdeal Cert.KDbrIdeal.Gen Idealize.ShloMosaic Idealize.ShloMosaic.TcCoe Idealize.SL.Sem

variable {F : FTy → Type} [FloatOps F]
variable (m : (ℓ : Loc nD τ sig) → Buf (Elt F) ℓ)

theorem n_pts : cfg0.N = 2 := rfl

theorem idx_0 : ∀ t : Fin cfg0.N, win0_0.index t = ![0, 0] :=
  (by decide +kernel : ∀ t : Fin grid0.N, win0_0.index t = ![0, 0])

theorem idx_1 : ∀ t : Fin cfg0.N, win0_1.index t = ![0, t.val] :=
  (by decide +kernel : ∀ t : Fin grid0.N, win0_1.index t = ![0, t.val])

theorem idx_2 : ∀ t : Fin cfg0.N, win0_2.index t = ![0, t.val] :=
  (by decide +kernel : ∀ t : Fin grid0.N, win0_2.index t = ![0, t.val])

/-- Input window 0 reads its array at these coordinates. -/
theorem rd_0 (c : Dev nD) (t : Fin cfg0.N) (p : Fin 512) (q : Fin 4224) :
    iblk m c 0 t (ix2 p q : S512x4224.Idx) = m ((c : Thread nD τ).loc main_arg0) (ix2 p q : S512x4224.Idx) := by
  refine Cert.Tile.slice_read (Val := Elt F) (b := main_arg0) (win0_0.rect t) _ _ _ fun a => ?_
  rw [Pipeline.Window.rect_emb_val win0_0 t _ a rfl, idx_0 t]
  match a with
  | ⟨0, _⟩ => exact Cert.Tile.at_zero _ _
  | ⟨1, _⟩ => exact Cert.Tile.at_zero _ _

/-- Input window 1 reads its array at these coordinates. -/
theorem rd_1 (c : Dev nD) (t : Fin cfg0.N) (p : Fin 4224) (q : Fin 512) :
    iblk m c 1 t (ix2 p q : S4224x512.Idx) = m ((c : Thread nD τ).loc main_arg1) (ix2 p ⟨512 * t.val + q.val, by have := t.isLt; have := q.isLt; have := n_pts; omega⟩ : S4224x1024.Idx) := by
  refine Cert.Tile.slice_read (Val := Elt F) (b := main_arg1) (win0_1.rect t) _ _ _ fun a => ?_
  rw [Pipeline.Window.rect_emb_val win0_1 t _ a rfl, idx_1 t]
  match a with
  | ⟨0, _⟩ => exact Cert.Tile.at_zero _ _
  | ⟨1, _⟩ => exact Cert.Tile.at_block _ _ _

/-- The block of output window 2 at point `t`, read off an array `G`. -/
theorem ow_2 (c : Dev nD) (t : Fin cfg0.N) (G : Vec F S512x1024 .bf16) (p : Fin 512) (q : Fin 512) :
    ((cfg0.win 2).blk t).view.read (Elt F) G (ix2 p q : S512x512.Idx) = G (ix2 p ⟨512 * t.val + q.val, by have := t.isLt; have := q.isLt; have := n_pts; omega⟩ : S512x1024.Idx) := by
  refine Cert.Tile.slice_read (Val := Elt F) (b := main_v0) (win0_2.rect t) _ _ _ fun a => ?_
  rw [Pipeline.Window.rect_emb_val win0_2 t _ a rfl, idx_2 t]
  match a with
  | ⟨0, _⟩ => exact Cert.Tile.at_zero _ _
  | ⟨1, _⟩ => exact Cert.Tile.at_block _ _ _

/-- Every element of output window 2's array lies in a block that is written back. -/
theorem cover_2 (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0).val < 512 := (i 0).isLt
  have h1 : (i 1).val < 1024 := (i 1).isLt
  obtain ⟨t, ht⟩ : ∃ t : Fin cfg0.N, t.val = (i 1).val / 512 := ⟨⟨(i 1).val / 512, by have := n_pts; omega⟩, rfl⟩
  refine ⟨t, flush0_2 t, ?_⟩
  show i ∈ ((View.whole main_v0).slice (win0_2.rect t)).set
  rw [View.set_slice_whole, Rect.mem_set_unit]
  intro a
  show win0_2.index t a * S512x512.size a ≤ _ ∧ _ < win0_2.index t a * S512x512.size a + S512x512.size a
  rw [idx_2]
  match a with
  | ⟨0, _⟩ => exact (by omega : 0 * 512 ≤ (i 0).val ∧ (i 0).val < 0 * 512 + 512)
  | ⟨1, _⟩ => exact (by omega : t.val * 512 ≤ (i 1).val ∧ (i 1).val < t.val * 512 + 512)

end Cert.Dbr

end
-- ==== Proof.Dbr.Claim.lean ====
/-
  The weight gradient of one attention branch projection, over the whole arrays.
-/
module

public import proofs.«01_k».proof.Defs
public import proofs.«01_k».proof.Proof.Dbr.Reads
public import proofs.«01_k».proof.Proof.Gen.RDbrIdeal.Read
public import proofs.«01_k».proof.Proof.Gen.RDbrIdeal.Run

@[expose] public section

noncomputable section

namespace Cert.Dbr

open Cert.KDbrIdeal Cert.KDbrIdeal.Gen Idealize.ShloMosaic Idealize.ShloMosaic.TcCoe Idealize.SL.Sem
open Cert.RDbrIdeal.Read

/-- The product of one block. -/
theorem out_2 (x0 : Vec Ideal S512x4224 .bf16) (x1 : Vec Ideal S4224x512 .bf16) (p : Fin 512) (q : Fin 512) :
    out0_2 x0 x1 (ix2 p q) = ∑ k : Fin 4224, x0 (ix2 p k) * x1 (ix2 k q) := by
  unfold out0_2
  rw [View.canon_unit_zero Cert.Tile.zeros2]
  unfold_payloads
  pointwise

/-- The reference's product. -/
theorem ref_2 (x0 : Vec Ideal S512x4224 .bf16) (x1 : Vec Ideal S4224x1024 .bf16) (p : Fin 512) (q : Fin 1024) :
    val_main_v11 (F := Ideal) x0 x1 (ix2 p q) = ∑ k : Fin 4224, x0 (ix2 p k) * x1 (ix2 k q) := by
  pointwise [val_main_cst, val_main_v0, val_main_v1, val_main_v2, val_main_v3, val_main_cst_0, val_main_v4, val_main_v5, val_main_v6, val_main_cst_1, val_main_v7, val_main_v8, val_main_v9, val_main_v10, val_main_v11]
  exact Cert.Tile.dot_comm _ _ _

variable (m : (ℓ : Loc nD τ sig) → Buf (Elt Ideal) ℓ)

/-- What point `t` writes back is that block of the reference's product. -/
theorem flushed_2 (c : Dev nD) (t : Fin cfg0.N) :
    (dats m 0 c).flushed 2 t = ((cfg0.win 2).blk t).view.read (Elt Ideal)
      (val_main_v11 (F := Ideal) (m ((c : Thread nD τ).loc main_arg0)) (m ((c : Thread nD τ).loc main_arg1))) := by
  rw [Cert.KDbrIdeal.Value.flushed2]
  funext y
  obtain ⟨p, q, rfl⟩ : ∃ (p : Fin 512) (q : Fin 512), y = ix2 p q := ⟨y 0, y 1, eq_ix2 y⟩
  refine Eq.trans ?_ (ow_2 c t _ p q).symm
  refine (out_2 _ _ p q).trans (Eq.trans ?_ (ref_2 _ _ _ _).symm)
  simp only [rd_0, rd_1]

/-- The value claim of this call. -/
theorem algebraic : Cert.algebraic_KDbrIdeal_RDbrIdeal := by
  intro m g m' g' _ ha
  refine ⟨fun c => (dats m 0 c).arrAt 2 cfg0.N, Cert.KDbrIdeal.Value.run_blocks m g, ?_⟩
  refine (θ_run _ _ _).mono (fun r h c => ?_) (Cert.RDbrIdeal.Value.run m' g')
  obtain ⟨h0, hargs⟩ := h c
  obtain ⟨a0, a1⟩ := ha c
  refine ⟨h0.trans ?_, hargs⟩
  exact (val_main_v11_eq _ _).trans (Eq.trans (by rw [a0, a1]) ((dats m 0 c).arrAt_eq_of_cover 2 _ (fun t _ => flushed_2 m c t) (cover_2 c)).symm)

end Cert.Dbr

end
-- ==== Proof.Dmix.Reads.lean ====
/-
  Where the weight-gradient product of the mixing projection reads its arrays and writes its results: the rows and columns of each block.
-/
module

public import proofs.«01_k».proof.Proof.Gen.KDmixIdeal.Value
public import proofs.«01_k».proof.Proof.Tile

@[expose] public section

noncomputable section

namespace Cert.Dmix

open Cert.KDmixIdeal Cert.KDmixIdeal.Gen Idealize.ShloMosaic Idealize.ShloMosaic.TcCoe Idealize.SL.Sem

variable {F : FTy → Type} [FloatOps F]
variable (m : (ℓ : Loc nD τ sig) → Buf (Elt F) ℓ)

theorem n_pts : cfg0.N = 7 := rfl

theorem idx_0 : ∀ t : Fin cfg0.N, win0_0.index t = ![0, 0] :=
  (by decide +kernel : ∀ t : Fin grid0.N, win0_0.index t = ![0, 0])

theorem idx_1 : ∀ t : Fin cfg0.N, win0_1.index t = ![0, t.val] :=
  (by decide +kernel : ∀ t : Fin grid0.N, win0_1.index t = ![0, t.val])

theorem idx_2 : ∀ t : Fin cfg0.N, win0_2.index t = ![0, t.val] :=
  (by decide +kernel : ∀ t : Fin grid0.N, win0_2.index t = ![0, t.val])

/-- Input window 0 reads its array at these coordinates. -/
theorem rd_0 (c : Dev nD) (t : Fin cfg0.N) (p : Fin 1024) (q : Fin 4224) :
    iblk m c 0 t (ix2 p q : S1024x4224.Idx) = m ((c : Thread nD τ).loc main_arg0) (ix2 p q : S1024x4224.Idx) := by
  refine Cert.Tile.slice_read (Val := Elt F) (b := main_arg0) (win0_0.rect t) _ _ _ fun a => ?_
  rw [Pipeline.Window.rect_emb_val win0_0 t _ a rfl, idx_0 t]
  match a with
  | ⟨0, _⟩ => exact Cert.Tile.at_zero _ _
  | ⟨1, _⟩ => exact Cert.Tile.at_zero _ _

/-- Input window 1 reads its array at these coordinates. -/
theorem rd_1 (c : Dev nD) (t : Fin cfg0.N) (p : Fin 4224) (q : Fin 640) :
    iblk m c 1 t (ix2 p q : S4224x640.Idx) = m ((c : Thread nD τ).loc main_arg1) (ix2 p ⟨640 * t.val + q.val, by have := t.isLt; have := q.isLt; have := n_pts; omega⟩ : S4224x4480.Idx) := by
  refine Cert.Tile.slice_read (Val := Elt F) (b := main_arg1) (win0_1.rect t) _ _ _ fun a => ?_
  rw [Pipeline.Window.rect_emb_val win0_1 t _ a rfl, idx_1 t]
  match a with
  | ⟨0, _⟩ => exact Cert.Tile.at_zero _ _
  | ⟨1, _⟩ => exact Cert.Tile.at_block _ _ _

/-- The block of output window 2 at point `t`, read off an array `G`. -/
theorem ow_2 (c : Dev nD) (t : Fin cfg0.N) (G : Vec F S1024x4480 .bf16) (p : Fin 1024) (q : Fin 640) :
    ((cfg0.win 2).blk t).view.read (Elt F) G (ix2 p q : S1024x640.Idx) = G (ix2 p ⟨640 * t.val + q.val, by have := t.isLt; have := q.isLt; have := n_pts; omega⟩ : S1024x4480.Idx) := by
  refine Cert.Tile.slice_read (Val := Elt F) (b := main_v0) (win0_2.rect t) _ _ _ fun a => ?_
  rw [Pipeline.Window.rect_emb_val win0_2 t _ a rfl, idx_2 t]
  match a with
  | ⟨0, _⟩ => exact Cert.Tile.at_zero _ _
  | ⟨1, _⟩ => exact Cert.Tile.at_block _ _ _

/-- Every element of output window 2's array lies in a block that is written back. -/
theorem cover_2 (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0).val < 1024 := (i 0).isLt
  have h1 : (i 1).val < 4480 := (i 1).isLt
  obtain ⟨t, ht⟩ : ∃ t : Fin cfg0.N, t.val = (i 1).val / 640 := ⟨⟨(i 1).val / 640, by have := n_pts; omega⟩, rfl⟩
  refine ⟨t, flush0_2 t, ?_⟩
  show i ∈ ((View.whole main_v0).slice (win0_2.rect t)).set
  rw [View.set_slice_whole, Rect.mem_set_unit]
  intro a
  show win0_2.index t a * S1024x640.size a ≤ _ ∧ _ < win0_2.index t a * S1024x640.size a + S1024x640.size a
  rw [idx_2]
  match a with
  | ⟨0, _⟩ => exact (by omega : 0 * 1024 ≤ (i 0).val ∧ (i 0).val < 0 * 1024 + 1024)
  | ⟨1, _⟩ => exact (by omega : t.val * 640 ≤ (i 1).val ∧ (i 1).val < t.val * 640 + 640)

end Cert.Dmix

end
-- ==== Proof.Dmix.Claim.lean ====
/-
  The weight gradient of the mixing projection, over the whole arrays.
-/
module

public import proofs.«01_k».proof.Defs
public import proofs.«01_k».proof.Proof.Dmix.Reads
public import proofs.«01_k».proof.Proof.Gen.RDmixIdeal.Read
public import proofs.«01_k».proof.Proof.Gen.RDmixIdeal.Run

@[expose] public section

noncomputable section

namespace Cert.Dmix

open Cert.KDmixIdeal Cert.KDmixIdeal.Gen Idealize.ShloMosaic Idealize.ShloMosaic.TcCoe Idealize.SL.Sem
open Cert.RDmixIdeal.Read

/-- The product of one block. -/
theorem out_2 (x0 : Vec Ideal S1024x4224 .bf16) (x1 : Vec Ideal S4224x640 .bf16) (p : Fin 1024) (q : Fin 640) :
    out0_2 x0 x1 (ix2 p q) = ∑ k : Fin 4224, x0 (ix2 p k) * x1 (ix2 k q) := by
  unfold out0_2
  rw [View.canon_unit_zero Cert.Tile.zeros2]
  unfold_payloads
  pointwise

/-- The reference's product. -/
theorem ref_2 (x0 : Vec Ideal S1024x4224 .bf16) (x1 : Vec Ideal S4224x4480 .bf16) (p : Fin 1024) (q : Fin 4480) :
    val_main_v11 (F := Ideal) x0 x1 (ix2 p q) = ∑ k : Fin 4224, x0 (ix2 p k) * x1 (ix2 k q) := by
  pointwise [val_main_cst, val_main_v0, val_main_v1, val_main_v2, val_main_v3, val_main_cst_0, val_main_v4, val_main_v5, val_main_v6, val_main_cst_1, val_main_v7, val_main_v8, val_main_v9, val_main_v10, val_main_v11]
  exact Cert.Tile.dot_comm _ _ _

variable (m : (ℓ : Loc nD τ sig) → Buf (Elt Ideal) ℓ)

/-- What point `t` writes back is that block of the reference's product. -/
theorem flushed_2 (c : Dev nD) (t : Fin cfg0.N) :
    (dats m 0 c).flushed 2 t = ((cfg0.win 2).blk t).view.read (Elt Ideal)
      (val_main_v11 (F := Ideal) (m ((c : Thread nD τ).loc main_arg0)) (m ((c : Thread nD τ).loc main_arg1))) := by
  rw [Cert.KDmixIdeal.Value.flushed2]
  funext y
  obtain ⟨p, q, rfl⟩ : ∃ (p : Fin 1024) (q : Fin 640), y = ix2 p q := ⟨y 0, y 1, eq_ix2 y⟩
  refine Eq.trans ?_ (ow_2 c t _ p q).symm
  refine (out_2 _ _ p q).trans (Eq.trans ?_ (ref_2 _ _ _ _).symm)
  simp only [rd_0, rd_1]

/-- The value claim of this call. -/
theorem algebraic : Cert.algebraic_KDmixIdeal_RDmixIdeal := by
  intro m g m' g' _ ha
  refine ⟨fun c => (dats m 0 c).arrAt 2 cfg0.N, Cert.KDmixIdeal.Value.run_blocks m g, ?_⟩
  refine (θ_run _ _ _).mono (fun r h c => ?_) (Cert.RDmixIdeal.Value.run m' g')
  obtain ⟨h0, hargs⟩ := h c
  obtain ⟨a0, a1⟩ := ha c
  refine ⟨h0.trans ?_, hargs⟩
  exact (val_main_v11_eq _ _).trans (Eq.trans (by rw [a0, a1]) ((dats m 0 c).arrAt_eq_of_cover 2 _ (fun t _ => flushed_2 m c t) (cover_2 c)).symm)

end Cert.Dmix

end
-- ==== Proof.Nt.Reads.lean ====
/-
  Where the mixing projection's backward call reads its arrays and writes its results: the rows and columns of each block.
-/
module

public import proofs.«01_k».proof.Proof.Gen.KNtIdeal.Value
public import proofs.«01_k».proof.Proof.Tile

@[expose] public section

noncomputable section

namespace Cert.Nt

open Cert.KNtIdeal Cert.KNtIdeal.Gen Idealize.ShloMosaic Idealize.ShloMosaic.TcCoe Idealize.SL.Sem

variable {F : FTy → Type} [FloatOps F]
variable (m : (ℓ : Loc nD τ sig) → Buf (Elt F) ℓ)

theorem n_pts : cfg0.N = 11 := rfl

theorem idx_0 : ∀ t : Fin cfg0.N, win0_0.index t = ![t.val, 0] :=
  (by decide +kernel : ∀ t : Fin grid0.N, win0_0.index t = ![t.val, 0])

theorem idx_1 : ∀ t : Fin cfg0.N, win0_1.index t = ![0, 0] :=
  (by decide +kernel : ∀ t : Fin grid0.N, win0_1.index t = ![0, 0])

theorem idx_2 : ∀ t : Fin cfg0.N, win0_2.index t = ![t.val, 0] :=
  (by decide +kernel : ∀ t : Fin grid0.N, win0_2.index t = ![t.val, 0])

theorem idx_3 : ∀ t : Fin cfg0.N, win0_3.index t = ![0, 0] :=
  (by decide +kernel : ∀ t : Fin grid0.N, win0_3.index t = ![0, 0])

theorem idx_4 : ∀ t : Fin cfg0.N, win0_4.index t = ![t.val, 0] :=
  (by decide +kernel : ∀ t : Fin grid0.N, win0_4.index t = ![t.val, 0])

theorem idx_5 : ∀ t : Fin cfg0.N, win0_5.index t = ![t.val, 0] :=
  (by decide +kernel : ∀ t : Fin grid0.N, win0_5.index t = ![t.val, 0])

theorem idx_6 : ∀ t : Fin cfg0.N, win0_6.index t = ![t.val, 0] :=
  (by decide +kernel : ∀ t : Fin grid0.N, win0_6.index t = ![t.val, 0])

theorem idx_7 : ∀ t : Fin cfg0.N, win0_7.index t = ![0, 0] :=
  (by decide +kernel : ∀ t : Fin grid0.N, win0_7.index t = ![0, 0])

/-- Input window 0 reads its array at these coordinates. -/
theorem rd_0 (c : Dev nD) (t : Fin cfg0.N) (p : Fin 384) (q : Fin 4480) :
    iblk m c 0 t (ix2 p q : S384x4480.Idx) = m ((c : Thread nD τ).loc main_arg0) (ix2 ⟨384 * t.val + p.val, by have := t.isLt; have := p.isLt; have := n_pts; omega⟩ q : S4224x4480.Idx) := by
  refine Cert.Tile.slice_read (Val := Elt F) (b := main_arg0) (win0_0.rect t) _ _ _ fun a => ?_
  rw [Pipeline.Window.rect_emb_val win0_0 t _ a rfl, idx_0 t]
  match a with
  | ⟨0, _⟩ => exact Cert.Tile.at_block _ _ _
  | ⟨1, _⟩ => exact Cert.Tile.at_zero _ _

/-- Input window 1 reads its array at these coordinates. -/
theorem rd_1 (c : Dev nD) (t : Fin cfg0.N) (p : Fin 1024) (q : Fin 4480) :
    iblk m c 1 t (ix2 p q : S1024x4480.Idx) = m ((c : Thread nD τ).loc main_arg1) (ix2 p q : S1024x4480.Idx) := by
  refine Cert.Tile.slice_read (Val := Elt F) (b := main_arg1) (win0_1.rect t) _ _ _ fun a => ?_
  rw [Pipeline.Window.rect_emb_val win0_1 t _ a rfl, idx_1 t]
  match a with
  | ⟨0, _⟩ => exact Cert.Tile.at_zero _ _
  | ⟨1, _⟩ => exact Cert.Tile.at_zero _ _

/-- Input window 2 reads its array at these coordinates. -/
theorem rd_2 (c : Dev nD) (t : Fin cfg0.N) (p : Fin 384) (q : Fin 1024) :
    iblk m c 2 t (ix2 p q : S384x1024.Idx) = m ((c : Thread nD τ).loc main_arg2) (ix2 ⟨384 * t.val + p.val, by have := t.isLt; have := p.isLt; have := n_pts; omega⟩ q : S4224x1024.Idx) := by
  refine Cert.Tile.slice_read (Val := Elt F) (b := main_arg2) (win0_2.rect t) _ _ _ fun a => ?_
  rw [Pipeline.Window.rect_emb_val win0_2 t _ a rfl, idx_2 t]
  match a with
  | ⟨0, _⟩ => exact Cert.Tile.at_block _ _ _
  | ⟨1, _⟩ => exact Cert.Tile.at_zero _ _

/-- Input window 3 reads its array at these coordinates. -/
theorem rd_3 (c : Dev nD) (t : Fin cfg0.N) (p : Fin 1) (q : Fin 1024) :
    iblk m c 3 t (ix2 p q : S1x1024.Idx) = m ((c : Thread nD τ).loc main_arg3) (ix2 p q : S1x1024.Idx) := by
  refine Cert.Tile.slice_read (Val := Elt F) (b := main_arg3) (win0_3.rect t) _ _ _ fun a => ?_
  rw [Pipeline.Window.rect_emb_val win0_3 t _ a rfl, idx_3 t]
  match a with
  | ⟨0, _⟩ => exact Cert.Tile.at_zero _ _
  | ⟨1, _⟩ => exact Cert.Tile.at_zero _ _

/-- Input window 4 reads its array at these coordinates. -/
theorem rd_4 (c : Dev nD) (t : Fin cfg0.N) (p : Fin 384) (q : Fin 1024) :
    iblk m c 4 t (ix2 p q : S384x1024.Idx) = m ((c : Thread nD τ).loc main_arg4) (ix2 ⟨384 * t.val + p.val, by have := t.isLt; have := p.isLt; have := n_pts; omega⟩ q : S4224x1024.Idx) := by
  refine Cert.Tile.slice_read (Val := Elt F) (b := main_arg4) (win0_4.rect t) _ _ _ fun a => ?_
  rw [Pipeline.Window.rect_emb_val win0_4 t _ a rfl, idx_4 t]
  match a with
  | ⟨0, _⟩ => exact Cert.Tile.at_block _ _ _
  | ⟨1, _⟩ => exact Cert.Tile.at_zero _ _

/-- The block of output window 5 at point `t`, read off an array `G`. -/
theorem ow_5 (c : Dev nD) (t : Fin cfg0.N) (G : Vec F S4224x1024 .f32) (p : Fin 384) (q : Fin 1024) :
    ((cfg0.win 5).blk t).view.read (Elt F) G (ix2 p q : S384x1024.Idx) = G (ix2 ⟨384 * t.val + p.val, by have := t.isLt; have := p.isLt; have := n_pts; omega⟩ q : S4224x1024.Idx) := by
  refine Cert.Tile.slice_read (Val := Elt F) (b := main_v0_0) (win0_5.rect t) _ _ _ fun a => ?_
  rw [Pipeline.Window.rect_emb_val win0_5 t _ a rfl, idx_5 t]
  match a with
  | ⟨0, _⟩ => exact Cert.Tile.at_block _ _ _
  | ⟨1, _⟩ => exact Cert.Tile.at_zero _ _

/-- Every element of output window 5's array lies in a block that is written back. -/
theorem cover_5 (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0).val < 4224 := (i 0).isLt
  have h1 : (i 1).val < 1024 := (i 1).isLt
  obtain ⟨t, ht⟩ : ∃ t : Fin cfg0.N, t.val = (i 0).val / 384 := ⟨⟨(i 0).val / 384, by have := n_pts; omega⟩, rfl⟩
  refine ⟨t, flush0_5 t, ?_⟩
  show i ∈ ((View.whole main_v0_0).slice (win0_5.rect t)).set
  rw [View.set_slice_whole, Rect.mem_set_unit]
  intro a
  show win0_5.index t a * S384x1024.size a ≤ _ ∧ _ < win0_5.index t a * S384x1024.size a + S384x1024.size a
  rw [idx_5]
  match a with
  | ⟨0, _⟩ => exact (by omega : t.val * 384 ≤ (i 0).val ∧ (i 0).val < t.val * 384 + 384)
  | ⟨1, _⟩ => exact (by omega : 0 * 1024 ≤ (i 1).val ∧ (i 1).val < 0 * 1024 + 1024)

/-- The block of output window 6 at point `t`, read off an array `G`. -/
theorem ow_6 (c : Dev nD) (t : Fin cfg0.N) (G : Vec F S4224x1024 .bf16) (p : Fin 384) (q : Fin 1024) :
    ((cfg0.win 6).blk t).view.read (Elt F) G (ix2 p q : S384x1024.Idx) = G (ix2 ⟨384 * t.val + p.val, by have := t.isLt; have := p.isLt; have := n_pts; omega⟩ q : S4224x1024.Idx) := by
  refine Cert.Tile.slice_read (Val := Elt F) (b := main_v0_1) (win0_6.rect t) _ _ _ fun a => ?_
  rw [Pipeline.Window.rect_emb_val win0_6 t _ a rfl, idx_6 t]
  match a with
  | ⟨0, _⟩ => exact Cert.Tile.at_block _ _ _
  | ⟨1, _⟩ => exact Cert.Tile.at_zero _ _

/-- Every element of output window 6's array lies in a block that is written back. -/
theorem cover_6 (c : Dev nD) (i : ((cfg0.win 6).arr.view.loc (c.tc : Thread nD τ)).2.ty.Idx) :
    ∃ t : Fin cfg0.N, (cfg0.win 6).flush t = true ∧ i ∈ ((cfg0.win 6).blk t).view.set := by
  have h0 : (i 0).val < 4224 := (i 0).isLt
  have h1 : (i 1).val < 1024 := (i 1).isLt
  obtain ⟨t, ht⟩ : ∃ t : Fin cfg0.N, t.val = (i 0).val / 384 := ⟨⟨(i 0).val / 384, by have := n_pts; omega⟩, rfl⟩
  refine ⟨t, flush0_6 t, ?_⟩
  show i ∈ ((View.whole main_v0_1).slice (win0_6.rect t)).set
  rw [View.set_slice_whole, Rect.mem_set_unit]
  intro a
  show win0_6.index t a * S384x1024.size a ≤ _ ∧ _ < win0_6.index t a * S384x1024.size a + S384x1024.size a
  rw [idx_6]
  match a with
  | ⟨0, _⟩ => exact (by omega : t.val * 384 ≤ (i 0).val ∧ (i 0).val < t.val * 384 + 384)
  | ⟨1, _⟩ => exact (by omega : 0 * 1024 ≤ (i 1).val ∧ (i 1).val < 0 * 1024 + 1024)

/-- The block of output window 7 at point `t`, read off an array `G`. -/
theorem ow_7 (c : Dev nD) (t : Fin cfg0.N) (G : Vec F S8x1024 .f32) (p : Fin 8) (q : Fin 1024) :
    ((cfg0.win 7).blk t).view.read (Elt F) G (ix2 p q : S8x1024.Idx) = G (ix2 p q : S8x1024.Idx) := by
  refine Cert.Tile.slice_read (Val := Elt F) (b := main_v0_2) (win0_7.rect t) _ _ _ fun a => ?_
  rw [Pipeline.Window.rect_emb_val win0_7 t _ a rfl, idx_7 t]
  match a with
  | ⟨0, _⟩ => exact Cert.Tile.at_zero _ _
  | ⟨1, _⟩ => exact Cert.Tile.at_zero _ _

/-- Every element of output window 7's array lies in a block that is written back. -/
theorem cover_7 (c : Dev nD) (i : ((cfg0.win 7).arr.view.loc (c.tc : Thread nD τ)).2.ty.Idx) :
    ∃ t : Fin cfg0.N, (cfg0.win 7).flush t = true ∧ i ∈ ((cfg0.win 7).blk t).view.set := by
  have h0 : (i 0).val < 8 := (i 0).isLt
  have h1 : (i 1).val < 1024 := (i 1).isLt
  obtain ⟨t, ht⟩ : ∃ t : Fin cfg0.N, t.val = 10 := ⟨⟨10, by have := n_pts; omega⟩, rfl⟩
  refine ⟨t, (flush0_7 t).2 (by rw [ht]), ?_⟩
  show i ∈ ((View.whole main_v0_2).slice (win0_7.rect t)).set
  rw [View.set_slice_whole, Rect.mem_set_unit]
  intro a
  show win0_7.index t a * S8x1024.size a ≤ _ ∧ _ < win0_7.index t a * S8x1024.size a + S8x1024.size a
  rw [idx_7]
  match a with
  | ⟨0, _⟩ => exact (by omega : 0 * 8 ≤ (i 0).val ∧ (i 0).val < 0 * 8 + 8)
  | ⟨1, _⟩ => exact (by omega : 0 * 1024 ≤ (i 1).val ∧ (i 1).val < 0 * 1024 + 1024)

end Cert.Nt

end
-- ==== Proof.Nt.Blocks.lean ====
/-
  What each point of the mixing projection's backward call leaves in its output blocks, as the products it stores.
-/
module

public import proofs.«01_k».proof.Proof.Gen.KNtIdeal.Value
public import proofs.«01_k».proof.Proof.In.Blocks
public import Idealize.ShloMosaic.Lib.Pipeline.ValueKit.Tiles
public import Idealize.ShloMosaic.Lib.WritesUnit
public import Idealize.ShloMosaic.Lib.VecWindow

@[expose] public section

noncomputable section

namespace Cert.Nt

open Cert.In (zeros2)
open Cert.KNtIdeal Cert.KNtIdeal.Gen Idealize.ShloMosaic Idealize.ShloMosaic.TcCoe Idealize.SL.Sem

variable {F : FTy → Type} [FloatOps F]
variable (m : (ℓ : Loc nD τ sig) → Buf (Elt F) ℓ)

/-- The input gradient's block at point `t`. -/
abbrev dhBlk (c : Dev nD) (t : Fin cfg0.N) : Vec F S384x1024 .f32 :=
  k0_pay6 (iblk m c 0 t) (iblk m c 1 t) (iblk m c 2 t) (iblk m c 3 t) (iblk m c 4 t)

/-- The gain gradient's row after point `t`, over the row `v` it had. -/
abbrev dgRow (c : Dev nD) (t : Fin cfg0.N) (v : Vec F S1x1024 .f32) : Vec F S1x1024 .f32 :=
  k0_pay2 (k0_pay3 (iblk m c 0 t) (iblk m c 1 t)) (k0_pay5 (iblk m c 2 t)) v

theorem outs_5 (c : Dev nD) (t : Fin cfg0.N) : (outsAt0 m c t.val t.isLt).1 = dhBlk m c t := by
  by_cases h0 : t.val % 11 = 0
  · rw [outsAt0_A m c t h0]
    unfold out0_A_5
    dsimp only
    rw [View.read_writes_eq_canon _ _ _ (cover0_A_5 c _ _ _ _ _ _ _ _ _ _ _ _ _ _ _ _ _ _ _ _ _ _ _ )]
    unfold kernelRun0_A
    dsimp only
    sl_unfold_words
    simp only [View.readAt_eq_ld, Memref.IsWhole.read_unread]
    rw [View.canon_unit_zero zeros2]
    simp only [View.ld_unit_zero (S := S1024x4480) zeros2, View.ld_unit_zero (S := S384x4480) zeros2, View.ld_unit_zero (S := S384x1024) zeros2, View.ld_unit_zero (S := S1x1024) zeros2]
  · rw [outsAt0_B m c t h0]
    unfold out0_B_5
    dsimp only
    rw [View.read_writes_eq_canon _ _ _ (cover0_B_5 c _ _ _ _ _ _ _ _ _ _ _ _ _ _ _ _ _ _ _ _ _ _ _ _ )]
    unfold kernelRun0_B
    dsimp only
    sl_unfold_words
    simp only [View.readAt_eq_ld, Memref.IsWhole.read_unread]
    rw [View.canon_unit_zero zeros2]
    simp only [View.ld_unit_zero (S := S1024x4480) zeros2, View.ld_unit_zero (S := S384x4480) zeros2, View.ld_unit_zero (S := S384x1024) zeros2, View.ld_unit_zero (S := S1x1024) zeros2]

theorem outs_6 (c : Dev nD) (t : Fin cfg0.N) : (outsAt0 m c t.val t.isLt).2.1 = k0_pay7 (iblk m c 0 t) (iblk m c 1 t) (iblk m c 2 t) (iblk m c 3 t) (iblk m c 4 t) := by
  by_cases h0 : t.val % 11 = 0
  · rw [outsAt0_A m c t h0]
    unfold out0_A_6
    dsimp only
    rw [View.read_writes_eq_canon _ _ _ (cover0_A_6 c _ _ _ _ _ _ _ _ _ _ _ _ _ _ _ _ _ _ _ _ _ _ _ )]
    unfold kernelRun0_A
    dsimp only
    sl_unfold_words
    simp only [View.readAt_eq_ld, Memref.IsWhole.read_unread]
    rw [View.canon_unit_zero zeros2]
    simp only [View.ld_unit_zero (S := S1024x4480) zeros2, View.ld_unit_zero (S := S384x4480) zeros2, View.ld_unit_zero (S := S384x1024) zeros2, View.ld_unit_zero (S := S1x1024) zeros2]
  · rw [outsAt0_B m c t h0]
    unfold out0_B_6
    dsimp only
    rw [View.read_writes_eq_canon _ _ _ (cover0_B_6 c _ _ _ _ _ _ _ _ _ _ _ _ _ _ _ _ _ _ _ _ _ _ _ _ )]
    unfold kernelRun0_B
    dsimp only
    sl_unfold_words
    simp only [View.readAt_eq_ld, Memref.IsWhole.read_unread]
    rw [View.canon_unit_zero zeros2]
    simp only [View.ld_unit_zero (S := S1024x4480) zeros2, View.ld_unit_zero (S := S384x4480) zeros2, View.ld_unit_zero (S := S384x1024) zeros2, View.ld_unit_zero (S := S1x1024) zeros2]

/-- At the first point the row is over zeros and the other rows are zero. -/
theorem outs_7_first (c : Dev nD) (t : Fin cfg0.N) (h0 : t.val % 11 = 0) :
    ∃ v : Vec F S1x1024 .f32, (∀ k : Fin 1024, v (ix2 0 k) = k0_pay1 (ix2 0 k)) ∧ ∀ (r : Fin 8) (k : Fin 1024),
    (outsAt0 m c t.val t.isLt).2.2 (ix2 r k) = if r.val = 0 then dgRow m c t v (ix2 0 k) else k0_pay1 (ix2 r k) := by
  rw [outsAt0_A m c t h0]
  unfold out0_A_7
  dsimp only
  unfold kernelRun0_A
  dsimp only
  sl_unfold_words
  simp only [View.readAt_eq_ld, Memref.IsWhole.read_unread]
  simp only [View.ld_unit_zero (S := S1024x4480) zeros2, View.ld_unit_zero (S := S384x4480) zeros2, View.ld_unit_zero (S := S384x1024) zeros2, View.ld_unit_zero (S := S1x1024) zeros2]
  refine ⟨_, fun k => Cert.In.readCov_row (ms0_7 t).view k0_pay1 k, fun r k => ?_⟩
  exact Cert.In.row_over_block _ _ _ _ r k

/-- At a later point the row is over what the point before left, and the other rows stay. -/
theorem outs_7_next (c : Dev nD) (t : Fin cfg0.N) (h0 : ¬ t.val % 11 = 0) :
    ∃ v : Vec F S1x1024 .f32, (∀ k : Fin 1024, v (ix2 0 k) = (outsAt0 m c (t.val - 1) (Nat.lt_of_le_of_lt (Nat.sub_le _ _) t.isLt)).2.2 (ix2 0 k)) ∧
    ∀ (r : Fin 8) (k : Fin 1024), (outsAt0 m c t.val t.isLt).2.2 (ix2 r k) =
      if r.val = 0 then dgRow m c t v (ix2 0 k)
      else (outsAt0 m c (t.val - 1) (Nat.lt_of_le_of_lt (Nat.sub_le _ _) t.isLt)).2.2 (ix2 r k) := by
  rw [outsAt0_B m c t h0]
  generalize outsAt0 m c (t.val - 1) (Nat.lt_of_le_of_lt (Nat.sub_le _ _) t.isLt) = prev
  unfold out0_B_7
  dsimp only
  unfold kernelRun0_B
  dsimp only
  sl_unfold_words
  simp only [View.readAt_eq_ld, Memref.IsWhole.read_unread]
  simp only [View.ld_unit_zero (S := S1024x4480) zeros2, View.ld_unit_zero (S := S384x4480) zeros2, View.ld_unit_zero (S := S384x1024) zeros2, View.ld_unit_zero (S := S1x1024) zeros2]
  refine ⟨_, fun k => Cert.In.ld_row prev.2.2 k, fun r k => ?_⟩
  refine (Cert.In.row_over_kept _ _ _ r k).trans ?_
  rw [Memref.IsWhole.read_unread]

end Cert.Nt

end
-- ==== Proof.Nt.Values.lean ====
/-
  The arrays the mixing projection's backward call leaves are the reference's gradients, at the extended reals.
-/
module

public import proofs.«01_k».proof.Proof.Nt.Reads
public import proofs.«01_k».proof.Proof.Nt.Blocks
public import proofs.«01_k».proof.Proof.In.Values
public import proofs.«01_k».proof.Proof.Gen.RNtIdeal.Read
public import proofs.«01_k».proof.Proof.Rms

@[expose] public section

noncomputable section

namespace Cert.Nt

open Cert.In (ms back add_eq)
open Cert.KNtIdeal Cert.KNtIdeal.Gen Idealize.ShloMosaic Idealize.ShloMosaic.TcCoe Idealize.SL.Sem
open Cert.RNtIdeal.Read

variable (m : (ℓ : Loc nD τ sig) → Buf (Elt Ideal) ℓ)

/-- Row `r` of the rows of block `t`. -/
abbrev row (t : Fin cfg0.N) (p : Fin 384) : Fin 4224 := ⟨384 * t.val + p.val, by have := t.isLt; have := p.isLt; have := n_pts; omega⟩

/-- The cotangent of the normalized rows. -/
theorem v18_apply (x0 : Vec Ideal S4224x4480 .bf16) (x1 : Vec Ideal S1024x4480 .bf16) (r : Fin 4224) (k : Fin 1024) :
    val_main_v18 (F := Ideal) x0 x1 (ix2 r k) = ∑ x : Fin 4480, x0 (ix2 r x) * x1 (ix2 k x) := by
  pointwise [val_main_v18, val_main_v17, val_main_v16, val_main_v15]

/-- The block's cotangent is that block of the reference's. -/
theorem d_blk (c : Dev nD) (t : Fin cfg0.N) (p : Fin 384) (k : Fin 1024) :
    k0_pay3 (iblk m c 0 t) (iblk m c 1 t) (ix2 p k)
     = val_main_v18 (F := Ideal) (m ((c : Thread nD τ).loc main_arg0)) (m ((c : Thread nD τ).loc main_arg1)) (ix2 (row t p) k) := by
  rw [v18_apply]
  unfold_payloads
  pointwise
  simp only [rd_0, rd_1]

theorem dh_blk (v0 v1 v3 v4 v5) (p : Fin 384) (k : Fin 1024) :
    k0_pay6 (F := Ideal) v0 v1 v3 v4 v5 (ix2 p k) = v5 (ix2 p k) +
      Ideal.rsqrt (ms fun x => v3 (ix2 p x)) * (k0_pay3 v0 v1 (ix2 p k) * v4 (ix2 0 k) - v3 (ix2 p k) * Ideal.rsqrt (ms fun x => v3 (ix2 p x)) *
        Ideal.div (∑ x, k0_pay3 v0 v1 (ix2 p x) * v4 (ix2 0 x) * (v3 (ix2 p x) * Ideal.rsqrt (ms fun x => v3 (ix2 p x)))) (Ideal.ofBits .f32 0x44800000#32)) := by
  unfold k0_pay6
  generalize hd : k0_pay3 v0 v1 = d
  unfold_payloads
  pointwise

theorem dg_blk (d : Vec Ideal S384x1024 .f32) (v3 v35) (k : Fin 1024) :
    k0_pay2 (F := Ideal) d (k0_pay5 v3) v35 (ix2 0 k) = v35 (ix2 0 k) +
      ∑ p, d (ix2 p k) * (v3 (ix2 p k) * Ideal.rsqrt (ms fun x => v3 (ix2 p x))) := by
  unfold_payloads
  pointwise

theorem ref_dh (x0 x1 x2 x3 x4) (p : Fin 4224) (k : Fin 1024) :
    val_main_v38 (F := Ideal) x0 x1 x2 x3 x4 (ix2 p k) = x4 (ix2 p k) +
      (val_main_v18 x0 x1 (ix2 p k) * x3 (ix2 0 k) * Ideal.rsqrt (ms fun x => x2 (ix2 p x))
        + x2 (ix2 p k) * back (fun x => x2 (ix2 p x)) (fun x => x3 (ix2 0 x)) (fun x => val_main_v18 x0 x1 (ix2 p x))
        + back (fun x => x2 (ix2 p x)) (fun x => x3 (ix2 0 x)) (fun x => val_main_v18 x0 x1 (ix2 p x)) * x2 (ix2 p k)) := by
  unfold val_main_v38 val_main_v37 val_main_v36 val_main_v35 val_main_v34 val_main_v33 val_main_v32 val_main_v31 val_main_v29 val_main_v28 val_main_v26 val_main_v25 val_main_v24 val_main_v23
  generalize hd : val_main_v18 x0 x1 = d
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v22, val_main_cst_4, val_main_v27, val_main_cst_5, val_main_v30, val_main_cst_6, val_main_v33, val_main_cst_7, val_main_v41]
  simp only [Fin.sum_univ_one]

/-- One row's term of the gain's gradient. -/
abbrev term (x0 : Vec Ideal S4224x4480 .bf16) (x1 : Vec Ideal S1024x4480 .bf16) (x2 : Vec Ideal S4224x1024 .f32) (k : Fin 1024) (r : Fin 4224) : EReal :=
  val_main_v18 (F := Ideal) x0 x1 (ix2 r k) * (x2 (ix2 r k) * Ideal.rsqrt (ms fun x => x2 (ix2 r x)))

theorem ref_dg (x0 x1 x2) (r : Fin 8) (k : Fin 1024) :
    val_main_v42 (F := Ideal) x0 x1 x2 (ix2 r k) = if r.val = 0 then ∑ p, term x0 x1 x2 k p else 0 := by
  unfold val_main_v42 val_main_v21 val_main_v20 val_main_v19
  simp only [term]
  generalize hd : val_main_v18 x0 x1 = d
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v22, val_main_cst_4, val_main_v27, val_main_cst_5, val_main_v30, val_main_cst_6, val_main_v33, val_main_cst_7, val_main_v41]
  by_cases hr : r.val = 0
  · rw [dif_pos (by omega), if_pos hr]
    exact Finset.sum_congr rfl fun x _ => EReal.mul_comm _ _
  · rw [dif_neg (by omega), if_neg hr]

section Dh

variable (c : Dev nD)
  (f0 : ∀ i, Cert.Re.Fin' ((m ((c : Thread nD τ).loc main_arg0)) i)) (f1 : ∀ i, Cert.Re.Fin' ((m ((c : Thread nD τ).loc main_arg1)) i))
  (f2 : ∀ i, Cert.Re.Fin' ((m ((c : Thread nD τ).loc main_arg2)) i)) (f3 : ∀ i, Cert.Re.Fin' ((m ((c : Thread nD τ).loc main_arg3)) i))

include f0 f1 in
theorem d_fin (r : Fin 4224) (k : Fin 1024) :
    Cert.Re.Fin' (val_main_v18 (F := Ideal) (m ((c : Thread nD τ).loc main_arg0)) (m ((c : Thread nD τ).loc main_arg1)) (ix2 r k)) := by
  rw [v18_apply]
  exact Cert.Re.fin_sum _ _ fun x _ => Cert.Re.fin_mul (f0 _) (f1 _)

include f0 f1 f2 f3 in
/-- The block of the input's gradient is that block of the reference's. -/
theorem dh_eq (t : Fin cfg0.N) (p : Fin 384) (k : Fin 1024) :
    dhBlk m c t (ix2 p k) = val_main_v38 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (ix2 (row t p) k) := by
  refine (dh_blk _ _ _ _ _ p k).trans ?_
  rw [ref_dh]
  simp only [d_blk]
  simp only [rd_2, rd_3, rd_4]
  exact add_eq _ (Cert.Re.rms_grad (fun x => (m ((c : Thread nD τ).loc main_arg2)) (ix2 (row t p) x : S4224x1024.Idx))
    (fun x => (m ((c : Thread nD τ).loc main_arg3)) (ix2 0 x : S1x1024.Idx))
    (fun x => val_main_v18 (F := Ideal) (m ((c : Thread nD τ).loc main_arg0)) (m ((c : Thread nD τ).loc main_arg1)) (ix2 (row t p) x))
    (fun x => f2 _) (fun x => f3 _) (fun x => d_fin m c f0 f1 (row t p) x) k _ _ rfl rfl)

include f0 f1 f2 f3 in
theorem flushed_5 (t : Fin cfg0.N) :
    (dats m 0 c).flushed 5 t = ((cfg0.win 5).blk t).view.read (Elt Ideal)
      (val_main_v38 (F := Ideal) (m ((c : Thread nD τ).loc main_arg0)) (m ((c : Thread nD τ).loc main_arg1))
      (m ((c : Thread nD τ).loc main_arg2)) (m ((c : Thread nD τ).loc main_arg3)) (m ((c : Thread nD τ).loc main_arg4))) := by
  rw [Cert.KNtIdeal.Value.flushed5, outs_5]
  funext y
  obtain ⟨p, q, rfl⟩ : ∃ (p : Fin 384) (q : Fin 1024), y = ix2 p q := ⟨y 0, y 1, eq_ix2 y⟩
  refine Eq.trans ?_ (ow_5 c t _ p q).symm
  exact dh_eq m c f0 f1 f2 f3 t p q

include f0 f1 f2 f3 in
/-- The whole gradient with respect to the input. -/
theorem final_5 :
    (dats m 0 c).arrAt 5 cfg0.N = val_main_v38 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) :=
  (dats m 0 c).arrAt_eq_of_cover 5 _ (fun t _ => flushed_5 m c f0 f1 f2 f3 t) (cover_5 c)

include f0 f1 f2 f3 in
theorem flushed_6 (t : Fin cfg0.N) :
    (dats m 0 c).flushed 6 t = ((cfg0.win 6).blk t).view.read (Elt Ideal)
      (val_main_v40 (F := Ideal) (m ((c : Thread nD τ).loc main_arg0)) (m ((c : Thread nD τ).loc main_arg1))
      (m ((c : Thread nD τ).loc main_arg2)) (m ((c : Thread nD τ).loc main_arg3)) (m ((c : Thread nD τ).loc main_arg4))) := by
  rw [Cert.KNtIdeal.Value.flushed6, outs_6]
  funext y
  obtain ⟨p, q, rfl⟩ : ∃ (p : Fin 384) (q : Fin 1024), y = ix2 p q := ⟨y 0, y 1, eq_ix2 y⟩
  refine Eq.trans ?_ (ow_6 c t _ p q).symm
  exact dh_eq m c f0 f1 f2 f3 t p q

include f0 f1 f2 f3 in
/-- The same gradient in the narrower format. -/
theorem final_6 :
    (dats m 0 c).arrAt 6 cfg0.N = val_main_v40 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) :=
  (dats m 0 c).arrAt_eq_of_cover 6 _ (fun t _ => flushed_6 m c f0 f1 f2 f3 t) (cover_6 c)

end Dh

/-- The gain's gradient over the rows of block `n`. -/
def part (c : Dev nD) (k : Fin 1024) (n : ℕ) : EReal :=
  if h : n < 11 then ∑ p : Fin 384, term (m ((c : Thread nD τ).loc main_arg0)) (m ((c : Thread nD τ).loc main_arg1)) (m ((c : Thread nD τ).loc main_arg2)) k (row ⟨n, h⟩ p) else 0

theorem dgRow_apply (c : Dev nD) (t : Fin cfg0.N) (v : Vec Ideal S1x1024 .f32) (k : Fin 1024) :
    dgRow m c t v (ix2 0 k) = v (ix2 0 k) + part m c k t.val := by
  refine (dg_blk _ _ _ k).trans ?_
  unfold part
  rw [dif_pos (show t.val < 11 from t.isLt)]
  simp only [d_blk]
  simp only [rd_2]

theorem zero_row (r : Fin 8) (k : Fin 1024) : k0_pay1 (F := Ideal) (ix2 r k) = 0 := by
  unfold_payloads
  pointwise

/-- After point `n`: the first row holds the gain's gradient over the blocks so far, the others are zero. -/
theorem outs_7 (c : Dev nD) : ∀ (n : ℕ) (hn : n < cfg0.N) (r : Fin 8) (k : Fin 1024),
    (outsAt0 m c n hn).2.2 (ix2 r k) = if r.val = 0 then ∑ b ∈ Finset.range (n + 1), part m c k b else 0 := by
  intro n
  induction n with
  | zero =>
    intro hn r k
    obtain ⟨v, hv, ho⟩ := outs_7_first m c ⟨0, hn⟩ rfl
    refine (ho r k).trans ?_
    rw [dgRow_apply, hv, zero_row, zero_row, zero_add, Finset.sum_range_one]
  | succ n ih =>
    intro hn r k
    have hN : n + 1 < 11 := hn
    obtain ⟨v, hv, ho⟩ := outs_7_next m c ⟨n + 1, hn⟩ (by show ¬ (n + 1) % 11 = 0; omega)
    refine (ho r k).trans ?_
    rw [dgRow_apply, hv]
    have e0 := (ih (Nat.lt_of_succ_lt hn) 0 k).trans (if_pos rfl)
    have er := ih (Nat.lt_of_succ_lt hn) r k
    split_ifs with hr
    · rw [Finset.sum_range_succ]
      exact congrArg (· + part m c k (n + 1)) e0
    · rw [if_neg hr] at er
      exact er

/-- Sums over 11 blocks of 384 rows add up to the sum over all rows. -/
theorem rows_sum (f : Fin 4224 → EReal) (g : ℕ → EReal)
    (e : ∀ b : Fin 11, g b.val = ∑ p : Fin 384, f ⟨384 * b.val + p.val, by have := b.isLt; have := p.isLt; omega⟩) :
    ∑ b ∈ Finset.range 11, g b = ∑ r, f r := by
  rw [← Fin.sum_univ_eq_sum_range g 11]
  refine (Finset.sum_congr rfl fun b _ => e b).trans ?_
  rw [← Fintype.sum_prod_type' (fun (b : Fin 11) (p : Fin 384) => f ⟨384 * b.val + p.val, by have := b.isLt; have := p.isLt; omega⟩)]
  refine Fintype.sum_equiv (finProdFinEquiv (m := 11) (n := 384)) _ _ fun x => congrArg f (Fin.ext ?_)
  show 384 * x.1.val + x.2.val = x.2.val + 384 * x.1.val
  omega

/-- The blocks' parts add up to the sum over all rows. -/
theorem parts (c : Dev nD) (k : Fin 1024) :
    ∑ b ∈ Finset.range 11, part m c k b = ∑ r, term (m ((c : Thread nD τ).loc main_arg0)) (m ((c : Thread nD τ).loc main_arg1)) (m ((c : Thread nD τ).loc main_arg2)) k r :=
  Cert.In.rows_sum _ _ fun b => by
    unfold part
    exact dif_pos b.isLt

theorem flushed_7 (c : Dev nD) (t : Fin cfg0.N) (ht : (cfg0.win 7).flush t = true) :
    (dats m 0 c).flushed 7 t = ((cfg0.win 7).blk t).view.read (Elt Ideal)
      (val_main_v42 (F := Ideal) (m ((c : Thread nD τ).loc main_arg0)) (m ((c : Thread nD τ).loc main_arg1)) (m ((c : Thread nD τ).loc main_arg2))) := by
  rw [Cert.KNtIdeal.Value.flushed7]
  funext y
  obtain ⟨p, q, rfl⟩ : ∃ (p : Fin 8) (q : Fin 1024), y = ix2 p q := ⟨y 0, y 1, eq_ix2 y⟩
  refine Eq.trans ?_ (ow_7 c t _ p q).symm
  have h10 : t.val = 10 := by have := (flush0_7 t).1 ht; have := t.isLt; have := n_pts; omega
  refine (outs_7 m c t.val t.isLt p q).trans ?_
  rw [ref_dg, h10, parts]

/-- The gain's gradient, in the first of eight rows. -/
theorem final_7 (c : Dev nD) :
    (dats m 0 c).arrAt 7 cfg0.N = val_main_v42 (F := Ideal) (m ((c : Thread nD τ).loc main_arg0)) (m ((c : Thread nD τ).loc main_arg1)) (m ((c : Thread nD τ).loc main_arg2)) :=
  (dats m 0 c).arrAt_eq_of_cover 7 _ (fun t ht => flushed_7 m c t ht) (cover_7 c)

end Cert.Nt

end
-- ==== Proof.Nt.Claim.lean ====
/-
  The mixing projection's backward call and its reference end with equal results, where the arguments are finite.
-/
module

public import proofs.«01_k».proof.Defs
public import proofs.«01_k».proof.Proof.Nt.Values

@[expose] public section

noncomputable section

namespace Cert.Nt

open Cert.KNtIdeal Cert.KNtIdeal.Gen Idealize.ShloMosaic Idealize.ShloMosaic.TcCoe Idealize.SL.Sem

/-- The precondition's side conditions. -/
theorem pre_facts : Cert.Pre_nt_finite.Facts := by
  constructor <;> decide

/-- The precondition read element by element. -/
theorem pre_fin [Cert.Pre_nt_finite.Facts] (x0 : Vec Ideal S4224x4480 .bf16) (x1 : Vec Ideal S1024x4480 .bf16) (x2 : Vec Ideal S4224x1024 .f32)
    (x3 : Vec Ideal S1x1024 .f32) (x4 : Vec Ideal S4224x1024 .f32)
    (h : Cert.Pre_nt_finite.fn (F := Ideal) x0 x1 x2 x3 x4 = fun _ => 1#1) :
    (∀ i, Cert.Re.Fin' (x0 i)) ∧ (∀ i, Cert.Re.Fin' (x1 i)) ∧ (∀ i, Cert.Re.Fin' (x2 i)) ∧ (∀ i, Cert.Re.Fin' (x3 i)) := by
  have h' := congrFun h (fun a => a.elim0)
  dsimp only [Cert.Pre_nt_finite.fn, Cert.Pre_nt_finite.fn_part1] at h'
  obtain ⟨h123, h4⟩ := IntOp.andi_eq_one.1 h'
  obtain ⟨h12, h3⟩ := IntOp.andi_eq_one.1 h123
  obtain ⟨h1, h2⟩ := IntOp.andi_eq_one.1 h12
  haveI : Subsingleton Cert.Pre_nt_finite.S_.Idx := ⟨fun a b => funext fun i => i.elim0⟩
  refine ⟨fun i => ?_, fun i => ?_, fun i => ?_, fun i => ?_⟩
  · have e := Host.reduce_andi_all _ _ _ _ _ h1 i
    revert e
    obtain ⟨p, q, rfl⟩ : ∃ (p : Fin 4224) (q : Fin 4480), i = ix2 p q := ⟨i 0, i 1, eq_ix2 i⟩
    pointwise
    rw [Cert.Re.bot_bf16, Cert.Re.top_bf16]
    exact Cert.Re.fin_of_cmp _
  · have e := Host.reduce_andi_all _ _ _ _ _ h2 i
    revert e
    obtain ⟨p, q, rfl⟩ : ∃ (p : Fin 1024) (q : Fin 4480), i = ix2 p q := ⟨i 0, i 1, eq_ix2 i⟩
    pointwise
    rw [Cert.Re.bot_bf16, Cert.Re.top_bf16]
    exact Cert.Re.fin_of_cmp _
  · have e := Host.reduce_andi_all _ _ _ _ _ h3 i
    revert e
    obtain ⟨p, q, rfl⟩ : ∃ (p : Fin 4224) (q : Fin 1024), i = ix2 p q := ⟨i 0, i 1, eq_ix2 i⟩
    pointwise
    rw [Cert.Re.bot_f32, Cert.Re.top_f32]
    exact Cert.Re.fin_of_cmp _
  · have e := Host.reduce_andi_all _ _ _ _ _ h4 i
    revert e
    obtain ⟨p, q, rfl⟩ : ∃ (p : Fin 1) (q : Fin 1024), i = ix2 p q := ⟨i 0, i 1, eq_ix2 i⟩
    pointwise
    rw [Cert.Re.bot_f32, Cert.Re.top_f32]
    exact Cert.Re.fin_of_cmp _

/-- The value claim of the mixing projection's backward call. -/
theorem algebraic [Cert.Pre_nt_finite.Facts] : Cert.algebraic_KNtIdeal_RNtIdeal_pre_nt_finite := by
  intro m g m' g' hp ha
  refine ⟨fun c => (dats m 0 c).arrAt 5 cfg0.N, fun c => (dats m 0 c).arrAt 6 cfg0.N, fun c => (dats m 0 c).arrAt 7 cfg0.N,
    Cert.KNtIdeal.Value.run_blocks m g, ?_⟩
  refine (θ_run _ _ _).mono (fun r h c => ?_) (Cert.RNtIdeal.Value.run m' g')
  obtain ⟨h0, h1, h2, hargs⟩ := h c
  obtain ⟨a0, a1, a2, a3, a4⟩ := ha c
  obtain ⟨f0, f1, f2, f3⟩ := pre_fin _ _ _ _ _ (hp c)
  refine ⟨h0.trans ?_, h1.trans ?_, h2.trans ?_, hargs⟩
  · exact (Cert.RNtIdeal.Read.val_main_v38_eq _ _).trans (Eq.trans (by rw [a0, a1, a2, a3, a4]) (final_5 m c f0 f1 f2 f3).symm)
  · exact (Cert.RNtIdeal.Read.val_main_v40_eq _ _).trans (Eq.trans (by rw [a0, a1, a2, a3, a4]) (final_6 m c f0 f1 f2 f3).symm)
  · exact (Cert.RNtIdeal.Read.val_main_v42_eq _ _ _).trans (Eq.trans (by rw [a0, a1, a2]) (final_7 m c).symm)

end Cert.Nt

end
-- ==== Proof.Ffi.Reads.lean ====
/-
  Where the up projection with its gate reads its arrays and writes its results: the rows and columns of each block.
-/
module

public import proofs.«01_k».proof.Proof.Gen.KFfiIdeal.Value
public import proofs.«01_k».proof.Proof.Tile

@[expose] public section

noncomputable section

namespace Cert.Ffi

open Cert.KFfiIdeal Cert.KFfiIdeal.Gen Idealize.ShloMosaic Idealize.ShloMosaic.TcCoe Idealize.SL.Sem

variable {F : FTy → Type} [FloatOps F]
variable (m : (ℓ : Loc nD τ sig) → Buf (Elt F) ℓ)

theorem n_pts : cfg0.N = 22 := rfl

theorem idx_0 : ∀ t : Fin cfg0.N, win0_0.index t = ![t.val % 11, 0] :=
  (by decide +kernel : ∀ t : Fin grid0.N, win0_0.index t = ![t.val % 11, 0])

theorem idx_1 : ∀ t : Fin cfg0.N, win0_1.index t = ![0, t.val / 11] :=
  (by decide +kernel : ∀ t : Fin grid0.N, win0_1.index t = ![0, t.val / 11])

theorem idx_2 : ∀ t : Fin cfg0.N, win0_2.index t = ![0, t.val / 11 + 2] :=
  (by decide +kernel : ∀ t : Fin grid0.N, win0_2.index t = ![0, t.val / 11 + 2])

theorem idx_3 : ∀ t : Fin cfg0.N, win0_3.index t = ![0, t.val % 11, t.val / 11] :=
  (by decide +kernel : ∀ t : Fin grid0.N, win0_3.index t = ![0, t.val % 11, t.val / 11])

theorem idx_4 : ∀ t : Fin cfg0.N, win0_4.index t = ![t.val % 11, t.val / 11] :=
  (by decide +kernel : ∀ t : Fin grid0.N, win0_4.index t = ![t.val % 11, t.val / 11])

theorem idx_5 : ∀ t : Fin cfg0.N, win0_5.index t = ![t.val / 11, t.val % 11] :=
  (by decide +kernel : ∀ t : Fin grid0.N, win0_5.index t = ![t.val / 11, t.val % 11])

/-- Input window 0 reads its array at these coordinates. -/
theorem rd_0 (c : Dev nD) (t : Fin cfg0.N) (p : Fin 384) (q : Fin 1024) :
    iblk m c 0 t (ix2 p q : S384x1024.Idx) = m ((c : Thread nD τ).loc main_arg0) (ix2 ⟨384 * (t.val % 11) + p.val, by have := t.isLt; have := p.isLt; have := n_pts; omega⟩ q : S4224x1024.Idx) := by
  refine Cert.Tile.slice_read (Val := Elt F) (b := main_arg0) (win0_0.rect t) _ _ _ fun a => ?_
  rw [Pipeline.Window.rect_emb_val win0_0 t _ a rfl, idx_0 t]
  match a with
  | ⟨0, _⟩ => exact Cert.Tile.at_block _ _ _
  | ⟨1, _⟩ => exact Cert.Tile.at_zero _ _

/-- Input window 1 reads its array at these coordinates. -/
theorem rd_1 (c : Dev nD) (t : Fin cfg0.N) (p : Fin 1024) (q : Fin 1408) :
    iblk m c 1 t (ix2 p q : S1024x1408.Idx) = m ((c : Thread nD τ).loc main_arg1) (ix2 p ⟨1408 * (t.val / 11) + q.val, by have := t.isLt; have := q.isLt; have := n_pts; omega⟩ : S1024x5632.Idx) := by
  refine Cert.Tile.slice_read (Val := Elt F) (b := main_arg1) (win0_1.rect t) _ _ _ fun a => ?_
  rw [Pipeline.Window.rect_emb_val win0_1 t _ a rfl, idx_1 t]
  match a with
  | ⟨0, _⟩ => exact Cert.Tile.at_zero _ _
  | ⟨1, _⟩ => exact Cert.Tile.at_block _ _ _

/-- Input window 2 reads its array at these coordinates. -/
theorem rd_2 (c : Dev nD) (t : Fin cfg0.N) (p : Fin 1024) (q : Fin 1408) :
    iblk m c 2 t (ix2 p q : S1024x1408.Idx) = m ((c : Thread nD τ).loc main_arg1) (ix2 p ⟨1408 * (t.val / 11 + 2) + q.val, by have := t.isLt; have := q.isLt; have := n_pts; omega⟩ : S1024x5632.Idx) := by
  refine Cert.Tile.slice_read (Val := Elt F) (b := main_arg1) (win0_2.rect t) _ _ _ fun a => ?_
  rw [Pipeline.Window.rect_emb_val win0_2 t _ a rfl, idx_2 t]
  match a with
  | ⟨0, _⟩ => exact Cert.Tile.at_zero _ _
  | ⟨1, _⟩ => exact Cert.Tile.at_block _ _ _

/-- The block of output window 3 at point `t`, read off an array `G`. -/
theorem ow_3 (c : Dev nD) (t : Fin cfg0.N) (G : Vec F S2x4224x2816 .bf16) (p : Fin 2) (q : Fin 384) (r : Fin 1408) :
    ((cfg0.win 3).blk t).view.read (Elt F) G (ix3 p q r : S2x384x1408.Idx) = G (ix3 p ⟨384 * (t.val % 11) + q.val, by have := t.isLt; have := q.isLt; have := n_pts; omega⟩ ⟨1408 * (t.val / 11) + r.val, by have := t.isLt; have := r.isLt; have := n_pts; omega⟩ : S2x4224x2816.Idx) := by
  refine Cert.Tile.slice_read (Val := Elt F) (b := main_v0_0) (win0_3.rect t) _ _ _ fun a => ?_
  rw [Pipeline.Window.rect_emb_val win0_3 t _ a rfl, idx_3 t]
  match a with
  | ⟨0, _⟩ => exact Cert.Tile.at_zero _ _
  | ⟨1, _⟩ => exact Cert.Tile.at_block _ _ _
  | ⟨2, _⟩ => exact Cert.Tile.at_block _ _ _

/-- Every element of output window 3's array lies in a block that is written back. -/
theorem cover_3 (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0).val < 2 := (i 0).isLt
  have h1 : (i 1).val < 4224 := (i 1).isLt
  have h2 : (i 2).val < 2816 := (i 2).isLt
  obtain ⟨t, ht⟩ : ∃ t : Fin cfg0.N, t.val = (i 2).val / 1408 * 11 + (i 1).val / 384 := ⟨⟨(i 2).val / 1408 * 11 + (i 1).val / 384, by have := n_pts; omega⟩, rfl⟩
  refine ⟨t, flush0_3 t, ?_⟩
  show i ∈ ((View.whole main_v0_0).slice (win0_3.rect t)).set
  rw [View.set_slice_whole, Rect.mem_set_unit]
  intro a
  show win0_3.index t a * S2x384x1408.size a ≤ _ ∧ _ < win0_3.index t a * S2x384x1408.size a + S2x384x1408.size a
  rw [idx_3]
  match a with
  | ⟨0, _⟩ => exact (by omega : 0 * 2 ≤ (i 0).val ∧ (i 0).val < 0 * 2 + 2)
  | ⟨1, _⟩ => exact (by omega : (t.val % 11) * 384 ≤ (i 1).val ∧ (i 1).val < (t.val % 11) * 384 + 384)
  | ⟨2, _⟩ => exact (by omega : (t.val / 11) * 1408 ≤ (i 2).val ∧ (i 2).val < (t.val / 11) * 1408 + 1408)

/-- The block of output window 4 at point `t`, read off an array `G`. -/
theorem ow_4 (c : Dev nD) (t : Fin cfg0.N) (G : Vec F S4224x2816 .bf16) (p : Fin 384) (q : Fin 1408) :
    ((cfg0.win 4).blk t).view.read (Elt F) G (ix2 p q : S384x1408.Idx) = G (ix2 ⟨384 * (t.val % 11) + p.val, by have := t.isLt; have := p.isLt; have := n_pts; omega⟩ ⟨1408 * (t.val / 11) + q.val, by have := t.isLt; have := q.isLt; have := n_pts; omega⟩ : S4224x2816.Idx) := by
  refine Cert.Tile.slice_read (Val := Elt F) (b := main_v0_1) (win0_4.rect t) _ _ _ fun a => ?_
  rw [Pipeline.Window.rect_emb_val win0_4 t _ a rfl, idx_4 t]
  match a with
  | ⟨0, _⟩ => exact Cert.Tile.at_block _ _ _
  | ⟨1, _⟩ => exact Cert.Tile.at_block _ _ _

/-- Every element of output window 4's array lies in a block that is written back. -/
theorem cover_4 (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0).val < 4224 := (i 0).isLt
  have h1 : (i 1).val < 2816 := (i 1).isLt
  obtain ⟨t, ht⟩ : ∃ t : Fin cfg0.N, t.val = (i 1).val / 1408 * 11 + (i 0).val / 384 := ⟨⟨(i 1).val / 1408 * 11 + (i 0).val / 384, by have := n_pts; omega⟩, rfl⟩
  refine ⟨t, flush0_4 t, ?_⟩
  show i ∈ ((View.whole main_v0_1).slice (win0_4.rect t)).set
  rw [View.set_slice_whole, Rect.mem_set_unit]
  intro a
  show win0_4.index t a * S384x1408.size a ≤ _ ∧ _ < win0_4.index t a * S384x1408.size a + S384x1408.size a
  rw [idx_4]
  match a with
  | ⟨0, _⟩ => exact (by omega : (t.val % 11) * 384 ≤ (i 0).val ∧ (i 0).val < (t.val % 11) * 384 + 384)
  | ⟨1, _⟩ => exact (by omega : (t.val / 11) * 1408 ≤ (i 1).val ∧ (i 1).val < (t.val / 11) * 1408 + 1408)

/-- The block of output window 5 at point `t`, read off an array `G`. -/
theorem ow_5 (c : Dev nD) (t : Fin cfg0.N) (G : Vec F S2816x4224 .bf16) (p : Fin 1408) (q : Fin 384) :
    ((cfg0.win 5).blk t).view.read (Elt F) G (ix2 p q : S1408x384.Idx) = G (ix2 ⟨1408 * (t.val / 11) + p.val, by have := t.isLt; have := p.isLt; have := n_pts; omega⟩ ⟨384 * (t.val % 11) + q.val, by have := t.isLt; have := q.isLt; have := n_pts; omega⟩ : S2816x4224.Idx) := by
  refine Cert.Tile.slice_read (Val := Elt F) (b := main_v0_2) (win0_5.rect t) _ _ _ fun a => ?_
  rw [Pipeline.Window.rect_emb_val win0_5 t _ a rfl, idx_5 t]
  match a with
  | ⟨0, _⟩ => exact Cert.Tile.at_block _ _ _
  | ⟨1, _⟩ => exact Cert.Tile.at_block _ _ _

/-- Every element of output window 5's array lies in a block that is written back. -/
theorem cover_5 (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0).val < 2816 := (i 0).isLt
  have h1 : (i 1).val < 4224 := (i 1).isLt
  obtain ⟨t, ht⟩ : ∃ t : Fin cfg0.N, t.val = (i 0).val / 1408 * 11 + (i 1).val / 384 := ⟨⟨(i 0).val / 1408 * 11 + (i 1).val / 384, by have := n_pts; omega⟩, rfl⟩
  refine ⟨t, flush0_5 t, ?_⟩
  show i ∈ ((View.whole main_v0_2).slice (win0_5.rect t)).set
  rw [View.set_slice_whole, Rect.mem_set_unit]
  intro a
  show win0_5.index t a * S1408x384.size a ≤ _ ∧ _ < win0_5.index t a * S1408x384.size a + S1408x384.size a
  rw [idx_5]
  match a with
  | ⟨0, _⟩ => exact (by omega : (t.val / 11) * 1408 ≤ (i 0).val ∧ (i 0).val < (t.val / 11) * 1408 + 1408)
  | ⟨1, _⟩ => exact (by omega : (t.val % 11) * 384 ≤ (i 1).val ∧ (i 1).val < (t.val % 11) * 384 + 384)

end Cert.Ffi

end
-- ==== Proof.Ffi.Claim.lean ====
/-
  The up projection with its gate, over the whole arrays.
-/
module

public import proofs.«01_k».proof.Defs
public import proofs.«01_k».proof.Proof.Ffi.Reads
public import proofs.«01_k».proof.Proof.Gen.RFfiIdeal.Read
public import proofs.«01_k».proof.Proof.Gen.RFfiIdeal.Run
public import proofs.«01_k».proof.Proof.Sigmoid

@[expose] public section

noncomputable section

namespace Cert.Ffi

open Cert.KFfiIdeal Cert.KFfiIdeal.Gen Idealize.ShloMosaic Idealize.ShloMosaic.TcCoe Idealize.SL.Sem
open Cert.RFfiIdeal.Read

/-- An element of a product over 1024 columns. -/
def dot {M N : Nat} (a : Vec Ideal (⟨2, ![M, 1024]⟩ : Shape) .bf16) (b : Vec Ideal (⟨2, ![1024, N]⟩ : Shape) .bf16) (p : Fin M) (q : Fin N) : EReal :=
  ∑ k : Fin 1024, a (ix2 p k) * b (ix2 k q)

/-- The gated value of one element. -/
def silu (g u : EReal) : EReal := g * Ideal.div 1 (1 + Ideal.exp (-g)) * u

/-- A column of the gate's half, and of the value's half, of the weight. -/
def lo (q : Fin 2816) : Fin 5632 := ⟨q.val, by have := q.isLt; omega⟩
def hi (q : Fin 2816) : Fin 5632 := ⟨2816 + q.val, by have := q.isLt; omega⟩

theorem out_4 (x0 : Vec Ideal S384x1024 .bf16) (x1 x2 : Vec Ideal S1024x1408 .bf16) (p : Fin 384) (q : Fin 1408) :
    out0_4 x0 x1 x2 (ix2 p q) = silu (dot x0 x1 p q) (dot x0 x2 p q) := by
  unfold out0_4
  rw [View.canon_unit_zero Cert.Tile.zeros2]
  unfold_payloads
  pointwise
  simp only [Cert.Sig.tanh_eq_div, silu, dot]

theorem ref_4 (x0 : Vec Ideal S4224x1024 .bf16) (x1 : Vec Ideal S1024x5632 .bf16) (p : Fin 4224) (q : Fin 2816) :
    val_main_v11 (F := Ideal) x0 x1 (ix2 p q) = silu (dot x0 x1 p (lo q)) (dot x0 x1 p (hi q)) := by
  pointwise [val_main_v0, val_main_v1, val_main_v2, val_main_v3, val_main_v4, val_main_call0_v0, val_main_call0_v1, val_main_call0_cst, val_main_call0_v2, val_main_call0_v3, val_main_call0_cst_0, val_main_call0_v4, val_main_call0_v5, val_main_v5, val_main_v6, val_main_v7, val_main_v8, val_main_v9, val_main_v10, val_main_v11, val_main_v12, val_main_v13]
  rfl

theorem out_5 (x0 : Vec Ideal S384x1024 .bf16) (x1 x2 : Vec Ideal S1024x1408 .bf16) (p : Fin 1408) (q : Fin 384) :
    out0_5 x0 x1 x2 (ix2 p q) = silu (dot x0 x1 q p) (dot x0 x2 q p) := by
  unfold out0_5
  rw [View.canon_unit_zero Cert.Tile.zeros2]
  unfold_payloads
  pointwise
  simp only [Cert.Sig.tanh_eq_div, silu, dot]

theorem ref_5 (x0 : Vec Ideal S4224x1024 .bf16) (x1 : Vec Ideal S1024x5632 .bf16) (p : Fin 2816) (q : Fin 4224) :
    val_main_v13 (F := Ideal) x0 x1 (ix2 p q) = silu (dot x0 x1 q (lo p)) (dot x0 x1 q (hi p)) := by
  pointwise [val_main_v0, val_main_v1, val_main_v2, val_main_v3, val_main_v4, val_main_call0_v0, val_main_call0_v1, val_main_call0_cst, val_main_call0_v2, val_main_call0_v3, val_main_call0_cst_0, val_main_call0_v4, val_main_call0_v5, val_main_v5, val_main_v6, val_main_v7, val_main_v8, val_main_v9, val_main_v10, val_main_v11, val_main_v12, val_main_v13]
  rfl

/-- The block left in the first result's two planes. -/
theorem out_gate (x0 : Vec Ideal S384x1024 .bf16) (x1 x2 : Vec Ideal S1024x1408 .bf16) (p : Fin 384) (q : Fin 1408) :
    out0_3 x0 x1 x2 (ix3 0 p q) = dot x0 x1 p q := by
  unfold out0_3
  refine View.canon_eq_of_allAt _ _ _ (cover0_3 _ _ _) ?_
  refine View.allAt_cons_unit _ _ _ _ _ ?_ (View.allAt_cons_unit _ _ _ _ _ ?_ (View.allAt_nil _ _))
  · intro x hx
    exact absurd (hx 0) (by show ¬ (0 = 1 + _); omega)
  · intro x hx
    obtain rfl : x = ix3 0 p q := Cert.Tile.plane_eq x _ rfl (hx 1) (hx 2)
    unfold_payloads
    pointwise
    rfl

theorem out_val (x0 : Vec Ideal S384x1024 .bf16) (x1 x2 : Vec Ideal S1024x1408 .bf16) (p : Fin 384) (q : Fin 1408) :
    out0_3 x0 x1 x2 (ix3 1 p q) = dot x0 x2 p q := by
  unfold out0_3
  refine View.canon_eq_of_allAt _ _ _ (cover0_3 _ _ _) ?_
  refine View.allAt_cons_unit _ _ _ _ _ ?_ (View.allAt_cons_unit _ _ _ _ _ ?_ (View.allAt_nil _ _))
  · intro x hx
    obtain rfl : x = ix3 0 p q := Cert.Tile.plane_eq x _ rfl (hx 1) (hx 2)
    unfold_payloads
    pointwise
    rfl
  · intro x hx
    have h2 : (x 0).val < 1 := (x 0).isLt
    exact absurd (hx 0) (by show ¬ (1 = 0 + (x 0).val); omega)

theorem ref_gate (x0 : Vec Ideal S4224x1024 .bf16) (x1 : Vec Ideal S1024x5632 .bf16) (p : Fin 4224) (q : Fin 2816) :
    val_main_v10 (F := Ideal) x0 x1 (ix3 0 p q) = dot x0 x1 p (lo q) := by
  pointwise [val_main_v0, val_main_v1, val_main_v2, val_main_v3, val_main_v4, val_main_call0_v0, val_main_call0_v1, val_main_call0_cst, val_main_call0_v2, val_main_call0_v3, val_main_call0_cst_0, val_main_call0_v4, val_main_call0_v5, val_main_v5, val_main_v6, val_main_v7, val_main_v8, val_main_v9, val_main_v10, val_main_v11, val_main_v12, val_main_v13]
  rfl

theorem ref_val (x0 : Vec Ideal S4224x1024 .bf16) (x1 : Vec Ideal S1024x5632 .bf16) (p : Fin 4224) (q : Fin 2816) :
    val_main_v10 (F := Ideal) x0 x1 (ix3 1 p q) = dot x0 x1 p (hi q) := by
  pointwise [val_main_v0, val_main_v1, val_main_v2, val_main_v3, val_main_v4, val_main_call0_v0, val_main_call0_v1, val_main_call0_cst, val_main_call0_v2, val_main_call0_v3, val_main_call0_cst_0, val_main_call0_v4, val_main_call0_v5, val_main_v5, val_main_v6, val_main_v7, val_main_v8, val_main_v9, val_main_v10, val_main_v11, val_main_v12, val_main_v13]
  rfl

variable (m : (ℓ : Loc nD τ sig) → Buf (Elt Ideal) ℓ)

/-- The two products of a block are the products of the whole arrays at that block's rows and columns. -/
theorem dot_gate (c : Dev nD) (t : Fin cfg0.N) (p : Fin 384) (q : Fin 1408) (r : Fin 4224) (k : Fin 2816)
    (hr : r.val = 384 * (t.val % 11) + p.val) (hk : k.val = 1408 * (t.val / 11) + q.val) :
    dot (iblk m c 0 t) (iblk m c 1 t) p q = dot (m ((c : Thread nD τ).loc main_arg0)) (m ((c : Thread nD τ).loc main_arg1)) r (lo k) := by
  unfold dot lo
  refine Finset.sum_congr rfl fun x _ => ?_
  rw [rd_0, rd_1]
  congr 3 <;> exact Fin.ext (by simp only [hr, hk])

theorem dot_val (c : Dev nD) (t : Fin cfg0.N) (p : Fin 384) (q : Fin 1408) (r : Fin 4224) (k : Fin 2816)
    (hr : r.val = 384 * (t.val % 11) + p.val) (hk : k.val = 1408 * (t.val / 11) + q.val) :
    dot (iblk m c 0 t) (iblk m c 2 t) p q = dot (m ((c : Thread nD τ).loc main_arg0)) (m ((c : Thread nD τ).loc main_arg1)) r (hi k) := by
  unfold dot hi
  refine Finset.sum_congr rfl fun x _ => ?_
  rw [rd_0, rd_2]
  congr 3 <;> exact Fin.ext (by simp only [hr, hk]; try omega)

/-- What point `t` writes back to output window 3 is that block of the reference's result. -/
theorem flushed_3 (c : Dev nD) (t : Fin cfg0.N) :
    (dats m 0 c).flushed 3 t = ((cfg0.win 3).blk t).view.read (Elt Ideal) (val_main_v10 (F := Ideal) (m ((c : Thread nD τ).loc main_arg0)) (m ((c : Thread nD τ).loc main_arg1))) := by
  rw [Cert.KFfiIdeal.Value.flushed3]
  funext y
  obtain ⟨e, p, q, rfl⟩ : ∃ (e : Fin 2) (p : Fin 384) (q : Fin 1408), y = ix3 e p q := ⟨y 0, y 1, y 2, eq_ix3 y⟩
  refine Eq.trans ?_ (ow_3 c t _ e p q).symm
  match e with
  | ⟨0, _⟩ => exact (out_gate _ _ _ p q).trans ((dot_gate m c t p q _ _ rfl rfl).trans (ref_gate _ _ _ _).symm)
  | ⟨1, _⟩ => exact (out_val _ _ _ p q).trans ((dot_val m c t p q _ _ rfl rfl).trans (ref_val _ _ _ _).symm)

/-- What point `t` writes back to output window 4 is that block of the reference's result. -/
theorem flushed_4 (c : Dev nD) (t : Fin cfg0.N) :
    (dats m 0 c).flushed 4 t = ((cfg0.win 4).blk t).view.read (Elt Ideal) (val_main_v11 (F := Ideal) (m ((c : Thread nD τ).loc main_arg0)) (m ((c : Thread nD τ).loc main_arg1))) := by
  rw [Cert.KFfiIdeal.Value.flushed4]
  funext y
  obtain ⟨p, q, rfl⟩ : ∃ (p : Fin 384) (q : Fin 1408), y = ix2 p q := ⟨y 0, y 1, eq_ix2 y⟩
  refine Eq.trans ?_ (ow_4 c t _ p q).symm
  refine (out_4 _ _ _ p q).trans (Eq.trans ?_ (ref_4 _ _ _ _).symm)
  exact congrArg₂ silu (dot_gate m c t p q _ _ rfl rfl) (dot_val m c t p q _ _ rfl rfl)

/-- What point `t` writes back to output window 5 is that block of the reference's result. -/
theorem flushed_5 (c : Dev nD) (t : Fin cfg0.N) :
    (dats m 0 c).flushed 5 t = ((cfg0.win 5).blk t).view.read (Elt Ideal) (val_main_v13 (F := Ideal) (m ((c : Thread nD τ).loc main_arg0)) (m ((c : Thread nD τ).loc main_arg1))) := by
  rw [Cert.KFfiIdeal.Value.flushed5]
  funext y
  obtain ⟨p, q, rfl⟩ : ∃ (p : Fin 1408) (q : Fin 384), y = ix2 p q := ⟨y 0, y 1, eq_ix2 y⟩
  refine Eq.trans ?_ (ow_5 c t _ p q).symm
  refine (out_5 _ _ _ p q).trans (Eq.trans ?_ (ref_5 _ _ _ _).symm)
  exact congrArg₂ silu (dot_gate m c t q p _ _ rfl rfl) (dot_val m c t q p _ _ rfl rfl)

/-- The value claim of this call. -/
theorem algebraic : Cert.algebraic_KFfiIdeal_RFfiIdeal := by
  intro m g m' g' _ ha
  refine ⟨fun c => (dats m 0 c).arrAt 3 cfg0.N, fun c => (dats m 0 c).arrAt 4 cfg0.N, fun c => (dats m 0 c).arrAt 5 cfg0.N, Cert.KFfiIdeal.Value.run_blocks m g, ?_⟩
  refine (θ_run _ _ _).mono (fun r h c => ?_) (Cert.RFfiIdeal.Value.run m' g')
  obtain ⟨h3, h4, h5, hargs⟩ := h c
  obtain ⟨a0, a1⟩ := ha c
  refine ⟨h3.trans ?_, h4.trans ?_, h5.trans ?_, hargs⟩
  · exact (val_main_v10_eq _ _).trans (Eq.trans (by rw [a0, a1]) ((dats m 0 c).arrAt_eq_of_cover 3 _ (fun t _ => flushed_3 m c t) (cover_3 c)).symm)
  · exact (val_main_v11_eq _ _).trans (Eq.trans (by rw [a0, a1]) ((dats m 0 c).arrAt_eq_of_cover 4 _ (fun t _ => flushed_4 m c t) (cover_4 c)).symm)
  · exact (val_main_v13_eq _ _).trans (Eq.trans (by rw [a0, a1]) ((dats m 0 c).arrAt_eq_of_cover 5 _ (fun t _ => flushed_5 m c t) (cover_5 c)).symm)

end Cert.Ffi

end
-- ==== Proof.Res.Reads.lean ====
/-
  Where the down projection with its residual reads its arrays and writes its results: the rows and columns of each block.
-/
module

public import proofs.«01_k».proof.Proof.Gen.KResIdeal.Value
public import proofs.«01_k».proof.Proof.Tile

@[expose] public section

noncomputable section

namespace Cert.Res

open Cert.KResIdeal Cert.KResIdeal.Gen Idealize.ShloMosaic Idealize.ShloMosaic.TcCoe Idealize.SL.Sem

variable {F : FTy → Type} [FloatOps F]
variable (m : (ℓ : Loc nD τ sig) → Buf (Elt F) ℓ)

theorem n_pts : cfg0.N = 11 := rfl

theorem idx_0 : ∀ t : Fin cfg0.N, win0_0.index t = ![t.val, 0] :=
  (by decide +kernel : ∀ t : Fin grid0.N, win0_0.index t = ![t.val, 0])

theorem idx_1 : ∀ t : Fin cfg0.N, win0_1.index t = ![0, 0] :=
  (by decide +kernel : ∀ t : Fin grid0.N, win0_1.index t = ![0, 0])

theorem idx_2 : ∀ t : Fin cfg0.N, win0_2.index t = ![t.val, 0] :=
  (by decide +kernel : ∀ t : Fin grid0.N, win0_2.index t = ![t.val, 0])

theorem idx_3 : ∀ t : Fin cfg0.N, win0_3.index t = ![t.val, 0] :=
  (by decide +kernel : ∀ t : Fin grid0.N, win0_3.index t = ![t.val, 0])

/-- Input window 0 reads its array at these coordinates. -/
theorem rd_0 (c : Dev nD) (t : Fin cfg0.N) (p : Fin 384) (q : Fin 2816) :
    iblk m c 0 t (ix2 p q : S384x2816.Idx) = m ((c : Thread nD τ).loc main_arg0) (ix2 ⟨384 * t.val + p.val, by have := t.isLt; have := p.isLt; have := n_pts; omega⟩ q : S4224x2816.Idx) := by
  refine Cert.Tile.slice_read (Val := Elt F) (b := main_arg0) (win0_0.rect t) _ _ _ fun a => ?_
  rw [Pipeline.Window.rect_emb_val win0_0 t _ a rfl, idx_0 t]
  match a with
  | ⟨0, _⟩ => exact Cert.Tile.at_block _ _ _
  | ⟨1, _⟩ => exact Cert.Tile.at_zero _ _

/-- Input window 1 reads its array at these coordinates. -/
theorem rd_1 (c : Dev nD) (t : Fin cfg0.N) (p : Fin 2816) (q : Fin 1024) :
    iblk m c 1 t (ix2 p q : S2816x1024.Idx) = m ((c : Thread nD τ).loc main_arg1) (ix2 p q : S2816x1024.Idx) := by
  refine Cert.Tile.slice_read (Val := Elt F) (b := main_arg1) (win0_1.rect t) _ _ _ fun a => ?_
  rw [Pipeline.Window.rect_emb_val win0_1 t _ a rfl, idx_1 t]
  match a with
  | ⟨0, _⟩ => exact Cert.Tile.at_zero _ _
  | ⟨1, _⟩ => exact Cert.Tile.at_zero _ _

/-- Input window 2 reads its array at these coordinates. -/
theorem rd_2 (c : Dev nD) (t : Fin cfg0.N) (p : Fin 384) (q : Fin 1024) :
    iblk m c 2 t (ix2 p q : S384x1024.Idx) = m ((c : Thread nD τ).loc main_arg2) (ix2 ⟨384 * t.val + p.val, by have := t.isLt; have := p.isLt; have := n_pts; omega⟩ q : S4224x1024.Idx) := by
  refine Cert.Tile.slice_read (Val := Elt F) (b := main_arg2) (win0_2.rect t) _ _ _ fun a => ?_
  rw [Pipeline.Window.rect_emb_val win0_2 t _ a rfl, idx_2 t]
  match a with
  | ⟨0, _⟩ => exact Cert.Tile.at_block _ _ _
  | ⟨1, _⟩ => exact Cert.Tile.at_zero _ _

/-- The block of output window 3 at point `t`, read off an array `G`. -/
theorem ow_3 (c : Dev nD) (t : Fin cfg0.N) (G : Vec F S4224x1024 .f32) (p : Fin 384) (q : Fin 1024) :
    ((cfg0.win 3).blk t).view.read (Elt F) G (ix2 p q : S384x1024.Idx) = G (ix2 ⟨384 * t.val + p.val, by have := t.isLt; have := p.isLt; have := n_pts; omega⟩ q : S4224x1024.Idx) := by
  refine Cert.Tile.slice_read (Val := Elt F) (b := main_v0) (win0_3.rect t) _ _ _ fun a => ?_
  rw [Pipeline.Window.rect_emb_val win0_3 t _ a rfl, idx_3 t]
  match a with
  | ⟨0, _⟩ => exact Cert.Tile.at_block _ _ _
  | ⟨1, _⟩ => exact Cert.Tile.at_zero _ _

/-- Every element of output window 3's array lies in a block that is written back. -/
theorem cover_3 (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0).val < 4224 := (i 0).isLt
  have h1 : (i 1).val < 1024 := (i 1).isLt
  obtain ⟨t, ht⟩ : ∃ t : Fin cfg0.N, t.val = (i 0).val / 384 := ⟨⟨(i 0).val / 384, by have := n_pts; omega⟩, rfl⟩
  refine ⟨t, flush0_3 t, ?_⟩
  show i ∈ ((View.whole main_v0).slice (win0_3.rect t)).set
  rw [View.set_slice_whole, Rect.mem_set_unit]
  intro a
  show win0_3.index t a * S384x1024.size a ≤ _ ∧ _ < win0_3.index t a * S384x1024.size a + S384x1024.size a
  rw [idx_3]
  match a with
  | ⟨0, _⟩ => exact (by omega : t.val * 384 ≤ (i 0).val ∧ (i 0).val < t.val * 384 + 384)
  | ⟨1, _⟩ => exact (by omega : 0 * 1024 ≤ (i 1).val ∧ (i 1).val < 0 * 1024 + 1024)

end Cert.Res

end
-- ==== Proof.Res.Claim.lean ====
/-
  The down projection with its residual, over the whole arrays.
-/
module

public import proofs.«01_k».proof.Defs
public import proofs.«01_k».proof.Proof.Res.Reads
public import proofs.«01_k».proof.Proof.Gen.RResIdeal.Read
public import proofs.«01_k».proof.Proof.Gen.RResIdeal.Run

@[expose] public section

noncomputable section

namespace Cert.Res

open Cert.KResIdeal Cert.KResIdeal.Gen Idealize.ShloMosaic Idealize.ShloMosaic.TcCoe Idealize.SL.Sem
open Cert.RResIdeal.Read

theorem out_3 (x0 : Vec Ideal S384x2816 .bf16) (x1 : Vec Ideal S2816x1024 .bf16) (x2 : Vec Ideal S384x1024 .f32) (p : Fin 384) (q : Fin 1024) :
    out0_3 x0 x1 x2 (ix2 p q) = x2 (ix2 p q) + Ideal.ofBits .f32 0x3F000000#32 * ∑ k : Fin 2816, x0 (ix2 p k) * x1 (ix2 k q) := by
  unfold out0_3
  rw [View.canon_unit_zero Cert.Tile.zeros2]
  unfold_payloads
  pointwise

theorem ref_3 (x0 : Vec Ideal S4224x2816 .bf16) (x1 : Vec Ideal S2816x1024 .bf16) (x2 : Vec Ideal S4224x1024 .f32) (p : Fin 4224) (q : Fin 1024) :
    val_main_v5 (F := Ideal) x0 x1 x2 (ix2 p q) = x2 (ix2 p q) + Ideal.ofBits .f32 0x3F000000#32 * ∑ k : Fin 2816, x0 (ix2 p k) * x1 (ix2 k q) := by
  pointwise [val_main_v0, val_main_v1, val_main_v2, val_main_cst, val_main_v3, val_main_v4, val_main_v5]

variable (m : (ℓ : Loc nD τ sig) → Buf (Elt Ideal) ℓ)

/-- What point `t` writes back to output window 3 is that block of the reference's result. -/
theorem flushed_3 (c : Dev nD) (t : Fin cfg0.N) :
    (dats m 0 c).flushed 3 t = ((cfg0.win 3).blk t).view.read (Elt Ideal) (val_main_v5 (F := Ideal) (m ((c : Thread nD τ).loc main_arg0)) (m ((c : Thread nD τ).loc main_arg1)) (m ((c : Thread nD τ).loc main_arg2))) := by
  rw [Cert.KResIdeal.Value.flushed3]
  funext y
  obtain ⟨p, q, rfl⟩ : ∃ (p : Fin 384) (q : Fin 1024), y = ix2 p q := ⟨y 0, y 1, eq_ix2 y⟩
  refine Eq.trans ?_ (ow_3 c t _ p q).symm
  refine (out_3 _ _ _ p q).trans (Eq.trans ?_ (ref_3 _ _ _ _ _).symm)
  simp only [rd_0, rd_1, rd_2]

/-- The value claim of this call. -/
theorem algebraic : Cert.algebraic_KResIdeal_RResIdeal := by
  intro m g m' g' _ ha
  refine ⟨fun c => (dats m 0 c).arrAt 3 cfg0.N, Cert.KResIdeal.Value.run_blocks m g, ?_⟩
  refine (θ_run _ _ _).mono (fun r h c => ?_) (Cert.RResIdeal.Value.run m' g')
  obtain ⟨h3, hargs⟩ := h c
  obtain ⟨a0, a1, a2⟩ := ha c
  refine ⟨h3.trans ?_, hargs⟩
  · exact (val_main_v5_eq _ _ _).trans (Eq.trans (by rw [a0, a1, a2]) ((dats m 0 c).arrAt_eq_of_cover 3 _ (fun t _ => flushed_3 m c t) (cover_3 c)).symm)

end Cert.Res

end
-- ==== Proof.Proj.Reads.lean ====
/-
  Where the mixing projection reads its arrays and writes its results: the rows and columns of each block.
-/
module

public import proofs.«01_k».proof.Proof.Gen.KProjIdeal.Value
public import proofs.«01_k».proof.Proof.Tile

@[expose] public section

noncomputable section

namespace Cert.Proj

open Cert.KProjIdeal Cert.KProjIdeal.Gen Idealize.ShloMosaic Idealize.ShloMosaic.TcCoe Idealize.SL.Sem

variable {F : FTy → Type} [FloatOps F]
variable (m : (ℓ : Loc nD τ sig) → Buf (Elt F) ℓ)

theorem n_pts : cfg0.N = 11 := rfl

theorem idx_0 : ∀ t : Fin cfg0.N, win0_0.index t = ![t.val, 0] :=
  (by decide +kernel : ∀ t : Fin grid0.N, win0_0.index t = ![t.val, 0])

theorem idx_1 : ∀ t : Fin cfg0.N, win0_1.index t = ![0, 0] :=
  (by decide +kernel : ∀ t : Fin grid0.N, win0_1.index t = ![0, 0])

theorem idx_2 : ∀ t : Fin cfg0.N, win0_2.index t = ![t.val, 0] :=
  (by decide +kernel : ∀ t : Fin grid0.N, win0_2.index t = ![t.val, 0])

/-- Input window 0 reads its array at these coordinates. -/
theorem rd_0 (c : Dev nD) (t : Fin cfg0.N) (p : Fin 384) (q : Fin 1024) :
    iblk m c 0 t (ix2 p q : S384x1024.Idx) = m ((c : Thread nD τ).loc main_arg0) (ix2 ⟨384 * t.val + p.val, by have := t.isLt; have := p.isLt; have := n_pts; omega⟩ q : S4224x1024.Idx) := by
  refine Cert.Tile.slice_read (Val := Elt F) (b := main_arg0) (win0_0.rect t) _ _ _ fun a => ?_
  rw [Pipeline.Window.rect_emb_val win0_0 t _ a rfl, idx_0 t]
  match a with
  | ⟨0, _⟩ => exact Cert.Tile.at_block _ _ _
  | ⟨1, _⟩ => exact Cert.Tile.at_zero _ _

/-- Input window 1 reads its array at these coordinates. -/
theorem rd_1 (c : Dev nD) (t : Fin cfg0.N) (p : Fin 1024) (q : Fin 4480) :
    iblk m c 1 t (ix2 p q : S1024x4480.Idx) = m ((c : Thread nD τ).loc main_arg1) (ix2 p q : S1024x4480.Idx) := by
  refine Cert.Tile.slice_read (Val := Elt F) (b := main_arg1) (win0_1.rect t) _ _ _ fun a => ?_
  rw [Pipeline.Window.rect_emb_val win0_1 t _ a rfl, idx_1 t]
  match a with
  | ⟨0, _⟩ => exact Cert.Tile.at_zero _ _
  | ⟨1, _⟩ => exact Cert.Tile.at_zero _ _

/-- The block of output window 2 at point `t`, read off an array `G`. -/
theorem ow_2 (c : Dev nD) (t : Fin cfg0.N) (G : Vec F S4224x4480 .f32) (p : Fin 384) (q : Fin 4480) :
    ((cfg0.win 2).blk t).view.read (Elt F) G (ix2 p q : S384x4480.Idx) = G (ix2 ⟨384 * t.val + p.val, by have := t.isLt; have := p.isLt; have := n_pts; omega⟩ q : S4224x4480.Idx) := by
  refine Cert.Tile.slice_read (Val := Elt F) (b := main_v0) (win0_2.rect t) _ _ _ fun a => ?_
  rw [Pipeline.Window.rect_emb_val win0_2 t _ a rfl, idx_2 t]
  match a with
  | ⟨0, _⟩ => exact Cert.Tile.at_block _ _ _
  | ⟨1, _⟩ => exact Cert.Tile.at_zero _ _

/-- Every element of output window 2's array lies in a block that is written back. -/
theorem cover_2 (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0).val < 4224 := (i 0).isLt
  have h1 : (i 1).val < 4480 := (i 1).isLt
  obtain ⟨t, ht⟩ : ∃ t : Fin cfg0.N, t.val = (i 0).val / 384 := ⟨⟨(i 0).val / 384, by have := n_pts; omega⟩, rfl⟩
  refine ⟨t, flush0_2 t, ?_⟩
  show i ∈ ((View.whole main_v0).slice (win0_2.rect t)).set
  rw [View.set_slice_whole, Rect.mem_set_unit]
  intro a
  show win0_2.index t a * S384x4480.size a ≤ _ ∧ _ < win0_2.index t a * S384x4480.size a + S384x4480.size a
  rw [idx_2]
  match a with
  | ⟨0, _⟩ => exact (by omega : t.val * 384 ≤ (i 0).val ∧ (i 0).val < t.val * 384 + 384)
  | ⟨1, _⟩ => exact (by omega : 0 * 4480 ≤ (i 1).val ∧ (i 1).val < 0 * 4480 + 4480)

end Cert.Proj

end
-- ==== Proof.Proj.Claim.lean ====
/-
  The mixing projection, over the whole arrays.
-/
module

public import proofs.«01_k».proof.Defs
public import proofs.«01_k».proof.Proof.Proj.Reads
public import proofs.«01_k».proof.Proof.Gen.RProjIdeal.Read
public import proofs.«01_k».proof.Proof.Gen.RProjIdeal.Run

@[expose] public section

noncomputable section

namespace Cert.Proj

open Cert.KProjIdeal Cert.KProjIdeal.Gen Idealize.ShloMosaic Idealize.ShloMosaic.TcCoe Idealize.SL.Sem
open Cert.RProjIdeal.Read

theorem out_2 (x0 : Vec Ideal S384x1024 .bf16) (x1 : Vec Ideal S1024x4480 .bf16) (p : Fin 384) (q : Fin 4480) :
    out0_2 x0 x1 (ix2 p q) = ∑ k : Fin 1024, x0 (ix2 p k) * x1 (ix2 k q) := by
  unfold out0_2
  rw [View.canon_unit_zero Cert.Tile.zeros2]
  unfold_payloads
  pointwise

theorem ref_2 (x0 : Vec Ideal S4224x1024 .bf16) (x1 : Vec Ideal S1024x4480 .bf16) (p : Fin 4224) (q : Fin 4480) :
    val_main_v2 (F := Ideal) x0 x1 (ix2 p q) = ∑ k : Fin 1024, x0 (ix2 p k) * x1 (ix2 k q) := by
  pointwise [val_main_v0, val_main_v1, val_main_v2]

variable (m : (ℓ : Loc nD τ sig) → Buf (Elt Ideal) ℓ)

/-- What point `t` writes back to output window 2 is that block of the reference's result. -/
theorem flushed_2 (c : Dev nD) (t : Fin cfg0.N) :
    (dats m 0 c).flushed 2 t = ((cfg0.win 2).blk t).view.read (Elt Ideal) (val_main_v2 (F := Ideal) (m ((c : Thread nD τ).loc main_arg0)) (m ((c : Thread nD τ).loc main_arg1))) := by
  rw [Cert.KProjIdeal.Value.flushed2]
  funext y
  obtain ⟨p, q, rfl⟩ : ∃ (p : Fin 384) (q : Fin 4480), y = ix2 p q := ⟨y 0, y 1, eq_ix2 y⟩
  refine Eq.trans ?_ (ow_2 c t _ p q).symm
  refine (out_2 _ _ p q).trans (Eq.trans ?_ (ref_2 _ _ _ _).symm)
  simp only [rd_0, rd_1]

/-- The value claim of this call. -/
theorem algebraic : Cert.algebraic_KProjIdeal_RProjIdeal := by
  intro m g m' g' _ ha
  refine ⟨fun c => (dats m 0 c).arrAt 2 cfg0.N, Cert.KProjIdeal.Value.run_blocks m g, ?_⟩
  refine (θ_run _ _ _).mono (fun r h c => ?_) (Cert.RProjIdeal.Value.run m' g')
  obtain ⟨h2, hargs⟩ := h c
  obtain ⟨a0, a1⟩ := ha c
  refine ⟨h2.trans ?_, hargs⟩
  · exact (val_main_v2_eq _ _).trans (Eq.trans (by rw [a0, a1]) ((dats m 0 c).arrAt_eq_of_cover 2 _ (fun t _ => flushed_2 m c t) (cover_2 c)).symm)

end Cert.Proj

end
-- ==== Proof.Gf.Reads.lean ====
/-
  Where the forward gate reads its arrays and writes its results: the rows and columns of each block.
-/
module

public import proofs.«01_k».proof.Proof.Gen.KGfIdeal.Value
public import proofs.«01_k».proof.Proof.Tile

@[expose] public section

noncomputable section

namespace Cert.Gf

open Cert.KGfIdeal Cert.KGfIdeal.Gen Idealize.ShloMosaic Idealize.ShloMosaic.TcCoe Idealize.SL.Sem

variable {F : FTy → Type} [FloatOps F]
variable (m : (ℓ : Loc nD τ sig) → Buf (Elt F) ℓ)

theorem n_pts : cfg0.N = 11 := rfl

theorem idx_0 : ∀ t : Fin cfg0.N, win0_0.index t = ![t.val, 0] :=
  (by decide +kernel : ∀ t : Fin grid0.N, win0_0.index t = ![t.val, 0])

theorem idx_1 : ∀ t : Fin cfg0.N, win0_1.index t = ![t.val, 0] :=
  (by decide +kernel : ∀ t : Fin grid0.N, win0_1.index t = ![t.val, 0])

theorem idx_2 : ∀ t : Fin cfg0.N, win0_2.index t = ![0, 0] :=
  (by decide +kernel : ∀ t : Fin grid0.N, win0_2.index t = ![0, 0])

theorem idx_3 : ∀ t : Fin cfg0.N, win0_3.index t = ![0, 0] :=
  (by decide +kernel : ∀ t : Fin grid0.N, win0_3.index t = ![0, 0])

theorem idx_4 : ∀ t : Fin cfg0.N, win0_4.index t = ![t.val, 0] :=
  (by decide +kernel : ∀ t : Fin grid0.N, win0_4.index t = ![t.val, 0])

theorem idx_5 : ∀ t : Fin cfg0.N, win0_5.index t = ![t.val, 1] :=
  (by decide +kernel : ∀ t : Fin grid0.N, win0_5.index t = ![t.val, 1])

theorem idx_6 : ∀ t : Fin cfg0.N, win0_6.index t = ![0, 0] :=
  (by decide +kernel : ∀ t : Fin grid0.N, win0_6.index t = ![0, 0])

theorem idx_7 : ∀ t : Fin cfg0.N, win0_7.index t = ![t.val, 0] :=
  (by decide +kernel : ∀ t : Fin grid0.N, win0_7.index t = ![t.val, 0])

theorem idx_8 : ∀ t : Fin cfg0.N, win0_8.index t = ![t.val, 0] :=
  (by decide +kernel : ∀ t : Fin grid0.N, win0_8.index t = ![t.val, 0])

theorem idx_9 : ∀ t : Fin cfg0.N, win0_9.index t = ![0, t.val] :=
  (by decide +kernel : ∀ t : Fin grid0.N, win0_9.index t = ![0, t.val])

theorem idx_10 : ∀ t : Fin cfg0.N, win0_10.index t = ![t.val, 0] :=
  (by decide +kernel : ∀ t : Fin grid0.N, win0_10.index t = ![t.val, 0])

theorem idx_11 : ∀ t : Fin cfg0.N, win0_11.index t = ![t.val, 0] :=
  (by decide +kernel : ∀ t : Fin grid0.N, win0_11.index t = ![t.val, 0])

theorem idx_12 : ∀ t : Fin cfg0.N, win0_12.index t = ![0, t.val] :=
  (by decide +kernel : ∀ t : Fin grid0.N, win0_12.index t = ![0, t.val])

theorem idx_13 : ∀ t : Fin cfg0.N, win0_13.index t = ![0, t.val] :=
  (by decide +kernel : ∀ t : Fin grid0.N, win0_13.index t = ![0, t.val])

/-- Input window 0 reads its array at these coordinates. -/
theorem rd_0 (c : Dev nD) (t : Fin cfg0.N) (p : Fin 384) (q : Fin 512) :
    iblk m c 0 t (ix2 p q : S384x512.Idx) = m ((c : Thread nD τ).loc main_arg0) (ix2 ⟨384 * t.val + p.val, by have := t.isLt; have := p.isLt; have := n_pts; omega⟩ q : S4224x512.Idx) := by
  refine Cert.Tile.slice_read (Val := Elt F) (b := main_arg0) (win0_0.rect t) _ _ _ fun a => ?_
  rw [Pipeline.Window.rect_emb_val win0_0 t _ a rfl, idx_0 t]
  match a with
  | ⟨0, _⟩ => exact Cert.Tile.at_block _ _ _
  | ⟨1, _⟩ => exact Cert.Tile.at_zero _ _

/-- Input window 1 reads its array at these coordinates. -/
theorem rd_1 (c : Dev nD) (t : Fin cfg0.N) (p : Fin 384) (q : Fin 512) :
    iblk m c 1 t (ix2 p q : S384x512.Idx) = m ((c : Thread nD τ).loc main_arg1) (ix2 ⟨384 * t.val + p.val, by have := t.isLt; have := p.isLt; have := n_pts; omega⟩ q : S4224x512.Idx) := by
  refine Cert.Tile.slice_read (Val := Elt F) (b := main_arg1) (win0_1.rect t) _ _ _ fun a => ?_
  rw [Pipeline.Window.rect_emb_val win0_1 t _ a rfl, idx_1 t]
  match a with
  | ⟨0, _⟩ => exact Cert.Tile.at_block _ _ _
  | ⟨1, _⟩ => exact Cert.Tile.at_zero _ _

/-- Input window 2 reads its array at these coordinates. -/
theorem rd_2 (c : Dev nD) (t : Fin cfg0.N) (p : Fin 512) (q : Fin 1024) :
    iblk m c 2 t (ix2 p q : S512x1024.Idx) = m ((c : Thread nD τ).loc main_arg2) (ix2 p q : S512x1024.Idx) := by
  refine Cert.Tile.slice_read (Val := Elt F) (b := main_arg2) (win0_2.rect t) _ _ _ fun a => ?_
  rw [Pipeline.Window.rect_emb_val win0_2 t _ a rfl, idx_2 t]
  match a with
  | ⟨0, _⟩ => exact Cert.Tile.at_zero _ _
  | ⟨1, _⟩ => exact Cert.Tile.at_zero _ _

/-- Input window 3 reads its array at these coordinates. -/
theorem rd_3 (c : Dev nD) (t : Fin cfg0.N) (p : Fin 512) (q : Fin 1024) :
    iblk m c 3 t (ix2 p q : S512x1024.Idx) = m ((c : Thread nD τ).loc main_arg3) (ix2 p q : S512x1024.Idx) := by
  refine Cert.Tile.slice_read (Val := Elt F) (b := main_arg3) (win0_3.rect t) _ _ _ fun a => ?_
  rw [Pipeline.Window.rect_emb_val win0_3 t _ a rfl, idx_3 t]
  match a with
  | ⟨0, _⟩ => exact Cert.Tile.at_zero _ _
  | ⟨1, _⟩ => exact Cert.Tile.at_zero _ _

/-- Input window 4 reads its array at these coordinates. -/
theorem rd_4 (c : Dev nD) (t : Fin cfg0.N) (p : Fin 384) (q : Fin 1024) :
    X0_4 m c t (ix2 p q : S384x1024.Idx) = m ((c : Thread nD τ).loc main_arg4) (ix2 ⟨384 * t.val + p.val, by have := t.isLt; have := p.isLt; have := n_pts; omega⟩ ⟨q.val, by have := q.isLt; omega⟩ : S4224x4480.Idx) := by
  unfold X0_4 Pipeline.Window.fill
  rw [dif_pos (moved0_4 t _)]
  refine Cert.Tile.slice_read (Val := Elt F) (b := main_arg4) (win0_4.rect t) _ _ _ fun a => ?_
  rw [Pipeline.Window.rect_emb_val win0_4 t _ a rfl, idx_4 t]
  match a with
  | ⟨0, _⟩ => exact Cert.Tile.at_block _ _ _
  | ⟨1, _⟩ => exact Cert.Tile.at_zero _ _

/-- Input window 5 reads its array at these coordinates. -/
theorem rd_5 (c : Dev nD) (t : Fin cfg0.N) (p : Fin 384) (q : Fin 1024) :
    X0_5 m c t (ix2 p q : S384x1024.Idx) = m ((c : Thread nD τ).loc main_arg4) (ix2 ⟨384 * t.val + p.val, by have := t.isLt; have := p.isLt; have := n_pts; omega⟩ ⟨1024 + q.val, by have := q.isLt; omega⟩ : S4224x4480.Idx) := by
  unfold X0_5 Pipeline.Window.fill
  rw [dif_pos (moved0_5 t _)]
  refine Cert.Tile.slice_read (Val := Elt F) (b := main_arg4) (win0_5.rect t) _ _ _ fun a => ?_
  rw [Pipeline.Window.rect_emb_val win0_5 t _ a rfl, idx_5 t]
  match a with
  | ⟨0, _⟩ => exact Cert.Tile.at_block _ _ _
  | ⟨1, _⟩ => exact Cert.Tile.at_block _ _ _

/-- Input window 6 reads its array at these coordinates. -/
theorem rd_6 (c : Dev nD) (t : Fin cfg0.N) (p : Fin 1024) (q : Fin 1024) :
    iblk m c 6 t (ix2 p q : S1024x1024.Idx) = m ((c : Thread nD τ).loc main_arg5) (ix2 p q : S1024x1024.Idx) := by
  refine Cert.Tile.slice_read (Val := Elt F) (b := main_arg5) (win0_6.rect t) _ _ _ fun a => ?_
  rw [Pipeline.Window.rect_emb_val win0_6 t _ a rfl, idx_6 t]
  match a with
  | ⟨0, _⟩ => exact Cert.Tile.at_zero _ _
  | ⟨1, _⟩ => exact Cert.Tile.at_zero _ _

/-- Input window 7 reads its array at these coordinates. -/
theorem rd_7 (c : Dev nD) (t : Fin cfg0.N) (p : Fin 384) (q : Fin 1024) :
    iblk m c 7 t (ix2 p q : S384x1024.Idx) = m ((c : Thread nD τ).loc main_arg6) (ix2 ⟨384 * t.val + p.val, by have := t.isLt; have := p.isLt; have := n_pts; omega⟩ q : S4224x1024.Idx) := by
  refine Cert.Tile.slice_read (Val := Elt F) (b := main_arg6) (win0_7.rect t) _ _ _ fun a => ?_
  rw [Pipeline.Window.rect_emb_val win0_7 t _ a rfl, idx_7 t]
  match a with
  | ⟨0, _⟩ => exact Cert.Tile.at_block _ _ _
  | ⟨1, _⟩ => exact Cert.Tile.at_zero _ _

/-- The block of output window 8 at point `t`, read off an array `G`. -/
theorem ow_8 (c : Dev nD) (t : Fin cfg0.N) (G : Vec F S4224x1024 .f32) (p : Fin 384) (q : Fin 1024) :
    ((cfg0.win 8).blk t).view.read (Elt F) G (ix2 p q : S384x1024.Idx) = G (ix2 ⟨384 * t.val + p.val, by have := t.isLt; have := p.isLt; have := n_pts; omega⟩ q : S4224x1024.Idx) := by
  refine Cert.Tile.slice_read (Val := Elt F) (b := main_v0_0) (win0_8.rect t) _ _ _ fun a => ?_
  rw [Pipeline.Window.rect_emb_val win0_8 t _ a rfl, idx_8 t]
  match a with
  | ⟨0, _⟩ => exact Cert.Tile.at_block _ _ _
  | ⟨1, _⟩ => exact Cert.Tile.at_zero _ _

/-- Every element of output window 8's array lies in a block that is written back. -/
theorem cover_8 (c : Dev nD) (i : ((cfg0.win 8).arr.view.loc (c.tc : Thread nD τ)).2.ty.Idx) :
    ∃ t : Fin cfg0.N, (cfg0.win 8).flush t = true ∧ i ∈ ((cfg0.win 8).blk t).view.set := by
  have h0 : (i 0).val < 4224 := (i 0).isLt
  have h1 : (i 1).val < 1024 := (i 1).isLt
  obtain ⟨t, ht⟩ : ∃ t : Fin cfg0.N, t.val = (i 0).val / 384 := ⟨⟨(i 0).val / 384, by have := n_pts; omega⟩, rfl⟩
  refine ⟨t, flush0_8 t, ?_⟩
  show i ∈ ((View.whole main_v0_0).slice (win0_8.rect t)).set
  rw [View.set_slice_whole, Rect.mem_set_unit]
  intro a
  show win0_8.index t a * S384x1024.size a ≤ _ ∧ _ < win0_8.index t a * S384x1024.size a + S384x1024.size a
  rw [idx_8]
  match a with
  | ⟨0, _⟩ => exact (by omega : t.val * 384 ≤ (i 0).val ∧ (i 0).val < t.val * 384 + 384)
  | ⟨1, _⟩ => exact (by omega : 0 * 1024 ≤ (i 1).val ∧ (i 1).val < 0 * 1024 + 1024)

/-- The block of output window 9 at point `t`, read off an array `G`. -/
theorem ow_9 (c : Dev nD) (t : Fin cfg0.N) (G : Vec F S1024x4224 .bf16) (p : Fin 1024) (q : Fin 384) :
    ((cfg0.win 9).blk t).view.read (Elt F) G (ix2 p q : S1024x384.Idx) = G (ix2 p ⟨384 * t.val + q.val, by have := t.isLt; have := q.isLt; have := n_pts; omega⟩ : S1024x4224.Idx) := by
  refine Cert.Tile.slice_read (Val := Elt F) (b := main_v0_1) (win0_9.rect t) _ _ _ fun a => ?_
  rw [Pipeline.Window.rect_emb_val win0_9 t _ a rfl, idx_9 t]
  match a with
  | ⟨0, _⟩ => exact Cert.Tile.at_zero _ _
  | ⟨1, _⟩ => exact Cert.Tile.at_block _ _ _

/-- Every element of output window 9's array lies in a block that is written back. -/
theorem cover_9 (c : Dev nD) (i : ((cfg0.win 9).arr.view.loc (c.tc : Thread nD τ)).2.ty.Idx) :
    ∃ t : Fin cfg0.N, (cfg0.win 9).flush t = true ∧ i ∈ ((cfg0.win 9).blk t).view.set := by
  have h0 : (i 0).val < 1024 := (i 0).isLt
  have h1 : (i 1).val < 4224 := (i 1).isLt
  obtain ⟨t, ht⟩ : ∃ t : Fin cfg0.N, t.val = (i 1).val / 384 := ⟨⟨(i 1).val / 384, by have := n_pts; omega⟩, rfl⟩
  refine ⟨t, flush0_9 t, ?_⟩
  show i ∈ ((View.whole main_v0_1).slice (win0_9.rect t)).set
  rw [View.set_slice_whole, Rect.mem_set_unit]
  intro a
  show win0_9.index t a * S1024x384.size a ≤ _ ∧ _ < win0_9.index t a * S1024x384.size a + S1024x384.size a
  rw [idx_9]
  match a with
  | ⟨0, _⟩ => exact (by omega : 0 * 1024 ≤ (i 0).val ∧ (i 0).val < 0 * 1024 + 1024)
  | ⟨1, _⟩ => exact (by omega : t.val * 384 ≤ (i 1).val ∧ (i 1).val < t.val * 384 + 384)

/-- The block of output window 10 at point `t`, read off an array `G`. -/
theorem ow_10 (c : Dev nD) (t : Fin cfg0.N) (G : Vec F S4224x1024 .bf16) (p : Fin 384) (q : Fin 1024) :
    ((cfg0.win 10).blk t).view.read (Elt F) G (ix2 p q : S384x1024.Idx) = G (ix2 ⟨384 * t.val + p.val, by have := t.isLt; have := p.isLt; have := n_pts; omega⟩ q : S4224x1024.Idx) := by
  refine Cert.Tile.slice_read (Val := Elt F) (b := main_v0_2) (win0_10.rect t) _ _ _ fun a => ?_
  rw [Pipeline.Window.rect_emb_val win0_10 t _ a rfl, idx_10 t]
  match a with
  | ⟨0, _⟩ => exact Cert.Tile.at_block _ _ _
  | ⟨1, _⟩ => exact Cert.Tile.at_zero _ _

/-- Every element of output window 10's array lies in a block that is written back. -/
theorem cover_10 (c : Dev nD) (i : ((cfg0.win 10).arr.view.loc (c.tc : Thread nD τ)).2.ty.Idx) :
    ∃ t : Fin cfg0.N, (cfg0.win 10).flush t = true ∧ i ∈ ((cfg0.win 10).blk t).view.set := by
  have h0 : (i 0).val < 4224 := (i 0).isLt
  have h1 : (i 1).val < 1024 := (i 1).isLt
  obtain ⟨t, ht⟩ : ∃ t : Fin cfg0.N, t.val = (i 0).val / 384 := ⟨⟨(i 0).val / 384, by have := n_pts; omega⟩, rfl⟩
  refine ⟨t, flush0_10 t, ?_⟩
  show i ∈ ((View.whole main_v0_2).slice (win0_10.rect t)).set
  rw [View.set_slice_whole, Rect.mem_set_unit]
  intro a
  show win0_10.index t a * S384x1024.size a ≤ _ ∧ _ < win0_10.index t a * S384x1024.size a + S384x1024.size a
  rw [idx_10]
  match a with
  | ⟨0, _⟩ => exact (by omega : t.val * 384 ≤ (i 0).val ∧ (i 0).val < t.val * 384 + 384)
  | ⟨1, _⟩ => exact (by omega : 0 * 1024 ≤ (i 1).val ∧ (i 1).val < 0 * 1024 + 1024)

/-- The block of output window 11 at point `t`, read off an array `G`. -/
theorem ow_11 (c : Dev nD) (t : Fin cfg0.N) (G : Vec F S4224x1024 .bf16) (p : Fin 384) (q : Fin 1024) :
    ((cfg0.win 11).blk t).view.read (Elt F) G (ix2 p q : S384x1024.Idx) = G (ix2 ⟨384 * t.val + p.val, by have := t.isLt; have := p.isLt; have := n_pts; omega⟩ q : S4224x1024.Idx) := by
  refine Cert.Tile.slice_read (Val := Elt F) (b := main_v0_3) (win0_11.rect t) _ _ _ fun a => ?_
  rw [Pipeline.Window.rect_emb_val win0_11 t _ a rfl, idx_11 t]
  match a with
  | ⟨0, _⟩ => exact Cert.Tile.at_block _ _ _
  | ⟨1, _⟩ => exact Cert.Tile.at_zero _ _

/-- Every element of output window 11's array lies in a block that is written back. -/
theorem cover_11 (c : Dev nD) (i : ((cfg0.win 11).arr.view.loc (c.tc : Thread nD τ)).2.ty.Idx) :
    ∃ t : Fin cfg0.N, (cfg0.win 11).flush t = true ∧ i ∈ ((cfg0.win 11).blk t).view.set := by
  have h0 : (i 0).val < 4224 := (i 0).isLt
  have h1 : (i 1).val < 1024 := (i 1).isLt
  obtain ⟨t, ht⟩ : ∃ t : Fin cfg0.N, t.val = (i 0).val / 384 := ⟨⟨(i 0).val / 384, by have := n_pts; omega⟩, rfl⟩
  refine ⟨t, flush0_11 t, ?_⟩
  show i ∈ ((View.whole main_v0_3).slice (win0_11.rect t)).set
  rw [View.set_slice_whole, Rect.mem_set_unit]
  intro a
  show win0_11.index t a * S384x1024.size a ≤ _ ∧ _ < win0_11.index t a * S384x1024.size a + S384x1024.size a
  rw [idx_11]
  match a with
  | ⟨0, _⟩ => exact (by omega : t.val * 384 ≤ (i 0).val ∧ (i 0).val < t.val * 384 + 384)
  | ⟨1, _⟩ => exact (by omega : 0 * 1024 ≤ (i 1).val ∧ (i 1).val < 0 * 1024 + 1024)

/-- The block of output window 12 at point `t`, read off an array `G`. -/
theorem ow_12 (c : Dev nD) (t : Fin cfg0.N) (G : Vec F S512x4224 .bf16) (p : Fin 512) (q : Fin 384) :
    ((cfg0.win 12).blk t).view.read (Elt F) G (ix2 p q : S512x384.Idx) = G (ix2 p ⟨384 * t.val + q.val, by have := t.isLt; have := q.isLt; have := n_pts; omega⟩ : S512x4224.Idx) := by
  refine Cert.Tile.slice_read (Val := Elt F) (b := main_v0_4) (win0_12.rect t) _ _ _ fun a => ?_
  rw [Pipeline.Window.rect_emb_val win0_12 t _ a rfl, idx_12 t]
  match a with
  | ⟨0, _⟩ => exact Cert.Tile.at_zero _ _
  | ⟨1, _⟩ => exact Cert.Tile.at_block _ _ _

/-- Every element of output window 12's array lies in a block that is written back. -/
theorem cover_12 (c : Dev nD) (i : ((cfg0.win 12).arr.view.loc (c.tc : Thread nD τ)).2.ty.Idx) :
    ∃ t : Fin cfg0.N, (cfg0.win 12).flush t = true ∧ i ∈ ((cfg0.win 12).blk t).view.set := by
  have h0 : (i 0).val < 512 := (i 0).isLt
  have h1 : (i 1).val < 4224 := (i 1).isLt
  obtain ⟨t, ht⟩ : ∃ t : Fin cfg0.N, t.val = (i 1).val / 384 := ⟨⟨(i 1).val / 384, by have := n_pts; omega⟩, rfl⟩
  refine ⟨t, flush0_12 t, ?_⟩
  show i ∈ ((View.whole main_v0_4).slice (win0_12.rect t)).set
  rw [View.set_slice_whole, Rect.mem_set_unit]
  intro a
  show win0_12.index t a * S512x384.size a ≤ _ ∧ _ < win0_12.index t a * S512x384.size a + S512x384.size a
  rw [idx_12]
  match a with
  | ⟨0, _⟩ => exact (by omega : 0 * 512 ≤ (i 0).val ∧ (i 0).val < 0 * 512 + 512)
  | ⟨1, _⟩ => exact (by omega : t.val * 384 ≤ (i 1).val ∧ (i 1).val < t.val * 384 + 384)

/-- The block of output window 13 at point `t`, read off an array `G`. -/
theorem ow_13 (c : Dev nD) (t : Fin cfg0.N) (G : Vec F S512x4224 .bf16) (p : Fin 512) (q : Fin 384) :
    ((cfg0.win 13).blk t).view.read (Elt F) G (ix2 p q : S512x384.Idx) = G (ix2 p ⟨384 * t.val + q.val, by have := t.isLt; have := q.isLt; have := n_pts; omega⟩ : S512x4224.Idx) := by
  refine Cert.Tile.slice_read (Val := Elt F) (b := main_v0_5) (win0_13.rect t) _ _ _ fun a => ?_
  rw [Pipeline.Window.rect_emb_val win0_13 t _ a rfl, idx_13 t]
  match a with
  | ⟨0, _⟩ => exact Cert.Tile.at_zero _ _
  | ⟨1, _⟩ => exact Cert.Tile.at_block _ _ _

/-- Every element of output window 13's array lies in a block that is written back. -/
theorem cover_13 (c : Dev nD) (i : ((cfg0.win 13).arr.view.loc (c.tc : Thread nD τ)).2.ty.Idx) :
    ∃ t : Fin cfg0.N, (cfg0.win 13).flush t = true ∧ i ∈ ((cfg0.win 13).blk t).view.set := by
  have h0 : (i 0).val < 512 := (i 0).isLt
  have h1 : (i 1).val < 4224 := (i 1).isLt
  obtain ⟨t, ht⟩ : ∃ t : Fin cfg0.N, t.val = (i 1).val / 384 := ⟨⟨(i 1).val / 384, by have := n_pts; omega⟩, rfl⟩
  refine ⟨t, flush0_13 t, ?_⟩
  show i ∈ ((View.whole main_v0_5).slice (win0_13.rect t)).set
  rw [View.set_slice_whole, Rect.mem_set_unit]
  intro a
  show win0_13.index t a * S512x384.size a ≤ _ ∧ _ < win0_13.index t a * S512x384.size a + S512x384.size a
  rw [idx_13]
  match a with
  | ⟨0, _⟩ => exact (by omega : 0 * 512 ≤ (i 0).val ∧ (i 0).val < 0 * 512 + 512)
  | ⟨1, _⟩ => exact (by omega : t.val * 384 ≤ (i 1).val ∧ (i 1).val < t.val * 384 + 384)

end Cert.Gf

end
-- ==== Proof.Gf.Blocks.lean ====
/-
  What each point of the forward gate leaves in its output blocks, as the products it stores.
-/
module

public import proofs.«01_k».proof.Proof.Gf.Reads
public import Idealize.ShloMosaic.Lib.WritesUnit

@[expose] public section

noncomputable section

namespace Cert.Gf

open Cert.KGfIdeal Cert.KGfIdeal.Gen Idealize.ShloMosaic Idealize.ShloMosaic.TcCoe Idealize.SL.Sem

variable {F : FTy → Type} [FloatOps F]
variable (m : (ℓ : Loc nD τ sig) → Buf (Elt F) ℓ)

theorem outs_8 (c : Dev nD) (t : Fin cfg0.N) : (outsAt0 m c t).1 = k0_pay9 (iblk m c 0 t) (iblk m c 2 t) (iblk m c 1 t) (iblk m c 3 t) (X0_4 m c t) (X0_5 m c t) (iblk m c 7 t) (iblk m c 6 t) := by
  unfold outsAt0 out0_A_8
  dsimp only
  rw [View.read_writes_eq_canon _ _ _ (cover0_A_8 c _ _ _ _ _ _ _ _ _ _ _ _ _ _ _ _ _ _ _ _ _ _ _ _ _ _ _ _ _ _ _ _ _ _ _ _ _ )]
  unfold kernelRun0_A
  dsimp only
  sl_unfold_words
  simp only [View.readAt_eq_ld, Memref.IsWhole.read_unread]
  rw [View.canon_unit_zero Cert.Tile.zeros2]
  simp only [View.ld_unit_zero (S := S384x1024) Cert.Tile.zeros2, View.ld_unit_zero (S := S1024x1024) Cert.Tile.zeros2, View.ld_unit_zero (S := S512x1024) Cert.Tile.zeros2, View.ld_unit_zero (S := S384x512) Cert.Tile.zeros2]

theorem outs_9 (c : Dev nD) (t : Fin cfg0.N) : (outsAt0 m c t).2.1 = k0_pay1 (k0_pay8 (iblk m c 0 t) (iblk m c 2 t) (iblk m c 1 t) (iblk m c 3 t) (X0_4 m c t) (X0_5 m c t)) := by
  unfold outsAt0 out0_A_9
  dsimp only
  rw [View.read_writes_eq_canon _ _ _ (cover0_A_9 c _ _ _ _ _ _ _ _ _ _ _ _ _ _ _ _ _ _ _ _ _ _ _ _ _ _ _ _ _ _ _ _ _ _ _ _ _ )]
  unfold kernelRun0_A
  dsimp only
  sl_unfold_words
  simp only [View.readAt_eq_ld, Memref.IsWhole.read_unread]
  rw [View.canon_unit_zero Cert.Tile.zeros2]
  simp only [View.ld_unit_zero (S := S384x1024) Cert.Tile.zeros2, View.ld_unit_zero (S := S1024x1024) Cert.Tile.zeros2, View.ld_unit_zero (S := S512x1024) Cert.Tile.zeros2, View.ld_unit_zero (S := S384x512) Cert.Tile.zeros2]

theorem outs_10 (c : Dev nD) (t : Fin cfg0.N) : (outsAt0 m c t).2.2.1 = k0_pay2 (k0_pay6 (iblk m c 0 t) (iblk m c 2 t)) := by
  unfold outsAt0 out0_A_10
  dsimp only
  rw [View.read_writes_eq_canon _ _ _ (cover0_A_10 c _ _ _ _ _ _ _ _ _ _ _ _ _ _ _ _ _ _ _ _ _ _ _ _ _ _ _ _ _ _ _ _ _ _ _ _ _ )]
  unfold kernelRun0_A
  dsimp only
  sl_unfold_words
  simp only [View.readAt_eq_ld, Memref.IsWhole.read_unread]
  rw [View.canon_unit_zero Cert.Tile.zeros2]
  simp only [View.ld_unit_zero (S := S384x1024) Cert.Tile.zeros2, View.ld_unit_zero (S := S1024x1024) Cert.Tile.zeros2, View.ld_unit_zero (S := S512x1024) Cert.Tile.zeros2, View.ld_unit_zero (S := S384x512) Cert.Tile.zeros2]

theorem outs_11 (c : Dev nD) (t : Fin cfg0.N) : (outsAt0 m c t).2.2.2.1 = k0_pay3 (k0_pay7 (iblk m c 1 t) (iblk m c 3 t)) := by
  unfold outsAt0 out0_A_11
  dsimp only
  rw [View.read_writes_eq_canon _ _ _ (cover0_A_11 c _ _ _ _ _ _ _ _ _ _ _ _ _ _ _ _ _ _ _ _ _ _ _ _ _ _ _ _ _ _ _ _ _ _ _ _ _ )]
  unfold kernelRun0_A
  dsimp only
  sl_unfold_words
  simp only [View.readAt_eq_ld, Memref.IsWhole.read_unread]
  rw [View.canon_unit_zero Cert.Tile.zeros2]
  simp only [View.ld_unit_zero (S := S384x1024) Cert.Tile.zeros2, View.ld_unit_zero (S := S1024x1024) Cert.Tile.zeros2, View.ld_unit_zero (S := S512x1024) Cert.Tile.zeros2, View.ld_unit_zero (S := S384x512) Cert.Tile.zeros2]

theorem outs_12 (c : Dev nD) (t : Fin cfg0.N) : (outsAt0 m c t).2.2.2.2.1 = k0_pay4 (iblk m c 0 t) := by
  unfold outsAt0 out0_A_12
  dsimp only
  rw [View.read_writes_eq_canon _ _ _ (cover0_A_12 c _ _ _ _ _ _ _ _ _ _ _ _ _ _ _ _ _ _ _ _ _ _ _ _ _ _ _ _ _ _ _ _ _ _ _ _ _ )]
  unfold kernelRun0_A
  dsimp only
  sl_unfold_words
  simp only [View.readAt_eq_ld, Memref.IsWhole.read_unread]
  rw [View.canon_unit_zero Cert.Tile.zeros2]
  simp only [View.ld_unit_zero (S := S384x1024) Cert.Tile.zeros2, View.ld_unit_zero (S := S1024x1024) Cert.Tile.zeros2, View.ld_unit_zero (S := S512x1024) Cert.Tile.zeros2, View.ld_unit_zero (S := S384x512) Cert.Tile.zeros2]

theorem outs_13 (c : Dev nD) (t : Fin cfg0.N) : (outsAt0 m c t).2.2.2.2.2 = k0_pay5 (iblk m c 1 t) := by
  unfold outsAt0 out0_A_13
  dsimp only
  rw [View.read_writes_eq_canon _ _ _ (cover0_A_13 c _ _ _ _ _ _ _ _ _ _ _ _ _ _ _ _ _ _ _ _ _ _ _ _ _ _ _ _ _ _ _ _ _ _ _ _ _ )]
  unfold kernelRun0_A
  dsimp only
  sl_unfold_words
  simp only [View.readAt_eq_ld, Memref.IsWhole.read_unread]
  rw [View.canon_unit_zero Cert.Tile.zeros2]
  simp only [View.ld_unit_zero (S := S384x1024) Cert.Tile.zeros2, View.ld_unit_zero (S := S1024x1024) Cert.Tile.zeros2, View.ld_unit_zero (S := S512x1024) Cert.Tile.zeros2, View.ld_unit_zero (S := S384x512) Cert.Tile.zeros2]

end Cert.Gf

end
-- ==== Proof.Gf.Claim.lean ====
/-
  The arrays that the forward gate leaves, and its claim.
-/
module

public import proofs.«01_k».proof.Defs
public import proofs.«01_k».proof.Proof.Gf.Reads
public import proofs.«01_k».proof.Proof.Gen.RGfIdeal.Read
public import proofs.«01_k».proof.Proof.Gen.RGfIdeal.Run
public import proofs.«01_k».proof.Proof.Gf.Blocks
public import proofs.«01_k».proof.Proof.Sigmoid

@[expose] public section

noncomputable section

namespace Cert.Gf

open Cert.KGfIdeal Cert.KGfIdeal.Gen Idealize.ShloMosaic Idealize.ShloMosaic.TcCoe Idealize.SL.Sem
open Cert.RGfIdeal.Read

variable (m : (ℓ : Loc nD τ sig) → Buf (Elt Ideal) ℓ)

/-- What point `t` writes back to output window 8 is that block of the reference's result. -/
theorem flushed_8 (c : Dev nD) (t : Fin cfg0.N) :
    (dats m 0 c).flushed 8 t = ((cfg0.win 8).blk t).view.read (Elt Ideal) (val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Cert.KGfIdeal.Value.flushed8, outs_8]
  funext y
  obtain ⟨p, q, rfl⟩ : ∃ (p : Fin 384) (q : Fin 1024), y = ix2 p q := ⟨y 0, y 1, eq_ix2 y⟩
  refine Eq.trans ?_ (ow_8 c t _ p q).symm
  show (k0_pay9 (iblk m c 0 t) (iblk m c 2 t) (iblk m c 1 t) (iblk m c 3 t) (X0_4 m c t) (X0_5 m c t) (iblk m c 7 t) (iblk m c 6 t)) (ix2 p q) = _
  unfold_payloads
  pointwise [val_main_v0, val_main_v1, val_main_v2, val_main_v3, val_main_v4, val_main_v5, val_main_v6, val_main_v7, val_main_v8, val_main_cst, val_main_v9, val_main_v10, val_main_cst_0, val_main_v11, val_main_v12, val_main_v13, val_main_v14, val_main_v15, val_main_v16, val_main_cst_1, val_main_v17, val_main_v18, val_main_cst_2, val_main_v19, val_main_v20, val_main_v21, val_main_v22, val_main_v23, val_main_v24, val_main_v25, val_main_v26, val_main_v27, val_main_v28, val_main_v29, val_main_v30, val_main_v31]
  simp only [rd_0, rd_1, rd_2, rd_3, rd_4, rd_5, rd_6, rd_7, Cert.Sig.tanh_eq_div]

/-- What point `t` writes back to output window 9 is that block of the reference's result. -/
theorem flushed_9 (c : Dev nD) (t : Fin cfg0.N) :
    (dats m 0 c).flushed 9 t = ((cfg0.win 9).blk t).view.read (Elt Ideal) (val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4))) := by
  rw [Cert.KGfIdeal.Value.flushed9, outs_9]
  funext y
  obtain ⟨p, q, rfl⟩ : ∃ (p : Fin 1024) (q : Fin 384), y = ix2 p q := ⟨y 0, y 1, eq_ix2 y⟩
  refine Eq.trans ?_ (ow_9 c t _ p q).symm
  show (k0_pay1 (k0_pay8 (iblk m c 0 t) (iblk m c 2 t) (iblk m c 1 t) (iblk m c 3 t) (X0_4 m c t) (X0_5 m c t))) (ix2 p q) = _
  unfold_payloads
  pointwise [val_main_v0, val_main_v1, val_main_v2, val_main_v3, val_main_v4, val_main_v5, val_main_v6, val_main_v7, val_main_v8, val_main_cst, val_main_v9, val_main_v10, val_main_cst_0, val_main_v11, val_main_v12, val_main_v13, val_main_v14, val_main_v15, val_main_v16, val_main_cst_1, val_main_v17, val_main_v18, val_main_cst_2, val_main_v19, val_main_v20, val_main_v21, val_main_v22, val_main_v23, val_main_v24, val_main_v25, val_main_v26, val_main_v27, val_main_v28, val_main_v29, val_main_v30, val_main_v31]
  simp only [rd_0, rd_1, rd_2, rd_3, rd_4, rd_5, rd_6, rd_7, Cert.Sig.tanh_eq_div]

/-- What point `t` writes back to output window 10 is that block of the reference's result. -/
theorem flushed_10 (c : Dev nD) (t : Fin cfg0.N) :
    (dats m 0 c).flushed 10 t = ((cfg0.win 10).blk t).view.read (Elt Ideal) (val_main_v28 (F := Ideal) (m ((c : Thread nD τ).loc main_arg0)) (m ((c : Thread nD τ).loc main_arg2))) := by
  rw [Cert.KGfIdeal.Value.flushed10, outs_10]
  funext y
  obtain ⟨p, q, rfl⟩ : ∃ (p : Fin 384) (q : Fin 1024), y = ix2 p q := ⟨y 0, y 1, eq_ix2 y⟩
  refine Eq.trans ?_ (ow_10 c t _ p q).symm
  show (k0_pay2 (k0_pay6 (iblk m c 0 t) (iblk m c 2 t))) (ix2 p q) = _
  unfold_payloads
  pointwise [val_main_v0, val_main_v1, val_main_v2, val_main_v3, val_main_v4, val_main_v5, val_main_v6, val_main_v7, val_main_v8, val_main_cst, val_main_v9, val_main_v10, val_main_cst_0, val_main_v11, val_main_v12, val_main_v13, val_main_v14, val_main_v15, val_main_v16, val_main_cst_1, val_main_v17, val_main_v18, val_main_cst_2, val_main_v19, val_main_v20, val_main_v21, val_main_v22, val_main_v23, val_main_v24, val_main_v25, val_main_v26, val_main_v27, val_main_v28, val_main_v29, val_main_v30, val_main_v31]
  simp only [rd_0, rd_1, rd_2, rd_3, rd_4, rd_5, rd_6, rd_7, Cert.Sig.tanh_eq_div]

/-- What point `t` writes back to output window 11 is that block of the reference's result. -/
theorem flushed_11 (c : Dev nD) (t : Fin cfg0.N) :
    (dats m 0 c).flushed 11 t = ((cfg0.win 11).blk t).view.read (Elt Ideal) (val_main_v29 (F := Ideal) (m ((c : Thread nD τ).loc main_arg1)) (m ((c : Thread nD τ).loc main_arg3))) := by
  rw [Cert.KGfIdeal.Value.flushed11, outs_11]
  funext y
  obtain ⟨p, q, rfl⟩ : ∃ (p : Fin 384) (q : Fin 1024), y = ix2 p q := ⟨y 0, y 1, eq_ix2 y⟩
  refine Eq.trans ?_ (ow_11 c t _ p q).symm
  show (k0_pay3 (k0_pay7 (iblk m c 1 t) (iblk m c 3 t))) (ix2 p q) = _
  unfold_payloads
  pointwise [val_main_v0, val_main_v1, val_main_v2, val_main_v3, val_main_v4, val_main_v5, val_main_v6, val_main_v7, val_main_v8, val_main_cst, val_main_v9, val_main_v10, val_main_cst_0, val_main_v11, val_main_v12, val_main_v13, val_main_v14, val_main_v15, val_main_v16, val_main_cst_1, val_main_v17, val_main_v18, val_main_cst_2, val_main_v19, val_main_v20, val_main_v21, val_main_v22, val_main_v23, val_main_v24, val_main_v25, val_main_v26, val_main_v27, val_main_v28, val_main_v29, val_main_v30, val_main_v31]
  simp only [rd_0, rd_1, rd_2, rd_3, rd_4, rd_5, rd_6, rd_7, Cert.Sig.tanh_eq_div]

/-- What point `t` writes back to output window 12 is that block of the reference's result. -/
theorem flushed_12 (c : Dev nD) (t : Fin cfg0.N) :
    (dats m 0 c).flushed 12 t = ((cfg0.win 12).blk t).view.read (Elt Ideal) (val_main_v30 (F := Ideal) (m ((c : Thread nD τ).loc main_arg0))) := by
  rw [Cert.KGfIdeal.Value.flushed12, outs_12]
  funext y
  obtain ⟨p, q, rfl⟩ : ∃ (p : Fin 512) (q : Fin 384), y = ix2 p q := ⟨y 0, y 1, eq_ix2 y⟩
  refine Eq.trans ?_ (ow_12 c t _ p q).symm
  show (k0_pay4 (iblk m c 0 t)) (ix2 p q) = _
  unfold_payloads
  pointwise [val_main_v0, val_main_v1, val_main_v2, val_main_v3, val_main_v4, val_main_v5, val_main_v6, val_main_v7, val_main_v8, val_main_cst, val_main_v9, val_main_v10, val_main_cst_0, val_main_v11, val_main_v12, val_main_v13, val_main_v14, val_main_v15, val_main_v16, val_main_cst_1, val_main_v17, val_main_v18, val_main_cst_2, val_main_v19, val_main_v20, val_main_v21, val_main_v22, val_main_v23, val_main_v24, val_main_v25, val_main_v26, val_main_v27, val_main_v28, val_main_v29, val_main_v30, val_main_v31]
  simp only [rd_0, rd_1, rd_2, rd_3, rd_4, rd_5, rd_6, rd_7, Cert.Sig.tanh_eq_div]

/-- What point `t` writes back to output window 13 is that block of the reference's result. -/
theorem flushed_13 (c : Dev nD) (t : Fin cfg0.N) :
    (dats m 0 c).flushed 13 t = ((cfg0.win 13).blk t).view.read (Elt Ideal) (val_main_v31 (F := Ideal) (m ((c : Thread nD τ).loc main_arg1))) := by
  rw [Cert.KGfIdeal.Value.flushed13, outs_13]
  funext y
  obtain ⟨p, q, rfl⟩ : ∃ (p : Fin 512) (q : Fin 384), y = ix2 p q := ⟨y 0, y 1, eq_ix2 y⟩
  refine Eq.trans ?_ (ow_13 c t _ p q).symm
  show (k0_pay5 (iblk m c 1 t)) (ix2 p q) = _
  unfold_payloads
  pointwise [val_main_v0, val_main_v1, val_main_v2, val_main_v3, val_main_v4, val_main_v5, val_main_v6, val_main_v7, val_main_v8, val_main_cst, val_main_v9, val_main_v10, val_main_cst_0, val_main_v11, val_main_v12, val_main_v13, val_main_v14, val_main_v15, val_main_v16, val_main_cst_1, val_main_v17, val_main_v18, val_main_cst_2, val_main_v19, val_main_v20, val_main_v21, val_main_v22, val_main_v23, val_main_v24, val_main_v25, val_main_v26, val_main_v27, val_main_v28, val_main_v29, val_main_v30, val_main_v31]
  simp only [rd_0, rd_1, rd_2, rd_3, rd_4, rd_5, rd_6, rd_7, Cert.Sig.tanh_eq_div]

/-- The value claim of this call. -/
theorem algebraic : Cert.algebraic_KGfIdeal_RGfIdeal := by
  intro m g m' g' _ ha
  refine ⟨fun c => (dats m 0 c).arrAt 8 cfg0.N, fun c => (dats m 0 c).arrAt 9 cfg0.N, fun c => (dats m 0 c).arrAt 10 cfg0.N, fun c => (dats m 0 c).arrAt 11 cfg0.N, fun c => (dats m 0 c).arrAt 12 cfg0.N, fun c => (dats m 0 c).arrAt 13 cfg0.N, Cert.KGfIdeal.Value.run_blocks m g, ?_⟩
  refine (θ_run _ _ _).mono (fun r h c => ?_) (Cert.RGfIdeal.Value.run m' g')
  obtain ⟨h8, h9, h10, h11, h12, h13, hargs⟩ := h c
  obtain ⟨a0, a1, a2, a3, a4, a5, a6⟩ := ha c
  refine ⟨h8.trans ?_, h9.trans ?_, h10.trans ?_, h11.trans ?_, h12.trans ?_, h13.trans ?_, hargs⟩
  · exact (val_main_v25_eq _ _ _ _ _ _ _).trans (Eq.trans (by rw [a0, a1, a2, a3, a4, a5, a6]) ((dats m 0 c).arrAt_eq_of_cover 8 _ (fun t _ => flushed_8 m c t) (cover_8 c)).symm)
  · exact (val_main_v27_eq _ _ _ _ _).trans (Eq.trans (by rw [a0, a1, a2, a3, a4]) ((dats m 0 c).arrAt_eq_of_cover 9 _ (fun t _ => flushed_9 m c t) (cover_9 c)).symm)
  · exact (val_main_v28_eq _ _).trans (Eq.trans (by rw [a0, a2]) ((dats m 0 c).arrAt_eq_of_cover 10 _ (fun t _ => flushed_10 m c t) (cover_10 c)).symm)
  · exact (val_main_v29_eq _ _).trans (Eq.trans (by rw [a1, a3]) ((dats m 0 c).arrAt_eq_of_cover 11 _ (fun t _ => flushed_11 m c t) (cover_11 c)).symm)
  · exact (val_main_v30_eq _).trans (Eq.trans (by rw [a0]) ((dats m 0 c).arrAt_eq_of_cover 12 _ (fun t _ => flushed_12 m c t) (cover_12 c)).symm)
  · exact (val_main_v31_eq _).trans (Eq.trans (by rw [a1]) ((dats m 0 c).arrAt_eq_of_cover 13 _ (fun t _ => flushed_13 m c t) (cover_13 c)).symm)

end Cert.Gf

end
-- ==== Proof.Rms.Reads.lean ====
/-
  Where the forward normalisation reads its arrays and writes its results: the rows and columns of each block.
-/
module

public import proofs.«01_k».proof.Proof.Gen.KRmsIdeal.Value
public import proofs.«01_k».proof.Proof.Tile

@[expose] public section

noncomputable section

namespace Cert.Rms

open Cert.KRmsIdeal Cert.KRmsIdeal.Gen Idealize.ShloMosaic Idealize.ShloMosaic.TcCoe Idealize.SL.Sem

variable {F : FTy → Type} [FloatOps F]
variable (m : (ℓ : Loc nD τ sig) → Buf (Elt F) ℓ)

theorem n_pts : cfg0.N = 11 := rfl

theorem idx_0 : ∀ t : Fin cfg0.N, win0_0.index t = ![t.val, 0] :=
  (by decide +kernel : ∀ t : Fin grid0.N, win0_0.index t = ![t.val, 0])

theorem idx_1 : ∀ t : Fin cfg0.N, win0_1.index t = ![0, 0] :=
  (by decide +kernel : ∀ t : Fin grid0.N, win0_1.index t = ![0, 0])

theorem idx_2 : ∀ t : Fin cfg0.N, win0_2.index t = ![t.val, 0] :=
  (by decide +kernel : ∀ t : Fin grid0.N, win0_2.index t = ![t.val, 0])

theorem idx_3 : ∀ t : Fin cfg0.N, win0_3.index t = ![0, t.val] :=
  (by decide +kernel : ∀ t : Fin grid0.N, win0_3.index t = ![0, t.val])

/-- Input window 0 reads its array at these coordinates. -/
theorem rd_0 (c : Dev nD) (t : Fin cfg0.N) (p : Fin 384) (q : Fin 1024) :
    iblk m c 0 t (ix2 p q : S384x1024.Idx) = m ((c : Thread nD τ).loc main_arg0) (ix2 ⟨384 * t.val + p.val, by have := t.isLt; have := p.isLt; have := n_pts; omega⟩ q : S4224x1024.Idx) := by
  refine Cert.Tile.slice_read (Val := Elt F) (b := main_arg0) (win0_0.rect t) _ _ _ fun a => ?_
  rw [Pipeline.Window.rect_emb_val win0_0 t _ a rfl, idx_0 t]
  match a with
  | ⟨0, _⟩ => exact Cert.Tile.at_block _ _ _
  | ⟨1, _⟩ => exact Cert.Tile.at_zero _ _

/-- Input window 1 reads its array at these coordinates. -/
theorem rd_1 (c : Dev nD) (t : Fin cfg0.N) (p : Fin 1) (q : Fin 1024) :
    iblk m c 1 t (ix2 p q : S1x1024.Idx) = m ((c : Thread nD τ).loc main_arg1) (ix2 p q : S1x1024.Idx) := by
  refine Cert.Tile.slice_read (Val := Elt F) (b := main_arg1) (win0_1.rect t) _ _ _ fun a => ?_
  rw [Pipeline.Window.rect_emb_val win0_1 t _ a rfl, idx_1 t]
  match a with
  | ⟨0, _⟩ => exact Cert.Tile.at_zero _ _
  | ⟨1, _⟩ => exact Cert.Tile.at_zero _ _

/-- The block of output window 2 at point `t`, read off an array `G`. -/
theorem ow_2 (c : Dev nD) (t : Fin cfg0.N) (G : Vec F S4224x1024 .bf16) (p : Fin 384) (q : Fin 1024) :
    ((cfg0.win 2).blk t).view.read (Elt F) G (ix2 p q : S384x1024.Idx) = G (ix2 ⟨384 * t.val + p.val, by have := t.isLt; have := p.isLt; have := n_pts; omega⟩ q : S4224x1024.Idx) := by
  refine Cert.Tile.slice_read (Val := Elt F) (b := main_v0_0) (win0_2.rect t) _ _ _ fun a => ?_
  rw [Pipeline.Window.rect_emb_val win0_2 t _ a rfl, idx_2 t]
  match a with
  | ⟨0, _⟩ => exact Cert.Tile.at_block _ _ _
  | ⟨1, _⟩ => exact Cert.Tile.at_zero _ _

/-- Every element of output window 2's array lies in a block that is written back. -/
theorem cover_2 (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0).val < 4224 := (i 0).isLt
  have h1 : (i 1).val < 1024 := (i 1).isLt
  obtain ⟨t, ht⟩ : ∃ t : Fin cfg0.N, t.val = (i 0).val / 384 := ⟨⟨(i 0).val / 384, by have := n_pts; omega⟩, rfl⟩
  refine ⟨t, flush0_2 t, ?_⟩
  show i ∈ ((View.whole main_v0_0).slice (win0_2.rect t)).set
  rw [View.set_slice_whole, Rect.mem_set_unit]
  intro a
  show win0_2.index t a * S384x1024.size a ≤ _ ∧ _ < win0_2.index t a * S384x1024.size a + S384x1024.size a
  rw [idx_2]
  match a with
  | ⟨0, _⟩ => exact (by omega : t.val * 384 ≤ (i 0).val ∧ (i 0).val < t.val * 384 + 384)
  | ⟨1, _⟩ => exact (by omega : 0 * 1024 ≤ (i 1).val ∧ (i 1).val < 0 * 1024 + 1024)

/-- The block of output window 3 at point `t`, read off an array `G`. -/
theorem ow_3 (c : Dev nD) (t : Fin cfg0.N) (G : Vec F S1024x4224 .bf16) (p : Fin 1024) (q : Fin 384) :
    ((cfg0.win 3).blk t).view.read (Elt F) G (ix2 p q : S1024x384.Idx) = G (ix2 p ⟨384 * t.val + q.val, by have := t.isLt; have := q.isLt; have := n_pts; omega⟩ : S1024x4224.Idx) := by
  refine Cert.Tile.slice_read (Val := Elt F) (b := main_v0_1) (win0_3.rect t) _ _ _ fun a => ?_
  rw [Pipeline.Window.rect_emb_val win0_3 t _ a rfl, idx_3 t]
  match a with
  | ⟨0, _⟩ => exact Cert.Tile.at_zero _ _
  | ⟨1, _⟩ => exact Cert.Tile.at_block _ _ _

/-- Every element of output window 3's array lies in a block that is written back. -/
theorem cover_3 (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0).val < 1024 := (i 0).isLt
  have h1 : (i 1).val < 4224 := (i 1).isLt
  obtain ⟨t, ht⟩ : ∃ t : Fin cfg0.N, t.val = (i 1).val / 384 := ⟨⟨(i 1).val / 384, by have := n_pts; omega⟩, rfl⟩
  refine ⟨t, flush0_3 t, ?_⟩
  show i ∈ ((View.whole main_v0_1).slice (win0_3.rect t)).set
  rw [View.set_slice_whole, Rect.mem_set_unit]
  intro a
  show win0_3.index t a * S1024x384.size a ≤ _ ∧ _ < win0_3.index t a * S1024x384.size a + S1024x384.size a
  rw [idx_3]
  match a with
  | ⟨0, _⟩ => exact (by omega : 0 * 1024 ≤ (i 0).val ∧ (i 0).val < 0 * 1024 + 1024)
  | ⟨1, _⟩ => exact (by omega : t.val * 384 ≤ (i 1).val ∧ (i 1).val < t.val * 384 + 384)

end Cert.Rms

end
-- ==== Proof.Rms.Claim.lean ====
/-
  The forward normalisation and its transposed copy, over the whole arrays.
-/
module

public import proofs.«01_k».proof.Defs
public import proofs.«01_k».proof.Proof.Rms.Reads
public import proofs.«01_k».proof.Proof.Gen.RRmsIdeal.Read
public import proofs.«01_k».proof.Proof.Gen.RRmsIdeal.Run

@[expose] public section

noncomputable section

namespace Cert.Rms

open Cert.KRmsIdeal Cert.KRmsIdeal.Gen Idealize.ShloMosaic Idealize.ShloMosaic.TcCoe Idealize.SL.Sem
open Cert.RRmsIdeal.Read

theorem out_2 (x0 : Vec Ideal S384x1024 .f32) (x1 : Vec Ideal S1x1024 .f32) (p : Fin 384) (q : Fin 1024) :
    out0_2 x0 x1 (ix2 p q) = x0 (ix2 p q) * Ideal.rsqrt (Ideal.div (∑ k, x0 (ix2 p k) * x0 (ix2 p k)) (Ideal.ofBits .f32 0x44800000#32) + Ideal.ofBits .f32 0x358637BD#32) * x1 (ix2 0 q) := by
  unfold out0_2
  rw [View.canon_unit_zero Cert.Tile.zeros2]
  unfold_payloads
  pointwise

theorem ref_2 (x0 : Vec Ideal S4224x1024 .f32) (x1 : Vec Ideal S1x1024 .f32) (p : Fin 4224) (q : Fin 1024) :
    val_main_v12 (F := Ideal) x0 x1 (ix2 p q) = x0 (ix2 p q) * Ideal.rsqrt (Ideal.div (∑ k, x0 (ix2 p k) * x0 (ix2 p k)) (Ideal.ofBits .f32 0x44800000#32) + Ideal.ofBits .f32 0x358637BD#32) * x1 (ix2 0 q) := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14]

theorem out_3 (x0 : Vec Ideal S384x1024 .f32) (x1 : Vec Ideal S1x1024 .f32) (p : Fin 1024) (q : Fin 384) :
    out0_3 x0 x1 (ix2 p q) = x0 (ix2 q p) * Ideal.rsqrt (Ideal.div (∑ k, x0 (ix2 q k) * x0 (ix2 q k)) (Ideal.ofBits .f32 0x44800000#32) + Ideal.ofBits .f32 0x358637BD#32) * x1 (ix2 0 p) := by
  unfold out0_3
  rw [View.canon_unit_zero Cert.Tile.zeros2]
  unfold_payloads
  pointwise

theorem ref_3 (x0 : Vec Ideal S4224x1024 .f32) (x1 : Vec Ideal S1x1024 .f32) (p : Fin 1024) (q : Fin 4224) :
    val_main_v14 (F := Ideal) x0 x1 (ix2 p q) = x0 (ix2 q p) * Ideal.rsqrt (Ideal.div (∑ k, x0 (ix2 q k) * x0 (ix2 q k)) (Ideal.ofBits .f32 0x44800000#32) + Ideal.ofBits .f32 0x358637BD#32) * x1 (ix2 0 p) := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14]

variable (m : (ℓ : Loc nD τ sig) → Buf (Elt Ideal) ℓ)

/-- What point `t` writes back to output window 2 is that block of the reference's result. -/
theorem flushed_2 (c : Dev nD) (t : Fin cfg0.N) :
    (dats m 0 c).flushed 2 t = ((cfg0.win 2).blk t).view.read (Elt Ideal) (val_main_v12 (F := Ideal) (m ((c : Thread nD τ).loc main_arg0)) (m ((c : Thread nD τ).loc main_arg1))) := by
  rw [Cert.KRmsIdeal.Value.flushed2]
  funext y
  obtain ⟨p, q, rfl⟩ : ∃ (p : Fin 384) (q : Fin 1024), y = ix2 p q := ⟨y 0, y 1, eq_ix2 y⟩
  refine Eq.trans ?_ (ow_2 c t _ p q).symm
  refine (out_2 _ _ p q).trans (Eq.trans ?_ (ref_2 _ _ _ _).symm)
  simp only [rd_0, rd_1]

/-- What point `t` writes back to output window 3 is that block of the reference's result. -/
theorem flushed_3 (c : Dev nD) (t : Fin cfg0.N) :
    (dats m 0 c).flushed 3 t = ((cfg0.win 3).blk t).view.read (Elt Ideal) (val_main_v14 (F := Ideal) (m ((c : Thread nD τ).loc main_arg0)) (m ((c : Thread nD τ).loc main_arg1))) := by
  rw [Cert.KRmsIdeal.Value.flushed3]
  funext y
  obtain ⟨p, q, rfl⟩ : ∃ (p : Fin 1024) (q : Fin 384), y = ix2 p q := ⟨y 0, y 1, eq_ix2 y⟩
  refine Eq.trans ?_ (ow_3 c t _ p q).symm
  refine (out_3 _ _ p q).trans (Eq.trans ?_ (ref_3 _ _ _ _).symm)
  simp only [rd_0, rd_1]

/-- The value claim of this call. -/
theorem algebraic : Cert.algebraic_KRmsIdeal_RRmsIdeal := by
  intro m g m' g' _ ha
  refine ⟨fun c => (dats m 0 c).arrAt 2 cfg0.N, fun c => (dats m 0 c).arrAt 3 cfg0.N, Cert.KRmsIdeal.Value.run_blocks m g, ?_⟩
  refine (θ_run _ _ _).mono (fun r h c => ?_) (Cert.RRmsIdeal.Value.run m' g')
  obtain ⟨h2, h3, hargs⟩ := h c
  obtain ⟨a0, a1⟩ := ha c
  refine ⟨h2.trans ?_, h3.trans ?_, hargs⟩
  · exact (val_main_v12_eq _ _).trans (Eq.trans (by rw [a0, a1]) ((dats m 0 c).arrAt_eq_of_cover 2 _ (fun t _ => flushed_2 m c t) (cover_2 c)).symm)
  · exact (val_main_v14_eq _ _).trans (Eq.trans (by rw [a0, a1]) ((dats m 0 c).arrAt_eq_of_cover 3 _ (fun t _ => flushed_3 m c t) (cover_3 c)).symm)

end Cert.Rms

end
-- ==== Proof.Ff.Pre.lean ====
/-
  What the forgetting attention's forward call is told of its arguments, read element by element: the two tables hold
  the walk over the lower triangle of blocks, and, for the value claim, the arguments it multiplies and exponentiates
  are finite.
-/
module

public import proofs.«01_k».proof.Defs
public import proofs.«01_k».proof.Proof.Real
public import proofs.«01_k».proof.Proof.Gen.KFf.Flash
public import proofs.«01_k».proof.Proof.Gen.KFfIdeal.Flash

@[expose] public section

noncomputable section

namespace Cert.Ff

open Idealize.ShloMosaic Idealize.ShloMosaic.TcCoe

/-- The side conditions of the tables' precondition. -/
theorem pre_tables_facts : Cert.Pre_tables.Facts := by
  constructor <;> decide

/-- The side conditions of the value's precondition. -/
theorem pre_facts : Cert.Pre_ff_finite.Facts := by
  constructor <;> decide

/-- Two words whose comparison holds are the same. -/
theorem eq_of_cmpi {w : ℕ} (x y : BitVec w) (h : IntOp.cmpi .eq x y = 1#1) : x = y := by
  have e : (x == y) = true := by
    simp only [IntOp.cmpi] at h
    revert h
    cases (x == y) <;> decide
  exact eq_of_beq e

/-- The row blocks' table of the precondition is the one the schedule is read at. -/
theorem lit0_eq (p : Fin 66) : Cert.Pre_tables.lit0 (Cert.Pre_tables.S66.rowMajor (ix1 p)) = Cert.KFfIdeal.Gen.pinT_0 0 (ix1 p) := by
  revert p
  decide

/-- The key blocks' table of the precondition is the one the schedule is read at. -/
theorem lit1_eq (p : Fin 66) : Cert.Pre_tables.lit1 (Cert.Pre_tables.S66.rowMajor (ix1 p)) = Cert.KFfIdeal.Gen.pinT_1 0 (ix1 p) := by
  revert p
  decide

variable {F : FTy → Type} [FloatOps F]

/-- The tables' precondition read word by word. -/
theorem pre_tables [Cert.Pre_tables.Facts] (x0 x1 : IVec Cert.Pre_tables.S66 32) (x2 x3 x4 : FVec F Cert.Pre_tables.S4224x512 .bf16) (x5 : FVec F Cert.Pre_tables.S4224x128 .f32) (x6 : FVec F Cert.Pre_tables.S8x4224 .f32)
    (h : Cert.Pre_tables.fn (F := F) x0 x1 x2 x3 x4 x5 x6 = fun _ => 1#1) :
    x0 = Cert.KFfIdeal.Gen.pinT_0 0 ∧ x1 = Cert.KFfIdeal.Gen.pinT_1 0 := by
  have h' := congrFun h (fun a => a.elim0)
  dsimp only [Cert.Pre_tables.fn] at h'
  obtain ⟨h1, h2⟩ := IntOp.andi_eq_one.1 h'
  haveI : Subsingleton Cert.Pre_tables.S_.Idx := ⟨fun a b => funext fun i => i.elim0⟩
  refine ⟨funext fun i => ?_, funext fun i => ?_⟩
  · obtain ⟨p, rfl⟩ : ∃ p : Fin 66, i = ix1 p := ⟨i 0, eq_ix1 i⟩
    exact (eq_of_cmpi _ _ (Host.reduce_andi_all _ _ _ _ _ h1 (ix1 p))).trans (lit0_eq p)
  · obtain ⟨p, rfl⟩ : ∃ p : Fin 66, i = ix1 p := ⟨i 0, eq_ix1 i⟩
    exact (eq_of_cmpi _ _ (Host.reduce_andi_all _ _ _ _ _ h2 (ix1 p))).trans (lit1_eq p)

/-- The value's precondition read element by element. -/
theorem pre_fin [Cert.Pre_ff_finite.Facts] (x0 x1 : IVec Cert.Pre_tables.S66 32) (x2 x3 x4 : FVec Ideal Cert.Pre_tables.S4224x512 .bf16) (x5 : FVec Ideal Cert.Pre_tables.S4224x128 .f32) (x6 : FVec Ideal Cert.Pre_tables.S8x4224 .f32)
    (h : Cert.Pre_ff_finite.fn (F := Ideal) x0 x1 x2 x3 x4 x5 x6 = fun _ => 1#1) :
    (x0 = Cert.KFfIdeal.Gen.pinT_0 0 ∧ x1 = Cert.KFfIdeal.Gen.pinT_1 0)
    ∧ (∀ i, Cert.Re.Fin' (x2 i)) ∧ (∀ i, Cert.Re.Fin' (x3 i)) ∧ (∀ i, Cert.Re.Fin' (x4 i)) ∧ (∀ i, Cert.Re.Fin' (x5 i)) ∧ (∀ i, Cert.Re.Fin' (x6 i)) := by
  have h' := congrFun h (fun a => a.elim0)
  dsimp only [Cert.Pre_ff_finite.fn, Cert.Pre_ff_finite.fn_part1, Cert.Pre_ff_finite.fn_part2] at h'
  obtain ⟨h', h6⟩ := IntOp.andi_eq_one.1 h'
  obtain ⟨h', h5⟩ := IntOp.andi_eq_one.1 h'
  obtain ⟨h', h4⟩ := IntOp.andi_eq_one.1 h'
  obtain ⟨h', h3⟩ := IntOp.andi_eq_one.1 h'
  obtain ⟨h', h2⟩ := IntOp.andi_eq_one.1 h'
  obtain ⟨h0, h1⟩ := IntOp.andi_eq_one.1 h'
  haveI : Subsingleton Cert.Pre_ff_finite.S_.Idx := ⟨fun a b => funext fun i => i.elim0⟩
  refine ⟨⟨funext fun i => ?_, funext fun i => ?_⟩, fun i => ?_, fun i => ?_, fun i => ?_, fun i => ?_, fun i => ?_⟩
  · obtain ⟨p, rfl⟩ : ∃ p : Fin 66, i = ix1 p := ⟨i 0, eq_ix1 i⟩
    exact (eq_of_cmpi _ _ (Host.reduce_andi_all _ _ _ _ _ h0 (ix1 p))).trans (lit0_eq p)
  · obtain ⟨p, rfl⟩ : ∃ p : Fin 66, i = ix1 p := ⟨i 0, eq_ix1 i⟩
    exact (eq_of_cmpi _ _ (Host.reduce_andi_all _ _ _ _ _ h1 (ix1 p))).trans (lit1_eq p)
  · have e := Host.reduce_andi_all _ _ _ _ _ h2 i
    revert e
    obtain ⟨p, q, rfl⟩ : ∃ (p : Fin 4224) (q : Fin 512), i = ix2 p q := ⟨i 0, i 1, eq_ix2 i⟩
    pointwise
    rw [Cert.Re.bot_bf16, Cert.Re.top_bf16]
    exact Cert.Re.fin_of_cmp _
  · have e := Host.reduce_andi_all _ _ _ _ _ h3 i
    revert e
    obtain ⟨p, q, rfl⟩ : ∃ (p : Fin 4224) (q : Fin 512), i = ix2 p q := ⟨i 0, i 1, eq_ix2 i⟩
    pointwise
    rw [Cert.Re.bot_bf16, Cert.Re.top_bf16]
    exact Cert.Re.fin_of_cmp _
  · have e := Host.reduce_andi_all _ _ _ _ _ h4 i
    revert e
    obtain ⟨p, q, rfl⟩ : ∃ (p : Fin 4224) (q : Fin 512), i = ix2 p q := ⟨i 0, i 1, eq_ix2 i⟩
    pointwise
    rw [Cert.Re.bot_bf16, Cert.Re.top_bf16]
    exact Cert.Re.fin_of_cmp _
  · have e := Host.reduce_andi_all _ _ _ _ _ h5 i
    revert e
    obtain ⟨p, q, rfl⟩ : ∃ (p : Fin 4224) (q : Fin 128), i = ix2 p q := ⟨i 0, i 1, eq_ix2 i⟩
    pointwise
    rw [Cert.Re.bot_f32, Cert.Re.top_f32]
    exact Cert.Re.fin_of_cmp _
  · have e := Host.reduce_andi_all _ _ _ _ _ h6 i
    revert e
    obtain ⟨p, q, rfl⟩ : ∃ (p : Fin 8) (q : Fin 4224), i = ix2 p q := ⟨i 0, i 1, eq_ix2 i⟩
    pointwise
    rw [Cert.Re.bot_f32, Cert.Re.top_f32]
    exact Cert.Re.fin_of_cmp _

/-- The kernel as lowered: the tables hold the schedule. -/
theorem pinned_KFf [Cert.Pre_tables.Facts] (m : (ℓ : Loc Cert.KFf.nD Cert.KFf.τ Cert.KFf.sig) → Buf (Elt Bits) ℓ) (h : Cert.Pre_KFf m) :
    Cert.KFf.Gen.Pinned 0 m :=
  ⟨fun c => (pre_tables _ _ _ _ _ _ _ (h c)).1, fun c => (pre_tables _ _ _ _ _ _ _ (h c)).2⟩

/-- The kernel read over the extended reals: the tables hold the schedule. -/
theorem pinned_KFfIdeal [Cert.Pre_tables.Facts] (m : (ℓ : Loc Cert.KFfIdeal.nD Cert.KFfIdeal.τ Cert.KFfIdeal.sig) → Buf (Elt Ideal) ℓ) (h : Cert.Pre_KFfIdeal m) :
    Cert.KFfIdeal.Gen.Pinned 0 m :=
  ⟨fun c => (pre_tables _ _ _ _ _ _ _ (h c)).1, fun c => (pre_tables _ _ _ _ _ _ _ (h c)).2⟩

/-- The same, where the arguments are finite besides. -/
theorem pinned_fin [Cert.Pre_ff_finite.Facts] (m : (ℓ : Loc Cert.KFfIdeal.nD Cert.KFfIdeal.τ Cert.KFfIdeal.sig) → Buf (Elt Ideal) ℓ) (h : Cert.Pre_KFfIdeal_ff_finite m) :
    Cert.KFfIdeal.Gen.Pinned 0 m :=
  ⟨fun c => (pre_fin _ _ _ _ _ _ _ (h c)).1.1, fun c => (pre_fin _ _ _ _ _ _ _ (h c)).1.2⟩

end Cert.Ff

end
-- ==== Proof.Ff.Online.lean ====
/-
  A softmax taken a run of keys at a time: the running maximum, and the sums of exponentials relative to it, over the
  first keys of a row of scores.
-/
module

public import Idealize.ShloMosaic.Lib.Pointwise

@[expose] public section

noncomputable section

namespace Cert.Ff

open Idealize.ShloMosaic

/-- The largest of the first `n` scores. -/
def mx (S : ℕ → EReal) (n : ℕ) : EReal := (Finset.range n).sup S

/-- The sum over the first `n` keys of `f`, each weighted by the exponential of its score less the largest. -/
def sm (S f : ℕ → EReal) (n : ℕ) : EReal := ∑ k ∈ Finset.range n, Ideal.exp (S k - mx S n) * f k

/-- The exponential of a score less a bound on it, as a real number. -/
def ew (s M : EReal) : ℝ := if s = ⊥ then 0 else Real.exp (s.toReal - M.toReal)

theorem exp_sub {s M : EReal} (h : s ≤ M) (hM : M ≠ ⊤) : Ideal.exp (s - M) = (ew s M : EReal) := by
  induction s with
  | bot => rw [ew, if_pos rfl, EReal.bot_sub]; rfl
  | top => exact absurd (top_le_iff.mp h) hM
  | coe a =>
    induction M with
    | bot => exact absurd (le_bot_iff.mp h) (EReal.coe_ne_bot a)
    | top => exact absurd rfl hM
    | coe b =>
      rw [← EReal.coe_sub, ew, if_neg (EReal.coe_ne_bot a)]; rfl

theorem ew_mul {s M N : EReal} (h : s ≤ M) (hM : M ≠ ⊤) : ew s M * ew M N = ew s N := by
  induction s with
  | bot => rw [ew, if_pos rfl, zero_mul, ew, if_pos rfl]
  | top => exact absurd (top_le_iff.mp h) hM
  | coe a =>
    induction M with
    | bot => exact absurd (le_bot_iff.mp h) (EReal.coe_ne_bot a)
    | top => exact absurd rfl hM
    | coe b =>
      simp only [ew, if_neg (EReal.coe_ne_bot _), ← Real.exp_add, EReal.toReal_coe]
      congr 1; ring

variable {S f : ℕ → EReal}

theorem le_mx (S : ℕ → EReal) {k n : ℕ} (h : k < n) : S k ≤ mx S n := Finset.le_sup (f := S) (Finset.mem_range.mpr h)

theorem mx_mono (S : ℕ → EReal) {n N : ℕ} (h : n ≤ N) : mx S n ≤ mx S N :=
  Finset.sup_mono (Finset.range_mono h)

theorem mx_ne_top (hS : ∀ k, S k ≠ ⊤) (n : ℕ) : mx S n ≠ ⊤ :=
  ne_of_lt ((Finset.sup_lt_iff (bot_lt_top)).mpr fun k _ => lt_top_iff_ne_top.mpr (hS k))

theorem mx_zero (S : ℕ → EReal) : mx S 0 = ⊥ := rfl

theorem sm_zero (S f : ℕ → EReal) : sm S f 0 = 0 := rfl

/-- The largest of the first `n` scores and the next `b`. -/
theorem mx_add (S : ℕ → EReal) (n b : ℕ) : mx S (n + b) = max (mx S n) ((Finset.range b).sup fun k => S (n + k)) := by
  refine le_antisymm (Finset.sup_le fun k hk => ?_) (max_le (mx_mono S (Nat.le_add_right n b)) (Finset.sup_le fun k hk => ?_))
  · have hk := Finset.mem_range.mp hk
    rcases Nat.lt_or_ge k n with h | h
    · exact le_max_of_le_left (le_mx S h)
    · refine le_max_of_le_right ?_
      have := Finset.le_sup (f := fun k => S (n + k)) (Finset.mem_range.mpr (show k - n < b by omega))
      simpa [Nat.add_sub_cancel' h] using this
  · exact le_mx S (Nat.add_lt_add_left (Finset.mem_range.mp hk) n)

theorem coe_sum {ι : Type} (s : Finset ι) (g : ι → ℝ) : ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- The sum over the first `n` keys and the next `b`: the earlier sum rescaled, and the new keys' terms. -/
theorem sm_add (hS : ∀ k, S k ≠ ⊤) (hf : ∀ k, ∃ x : ℝ, f k = x) (n b : ℕ) :
    sm S f (n + b) = Ideal.exp (mx S n - mx S (n + b)) * sm S f n
      + ∑ k ∈ Finset.range b, Ideal.exp (S (n + k) - mx S (n + b)) * f (n + k) := by
  obtain ⟨g, hg⟩ := Classical.axiomOfChoice hf
  obtain rfl : f = fun k => (g k : EReal) := funext hg
  rw [sm, Finset.sum_range_add]
  congr 1
  have hM := mx_ne_top hS (n + b)
  have hm := mx_ne_top hS n
  have hmM := mx_mono S (Nat.le_add_right n b)
  have e1 : ∀ k ∈ Finset.range n, Ideal.exp (S k - mx S (n + b)) * (g k : EReal)
      = ((ew (mx S n) (mx S (n + b)) * (ew (S k) (mx S n) * g k) : ℝ) : EReal) := fun k hk => by
    have hk := le_mx S (Finset.mem_range.mp hk)
    rw [exp_sub (hk.trans hmM) hM, ← EReal.coe_mul, ← ew_mul hk hm]; congr 1; ring
  have e2 : ∀ k ∈ Finset.range n, Ideal.exp (S k - mx S n) * (g k : EReal) = ((ew (S k) (mx S n) * g k : ℝ) : EReal) := fun k hk => by
    rw [exp_sub (le_mx S (Finset.mem_range.mp hk)) hm, EReal.coe_mul]
  rw [Finset.sum_congr rfl e1, sm, Finset.sum_congr rfl e2, exp_sub hmM hM, ← coe_sum, ← coe_sum, ← EReal.coe_mul, Finset.mul_sum]

/-- Keys with no score change nothing. -/
theorem mx_masked {n N : ℕ} (h : n ≤ N) (hS : ∀ k, n ≤ k → S k = ⊥) : mx S N = mx S n := by
  obtain ⟨b, rfl⟩ := Nat.exists_eq_add_of_le h
  rw [mx_add]
  refine max_eq_left (Finset.sup_le fun k _ => ?_)
  rw [hS _ (Nat.le_add_right n k)]; exact bot_le

theorem sm_masked {n N : ℕ} (h : n ≤ N) (hS : ∀ k, n ≤ k → S k = ⊥) : sm S f N = sm S f n := by
  rw [sm, sm, mx_masked h hS]
  refine (Finset.sum_subset (Finset.range_mono h) fun k _ hk => ?_).symm
  rw [hS k (by simpa using hk), EReal.bot_sub]
  exact zero_mul _

end Cert.Ff

end
-- ==== Proof.Ff.Block.lean ====
/-
  One update of the running softmax, a block of 384 keys at a time: the maxima, the weights and the sums the kernel's
  vectors hold, in the terms of `mx` and `sm`.
-/
module

public import proofs.«01_k».proof.Proof.Ff.Pre
public import proofs.«01_k».proof.Proof.Ff.Online

@[expose] public section

noncomputable section

namespace Cert.Ff

open Cert.KFfIdeal Cert.KFfIdeal.Gen Idealize.ShloMosaic Idealize.ShloMosaic.TcCoe Idealize.SL.Sem

theorem neg_inf : Ideal.ofBits .f32 4286578688#32 = ⊥ := by simp [Ideal.ofBits, Ideal.ieee]

/-- The mask's named value is −∞. -/
theorem named_mask : (Named.named κ "mask" (0xF149F2CA#32 : BitVec FTy.f32.bits) : Ideal .f32) = ⊥ :=
  IdealRules.named_const.ideal_named_scalar _ _ _ _ rfl

/-- Three runs of 128 lanes are one run of 384. -/
theorem sup_runs (g : ℕ → EReal) :
    Finset.fold max ⊥ (fun x : Fin 128 => max (max (g x.val) (g (128 + x.val))) (g (256 + x.val))) Finset.univ = (Finset.range 384).sup g := by
  show Finset.univ.sup (fun x : Fin 128 => max (max (g x.val) (g (128 + x.val))) (g (256 + x.val))) = _
  refine le_antisymm (Finset.sup_le fun x _ => ?_) (Finset.sup_le fun k hk => ?_)
  · have := x.isLt
    refine max_le (max_le ?_ ?_) ?_ <;> exact Finset.le_sup (f := g) (Finset.mem_range.mpr (by omega))
  · have hk := Finset.mem_range.mp hk
    refine le_trans ?_ (Finset.le_sup (f := fun x : Fin 128 => max (max (g x.val) (g (128 + x.val))) (g (256 + x.val)))
      (Finset.mem_univ (⟨k % 128, Nat.mod_lt _ (by omega)⟩ : Fin 128)))
    rcases (by omega : k = k % 128 ∨ k = 128 + k % 128 ∨ k = 256 + k % 128) with h | h | h
    · exact le_max_of_le_left (le_max_of_le_left (le_of_eq (congrArg g h)))
    · exact le_max_of_le_left (le_max_of_le_right (le_of_eq (congrArg g h)))
    · exact le_max_of_le_right (le_of_eq (congrArg g h))

section
variable {A B C : FVec Ideal S384x128 .f32} {S : ℕ → EReal} {n : ℕ} {r : Fin 384}

/-- The scores of a row in three runs of lanes. -/
def Runs (A B C : FVec Ideal S384x128 .f32) (r : Fin 384) (S : ℕ → EReal) (n : ℕ) : Prop :=
  ∀ l : Fin 128, A (ix2 r l) = S (n + l.val) ∧ B (ix2 r l) = S (n + (128 + l.val)) ∧ C (ix2 r l) = S (n + (256 + l.val))

variable (h : Runs A B C r S n)
include h

theorem max_apply (m : FVec Ideal S1x384x128 .f32) (l : Fin 128) (hm : m (ix3 0 r l) = mx S n) :
    k0_pay32 (F := Ideal) A B C m (ix2 r l) = mx S (n + 384) := by
  unfold k0_pay32 k0_pay31
  pointwise
  rw [neg_inf, hm, mx_add, ← sup_runs fun k => S (n + k)]
  congr 2
  funext x
  rw [(h x).1, (h x).2.1, (h x).2.2]

theorem scale_apply (m : FVec Ideal S1x384x128 .f32) (l : Fin 128) (hm : m (ix3 0 r l) = mx S n) :
    k0_pay33 (F := Ideal) A B C m (ix2 r l) = Ideal.exp (mx S n - mx S (n + 384)) := by
  have e := max_apply h m l hm
  unfold k0_pay33 k0_pay31
  generalize k0_pay32 (F := Ideal) A B C m = M at *
  pointwise
  rw [hm, e]

/-- The product of the block's weights with the values and the ones. -/
theorem prod_apply (v : FVec Ideal S384x256 .bf16) (M : FVec Ideal S384x128 .f32) (hM : ∀ l, M (ix2 r l) = mx S (n + 384))
    (l : Fin 256) (f : ℕ → EReal) (hf : ∀ k : Fin 384, v (ix2 k l) = f (n + k.val)) :
    k0_pay40 (F := Ideal) v A B C M (ix2 r l) = ∑ k ∈ Finset.range 384, Ideal.exp (S (n + k) - mx S (n + 384)) * f (n + k) := by
  unfold k0_pay40
  pointwise
  rw [← Fin.sum_univ_eq_sum_range (fun k => Ideal.exp (S (n + k) - mx S (n + 384)) * f (n + k))]
  refine Finset.sum_congr rfl fun x _ => ?_
  rw [hf]
  congr 1
  have hx := x.isLt
  split
  · rw [hM, (h _).1]
  · split
    · rw [hM, (h _).2.1]; congr 3; simp only; omega
    · rw [hM, (h _).2.2]; congr 3; simp only; omega

/-- The weights' sum after the block. -/
theorem sum_apply (hS : ∀ k, S k ≠ ⊤) (v : FVec Ideal S384x128 .bf16) (m l : FVec Ideal S1x384x128 .f32)
    (hm : ∀ x, m (ix3 0 r x) = mx S n) (x : Fin 128) (hl : l (ix3 0 r x) = sm S (fun _ => 1) n) :
    k0_pay5 (F := Ideal) (k0_pay33 A B C m) (k0_pay40 (k0_pay16 v) A B C (k0_pay32 A B C m)) l (ix3 0 r x)
      = sm S (fun _ => 1) (n + 384) := by
  have e1 := scale_apply h m x (hm x)
  have e2 := prod_apply h (k0_pay16 v) _ (fun y => max_apply h m y (hm y)) ⟨128 + x.val, by have := x.isLt; omega⟩ (fun _ => 1)
    (fun k => by
      unfold k0_pay16
      pointwise)
  generalize k0_pay33 (F := Ideal) A B C m = a at *
  generalize k0_pay40 (F := Ideal) (k0_pay16 v) A B C (k0_pay32 A B C m) = P at *
  unfold k0_pay5
  pointwise
  rw [e1, hl, e2]
  exact (sm_add (f := fun _ => 1) hS (fun _ => ⟨1, EReal.coe_one.symm⟩) n 384).symm

/-- The block's product with a column of values. -/
theorem val_apply (v : FVec Ideal S384x128 .bf16) (m : FVec Ideal S1x384x128 .f32)
    (hm : ∀ x, m (ix3 0 r x) = mx S n) (x : Fin 128) (f : ℕ → EReal) (hf : ∀ k : Fin 384, v (ix2 k x) = f (n + k.val)) :
    k0_pay40 (F := Ideal) (k0_pay16 v) A B C (k0_pay32 A B C m) (ix2 r ⟨x.val, by have := x.isLt; omega⟩)
      = ∑ k ∈ Finset.range 384, Ideal.exp (S (n + k) - mx S (n + 384)) * f (n + k) :=
  prod_apply h (k0_pay16 v) _ (fun y => max_apply h m y (hm y)) _ f fun k => by
    unfold k0_pay16
    pointwise
    exact hf k

end

theorem lane_lt (x : Fin 128) : IntOp.cmpi .slt (BitVec.ofNat 32 x.val) 64#32 = if x.val < 64 then 1#1 else 0#1 := by
  revert x; decide +kernel

/-- The weighted values after the block, in the first head's lanes. -/
theorem acc_lo {S f : ℕ → EReal} {n : ℕ} (hS : ∀ k, S k ≠ ⊤) (hf : ∀ k, ∃ y : ℝ, f k = y) (a0 a1 : FVec Ideal S384x128 .f32)
    (p0 p1 : FVec Ideal S384x256 .f32) (acc : FVec Ideal S384x128 .f32) (r : Fin 384) (x : Fin 128) (hx : x.val < 64)
    (ha : a0 (ix2 r x) = Ideal.exp (mx S n - mx S (n + 384)))
    (hp : p0 (ix2 r ⟨x.val, by have := x.isLt; omega⟩) = ∑ k ∈ Finset.range 384, Ideal.exp (S (n + k) - mx S (n + 384)) * f (n + k))
    (hacc : acc (ix2 r x) = sm S f n) : k0_pay7 (F := Ideal) a0 a1 p0 p1 acc (ix2 r x) = sm S f (n + 384) := by
  unfold k0_pay7 k0_pay1
  pointwise
  rw [lane_lt, if_pos hx, sm_add hS hf]
  show acc (ix2 r x) * a0 (ix2 r x) + p0 _ = _
  rw [ha, hp, hacc, mul_comm]

/-- The weighted values after the block, in the second head's lanes. -/
theorem acc_hi {S f : ℕ → EReal} {n : ℕ} (hS : ∀ k, S k ≠ ⊤) (hf : ∀ k, ∃ y : ℝ, f k = y) (a0 a1 : FVec Ideal S384x128 .f32)
    (p0 p1 : FVec Ideal S384x256 .f32) (acc : FVec Ideal S384x128 .f32) (r : Fin 384) (x : Fin 128) (hx : ¬ x.val < 64)
    (ha : a1 (ix2 r x) = Ideal.exp (mx S n - mx S (n + 384)))
    (hp : p1 (ix2 r ⟨x.val, by have := x.isLt; omega⟩) = ∑ k ∈ Finset.range 384, Ideal.exp (S (n + k) - mx S (n + 384)) * f (n + k))
    (hacc : acc (ix2 r x) = sm S f n) : k0_pay7 (F := Ideal) a0 a1 p0 p1 acc (ix2 r x) = sm S f (n + 384) := by
  unfold k0_pay7 k0_pay1
  pointwise
  rw [lane_lt, if_neg hx, sm_add hS hf]
  show acc (ix2 r x) * a1 (ix2 r x) + p1 _ = _
  rw [ha, hp, hacc, mul_comm]

/-- The first head's product of a row of queries and a row of keys: the first 64 lanes'. -/
theorem dot_lo (q k : FVec Ideal S384x128 .bf16) (r y : Fin 384) :
    k0_pay18 (F := Ideal) k0_pay1 q k (ix2 r y)
      = ∑ d : Fin 64, q (ix2 r ⟨d.val, by have := d.isLt; omega⟩) * k (ix2 y ⟨d.val, by have := d.isLt; omega⟩) := by
  unfold k0_pay18 k0_pay1
  pointwise
  refine (Fin.sum_univ_add (a := 64) (b := 64) (M := EReal) _).trans ?_
  rw [Finset.sum_eq_zero (s := Finset.univ) (f := fun i : Fin 64 => Scalar.select (IntOp.cmpi .slt (BitVec.ofNat 32 (Fin.natAdd 64 i).val) 64#32) (q (ix2 r (Fin.natAdd 64 i))) (((0#32).toInt : ℝ) : EReal) * k (ix2 y (Fin.natAdd 64 i))), add_zero]
  · refine Finset.sum_congr rfl fun d _ => ?_
    rw [lane_lt, if_pos (by exact d.isLt)]; rfl
  · intro d _
    rw [lane_lt, if_neg (by simp)]
    show (((0#32).toInt : ℝ) : EReal) * _ = 0
    simp

/-- The second head's: the other 64 lanes'. -/
theorem dot_hi (q k : FVec Ideal S384x128 .bf16) (r y : Fin 384) :
    k0_pay19 (F := Ideal) k0_pay1 q k (ix2 r y)
      = ∑ d : Fin 64, q (ix2 r ⟨64 + d.val, by have := d.isLt; omega⟩) * k (ix2 y ⟨64 + d.val, by have := d.isLt; omega⟩) := by
  unfold k0_pay19 k0_pay1
  pointwise
  refine (Fin.sum_univ_add (a := 64) (b := 64) (M := EReal) _).trans ?_
  rw [Finset.sum_eq_zero (s := Finset.univ) (f := fun i : Fin 64 => Scalar.select (IntOp.xori (IntOp.cmpi .slt (BitVec.ofNat 32 (Fin.castAdd 64 i).val) 64#32) 1#1) (q (ix2 r (Fin.castAdd 64 i))) (((0#32).toInt : ℝ) : EReal) * k (ix2 y (Fin.castAdd 64 i))), zero_add]
  · refine Finset.sum_congr rfl fun d _ => ?_
    rw [lane_lt, if_neg (by simp)]; rfl
  · intro d _
    rw [lane_lt, if_pos (by exact d.isLt)]
    show (((0#32).toInt : ℝ) : EReal) * _ = 0
    simp

theorem row_eq (e : BitVec 32) (E : Fin 2) (he : e = BitVec.ofNat 32 E.val) (p : Fin 4) (x : Fin 128) :
    IntOp.cmpi .eq (BitVec.ofNat 32 x.val) (Scalar.addi (Scalar.muli (2#32) (BitVec.ofNat 32 p.val)) e)
      = if x.val = 2 * p.val + E.val then 1#1 else 0#1 := by
  subst he; revert E p x; decide +kernel

/-- A sum of a vector with every entry but one replaced by zero is that entry. -/
theorem sum_pick {n : ℕ} (g : Fin n → EReal) (b : Fin n → BitVec 1) (z : EReal) (hz : z = 0) (h : Fin n)
    (hb : ∀ x, b x = if x.val = h.val then 1#1 else 0#1) : ∑ x, Scalar.select (b x) (g x) z = g h := by
  rw [Finset.sum_eq_single h, hb, if_pos rfl]
  · rfl
  · intro x _ hx
    rw [hb, if_neg fun e => hx (Fin.ext e), hz]; rfl
  · exact fun e => absurd (Finset.mem_univ h) e

/-- The keys' offsets of the pair's first head. -/
theorem ck_lo (p : Fin 4) (ct : FVec Ideal S8x384 .f32) (y : Fin 384) :
    k0_pay21 (F := Ideal) ct (FloatOps.ofBits .f32 0#32) (k0_pay20 (BitVec.ofNat 32 p.val)) (ix2 0 y)
      = ct (ix2 ⟨2 * p.val, by have := p.isLt; omega⟩ y) := by
  unfold k0_pay21 k0_pay20
  pointwise
  refine sum_pick (fun x => ct (ix2 x y)) _ _ ?_ ⟨2 * p.val, by have := p.isLt; omega⟩ fun x => ?_
  · first | rfl | exact Ideal.ofBits_zero_f32
  · exact row_eq _ 0 rfl p ⟨x.val, by have := x.isLt; omega⟩

/-- The second head's. -/
theorem ck_hi (p : Fin 4) (ct : FVec Ideal S8x384 .f32) (y : Fin 384) :
    k0_pay22 (F := Ideal) (BitVec.ofNat 32 p.val) (iota .tc S8x1 32 [0] iota_S8x1_d0_w32) ct (ix2 0 y)
      = ct (ix2 ⟨2 * p.val + 1, by have := p.isLt; omega⟩ y) := by
  unfold k0_pay22
  pointwise
  refine sum_pick (fun x => ct (ix2 x y)) _ _ ?_ ⟨2 * p.val + 1, by have := p.isLt; omega⟩ fun x => ?_
  · first | rfl | exact Ideal.ofBits_zero_f32
  · exact row_eq _ 1 rfl p ⟨x.val, by have := x.isLt; omega⟩

/-- The queries' offsets of the pair's first head. -/
theorem cq_lo (p : Fin 4) (c : FVec Ideal S384x128 .f32) (r : Fin 384) (x : Fin 128) :
    k0_pay14 (F := Ideal) (BitVec.ofNat 32 p.val) (iota .tc S1x128 32 [1] iota_S1x128_d1_w32) c (ix3 0 r x)
      = c (ix2 r ⟨2 * p.val, by have := p.isLt; omega⟩) := by
  unfold k0_pay14
  pointwise
  refine sum_pick (fun x => c (ix2 r x)) _ _ ?_ ⟨2 * p.val, by have := p.isLt; omega⟩ fun x => ?_
  · first | rfl | exact Ideal.ofBits_zero_f32
  · exact row_eq _ 0 rfl p x

/-- The second head's. -/
theorem cq_hi (p : Fin 4) (c : FVec Ideal S384x128 .f32) (r : Fin 384) (x : Fin 128) :
    k0_pay2 (F := Ideal) c (k0_pay15 (BitVec.ofNat 32 p.val)) (ix3 0 r x)
      = c (ix2 r ⟨2 * p.val + 1, by have := p.isLt; omega⟩) := by
  unfold k0_pay2 k0_pay15
  pointwise
  refine sum_pick (fun x => c (ix2 r x)) _ _ ?_ ⟨2 * p.val + 1, by have := p.isLt; omega⟩ fun x => ?_
  · first | rfl | exact Ideal.ofBits_zero_f32
  · exact row_eq _ 1 rfl p x

/-- The mask's word for a key and a query: the keys up to the query and from the first real position. -/
theorem mask_word {k q : ℕ} (hk : k < 5000) (hq : q < 5000) :
    IntOp.andi (IntOp.cmpi .sle (BitVec.ofNat 32 k) (BitVec.ofNat 32 q)) (IntOp.cmpi .sge (BitVec.ofNat 32 k) 112#32)
      = if k ≤ q ∧ 112 ≤ k then 1#1 else 0#1 := by
  have ti : ∀ n, n < 5000 → (BitVec.ofNat 32 n).toInt = n := fun n hn => by
    rw [BitVec.toInt_eq_toNat_of_lt (by simp; omega)]; simp; omega
  have d1 : IntOp.cmpi .sle (BitVec.ofNat 32 k) (BitVec.ofNat 32 q) = BitVec.ofBool (decide (k ≤ q)) := by
    simp only [IntOp.cmpi, BitVec.sle, ti _ hk, ti _ hq]
    exact congrArg _ (decide_eq_decide.mpr Int.ofNat_le)
  have d2 : IntOp.cmpi .sge (BitVec.ofNat 32 k) 112#32 = BitVec.ofBool (decide (112 ≤ k)) := by
    simp only [IntOp.cmpi, BitVec.sle, ti _ hk, show (112#32).toInt = ((112 : ℕ) : ℤ) from rfl]
    exact congrArg _ (decide_eq_decide.mpr Int.ofNat_le)
  rw [d1, d2]
  by_cases h1 : k ≤ q <;> by_cases h2 : 112 ≤ k <;>
    simp only [h1, h2, decide_true, decide_false, and_self, and_true, and_false, false_and, if_true, if_false] <;> rfl

/-- The mask of a block. -/
theorem mask_apply (i j : Fin 11) (r y : Fin 384) :
    k0_pay17 (F := Ideal) (BitVec.ofNat 32 i.val) (BitVec.ofNat 32 j.val) (ix2 r y)
      = if 384 * j.val + y.val ≤ 384 * i.val + r.val ∧ 112 ≤ 384 * j.val + y.val then 1#1 else 0#1 := by
  unfold k0_pay17
  pointwise
  have hi := i.isLt
  have hj := j.isLt
  have hr := r.isLt
  have hy := y.isLt
  have e1 : IntOp.addi (Scalar.muli (BitVec.ofNat 32 j.val) 384#32) (BitVec.ofNat 32 y.val) = BitVec.ofNat 32 (384 * j.val + y.val) := by
    simp only [IntOp.addi, Scalar.muli, IntOp.muli]; bv_omega
  have e2 : IntOp.addi (Scalar.muli (BitVec.ofNat 32 i.val) 384#32) (BitVec.ofNat 32 r.val) = BitVec.ofNat 32 (384 * i.val + r.val) := by
    simp only [IntOp.addi, Scalar.muli, IntOp.muli]; bv_omega
  rw [e1, e2]
  exact mask_word (by omega) (by omega)

end Cert.Ff

end
-- ==== Proof.Ff.Steps.lean ====
/-
  What one grid point writes into the running softmax's arrays, in each of the four paths the kernel takes, as the
  block update of the arrays it reads.
-/
module

public import proofs.«01_k».proof.Proof.Ff.Block

@[expose] public section

noncomputable section

namespace Cert.Ff

open Cert.KFfIdeal Cert.KFfIdeal.Gen Idealize.ShloMosaic Idealize.ShloMosaic.TcCoe Idealize.SL.Sem

/-- A head's maxima, weights, sums and products over a block. -/
abbrev uM (A B C : FVec Ideal S384x128 .f32) (m : FVec Ideal S1x384x128 .f32) : FVec Ideal S384x128 .f32 := k0_pay32 (F := Ideal) A B C m
abbrev uW (A B C : FVec Ideal S384x128 .f32) (m : FVec Ideal S1x384x128 .f32) : FVec Ideal S384x128 .f32 := k0_pay33 (F := Ideal) A B C m
abbrev uP (v : FVec Ideal S384x128 .bf16) (A B C : FVec Ideal S384x128 .f32) (m : FVec Ideal S1x384x128 .f32) : FVec Ideal S384x256 .f32 :=
  k0_pay40 (F := Ideal) (k0_pay16 v) A B C (uM A B C m)
abbrev uL (v : FVec Ideal S384x128 .bf16) (A B C : FVec Ideal S384x128 .f32) (m l : FVec Ideal S1x384x128 .f32) : FVec Ideal S1x384x128 .f32 :=
  k0_pay5 (F := Ideal) (uW A B C m) (uP v A B C m) l

/-- The heads' scores over a block before the queries' and keys' offsets, and the keys' offsets. -/
abbrev d0 (q k : FVec Ideal S384x128 .bf16) : FVec Ideal S384x384 .f32 := k0_pay18 (F := Ideal) k0_pay1 q k
abbrev d1 (q k : FVec Ideal S384x128 .bf16) : FVec Ideal S384x384 .f32 := k0_pay19 (F := Ideal) k0_pay1 q k
abbrev o0 (p : BitVec 32) (ct : FVec Ideal S8x384 .f32) : FVec Ideal S1x384 .f32 := k0_pay21 (F := Ideal) ct (FloatOps.ofBits .f32 0#32) (k0_pay20 p)
abbrev o1 (p : BitVec 32) (ct : FVec Ideal S8x384 .f32) : FVec Ideal S1x384 .f32 := k0_pay22 (F := Ideal) p (iota .tc S8x1 32 [0] iota_S8x1_d0_w32) ct

/-- A whole block read through its staging buffer. -/
abbrev rd {e : EltTy} (a : Memref sig .tc .vmem S384x128 e) (x : S384x128.Idx → Elt Ideal e) : S384x128.Idx → Elt Ideal e :=
  View.readAt (Elt Ideal) a.view (Rect.unit (s := S384x128) ![0, 0] S384x128.size inb_S384x128_S384x128_0_0).toLoadRect (a.view.rep x)
abbrev rt (a : Memref sig .tc .vmem S8x384 .f32) (x : S8x384.Idx → Elt Ideal .f32) : S8x384.Idx → Elt Ideal .f32 :=
  View.readAt (Elt Ideal) a.view (Rect.unit (s := S8x384) ![0, 0] S8x384.size inb_S8x384_S8x384_0_0).toLoadRect (a.view.rep x)

/-- One head's half of a two-headed scratch. -/
abbrev h0 (a : Memref sig .tc .vmem S2x384x128 .f32) (x : a.view.ty.Contents (Elt Ideal)) : S1x384x128.Idx → Elt Ideal .f32 :=
  View.readAt (Elt Ideal) a.view (Rect.unit (s := S2x384x128) ![0, 0, 0] S1x384x128.size inb_S2x384x128_S1x384x128_0_0_0).toLoadRect x
abbrev h1 (a : Memref sig .tc .vmem S2x384x128 .f32) (x : a.view.ty.Contents (Elt Ideal)) : S1x384x128.Idx → Elt Ideal .f32 :=
  View.readAt (Elt Ideal) a.view (Rect.unit (s := S2x384x128) ![1, 0, 0] S1x384x128.size inb_S2x384x128_S1x384x128_1_0_0).toLoadRect x

abbrev P0 (w : S1x384x128.Idx → Elt Ideal .f32) : View.Piece (Elt Ideal) S2x384x128 .f32 :=
  ⟨Rect.unit (s := S2x384x128) ![0, 0, 0] S1x384x128.size inb_S2x384x128_S1x384x128_0_0_0, w⟩
abbrev P1 (w : S1x384x128.Idx → Elt Ideal .f32) : View.Piece (Elt Ideal) S2x384x128 .f32 :=
  ⟨Rect.unit (s := S2x384x128) ![1, 0, 0] S1x384x128.size inb_S2x384x128_S1x384x128_1_0_0, w⟩
abbrev PA (w : S384x128.Idx → Elt Ideal .f32) : View.Piece (Elt Ideal) S384x128 .f32 :=
  ⟨Rect.unit (s := S384x128) ![0, 0] S384x128.size inb_S384x128_S384x128_0_0, w⟩

/-- The same read back from what was written at the point. -/
abbrev v0 (a : Memref sig .tc .vmem S2x384x128 .f32) (L : List (View.Piece (Elt Ideal) S2x384x128 .f32)) : S1x384x128.Idx → Elt Ideal .f32 :=
  a.view.readCov L (Rect.unit (s := S2x384x128) ![0, 0, 0] S1x384x128.size inb_S2x384x128_S1x384x128_0_0_0).toLoadRect
abbrev v1 (a : Memref sig .tc .vmem S2x384x128 .f32) (L : List (View.Piece (Elt Ideal) S2x384x128 .f32)) : S1x384x128.Idx → Elt Ideal .f32 :=
  a.view.readCov L (Rect.unit (s := S2x384x128) ![1, 0, 0] S1x384x128.size inb_S2x384x128_S1x384x128_1_0_0).toLoadRect
abbrev vA (L : List (View.Piece (Elt Ideal) S384x128 .f32)) : S384x128.Idx → Elt Ideal .f32 :=
  scM0_2.view.readCov L (Rect.unit (s := S384x128) ![0, 0] S384x128.size inb_S384x128_S384x128_0_0).toLoadRect
abbrev ra (x : scM0_2.view.ty.Contents (Elt Ideal)) : S384x128.Idx → Elt Ideal .f32 :=
  View.readAt (Elt Ideal) scM0_2.view (Rect.unit (s := S384x128) ![0, 0] S384x128.size inb_S384x128_S384x128_0_0).toLoadRect x
abbrev PW (w : S2x384x128.Idx → Elt Ideal .f32) : View.Piece (Elt Ideal) S2x384x128 .f32 :=
  ⟨Rect.unit (s := S2x384x128) ![0, 0, 0] S2x384x128.size inb_S2x384x128_S2x384x128_0_0_0, w⟩

/-- The queries' offsets, written at a run's first point. -/
abbrev LQ (p : BitVec 32) (c : FVec Ideal S384x128 .f32) : List (View.Piece (Elt Ideal) S2x384x128 .f32) :=
  [P1 (k0_pay2 (F := Ideal) c (k0_pay15 p)), P0 (k0_pay14 (F := Ideal) p (iota .tc S1x128 32 [1] iota_S1x128_d1_w32) c)]

/-- What the last point of a run of keys writes: the weighted values over the weights' sums, and the sums' logarithms. -/
abbrev lastO (l : List (View.Piece (Elt Ideal) S2x384x128 .f32)) (a : List (View.Piece (Elt Ideal) S384x128 .f32)) :
    List (View.Piece (Elt Ideal) S384x128 .bf16) :=
  [⟨Rect.unit (s := S384x128) ![0, 0] S384x128.size inb_S384x128_S384x128_0_0, k0_pay9 (F := Ideal) (v0 scM0_1 l) (v1 scM0_1 l) (vA a)⟩]
abbrev lastE (l m : List (View.Piece (Elt Ideal) S2x384x128 .f32)) : List (View.Piece (Elt Ideal) S384x128 .f32) :=
  [PA (k0_pay10 (F := Ideal) (v0 scM0_1 l) (v1 scM0_1 l) (v0 scM0_0 m) (v1 scM0_0 m))]

/-- The scores of a block with every key open, in three runs of lanes. -/
abbrev OA (d : FVec Ideal S384x384 .f32) (o : FVec Ideal S1x384 .f32) (cq : FVec Ideal S1x384x128 .f32) := k0_pay51 (F := Ideal) d o cq
abbrev OB (d : FVec Ideal S384x384 .f32) (o : FVec Ideal S1x384 .f32) (cq : FVec Ideal S1x384x128 .f32) := k0_pay52 (F := Ideal) d o cq
abbrev OC (d : FVec Ideal S384x384 .f32) (o : FVec Ideal S1x384 .f32) (cq : FVec Ideal S1x384x128 .f32) := k0_pay53 (F := Ideal) d o cq

/-- The scores of a block under a mask. -/
abbrev MA (b : IVec S384x384 1) (d : FVec Ideal S384x384 .f32) (o : FVec Ideal S1x384 .f32) (cq : FVec Ideal S1x384x128 .f32) :=
  k0_pay28 (F := Ideal) b d o (k0_pay27 cq)
abbrev MB (b : IVec S384x384 1) (d : FVec Ideal S384x384 .f32) (o : FVec Ideal S1x384 .f32) (cq : FVec Ideal S1x384x128 .f32) :=
  k0_pay29 (F := Ideal) b d o (k0_pay27 cq)
abbrev MC (b : IVec S384x384 1) (d : FVec Ideal S384x384 .f32) (o : FVec Ideal S1x384 .f32) (cq : FVec Ideal S1x384x128 .f32) :=
  k0_pay30 (F := Ideal) b d o (k0_pay27 cq)

/-- What a point writes into the three arrays of the running softmax. -/
abbrev LM (A0 B0 C0 A1 B1 C1 : FVec Ideal S384x128 .f32) (m0 m1 : FVec Ideal S1x384x128 .f32) (L : List (View.Piece (Elt Ideal) S2x384x128 .f32)) :=
  P1 (k0_pay3 (F := Ideal) (uM A1 B1 C1 m1)) :: P0 (k0_pay3 (F := Ideal) (uM A0 B0 C0 m0)) :: L
abbrev LL (v : FVec Ideal S384x128 .bf16) (A0 B0 C0 A1 B1 C1 : FVec Ideal S384x128 .f32) (m0 m1 l0 l1 : FVec Ideal S1x384x128 .f32)
    (L : List (View.Piece (Elt Ideal) S2x384x128 .f32)) :=
  P1 (uL v A1 B1 C1 m1 l1) :: P0 (uL v A0 B0 C0 m0 l0) :: L
abbrev LA (v : FVec Ideal S384x128 .bf16) (A0 B0 C0 A1 B1 C1 : FVec Ideal S384x128 .f32) (m0 m1 : FVec Ideal S1x384x128 .f32)
    (acc : FVec Ideal S384x128 .f32) (L : List (View.Piece (Elt Ideal) S384x128 .f32)) :=
  PA (k0_pay7 (F := Ideal) (uW A0 B0 C0 m0) (uW A1 B1 C1 m1) (uP v A0 B0 C0 m0) (uP v A1 B1 C1 m1) acc) :: L

/-- The same with the scores put in: every key open. -/
abbrev oM (q k : FVec Ideal S384x128 .bf16) (p : BitVec 32) (ct : FVec Ideal S8x384 .f32) (c0 c1 m0 m1 : FVec Ideal S1x384x128 .f32)
    (L : List (View.Piece (Elt Ideal) S2x384x128 .f32)) := LM
    (OA (d0 q k) (o0 p ct) c0) (OB (d0 q k) (o0 p ct) c0) (OC (d0 q k) (o0 p ct) c0)
    (OA (d1 q k) (o1 p ct) c1) (OB (d1 q k) (o1 p ct) c1) (OC (d1 q k) (o1 p ct) c1) m0 m1 L
abbrev oL (v : FVec Ideal S384x128 .bf16) (q k : FVec Ideal S384x128 .bf16) (p : BitVec 32) (ct : FVec Ideal S8x384 .f32) (c0 c1 m0 m1 : FVec Ideal S1x384x128 .f32) (l0 l1 : FVec Ideal S1x384x128 .f32)
    (L : List (View.Piece (Elt Ideal) S2x384x128 .f32)) := LL v
    (OA (d0 q k) (o0 p ct) c0) (OB (d0 q k) (o0 p ct) c0) (OC (d0 q k) (o0 p ct) c0)
    (OA (d1 q k) (o1 p ct) c1) (OB (d1 q k) (o1 p ct) c1) (OC (d1 q k) (o1 p ct) c1) m0 m1 l0 l1 L
abbrev oA (v : FVec Ideal S384x128 .bf16) (q k : FVec Ideal S384x128 .bf16) (p : BitVec 32) (ct : FVec Ideal S8x384 .f32) (c0 c1 m0 m1 : FVec Ideal S1x384x128 .f32) (acc : FVec Ideal S384x128 .f32)
    (L : List (View.Piece (Elt Ideal) S384x128 .f32)) := LA v
    (OA (d0 q k) (o0 p ct) c0) (OB (d0 q k) (o0 p ct) c0) (OC (d0 q k) (o0 p ct) c0)
    (OA (d1 q k) (o1 p ct) c1) (OB (d1 q k) (o1 p ct) c1) (OC (d1 q k) (o1 p ct) c1) m0 m1 acc L

/-- And under a mask. -/
abbrev kM (b : IVec S384x384 1) (q k : FVec Ideal S384x128 .bf16) (p : BitVec 32) (ct : FVec Ideal S8x384 .f32) (c0 c1 m0 m1 : FVec Ideal S1x384x128 .f32)
    (L : List (View.Piece (Elt Ideal) S2x384x128 .f32)) := LM
    (MA b (d0 q k) (o0 p ct) c0) (MB b (d0 q k) (o0 p ct) c0) (MC b (d0 q k) (o0 p ct) c0)
    (MA b (d1 q k) (o1 p ct) c1) (MB b (d1 q k) (o1 p ct) c1) (MC b (d1 q k) (o1 p ct) c1) m0 m1 L
abbrev kL (b : IVec S384x384 1) (v : FVec Ideal S384x128 .bf16) (q k : FVec Ideal S384x128 .bf16) (p : BitVec 32) (ct : FVec Ideal S8x384 .f32) (c0 c1 m0 m1 : FVec Ideal S1x384x128 .f32) (l0 l1 : FVec Ideal S1x384x128 .f32)
    (L : List (View.Piece (Elt Ideal) S2x384x128 .f32)) := LL v
    (MA b (d0 q k) (o0 p ct) c0) (MB b (d0 q k) (o0 p ct) c0) (MC b (d0 q k) (o0 p ct) c0)
    (MA b (d1 q k) (o1 p ct) c1) (MB b (d1 q k) (o1 p ct) c1) (MC b (d1 q k) (o1 p ct) c1) m0 m1 l0 l1 L
abbrev kA (b : IVec S384x384 1) (v : FVec Ideal S384x128 .bf16) (q k : FVec Ideal S384x128 .bf16) (p : BitVec 32) (ct : FVec Ideal S8x384 .f32) (c0 c1 m0 m1 : FVec Ideal S1x384x128 .f32) (acc : FVec Ideal S384x128 .f32)
    (L : List (View.Piece (Elt Ideal) S384x128 .f32)) := LA v
    (MA b (d0 q k) (o0 p ct) c0) (MB b (d0 q k) (o0 p ct) c0) (MC b (d0 q k) (o0 p ct) c0)
    (MA b (d1 q k) (o1 p ct) c1) (MB b (d1 q k) (o1 p ct) c1) (MC b (d1 q k) (o1 p ct) c1) m0 m1 acc L

/-- One head's sums after a run's first block. -/
abbrev fL (b : IVec S384x384 1) (v q k : FVec Ideal S384x128 .bf16) (p : BitVec 32) (ct : FVec Ideal S8x384 .f32) (c0 m0 l0 : FVec Ideal S1x384x128 .f32) :=
  uL v (MA b (d0 q k) (o0 p ct) c0) (MB b (d0 q k) (o0 p ct) c0) (MC b (d0 q k) (o0 p ct) c0) m0 l0

/-- The words of the two tables a point reads. -/
abbrev w0 (i : (cfgA 0).grid.Coords) (T0 : Vec Ideal S66 .i32) : BitVec 32 :=
  View.readAt (Elt Ideal) tbM0_0.view (Rect.unit (s := S66) (k0_off1 i) S1.size (k0_off1_inb i)).toLoadRect T0 (Shape.Idx.first (numel1_S1.symm ▸ Nat.one_pos))
abbrev w1 (i : (cfgA 0).grid.Coords) (T1 : Vec Ideal S66 .i32) : BitVec 32 :=
  View.readAt (Elt Ideal) tbM0_1.view (Rect.unit (s := S66) (k0_off1 i) S1.size (k0_off1_inb i)).toLoadRect T1 (Shape.Idx.first (numel1_S1.symm ▸ Nat.one_pos))

section
variable (c : Dev nD) (i : (cfgA 0).grid.Coords) (a4 a5 a6 : Memref sig .tc .vmem S384x128 .bf16) (a7 : Memref sig .tc .vmem S384x128 .f32)
  (a8 : Memref sig .tc .vmem S8x384 .f32) (T0 T1 : Vec Ideal S66 .i32)
  (x0 x1 x2 : S384x128.Idx → Elt Ideal .bf16) (x3 : S384x128.Idx → Elt Ideal .f32) (x4 : S8x384.Idx → Elt Ideal .f32)
  (xa0 xa1 xa3 : scM0_0.view.ty.Contents (Elt Ideal)) (xa2 : scM0_2.view.ty.Contents (Elt Ideal))

/-- An interior block: every key open. -/
theorem d_m : kernelRun0_D.sl.HS0_2 c i a4 a5 a8 x0 x1 x4 xa0 xa3 =
    oM (rd a4 x0) (rd a5 x1) (BitVec.ofNat 32 (i 0).val) (rt a8 x4) (h0 scM0_3 xa3) (h1 scM0_3 xa3) (h0 scM0_0 xa0) (h1 scM0_0 xa0) [] := rfl

theorem d_l : kernelRun0_D.sl.HS1_2 c i a4 a5 a6 a8 x0 x1 x2 x4 xa0 xa1 xa3 =
    oL (rd a6 x2) (rd a4 x0) (rd a5 x1) (BitVec.ofNat 32 (i 0).val) (rt a8 x4) (h0 scM0_3 xa3) (h1 scM0_3 xa3) (h0 scM0_0 xa0) (h1 scM0_0 xa0) (h0 scM0_1 xa1) (h1 scM0_1 xa1) [] := rfl

theorem d_a : kernelRun0_D.sl.HS2_1 c i a4 a5 a6 a8 x0 x1 x2 x4 xa0 xa2 xa3 =
    oA (rd a6 x2) (rd a4 x0) (rd a5 x1) (BitVec.ofNat 32 (i 0).val) (rt a8 x4) (h0 scM0_3 xa3) (h1 scM0_3 xa3) (h0 scM0_0 xa0) (h1 scM0_0 xa0) (ra xa2) [] := rfl

/-- The last block of a run of keys: under the mask. -/
theorem c_m : kernelRun0_C.sl.HS0_2 c i a4 a5 a8 T0 T1 x0 x1 x4 xa0 xa3 =
    kM (k0_pay17 (F := Ideal) (w0 i T0) (w1 i T1)) (rd a4 x0) (rd a5 x1) (BitVec.ofNat 32 (i 0).val) (rt a8 x4) (h0 scM0_3 xa3) (h1 scM0_3 xa3) (h0 scM0_0 xa0) (h1 scM0_0 xa0) [] := rfl

theorem c_l : kernelRun0_C.sl.HS1_2 c i a4 a5 a6 a8 T0 T1 x0 x1 x2 x4 xa0 xa1 xa3 =
    kL (k0_pay17 (F := Ideal) (w0 i T0) (w1 i T1)) (rd a6 x2) (rd a4 x0) (rd a5 x1) (BitVec.ofNat 32 (i 0).val) (rt a8 x4) (h0 scM0_3 xa3) (h1 scM0_3 xa3) (h0 scM0_0 xa0) (h1 scM0_0 xa0) (h0 scM0_1 xa1) (h1 scM0_1 xa1) [] := rfl

theorem c_a : kernelRun0_C.sl.HS2_1 c i a4 a5 a6 a8 T0 T1 x0 x1 x2 x4 xa0 xa2 xa3 =
    kA (k0_pay17 (F := Ideal) (w0 i T0) (w1 i T1)) (rd a6 x2) (rd a4 x0) (rd a5 x1) (BitVec.ofNat 32 (i 0).val) (rt a8 x4) (h0 scM0_3 xa3) (h1 scM0_3 xa3) (h0 scM0_0 xa0) (h1 scM0_0 xa0) (ra xa2) [] := rfl

theorem c_o : kernelRun0_C.sl.HO5_1 c i a4 a5 a6 a8 T0 T1 x0 x1 x2 x4 xa0 xa1 xa2 xa3 = lastO
      (kernelRun0_C.sl.HS1_2 c i a4 a5 a6 a8 T0 T1 x0 x1 x2 x4 xa0 xa1 xa3) (kernelRun0_C.sl.HS2_1 c i a4 a5 a6 a8 T0 T1 x0 x1 x2 x4 xa0 xa2 xa3) := rfl

theorem c_e : kernelRun0_C.sl.HO6_1 c i a4 a5 a6 a8 T0 T1 x0 x1 x2 x4 xa0 xa1 xa3 = lastE
      (kernelRun0_C.sl.HS1_2 c i a4 a5 a6 a8 T0 T1 x0 x1 x2 x4 xa0 xa1 xa3) (kernelRun0_C.sl.HS0_2 c i a4 a5 a8 T0 T1 x0 x1 x4 xa0 xa3) := rfl

/-- The first block, where it is also the last: from the initial arrays, under the mask. -/
theorem a_q : kernelRun0_A.sl.HS3_2 i a7 x3 = LQ (BitVec.ofNat 32 (i 0).val) (rd a7 x3) := rfl

theorem a_m : kernelRun0_A.sl.HS0_3 i a4 a5 a7 a8 T0 T1 x0 x1 x3 x4 =
    kM (k0_pay17 (F := Ideal) (w0 i T0) (w1 i T1)) (rd a4 x0) (rd a5 x1) (BitVec.ofNat 32 (i 0).val) (rt a8 x4)
      (v0 scM0_3 (LQ (BitVec.ofNat 32 (i 0).val) (rd a7 x3))) (v1 scM0_3 (LQ (BitVec.ofNat 32 (i 0).val) (rd a7 x3))) (v0 scM0_0 [PW (k0_pay11 (F := Ideal))]) (v1 scM0_0 [PW (k0_pay11 (F := Ideal))]) [PW (k0_pay11 (F := Ideal))] := rfl

theorem a_l : kernelRun0_A.sl.HS1_3 i a4 a5 a6 a7 a8 T0 T1 x0 x1 x2 x3 x4 =
    kL (k0_pay17 (F := Ideal) (w0 i T0) (w1 i T1)) (rd a6 x2) (rd a4 x0) (rd a5 x1) (BitVec.ofNat 32 (i 0).val) (rt a8 x4)
      (v0 scM0_3 (LQ (BitVec.ofNat 32 (i 0).val) (rd a7 x3))) (v1 scM0_3 (LQ (BitVec.ofNat 32 (i 0).val) (rd a7 x3))) (v0 scM0_0 [PW (k0_pay11 (F := Ideal))]) (v1 scM0_0 [PW (k0_pay11 (F := Ideal))])
      (v0 scM0_1 [PW (k0_pay12 (F := Ideal))]) (v1 scM0_1 (P0 (fL (k0_pay17 (F := Ideal) (w0 i T0) (w1 i T1)) (rd a6 x2) (rd a4 x0) (rd a5 x1) (BitVec.ofNat 32 (i 0).val) (rt a8 x4) (v0 scM0_3 (LQ (BitVec.ofNat 32 (i 0).val) (rd a7 x3))) (v0 scM0_0 [PW (k0_pay11 (F := Ideal))]) (v0 scM0_1 [PW (k0_pay12 (F := Ideal))])) :: [PW (k0_pay12 (F := Ideal))])) [PW (k0_pay12 (F := Ideal))] := rfl

theorem a_a : kernelRun0_A.sl.HS2_2 i a4 a5 a6 a7 a8 T0 T1 x0 x1 x2 x3 x4 =
    kA (k0_pay17 (F := Ideal) (w0 i T0) (w1 i T1)) (rd a6 x2) (rd a4 x0) (rd a5 x1) (BitVec.ofNat 32 (i 0).val) (rt a8 x4)
      (v0 scM0_3 (LQ (BitVec.ofNat 32 (i 0).val) (rd a7 x3))) (v1 scM0_3 (LQ (BitVec.ofNat 32 (i 0).val) (rd a7 x3))) (v0 scM0_0 [PW (k0_pay11 (F := Ideal))]) (v1 scM0_0 [PW (k0_pay11 (F := Ideal))]) (vA [PA (k0_pay13 (F := Ideal))]) [PA (k0_pay13 (F := Ideal))] := rfl

theorem a_o : kernelRun0_A.sl.HO5_1 i a4 a5 a6 a7 a8 T0 T1 x0 x1 x2 x3 x4 = lastO (kernelRun0_A.sl.HS1_3 i a4 a5 a6 a7 a8 T0 T1 x0 x1 x2 x3 x4) (kernelRun0_A.sl.HS2_2 i a4 a5 a6 a7 a8 T0 T1 x0 x1 x2 x3 x4) := rfl

theorem a_e : kernelRun0_A.sl.HO6_1 i a4 a5 a6 a7 a8 T0 T1 x0 x1 x2 x3 x4 = lastE (kernelRun0_A.sl.HS1_3 i a4 a5 a6 a7 a8 T0 T1 x0 x1 x2 x3 x4) (kernelRun0_A.sl.HS0_3 i a4 a5 a7 a8 T0 T1 x0 x1 x3 x4) := rfl

/-- The first block: from the initial arrays, under the mask. -/
theorem b_q : kernelRun0_B.sl.HS3_2 i a7 x3 = LQ (BitVec.ofNat 32 (i 0).val) (rd a7 x3) := rfl

theorem b_m : kernelRun0_B.sl.HS0_3 i a4 a5 a7 a8 T0 T1 x0 x1 x3 x4 =
    kM (k0_pay17 (F := Ideal) (w0 i T0) (w1 i T1)) (rd a4 x0) (rd a5 x1) (BitVec.ofNat 32 (i 0).val) (rt a8 x4)
      (v0 scM0_3 (LQ (BitVec.ofNat 32 (i 0).val) (rd a7 x3))) (v1 scM0_3 (LQ (BitVec.ofNat 32 (i 0).val) (rd a7 x3))) (v0 scM0_0 [PW (k0_pay11 (F := Ideal))]) (v1 scM0_0 [PW (k0_pay11 (F := Ideal))]) [PW (k0_pay11 (F := Ideal))] := rfl

theorem b_l : kernelRun0_B.sl.HS1_3 i a4 a5 a6 a7 a8 T0 T1 x0 x1 x2 x3 x4 =
    kL (k0_pay17 (F := Ideal) (w0 i T0) (w1 i T1)) (rd a6 x2) (rd a4 x0) (rd a5 x1) (BitVec.ofNat 32 (i 0).val) (rt a8 x4)
      (v0 scM0_3 (LQ (BitVec.ofNat 32 (i 0).val) (rd a7 x3))) (v1 scM0_3 (LQ (BitVec.ofNat 32 (i 0).val) (rd a7 x3))) (v0 scM0_0 [PW (k0_pay11 (F := Ideal))]) (v1 scM0_0 [PW (k0_pay11 (F := Ideal))])
      (v0 scM0_1 [PW (k0_pay12 (F := Ideal))]) (v1 scM0_1 (P0 (fL (k0_pay17 (F := Ideal) (w0 i T0) (w1 i T1)) (rd a6 x2) (rd a4 x0) (rd a5 x1) (BitVec.ofNat 32 (i 0).val) (rt a8 x4) (v0 scM0_3 (LQ (BitVec.ofNat 32 (i 0).val) (rd a7 x3))) (v0 scM0_0 [PW (k0_pay11 (F := Ideal))]) (v0 scM0_1 [PW (k0_pay12 (F := Ideal))])) :: [PW (k0_pay12 (F := Ideal))])) [PW (k0_pay12 (F := Ideal))] := rfl

theorem b_a : kernelRun0_B.sl.HS2_2 i a4 a5 a6 a7 a8 T0 T1 x0 x1 x2 x3 x4 =
    kA (k0_pay17 (F := Ideal) (w0 i T0) (w1 i T1)) (rd a6 x2) (rd a4 x0) (rd a5 x1) (BitVec.ofNat 32 (i 0).val) (rt a8 x4)
      (v0 scM0_3 (LQ (BitVec.ofNat 32 (i 0).val) (rd a7 x3))) (v1 scM0_3 (LQ (BitVec.ofNat 32 (i 0).val) (rd a7 x3))) (v0 scM0_0 [PW (k0_pay11 (F := Ideal))]) (v1 scM0_0 [PW (k0_pay11 (F := Ideal))]) (vA [PA (k0_pay13 (F := Ideal))]) [PA (k0_pay13 (F := Ideal))] := rfl

end

end Cert.Ff

end
-- ==== Proof.Ff.Update.lean ====
/-
  One grid point's effect on the running softmax: the arrays at the keys up to `n` become the arrays at the keys up
  to `n + 384`.
-/
module

public import proofs.«01_k».proof.Proof.Ff.Steps
public import Idealize.ShloMosaic.Lib.VecWindow

@[expose] public section

noncomputable section

namespace Cert.Ff

open Cert.KFfIdeal Cert.KFfIdeal.Gen Idealize.ShloMosaic Idealize.ShloMosaic.TcCoe Idealize.SL.Sem

/-! ## What the pieces leave -/

/-- The halves and the whole of a scratch. -/
abbrev R0 : Rect S2x384x128 := Rect.unit (s := S2x384x128) ![0, 0, 0] S1x384x128.size inb_S2x384x128_S1x384x128_0_0_0
abbrev R1 : Rect S2x384x128 := Rect.unit (s := S2x384x128) ![1, 0, 0] S1x384x128.size inb_S2x384x128_S1x384x128_1_0_0
abbrev RW : Rect S2x384x128 := Rect.unit (s := S2x384x128) ![0, 0, 0] S2x384x128.size inb_S2x384x128_S2x384x128_0_0_0
abbrev RA : Rect S384x128 := Rect.unit (s := S384x128) ![0, 0] S384x128.size inb_S384x128_S384x128_0_0

theorem emb_0 (r : Fin 384) (x : Fin 128) :
    R0.emb (ix3 0 r x : S1x384x128.Idx) = ix3 0 r x := by
  funext a; fin_cases a <;> exact Fin.ext (by simp [ix3])

theorem emb_1 (r : Fin 384) (x : Fin 128) :
    R1.emb (ix3 0 r x : S1x384x128.Idx) = ix3 1 r x := by
  funext a; fin_cases a <;> exact Fin.ext (by simp [ix3])

theorem emb_w (y : S2x384x128.Idx) :
    RW.emb y = y := by
  funext a; fin_cases a <;> exact Fin.ext (by simp)

theorem emb_a (y : S384x128.Idx) :
    RA.emb y = y := by
  funext a; fin_cases a <;> exact Fin.ext (by simp)

theorem left_1 (w : S1x384x128.Idx → Elt Ideal .f32) (L : List (View.Piece (Elt Ideal) S2x384x128 .f32)) (r : Fin 384) (x : Fin 128) :
    View.canon (P1 w :: L) (ix3 1 r x) = w (ix3 0 r x) := by
  rw [← emb_1]; exact View.canon_cons_emb R1 w L _

theorem left_0 (w : S1x384x128.Idx → Elt Ideal .f32) (L : List (View.Piece (Elt Ideal) S2x384x128 .f32)) (r : Fin 384) (x : Fin 128) :
    View.canon (P0 w :: L) (ix3 0 r x) = w (ix3 0 r x) := by
  conv_lhs => rw [← emb_0]
  exact View.canon_cons_emb R0 w L _

theorem past_1 (w : S1x384x128.Idx → Elt Ideal .f32) (L : List (View.Piece (Elt Ideal) S2x384x128 .f32)) (r : Fin 384) (x : Fin 128) :
    View.canon (P1 w :: L) (ix3 0 r x) = View.canon L (ix3 0 r x) :=
  View.canon_cons_of_not_mem _ L fun h => by
    have := ((Rect.mem_set_unit (inb := inb_S2x384x128_S1x384x128_1_0_0)).mp h 0).1
    exact absurd this (by simp [ix3])

theorem past_0 (w : S1x384x128.Idx → Elt Ideal .f32) (L : List (View.Piece (Elt Ideal) S2x384x128 .f32)) (r : Fin 384) (x : Fin 128) :
    View.canon (P0 w :: L) (ix3 1 r x) = View.canon L (ix3 1 r x) :=
  View.canon_cons_of_not_mem _ L fun h => by
    have := ((Rect.mem_set_unit (inb := inb_S2x384x128_S1x384x128_0_0_0)).mp h 0).2
    exact absurd this (by simp [ix3])

theorem left_w (w : S2x384x128.Idx → Elt Ideal .f32) (L : List (View.Piece (Elt Ideal) S2x384x128 .f32)) (y : S2x384x128.Idx) :
    View.canon (PW w :: L) y = w y := by
  conv_lhs => rw [← emb_w y]
  exact View.canon_cons_emb RW w L _

theorem left_a (w : S384x128.Idx → Elt Ideal .f32) (L : List (View.Piece (Elt Ideal) S384x128 .f32)) (y : S384x128.Idx) :
    View.canon (PA w :: L) y = w y := by
  conv_lhs => rw [← emb_a y]
  exact View.canon_cons_emb RA w L _

/-! ## What the reads read -/

theorem v0_apply (a : Memref sig .tc .vmem S2x384x128 .f32) (L : List (View.Piece (Elt Ideal) S2x384x128 .f32)) (r : Fin 384) (x : Fin 128) :
    v0 a L (ix3 0 r x) = View.canon L (ix3 0 r x) := by
  rw [show v0 a L = _ from View.readCov_eq_canon' _ _ _]
  exact congrArg (View.canon L) (emb_0 r x)

theorem v1_apply (a : Memref sig .tc .vmem S2x384x128 .f32) (L : List (View.Piece (Elt Ideal) S2x384x128 .f32)) (r : Fin 384) (x : Fin 128) :
    v1 a L (ix3 0 r x) = View.canon L (ix3 1 r x) := by
  rw [show v1 a L = _ from View.readCov_eq_canon' _ _ _]
  exact congrArg (View.canon L) (emb_1 r x)

theorem vA_apply (L : List (View.Piece (Elt Ideal) S384x128 .f32)) (y : S384x128.Idx) : vA L y = View.canon L y := by
  rw [show vA L = _ from View.readCov_eq_canon' _ _ _]
  exact congrArg (View.canon L) (emb_a y)

theorem h0_apply (a : Memref sig .tc .vmem S2x384x128 .f32) (x : a.view.ty.Contents (Elt Ideal)) (r : Fin 384) (l : Fin 128) :
    h0 a x (ix3 0 r l) = a.view.read (Elt Ideal) x (ix3 0 r l) :=
  congrArg (a.view.read (Elt Ideal) x) (emb_0 r l)

theorem h1_apply (a : Memref sig .tc .vmem S2x384x128 .f32) (x : a.view.ty.Contents (Elt Ideal)) (r : Fin 384) (l : Fin 128) :
    h1 a x (ix3 0 r l) = a.view.read (Elt Ideal) x (ix3 1 r l) :=
  congrArg (a.view.read (Elt Ideal) x) (emb_1 r l)

theorem ra_apply (x : scM0_2.view.ty.Contents (Elt Ideal)) (y : S384x128.Idx) : ra x y = scM0_2.view.read (Elt Ideal) x y :=
  congrArg (scM0_2.view.read (Elt Ideal) x) (emb_a y)

theorem rd_eq {e : EltTy} (a : Memref sig .tc .vmem S384x128 e) (x : S384x128.Idx → Elt Ideal e) : rd a x = x :=
  View.readAt_rep_full a.view x _

theorem rt_eq (a : Memref sig .tc .vmem S8x384 .f32) (x : S8x384.Idx → Elt Ideal .f32) : rt a x = x :=
  View.readAt_rep_full a.view x _

/-! ## The scores of a block -/

/-- Every key open. -/
theorem runs_open {d : FVec Ideal S384x384 .f32} {o : FVec Ideal S1x384 .f32} {cq : FVec Ideal S1x384x128 .f32} {S : ℕ → EReal} {n : ℕ}
    {r : Fin 384} {g : EReal} (hg : ∀ x, cq (ix3 0 r x) = g) (h : ∀ y : Fin 384, d (ix2 r y) + g - o (ix2 0 y) = S (n + y.val)) :
    Runs (OA d o cq) (OB d o cq) (OC d o cq) r S n := by
  intro l
  refine ⟨?_, ?_, ?_⟩
  · show k0_pay51 (F := Ideal) d o cq (ix2 r l) = _
    unfold k0_pay51 k0_pay50
    pointwise
    rw [hg]
    exact h ⟨l.val, by have := l.isLt; omega⟩
  · show k0_pay52 (F := Ideal) d o cq (ix2 r l) = _
    unfold k0_pay52 k0_pay50
    pointwise
    rw [hg]
    exact h ⟨128 + l.val, by have := l.isLt; omega⟩
  · show k0_pay53 (F := Ideal) d o cq (ix2 r l) = _
    unfold k0_pay53 k0_pay50
    pointwise
    rw [hg]
    exact h ⟨256 + l.val, by have := l.isLt; omega⟩

/-- Under a mask. -/
theorem runs_masked {b : IVec S384x384 1} {d : FVec Ideal S384x384 .f32} {o : FVec Ideal S1x384 .f32} {cq : FVec Ideal S1x384x128 .f32}
    {S : ℕ → EReal} {n : ℕ} {r : Fin 384} {g : EReal} (hg : ∀ x, cq (ix3 0 r x) = g)
    (h : ∀ y : Fin 384, Scalar.select (b (ix2 r y)) (d (ix2 r y) + g - o (ix2 0 y)) ⊥ = S (n + y.val)) :
    Runs (MA b d o cq) (MB b d o cq) (MC b d o cq) r S n := by
  intro l
  refine ⟨?_, ?_, ?_⟩
  · show k0_pay28 (F := Ideal) b d o (k0_pay27 cq) (ix2 r l) = _
    unfold k0_pay28 k0_pay27
    pointwise
    rw [hg, named_mask]
    exact h ⟨l.val, by have := l.isLt; omega⟩
  · show k0_pay29 (F := Ideal) b d o (k0_pay27 cq) (ix2 r l) = _
    unfold k0_pay29 k0_pay27
    pointwise
    rw [hg, named_mask]
    exact h ⟨128 + l.val, by have := l.isLt; omega⟩
  · show k0_pay30 (F := Ideal) b d o (k0_pay27 cq) (ix2 r l) = _
    unfold k0_pay30 k0_pay27
    pointwise
    rw [hg, named_mask]
    exact h ⟨256 + l.val, by have := l.isLt; omega⟩

/-! ## The block update -/

/-- The head of a lane. -/
def hd (x : Fin 128) : Fin 2 := if x.val < 64 then 0 else 1

/-- The arrays of the running softmax at the keys up to `n`. -/
structure At (S : Fin 2 → Fin 384 → ℕ → EReal) (f : Fin 128 → ℕ → EReal) (n : ℕ) (m l : S2x384x128.Idx → EReal) (a : S384x128.Idx → EReal) : Prop where
  m : ∀ e r x, m (ix3 e r x) = mx (S e r) n
  l : ∀ e r x, l (ix3 e r x) = sm (S e r) (fun _ => 1) n
  a : ∀ r x, a (ix2 r x) = sm (S (hd x) r) (f x) n

section
variable {S : Fin 2 → Fin 384 → ℕ → EReal} {f : Fin 128 → ℕ → EReal} {n : ℕ}
  (hS : ∀ e r k, S e r k ≠ ⊤) (hf : ∀ x k, ∃ y : ℝ, f x k = y)
  {v : FVec Ideal S384x128 .bf16} {A0 B0 C0 A1 B1 C1 : FVec Ideal S384x128 .f32} {m0 m1 l0 l1 : FVec Ideal S1x384x128 .f32} {acc : FVec Ideal S384x128 .f32}
  (hv : ∀ (k : Fin 384) x, v (ix2 k x) = f x (n + k.val))
  (r0 : ∀ r, Runs A0 B0 C0 r (S 0 r) n) (r1 : ∀ r, Runs A1 B1 C1 r (S 1 r) n)
  (hm0 : ∀ r x, m0 (ix3 0 r x) = mx (S 0 r) n) (hm1 : ∀ r x, m1 (ix3 0 r x) = mx (S 1 r) n)
  (hl0 : ∀ r x, l0 (ix3 0 r x) = sm (S 0 r) (fun _ => 1) n) (hl1 : ∀ r x, l1 (ix3 0 r x) = sm (S 1 r) (fun _ => 1) n)
  (ha : ∀ r x, acc (ix2 r x) = sm (S (hd x) r) (f x) n)
  (Lm Ll : List (View.Piece (Elt Ideal) S2x384x128 .f32)) (La : List (View.Piece (Elt Ideal) S384x128 .f32))
include hS hf hv r0 r1 hm0 hm1 hl0 hl1 ha

theorem update : At S f (n + 384) (View.canon (LM A0 B0 C0 A1 B1 C1 m0 m1 Lm)) (View.canon (LL v A0 B0 C0 A1 B1 C1 m0 m1 l0 l1 Ll))
    (View.canon (LA v A0 B0 C0 A1 B1 C1 m0 m1 acc La)) := by
  have p3 (w : FVec Ideal S384x128 .f32) (r : Fin 384) (x : Fin 128) : k0_pay3 (F := Ideal) w (ix3 0 r x) = w (ix2 r x) := by
    unfold k0_pay3; pointwise
  refine ⟨fun e r x => ?_, fun e r x => ?_, fun r x => ?_⟩
  · fin_cases e
    · refine (past_1 _ _ r x).trans ((left_0 _ _ r x).trans ((p3 _ r x).trans ?_))
      exact max_apply (r0 r) m0 x (hm0 r x)
    · refine (left_1 _ _ r x).trans ((p3 _ r x).trans ?_)
      exact max_apply (r1 r) m1 x (hm1 r x)
  · fin_cases e
    · refine (past_1 _ _ r x).trans ((left_0 _ _ r x).trans ?_)
      exact sum_apply (r0 r) (hS 0 r) v m0 l0 (hm0 r) x (hl0 r x)
    · refine (left_1 _ _ r x).trans ?_
      exact sum_apply (r1 r) (hS 1 r) v m1 l1 (hm1 r) x (hl1 r x)
  · refine (left_a _ _ _).trans ?_
    have hax := ha r x
    by_cases hx : x.val < 64
    · have e : hd x = 0 := if_pos hx
      rw [e] at hax ⊢
      exact acc_lo (hS 0 r) (hf x) _ _ _ _ _ r x hx (scale_apply (r0 r) m0 x (hm0 r x))
        (val_apply (r0 r) v m0 (hm0 r) x (f x) fun k => hv k x) hax
    · have e : hd x = 1 := if_neg hx
      rw [e] at hax ⊢
      exact acc_hi (hS 1 r) (hf x) _ _ _ _ _ r x hx (scale_apply (r1 r) m1 x (hm1 r x))
        (val_apply (r1 r) v m1 (hm1 r) x (f x) fun k => hv k x) hax

end

/-- One head's sums, where the other's are still to come. -/
theorem first_sum {S : ℕ → EReal} {n : ℕ} {r : Fin 384} (hS : ∀ k, S k ≠ ⊤) {v : FVec Ideal S384x128 .bf16} {A B C : FVec Ideal S384x128 .f32}
    {m l : FVec Ideal S1x384x128 .f32} (h : Runs A B C r S n) (hm : ∀ x, m (ix3 0 r x) = mx S n) (x : Fin 128)
    (hl : l (ix3 0 r x) = sm S (fun _ => 1) n) : uL v A B C m l (ix3 0 r x) = sm S (fun _ => 1) (n + 384) :=
  sum_apply h hS v m l hm x hl

/-- The three arrays before any key. -/
theorem init_m (y : S2x384x128.Idx) : View.canon [PW (k0_pay11 (F := Ideal))] y = ⊥ :=
  (left_w _ _ _).trans named_mask
theorem init_l (y : S2x384x128.Idx) : View.canon [PW (k0_pay12 (F := Ideal))] y = 0 :=
  (left_w _ _ _).trans Ideal.ofBits_zero_f32
theorem init_a (y : S384x128.Idx) : View.canon [PA (k0_pay13 (F := Ideal))] y = 0 :=
  (left_a _ _ _).trans Ideal.ofBits_zero_f32

/-! ## The results of a run -/

theorem last_o (l : List (View.Piece (Elt Ideal) S2x384x128 .f32)) (a : List (View.Piece (Elt Ideal) S384x128 .f32)) (r : Fin 384) (x : Fin 128) :
    View.canon (lastO l a) (ix2 r x) = Ideal.div (View.canon a (ix2 r x)) (View.canon l (ix3 (hd x) r x)) := by
  refine (congrArg (View.canon (lastO l a)) (emb_a (ix2 r x))).symm.trans ((View.canon_cons_emb RA _ [] (ix2 r x)).trans ?_)
  have e0 := v0_apply scM0_1 l r x
  have e1 := v1_apply scM0_1 l r x
  have ea := vA_apply a (ix2 r x)
  generalize v0 scM0_1 l = L0 at *
  generalize v1 scM0_1 l = L1 at *
  generalize vA a = W at *
  unfold k0_pay9 k0_pay8 k0_pay1
  pointwise
  rw [lane_lt, ea, e0, e1]
  by_cases hx : x.val < 64
  · rw [if_pos hx, show hd x = 0 from if_pos hx]; rfl
  · rw [if_neg hx, show hd x = 1 from if_neg hx]; rfl

theorem last_e (l m : List (View.Piece (Elt Ideal) S2x384x128 .f32)) (r : Fin 384) (x : Fin 128) :
    View.canon (lastE l m) (ix2 r x) = View.canon m (ix3 (hd x) r x) + Ideal.log (View.canon l (ix3 (hd x) r x)) := by
  refine (left_a _ _ _).trans ?_
  have e0 := v0_apply scM0_1 l r x
  have e1 := v1_apply scM0_1 l r x
  have f0 := v0_apply scM0_0 m r x
  have f1 := v1_apply scM0_0 m r x
  generalize v0 scM0_1 l = L0 at *
  generalize v1 scM0_1 l = L1 at *
  generalize v0 scM0_0 m = M0 at *
  generalize v1 scM0_0 m = M1 at *
  unfold k0_pay10 k0_pay8 k0_pay1
  pointwise
  rw [lane_lt, e0, e1, f0, f1]
  by_cases hx : x.val < 64
  · rw [if_pos hx, show hd x = 0 from if_pos hx]; rfl
  · rw [if_neg hx, show hd x = 1 from if_neg hx]; rfl

end Cert.Ff

end
-- ==== Proof.Ff.Points.lean ====
/-
  The walk over the blocks: which block of queries and of keys each grid point takes, which of the four paths, and where
  its windows read and write.
-/
module

public import proofs.«01_k».proof.Proof.Ff.Update

@[expose] public section

set_option maxRecDepth 16384

noncomputable section

namespace Cert.Ff

open Cert.KFfIdeal Cert.KFfIdeal.Gen Idealize.ShloMosaic Idealize.ShloMosaic.TcCoe Idealize.SL.Sem

abbrev Pt := Fin (cfgA 0).N

/-- A point's block of queries, block of keys and pair of heads. -/
def qi (t : Pt) : Fin 11 := ⟨(w0 (crd 0 t) (pinT_0 0)).toNat % 11, Nat.mod_lt _ (by omega)⟩
def kj (t : Pt) : Fin 11 := ⟨(w1 (crd 0 t) (pinT_1 0)).toNat % 11, Nat.mod_lt _ (by omega)⟩
def pr (t : Pt) : Fin 4 := ⟨(crd 0 t 0).val % 4, Nat.mod_lt _ (by omega)⟩

theorem words : ∀ t : Pt, w0 (crd 0 t) (pinT_0 0) = BitVec.ofNat 32 (qi t).val ∧ w1 (crd 0 t) (pinT_1 0) = BitVec.ofNat 32 (kj t).val
    ∧ (crd 0 t 0).val = (pr t).val := by decide +kernel

theorem kj_le : ∀ t : Pt, (kj t).val ≤ (qi t).val := by decide +kernel
theorem p00 : ∀ t : Pt, P0_0 0 t ↔ (kj t).val = 0 := by decide +kernel
theorem p01 : ∀ t : Pt, P0_1 0 t ↔ (kj t).val = (qi t).val := by decide +kernel
theorem p02 : ∀ t : Pt, P0_2 0 t ↔ (kj t).val = 0 ∨ (kj t).val = (qi t).val := by decide +kernel

/-- After a run's first point, the point before took the block of keys before, of the same queries and heads. -/
theorem before : ∀ t : Pt, (kj t).val ≠ 0 → t.val ≠ 0 ∧ qi ⟨t.val - 1, by have := t.isLt; omega⟩ = qi t
    ∧ (kj ⟨t.val - 1, by have := t.isLt; omega⟩).val + 1 = (kj t).val ∧ pr ⟨t.val - 1, by have := t.isLt; omega⟩ = pr t := by decide +kernel

/-- Some point takes the last block of keys of any block of queries. -/
theorem last : ∀ (i : Fin 11) (p : Fin 4), ∃ t : Pt, qi t = i ∧ kj t = i ∧ pr t = p := by decide +kernel

/-- The results' blocks are written back exactly at the last blocks of keys. -/
theorem flush_5 : ∀ t : Pt, ((cfgA 0).win 5).flush t = true ↔ (kj t).val = (qi t).val := by decide +kernel
theorem flush_6 : ∀ t : Pt, ((cfgA 0).win 6).flush t = true ↔ (kj t).val = (qi t).val := by decide +kernel

theorem idx_0 : ∀ t : Pt, ((cfgA 0).win 0).index t = ![(qi t).val, (pr t).val] := by decide +kernel
theorem idx_1 : ∀ t : Pt, ((cfgA 0).win 1).index t = ![(kj t).val, (pr t).val] := by decide +kernel
theorem idx_2 : ∀ t : Pt, ((cfgA 0).win 2).index t = ![(kj t).val, (pr t).val] := by decide +kernel
theorem idx_3 : ∀ t : Pt, ((cfgA 0).win 3).index t = ![(qi t).val, 0] := by decide +kernel
theorem idx_4 : ∀ t : Pt, ((cfgA 0).win 4).index t = ![0, (kj t).val] := by decide +kernel
theorem idx_5 : ∀ t : Pt, ((cfgA 0).win 5).index t = ![(qi t).val, (pr t).val] := by decide +kernel
theorem idx_6 : ∀ t : Pt, ((cfgA 0).win 6).index t = ![(qi t).val, (pr t).val] := by decide +kernel

variable (m : (ℓ : Loc nD τ sig) → Buf (Elt Ideal) ℓ) (ρ : Dev nD → PrngReg) (c : Dev nD)

/-- Input window 0 reads its array at these coordinates. -/
theorem rd_0 (t : Pt) (r : Fin 384) (x : Fin 128) :
    iblk 0 m ρ c 0 t (ix2 r x : S384x128.Idx) = m ((c : Thread nD τ).loc main_arg2) (ix2 ⟨384 * (qi t).val + r.val, by have := (qi t).isLt; have := r.isLt; omega⟩ ⟨128 * (pr t).val + x.val, by have := (pr t).isLt; have := x.isLt; omega⟩ : S4224x512.Idx) := by
  unfold iblk
  rw [View.read_apply]
  show m ((c : Thread nD τ).loc main_arg2) _ = _
  congr 1
  funext a
  apply Fin.ext
  show ((((cfgA 0).win 0).rect t).emb _ a : Nat) = _
  rw [Pipeline.Window.rect_emb_val ((cfgA 0).win 0) t _ a rfl, idx_0 t]
  match a with
  | ⟨0, _⟩ => exact congrArg (· + r.val) (Nat.mul_comm _ _)
  | ⟨1, _⟩ => exact congrArg (· + x.val) (Nat.mul_comm _ _)

/-- Input window 1 reads its array at these coordinates. -/
theorem rd_1 (t : Pt) (r : Fin 384) (x : Fin 128) :
    iblk 0 m ρ c 1 t (ix2 r x : S384x128.Idx) = m ((c : Thread nD τ).loc main_arg3) (ix2 ⟨384 * (kj t).val + r.val, by have := (kj t).isLt; have := r.isLt; omega⟩ ⟨128 * (pr t).val + x.val, by have := (pr t).isLt; have := x.isLt; omega⟩ : S4224x512.Idx) := by
  unfold iblk
  rw [View.read_apply]
  show m ((c : Thread nD τ).loc main_arg3) _ = _
  congr 1
  funext a
  apply Fin.ext
  show ((((cfgA 0).win 1).rect t).emb _ a : Nat) = _
  rw [Pipeline.Window.rect_emb_val ((cfgA 0).win 1) t _ a rfl, idx_1 t]
  match a with
  | ⟨0, _⟩ => exact congrArg (· + r.val) (Nat.mul_comm _ _)
  | ⟨1, _⟩ => exact congrArg (· + x.val) (Nat.mul_comm _ _)

/-- Input window 2 reads its array at these coordinates. -/
theorem rd_2 (t : Pt) (r : Fin 384) (x : Fin 128) :
    iblk 0 m ρ c 2 t (ix2 r x : S384x128.Idx) = m ((c : Thread nD τ).loc main_arg4) (ix2 ⟨384 * (kj t).val + r.val, by have := (kj t).isLt; have := r.isLt; omega⟩ ⟨128 * (pr t).val + x.val, by have := (pr t).isLt; have := x.isLt; omega⟩ : S4224x512.Idx) := by
  unfold iblk
  rw [View.read_apply]
  show m ((c : Thread nD τ).loc main_arg4) _ = _
  congr 1
  funext a
  apply Fin.ext
  show ((((cfgA 0).win 2).rect t).emb _ a : Nat) = _
  rw [Pipeline.Window.rect_emb_val ((cfgA 0).win 2) t _ a rfl, idx_2 t]
  match a with
  | ⟨0, _⟩ => exact congrArg (· + r.val) (Nat.mul_comm _ _)
  | ⟨1, _⟩ => exact congrArg (· + x.val) (Nat.mul_comm _ _)

/-- Input window 3 reads its array at these coordinates. -/
theorem rd_3 (t : Pt) (r : Fin 384) (x : Fin 128) :
    iblk 0 m ρ c 3 t (ix2 r x : S384x128.Idx) = m ((c : Thread nD τ).loc main_arg5) (ix2 ⟨384 * (qi t).val + r.val, by have := (qi t).isLt; have := r.isLt; omega⟩ x : S4224x128.Idx) := by
  unfold iblk
  rw [View.read_apply]
  show m ((c : Thread nD τ).loc main_arg5) _ = _
  congr 1
  funext a
  apply Fin.ext
  show ((((cfgA 0).win 3).rect t).emb _ a : Nat) = _
  rw [Pipeline.Window.rect_emb_val ((cfgA 0).win 3) t _ a rfl, idx_3 t]
  match a with
  | ⟨0, _⟩ => exact congrArg (· + r.val) (Nat.mul_comm _ _)
  | ⟨1, _⟩ => exact (congrArg (· + x.val) (Nat.zero_mul _)).trans (Nat.zero_add _)

/-- Input window 4 reads its array at these coordinates. -/
theorem rd_4 (t : Pt) (r : Fin 8) (x : Fin 384) :
    iblk 0 m ρ c 4 t (ix2 r x : S8x384.Idx) = m ((c : Thread nD τ).loc main_arg6) (ix2 r ⟨384 * (kj t).val + x.val, by have := (kj t).isLt; have := x.isLt; omega⟩ : S8x4224.Idx) := by
  unfold iblk
  rw [View.read_apply]
  show m ((c : Thread nD τ).loc main_arg6) _ = _
  congr 1
  funext a
  apply Fin.ext
  show ((((cfgA 0).win 4).rect t).emb _ a : Nat) = _
  rw [Pipeline.Window.rect_emb_val ((cfgA 0).win 4) t _ a rfl, idx_4 t]
  match a with
  | ⟨0, _⟩ => exact (congrArg (· + r.val) (Nat.zero_mul _)).trans (Nat.zero_add _)
  | ⟨1, _⟩ => exact congrArg (· + x.val) (Nat.mul_comm _ _)

/-- The block of output window 5 at point `t`, read off an array `G`. -/
theorem ow_5 (t : Pt) (G : Vec Ideal S4224x512 .bf16) (r : Fin 384) (x : Fin 128) :
    (((cfgA 0).win 5).blk t).view.read (Elt Ideal) G (ix2 r x : S384x128.Idx) = G (ix2 ⟨384 * (qi t).val + r.val, by have := (qi t).isLt; have := r.isLt; omega⟩ ⟨128 * (pr t).val + x.val, by have := (pr t).isLt; have := x.isLt; omega⟩ : S4224x512.Idx) := by
  rw [View.read_apply]
  show G _ = _
  congr 1
  funext a
  apply Fin.ext
  show ((((cfgA 0).win 5).rect t).emb _ a : Nat) = _
  rw [Pipeline.Window.rect_emb_val ((cfgA 0).win 5) t _ a rfl, idx_5 t]
  match a with
  | ⟨0, _⟩ => exact congrArg (· + r.val) (Nat.mul_comm _ _)
  | ⟨1, _⟩ => exact congrArg (· + x.val) (Nat.mul_comm _ _)

/-- Every element of output window 5's array lies in a block that is written back. -/
theorem cover_5 (i : (((cfgA 0).win 5).arr.view.loc (c.tc : Thread nD τ)).2.ty.Idx) :
    ∃ t : Pt, ((cfgA 0).win 5).flush t = true ∧ i ∈ (((cfgA 0).win 5).blk t).view.set := by
  have h0 : (i 0).val < 4224 := (i 0).isLt
  have h1 : (i 1).val < 512 := (i 1).isLt
  obtain ⟨t, hq, hk, hp⟩ := last ⟨(i 0).val / 384, by omega⟩ ⟨(i 1).val / 128, by omega⟩
  refine ⟨t, (flush_5 t).mpr (by rw [hk, hq]), ?_⟩
  show i ∈ ((View.whole main_v0_0).slice (((cfgA 0).win 5).rect t)).set
  rw [View.set_slice_whole, Rect.mem_set_unit]
  intro a
  match a with
  | ⟨0, _⟩ =>
    show ((cfgA 0).win 5).index t 0 * 384 ≤ (i 0).val ∧ (i 0).val < ((cfgA 0).win 5).index t 0 * 384 + 384
    rw [idx_5, hq]
    show (i 0).val / 384 * 384 ≤ (i 0).val ∧ (i 0).val < (i 0).val / 384 * 384 + 384
    omega
  | ⟨1, _⟩ =>
    show ((cfgA 0).win 5).index t 1 * 128 ≤ (i 1).val ∧ (i 1).val < ((cfgA 0).win 5).index t 1 * 128 + 128
    rw [idx_5, hp]
    show (i 1).val / 128 * 128 ≤ (i 1).val ∧ (i 1).val < (i 1).val / 128 * 128 + 128
    omega

/-- The block of output window 6 at point `t`, read off an array `G`. -/
theorem ow_6 (t : Pt) (G : Vec Ideal S4224x512 .f32) (r : Fin 384) (x : Fin 128) :
    (((cfgA 0).win 6).blk t).view.read (Elt Ideal) G (ix2 r x : S384x128.Idx) = G (ix2 ⟨384 * (qi t).val + r.val, by have := (qi t).isLt; have := r.isLt; omega⟩ ⟨128 * (pr t).val + x.val, by have := (pr t).isLt; have := x.isLt; omega⟩ : S4224x512.Idx) := by
  rw [View.read_apply]
  show G _ = _
  congr 1
  funext a
  apply Fin.ext
  show ((((cfgA 0).win 6).rect t).emb _ a : Nat) = _
  rw [Pipeline.Window.rect_emb_val ((cfgA 0).win 6) t _ a rfl, idx_6 t]
  match a with
  | ⟨0, _⟩ => exact congrArg (· + r.val) (Nat.mul_comm _ _)
  | ⟨1, _⟩ => exact congrArg (· + x.val) (Nat.mul_comm _ _)

/-- Every element of output window 6's array lies in a block that is written back. -/
theorem cover_6 (i : (((cfgA 0).win 6).arr.view.loc (c.tc : Thread nD τ)).2.ty.Idx) :
    ∃ t : Pt, ((cfgA 0).win 6).flush t = true ∧ i ∈ (((cfgA 0).win 6).blk t).view.set := by
  have h0 : (i 0).val < 4224 := (i 0).isLt
  have h1 : (i 1).val < 512 := (i 1).isLt
  obtain ⟨t, hq, hk, hp⟩ := last ⟨(i 0).val / 384, by omega⟩ ⟨(i 1).val / 128, by omega⟩
  refine ⟨t, (flush_6 t).mpr (by rw [hk, hq]), ?_⟩
  show i ∈ ((View.whole main_v0_1).slice (((cfgA 0).win 6).rect t)).set
  rw [View.set_slice_whole, Rect.mem_set_unit]
  intro a
  match a with
  | ⟨0, _⟩ =>
    show ((cfgA 0).win 6).index t 0 * 384 ≤ (i 0).val ∧ (i 0).val < ((cfgA 0).win 6).index t 0 * 384 + 384
    rw [idx_6, hq]
    show (i 0).val / 384 * 384 ≤ (i 0).val ∧ (i 0).val < (i 0).val / 384 * 384 + 384
    omega
  | ⟨1, _⟩ =>
    show ((cfgA 0).win 6).index t 1 * 128 ≤ (i 1).val ∧ (i 1).val < ((cfgA 0).win 6).index t 1 * 128 + 128
    rw [idx_6, hp]
    show (i 1).val / 128 * 128 ≤ (i 1).val ∧ (i 1).val < (i 1).val / 128 * 128 + 128
    omega

end Cert.Ff

end
-- ==== Proof.Ff.Traj.lean ====
/-
  The running softmax along the walk: after each grid point the arrays hold the maximum, the weights' sum and the
  weighted values of the keys up to the end of the point's block.
-/
module

public import proofs.«01_k».proof.Proof.Ff.Points

@[expose] public section

set_option maxRecDepth 16384

noncomputable section

namespace Cert.Ff

open Cert.KFfIdeal Cert.KFfIdeal.Gen Idealize.ShloMosaic Idealize.ShloMosaic.TcCoe Idealize.SL.Sem

/-! ## Scores and values -/

section
variable (Q K V : S4224x512.Idx → EReal) (C : S4224x128.Idx → EReal) (T : S8x4224.Idx → EReal)

/-- The score of key `n` for query `R` in head `h`; `⊥` where the mask closes it. -/
def sco (h : Fin 8) (R : Fin 4224) (n : ℕ) : EReal :=
  if w : n ≤ R.val ∧ 112 ≤ n then
    (∑ d : Fin 64, Q (ix2 R ⟨64 * h.val + d.val, by have := h.isLt; have := d.isLt; omega⟩)
      * K (ix2 ⟨n, by have := R.isLt; omega⟩ ⟨64 * h.val + d.val, by have := h.isLt; have := d.isLt; omega⟩))
      + C (ix2 R ⟨h.val, by have := h.isLt; omega⟩) - T (ix2 h ⟨n, by have := R.isLt; omega⟩)
  else ⊥

/-- The value of key `n` in column `x`. -/
def vco (x : Fin 512) (n : ℕ) : EReal := if w : n < 4224 then V (ix2 ⟨n, w⟩ x) else 0

/-- The scores of a block of queries for a pair of heads, the values of the pair's columns, and the queries' offsets. -/
def sS (i : Fin 11) (p : Fin 4) (e : Fin 2) (r : Fin 384) : ℕ → EReal :=
  sco Q K C T ⟨2 * p.val + e.val, by have := p.isLt; have := e.isLt; omega⟩ ⟨384 * i.val + r.val, by have := i.isLt; have := r.isLt; omega⟩
def fS (p : Fin 4) (x : Fin 128) : ℕ → EReal := vco V ⟨128 * p.val + x.val, by have := p.isLt; have := x.isLt; omega⟩
def gS (i : Fin 11) (p : Fin 4) (e : Fin 2) (r : Fin 384) : EReal :=
  C (ix2 ⟨384 * i.val + r.val, by have := i.isLt; have := r.isLt; omega⟩ ⟨2 * p.val + e.val, by have := p.isLt; have := e.isLt; omega⟩)

variable {Q K V C T}

theorem sco_ne_top (hQ : ∀ i, Cert.Re.Fin' (Q i)) (hK : ∀ i, Cert.Re.Fin' (K i)) (hC : ∀ i, Cert.Re.Fin' (C i)) (hT : ∀ i, Cert.Re.Fin' (T i))
    (h : Fin 8) (R : Fin 4224) (n : ℕ) : sco Q K C T h R n ≠ ⊤ := by
  unfold sco
  split
  · choose q hq using hQ
    choose k hk using hK
    choose c hc using hC
    choose t ht using hT
    simp only [hq, hk, hc, ht, ← EReal.coe_mul]
    rw [← coe_sum, ← EReal.coe_add, ← EReal.coe_sub]
    exact EReal.coe_ne_top _
  · exact bot_ne_top

theorem vco_real (hV : ∀ i, Cert.Re.Fin' (V i)) (x : Fin 512) (n : ℕ) : ∃ y : ℝ, vco V x n = y := by
  unfold vco
  split
  · exact hV _
  · exact ⟨0, rfl⟩

end

variable (m : (ℓ : Loc nD τ sig) → Buf (Elt Ideal) ℓ) (ρ : Dev nD → PrngReg) (c : Dev nD)

abbrev aQ : S4224x512.Idx → EReal := m ((c : Thread nD τ).loc main_arg2)
abbrev aK : S4224x512.Idx → EReal := m ((c : Thread nD τ).loc main_arg3)
abbrev aV : S4224x512.Idx → EReal := m ((c : Thread nD τ).loc main_arg4)
abbrev aC : S4224x128.Idx → EReal := m ((c : Thread nD τ).loc main_arg5)
abbrev aT : S8x4224.Idx → EReal := m ((c : Thread nD τ).loc main_arg6)
abbrev SS := sS (aQ m c) (aK m c) (aC m c) (aT m c)
abbrev FS := fS (aV m c)
abbrev GS := gS (aC m c)

/-! ## The blocks of a point -/

variable {m ρ c}

/-- A block's score before the mask, where the mask leaves it open. -/
theorem open_0 {t : Pt} {q k : FVec Ideal S384x128 .bf16} {ct : FVec Ideal S8x384 .f32} (hq : q = iblk 0 m ρ c 0 t) (hk : k = iblk 0 m ρ c 1 t)
    (ht : ct = iblk 0 m ρ c 4 t) (r y : Fin 384) (ho : 384 * (kj t).val + y.val ≤ 384 * (qi t).val + r.val ∧ 112 ≤ 384 * (kj t).val + y.val) :
    d0 q k (ix2 r y) + GS m c (qi t) (pr t) 0 r - o0 (BitVec.ofNat 32 (crd 0 t 0).val) ct (ix2 0 y) = SS m c (qi t) (pr t) 0 r (384 * (kj t).val + y.val) := by
  subst hq hk ht
  rw [(words t).2.2]
  refine (congrArg₂ (· - ·) (congrArg (· + _) (dot_lo _ _ r y)) (ck_lo (pr t) _ y)).trans ?_
  refine Eq.trans ?_ (dif_pos ho).symm
  refine congrArg₂ (· - ·) (congrArg (· + _) (Finset.sum_congr rfl fun d _ => ?_)) ?_
  · refine congrArg₂ (· * ·) ((rd_0 m ρ c t _ _).trans (congrArg _ (congrArg₂ ix2 rfl (Fin.ext ?_)))) ((rd_1 m ρ c t _ _).trans (congrArg _ (congrArg₂ ix2 rfl (Fin.ext ?_)))) <;>
      (simp only [Fin.val_zero]; omega)
  · exact rd_4 m ρ c t _ _

theorem open_1 {t : Pt} {q k : FVec Ideal S384x128 .bf16} {ct : FVec Ideal S8x384 .f32} (hq : q = iblk 0 m ρ c 0 t) (hk : k = iblk 0 m ρ c 1 t)
    (ht : ct = iblk 0 m ρ c 4 t) (r y : Fin 384) (ho : 384 * (kj t).val + y.val ≤ 384 * (qi t).val + r.val ∧ 112 ≤ 384 * (kj t).val + y.val) :
    d1 q k (ix2 r y) + GS m c (qi t) (pr t) 1 r - o1 (BitVec.ofNat 32 (crd 0 t 0).val) ct (ix2 0 y) = SS m c (qi t) (pr t) 1 r (384 * (kj t).val + y.val) := by
  subst hq hk ht
  rw [(words t).2.2]
  refine (congrArg₂ (· - ·) (congrArg (· + _) (dot_hi _ _ r y)) (ck_hi (pr t) _ y)).trans ?_
  refine Eq.trans ?_ (dif_pos ho).symm
  refine congrArg₂ (· - ·) (congrArg (· + _) (Finset.sum_congr rfl fun d _ => ?_)) ?_
  · refine congrArg₂ (· * ·) ((rd_0 m ρ c t _ _).trans (congrArg _ (congrArg₂ ix2 rfl (Fin.ext ?_)))) ((rd_1 m ρ c t _ _).trans (congrArg _ (congrArg₂ ix2 rfl (Fin.ext ?_)))) <;>
      (simp only [Fin.val_one]; omega)
  · exact rd_4 m ρ c t _ _

/-- A block's values. -/
theorem vals {t : Pt} {v : FVec Ideal S384x128 .bf16} (hv : v = iblk 0 m ρ c 2 t) (k : Fin 384) (x : Fin 128) :
    v (ix2 k x) = FS m c (pr t) x (384 * (kj t).val + k.val) := by
  subst hv
  refine (rd_2 m ρ c t k x).trans ?_
  show _ = vco _ _ _
  unfold vco
  rw [dif_pos (show 384 * (kj t).val + k.val < 4224 by have := (kj t).isLt; have := k.isLt; omega)]

/-- The mask's word at an element, and the score under it. -/
theorem under {t : Pt} {r y : Fin 384} {s : EReal} {e : Fin 2}
    (h : 384 * (kj t).val + y.val ≤ 384 * (qi t).val + r.val ∧ 112 ≤ 384 * (kj t).val + y.val → s = SS m c (qi t) (pr t) e r (384 * (kj t).val + y.val)) :
    Scalar.select (k0_pay17 (F := Ideal) (w0 (crd 0 t) (pinT_0 0)) (w1 (crd 0 t) (pinT_1 0)) (ix2 r y)) s ⊥ = SS m c (qi t) (pr t) e r (384 * (kj t).val + y.val) := by
  rw [(words t).1, (words t).2.1, mask_apply]
  by_cases ho : 384 * (kj t).val + y.val ≤ 384 * (qi t).val + r.val ∧ 112 ≤ 384 * (kj t).val + y.val
  · rw [if_pos ho, ← h ho]; rfl
  · rw [if_neg ho]
    show _ = sco _ _ _ _ _ _ _
    unfold sco
    rw [dif_neg ho]
    rfl

/-! ## The update at a point -/

section
variable (hQ : ∀ i, Cert.Re.Fin' (aQ m c i)) (hK : ∀ i, Cert.Re.Fin' (aK m c i)) (hV : ∀ i, Cert.Re.Fin' (aV m c i))
  (hC : ∀ i, Cert.Re.Fin' (aC m c i)) (hT : ∀ i, Cert.Re.Fin' (aT m c i))
  {t : Pt} {q k v : FVec Ideal S384x128 .bf16} {ct : FVec Ideal S8x384 .f32} (hq : q = iblk 0 m ρ c 0 t) (hk : k = iblk 0 m ρ c 1 t)
  (hv : v = iblk 0 m ρ c 2 t) (ht : ct = iblk 0 m ρ c 4 t)
  {c0 c1 m0 m1 l0 l1 : FVec Ideal S1x384x128 .f32} {acc : FVec Ideal S384x128 .f32}
  (hc0 : ∀ r x, c0 (ix3 0 r x) = GS m c (qi t) (pr t) 0 r) (hc1 : ∀ r x, c1 (ix3 0 r x) = GS m c (qi t) (pr t) 1 r)
  (hm0 : ∀ r x, m0 (ix3 0 r x) = mx (SS m c (qi t) (pr t) 0 r) (384 * (kj t).val)) (hm1 : ∀ r x, m1 (ix3 0 r x) = mx (SS m c (qi t) (pr t) 1 r) (384 * (kj t).val))
  (hl0 : ∀ r x, l0 (ix3 0 r x) = sm (SS m c (qi t) (pr t) 0 r) (fun _ => 1) (384 * (kj t).val))
  (hl1 : ∀ r x, l1 (ix3 0 r x) = sm (SS m c (qi t) (pr t) 1 r) (fun _ => 1) (384 * (kj t).val))
  (ha : ∀ r x, acc (ix2 r x) = sm (SS m c (qi t) (pr t) (hd x) r) (FS m c (pr t) x) (384 * (kj t).val))
  (Lm Ll : List (View.Piece (Elt Ideal) S2x384x128 .f32)) (La : List (View.Piece (Elt Ideal) S384x128 .f32))
include hQ hK hV hC hT hq hk hv ht hc0 hc1 hm0 hm1 hl0 hl1 ha

theorem open_update (h0 : (kj t).val ≠ 0) (h1 : (kj t).val ≠ (qi t).val) : At (SS m c (qi t) (pr t)) (FS m c (pr t)) (384 * (kj t).val + 384)
    (View.canon (oM q k (BitVec.ofNat 32 (crd 0 t 0).val) ct c0 c1 m0 m1 Lm)) (View.canon (oL v q k (BitVec.ofNat 32 (crd 0 t 0).val) ct c0 c1 m0 m1 l0 l1 Ll))
    (View.canon (oA v q k (BitVec.ofNat 32 (crd 0 t 0).val) ct c0 c1 m0 m1 acc La)) := by
  have hle := kj_le t
  have ho (r y : Fin 384) : 384 * (kj t).val + y.val ≤ 384 * (qi t).val + r.val ∧ 112 ≤ 384 * (kj t).val + y.val := by
    have := y.isLt; omega
  exact update (S := SS m c (qi t) (pr t)) (f := FS m c (pr t)) (n := 384 * (kj t).val) (fun _ _ _ => sco_ne_top hQ hK hC hT _ _ _) (fun _ _ => vco_real hV _ _) (vals hv)
    (fun r => runs_open (hc0 r) fun y => open_0 hq hk ht r y (ho r y)) (fun r => runs_open (hc1 r) fun y => open_1 hq hk ht r y (ho r y))
    hm0 hm1 hl0 hl1 ha Lm Ll La

theorem masked_update : At (SS m c (qi t) (pr t)) (FS m c (pr t)) (384 * (kj t).val + 384)
    (View.canon (kM (k0_pay17 (F := Ideal) (w0 (crd 0 t) (pinT_0 0)) (w1 (crd 0 t) (pinT_1 0))) q k (BitVec.ofNat 32 (crd 0 t 0).val) ct c0 c1 m0 m1 Lm))
    (View.canon (kL (k0_pay17 (F := Ideal) (w0 (crd 0 t) (pinT_0 0)) (w1 (crd 0 t) (pinT_1 0))) v q k (BitVec.ofNat 32 (crd 0 t 0).val) ct c0 c1 m0 m1 l0 l1 Ll))
    (View.canon (kA (k0_pay17 (F := Ideal) (w0 (crd 0 t) (pinT_0 0)) (w1 (crd 0 t) (pinT_1 0))) v q k (BitVec.ofNat 32 (crd 0 t 0).val) ct c0 c1 m0 m1 acc La)) :=
  update (S := SS m c (qi t) (pr t)) (f := FS m c (pr t)) (n := 384 * (kj t).val) (fun _ _ _ => sco_ne_top hQ hK hC hT _ _ _) (fun _ _ => vco_real hV _ _) (vals hv)
    (fun r => runs_masked (hc0 r) fun y => under fun ho => open_0 hq hk ht r y ho) (fun r => runs_masked (hc1 r) fun y => under fun ho => open_1 hq hk ht r y ho)
    hm0 hm1 hl0 hl1 ha Lm Ll La

end

end Cert.Ff

end
-- ==== Proof.Ff.Walk.lean ====
/-
  The running softmax after every grid point of the walk, and the two results where a run of keys ends.
-/
module

public import proofs.«01_k».proof.Proof.Ff.Traj

@[expose] public section

set_option maxRecDepth 16384

noncomputable section

namespace Cert.Ff

open Cert.KFfIdeal Cert.KFfIdeal.Gen Idealize.ShloMosaic Idealize.ShloMosaic.TcCoe Idealize.SL.Sem

variable (m : (ℓ : Loc nD τ sig) → Buf (Elt Ideal) ℓ) (ρ : Dev nD → PrngReg) (c : Dev nD)

/-- What the results' buffers and the four scratches hold. -/
abbrev Held := (S384x128.Idx → Elt Ideal .bf16) × (S384x128.Idx → Elt Ideal .f32) × Buf (Elt Ideal) ((c : Thread nD τ).loc cc0_scratch0)
  × Buf (Elt Ideal) ((c : Thread nD τ).loc cc0_scratch1) × Buf (Elt Ideal) ((c : Thread nD τ).loc cc0_scratch2) × Buf (Elt Ideal) ((c : Thread nD τ).loc cc0_scratch3)

/-! ## A point's contents, scratch by scratch -/

section
variable (t : Pt) (prev : Held c) (q0 : ¬P0_0 0 t) (q1 : ¬P0_2 0 t)
include q0 q1

theorem sd_m : (step0 0 m ρ c t prev).2.2.1 = View.canon (kernelRun0_D.sl.HS0_2 c (crd 0 t) (ms0_0 0 t) (ms0_1 0 t) (ms0_4 0 t) (iblk 0 m ρ c 0 t) (iblk 0 m ρ c 1 t) (iblk 0 m ρ c 4 t) prev.2.2.1 prev.2.2.2.2.2) := by
  simp only [step0_D 0 m ρ c t prev q0 q1]
  delta kernelRun0_D
  dsimp only
  exact (View.read_whole _ _).symm.trans (View.read_writes_junk_eq_canon (Val := Elt Ideal) (View.whole cc0_scratch0) _)

theorem sd_l : (step0 0 m ρ c t prev).2.2.2.1 = View.canon (kernelRun0_D.sl.HS1_2 c (crd 0 t) (ms0_0 0 t) (ms0_1 0 t) (ms0_2 0 t) (ms0_4 0 t) (iblk 0 m ρ c 0 t) (iblk 0 m ρ c 1 t) (iblk 0 m ρ c 2 t) (iblk 0 m ρ c 4 t) prev.2.2.1 prev.2.2.2.1 prev.2.2.2.2.2) := by
  simp only [step0_D 0 m ρ c t prev q0 q1]
  delta kernelRun0_D
  dsimp only
  exact (View.read_whole _ _).symm.trans (View.read_writes_junk_eq_canon (Val := Elt Ideal) (View.whole cc0_scratch1) _)

theorem sd_a : (step0 0 m ρ c t prev).2.2.2.2.1 = View.canon (kernelRun0_D.sl.HS2_1 c (crd 0 t) (ms0_0 0 t) (ms0_1 0 t) (ms0_2 0 t) (ms0_4 0 t) (iblk 0 m ρ c 0 t) (iblk 0 m ρ c 1 t) (iblk 0 m ρ c 2 t) (iblk 0 m ρ c 4 t) prev.2.2.1 prev.2.2.2.2.1 prev.2.2.2.2.2) := by
  simp only [step0_D 0 m ρ c t prev q0 q1]
  delta kernelRun0_D
  dsimp only
  exact (View.read_whole _ _).symm.trans (View.read_writes_junk_eq_canon (Val := Elt Ideal) (View.whole cc0_scratch2) _)

theorem sd_q : (step0 0 m ρ c t prev).2.2.2.2.2 = prev.2.2.2.2.2 := by
  simp only [step0_D 0 m ρ c t prev q0 q1]
  delta kernelRun0_D
  dsimp only

end

section
variable (t : Pt) (prev : Held c) (q0 : ¬P0_0 0 t) (q1 : P0_2 0 t)
include q0 q1

theorem sc_m : (step0 0 m ρ c t prev).2.2.1 = View.canon (kernelRun0_C.sl.HS0_2 c (crd 0 t) (ms0_0 0 t) (ms0_1 0 t) (ms0_4 0 t) (pinT_0 0) (pinT_1 0) (iblk 0 m ρ c 0 t) (iblk 0 m ρ c 1 t) (iblk 0 m ρ c 4 t) prev.2.2.1 prev.2.2.2.2.2) := by
  simp only [step0_C 0 m ρ c t prev q0 q1]
  delta kernelRun0_C
  dsimp only
  exact (View.read_whole _ _).symm.trans (View.read_writes_junk_eq_canon (Val := Elt Ideal) (View.whole cc0_scratch0) _)

theorem sc_l : (step0 0 m ρ c t prev).2.2.2.1 = View.canon (kernelRun0_C.sl.HS1_2 c (crd 0 t) (ms0_0 0 t) (ms0_1 0 t) (ms0_2 0 t) (ms0_4 0 t) (pinT_0 0) (pinT_1 0) (iblk 0 m ρ c 0 t) (iblk 0 m ρ c 1 t) (iblk 0 m ρ c 2 t) (iblk 0 m ρ c 4 t) prev.2.2.1 prev.2.2.2.1 prev.2.2.2.2.2) := by
  simp only [step0_C 0 m ρ c t prev q0 q1]
  delta kernelRun0_C
  dsimp only
  exact (View.read_whole _ _).symm.trans (View.read_writes_junk_eq_canon (Val := Elt Ideal) (View.whole cc0_scratch1) _)

theorem sc_a : (step0 0 m ρ c t prev).2.2.2.2.1 = View.canon (kernelRun0_C.sl.HS2_1 c (crd 0 t) (ms0_0 0 t) (ms0_1 0 t) (ms0_2 0 t) (ms0_4 0 t) (pinT_0 0) (pinT_1 0) (iblk 0 m ρ c 0 t) (iblk 0 m ρ c 1 t) (iblk 0 m ρ c 2 t) (iblk 0 m ρ c 4 t) prev.2.2.1 prev.2.2.2.2.1 prev.2.2.2.2.2) := by
  simp only [step0_C 0 m ρ c t prev q0 q1]
  delta kernelRun0_C
  dsimp only
  exact (View.read_whole _ _).symm.trans (View.read_writes_junk_eq_canon (Val := Elt Ideal) (View.whole cc0_scratch2) _)

theorem sc_o : (step0 0 m ρ c t prev).1 = View.canon (kernelRun0_C.sl.HO5_1 c (crd 0 t) (ms0_0 0 t) (ms0_1 0 t) (ms0_2 0 t) (ms0_4 0 t) (pinT_0 0) (pinT_1 0) (iblk 0 m ρ c 0 t) (iblk 0 m ρ c 1 t) (iblk 0 m ρ c 2 t) (iblk 0 m ρ c 4 t) prev.2.2.1 prev.2.2.2.1 prev.2.2.2.2.1 prev.2.2.2.2.2) := by
  simp only [step0_C 0 m ρ c t prev q0 q1]
  unfold out0_C_5
  delta kernelRun0_C
  dsimp only
  exact View.read_writes_junk_eq_canon (Val := Elt Ideal) VO0_5 _

theorem sc_e : (step0 0 m ρ c t prev).2.1 = View.canon (kernelRun0_C.sl.HO6_1 c (crd 0 t) (ms0_0 0 t) (ms0_1 0 t) (ms0_2 0 t) (ms0_4 0 t) (pinT_0 0) (pinT_1 0) (iblk 0 m ρ c 0 t) (iblk 0 m ρ c 1 t) (iblk 0 m ρ c 2 t) (iblk 0 m ρ c 4 t) prev.2.2.1 prev.2.2.2.1 prev.2.2.2.2.2) := by
  simp only [step0_C 0 m ρ c t prev q0 q1]
  unfold out0_C_6
  delta kernelRun0_C
  dsimp only
  exact View.read_writes_junk_eq_canon (Val := Elt Ideal) VO0_6 _

theorem sc_q : (step0 0 m ρ c t prev).2.2.2.2.2 = prev.2.2.2.2.2 := by
  simp only [step0_C 0 m ρ c t prev q0 q1]
  delta kernelRun0_C
  dsimp only

end

section
variable (t : Pt) (prev : Held c) (q0 : P0_0 0 t) (q1 : ¬P0_1 0 t)
include q0 q1

theorem sb_m : (step0 0 m ρ c t prev).2.2.1 = View.canon (kernelRun0_B.sl.HS0_3 (crd 0 t) (ms0_0 0 t) (ms0_1 0 t) (ms0_3 0 t) (ms0_4 0 t) (pinT_0 0) (pinT_1 0) (iblk 0 m ρ c 0 t) (iblk 0 m ρ c 1 t) (iblk 0 m ρ c 3 t) (iblk 0 m ρ c 4 t)) := by
  simp only [step0_B 0 m ρ c t prev q0 q1]
  delta kernelRun0_B
  dsimp only
  exact (View.read_whole _ _).symm.trans (View.read_writes_junk_eq_canon (Val := Elt Ideal) (View.whole cc0_scratch0) _)

theorem sb_l : (step0 0 m ρ c t prev).2.2.2.1 = View.canon (kernelRun0_B.sl.HS1_3 (crd 0 t) (ms0_0 0 t) (ms0_1 0 t) (ms0_2 0 t) (ms0_3 0 t) (ms0_4 0 t) (pinT_0 0) (pinT_1 0) (iblk 0 m ρ c 0 t) (iblk 0 m ρ c 1 t) (iblk 0 m ρ c 2 t) (iblk 0 m ρ c 3 t) (iblk 0 m ρ c 4 t)) := by
  simp only [step0_B 0 m ρ c t prev q0 q1]
  delta kernelRun0_B
  dsimp only
  exact (View.read_whole _ _).symm.trans (View.read_writes_junk_eq_canon (Val := Elt Ideal) (View.whole cc0_scratch1) _)

theorem sb_a : (step0 0 m ρ c t prev).2.2.2.2.1 = View.canon (kernelRun0_B.sl.HS2_2 (crd 0 t) (ms0_0 0 t) (ms0_1 0 t) (ms0_2 0 t) (ms0_3 0 t) (ms0_4 0 t) (pinT_0 0) (pinT_1 0) (iblk 0 m ρ c 0 t) (iblk 0 m ρ c 1 t) (iblk 0 m ρ c 2 t) (iblk 0 m ρ c 3 t) (iblk 0 m ρ c 4 t)) := by
  simp only [step0_B 0 m ρ c t prev q0 q1]
  delta kernelRun0_B
  dsimp only
  exact (View.read_whole _ _).symm.trans (View.read_writes_junk_eq_canon (Val := Elt Ideal) (View.whole cc0_scratch2) _)

theorem sb_q : (step0 0 m ρ c t prev).2.2.2.2.2 = View.canon (kernelRun0_B.sl.HS3_2 (crd 0 t) (ms0_3 0 t) (iblk 0 m ρ c 3 t)) := by
  simp only [step0_B 0 m ρ c t prev q0 q1]
  delta kernelRun0_B
  dsimp only
  exact (View.read_whole _ _).symm.trans (View.read_writes_junk_eq_canon (Val := Elt Ideal) (View.whole cc0_scratch3) _)

end

section
variable (t : Pt) (prev : Held c) (q0 : P0_0 0 t) (q1 : P0_1 0 t)
include q0 q1

theorem sa_m : (step0 0 m ρ c t prev).2.2.1 = View.canon (kernelRun0_A.sl.HS0_3 (crd 0 t) (ms0_0 0 t) (ms0_1 0 t) (ms0_3 0 t) (ms0_4 0 t) (pinT_0 0) (pinT_1 0) (iblk 0 m ρ c 0 t) (iblk 0 m ρ c 1 t) (iblk 0 m ρ c 3 t) (iblk 0 m ρ c 4 t)) := by
  simp only [step0_A 0 m ρ c t prev q0 q1]
  delta kernelRun0_A
  dsimp only
  exact (View.read_whole _ _).symm.trans (View.read_writes_junk_eq_canon (Val := Elt Ideal) (View.whole cc0_scratch0) _)

theorem sa_l : (step0 0 m ρ c t prev).2.2.2.1 = View.canon (kernelRun0_A.sl.HS1_3 (crd 0 t) (ms0_0 0 t) (ms0_1 0 t) (ms0_2 0 t) (ms0_3 0 t) (ms0_4 0 t) (pinT_0 0) (pinT_1 0) (iblk 0 m ρ c 0 t) (iblk 0 m ρ c 1 t) (iblk 0 m ρ c 2 t) (iblk 0 m ρ c 3 t) (iblk 0 m ρ c 4 t)) := by
  simp only [step0_A 0 m ρ c t prev q0 q1]
  delta kernelRun0_A
  dsimp only
  exact (View.read_whole _ _).symm.trans (View.read_writes_junk_eq_canon (Val := Elt Ideal) (View.whole cc0_scratch1) _)

theorem sa_a : (step0 0 m ρ c t prev).2.2.2.2.1 = View.canon (kernelRun0_A.sl.HS2_2 (crd 0 t) (ms0_0 0 t) (ms0_1 0 t) (ms0_2 0 t) (ms0_3 0 t) (ms0_4 0 t) (pinT_0 0) (pinT_1 0) (iblk 0 m ρ c 0 t) (iblk 0 m ρ c 1 t) (iblk 0 m ρ c 2 t) (iblk 0 m ρ c 3 t) (iblk 0 m ρ c 4 t)) := by
  simp only [step0_A 0 m ρ c t prev q0 q1]
  delta kernelRun0_A
  dsimp only
  exact (View.read_whole _ _).symm.trans (View.read_writes_junk_eq_canon (Val := Elt Ideal) (View.whole cc0_scratch2) _)

theorem sa_q : (step0 0 m ρ c t prev).2.2.2.2.2 = View.canon (kernelRun0_A.sl.HS3_2 (crd 0 t) (ms0_3 0 t) (iblk 0 m ρ c 3 t)) := by
  simp only [step0_A 0 m ρ c t prev q0 q1]
  delta kernelRun0_A
  dsimp only
  exact (View.read_whole _ _).symm.trans (View.read_writes_junk_eq_canon (Val := Elt Ideal) (View.whole cc0_scratch3) _)

theorem sa_o : (step0 0 m ρ c t prev).1 = View.canon (kernelRun0_A.sl.HO5_1 (crd 0 t) (ms0_0 0 t) (ms0_1 0 t) (ms0_2 0 t) (ms0_3 0 t) (ms0_4 0 t) (pinT_0 0) (pinT_1 0) (iblk 0 m ρ c 0 t) (iblk 0 m ρ c 1 t) (iblk 0 m ρ c 2 t) (iblk 0 m ρ c 3 t) (iblk 0 m ρ c 4 t)) := by
  simp only [step0_A 0 m ρ c t prev q0 q1]
  unfold out0_A_5
  delta kernelRun0_A
  dsimp only
  exact View.read_writes_junk_eq_canon (Val := Elt Ideal) VO0_5 _

theorem sa_e : (step0 0 m ρ c t prev).2.1 = View.canon (kernelRun0_A.sl.HO6_1 (crd 0 t) (ms0_0 0 t) (ms0_1 0 t) (ms0_2 0 t) (ms0_3 0 t) (ms0_4 0 t) (pinT_0 0) (pinT_1 0) (iblk 0 m ρ c 0 t) (iblk 0 m ρ c 1 t) (iblk 0 m ρ c 2 t) (iblk 0 m ρ c 3 t) (iblk 0 m ρ c 4 t)) := by
  simp only [step0_A 0 m ρ c t prev q0 q1]
  unfold out0_A_6
  delta kernelRun0_A
  dsimp only
  exact View.read_writes_junk_eq_canon (Val := Elt Ideal) VO0_6 _

end

/-! ## The arrays after a point -/

/-- The arrays of a pair of heads and a block of queries at the keys up to `n`. -/
structure Inv (i : Fin 11) (p : Fin 4) (n : ℕ) (st : Held c) : Prop where
  arr : At (SS m c i p) (FS m c p) n st.2.2.1 st.2.2.2.1 st.2.2.2.2.1
  q : ∀ e r x, st.2.2.2.2.2 (ix3 e r x) = GS m c i p e r

variable {m ρ c}

/-- The offsets a run's first point writes. -/
theorem first_q {t : Pt} {w : FVec Ideal S384x128 .f32} (hw : w = iblk 0 m ρ c 3 t) (e : Fin 2) (r : Fin 384) (x : Fin 128) :
    View.canon (LQ (BitVec.ofNat 32 (crd 0 t 0).val) w) (ix3 e r x) = GS m c (qi t) (pr t) e r := by
  subst hw
  rw [(words t).2.2]
  fin_cases e
  · refine (past_1 _ _ r x).trans ((left_0 _ _ r x).trans ((cq_lo (pr t) _ r x).trans ?_))
    exact rd_3 m ρ c t _ _
  · refine (left_1 _ _ r x).trans ((cq_hi (pr t) _ r x).trans ?_)
    exact rd_3 m ρ c t _ _

section
variable (hQ : ∀ i, Cert.Re.Fin' (aQ m c i)) (hK : ∀ i, Cert.Re.Fin' (aK m c i)) (hV : ∀ i, Cert.Re.Fin' (aV m c i))
  (hC : ∀ i, Cert.Re.Fin' (aC m c i)) (hT : ∀ i, Cert.Re.Fin' (aT m c i)) (t : Pt) (prev : Held c)
include hQ hK hV hC hT

theorem inv_D (q0 : ¬P0_0 0 t) (q1 : ¬P0_2 0 t) (h : Inv m c (qi t) (pr t) (384 * (kj t).val) prev) :
    Inv m c (qi t) (pr t) (384 * (kj t).val + 384) (step0 0 m ρ c t prev) := by
  have H := open_update (ρ := ρ) hQ hK hV hC hT (t := t) (rd_eq (ms0_0 0 t) (iblk 0 m ρ c 0 t)) (rd_eq (ms0_1 0 t) (iblk 0 m ρ c 1 t)) (rd_eq (ms0_2 0 t) (iblk 0 m ρ c 2 t)) (rt_eq (ms0_4 0 t) (iblk 0 m ρ c 4 t))
    (fun r x => (h0_apply scM0_3 prev.2.2.2.2.2 r x).trans (h.q 0 r x)) (fun r x => (h1_apply scM0_3 prev.2.2.2.2.2 r x).trans (h.q 1 r x))
    (fun r x => (h0_apply scM0_0 prev.2.2.1 r x).trans (h.arr.m 0 r x)) (fun r x => (h1_apply scM0_0 prev.2.2.1 r x).trans (h.arr.m 1 r x))
    (fun r x => (h0_apply scM0_1 prev.2.2.2.1 r x).trans (h.arr.l 0 r x)) (fun r x => (h1_apply scM0_1 prev.2.2.2.1 r x).trans (h.arr.l 1 r x))
    (fun r x => (ra_apply prev.2.2.2.2.1 _).trans (h.arr.a r x)) [] [] [] (fun e => q0 ((p00 t).mpr e)) (fun e => q1 ((p02 t).mpr (.inr e)))
  rw [← d_m c, ← d_l c, ← d_a c, ← sd_m m ρ c t prev q0 q1, ← sd_l m ρ c t prev q0 q1, ← sd_a m ρ c t prev q0 q1] at H
  exact ⟨H, fun e r x => (congrFun (sd_q m ρ c t prev q0 q1) _).trans (h.q e r x)⟩

theorem inv_C (q0 : ¬P0_0 0 t) (q1 : P0_2 0 t) (h : Inv m c (qi t) (pr t) (384 * (kj t).val) prev) :
    Inv m c (qi t) (pr t) (384 * (kj t).val + 384) (step0 0 m ρ c t prev) := by
  have H := masked_update (ρ := ρ) hQ hK hV hC hT (t := t) (rd_eq (ms0_0 0 t) (iblk 0 m ρ c 0 t)) (rd_eq (ms0_1 0 t) (iblk 0 m ρ c 1 t)) (rd_eq (ms0_2 0 t) (iblk 0 m ρ c 2 t)) (rt_eq (ms0_4 0 t) (iblk 0 m ρ c 4 t))
    (fun r x => (h0_apply scM0_3 prev.2.2.2.2.2 r x).trans (h.q 0 r x)) (fun r x => (h1_apply scM0_3 prev.2.2.2.2.2 r x).trans (h.q 1 r x))
    (fun r x => (h0_apply scM0_0 prev.2.2.1 r x).trans (h.arr.m 0 r x)) (fun r x => (h1_apply scM0_0 prev.2.2.1 r x).trans (h.arr.m 1 r x))
    (fun r x => (h0_apply scM0_1 prev.2.2.2.1 r x).trans (h.arr.l 0 r x)) (fun r x => (h1_apply scM0_1 prev.2.2.2.1 r x).trans (h.arr.l 1 r x))
    (fun r x => (ra_apply prev.2.2.2.2.1 _).trans (h.arr.a r x)) [] [] []
  rw [← c_m c, ← c_l c, ← c_a c, ← sc_m m ρ c t prev q0 q1, ← sc_l m ρ c t prev q0 q1, ← sc_a m ρ c t prev q0 q1] at H
  exact ⟨H, fun e r x => (congrFun (sc_q m ρ c t prev q0 q1) _).trans (h.q e r x)⟩

theorem inv_B (q0 : P0_0 0 t) (q1 : ¬P0_1 0 t) : Inv m c (qi t) (pr t) (384 * (kj t).val + 384) (step0 0 m ρ c t prev) := by
  have hz : 384 * (kj t).val = 0 := by have := (p00 t).mp q0; omega
  have H := masked_update (ρ := ρ) hQ hK hV hC hT (t := t) (rd_eq (ms0_0 0 t) (iblk 0 m ρ c 0 t)) (rd_eq (ms0_1 0 t) (iblk 0 m ρ c 1 t)) (rd_eq (ms0_2 0 t) (iblk 0 m ρ c 2 t)) (rt_eq (ms0_4 0 t) (iblk 0 m ρ c 4 t))
    (fun r x => (v0_apply scM0_3 (LQ (BitVec.ofNat 32 (crd 0 t 0).val) (rd (ms0_3 0 t) (iblk 0 m ρ c 3 t))) r x).trans (first_q (rd_eq (ms0_3 0 t) (iblk 0 m ρ c 3 t)) 0 r x)) (fun r x => (v1_apply scM0_3 (LQ (BitVec.ofNat 32 (crd 0 t 0).val) (rd (ms0_3 0 t) (iblk 0 m ρ c 3 t))) r x).trans (first_q (rd_eq (ms0_3 0 t) (iblk 0 m ρ c 3 t)) 1 r x))
    (fun r x => (v0_apply scM0_0 [PW (k0_pay11 (F := Ideal))] r x).trans ((init_m _).trans (by rw [hz, mx_zero]))) (fun r x => (v1_apply scM0_0 [PW (k0_pay11 (F := Ideal))] r x).trans ((init_m _).trans (by rw [hz, mx_zero])))
    (fun r x => (v0_apply scM0_1 [PW (k0_pay12 (F := Ideal))] r x).trans ((init_l _).trans (by rw [hz, sm_zero])))
    (fun r x => (v1_apply scM0_1 (P0 (fL (k0_pay17 (F := Ideal) (w0 (crd 0 t) (pinT_0 0)) (w1 (crd 0 t) (pinT_1 0))) (rd (ms0_2 0 t) (iblk 0 m ρ c 2 t))
        (rd (ms0_0 0 t) (iblk 0 m ρ c 0 t)) (rd (ms0_1 0 t) (iblk 0 m ρ c 1 t)) (BitVec.ofNat 32 (crd 0 t 0).val) (rt (ms0_4 0 t) (iblk 0 m ρ c 4 t))
        (v0 scM0_3 (LQ (BitVec.ofNat 32 (crd 0 t 0).val) (rd (ms0_3 0 t) (iblk 0 m ρ c 3 t)))) (v0 scM0_0 [PW (k0_pay11 (F := Ideal))])
        (v0 scM0_1 [PW (k0_pay12 (F := Ideal))])) :: [PW (k0_pay12 (F := Ideal))]) r x).trans ((past_0 _ _ r x).trans ((init_l _).trans (by rw [hz, sm_zero]))))
    (fun r x => (vA_apply [PA (k0_pay13 (F := Ideal))] _).trans ((init_a _).trans (by rw [hz, sm_zero]))) [PW (k0_pay11 (F := Ideal))] [PW (k0_pay12 (F := Ideal))] [PA (k0_pay13 (F := Ideal))]
  rw [← b_m, ← b_l, ← b_a, ← sb_m m ρ c t prev q0 q1, ← sb_l m ρ c t prev q0 q1, ← sb_a m ρ c t prev q0 q1] at H
  refine ⟨H, fun e r x => (congrFun (sb_q m ρ c t prev q0 q1) _).trans ?_⟩
  rw [b_q]
  exact first_q (rd_eq (ms0_3 0 t) (iblk 0 m ρ c 3 t)) e r x

theorem inv_A (q0 : P0_0 0 t) (q1 : P0_1 0 t) : Inv m c (qi t) (pr t) (384 * (kj t).val + 384) (step0 0 m ρ c t prev) := by
  have hz : 384 * (kj t).val = 0 := by have := (p00 t).mp q0; omega
  have H := masked_update (ρ := ρ) hQ hK hV hC hT (t := t) (rd_eq (ms0_0 0 t) (iblk 0 m ρ c 0 t)) (rd_eq (ms0_1 0 t) (iblk 0 m ρ c 1 t)) (rd_eq (ms0_2 0 t) (iblk 0 m ρ c 2 t)) (rt_eq (ms0_4 0 t) (iblk 0 m ρ c 4 t))
    (fun r x => (v0_apply scM0_3 (LQ (BitVec.ofNat 32 (crd 0 t 0).val) (rd (ms0_3 0 t) (iblk 0 m ρ c 3 t))) r x).trans (first_q (rd_eq (ms0_3 0 t) (iblk 0 m ρ c 3 t)) 0 r x)) (fun r x => (v1_apply scM0_3 (LQ (BitVec.ofNat 32 (crd 0 t 0).val) (rd (ms0_3 0 t) (iblk 0 m ρ c 3 t))) r x).trans (first_q (rd_eq (ms0_3 0 t) (iblk 0 m ρ c 3 t)) 1 r x))
    (fun r x => (v0_apply scM0_0 [PW (k0_pay11 (F := Ideal))] r x).trans ((init_m _).trans (by rw [hz, mx_zero]))) (fun r x => (v1_apply scM0_0 [PW (k0_pay11 (F := Ideal))] r x).trans ((init_m _).trans (by rw [hz, mx_zero])))
    (fun r x => (v0_apply scM0_1 [PW (k0_pay12 (F := Ideal))] r x).trans ((init_l _).trans (by rw [hz, sm_zero])))
    (fun r x => (v1_apply scM0_1 (P0 (fL (k0_pay17 (F := Ideal) (w0 (crd 0 t) (pinT_0 0)) (w1 (crd 0 t) (pinT_1 0))) (rd (ms0_2 0 t) (iblk 0 m ρ c 2 t))
        (rd (ms0_0 0 t) (iblk 0 m ρ c 0 t)) (rd (ms0_1 0 t) (iblk 0 m ρ c 1 t)) (BitVec.ofNat 32 (crd 0 t 0).val) (rt (ms0_4 0 t) (iblk 0 m ρ c 4 t))
        (v0 scM0_3 (LQ (BitVec.ofNat 32 (crd 0 t 0).val) (rd (ms0_3 0 t) (iblk 0 m ρ c 3 t)))) (v0 scM0_0 [PW (k0_pay11 (F := Ideal))])
        (v0 scM0_1 [PW (k0_pay12 (F := Ideal))])) :: [PW (k0_pay12 (F := Ideal))]) r x).trans ((past_0 _ _ r x).trans ((init_l _).trans (by rw [hz, sm_zero]))))
    (fun r x => (vA_apply [PA (k0_pay13 (F := Ideal))] _).trans ((init_a _).trans (by rw [hz, sm_zero]))) [PW (k0_pay11 (F := Ideal))] [PW (k0_pay12 (F := Ideal))] [PA (k0_pay13 (F := Ideal))]
  rw [← a_m, ← a_l, ← a_a, ← sa_m m ρ c t prev q0 q1, ← sa_l m ρ c t prev q0 q1, ← sa_a m ρ c t prev q0 q1] at H
  refine ⟨H, fun e r x => (congrFun (sa_q m ρ c t prev q0 q1) _).trans ?_⟩
  rw [a_q]
  exact first_q (rd_eq (ms0_3 0 t) (iblk 0 m ρ c 3 t)) e r x

/-- After every point of the walk. -/
theorem inv : ∀ (n : ℕ) (hn : n < (cfgA 0).N), Inv m c (qi ⟨n, hn⟩) (pr ⟨n, hn⟩) (384 * (kj ⟨n, hn⟩).val + 384) (traj0 0 m ρ c n hn) := by
  intro n
  induction n with
  | zero =>
    intro hn
    rw [traj0_eq 0 m ρ c ⟨0, hn⟩]
    have q0 : P0_0 0 (⟨0, hn⟩ : Pt) := (p00 _).mpr (by
      by_contra h
      exact (before _ h).1 rfl)
    by_cases q1 : P0_1 0 (⟨0, hn⟩ : Pt)
    · exact inv_A hQ hK hV hC hT _ _ q0 q1
    · exact inv_B hQ hK hV hC hT _ _ q0 q1
  | succ n ih =>
    intro hn
    rw [traj0_eq 0 m ρ c ⟨n + 1, hn⟩]
    by_cases q0 : P0_0 0 (⟨n + 1, hn⟩ : Pt)
    · by_cases q1 : P0_1 0 (⟨n + 1, hn⟩ : Pt)
      · exact inv_A hQ hK hV hC hT _ _ q0 q1
      · exact inv_B hQ hK hV hC hT _ _ q0 q1
    · obtain ⟨-, b1, b2, b3⟩ := before ⟨n + 1, hn⟩ fun e => q0 ((p00 _).mpr e)
      have I := ih (Nat.lt_of_succ_lt hn)
      have I' : Inv m c (qi ⟨n + 1, hn⟩) (pr ⟨n + 1, hn⟩) (384 * (kj ⟨n + 1, hn⟩).val) (prev0 0 m ρ c ⟨n + 1, hn⟩) := by
        rw [← b1, ← b3, ← b2]
        exact I
      by_cases q1 : P0_2 0 (⟨n + 1, hn⟩ : Pt)
      · exact inv_C hQ hK hV hC hT _ _ q0 q1 I'
      · exact inv_D hQ hK hV hC hT _ _ q0 q1 I'

end

/-! ## The results -/

/-- The maxima, the weights' sums and the weighted values held. -/
abbrev mOf (st : Held c) : S2x384x128.Idx → EReal := st.2.2.1
abbrev lOf (st : Held c) : S2x384x128.Idx → EReal := st.2.2.2.1
abbrev aOf (st : Held c) : S384x128.Idx → EReal := st.2.2.2.2.1

theorem ends_of {st : Held c} {l m : List (View.Piece (Elt Ideal) S2x384x128 .f32)} {a : List (View.Piece (Elt Ideal) S384x128 .f32)}
    (ho : st.1 = View.canon (lastO l a)) (he : st.2.1 = View.canon (lastE l m)) (hm : mOf st = View.canon m) (hl : lOf st = View.canon l)
    (ha : aOf st = View.canon a) (r : Fin 384) (x : Fin 128) :
    st.1 (ix2 r x) = Ideal.div (aOf st (ix2 r x)) (lOf st (ix3 (hd x) r x))
    ∧ st.2.1 (ix2 r x) = mOf st (ix3 (hd x) r x) + Ideal.log (lOf st (ix3 (hd x) r x)) := by
  rw [ho, he, hm, hl, ha]
  exact ⟨last_o _ _ r x, last_e _ _ r x⟩

/-- The results of a point where a run of keys ends, off the arrays it leaves. -/
theorem ends {t : Pt} (h : (kj t).val = (qi t).val) (prev : Held c) (r : Fin 384) (x : Fin 128) :
    (step0 0 m ρ c t prev).1 (ix2 r x) = Ideal.div (aOf (step0 0 m ρ c t prev) (ix2 r x)) (lOf (step0 0 m ρ c t prev) (ix3 (hd x) r x))
    ∧ (step0 0 m ρ c t prev).2.1 (ix2 r x) = mOf (step0 0 m ρ c t prev) (ix3 (hd x) r x) + Ideal.log (lOf (step0 0 m ρ c t prev) (ix3 (hd x) r x)) := by
  by_cases q0 : P0_0 0 t
  · have q1 : P0_1 0 t := (p01 t).mpr h
    exact ends_of ((sa_o m ρ c t prev q0 q1).trans (congrArg View.canon (a_o (crd 0 t) (ms0_0 0 t) (ms0_1 0 t) (ms0_2 0 t) (ms0_3 0 t) (ms0_4 0 t) (pinT_0 0) (pinT_1 0) _ _ _ _ _))) ((sa_e m ρ c t prev q0 q1).trans (congrArg View.canon (a_e (crd 0 t) (ms0_0 0 t) (ms0_1 0 t) (ms0_2 0 t) (ms0_3 0 t) (ms0_4 0 t) (pinT_0 0) (pinT_1 0) _ _ _ _ _)))
      (sa_m m ρ c t prev q0 q1) (sa_l m ρ c t prev q0 q1) (sa_a m ρ c t prev q0 q1) r x
  · have q1 : P0_2 0 t := (p02 t).mpr (.inr h)
    exact ends_of ((sc_o m ρ c t prev q0 q1).trans (congrArg View.canon (c_o c (crd 0 t) (ms0_0 0 t) (ms0_1 0 t) (ms0_2 0 t) (ms0_4 0 t) (pinT_0 0) (pinT_1 0) _ _ _ _ _ _ _ _))) ((sc_e m ρ c t prev q0 q1).trans (congrArg View.canon (c_e c (crd 0 t) (ms0_0 0 t) (ms0_1 0 t) (ms0_2 0 t) (ms0_4 0 t) (pinT_0 0) (pinT_1 0) _ _ _ _ _ _ _)))
      (sc_m m ρ c t prev q0 q1) (sc_l m ρ c t prev q0 q1) (sc_a m ρ c t prev q0 q1) r x

section
variable (hQ : ∀ i, Cert.Re.Fin' (aQ m c i)) (hK : ∀ i, Cert.Re.Fin' (aK m c i)) (hV : ∀ i, Cert.Re.Fin' (aV m c i))
  (hC : ∀ i, Cert.Re.Fin' (aC m c i)) (hT : ∀ i, Cert.Re.Fin' (aT m c i)) (t : Pt) (h : (kj t).val = (qi t).val) (r : Fin 384) (x : Fin 128)
include hQ hK hV hC hT h

/-- The results at the end of a run: over all the keys, those past the queries' block being closed. -/
theorem results :
    (traj0 0 m ρ c t.val t.isLt).1 (ix2 r x) = Ideal.div (sm (SS m c (qi t) (pr t) (hd x) r) (FS m c (pr t) x) 4224) (sm (SS m c (qi t) (pr t) (hd x) r) (fun _ => 1) 4224)
    ∧ (traj0 0 m ρ c t.val t.isLt).2.1 (ix2 r x) = mx (SS m c (qi t) (pr t) (hd x) r) 4224 + Ideal.log (sm (SS m c (qi t) (pr t) (hd x) r) (fun _ => 1) 4224) := by
  have I := inv (ρ := ρ) hQ hK hV hC hT t.val t.isLt
  have hcl (k : ℕ) (hk : 384 * (kj t).val + 384 ≤ k) : SS m c (qi t) (pr t) (hd x) r k = ⊥ :=
    dif_neg fun hh => by have := hh.1; have := r.isLt; simp only at *; omega
  have hb : 384 * (kj t).val + 384 ≤ 4224 := by have := (kj t).isLt; omega
  rw [mx_masked hb hcl, sm_masked hb hcl, sm_masked hb hcl]
  have E := ends (m := m) (ρ := ρ) h (prev0 0 m ρ c t) r x
  rw [← traj0_eq 0 m ρ c t] at E
  exact ⟨E.1.trans (congrArg₂ Ideal.div (I.arr.a r x) (I.arr.l (hd x) r x)),
    E.2.trans (congrArg₂ (fun a b => a + Ideal.log b) (I.arr.m (hd x) r x) (I.arr.l (hd x) r x))⟩

end

end Cert.Ff

end
-- ==== Proof.Ff.Ref.lean ====
/-
  The reference's scores, maxima, weights' sums and results, row by row.
-/
module

public import proofs.«01_k».proof.Proof.Ff.Walk
public import proofs.«01_k».proof.Proof.Gen.RFfIdeal.Read

@[expose] public section

set_option maxRecDepth 16384

noncomputable section

namespace Cert.Ff

open Cert.RFfIdeal Cert.RFfIdeal.Gen Cert.RFfIdeal.Read Idealize.ShloMosaic Idealize.ShloMosaic.TcCoe Idealize.SL.Sem

variable (Q K V : S4224x512.Idx → EReal) (C : S4224x128.Idx → EReal) (T : S8x4224.Idx → EReal) (h : Fin 8) (R : Fin 4224)

theorem ref_score (n : Fin 4224) : val_main_v14 (F := Ideal) Q K C T (ix3 h R n)
    = (∑ d : Fin 64, Q (ix2 R ⟨64 * h.val + d.val, by have := h.isLt; have := d.isLt; omega⟩)
      * K (ix2 n ⟨64 * h.val + d.val, by have := h.isLt; have := d.isLt; omega⟩))
      + C (ix2 R ⟨h.val, by have := h.isLt; omega⟩) - T (ix2 h n) := by
  pointwise [val_main_v0, val_main_v1, val_main_v2, val_main_v3, val_main_v4, val_main_v5, val_main_v6, val_main_v7, val_main_v8, val_main_v9, val_main_v10, val_main_v11, val_main_v12, val_main_v13, val_main_v14]
  simp only [Nat.mul_comm]

theorem ref_mask (n : Fin 4224) : val_main_call0_v1 (F := Ideal) (ix3 h R n) = if n.val ≤ R.val ∧ 112 ≤ n.val then 1#1 else 0#1 := by
  pointwise [val_main_v15, val_main_v16, val_main_v17, val_main_v18, val_main_v19, val_main_v20, val_main_c, val_main_v21, val_main_v22, val_main_v23, val_main_v24, val_main_v25, val_main_v26, val_main_call0_v1]
  exact mask_word (by have := n.isLt; omega) (by have := R.isLt; omega)

theorem ref_masked (n : Fin 4224) : val_main_v27 (F := Ideal) Q K C T (ix3 h R n) = sco Q K C T h R n.val := by
  have e1 := ref_score Q K C T h R n
  have e2 := ref_mask h R n
  unfold val_main_v27
  generalize val_main_v14 (F := Ideal) Q K C T = s at *
  generalize val_main_call0_v1 (F := Ideal) = b at *
  pointwise [val_main_call0_v2, val_main_call0_v0, val_main_cst]
  rw [e1, e2]
  unfold sco
  by_cases ho : n.val ≤ R.val ∧ 112 ≤ n.val
  · rw [if_pos ho, dif_pos ho]; rfl
  · rw [if_neg ho, dif_neg ho]; exact neg_inf

theorem ref_max : val_main_v28 (F := Ideal) Q K C T (ix2 h R) = mx (sco Q K C T h R) 4224 := by
  have e := ref_masked Q K C T h R
  unfold val_main_v28
  generalize val_main_v27 (F := Ideal) Q K C T = s at *
  pointwise [val_main_cst_0]
  rw [neg_inf]
  simp only [e]
  show Finset.univ.sup (fun x : Fin 4224 => sco Q K C T h R x.val) = _
  refine le_antisymm (Finset.sup_le fun x _ => le_mx _ x.isLt) (Finset.sup_le fun k hk => ?_)
  exact Finset.le_sup (f := fun x : Fin 4224 => sco Q K C T h R x.val) (Finset.mem_univ (⟨k, Finset.mem_range.mp hk⟩ : Fin 4224))

theorem ref_weight (n : Fin 4224) : val_main_v32 (F := Ideal) Q K C T (ix3 h R n) = Ideal.exp (sco Q K C T h R n.val - mx (sco Q K C T h R) 4224) := by
  have e1 := ref_masked Q K C T h R n
  have e2 := ref_max Q K C T h R
  unfold val_main_v32 val_main_v31 val_main_v30 val_main_v29
  generalize val_main_v27 (F := Ideal) Q K C T = s at *
  generalize val_main_v28 (F := Ideal) Q K C T = g at *
  pointwise
  rw [e1, e2]

theorem ref_sum : val_main_v33 (F := Ideal) Q K C T (ix2 h R) = sm (sco Q K C T h R) (fun _ => 1) 4224 := by
  have e := ref_weight Q K C T h R
  unfold val_main_v33
  generalize val_main_v32 (F := Ideal) Q K C T = s at *
  pointwise [val_main_cst_1]
  simp only [e]
  rw [sm, ← Fin.sum_univ_eq_sum_range (fun k => Ideal.exp (sco Q K C T h R k - mx (sco Q K C T h R) 4224) * 1) 4224]
  simp only [mul_one]

theorem ref_acc (d : Fin 64) : val_main_v37 (F := Ideal) Q K V C T (ix3 h R d)
    = sm (sco Q K C T h R) (vco V ⟨64 * h.val + d.val, by have := h.isLt; have := d.isLt; omega⟩) 4224 := by
  have e := ref_weight Q K C T h R
  unfold val_main_v37
  generalize val_main_v32 (F := Ideal) Q K C T = s at *
  pointwise [val_main_v34, val_main_v35, val_main_v36]
  simp only [e]
  rw [sm, ← Fin.sum_univ_eq_sum_range (fun k => Ideal.exp (sco Q K C T h R k - mx (sco Q K C T h R) 4224) * vco V _ k) 4224]
  refine Finset.sum_congr rfl fun k _ => congrArg _ ?_
  unfold vco
  rw [dif_pos k.isLt]
  simp only [Nat.mul_comm]

theorem head_e (x : Fin 512) (hx : x.val / 64 = h.val) : idx_main_v45 (idx_main_v46 (idx_main_v47 (idx_main_v48 (ix2 R x)))) = ix2 h R := by
  have hR := R.isLt
  have hl := x.isLt
  exact funext fun a => Fin.ext (by
    match a with
    | ⟨0, _⟩ => exact (by omega : (R.val * 512 + x.val) / 64 % 8 = h.val)
    | ⟨1, _⟩ => exact (by omega : (R.val * 512 + x.val) / 512 = R.val))

theorem ref_head (x : Fin 512) (hx : x.val / 64 = h.val) : val_main_v48 (F := Ideal) Q K C T (ix2 R x) = val_main_v44 (F := Ideal) Q K C T (ix2 h R) := by
  rw [val_main_v48_apply, val_main_v47_apply, val_main_v46_apply, val_main_v45_apply, head_e h R x hx]

theorem ref_log : val_main_v44 (F := Ideal) Q K C T (ix2 h R) = val_main_v28 (F := Ideal) Q K C T (ix2 h R) + Ideal.log (val_main_v33 (F := Ideal) Q K C T (ix2 h R)) := by
  rw [val_main_v44_apply, val_main_v43_apply]
  rfl

/-- The reference's second result. -/
theorem ref_e (x : Fin 512) (hx : x.val / 64 = h.val) : val_main_v48 (F := Ideal) Q K C T (ix2 R x)
    = mx (sco Q K C T h R) 4224 + Ideal.log (sm (sco Q K C T h R) (fun _ => 1) 4224) := by
  rw [ref_head Q K C T h R x hx, ref_log, ref_max, ref_sum]

theorem head_o (x : Fin 512) (hx : x.val / 64 = h.val) : idx_main_v41 (idx_main_v42 (ix2 R x)) = ix3 h R ⟨x.val % 64, Nat.mod_lt _ (by omega)⟩ := by
  have hR := R.isLt
  have hl := x.isLt
  exact funext fun a => Fin.ext (by
    match a with
    | ⟨0, _⟩ => exact (by omega : (R.val * 512 + x.val) / 64 % 8 = h.val)
    | ⟨1, _⟩ => exact (by omega : (R.val * 512 + x.val) / 512 = R.val)
    | ⟨2, _⟩ => exact (by omega : (R.val * 512 + x.val) % 64 = x.val % 64))

theorem head_l (d : Fin 64) : idx_main_v38 (idx_main_v39 (ix3 h R d)) = ix2 h R := funext fun a => by
    match a with
    | ⟨0, _⟩ => rfl
    | ⟨1, _⟩ => rfl

/-- The reference's first result. -/
theorem ref_o (x : Fin 512) (hx : x.val / 64 = h.val) : val_main_v49 (F := Ideal) Q K V C T (ix2 R x)
    = Ideal.div (sm (sco Q K C T h R) (vco V x) 4224) (sm (sco Q K C T h R) (fun _ => 1) 4224) := by
  have e1 := ref_acc Q K V C T h R ⟨x.val % 64, Nat.mod_lt _ (by omega)⟩
  rw [show (⟨64 * h.val + x.val % 64, by have := h.isLt; omega⟩ : Fin 512) = x from Fin.ext (by simp only; omega)] at e1
  rw [val_main_v49_apply, val_main_v42_apply, val_main_v41_apply, head_o h R x hx, val_main_v40_apply, e1, val_main_v39_apply, val_main_v38_apply, head_l,
    ref_sum]
  rfl

end Cert.Ff

end
-- ==== Proof.Ff.Claim.lean ====
/-
  The forgetting attention's forward call and its reference end with equal results, where the tables hold the schedule
  and the arguments are finite.
-/
module

public import proofs.«01_k».proof.Defs
public import proofs.«01_k».proof.Proof.Ff.Ref
public import proofs.«01_k».proof.Proof.Gen.RFfIdeal.Run

@[expose] public section

noncomputable section

namespace Cert.Ff

open Cert.KFfIdeal Cert.KFfIdeal.Gen Idealize.ShloMosaic Idealize.ShloMosaic.TcCoe Idealize.SL.Sem
open Cert.RFfIdeal.Read

section
variable (m : (ℓ : Loc nD τ sig) → Buf (Elt Ideal) ℓ) (ρ : Dev nD → PrngReg) (c : Dev nD)

/-- The reference's results on the kernel's arguments. -/
abbrev refO : Vec Ideal S4224x512 .bf16 := val_main_v49 (F := Ideal) (m ((c : Thread nD τ).loc main_arg2)) (m ((c : Thread nD τ).loc main_arg3)) (m ((c : Thread nD τ).loc main_arg4)) (m ((c : Thread nD τ).loc main_arg5)) (m ((c : Thread nD τ).loc main_arg6))
abbrev refE : Vec Ideal S4224x512 .f32 := val_main_v48 (F := Ideal) (m ((c : Thread nD τ).loc main_arg2)) (m ((c : Thread nD τ).loc main_arg3)) (m ((c : Thread nD τ).loc main_arg5)) (m ((c : Thread nD τ).loc main_arg6))

variable {m ρ c}
variable (hQ : ∀ i, Cert.Re.Fin' (aQ m c i)) (hK : ∀ i, Cert.Re.Fin' (aK m c i)) (hV : ∀ i, Cert.Re.Fin' (aV m c i))
  (hC : ∀ i, Cert.Re.Fin' (aC m c i)) (hT : ∀ i, Cert.Re.Fin' (aT m c i))

/-- A column's head within its pair. -/
theorem head_of (p : Fin 4) (x : Fin 128) : (128 * p.val + x.val) / 64 = 2 * p.val + (hd x).val := by
  have := x.isLt
  unfold hd
  split <;> simp only [Fin.val_zero, Fin.val_one] <;> omega

include hQ hK hV hC hT

/-- What point `t` writes back to output window 5 is that block of the reference's result. -/
theorem flushed_5 (t : Pt) (hf : ((cfgA 0).win 5).flush t = true) :
    (dats 0 m ρ 0 c).flushed 5 t = (((cfgA 0).win 5).blk t).view.read (Elt Ideal) (refO m c) := by
  funext y
  obtain ⟨r, x, rfl⟩ : ∃ (r : Fin 384) (x : Fin 128), y = ix2 r x := ⟨y 0, y 1, eq_ix2 y⟩
  refine Eq.trans ?_ (ow_5 t _ r x).symm
  refine Eq.trans ?_ (ref_o _ _ _ _ _ ⟨2 * (pr t).val + (hd x).val, by have := (pr t).isLt; have := (hd x).isLt; omega⟩ _ _ (head_of (pr t) x)).symm
  exact (results (ρ := ρ) hQ hK hV hC hT t ((flush_5 t).mp hf) r x).1

/-- What point `t` writes back to output window 6 is that block of the reference's result. -/
theorem flushed_6 (t : Pt) (hf : ((cfgA 0).win 6).flush t = true) :
    (dats 0 m ρ 0 c).flushed 6 t = (((cfgA 0).win 6).blk t).view.read (Elt Ideal) (refE m c) := by
  funext y
  obtain ⟨r, x, rfl⟩ : ∃ (r : Fin 384) (x : Fin 128), y = ix2 r x := ⟨y 0, y 1, eq_ix2 y⟩
  refine Eq.trans ?_ (ow_6 t _ r x).symm
  refine Eq.trans ?_ (ref_e _ _ _ _ ⟨2 * (pr t).val + (hd x).val, by have := (pr t).isLt; have := (hd x).isLt; omega⟩ _ _ (head_of (pr t) x)).symm
  exact (results (ρ := ρ) hQ hK hV hC hT t ((flush_6 t).mp hf) r x).2

end

/-- The value claim of this call. -/
theorem algebraic [Cert.Pre_ff_finite.Facts] : Cert.algebraic_KFfIdeal_RFfIdeal_pre_ff_finite := by
  intro m g m' g' hp ha
  have pin := pinned_fin m hp
  refine ⟨fun c => (dats 0 m g 0 c).arrAt 5 (cfgA 0).N, fun c => (dats 0 m g 0 c).arrAt 6 (cfgA 0).N, ?_, ?_⟩
  · exact (θ_run _ _ _).mono (fun r h c => ⟨(h.1 c).1 (5 : Fin 7), (h.1 c).1 (6 : Fin 7), h.2 c⟩) (θ_run_and (run_main 0 m g pin) (unchanged 0 m g pin))
  · refine (θ_run _ _ _).mono (fun r h c => ?_) (Cert.RFfIdeal.Value.run m' g')
    obtain ⟨h0, h1, hargs⟩ := h c
    obtain ⟨_, _, a2, a3, a4, a5, a6⟩ := ha c
    obtain ⟨_, f2, f3, f4, f5, f6⟩ := pre_fin _ _ _ _ _ _ _ (hp c)
    refine ⟨h0.trans ?_, h1.trans ?_, hargs⟩
    · exact (val_main_v49_eq _ _).trans (Eq.trans (by rw [a2, a3, a4, a5, a6]) ((dats 0 m g 0 c).arrAt_eq_of_cover 5 _ (fun t hf => flushed_5 f2 f3 f4 f5 f6 t hf) (cover_5 c)).symm)
    · exact (val_main_v48_eq _ _).trans (Eq.trans (by rw [a2, a3, a5, a6]) ((dats 0 m g 0 c).arrAt_eq_of_cover 6 _ (fun t hf => flushed_6 f2 f3 f4 f5 f6 t hf) (cover_6 c)).symm)

end Cert.Ff

end
-- ==== Proof.Swf.Blocks.lean ====
/-
  What each point of the sliding-window attention leaves in its output blocks, as the three row chunks it stores.
-/
module

public import proofs.«01_k».proof.Proof.Gen.KSfIdeal.Value
public import proofs.«01_k».proof.Proof.Tile
public import Idealize.ShloMosaic.Lib.Pointwise
public import Idealize.ShloMosaic.Lib.Pipeline.ValueKit.Tiles
public import Idealize.ShloMosaic.Lib.WritesUnit
public import Idealize.ShloMosaic.Lib.VecWindow

@[expose] public section

noncomputable section

namespace Cert.Swf

open Cert.KSfIdeal Cert.KSfIdeal.Gen Idealize.ShloMosaic Idealize.ShloMosaic.TcCoe Idealize.SL.Sem

variable {F : FTy → Type} [FloatOps F] [Named F]

theorem zeros3 : (![0, 0, 0] : Fin 3 → Nat) = fun _ => 0 := by
  funext a; fin_cases a <;> rfl

section Store

variable {sig' : RefSig} {κ : Kind} {sp : Space} {e : EltTy} (v : View sig' κ sp S384x128 e)

/-- Three stores of 128 rows, read back. -/
theorem chunks (f : v.ty.Contents (Elt F)) (w0 w1 w2 : Vec F S128x128 e) (r x : Fin 128) :
    let g := v.read (Elt F) (v.writes (Elt F) f [⟨Rect.unit ![256, 0] ![128, 128] inb_S384x128_S128x128_256_0, w2⟩,
      ⟨Rect.unit ![128, 0] ![128, 128] inb_S384x128_S128x128_128_0, w1⟩, ⟨Rect.unit ![0, 0] ![128, 128] inb_S384x128_S128x128_0_0, w0⟩])
    g (ix2 ⟨0 + r.val, by omega⟩ x) = w0 (ix2 r x) ∧ g (ix2 ⟨128 + r.val, by omega⟩ x) = w1 (ix2 r x)
      ∧ g (ix2 ⟨256 + r.val, by omega⟩ x) = w2 (ix2 r x) := by
  have hr := r.isLt
  refine ⟨?_, ?_, ?_⟩
  · refine (View.read_writes_cons_unit_of_not_mem v f inb_S384x128_S128x128_256_0 w2 _ _ rfl (0 : Fin 2) (Or.inl ?_)).trans ?_
    · show 0 + r.val < 256; omega
    refine (View.read_writes_cons_unit_of_not_mem v f inb_S384x128_S128x128_128_0 w1 _ _ rfl (0 : Fin 2) (Or.inl ?_)).trans ?_
    · show 0 + r.val < 128; omega
    exact View.read_writes_cons_unit_of_mem v f inb_S384x128_S128x128_0_0 w0 _ _ (ix2 r x : S128x128.Idx) rfl (fun a => by
      match a with
      | ⟨0, _⟩ => rfl
      | ⟨1, _⟩ => exact (Nat.zero_add _).symm)
  · refine (View.read_writes_cons_unit_of_not_mem v f inb_S384x128_S128x128_256_0 w2 _ _ rfl (0 : Fin 2) (Or.inl ?_)).trans ?_
    · show 128 + r.val < 256; omega
    exact View.read_writes_cons_unit_of_mem v f inb_S384x128_S128x128_128_0 w1 _ _ (ix2 r x : S128x128.Idx) rfl (fun a => by
      match a with
      | ⟨0, _⟩ => rfl
      | ⟨1, _⟩ => exact (Nat.zero_add _).symm)
  · exact View.read_writes_cons_unit_of_mem v f inb_S384x128_S128x128_256_0 w2 _ _ (ix2 r x : S128x128.Idx) rfl (fun a => by
      match a with
      | ⟨0, _⟩ => rfl
      | ⟨1, _⟩ => exact (Nat.zero_add _).symm)

end Store

/-- The sink of the pair's head `e` at a point. -/
def sink (i : grid0.Coords) (e : Fin 2) (x : Vec F S8 .f32) : Elt F .f32 :=
  View.ld x (Rect.unit (s := S8) (k0_off1 i (BitVec.ofNat 32 e.val)) S1.size (k0_off1_inb i e)) (Shape.Idx.first (by show 0 < S1.numel; decide))

/-- A head's sums of weights. -/
def den (a : Elt F .f32) (s : FVec F S128x384 .f32) : FVec F S128x1 .f32 := k0_pay50 a (k0_pay37 a s) (k0_pay49 a s)

/-- A head's weighted values, over its sums of weights. -/
def wv (a : Elt F .f32) (s : FVec F S128x384 .f32) (v : FVec F S384x128 .bf16) : FVec F S128x128 .f32 :=
  k0_pay56 a v (k0_pay37 a s) (k0_pay43 a s) (k0_pay49 a s)

/-- A chunk of the weighted values, from a pair's scores, sinks and values. -/
def outC (a0 a1 : Elt F .f32) (s0 s1 : FVec F S128x384 .f32) (v : FVec F S384x128 .bf16) : FVec F S128x128 .bf16 :=
  k0_pay60 k0_pay2 (wv a0 s0 v) (wv a1 s1 v)

/-- A chunk of the logarithms. -/
def lseC (a0 a1 : Elt F .f32) (s0 s1 : FVec F S128x384 .f32) : FVec F S128x128 .f32 :=
  k0_pay61 k0_pay2 (k0_pay37 a0 s0) (k0_pay37 a1 s1) (den a0 s0) (den a1 s1)

/-- The mask of chunk `b` of a block. -/
def msk (a : BitVec 32) (b : Fin 3) : IVec S128x384 1 :=
  match b with
  | 0 => k0_pay15 (Scalar.addi (Scalar.muli a 3#32) 0#32) (iota .tc S128x1 32 [0] iota_S128x1_d0_w32) (iota .tc S1x384 32 [1] iota_S1x384_d1_w32)
      (k0_pay11 a) k0_pay13 (k0_pay14 a) 112#32
  | 1 => k0_pay24 (Scalar.addi (Scalar.muli a 3#32) 1#32) (iota .tc S128x1 32 [0] iota_S128x1_d0_w32) (iota .tc S1x384 32 [1] iota_S1x384_d1_w32)
      (k0_pay21 a) k0_pay22 k0_pay23 (Scalar.muli (Scalar.addi (Scalar.muli a 3#32) 1#32) 128#32)
  | 2 => k0_pay33 (Scalar.addi (Scalar.muli a 3#32) 2#32) (iota .tc S128x1 32 [0] iota_S128x1_d0_w32) (iota .tc S1x384 32 [1] iota_S1x384_d1_w32)
      (k0_pay29 a) k0_pay30 k0_pay31 k0_pay32

/-- The queries of chunk `b`. -/
def qs (x : Vec F S384x128 .bf16) (b : Fin 3) : Vec F S128x128 .bf16 :=
  match b with
  | 0 => View.ld x (Rect.unit ![0, 0] ![128, 128] inb_S384x128_S128x128_0_0)
  | 1 => View.ld x (Rect.unit ![128, 0] ![128, 128] inb_S384x128_S128x128_128_0)
  | 2 => View.ld x (Rect.unit ![256, 0] ![128, 128] inb_S384x128_S128x128_256_0)

/-- The keys, or the values, of chunk `b`: two blocks in a row and the first block. -/
def band (p : Vec F S1x128x128 .bf16) (c : Vec F S1x384x128 .bf16) (z : Vec F S1x128x128 .bf16) (b : Fin 3) : FVec F S384x128 .bf16 :=
  match b with
  | 0 => k0_pay5 p c z
  | 1 => k0_pay6 p c z
  | 2 => k0_pay9 (k0_pay7 p c) (k0_pay8 z)

/-- The scores of a pair's first head. -/
def sc0 (mk : IVec S128x384 1) (q : Vec F S128x128 .bf16) (k : FVec F S384x128 .bf16) (x : Vec F S2x128x384 .f32) : FVec F S128x384 .f32 :=
  select mk (addf (matmul dot_S128x128_S384x128_S128x384_1_1_0_0_n_n none
      (select (broadcastTo S128x128 (shapeCast S1x128 k0_pay2 shapeCasts_S1x128_S1x128) broadcasts_S1x128_S128x128) q (broadcast S128x128 (Scalar.sitofp .bf16 0#32)))
      k (constant S128x384 .f32 0x00000000#32))
    (shapeCast S128x384 (View.ld x (Rect.unit ![0, 0, 0] ![1, 128, 384] inb_S2x128x384_S1x128x384_0_0_0) : Vec F S1x128x384 .f32) shapeCasts_S1x128x384_S128x384))
    (broadcast S128x384 (Named.named κ "mask" 0xF149F2CA#32))

/-- The scores of its second head. -/
def sc1 (mk : IVec S128x384 1) (q : Vec F S128x128 .bf16) (k : FVec F S384x128 .bf16) (x : Vec F S2x128x384 .f32) : FVec F S128x384 .f32 :=
  k0_pay19 mk (k0_pay17 k0_pay2 q k) (k0_pay18 (View.ld x (Rect.unit ![1, 0, 0] ![1, 128, 384] inb_S2x128x384_S1x128x384_1_0_0)))

variable (m : (ℓ : Loc nD τ sig) → Buf (Elt F) ℓ)

/-- The two heads' scores of chunk `b` at a point. -/
def scA (c : Dev nD) (t : Fin cfg0.N) (b : Fin 3) : FVec F S128x384 .f32 :=
  sc0 (msk (BitVec.ofNat 32 (grid0.coords t 1).val) b) (qs (iblk m c 1 t) b) (band (iblk m c 2 t) (iblk m c 3 t) (iblk m c 4 t) b) (iblk m c 8 t)
def scB (c : Dev nD) (t : Fin cfg0.N) (b : Fin 3) : FVec F S128x384 .f32 :=
  sc1 (msk (BitVec.ofNat 32 (grid0.coords t 1).val) b) (qs (iblk m c 1 t) b) (band (iblk m c 2 t) (iblk m c 3 t) (iblk m c 4 t) b) (iblk m c 8 t)

theorem outs_9 (c : Dev nD) (t : Fin cfg0.N) (b : Fin 3) (r x : Fin 128) :
    (outsAt0 m c t).1 (ix2 ⟨128 * b.val + r.val, by omega⟩ x)
      = outC (sink (grid0.coords t) 0 (iblk m c 0 t)) (sink (grid0.coords t) 1 (iblk m c 0 t)) (scA m c t b) (scB m c t b)
          (band (iblk m c 5 t) (iblk m c 6 t) (iblk m c 7 t) b) (ix2 r x) := by
  unfold outsAt0 out0_A_9
  dsimp only
  unfold kernelRun0_A
  dsimp only
  sl_unfold_words
  simp only [View.readAt_eq_ld, Memref.IsWhole.read_unread, View.ld_unit_zero (S := S1x128x128) zeros3, View.ld_unit_zero (S := S1x384x128) zeros3]
  have h := chunks (VO0_9) VO0_9.junk
    (outC (sink (grid0.coords t) 0 (iblk m c 0 t)) (sink (grid0.coords t) 1 (iblk m c 0 t)) (scA m c t 0) (scB m c t 0)
          (band (iblk m c 5 t) (iblk m c 6 t) (iblk m c 7 t) 0))
    (outC (sink (grid0.coords t) 0 (iblk m c 0 t)) (sink (grid0.coords t) 1 (iblk m c 0 t)) (scA m c t 1) (scB m c t 1)
          (band (iblk m c 5 t) (iblk m c 6 t) (iblk m c 7 t) 1))
    (outC (sink (grid0.coords t) 0 (iblk m c 0 t)) (sink (grid0.coords t) 1 (iblk m c 0 t)) (scA m c t 2) (scB m c t 2)
          (band (iblk m c 5 t) (iblk m c 6 t) (iblk m c 7 t) 2)) r x
  match b with
  | ⟨0, _⟩ => exact h.1
  | ⟨1, _⟩ => exact h.2.1
  | ⟨2, _⟩ => exact h.2.2

theorem outs_10 (c : Dev nD) (t : Fin cfg0.N) (b : Fin 3) (r x : Fin 128) :
    (outsAt0 m c t).2 (ix2 ⟨128 * b.val + r.val, by omega⟩ x)
      = lseC (sink (grid0.coords t) 0 (iblk m c 0 t)) (sink (grid0.coords t) 1 (iblk m c 0 t)) (scA m c t b) (scB m c t b) (ix2 r x) := by
  unfold outsAt0 out0_A_10
  dsimp only
  unfold kernelRun0_A
  dsimp only
  sl_unfold_words
  simp only [View.readAt_eq_ld, Memref.IsWhole.read_unread, View.ld_unit_zero (S := S1x128x128) zeros3, View.ld_unit_zero (S := S1x384x128) zeros3]
  have h := chunks (VO0_10) VO0_10.junk
    (lseC (sink (grid0.coords t) 0 (iblk m c 0 t)) (sink (grid0.coords t) 1 (iblk m c 0 t)) (scA m c t 0) (scB m c t 0))
    (lseC (sink (grid0.coords t) 0 (iblk m c 0 t)) (sink (grid0.coords t) 1 (iblk m c 0 t)) (scA m c t 1) (scB m c t 1))
    (lseC (sink (grid0.coords t) 0 (iblk m c 0 t)) (sink (grid0.coords t) 1 (iblk m c 0 t)) (scA m c t 2) (scB m c t 2)) r x
  match b with
  | ⟨0, _⟩ => exact h.1
  | ⟨1, _⟩ => exact h.2.1
  | ⟨2, _⟩ => exact h.2.2

end Cert.Swf

end
-- ==== Proof.Swf.Mask.lean ====
/-
  The window's mask in words: comparisons of small integers.
-/
module

public import Idealize.ShloMosaic.Lib.Pointwise

@[expose] public section

noncomputable section

namespace Cert.Swf

open Idealize.ShloMosaic

/-- Row `r` of block `n` sees column `y`: within the window and past the padding, or among the first positions and before the window. -/
def Open (n r y : ℕ) : Prop := (y < 256 ∧ 240 ≤ 128 * n + y ∧ r < y ∧ y ≤ r + 128) ∨ (368 ≤ y ∧ y ≤ 128 * n + r + 128)

instance (n r y : ℕ) : Decidable (Open n r y) := by unfold Open; infer_instance

/-- A word that holds a small integer. -/
def Is (x : BitVec 32) (z : ℤ) : Prop := x = BitVec.ofInt 32 z ∧ -100000 < z ∧ z < 100000

theorem is_nat {n : ℕ} (h : n < 100000) : Is (BitVec.ofNat 32 n) n := ⟨(BitVec.ofInt_natCast 32 n).symm, by omega, by omega⟩

theorem Is.cast {x : BitVec 32} {z w : ℤ} (h : Is x z) (e : z = w) : Is x w := e ▸ h

theorem is_add {x y : BitVec 32} {z w : ℤ} (hx : Is x z) (hy : Is y w) (h : -100000 < z + w ∧ z + w < 100000) : Is (x + y) (z + w) :=
  ⟨by rw [hx.1, hy.1, BitVec.ofInt_add], h⟩

theorem is_mul {x y : BitVec 32} {z w : ℤ} (hx : Is x z) (hy : Is y w) (h : -100000 < z * w ∧ z * w < 100000) : Is (x * y) (z * w) :=
  ⟨by rw [hx.1, hy.1, BitVec.ofInt_mul], h⟩

theorem is_sub {x y : BitVec 32} {z w : ℤ} (hx : Is x z) (hy : Is y w) (h : -100000 < z - w ∧ z - w < 100000) : Is (x - y) (z - w) :=
  ⟨by
    rw [hx.1, hy.1, BitVec.sub_eq_add_neg, sub_eq_add_neg, BitVec.ofInt_add, BitVec.ofInt_neg], h⟩

theorem Is.toInt {x : BitVec 32} {z : ℤ} (h : Is x z) : x.toInt = z := by
  obtain ⟨rfl, h1, h2⟩ := h
  rw [BitVec.toInt_ofInt]
  exact Int.bmod_eq_of_le (by norm_num; omega) (by norm_num; omega)

section
variable {x y : BitVec 32} {z w : ℤ} (hx : Is x z) (hy : Is y w)
include hx hy

theorem is_slt : IntOp.cmpi .slt x y = if z < w then 1#1 else 0#1 := by
  simp only [IntOp.cmpi, BitVec.slt, hx.toInt, hy.toInt]
  by_cases h : z < w <;> simp [h]

theorem is_sgt : IntOp.cmpi .sgt x y = if w < z then 1#1 else 0#1 := by
  simp only [IntOp.cmpi, BitVec.slt, hx.toInt, hy.toInt]
  by_cases h : w < z <;> simp [h]

theorem is_sle : IntOp.cmpi .sle x y = if z ≤ w then 1#1 else 0#1 := by
  simp only [IntOp.cmpi, BitVec.sle, hx.toInt, hy.toInt]
  by_cases h : z ≤ w <;> simp [h]

theorem is_sge : IntOp.cmpi .sge x y = if w ≤ z then 1#1 else 0#1 := by
  simp only [IntOp.cmpi, BitVec.sle, hx.toInt, hy.toInt]
  by_cases h : w ≤ z <;> simp [h]

end

theorem and_if (p q : Prop) [Decidable p] [Decidable q] :
    IntOp.andi (if p then 1#1 else 0#1) (if q then 1#1 else 0#1) = if p ∧ q then 1#1 else 0#1 := by
  by_cases p <;> by_cases q <;> simp_all [IntOp.andi]

theorem or_if (p q : Prop) [Decidable p] [Decidable q] :
    IntOp.ori (if p then 1#1 else 0#1) (if q then 1#1 else 0#1) = if p ∨ q then 1#1 else 0#1 := by
  by_cases p <;> by_cases q <;> simp_all [IntOp.ori]

/-- The kernel's word for the mask, over the words of a block, a row and a column. -/
theorem mask_word {n r y : ℕ} (hn : n < 33) (hr : r < 128) (hy : y < 384) (N : BitVec 32) (hN : N = BitVec.ofNat 32 n) :
    IntOp.ori
      (IntOp.ori
        (IntOp.andi
          (IntOp.andi
            (IntOp.andi (IntOp.cmpi CmpIPredicate.slt (BitVec.ofNat 32 y) 128#32)
              (IntOp.cmpi CmpIPredicate.sgt (BitVec.ofNat 32 y) (BitVec.ofNat 32 r)))
            (Scalar.cmpi CmpIPredicate.sge N 1#32))
          (IntOp.cmpi CmpIPredicate.sge (IntOp.addi (Scalar.muli (Scalar.subi N 1#32) 128#32) (BitVec.ofNat 32 y)) 112#32))
        (IntOp.andi
          (IntOp.andi
            (IntOp.andi (IntOp.cmpi CmpIPredicate.sge (BitVec.ofNat 32 y) 128#32)
              (IntOp.cmpi CmpIPredicate.slt (BitVec.ofNat 32 y) 256#32))
            (IntOp.cmpi CmpIPredicate.sle (IntOp.subi (BitVec.ofNat 32 y) 128#32) (BitVec.ofNat 32 r)))
          (IntOp.cmpi CmpIPredicate.sge (IntOp.addi (Scalar.muli N 128#32) (IntOp.subi (BitVec.ofNat 32 y) 128#32)) 112#32)))
      (IntOp.andi
        (IntOp.andi (IntOp.cmpi CmpIPredicate.sge (BitVec.ofNat 32 y) 256#32)
          (IntOp.cmpi CmpIPredicate.sge (IntOp.subi (BitVec.ofNat 32 y) 256#32) 112#32))
        (IntOp.cmpi CmpIPredicate.sge
          (IntOp.subi (IntOp.addi (Scalar.muli N 128#32) (BitVec.ofNat 32 r)) (IntOp.subi (BitVec.ofNat 32 y) 256#32)) 128#32))
      = if Open n r y then 1#1 else 0#1 := by
  subst hN
  have iN : Is (BitVec.ofNat 32 n) n := is_nat (by omega)
  have iR : Is (BitVec.ofNat 32 r) r := is_nat (by omega)
  have iY : Is (BitVec.ofNat 32 y) y := is_nat (by omega)
  have i1 : Is 1#32 1 := is_nat (n := 1) (by omega)
  have i112 : Is 112#32 112 := is_nat (n := 112) (by omega)
  have i128 : Is 128#32 128 := is_nat (n := 128) (by omega)
  have i256 : Is 256#32 256 := is_nat (n := 256) (by omega)
  have a1 := is_add (is_mul (is_sub iN i1 (by omega)) i128 (by omega)) iY (by omega)
  have y1 := is_sub iY i128 (by omega)
  have y2 := is_sub iY i256 (by omega)
  have n1 := is_mul iN i128 (by omega)
  have a2 := is_add n1 y1 (by omega)
  have a3 := is_sub (is_add n1 iR (by omega)) y2 (by omega)
  rw [is_slt iY i128, is_sgt iY iR, show Scalar.cmpi .sge (BitVec.ofNat 32 n) 1#32 = _ from is_sge iN i1,
    show IntOp.cmpi .sge (IntOp.addi (Scalar.muli (Scalar.subi (BitVec.ofNat 32 n) 1#32) 128#32) (BitVec.ofNat 32 y)) 112#32 = _ from is_sge a1 i112,
    is_sge iY i128, is_slt iY i256, show IntOp.cmpi .sle (IntOp.subi (BitVec.ofNat 32 y) 128#32) (BitVec.ofNat 32 r) = _ from is_sle y1 iR,
    show IntOp.cmpi .sge (IntOp.addi (Scalar.muli (BitVec.ofNat 32 n) 128#32) (IntOp.subi (BitVec.ofNat 32 y) 128#32)) 112#32 = _ from is_sge a2 i112,
    is_sge iY i256, show IntOp.cmpi .sge (IntOp.subi (BitVec.ofNat 32 y) 256#32) 112#32 = _ from is_sge y2 i112,
    show IntOp.cmpi .sge (IntOp.subi (IntOp.addi (Scalar.muli (BitVec.ofNat 32 n) 128#32) (BitVec.ofNat 32 r)) (IntOp.subi (BitVec.ofNat 32 y) 256#32)) 128#32 = _ from is_sge a3 i128]
  simp only [and_if, or_if]
  refine if_congr ?_ rfl rfl
  unfold Open
  omega

end Cert.Swf

end
-- ==== Proof.Swf.Row.lean ====
/-
  A row of window attention: a softmax over 384 columns of which a gap is closed is one over the 272 others, and the
  weights may be divided by their sum before or after the product with the values.
-/
module

public import proofs.«01_k».proof.Proof.Real
public import proofs.«01_k».proof.Proof.Ff.Online

@[expose] public section

noncomputable section

namespace Cert.Swf

open Idealize.ShloMosaic Cert.Re Cert.Ff

/-- The column, of the kernel's 384, of the reference's column `c`: past the band only the last 16 are kept. -/
def col (c : Fin 272) : Fin 384 := if h : c.val < 256 then ⟨c.val, by omega⟩ else ⟨c.val + 112, by have := c.isLt; omega⟩

theorem col_inj : Function.Injective col := by
  intro a b h
  have h' := congrArg Fin.val h
  unfold col at h'
  split_ifs at h' <;> exact Fin.ext (by simp only at h'; omega)

theorem col_of (y : Fin 384) (h : ¬ (256 ≤ y.val ∧ y.val < 368)) : ∃ c, col c = y := by
  have hy := y.isLt
  by_cases h0 : y.val < 256
  · exact ⟨⟨y.val, by omega⟩, by unfold col; rw [dif_pos h0]⟩
  · refine ⟨⟨y.val - 112, by omega⟩, ?_⟩
    unfold col
    rw [dif_neg (by simp only; omega)]
    exact Fin.ext (by simp only; omega)

theorem sum_gap (f : Fin 384 → EReal) (h : ∀ y, 256 ≤ y.val → y.val < 368 → f y = 0) : ∑ y, f y = ∑ c, f (col c) := by
  refine (Finset.sum_of_injOn col col_inj.injOn (fun _ _ => Finset.mem_coe.mpr (Finset.mem_univ _)) (fun y _ hy => ?_) fun _ _ => rfl).symm
  by_contra hne
  obtain ⟨c, hc⟩ := col_of y fun hh => hne (h y hh.1 hh.2)
  exact hy ⟨c, Finset.mem_coe.mpr (Finset.mem_univ _), hc⟩

theorem sup_gap (f : Fin 384 → EReal) (h : ∀ y, 256 ≤ y.val → y.val < 368 → f y = ⊥) :
    Finset.fold max ⊥ f Finset.univ = Finset.fold max ⊥ (fun c => f (col c)) Finset.univ := by
  show Finset.univ.sup f = Finset.univ.sup fun c => f (col c)
  refine le_antisymm (Finset.sup_le fun y _ => ?_) (Finset.sup_le fun c _ => Finset.le_sup (f := f) (Finset.mem_univ _))
  by_cases hy : 256 ≤ y.val ∧ y.val < 368
  · rw [h y hy.1 hy.2]; exact bot_le
  · obtain ⟨c, rfl⟩ := col_of y hy
    exact Finset.le_sup (f := fun c => f (col c)) (Finset.mem_univ c)

/-- The largest of a row's scores and its sink. -/
def top {n : ℕ} (R : Fin n → EReal) (a : EReal) : EReal := max (Finset.fold max ⊥ R Finset.univ) a

/-- The sum of a row's weights and its sink's. -/
def dn {n : ℕ} (R : Fin n → EReal) (a : EReal) : EReal := ∑ c, Ideal.exp (R c - top R a) + Ideal.exp (a - top R a)

section
variable {S : Fin 384 → EReal} {a : EReal} (hg : ∀ y, 256 ≤ y.val → y.val < 368 → S y = ⊥)
include hg

theorem top_gap : top S a = top (fun c => S (col c)) a := by rw [top, top, sup_gap S hg]

theorem dn_gap : dn S a = dn (fun c => S (col c)) a := by
  rw [dn, dn, ← top_gap hg]
  congr 1
  exact sum_gap _ fun y h1 h2 => by rw [hg y h1 h2, EReal.bot_sub, Ideal.exp_bot]

end

theorem le_top {n : ℕ} (R : Fin n → EReal) (a : EReal) (c : Fin n) : R c ≤ top R a :=
  le_max_of_le_left (show R c ≤ Finset.univ.sup R from Finset.le_sup (Finset.mem_univ c))

theorem top_ne {n : ℕ} {R : Fin n → EReal} {a : EReal} (hR : ∀ c, R c ≠ ⊤) (ha : Fin' a) : top R a ≠ ⊤ := by
  obtain ⟨x, rfl⟩ := ha
  refine ne_of_lt (max_lt ?_ (EReal.coe_lt_top x))
  exact (Finset.sup_lt_iff bot_lt_top).mpr fun c _ => lt_top_iff_ne_top.mpr (hR c)

theorem ew_nonneg (s M : EReal) : 0 ≤ ew s M := by
  unfold ew; split_ifs
  · exact le_rfl
  · exact (Real.exp_pos _).le

/-- The sum of the weights is a positive real. -/
theorem dn_pos {n : ℕ} {R : Fin n → EReal} {a : EReal} (hR : ∀ c, R c ≠ ⊤) (ha : Fin' a) : ∃ d : ℝ, 0 < d ∧ dn R a = d := by
  have ht := top_ne hR ha
  refine ⟨∑ c, ew (R c) (top R a) + ew a (top R a), ?_, ?_⟩
  · refine add_pos_of_nonneg_of_pos (Finset.sum_nonneg fun c _ => ew_nonneg _ _) ?_
    obtain ⟨x, rfl⟩ := ha
    rw [ew, if_neg (EReal.coe_ne_bot x)]
    exact Real.exp_pos _
  · rw [dn, EReal.coe_add, ← Re.coe_sum, exp_sub (show a ≤ top R a from le_max_right _ _) ht]
    congr 1
    exact Finset.sum_congr rfl fun c _ => exp_sub (le_top R a c) ht

/-- A nonnegative real factor moves into a sum. -/
theorem mul_sum {ι : Type} (s : Finset ι) (f : ι → EReal) {c : ℝ} (hc : 0 ≤ c) : (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top _) _ _

/-- The kernel's weighted values over the sum of its weights are the reference's product of normalised weights. -/
theorem out_gap {S V : Fin 384 → EReal} {W : Fin 272 → EReal} {a : EReal} (hg : ∀ y, 256 ≤ y.val → y.val < 368 → S y = ⊥)
    (hS : ∀ y, S y ≠ ⊤) (ha : Fin' a) (hV : ∀ c, S (col c) = ⊥ ∨ V (col c) = W c) :
    Ideal.div (∑ y, Ideal.exp (S y - top S a) * V y) (dn S a)
      = ∑ c, Ideal.div (Ideal.exp (S (col c) - top (fun c => S (col c)) a)) (dn (fun c => S (col c)) a) * W c := by
  rw [top_gap hg, dn_gap hg]
  obtain ⟨d, hd, e⟩ := dn_pos (R := fun c => S (col c)) (fun c => hS _) ha
  rw [e, Ideal.div_coe hd.ne', sum_gap _ fun y h1 h2 => by rw [hg y h1 h2, EReal.bot_sub, Ideal.exp_bot, zero_mul], mul_comm,
    mul_sum _ _ (one_div_pos.mpr hd).le]
  refine Finset.sum_congr rfl fun c _ => ?_
  rw [Ideal.div_coe hd.ne']
  rcases hV c with h | h
  · rw [h, EReal.bot_sub, Ideal.exp_bot, zero_mul, zero_mul, mul_zero, zero_mul]
  · rw [h, mul_comm _ ((1 / d : ℝ) : EReal), mul_assoc]

end Cert.Swf

end
-- ==== Proof.Swf.Block.lean ====
/-
  The chunks' entries: masks, scores, maxima, weights and their sums, at a row.
-/
module

public import proofs.«01_k».proof.Proof.Swf.Blocks
public import proofs.«01_k».proof.Proof.Swf.Mask
public import proofs.«01_k».proof.Proof.Swf.Row

@[expose] public section

noncomputable section

namespace Cert.Swf

open Cert.KSfIdeal Cert.KSfIdeal.Gen Idealize.ShloMosaic Idealize.ShloMosaic.TcCoe Idealize.SL.Sem

/-- The mask's named value is −∞. -/
theorem named_mask : (Named.named κ "mask" (0xF149F2CA#32 : BitVec FTy.f32.bits) : Ideal .f32) = ⊥ :=
  IdealRules.named_const.ideal_named_scalar _ _ _ _ rfl

theorem neg_inf32 : Ideal.ofBits .f32 4286578688#32 = ⊥ := Cert.Re.bot_f32

theorem lane_lt (x : Fin 128) : IntOp.cmpi .slt (BitVec.ofNat 32 x.val) 64#32 = if x.val < 64 then 1#1 else 0#1 := by
  revert x; decide +kernel

section Rows

variable (a : EReal) (s : FVec Ideal S128x384 .f32) (r : Fin 128)

theorem top_apply : k0_pay37 (F := Ideal) a s (ix2 r 0) = top (fun y : Fin 384 => s (ix2 r y)) a := by
  unfold k0_pay37
  pointwise
  rw [neg_inf32]
  rfl

theorem den_apply : den (F := Ideal) a s (ix2 r 0) = dn (fun y : Fin 384 => s (ix2 r y)) a := by
  unfold den k0_pay50 k0_pay49 k0_pay43
  pointwise
  rw [top_apply]
  rfl

theorem wv_apply (v : FVec Ideal S384x128 .bf16) (x : Fin 128) : wv (F := Ideal) a s v (ix2 r x)
    = Ideal.div (∑ y : Fin 384, Ideal.exp (s (ix2 r y) - top (fun y : Fin 384 => s (ix2 r y)) a) * v (ix2 y x)) (dn (fun y : Fin 384 => s (ix2 r y)) a) := by
  have e := den_apply a s r
  unfold den at e
  unfold wv k0_pay56 k0_pay43
  pointwise
  rw [top_apply]
  exact congrArg _ e

end Rows

section Heads

variable (a0 a1 : EReal) (s0 s1 : FVec Ideal S128x384 .f32) (v : FVec Ideal S384x128 .bf16) (r : Fin 128) (d : Fin 64)

theorem outC_lo : outC (F := Ideal) a0 a1 s0 s1 v (ix2 r ⟨d.val, by omega⟩) = wv (F := Ideal) a0 s0 v (ix2 r ⟨d.val, by omega⟩) := by
  unfold outC k0_pay60 k0_pay2
  pointwise
  rw [lane_lt ⟨d.val, by omega⟩, if_pos (by exact d.isLt)]
  rfl

theorem outC_hi : outC (F := Ideal) a0 a1 s0 s1 v (ix2 r ⟨64 + d.val, by omega⟩) = wv (F := Ideal) a1 s1 v (ix2 r ⟨64 + d.val, by omega⟩) := by
  unfold outC k0_pay60 k0_pay2
  pointwise
  rw [lane_lt ⟨64 + d.val, by omega⟩, if_neg (by simp)]
  rfl

theorem lseC_lo : lseC (F := Ideal) a0 a1 s0 s1 (ix2 r ⟨d.val, by omega⟩)
    = top (fun y : Fin 384 => s0 (ix2 r y)) a0 + Ideal.log (dn (fun y : Fin 384 => s0 (ix2 r y)) a0) := by
  unfold lseC k0_pay61 k0_pay2
  pointwise
  rw [lane_lt ⟨d.val, by omega⟩, if_pos (by exact d.isLt), ← top_apply, ← den_apply]
  rfl

theorem lseC_hi : lseC (F := Ideal) a0 a1 s0 s1 (ix2 r ⟨64 + d.val, by omega⟩)
    = top (fun y : Fin 384 => s1 (ix2 r y)) a1 + Ideal.log (dn (fun y : Fin 384 => s1 (ix2 r y)) a1) := by
  unfold lseC k0_pay61 k0_pay2
  pointwise
  rw [lane_lt ⟨64 + d.val, by omega⟩, if_neg (by simp), ← top_apply, ← den_apply]
  rfl

end Heads

theorem qs_apply (x : Vec Ideal S384x128 .bf16) (b : Fin 3) (r d : Fin 128) : qs x b (ix2 r d) = x (ix2 ⟨128 * b.val + r.val, by omega⟩ d) := by
  have e (o : ℕ) (inb) (ho : o + 128 ≤ 384) : View.ld x (Rect.unit ![o, 0] ![128, 128] inb) (ix2 r d) = x (ix2 ⟨o + r.val, by omega⟩ d) :=
    View.ld_unit_apply_of _ _ _ _ _ _ (fun a => by
      match a with
      | ⟨0, _⟩ => rfl
      | ⟨1, _⟩ => exact (Nat.zero_add _).symm)
  match b with
  | 0 => exact e 0 _ (by omega)
  | 1 => exact e 128 _ (by omega)
  | 2 => exact e 256 _ (by omega)

theorem three_mul (i : Fin 11) (b : Fin 3) : Scalar.addi (Scalar.muli (BitVec.ofNat 32 i.val) 3#32) (BitVec.ofNat 32 b.val) = BitVec.ofNat 32 (3 * i.val + b.val) := by
  revert i b; decide +kernel

theorem msk_apply (i : Fin 11) (b : Fin 3) (r : Fin 128) (y : Fin 384) :
    msk (BitVec.ofNat 32 i.val) b (ix2 r y) = if Open (3 * i.val + b.val) r.val y.val then 1#1 else 0#1 := by
  refine Eq.trans ?_ (mask_word (by omega) r.isLt y.isLt _ (three_mul i b))
  match b with
  | 0 =>
    unfold msk k0_pay15 k0_pay11 k0_pay14 k0_pay13 k0_pay12
    pointwise
  | 1 =>
    unfold msk k0_pay24 k0_pay21 k0_pay23 k0_pay22
    pointwise
  | 2 =>
    unfold msk k0_pay33 k0_pay29 k0_pay32 k0_pay31 k0_pay30
    pointwise

section Scores

variable (mk : IVec S128x384 1) (q : Vec Ideal S128x128 .bf16) (k : FVec Ideal S384x128 .bf16) (z : Vec Ideal S2x128x384 .f32) (r : Fin 128) (y : Fin 384)

theorem sc0_apply (n : ℕ) (hm : mk (ix2 r y) = if Open n r.val y.val then 1#1 else 0#1) : sc0 (F := Ideal) mk q k z (ix2 r y)
    = if Open n r.val y.val then (∑ d : Fin 64, q (ix2 r ⟨d.val, by omega⟩) * k (ix2 y ⟨d.val, by omega⟩)) + z (ix3 0 r y) else ⊥ := by
  unfold sc0 k0_pay2
  pointwise
  rw [hm, named_mask]
  by_cases ho : Open n r.val y.val
  · rw [if_pos ho, if_pos ho]
    show _ + _ = _
    refine congrArg (· + z (ix3 0 r y)) ?_
    refine (Fin.sum_univ_add (a := 64) (b := 64) (M := EReal) _).trans ?_
    rw [Finset.sum_eq_zero (s := Finset.univ) (f := fun i : Fin 64 => Scalar.select (IntOp.cmpi .slt (BitVec.ofNat 32 (Fin.natAdd 64 i).val) 64#32) (q (ix2 r (Fin.natAdd 64 i))) (((0#32).toInt : ℝ) : EReal) * k (ix2 y (Fin.natAdd 64 i))), add_zero]
    · refine Finset.sum_congr rfl fun d _ => ?_
      rw [lane_lt, if_pos (by exact d.isLt)]; rfl
    · intro d _
      rw [lane_lt, if_neg (by simp)]
      show (((0#32).toInt : ℝ) : EReal) * _ = 0
      simp
  · rw [if_neg ho, if_neg ho]; rfl

theorem sc1_apply (n : ℕ) (hm : mk (ix2 r y) = if Open n r.val y.val then 1#1 else 0#1) : sc1 (F := Ideal) mk q k z (ix2 r y)
    = if Open n r.val y.val then (∑ d : Fin 64, q (ix2 r ⟨64 + d.val, by omega⟩) * k (ix2 y ⟨64 + d.val, by omega⟩)) + z (ix3 1 r y) else ⊥ := by
  unfold sc1 k0_pay19 k0_pay17 k0_pay18 k0_pay2
  pointwise
  rw [hm, named_mask]
  by_cases ho : Open n r.val y.val
  · rw [if_pos ho, if_pos ho]
    show _ + _ = _
    refine congrArg (· + z (ix3 1 r y)) ?_
    refine (Fin.sum_univ_add (a := 64) (b := 64) (M := EReal) _).trans ?_
    rw [Finset.sum_eq_zero (s := Finset.univ) (f := fun i : Fin 64 => Scalar.select (IntOp.xori (IntOp.cmpi .slt (BitVec.ofNat 32 (Fin.castAdd 64 i).val) 64#32) 1#1) (q (ix2 r (Fin.castAdd 64 i))) (((0#32).toInt : ℝ) : EReal) * k (ix2 y (Fin.castAdd 64 i))), zero_add]
    · refine Finset.sum_congr rfl fun d _ => ?_
      rw [lane_lt, if_neg (by simp)]; rfl
    · intro d _
      rw [lane_lt, if_pos (by exact d.isLt)]
      show (((0#32).toInt : ℝ) : EReal) * _ = 0
      simp
  · rw [if_neg ho, if_neg ho]; rfl

end Scores

end Cert.Swf

end
-- ==== Proof.Swf.Ref.lean ====
/-
  The reference's scores and results, row by row.
-/
module

public import proofs.«01_k».proof.Proof.Swf.Row
public import proofs.«01_k».proof.Proof.Swf.Mask
public import proofs.«01_k».proof.Proof.Gen.RSfIdeal.Read

@[expose] public section

set_option maxRecDepth 16384

noncomputable section

namespace Cert.Swf

open Cert.Re Cert.RSfIdeal Cert.RSfIdeal.Gen Cert.RSfIdeal.Read Idealize.ShloMosaic Idealize.ShloMosaic.TcCoe Idealize.SL.Sem

/-- The position, of 4224, that block `n` sees in column `y`. -/
def kp (n : Fin 33) (y : Fin 384) : Fin 4224 := ⟨if y.val < 256 then 128 * n.val + y.val - 128 else y.val - 256, by split_ifs <;> omega⟩

theorem neg_inf : Ideal.ofBits .f32 4286578688#32 = ⊥ := Cert.Re.bot_f32

variable (Q : S4224x512.Idx → EReal) (K : S2x4224x128.Idx → EReal) (B : S8x128x384.Idx → EReal)

/-- Head `h`'s entry, of its keys or values, at a position and a lane. -/
def kv (h : Fin 8) (t : Fin 4224) (d : Fin 64) : EReal := K (ix3 ⟨h.val / 4, by omega⟩ t ⟨64 * (h.val % 2) + d.val, by omega⟩)

/-- A score. -/
def sc (h : Fin 8) (n : Fin 33) (r : Fin 128) (y : Fin 384) : EReal :=
  if Open n.val r.val y.val then
    (∑ d : Fin 64, Q (ix2 ⟨128 * n.val + r.val, by omega⟩ ⟨64 * h.val + d.val, by omega⟩) * kv K h (kp n y) d) + B (ix3 h r y)
  else ⊥

theorem head_kv (h : Fin 8) (t : Fin 4224) (d : Fin 64) : val_main_v51 (F := Ideal) K (ix3 h t d) = kv K h t d := by
  have hd := d.isLt
  have ht := t.isLt
  have hh := h.isLt
  rw [val_main_v51_apply, show idx_main_v51 (ix3 h t d) = ix5 ⟨h.val / 4, by omega⟩ ⟨h.val / 2 % 2, by omega⟩ ⟨h.val % 2, by omega⟩ t d from
    funext fun a => Fin.ext (by
      match a with
      | ⟨0, _⟩ => exact (by omega : ((h.val * 4224 + t.val) * 64 + d.val) / 1081344 = h.val / 4)
      | ⟨1, _⟩ => exact (by omega : ((h.val * 4224 + t.val) * 64 + d.val) / 540672 % 2 = h.val / 2 % 2)
      | ⟨2, _⟩ => exact (by omega : ((h.val * 4224 + t.val) * 64 + d.val) / 270336 % 2 = h.val % 2)
      | ⟨3, _⟩ => exact (by omega : ((h.val * 4224 + t.val) * 64 + d.val) / 64 % 4224 = t.val)
      | ⟨4, _⟩ => exact (by omega : ((h.val * 4224 + t.val) * 64 + d.val) % 64 = d.val))]
  pointwise [val_main_v50, val_main_v49, val_main_v48, val_main_v47, val_main_v46]
  unfold kv
  refine congrArg K (funext fun a => Fin.ext ?_)
  match a with
  | ⟨0, _⟩ => rfl
  | ⟨1, _⟩ => rfl
  | ⟨2, _⟩ => exact (by omega : h.val % 2 * 64 + d.val = 64 * (h.val % 2) + d.val)

theorem ext_kv (h : Fin 8) (n : Fin 34) (r : Fin 128) (d : Fin 64) (h0 : 128 ≤ 128 * n.val + r.val) :
    val_main_v55 (F := Ideal) K (ix4 h n r d) = kv K h ⟨128 * n.val + r.val - 128, by omega⟩ d := by
  rw [← head_kv]
  unfold val_main_v55 val_main_v54
  generalize val_main_v51 (F := Ideal) K = s
  generalize val_main_v53 (F := Ideal) = z
  pointwise
  rw [dif_neg (by omega)]
  simp only [Nat.mul_comm]

theorem band_kv (h : Fin 8) (n : Fin 33) (c : Fin 272) (d : Fin 64) (h0 : c.val < 256 → 128 ≤ 128 * n.val + c.val) :
    val_main_v61 (F := Ideal) K (ix4 h n c d) = kv K h (kp n (col c)) d := by
  have e1 := ext_kv K h
  have e2 := head_kv K h
  unfold val_main_v61 val_main_v59 val_main_v60 val_main_v58 val_main_v57 val_main_v56
  generalize val_main_v55 (F := Ideal) K = s at *
  generalize val_main_v51 (F := Ideal) K = z at *
  pointwise
  have hc := c.isLt
  have hk : (kp n (col c)).val = if c.val < 256 then 128 * n.val + c.val - 128 else c.val - 144 := by
    have hcol : (col c).val = if c.val < 256 then c.val else c.val + 112 := by unfold col; split_ifs <;> rfl
    unfold kp
    simp only [hcol]
    split_ifs <;> omega
  have k1 (h1 : c.val < 128) : 128 * n.val + c.val - 128 = (kp n (col c)).val := by rw [hk, if_pos (by omega)]
  have k2 (h1 : ¬ c.val < 128) (h2 : c.val - 128 < 128) : 128 * (1 + n.val) + (c.val - 128) - 128 = (kp n (col c)).val := by
    rw [hk, if_pos (by omega)]; omega
  have k3 (h2 : ¬ c.val - 128 < 128) : 112 + (c.val - 128 - 128) = (kp n (col c)).val := by rw [hk, if_neg (by omega)]; omega
  by_cases h1 : c.val < 128
  · refine (dif_pos h1).trans ((e1 _ _ _ (by simp only; omega)).trans ?_)
    exact congrArg (fun t => kv K h t d) (Fin.ext (k1 h1))
  · refine (dif_neg h1).trans ?_
    by_cases h2 : c.val - 128 < 128
    · refine (dif_pos h2).trans ((e1 _ _ _ (by simp only; omega)).trans ?_)
      exact congrArg (fun t => kv K h t d) (Fin.ext (k2 h1 h2))
    · refine (dif_neg h2).trans ((e2 _ _).trans ?_)
      exact congrArg (fun t => kv K h t d) (Fin.ext (k3 h2))

theorem v_k : val_main_v102 (F := Ideal) K = val_main_v61 K := rfl

theorem ref_dot (h : Fin 8) (n : Fin 33) (r : Fin 128) (c : Fin 272) : val_main_v62 (F := Ideal) Q K (ix4 h n r c)
    = ∑ d : Fin 64, Q (ix2 ⟨128 * n.val + r.val, by omega⟩ ⟨64 * h.val + d.val, by omega⟩) * val_main_v61 (F := Ideal) K (ix4 h n c d) := by
  unfold val_main_v62
  generalize val_main_v61 (F := Ideal) K = s
  pointwise [val_main_v3, val_main_v2, val_main_v1, val_main_v0]
  simp only [Nat.mul_comm]

theorem ref_bias (h : Fin 8) (n : Fin 33) (r : Fin 128) (c : Fin 272) : val_main_v67 (F := Ideal) B (ix4 h n r c) = B (ix3 h r (col c)) := by
  pointwise [val_main_v63, val_main_v64, val_main_v65, val_main_v66, val_main_v67]
  by_cases h1 : c.val < 256
  · exact (dif_pos h1).trans (congrArg (fun y => B (ix3 h r y)) (by unfold col; rw [dif_pos h1]))
  · exact (dif_neg h1).trans (congrArg (fun y => B (ix3 h r y)) (by unfold col; rw [dif_neg h1]; exact Fin.ext (by simp only; omega)))

theorem ref_mask (n : Fin 33) (r : Fin 128) (c : Fin 272) : val_main_v45 (F := Ideal) (ix3 n r c) = if Open n.val r.val (col c).val then 1#1 else 0#1 := by
  have iN : Is (BitVec.ofNat 32 n.val) n.val := is_nat (by omega)
  have iR : Is (BitVec.ofNat 32 r.val) r.val := is_nat (by omega)
  have i0 : Is 0#32 0 := is_nat (n := 0) (by omega)
  have i1 : Is 1#32 1 := is_nat (n := 1) (by omega)
  have i112 : Is 112#32 112 := is_nat (n := 112) (by omega)
  have i128 : Is 128#32 128 := is_nat (n := 128) (by omega)
  have q := is_add (is_mul iN i128 (by omega)) iR (by omega)
  have e1 (c : Fin 256) : val_main_v35 (F := Ideal) (ix3 n r c) = if 240 ≤ 128 * n.val + c.val ∧ r.val < c.val ∧ c.val ≤ r.val + 128 then 1#1 else 0#1 := by
    pointwise [val_main_v4, val_main_v5, val_main_c, val_main_v6, val_main_v7, val_main_v8, val_main_v9, val_main_v10, val_main_v11, val_main_v12, val_main_v13, val_main_v14, val_main_c_0, val_main_v15, val_main_v16, val_main_c_1, val_main_v17, val_main_v18, val_main_v19, val_main_v20, val_main_v21, val_main_v22, val_main_v23, val_main_v24, val_main_v25, val_main_v26, val_main_c_2, val_main_v27, val_main_v28, val_main_c_3, val_main_v29, val_main_v30, val_main_v31, val_main_c_4, val_main_v32, val_main_v33, val_main_v34, val_main_v35]
    have iC : Is (BitVec.ofNat 32 c.val) c.val := is_nat (by omega)
    have b := is_add (is_mul (is_sub iN i1 (by omega)) i128 (by omega)) iC (by omega)
    have s := is_sub q b (by omega)
    refine Eq.trans (congrArg₂ IntOp.andi (congrArg₂ IntOp.andi (is_sge s i0) (is_slt s i128)) (is_sge b i112)) ?_
    rw [and_if, and_if]
    exact if_congr (by omega) rfl rfl
  have e2 (c : Fin 16) : val_main_v44 (F := Ideal) (ix3 n r c) = if 240 + c.val ≤ 128 * n.val + r.val then 1#1 else 0#1 := by
    pointwise [val_main_v4, val_main_v5, val_main_c, val_main_v6, val_main_v7, val_main_v8, val_main_v9, val_main_v10, val_main_v11, val_main_v12, val_main_v36, val_main_v37, val_main_c_5, val_main_v38, val_main_v39, val_main_v40, val_main_v41, val_main_v42, val_main_c_6, val_main_v43, val_main_v44]
    have iC : Is (BitVec.ofNat 32 c.val) c.val := is_nat (by omega)
    refine Eq.trans (is_sge (is_sub q (is_add i112 iC (by omega)) (by omega)) i128) ?_
    exact if_congr (by omega) rfl rfl
  unfold val_main_v45
  generalize val_main_v35 (F := Ideal) = s at *
  generalize val_main_v44 (F := Ideal) = z at *
  pointwise
  have hc := c.isLt
  by_cases h1 : c.val < 256
  · refine (dif_pos h1).trans ((e1 _).trans ?_)
    unfold col Open
    rw [dif_pos h1]
    exact if_congr (by simp only; omega) rfl rfl
  · refine (dif_neg h1).trans ((e2 _).trans ?_)
    unfold col Open
    rw [dif_neg h1]
    exact if_congr (by simp only; omega) rfl rfl

/-- The reference's scores are the 272 columns' that its bands keep. -/
theorem ref_score (h : Fin 8) (n : Fin 33) (r : Fin 128) (c : Fin 272) : val_main_v70 (F := Ideal) Q K B (ix4 h n r c) = sc Q K B h n r (col c) := by
  have e1 := ref_dot Q K h n r c
  have e2 := ref_bias B h n r c
  have e3 := ref_mask n r c
  unfold val_main_v70 val_main_v68 val_main_call0_v1 val_main_v69
  generalize val_main_v62 (F := Ideal) Q K = s at *
  generalize val_main_v67 (F := Ideal) B = z at *
  generalize val_main_v45 (F := Ideal) = b at *
  pointwise [val_main_call0_v2, val_main_call0_v0, val_main_cst_7]
  rw [e1, e2, e3]
  unfold sc
  by_cases ho : Open n.val r.val (col c).val
  · rw [if_pos ho, if_pos ho]
    show _ + _ = _
    refine congrArg (· + B (ix3 h r (col c))) (Finset.sum_congr rfl fun d _ => ?_)
    rw [band_kv]
    intro hc
    unfold Open col at ho
    rw [dif_pos hc] at ho
    simp only at ho
    omega
  · rw [if_neg ho, if_neg ho]
    exact neg_inf

end Cert.Swf

end
-- ==== Proof.Swf.Band.lean ====
/-
  The band of positions a chunk reads, as rows of the array the blocks are cut from.
-/
module

public import proofs.«01_k».proof.Proof.Swf.Blocks
public import proofs.«01_k».proof.Proof.Swf.Ref

@[expose] public section

noncomputable section

namespace Cert.Swf

open Cert.KSfIdeal Cert.KSfIdeal.Gen Idealize.ShloMosaic Idealize.ShloMosaic.TcCoe Idealize.SL.Sem

variable (K : Vec Ideal S2x4224x128 .bf16) (g : Fin 2) (i : Fin 11) (p : Vec Ideal S1x128x128 .bf16) (c : Vec Ideal S1x384x128 .bf16) (z : Vec Ideal S1x128x128 .bf16)

theorem pair_of (hp : 0 < i.val → ∀ y x : Fin 128, p (ix3 0 y x) = K (ix3 g ⟨384 * i.val - 128 + y.val, by omega⟩ x))
    (hc : ∀ (y : Fin 384) (x : Fin 128), c (ix3 0 y x) = K (ix3 g ⟨384 * i.val + y.val, by omega⟩ x)) (w : Fin 512) (x : Fin 128) (h : 128 ≤ 384 * i.val + w.val) :
    k0_pay4 p c (ix2 w x) = K (ix3 g ⟨384 * i.val + w.val - 128, by omega⟩ x) := by
  unfold k0_pay4
  pointwise
  by_cases h1 : w.val < 128
  · refine (dif_pos h1).trans ((hp (by omega) _ _).trans ?_)
    exact congrArg (fun t => K (ix3 g t x)) (Fin.ext (by omega : 384 * i.val - 128 + w.val = 384 * i.val + w.val - 128))
  · refine (dif_neg h1).trans ((hc _ _).trans ?_)
    exact congrArg (fun t => K (ix3 g t x)) (Fin.ext (by omega : 384 * i.val + (w.val - 128) = 384 * i.val + w.val - 128))

theorem band_of (hp : 0 < i.val → ∀ y x : Fin 128, p (ix3 0 y x) = K (ix3 g ⟨384 * i.val - 128 + y.val, by omega⟩ x))
    (hc : ∀ (y : Fin 384) (x : Fin 128), c (ix3 0 y x) = K (ix3 g ⟨384 * i.val + y.val, by omega⟩ x))
    (hz : ∀ y x : Fin 128, z (ix3 0 y x) = K (ix3 g ⟨y.val, by omega⟩ x)) (b : Fin 3) (y : Fin 384) (x : Fin 128)
    (h : y.val < 256 → 128 ≤ 128 * (3 * i.val + b.val) + y.val) :
    band p c z b (ix2 y x) = K (ix3 g (kp ⟨3 * i.val + b.val, by omega⟩ y) x) := by
  have hy := y.isLt
  have e : band p c z b (ix2 y x) = if h : y.val < 256 then k0_pay4 p c (ix2 ⟨128 * b.val + y.val, by omega⟩ x) else z (ix3 0 ⟨y.val - 256, by omega⟩ x) := by
    match b with
    | 0 =>
      unfold band k0_pay5
      pointwise
    | 1 =>
      unfold band k0_pay6
      pointwise
    | 2 =>
      unfold band k0_pay9 k0_pay7 k0_pay8
      pointwise
  refine e.trans ?_
  by_cases h1 : y.val < 256
  · refine (dif_pos h1).trans ((pair_of K g i p c hp hc _ _ (by have := h h1; simp only; omega)).trans ?_)
    exact congrArg (fun t => K (ix3 g t x)) (Fin.ext ((by omega : 384 * i.val + (128 * b.val + y.val) - 128 = 128 * (3 * i.val + b.val) + y.val - 128).trans (if_pos h1).symm))
  · refine (dif_neg h1).trans ((hz _ _).trans ?_)
    exact congrArg (fun t => K (ix3 g t x)) (Fin.ext (if_neg h1).symm)

end Cert.Swf

end
-- ==== Proof.Swf.Reads.lean ====
/-
  Where sliding-window attention reads its arrays and writes its results: the rows and columns of each block.
-/
module

public import proofs.«01_k».proof.Proof.Swf.Blocks

@[expose] public section

noncomputable section

namespace Cert.Swf

open Cert.KSfIdeal Cert.KSfIdeal.Gen Idealize.ShloMosaic Idealize.ShloMosaic.TcCoe Idealize.SL.Sem

variable {F : FTy → Type} [FloatOps F] [Named F]
variable (m : (ℓ : Loc nD τ sig) → Buf (Elt F) ℓ)

theorem n_pts : cfg0.N = 44 := rfl

/-- A point's pair of heads and its block of rows. -/
def pr (t : Fin cfg0.N) : Fin 4 := ⟨t.val / 11, by have := t.isLt; have := n_pts; omega⟩
def rb (t : Fin cfg0.N) : Fin 11 := ⟨t.val % 11, by omega⟩

theorem coords_1 : ∀ t : Fin cfg0.N, (grid0.coords t 1).val = (rb t).val :=
  (by decide +kernel : ∀ t : Fin grid0.N, (grid0.coords t 1).val = t.val % 11)

theorem off_1 : ∀ (t : Fin cfg0.N) (e : Fin 2), k0_off1 (grid0.coords t) (BitVec.ofNat 32 e.val) = ![2 * (pr t).val + e.val] :=
  (by decide +kernel : ∀ (t : Fin grid0.N) (e : Fin 2), k0_off1 (grid0.coords t) (BitVec.ofNat 32 e.val) = ![2 * (t.val / 11) + e.val])

theorem idx_0 : ∀ t : Fin cfg0.N, win0_0.index t = ![0] :=
  (by decide +kernel : ∀ t : Fin grid0.N, win0_0.index t = ![0])

theorem idx_1 : ∀ t : Fin cfg0.N, win0_1.index t = ![(rb t).val, (pr t).val] :=
  (by decide +kernel : ∀ t : Fin grid0.N, win0_1.index t = ![t.val % 11, t.val / 11])

theorem idx_2 : ∀ t : Fin cfg0.N, win0_2.index t = ![(pr t).val / 2, 3 * (rb t).val - 1, 0] :=
  (by decide +kernel : ∀ t : Fin grid0.N, win0_2.index t = ![t.val / 11 / 2, 3 * (t.val % 11) - 1, 0])

theorem idx_3 : ∀ t : Fin cfg0.N, win0_3.index t = ![(pr t).val / 2, (rb t).val, 0] :=
  (by decide +kernel : ∀ t : Fin grid0.N, win0_3.index t = ![t.val / 11 / 2, t.val % 11, 0])

theorem idx_4 : ∀ t : Fin cfg0.N, win0_4.index t = ![(pr t).val / 2, 0, 0] :=
  (by decide +kernel : ∀ t : Fin grid0.N, win0_4.index t = ![t.val / 11 / 2, 0, 0])

theorem idx_5 : ∀ t : Fin cfg0.N, win0_5.index t = ![(pr t).val / 2, 3 * (rb t).val - 1, 0] :=
  (by decide +kernel : ∀ t : Fin grid0.N, win0_5.index t = ![t.val / 11 / 2, 3 * (t.val % 11) - 1, 0])

theorem idx_6 : ∀ t : Fin cfg0.N, win0_6.index t = ![(pr t).val / 2, (rb t).val, 0] :=
  (by decide +kernel : ∀ t : Fin grid0.N, win0_6.index t = ![t.val / 11 / 2, t.val % 11, 0])

theorem idx_7 : ∀ t : Fin cfg0.N, win0_7.index t = ![(pr t).val / 2, 0, 0] :=
  (by decide +kernel : ∀ t : Fin grid0.N, win0_7.index t = ![t.val / 11 / 2, 0, 0])

theorem idx_8 : ∀ t : Fin cfg0.N, win0_8.index t = ![(pr t).val, 0, 0] :=
  (by decide +kernel : ∀ t : Fin grid0.N, win0_8.index t = ![t.val / 11, 0, 0])

theorem idx_9 : ∀ t : Fin cfg0.N, win0_9.index t = ![(rb t).val, (pr t).val] :=
  (by decide +kernel : ∀ t : Fin grid0.N, win0_9.index t = ![t.val % 11, t.val / 11])

theorem idx_10 : ∀ t : Fin cfg0.N, win0_10.index t = ![(rb t).val, (pr t).val] :=
  (by decide +kernel : ∀ t : Fin grid0.N, win0_10.index t = ![t.val % 11, t.val / 11])

variable (c : Dev nD) (t : Fin cfg0.N)

/-- The sink a point reads for its head `e`. -/
theorem rd_0 (e : Fin 2) : sink (grid0.coords t) e (iblk m c 0 t) = m ((c : Thread nD τ).loc main_arg0) (ix1 ⟨2 * (pr t).val + e.val, by omega⟩ : S8.Idx) := by
  have h : iblk m c 0 t (ix1 ⟨2 * (pr t).val + e.val, by omega⟩ : S8.Idx) = m ((c : Thread nD τ).loc main_arg0) (ix1 ⟨2 * (pr t).val + e.val, by omega⟩ : S8.Idx) := by
    refine Cert.Tile.slice_read (Val := Elt F) (b := main_arg0) (win0_0.rect t) _ _ _ fun a => ?_
    rw [Pipeline.Window.rect_emb_val win0_0 t _ a rfl, idx_0 t]
    match a with
    | ⟨0, _⟩ => exact Cert.Tile.at_zero _ _
  refine Eq.trans ?_ h
  unfold sink
  refine View.ld_unit_apply_of _ _ _ _ _ _ fun a => ?_
  refine Eq.trans ?_ (congrArg (fun o : Fin 1 → ℕ => o a + _) (off_1 t e).symm)
  match a with
  | ⟨0, _⟩ => rfl

theorem rd_1 (p : Fin 384) (q : Fin 128) : iblk m c 1 t (ix2 p q : S384x128.Idx)
    = m ((c : Thread nD τ).loc main_arg1) (ix2 ⟨384 * (rb t).val + p.val, by omega⟩ ⟨128 * (pr t).val + q.val, by omega⟩ : S4224x512.Idx) := by
  refine Cert.Tile.slice_read (Val := Elt F) (b := main_arg1) (win0_1.rect t) _ _ _ fun a => ?_
  rw [Pipeline.Window.rect_emb_val win0_1 t _ a rfl, idx_1 t]
  match a with
  | ⟨0, _⟩ => exact Cert.Tile.at_block _ _ _
  | ⟨1, _⟩ => exact Cert.Tile.at_block _ _ _

theorem at_before (i v : ℕ) (h : 0 < i) : (3 * i - 1) * 128 + v = 384 * i - 128 + v := by omega

theorem rd_2 (h : 0 < (rb t).val) (p q : Fin 128) : iblk m c 2 t (ix3 0 p q : S1x128x128.Idx)
    = m ((c : Thread nD τ).loc main_arg2) (ix3 ⟨(pr t).val / 2, by omega⟩ ⟨384 * (rb t).val - 128 + p.val, by omega⟩ q : S2x4224x128.Idx) := by
  refine Cert.Tile.slice_read (Val := Elt F) (b := main_arg2) (win0_2.rect t) _ _ _ fun a => ?_
  rw [Pipeline.Window.rect_emb_val win0_2 t _ a rfl, idx_2 t]
  match a with
  | ⟨0, _⟩ => exact Cert.Tile.at_one _
  | ⟨1, _⟩ => exact at_before _ _ h
  | ⟨2, _⟩ => exact Cert.Tile.at_zero _ _

theorem rd_3 (p : Fin 384) (q : Fin 128) : iblk m c 3 t (ix3 0 p q : S1x384x128.Idx)
    = m ((c : Thread nD τ).loc main_arg2) (ix3 ⟨(pr t).val / 2, by omega⟩ ⟨384 * (rb t).val + p.val, by omega⟩ q : S2x4224x128.Idx) := by
  refine Cert.Tile.slice_read (Val := Elt F) (b := main_arg2) (win0_3.rect t) _ _ _ fun a => ?_
  rw [Pipeline.Window.rect_emb_val win0_3 t _ a rfl, idx_3 t]
  match a with
  | ⟨0, _⟩ => exact Cert.Tile.at_one _
  | ⟨1, _⟩ => exact Cert.Tile.at_block _ _ _
  | ⟨2, _⟩ => exact Cert.Tile.at_zero _ _

theorem rd_4 (p q : Fin 128) : iblk m c 4 t (ix3 0 p q : S1x128x128.Idx)
    = m ((c : Thread nD τ).loc main_arg2) (ix3 ⟨(pr t).val / 2, by omega⟩ ⟨p.val, by omega⟩ q : S2x4224x128.Idx) := by
  refine Cert.Tile.slice_read (Val := Elt F) (b := main_arg2) (win0_4.rect t) _ _ _ fun a => ?_
  rw [Pipeline.Window.rect_emb_val win0_4 t _ a rfl, idx_4 t]
  match a with
  | ⟨0, _⟩ => exact Cert.Tile.at_one _
  | ⟨1, _⟩ => exact Cert.Tile.at_zero _ _
  | ⟨2, _⟩ => exact Cert.Tile.at_zero _ _

theorem rd_5 (h : 0 < (rb t).val) (p q : Fin 128) : iblk m c 5 t (ix3 0 p q : S1x128x128.Idx)
    = m ((c : Thread nD τ).loc main_arg3) (ix3 ⟨(pr t).val / 2, by omega⟩ ⟨384 * (rb t).val - 128 + p.val, by omega⟩ q : S2x4224x128.Idx) := by
  refine Cert.Tile.slice_read (Val := Elt F) (b := main_arg3) (win0_5.rect t) _ _ _ fun a => ?_
  rw [Pipeline.Window.rect_emb_val win0_5 t _ a rfl, idx_5 t]
  match a with
  | ⟨0, _⟩ => exact Cert.Tile.at_one _
  | ⟨1, _⟩ => exact at_before _ _ h
  | ⟨2, _⟩ => exact Cert.Tile.at_zero _ _

theorem rd_6 (p : Fin 384) (q : Fin 128) : iblk m c 6 t (ix3 0 p q : S1x384x128.Idx)
    = m ((c : Thread nD τ).loc main_arg3) (ix3 ⟨(pr t).val / 2, by omega⟩ ⟨384 * (rb t).val + p.val, by omega⟩ q : S2x4224x128.Idx) := by
  refine Cert.Tile.slice_read (Val := Elt F) (b := main_arg3) (win0_6.rect t) _ _ _ fun a => ?_
  rw [Pipeline.Window.rect_emb_val win0_6 t _ a rfl, idx_6 t]
  match a with
  | ⟨0, _⟩ => exact Cert.Tile.at_one _
  | ⟨1, _⟩ => exact Cert.Tile.at_block _ _ _
  | ⟨2, _⟩ => exact Cert.Tile.at_zero _ _

theorem rd_7 (p q : Fin 128) : iblk m c 7 t (ix3 0 p q : S1x128x128.Idx)
    = m ((c : Thread nD τ).loc main_arg3) (ix3 ⟨(pr t).val / 2, by omega⟩ ⟨p.val, by omega⟩ q : S2x4224x128.Idx) := by
  refine Cert.Tile.slice_read (Val := Elt F) (b := main_arg3) (win0_7.rect t) _ _ _ fun a => ?_
  rw [Pipeline.Window.rect_emb_val win0_7 t _ a rfl, idx_7 t]
  match a with
  | ⟨0, _⟩ => exact Cert.Tile.at_one _
  | ⟨1, _⟩ => exact Cert.Tile.at_zero _ _
  | ⟨2, _⟩ => exact Cert.Tile.at_zero _ _

theorem rd_8 (e : Fin 2) (p : Fin 128) (q : Fin 384) : iblk m c 8 t (ix3 e p q : S2x128x384.Idx)
    = m ((c : Thread nD τ).loc main_arg4) (ix3 ⟨2 * (pr t).val + e.val, by omega⟩ p q : S8x128x384.Idx) := by
  refine Cert.Tile.slice_read (Val := Elt F) (b := main_arg4) (win0_8.rect t) _ _ _ fun a => ?_
  rw [Pipeline.Window.rect_emb_val win0_8 t _ a rfl, idx_8 t]
  match a with
  | ⟨0, _⟩ => exact Cert.Tile.at_block _ _ _
  | ⟨1, _⟩ => exact Cert.Tile.at_zero _ _
  | ⟨2, _⟩ => exact Cert.Tile.at_zero _ _

/-- The blocks of the two output windows at point `t`, read off an array `G`. -/
theorem ow_9 (G : Vec F S4224x512 .bf16) (p : Fin 384) (q : Fin 128) : ((cfg0.win 9).blk t).view.read (Elt F) G (ix2 p q : S384x128.Idx)
    = G (ix2 ⟨384 * (rb t).val + p.val, by omega⟩ ⟨128 * (pr t).val + q.val, by omega⟩ : S4224x512.Idx) := by
  refine Cert.Tile.slice_read (Val := Elt F) (b := main_v0_0) (win0_9.rect t) _ _ _ fun a => ?_
  rw [Pipeline.Window.rect_emb_val win0_9 t _ a rfl, idx_9 t]
  match a with
  | ⟨0, _⟩ => exact Cert.Tile.at_block _ _ _
  | ⟨1, _⟩ => exact Cert.Tile.at_block _ _ _

theorem ow_10 (G : Vec F S4224x512 .f32) (p : Fin 384) (q : Fin 128) : ((cfg0.win 10).blk t).view.read (Elt F) G (ix2 p q : S384x128.Idx)
    = G (ix2 ⟨384 * (rb t).val + p.val, by omega⟩ ⟨128 * (pr t).val + q.val, by omega⟩ : S4224x512.Idx) := by
  refine Cert.Tile.slice_read (Val := Elt F) (b := main_v0_1) (win0_10.rect t) _ _ _ fun a => ?_
  rw [Pipeline.Window.rect_emb_val win0_10 t _ a rfl, idx_10 t]
  match a with
  | ⟨0, _⟩ => exact Cert.Tile.at_block _ _ _
  | ⟨1, _⟩ => exact Cert.Tile.at_block _ _ _

/-- The point whose block holds a row and a column. -/
theorem pt_of (x y : ℕ) (h0 : x < 4224) (h1 : y < 512) : ∃ t : Fin cfg0.N, (rb t).val = x / 384 ∧ (pr t).val = y / 128 :=
  ⟨⟨y / 128 * 11 + x / 384, by have := n_pts; omega⟩, (by omega : (y / 128 * 11 + x / 384) % 11 = x / 384), (by omega : (y / 128 * 11 + x / 384) / 11 = y / 128)⟩

theorem cover_9 (i : ((cfg0.win 9).arr.view.loc (c.tc : Thread nD τ)).2.ty.Idx) :
    ∃ t : Fin cfg0.N, (cfg0.win 9).flush t = true ∧ i ∈ ((cfg0.win 9).blk t).view.set := by
  have h0 : (i 0).val < 4224 := (i 0).isLt
  have h1 : (i 1).val < 512 := (i 1).isLt
  obtain ⟨t, hr, hp⟩ := pt_of _ _ h0 h1
  refine ⟨t, flush0_9 t, ?_⟩
  show i ∈ ((View.whole main_v0_0).slice (win0_9.rect t)).set
  rw [View.set_slice_whole, Rect.mem_set_unit]
  intro a
  show win0_9.index t a * S384x128.size a ≤ _ ∧ _ < win0_9.index t a * S384x128.size a + S384x128.size a
  rw [idx_9]
  match a with
  | ⟨0, _⟩ => exact (by omega : (rb t).val * 384 ≤ (i 0).val ∧ (i 0).val < (rb t).val * 384 + 384)
  | ⟨1, _⟩ => exact (by omega : (pr t).val * 128 ≤ (i 1).val ∧ (i 1).val < (pr t).val * 128 + 128)

theorem cover_10 (i : ((cfg0.win 10).arr.view.loc (c.tc : Thread nD τ)).2.ty.Idx) :
    ∃ t : Fin cfg0.N, (cfg0.win 10).flush t = true ∧ i ∈ ((cfg0.win 10).blk t).view.set := by
  have h0 : (i 0).val < 4224 := (i 0).isLt
  have h1 : (i 1).val < 512 := (i 1).isLt
  obtain ⟨t, hr, hp⟩ := pt_of _ _ h0 h1
  refine ⟨t, flush0_10 t, ?_⟩
  show i ∈ ((View.whole main_v0_1).slice (win0_10.rect t)).set
  rw [View.set_slice_whole, Rect.mem_set_unit]
  intro a
  show win0_10.index t a * S384x128.size a ≤ _ ∧ _ < win0_10.index t a * S384x128.size a + S384x128.size a
  rw [idx_10]
  match a with
  | ⟨0, _⟩ => exact (by omega : (rb t).val * 384 ≤ (i 0).val ∧ (i 0).val < (rb t).val * 384 + 384)
  | ⟨1, _⟩ => exact (by omega : (pr t).val * 128 ≤ (i 1).val ∧ (i 1).val < (pr t).val * 128 + 128)

end Cert.Swf

end
-- ==== Proof.Swf.RefOut.lean ====
/-
  The reference's maxima, sums of weights and results, row by row.
-/
module

public import proofs.«01_k».proof.Proof.Swf.Ref

@[expose] public section

set_option maxRecDepth 16384

noncomputable section

namespace Cert.Swf

open Cert.Re Cert.RSfIdeal Cert.RSfIdeal.Gen Cert.RSfIdeal.Read Idealize.ShloMosaic Idealize.ShloMosaic.TcCoe Idealize.SL.Sem

variable (Q : S4224x512.Idx → EReal) (K : S2x4224x128.Idx → EReal) (B : S8x128x384.Idx → EReal)
variable (A : S8.Idx → EReal) (V : S2x4224x128.Idx → EReal) (h : Fin 8) (n : Fin 33) (r : Fin 128)

theorem ref_max : val_main_v72 (F := Ideal) Q K B (ix3 h n r) = Finset.fold max ⊥ (fun c => sc Q K B h n r (col c)) Finset.univ := by
  have e := ref_score Q K B h n r
  unfold val_main_v72
  generalize val_main_v70 (F := Ideal) Q K B = s at *
  pointwise [val_main_cst_8]
  rw [neg_inf]
  simp only [e]

theorem ref_sink : val_main_v74 (F := Ideal) A (ix4 h n r 0) = A (ix1 h) := by
  pointwise [val_main_v71, val_main_v74]

theorem ref_top : val_main_v75 (F := Ideal) A Q K B (ix4 h n r 0) = top (fun c => sc Q K B h n r (col c)) (A (ix1 h)) := by
  have i : idx_main_v73 (ix4 h n r 0) = ix3 h n r := funext fun a => by
    match a with
    | ⟨0, _⟩ => rfl
    | ⟨1, _⟩ => rfl
    | ⟨2, _⟩ => rfl
  rw [val_main_v75_apply, ref_sink, val_main_v73_apply, i, ref_max]
  rfl

theorem ref_weight (c : Fin 272) : val_main_v78 (F := Ideal) A Q K B (ix4 h n r c)
    = Ideal.exp (sc Q K B h n r (col c) - top (fun c => sc Q K B h n r (col c)) (A (ix1 h))) := by
  have e1 := ref_score Q K B h n r c
  have e2 := ref_top Q K B A h n r
  unfold val_main_v78 val_main_v77 val_main_v76
  generalize val_main_v70 (F := Ideal) Q K B = s at *
  generalize val_main_v75 (F := Ideal) A Q K B = g at *
  pointwise
  rw [e1, e2]

theorem ref_sum : val_main_v79 (F := Ideal) A Q K B (ix3 h n r)
    = ∑ c : Fin 272, Ideal.exp (sc Q K B h n r (col c) - top (fun c => sc Q K B h n r (col c)) (A (ix1 h))) := by
  have e := ref_weight Q K B A h n r
  unfold val_main_v79
  generalize val_main_v78 (F := Ideal) A Q K B = s at *
  pointwise [val_main_cst_9]
  simp only [e]

theorem ref_sink' : val_main_v81 (F := Ideal) A (ix4 h n r 0) = A (ix1 h) := by
  pointwise [val_main_v71, val_main_v81]

theorem ref_den : val_main_v84 (F := Ideal) A Q K B (ix4 h n r 0) = dn (fun c => sc Q K B h n r (col c)) (A (ix1 h)) := by
  have i : idx_main_v80 (ix4 h n r 0) = ix3 h n r := funext fun a => by
    match a with
    | ⟨0, _⟩ => rfl
    | ⟨1, _⟩ => rfl
    | ⟨2, _⟩ => rfl
  rw [val_main_v84_apply, val_main_v80_apply, i, ref_sum, val_main_v83_apply, val_main_v82_apply, ref_sink', ref_top]
  rfl

theorem head_e (d : Fin 64) : idx_main_v106 (idx_main_v111 (idx_main_v112 (idx_main_v113
    (ix2 (⟨128 * n.val + r.val, by omega⟩ : Fin 4224) (⟨64 * h.val + d.val, by omega⟩ : Fin 512))))) = ix4 h n r 0 := by
  have hh := h.isLt
  have hn := n.isLt
  have hr := r.isLt
  have hd := d.isLt
  have i : idx_main_v112 (idx_main_v113 (ix2 (⟨128 * n.val + r.val, by omega⟩ : Fin 4224) (⟨64 * h.val + d.val, by omega⟩ : Fin 512)))
      = ix3 h (⟨128 * n.val + r.val, by omega⟩ : Fin 4224) d := funext fun a => Fin.ext (by
    match a with
    | ⟨0, _⟩ => exact (by omega : ((128 * n.val + r.val) * 512 + (64 * h.val + d.val)) / 64 % 8 = h.val)
    | ⟨1, _⟩ => exact (by omega : ((128 * n.val + r.val) * 512 + (64 * h.val + d.val)) / 512 = 128 * n.val + r.val)
    | ⟨2, _⟩ => exact (by omega : ((128 * n.val + r.val) * 512 + (64 * h.val + d.val)) % 64 = d.val))
  rw [i]
  exact funext fun a => Fin.ext (by
    match a with
    | ⟨0, _⟩ => exact (by omega : ((h.val * 4224 + (128 * n.val + r.val)) * 64 + d.val) / 270336 = h.val)
    | ⟨1, _⟩ => exact (by omega : ((h.val * 4224 + (128 * n.val + r.val)) * 64 + d.val) / 8192 % 33 = n.val)
    | ⟨2, _⟩ => exact (by omega : ((h.val * 4224 + (128 * n.val + r.val)) * 64 + d.val) / 64 % 128 = r.val)
    | ⟨3, _⟩ => rfl)

theorem head_o (d : Fin 64) : idx_main_v107 (idx_main_v108 (idx_main_v109
    (ix2 (⟨128 * n.val + r.val, by omega⟩ : Fin 4224) (⟨64 * h.val + d.val, by omega⟩ : Fin 512)))) = ix4 h n r d := by
  have hh := h.isLt
  have hn := n.isLt
  have hr := r.isLt
  have hd := d.isLt
  have i : idx_main_v108 (idx_main_v109 (ix2 (⟨128 * n.val + r.val, by omega⟩ : Fin 4224) (⟨64 * h.val + d.val, by omega⟩ : Fin 512)))
      = ix3 h (⟨128 * n.val + r.val, by omega⟩ : Fin 4224) d := funext fun a => Fin.ext (by
    match a with
    | ⟨0, _⟩ => exact (by omega : ((128 * n.val + r.val) * 512 + (64 * h.val + d.val)) / 64 % 8 = h.val)
    | ⟨1, _⟩ => exact (by omega : ((128 * n.val + r.val) * 512 + (64 * h.val + d.val)) / 512 = 128 * n.val + r.val)
    | ⟨2, _⟩ => exact (by omega : ((128 * n.val + r.val) * 512 + (64 * h.val + d.val)) % 64 = d.val))
  rw [i]
  exact funext fun a => Fin.ext (by
    match a with
    | ⟨0, _⟩ => exact (by omega : ((h.val * 4224 + (128 * n.val + r.val)) * 64 + d.val) / 270336 = h.val)
    | ⟨1, _⟩ => exact (by omega : ((h.val * 4224 + (128 * n.val + r.val)) * 64 + d.val) / 8192 % 33 = n.val)
    | ⟨2, _⟩ => exact (by omega : ((h.val * 4224 + (128 * n.val + r.val)) * 64 + d.val) / 64 % 128 = r.val)
    | ⟨3, _⟩ => exact (by omega : ((h.val * 4224 + (128 * n.val + r.val)) * 64 + d.val) % 64 = d.val))

/-- The reference's second result. -/
theorem ref_e (d : Fin 64) : val_main_v113 (F := Ideal) A Q K B (ix2 (⟨128 * n.val + r.val, by omega⟩ : Fin 4224) (⟨64 * h.val + d.val, by omega⟩ : Fin 512))
    = top (fun c => sc Q K B h n r (col c)) (A (ix1 h)) + Ideal.log (dn (fun c => sc Q K B h n r (col c)) (A (ix1 h))) := by
  rw [val_main_v113_apply, val_main_v112_apply, val_main_v111_apply, val_main_v106_apply, head_e, val_main_v105_apply, val_main_v104_apply, ref_top, ref_den]
  rfl

theorem ref_w (c : Fin 272) : val_main_v86 (F := Ideal) A Q K B (ix4 h n r c)
    = Ideal.div (Ideal.exp (sc Q K B h n r (col c) - top (fun c => sc Q K B h n r (col c)) (A (ix1 h)))) (dn (fun c => sc Q K B h n r (col c)) (A (ix1 h))) := by
  have i : idx_main_v85 (ix4 h n r c) = ix4 h n r 0 := funext fun a => by
    match a with
    | ⟨0, _⟩ => rfl
    | ⟨1, _⟩ => rfl
    | ⟨2, _⟩ => rfl
    | ⟨3, _⟩ => rfl
  rw [val_main_v86_apply, ref_weight, val_main_v85_apply, i, ref_den]
  rfl

/-- The reference's first result. -/
theorem ref_o (d : Fin 64) : val_main_v110 (F := Ideal) A Q K V B (ix2 (⟨128 * n.val + r.val, by omega⟩ : Fin 4224) (⟨64 * h.val + d.val, by omega⟩ : Fin 512))
    = ∑ c : Fin 272, Ideal.div (Ideal.exp (sc Q K B h n r (col c) - top (fun c => sc Q K B h n r (col c)) (A (ix1 h)))) (dn (fun c => sc Q K B h n r (col c)) (A (ix1 h)))
      * val_main_v61 (F := Ideal) V (ix4 h n c d) := by
  have i (c : Fin 272) : lidx_main_v103 (ix4 h n r d) c = ix4 h n r c := funext fun a => by
    match a with
    | ⟨0, _⟩ => rfl
    | ⟨1, _⟩ => rfl
    | ⟨2, _⟩ => rfl
    | ⟨3, _⟩ => rfl
  have j (c : Fin 272) : ridx_main_v103 (ix4 h n r d) c = ix4 h n c d := funext fun a => by
    match a with
    | ⟨0, _⟩ => rfl
    | ⟨1, _⟩ => rfl
    | ⟨2, _⟩ => rfl
    | ⟨3, _⟩ => rfl
  rw [val_main_v110_apply, val_main_v109_apply, val_main_v108_apply, val_main_v107_apply, head_o, val_main_v103_apply]
  refine Finset.sum_congr rfl fun c _ => ?_
  rw [i, j, ref_w, v_k]

end Cert.Swf

end
-- ==== Proof.Swf.Claim.lean ====
/-
  Sliding-window attention and its reference end with equal results, where the sinks, queries, keys and biases are finite.
-/
module

public import proofs.«01_k».proof.Defs
public import proofs.«01_k».proof.Proof.Swf.Block
public import proofs.«01_k».proof.Proof.Swf.Band
public import proofs.«01_k».proof.Proof.Swf.Reads
public import proofs.«01_k».proof.Proof.Swf.RefOut
public import proofs.«01_k».proof.Proof.Gen.RSfIdeal.Run

@[expose] public section

noncomputable section

namespace Cert.Swf

open Cert.KSfIdeal Cert.KSfIdeal.Gen Idealize.ShloMosaic Idealize.ShloMosaic.TcCoe Idealize.SL.Sem

/-- The precondition's side conditions. -/
theorem pre_facts : Cert.Pre_sf_finite.Facts := by
  constructor <;> decide

/-- The precondition read element by element. -/
theorem pre_fin [Cert.Pre_sf_finite.Facts] (x0 : Vec Ideal S8 .f32) (x1 : Vec Ideal S4224x512 .bf16) (x2 x3 : Vec Ideal S2x4224x128 .bf16)
    (x4 : Vec Ideal S8x128x384 .f32) (h : Cert.Pre_sf_finite.fn (F := Ideal) x0 x1 x2 x3 x4 = fun _ => 1#1) :
    (∀ i, Cert.Re.Fin' (x0 i)) ∧ (∀ i, Cert.Re.Fin' (x1 i)) ∧ (∀ i, Cert.Re.Fin' (x2 i)) ∧ (∀ i, Cert.Re.Fin' (x4 i)) := by
  have h' := congrFun h (fun a => a.elim0)
  dsimp only [Cert.Pre_sf_finite.fn, Cert.Pre_sf_finite.fn_part1] at h'
  obtain ⟨h123, h4⟩ := IntOp.andi_eq_one.1 h'
  obtain ⟨h12, h3⟩ := IntOp.andi_eq_one.1 h123
  obtain ⟨h1, h2⟩ := IntOp.andi_eq_one.1 h12
  haveI : Subsingleton Cert.Pre_sf_finite.S_.Idx := ⟨fun a b => funext fun i => i.elim0⟩
  refine ⟨fun i => ?_, fun i => ?_, fun i => ?_, fun i => ?_⟩
  · have e := Host.reduce_andi_all _ _ _ _ _ h1 i
    revert e
    obtain ⟨p, rfl⟩ : ∃ p : Fin 8, i = ix1 p := ⟨i 0, eq_ix1 i⟩
    pointwise
    rw [Cert.Re.bot_f32, Cert.Re.top_f32]
    exact Cert.Re.fin_of_cmp _
  · have e := Host.reduce_andi_all _ _ _ _ _ h2 i
    revert e
    obtain ⟨p, q, rfl⟩ : ∃ (p : Fin 4224) (q : Fin 512), i = ix2 p q := ⟨i 0, i 1, eq_ix2 i⟩
    pointwise
    rw [Cert.Re.bot_bf16, Cert.Re.top_bf16]
    exact Cert.Re.fin_of_cmp _
  · have e := Host.reduce_andi_all _ _ _ _ _ h3 i
    revert e
    obtain ⟨p, q, r, rfl⟩ : ∃ (p : Fin 2) (q : Fin 4224) (r : Fin 128), i = ix3 p q r := ⟨i 0, i 1, i 2, eq_ix3 i⟩
    pointwise
    rw [Cert.Re.bot_bf16, Cert.Re.top_bf16]
    exact Cert.Re.fin_of_cmp _
  · have e := Host.reduce_andi_all _ _ _ _ _ h4 i
    revert e
    obtain ⟨p, q, r, rfl⟩ : ∃ (p : Fin 8) (q : Fin 128) (r : Fin 384), i = ix3 p q r := ⟨i 0, i 1, i 2, eq_ix3 i⟩
    pointwise
    rw [Cert.Re.bot_f32, Cert.Re.top_f32]
    exact Cert.Re.fin_of_cmp _

section Scores

variable (Q : S4224x512.Idx → EReal) (K : S2x4224x128.Idx → EReal) (B : S8x128x384.Idx → EReal) (h : Fin 8) (n : Fin 33) (r : Fin 128)

theorem sc_gap (y : Fin 384) (h1 : 256 ≤ y.val) (h2 : y.val < 368) : sc Q K B h n r y = ⊥ :=
  if_neg (by unfold Open; omega)

theorem sc_ne (hQ : ∀ i, Cert.Re.Fin' (Q i)) (hK : ∀ i, Cert.Re.Fin' (K i)) (hB : ∀ i, Cert.Re.Fin' (B i)) (y : Fin 384) : sc Q K B h n r y ≠ ⊤ := by
  unfold sc
  split_ifs
  · obtain ⟨x, hx⟩ := Cert.Re.fin_add (Cert.Re.fin_sum Finset.univ _ fun (d : Fin 64) _ => Cert.Re.fin_mul (hQ (ix2 ⟨128 * n.val + r.val, by omega⟩ ⟨64 * h.val + d.val, by omega⟩))
      (hK (ix3 ⟨h.val / 4, by omega⟩ (kp n y) ⟨64 * (h.val % 2) + d.val, by omega⟩))) (hB (ix3 h r y))
    exact fun e => EReal.coe_ne_top x (hx.symm.trans e)
  · exact bot_ne_top

end Scores

variable (m : (ℓ : Loc nD τ sig) → Buf (Elt Ideal) ℓ) (c : Dev nD) (t : Fin cfg0.N) (b : Fin 3) (r : Fin 128)

/-- The head `e` of a point's pair, and its chunk's block. -/
def hd (e : Fin 2) : Fin 8 := ⟨2 * (pr t).val + e.val, by omega⟩
def nb : Fin 33 := ⟨3 * (rb t).val + b.val, by omega⟩

/-- A point's scores are its heads'. -/
abbrev rows (e : Fin 2) : Fin 384 → EReal :=
  sc (m ((c : Thread nD τ).loc main_arg1)) (m ((c : Thread nD τ).loc main_arg2)) (m ((c : Thread nD τ).loc main_arg4)) (hd t e) (nb t b) r

theorem point_mask (y : Fin 384) : msk (BitVec.ofNat 32 (grid0.coords t 1).val) b (ix2 r y) = if Open (nb t b).val r.val y.val then 1#1 else 0#1 := by
  rw [coords_1]
  exact msk_apply (rb t) b r y

theorem point_q (e : Fin 2) (d : Fin 64) (x : Fin 128) (hx : x.val = 64 * e.val + d.val) : qs (iblk m c 1 t) b (ix2 r x)
    = m ((c : Thread nD τ).loc main_arg1) (ix2 ⟨128 * (nb t b).val + r.val, by omega⟩ ⟨64 * (hd t e).val + d.val, by omega⟩) := by
  rw [qs_apply, rd_1]
  exact congrArg₂ (fun u v => m ((c : Thread nD τ).loc main_arg1) (ix2 u v))
    (Fin.ext (by unfold nb; simp only; omega)) (Fin.ext (by unfold hd; simp only; omega))

theorem point_kv (K : S2x4224x128.Idx → EReal) (e : Fin 2) (d : Fin 64) (x : Fin 128) (hx : x.val = 64 * e.val + d.val) (u : Fin 4224) :
    K (ix3 ⟨(pr t).val / 2, by omega⟩ u x) = kv K (hd t e) u d := by
  unfold kv
  exact congrArg₂ (fun v w => K (ix3 v u w)) (Fin.ext (by unfold hd; simp only; omega)) (Fin.ext (by unfold hd; simp only; omega))

theorem point_k (e : Fin 2) (d : Fin 64) (x : Fin 128) (hx : x.val = 64 * e.val + d.val) (y : Fin 384) (ho : Open (nb t b).val r.val y.val) :
    band (iblk m c 2 t) (iblk m c 3 t) (iblk m c 4 t) b (ix2 y x) = kv (m ((c : Thread nD τ).loc main_arg2)) (hd t e) (kp (nb t b) y) d := by
  refine (band_of (m ((c : Thread nD τ).loc main_arg2)) ⟨(pr t).val / 2, by omega⟩ (rb t) _ _ _ (fun h => rd_2 m c t h) (rd_3 m c t) (rd_4 m c t) b y x ?_).trans
    (point_kv t _ e d x hx _)
  intro h1
  unfold Open nb at ho
  simp only at ho
  omega

theorem point_v (e : Fin 2) (d : Fin 64) (x : Fin 128) (hx : x.val = 64 * e.val + d.val) (y : Fin 384) (ho : Open (nb t b).val r.val y.val) :
    band (iblk m c 5 t) (iblk m c 6 t) (iblk m c 7 t) b (ix2 y x) = kv (m ((c : Thread nD τ).loc main_arg3)) (hd t e) (kp (nb t b) y) d := by
  refine (band_of (m ((c : Thread nD τ).loc main_arg3)) ⟨(pr t).val / 2, by omega⟩ (rb t) _ _ _ (fun h => rd_5 m c t h) (rd_6 m c t) (rd_7 m c t) b y x ?_).trans
    (point_kv t _ e d x hx _)
  intro h1
  unfold Open nb at ho
  simp only at ho
  omega

theorem rowsA : (fun y : Fin 384 => scA m c t b (ix2 r y)) = rows m c t b r 0 := by
  funext y
  refine (sc0_apply _ _ _ _ r y _ (point_mask t b r y)).trans ?_
  unfold rows sc
  by_cases ho : Open (nb t b).val r.val y.val
  · rw [if_pos ho, if_pos ho]
    refine congrArg₂ (· + ·) (Finset.sum_congr rfl fun d _ => ?_) (rd_8 m c t 0 r y)
    exact congrArg₂ (· * ·) (point_q m c t b r 0 d _ (by simp)) (point_k m c t b r 0 d _ (by simp) y ho)
  · rw [if_neg ho, if_neg ho]

theorem rowsB : (fun y : Fin 384 => scB m c t b (ix2 r y)) = rows m c t b r 1 := by
  funext y
  refine (sc1_apply _ _ _ _ r y _ (point_mask t b r y)).trans ?_
  unfold rows sc
  by_cases ho : Open (nb t b).val r.val y.val
  · rw [if_pos ho, if_pos ho]
    refine congrArg₂ (· + ·) (Finset.sum_congr rfl fun d _ => ?_) (rd_8 m c t 1 r y)
    exact congrArg₂ (· * ·) (point_q m c t b r 1 d _ (by simp)) (point_k m c t b r 1 d _ (by simp) y ho)
  · rw [if_neg ho, if_neg ho]

/-- A chunk's entry is the reference's, from the head's weighted values. -/
theorem out_head (e : Fin 2) (d : Fin 64) (x : Fin 128) (hx : x.val = 64 * e.val + d.val) (s : FVec Ideal S128x384 .f32)
    (hs : (fun y : Fin 384 => s (ix2 r y)) = rows m c t b r e) (f0 : ∀ i, Cert.Re.Fin' (m ((c : Thread nD τ).loc main_arg0) i))
    (f1 : ∀ i, Cert.Re.Fin' (m ((c : Thread nD τ).loc main_arg1) i)) (f2 : ∀ i, Cert.Re.Fin' (m ((c : Thread nD τ).loc main_arg2) i))
    (f4 : ∀ i, Cert.Re.Fin' (m ((c : Thread nD τ).loc main_arg4) i)) :
    wv (F := Ideal) (m ((c : Thread nD τ).loc main_arg0) (ix1 (hd t e))) s (band (iblk m c 5 t) (iblk m c 6 t) (iblk m c 7 t) b) (ix2 r x)
      = Cert.RSfIdeal.Read.val_main_v110 (F := Ideal) (m ((c : Thread nD τ).loc main_arg0)) (m ((c : Thread nD τ).loc main_arg1)) (m ((c : Thread nD τ).loc main_arg2))
          (m ((c : Thread nD τ).loc main_arg3)) (m ((c : Thread nD τ).loc main_arg4))
          (ix2 (⟨128 * (nb t b).val + r.val, by omega⟩ : Fin 4224) (⟨64 * (hd t e).val + d.val, by omega⟩ : Fin 512)) := by
  rw [wv_apply, hs, ref_o]
  have hs' (y : Fin 384) : s (ix2 r y) = rows m c t b r e y := congrFun hs y
  simp only [hs']
  refine out_gap (sc_gap _ _ _ _ _ _) (sc_ne _ _ _ _ _ _ f1 f2 f4) (f0 _) fun j => ?_
  by_cases ho : Open (nb t b).val r.val (col j).val
  · refine Or.inr ((point_v m c t b r e d x hx _ ho).trans (band_kv _ _ _ _ _ ?_).symm)
    intro hc
    unfold Open col at ho
    rw [dif_pos hc] at ho
    simp only at ho
    omega
  · exact Or.inl (if_neg ho)

theorem lse_head (e : Fin 2) (d : Fin 64) :
    top (rows m c t b r e) (m ((c : Thread nD τ).loc main_arg0) (ix1 (hd t e))) + Ideal.log (dn (rows m c t b r e) (m ((c : Thread nD τ).loc main_arg0) (ix1 (hd t e))))
      = Cert.RSfIdeal.Read.val_main_v113 (F := Ideal) (m ((c : Thread nD τ).loc main_arg0)) (m ((c : Thread nD τ).loc main_arg1)) (m ((c : Thread nD τ).loc main_arg2))
          (m ((c : Thread nD τ).loc main_arg4))
          (ix2 (⟨128 * (nb t b).val + r.val, by omega⟩ : Fin 4224) (⟨64 * (hd t e).val + d.val, by omega⟩ : Fin 512)) := by
  rw [ref_e, top_gap (sc_gap _ _ _ _ _ _), dn_gap (sc_gap _ _ _ _ _ _)]

/-- A row and a lane of a block, as a chunk's row and a head's lane. -/
theorem split (p : Fin 384) (q : Fin 128) : ∃ (b : Fin 3) (r : Fin 128) (e : Fin 2) (d : Fin 64),
    p = ⟨128 * b.val + r.val, by omega⟩ ∧ q.val = 64 * e.val + d.val :=
  ⟨⟨p.val / 128, by omega⟩, ⟨p.val % 128, by omega⟩, ⟨q.val / 64, by omega⟩, ⟨q.val % 64, by omega⟩, Fin.ext (by simp only; omega), by simp only; omega⟩

theorem place (e : Fin 2) (d : Fin 64) (q : Fin 128) (hq : q.val = 64 * e.val + d.val) (G : S4224x512.Idx → EReal) :
    G (ix2 (⟨128 * (nb t b).val + r.val, by omega⟩ : Fin 4224) (⟨64 * (hd t e).val + d.val, by omega⟩ : Fin 512))
      = G (ix2 ⟨384 * (rb t).val + (128 * b.val + r.val), by omega⟩ ⟨128 * (pr t).val + q.val, by omega⟩) :=
  congrArg₂ (fun u v => G (ix2 u v)) (Fin.ext (by unfold nb; simp only; omega)) (Fin.ext (by unfold hd; simp only; omega))

theorem flushed_9 (f0 : ∀ i, Cert.Re.Fin' (m ((c : Thread nD τ).loc main_arg0) i))
    (f1 : ∀ i, Cert.Re.Fin' (m ((c : Thread nD τ).loc main_arg1) i)) (f2 : ∀ i, Cert.Re.Fin' (m ((c : Thread nD τ).loc main_arg2) i))
    (f4 : ∀ i, Cert.Re.Fin' (m ((c : Thread nD τ).loc main_arg4) i)) :
    (dats m 0 c).flushed 9 t = ((cfg0.win 9).blk t).view.read (Elt Ideal) (Cert.RSfIdeal.Read.val_main_v110 (F := Ideal) (m ((c : Thread nD τ).loc main_arg0))
      (m ((c : Thread nD τ).loc main_arg1)) (m ((c : Thread nD τ).loc main_arg2)) (m ((c : Thread nD τ).loc main_arg3)) (m ((c : Thread nD τ).loc main_arg4))) := by
  rw [Cert.KSfIdeal.Value.flushed9]
  funext y
  obtain ⟨p, q, rfl⟩ : ∃ (p : Fin 384) (q : Fin 128), y = ix2 p q := ⟨y 0, y 1, eq_ix2 y⟩
  obtain ⟨b, r, e, d, rfl, hq⟩ := split p q
  refine Eq.trans ?_ (ow_9 t _ _ q).symm
  refine (outs_9 m c t b r q).trans ?_
  rw [rd_0, rd_0]
  refine Eq.trans ?_ (place t b r e d q hq _)
  match e with
  | 0 =>
    obtain rfl : q = ⟨d.val, lt_trans d.isLt (by decide)⟩ := Fin.ext (by simpa using hq)
    exact (outC_lo _ _ _ _ _ _ _).trans (out_head m c t b r 0 d _ hq _ (rowsA m c t b r) f0 f1 f2 f4)
  | 1 =>
    obtain rfl : q = ⟨64 + d.val, Nat.add_lt_add_left d.isLt 64⟩ := Fin.ext (by simpa using hq)
    exact (outC_hi _ _ _ _ _ _ _).trans (out_head m c t b r 1 d _ hq _ (rowsB m c t b r) f0 f1 f2 f4)

theorem flushed_10 : (dats m 0 c).flushed 10 t = ((cfg0.win 10).blk t).view.read (Elt Ideal) (Cert.RSfIdeal.Read.val_main_v113 (F := Ideal)
      (m ((c : Thread nD τ).loc main_arg0)) (m ((c : Thread nD τ).loc main_arg1)) (m ((c : Thread nD τ).loc main_arg2)) (m ((c : Thread nD τ).loc main_arg4))) := by
  rw [Cert.KSfIdeal.Value.flushed10]
  funext y
  obtain ⟨p, q, rfl⟩ : ∃ (p : Fin 384) (q : Fin 128), y = ix2 p q := ⟨y 0, y 1, eq_ix2 y⟩
  obtain ⟨b, r, e, d, rfl, hq⟩ := split p q
  refine Eq.trans ?_ (ow_10 t _ _ q).symm
  refine (outs_10 m c t b r q).trans ?_
  rw [rd_0, rd_0]
  refine Eq.trans ?_ (place t b r e d q hq _)
  match e with
  | 0 =>
    obtain rfl : q = ⟨d.val, lt_trans d.isLt (by decide)⟩ := Fin.ext (by simpa using hq)
    refine (lseC_lo _ _ _ _ _ _).trans ?_
    rw [rowsA]
    exact lse_head m c t b r 0 d
  | 1 =>
    obtain rfl : q = ⟨64 + d.val, Nat.add_lt_add_left d.isLt 64⟩ := Fin.ext (by simpa using hq)
    refine (lseC_hi _ _ _ _ _ _).trans ?_
    rw [rowsB]
    exact lse_head m c t b r 1 d

/-- The value claim of this call. -/
theorem algebraic [Cert.Pre_sf_finite.Facts] : Cert.algebraic_KSfIdeal_RSfIdeal_pre_sf_finite := by
  intro m g m' g' hp ha
  refine ⟨fun c => (dats m 0 c).arrAt 9 cfg0.N, fun c => (dats m 0 c).arrAt 10 cfg0.N, Cert.KSfIdeal.Value.run_blocks m g, ?_⟩
  refine (θ_run _ _ _).mono (fun r h c => ?_) (Cert.RSfIdeal.Value.run m' g')
  obtain ⟨h0, h1, hargs⟩ := h c
  obtain ⟨a0, a1, a2, a3, a4⟩ := ha c
  obtain ⟨f0, f1, f2, f4⟩ := pre_fin _ _ _ _ _ (hp c)
  refine ⟨h0.trans ?_, h1.trans ?_, hargs⟩
  · exact (Cert.RSfIdeal.Read.val_main_v110_eq _ _).trans (Eq.trans (by rw [a0, a1, a2, a3, a4])
      ((dats m 0 c).arrAt_eq_of_cover 9 _ (fun t _ => flushed_9 m c t f0 f1 f2 f4) (cover_9 c)).symm)
  · exact (Cert.RSfIdeal.Read.val_main_v113_eq _ _).trans (Eq.trans (by rw [a0, a1, a2, a4])
      ((dats m 0 c).arrAt_eq_of_cover 10 _ (fun t _ => flushed_10 m c t) (cover_10 c)).symm)

end Cert.Swf

end
-- ==== Proof.Qn.Blocks.lean ====
/-
  What each point of the head norms' forward call leaves in its output blocks: the queries' and keys' four column chunks,
  the values, and the doubled keys' and values' two slabs.
-/
module

public import proofs.«01_k».proof.Proof.Gen.KQnIdeal.Value
public import proofs.«01_k».proof.Proof.Tile
public import Idealize.ShloMosaic.Lib.Pointwise
public import Idealize.ShloMosaic.Lib.Pipeline.ValueKit.Tiles
public import Idealize.ShloMosaic.Lib.WritesUnit
public import Idealize.ShloMosaic.Lib.Pipeline.ReadBack
public import Idealize.ShloMosaic.Lib.VecWindow

@[expose] public section

noncomputable section

namespace Cert.Qn

open Cert.KQnIdeal Cert.KQnIdeal.Gen Idealize.ShloMosaic Idealize.ShloMosaic.TcCoe Idealize.SL.Sem

variable {F : FTy → Type} [FloatOps F]

section Store

variable {sig' : RefSig} {κ : Kind} {sp : Space} {e : EltTy}

/-- Four stores of 128 columns, read back. -/
theorem cols4 (v : View sig' κ sp S384x512 e) (f : v.ty.Contents (Elt F)) (w0 w1 w2 w3 : Vec F S384x128 e) (b : Fin 4) (r : Fin 384) (x : Fin 128) :
    v.read (Elt F) (v.writes (Elt F) f [⟨Rect.unit ![0, 384] ![384, 128] inb_S384x512_S384x128_0_384, w3⟩,
      ⟨Rect.unit ![0, 256] ![384, 128] inb_S384x512_S384x128_0_256, w2⟩, ⟨Rect.unit ![0, 128] ![384, 128] inb_S384x512_S384x128_0_128, w1⟩,
      ⟨Rect.unit ![0, 0] ![384, 128] inb_S384x512_S384x128_0_0, w0⟩]) (ix2 r ⟨128 * b.val + x.val, by omega⟩)
      = (match b with | 0 => w0 | 1 => w1 | 2 => w2 | 3 => w3) (ix2 r x) := by
  have hx := x.isLt
  match b with
  | ⟨0, _⟩ =>
    refine (View.read_writes_cons_unit_of_not_mem v f inb_S384x512_S384x128_0_384 w3 _ _ rfl (1 : Fin 2) (Or.inl (show 128 * 0 + x.val < 384 by omega))).trans ?_
    refine (View.read_writes_cons_unit_of_not_mem v f inb_S384x512_S384x128_0_256 w2 _ _ rfl (1 : Fin 2) (Or.inl (show 128 * 0 + x.val < 256 by omega))).trans ?_
    refine (View.read_writes_cons_unit_of_not_mem v f inb_S384x512_S384x128_0_128 w1 _ _ rfl (1 : Fin 2) (Or.inl (show 128 * 0 + x.val < 128 by omega))).trans ?_
    exact View.read_writes_cons_unit_of_mem v f inb_S384x512_S384x128_0_0 w0 _ _ (ix2 r x : S384x128.Idx) rfl (fun a => by
      match a with
      | ⟨0, _⟩ => exact (Nat.zero_add _).symm
      | ⟨1, _⟩ => exact (show 128 * 0 + x.val = 0 + x.val by omega))
  | ⟨1, _⟩ =>
    refine (View.read_writes_cons_unit_of_not_mem v f inb_S384x512_S384x128_0_384 w3 _ _ rfl (1 : Fin 2) (Or.inl (show 128 * 1 + x.val < 384 by omega))).trans ?_
    refine (View.read_writes_cons_unit_of_not_mem v f inb_S384x512_S384x128_0_256 w2 _ _ rfl (1 : Fin 2) (Or.inl (show 128 * 1 + x.val < 256 by omega))).trans ?_
    exact View.read_writes_cons_unit_of_mem v f inb_S384x512_S384x128_0_128 w1 _ _ (ix2 r x : S384x128.Idx) rfl (fun a => by
      match a with
      | ⟨0, _⟩ => exact (Nat.zero_add _).symm
      | ⟨1, _⟩ => rfl)
  | ⟨2, _⟩ =>
    refine (View.read_writes_cons_unit_of_not_mem v f inb_S384x512_S384x128_0_384 w3 _ _ rfl (1 : Fin 2) (Or.inl (show 128 * 2 + x.val < 384 by omega))).trans ?_
    exact View.read_writes_cons_unit_of_mem v f inb_S384x512_S384x128_0_256 w2 _ _ (ix2 r x : S384x128.Idx) rfl (fun a => by
      match a with
      | ⟨0, _⟩ => exact (Nat.zero_add _).symm
      | ⟨1, _⟩ => rfl)
  | ⟨3, _⟩ =>
    exact View.read_writes_cons_unit_of_mem v f inb_S384x512_S384x128_0_384 w3 _ _ (ix2 r x : S384x128.Idx) rfl (fun a => by
      match a with
      | ⟨0, _⟩ => exact (Nat.zero_add _).symm
      | ⟨1, _⟩ => rfl)

/-- Four stores of 128 rows, read back. -/
theorem rows4 (v : View sig' κ sp S512x384 e) (f : v.ty.Contents (Elt F)) (w0 w1 w2 w3 : Vec F S128x384 e) (b : Fin 4) (x : Fin 128) (r : Fin 384) :
    v.read (Elt F) (v.writes (Elt F) f [⟨Rect.unit ![384, 0] ![128, 384] inb_S512x384_S128x384_384_0, w3⟩,
      ⟨Rect.unit ![256, 0] ![128, 384] inb_S512x384_S128x384_256_0, w2⟩, ⟨Rect.unit ![128, 0] ![128, 384] inb_S512x384_S128x384_128_0, w1⟩,
      ⟨Rect.unit ![0, 0] ![128, 384] inb_S512x384_S128x384_0_0, w0⟩]) (ix2 ⟨128 * b.val + x.val, by omega⟩ r)
      = (match b with | 0 => w0 | 1 => w1 | 2 => w2 | 3 => w3) (ix2 x r) := by
  have hx := x.isLt
  match b with
  | ⟨0, _⟩ =>
    refine (View.read_writes_cons_unit_of_not_mem v f inb_S512x384_S128x384_384_0 w3 _ _ rfl (0 : Fin 2) (Or.inl (show 128 * 0 + x.val < 384 by omega))).trans ?_
    refine (View.read_writes_cons_unit_of_not_mem v f inb_S512x384_S128x384_256_0 w2 _ _ rfl (0 : Fin 2) (Or.inl (show 128 * 0 + x.val < 256 by omega))).trans ?_
    refine (View.read_writes_cons_unit_of_not_mem v f inb_S512x384_S128x384_128_0 w1 _ _ rfl (0 : Fin 2) (Or.inl (show 128 * 0 + x.val < 128 by omega))).trans ?_
    exact View.read_writes_cons_unit_of_mem v f inb_S512x384_S128x384_0_0 w0 _ _ (ix2 x r : S128x384.Idx) rfl (fun a => by
      match a with
      | ⟨0, _⟩ => exact (show 128 * 0 + x.val = 0 + x.val by omega)
      | ⟨1, _⟩ => exact (Nat.zero_add _).symm)
  | ⟨1, _⟩ =>
    refine (View.read_writes_cons_unit_of_not_mem v f inb_S512x384_S128x384_384_0 w3 _ _ rfl (0 : Fin 2) (Or.inl (show 128 * 1 + x.val < 384 by omega))).trans ?_
    refine (View.read_writes_cons_unit_of_not_mem v f inb_S512x384_S128x384_256_0 w2 _ _ rfl (0 : Fin 2) (Or.inl (show 128 * 1 + x.val < 256 by omega))).trans ?_
    exact View.read_writes_cons_unit_of_mem v f inb_S512x384_S128x384_128_0 w1 _ _ (ix2 x r : S128x384.Idx) rfl (fun a => by
      match a with
      | ⟨0, _⟩ => rfl
      | ⟨1, _⟩ => exact (Nat.zero_add _).symm)
  | ⟨2, _⟩ =>
    refine (View.read_writes_cons_unit_of_not_mem v f inb_S512x384_S128x384_384_0 w3 _ _ rfl (0 : Fin 2) (Or.inl (show 128 * 2 + x.val < 384 by omega))).trans ?_
    exact View.read_writes_cons_unit_of_mem v f inb_S512x384_S128x384_256_0 w2 _ _ (ix2 x r : S128x384.Idx) rfl (fun a => by
      match a with
      | ⟨0, _⟩ => rfl
      | ⟨1, _⟩ => exact (Nat.zero_add _).symm)
  | ⟨3, _⟩ =>
    exact View.read_writes_cons_unit_of_mem v f inb_S512x384_S128x384_384_0 w3 _ _ (ix2 x r : S128x384.Idx) rfl (fun a => by
      match a with
      | ⟨0, _⟩ => rfl
      | ⟨1, _⟩ => exact (Nat.zero_add _).symm)

/-- Two stores of one slab, read back. -/
theorem slabs2 (v : View sig' κ sp S2x384x128 e) (f : v.ty.Contents (Elt F)) (w0 w1 : Vec F S1x384x128 e) (b : Fin 2) (r : Fin 384) (x : Fin 128) :
    v.read (Elt F) (v.writes (Elt F) f [⟨Rect.unit ![1, 0, 0] ![1, 384, 128] inb_S2x384x128_S1x384x128_1_0_0, w1⟩,
      ⟨Rect.unit ![0, 0, 0] ![1, 384, 128] inb_S2x384x128_S1x384x128_0_0_0, w0⟩]) (ix3 b r x)
      = (match b with | 0 => w0 | 1 => w1) (ix3 0 r x) := by
  match b with
  | ⟨0, _⟩ =>
    refine (View.read_writes_cons_unit_of_not_mem v f inb_S2x384x128_S1x384x128_1_0_0 w1 _ _ rfl (0 : Fin 3) (Or.inl (show 0 < 1 by omega))).trans ?_
    exact View.read_writes_cons_unit_of_mem v f inb_S2x384x128_S1x384x128_0_0_0 w0 _ _ (ix3 0 r x : S1x384x128.Idx) rfl (fun a => by
      match a with
      | ⟨0, _⟩ => rfl
      | ⟨1, _⟩ => exact (Nat.zero_add _).symm
      | ⟨2, _⟩ => exact (Nat.zero_add _).symm)
  | ⟨1, _⟩ =>
    exact View.read_writes_cons_unit_of_mem v f inb_S2x384x128_S1x384x128_1_0_0 w1 _ _ (ix3 0 r x : S1x384x128.Idx) rfl (fun a => by
      match a with
      | ⟨0, _⟩ => rfl
      | ⟨1, _⟩ => exact (Nat.zero_add _).symm
      | ⟨2, _⟩ => exact (Nat.zero_add _).symm)

end Store

/-- The matrix of a head's lanes: one where the row's and the column's head agree. -/
def bd : FVec F S128x128 .f32 := k0_pay5 k0_pay1 k0_pay2 k0_pay3 k0_pay4

/-- Two heads' lanes, each over its own root mean square, times the gain. -/
def hn (x : Vec F S384x128 .f32) (g : Vec F S1x128 .f32) : FVec F S384x128 .f32 := k0_pay39 bd x g

/-- The same times an eighth: a query. -/
def qn (x : Vec F S384x128 .f32) (g : Vec F S1x128 .f32) : FVec F S384x128 .f32 := k0_pay13 bd x g

/-- A chunk of 128 columns of a block. -/
def colc (x : Vec F S384x512 .f32) (b : Fin 4) : Vec F S384x128 .f32 :=
  match b with
  | 0 => View.ld x (Rect.unit ![0, 0] ![384, 128] inb_S384x512_S384x128_0_0)
  | 1 => View.ld x (Rect.unit ![0, 128] ![384, 128] inb_S384x512_S384x128_0_128)
  | 2 => View.ld x (Rect.unit ![0, 256] ![384, 128] inb_S384x512_S384x128_0_256)
  | 3 => View.ld x (Rect.unit ![0, 384] ![384, 128] inb_S384x512_S384x128_0_384)

/-- The same of a row of gains. -/
def gaic (g : Vec F S1x512 .f32) (b : Fin 4) : Vec F S1x128 .f32 :=
  match b with
  | 0 => View.ld g (Rect.unit ![0, 0] ![1, 128] inb_S1x512_S1x128_0_0)
  | 1 => View.ld g (Rect.unit ![0, 128] ![1, 128] inb_S1x512_S1x128_0_128)
  | 2 => View.ld g (Rect.unit ![0, 256] ![1, 128] inb_S1x512_S1x128_0_256)
  | 3 => View.ld g (Rect.unit ![0, 384] ![1, 128] inb_S1x512_S1x128_0_384)

/-- A chunk of queries as stored, of keys, and of queries transposed. -/
def qv (x : Vec F S384x128 .f32) (g : Vec F S1x128 .f32) : FVec F S384x128 .bf16 := k0_pay14 bd x g
def kv (x : Vec F S384x128 .f32) (g : Vec F S1x128 .f32) : FVec F S384x128 .bf16 := k0_pay27 bd x g
def tv (x : Vec F S384x128 .f32) (g : Vec F S1x128 .f32) : FVec F S128x384 .bf16 := k0_pay15 bd x g

/-- The lanes' heads, as the payloads name them. -/
theorem word1 : select (andi (cmpi .ne (subi (extui 32 (cmpi .sgt (iota .tc S128x128 32 [0] iota_S128x128_d0_w32) (broadcast S128x128 0#32)) natLt_1_32) (extui 32 (cmpi .slt (iota .tc S128x128 32 [0] iota_S128x128_d0_w32) (broadcast S128x128 0#32)) natLt_1_32)) (broadcast S128x128 1#32))
    (cmpi .ne (remsi (iota .tc S128x128 32 [0] iota_S128x128_d0_w32) (broadcast S128x128 64#32)) (broadcast S128x128 0#32)))
    (subi (divsi (iota .tc S128x128 32 [0] iota_S128x128_d0_w32) (broadcast S128x128 64#32)) (broadcast S128x128 1#32)) (divsi (iota .tc S128x128 32 [0] iota_S128x128_d0_w32) (broadcast S128x128 64#32)) = k0_pay1 := rfl
theorem word2 : divsi (iota .tc S128x128 32 [1] iota_S128x128_d1_w32) (broadcast S128x128 64#32) = k0_pay2 := rfl
theorem word3 : cmpi .ne (subi (extui 32 (cmpi .sgt (iota .tc S128x128 32 [1] iota_S128x128_d1_w32) (broadcast S128x128 0#32)) natLt_1_32) (extui 32 (cmpi .slt (iota .tc S128x128 32 [1] iota_S128x128_d1_w32) (broadcast S128x128 0#32)) natLt_1_32)) (broadcast S128x128 1#32) = k0_pay3 := rfl
theorem word4 : cmpi .ne (remsi (iota .tc S128x128 32 [1] iota_S128x128_d1_w32) (broadcast S128x128 64#32)) (broadcast S128x128 0#32) = k0_pay4 := rfl
theorem word6 : cmpi .slt (iota .tc S1x128 32 [1] iota_S1x128_d1_w32) (broadcast S1x128 64#32) = k0_pay6 := rfl
theorem bd_fold : (k0_pay5 k0_pay1 k0_pay2 k0_pay3 k0_pay4 : FVec F S128x128 .f32) = bd := rfl

theorem pay8_eq (x : Vec F S384x128 .f32) (g : Vec F S1x128 .f32) : k0_pay8 k0_pay1 k0_pay2 k0_pay3 k0_pay4 x g = qv x g := rfl
theorem pay25_eq (x : Vec F S384x128 .f32) (g : Vec F S1x128 .f32) : k0_pay25 x g (k0_pay21 x) (k0_pay22 x) (k0_pay23 bd) = qv x g := rfl
theorem pay31_eq (x : Vec F S384x128 .f32) (g : Vec F S1x128 .f32) : k0_pay31 x g (k0_pay29 bd x) = qv x g := rfl
theorem pay9_eq (x : Vec F S384x128 .f32) (g : Vec F S1x128 .f32) : k0_pay9 k0_pay1 k0_pay2 k0_pay3 k0_pay4 x g = tv x g := rfl
theorem pay26_eq (x : Vec F S384x128 .f32) (g : Vec F S1x128 .f32) : k0_pay26 x g (k0_pay21 x) (k0_pay22 x) (k0_pay23 bd) = tv x g := rfl
theorem pay32_eq (x : Vec F S384x128 .f32) (g : Vec F S1x128 .f32) : k0_pay32 x g (k0_pay29 bd x) = tv x g := rfl
theorem pay11_eq (x : Vec F S384x128 .f32) (g : Vec F S1x128 .f32) : k0_pay11 bd x g (k0_pay10 x) = kv x g := rfl
theorem pay18_eq (x : Vec F S384x128 .f32) (g : Vec F S1x128 .f32) : k0_pay18 x g (k0_pay16 bd x) k0_pay17 = kv x g := rfl
theorem pay33_eq (x : Vec F S384x128 .f32) (g : Vec F S1x128 .f32) : k0_pay33 bd x g = kv x g := rfl
theorem pay12_eq (x : Vec F S384x128 .f32) (g : Vec F S1x128 .f32) : k0_pay12 bd x g = qv x g := rfl
theorem pay19_eq (x : Vec F S384x128 .f32) (g : Vec F S1x128 .f32) : k0_pay19 bd x g = qv x g := rfl
theorem pay28_eq (x : Vec F S384x128 .f32) (g : Vec F S1x128 .f32) : k0_pay28 bd x g = qv x g := rfl
theorem pay37_eq (x : Vec F S384x128 .f32) (g : Vec F S1x128 .f32) : k0_pay37 bd x g (k0_pay35 x) (k0_pay36 x) = qv x g := rfl

variable (m : (ℓ : Loc nD τ sig) → Buf (Elt F) ℓ)

/-- The queries of the decayed attention. -/
theorem outs_12 (c : Dev nD) (t : Fin cfg0.N) (b : Fin 4) (r : Fin 384) (x : Fin 128) :
    (outsAt0 m c t.val t.isLt).1 (ix2 r ⟨128 * b.val + x.val, by omega⟩) = qv (colc (X0_0 m c t) b) (gaic (iblk m c 7 t) b) (ix2 r x) := by
  by_cases h0 : t.val % 11 = 0
  on_goal 1 => rw [outsAt0_A m c t h0]; unfold out0_A_12; dsimp only; unfold kernelRun0_A
  on_goal 2 => rw [outsAt0_B m c t h0]; unfold out0_B_12; dsimp only; unfold kernelRun0_B
  all_goals
    dsimp only
    sl_unfold_words
    simp only [View.readAt_eq_ld, Memref.IsWhole.read_unread, word1, word2, word3, word4, word6, bd_fold, pay8_eq, pay25_eq, pay31_eq]
    refine (cols4 VO0_12 VO0_12.junk _ _ _ _ b r x).trans ?_
    match b with
    | ⟨0, _⟩ => rfl
    | ⟨1, _⟩ => rfl
    | ⟨2, _⟩ => rfl
    | ⟨3, _⟩ => rfl

/-- Its keys. -/
theorem outs_13 (c : Dev nD) (t : Fin cfg0.N) (b : Fin 4) (r : Fin 384) (x : Fin 128) :
    (outsAt0 m c t.val t.isLt).2.1 (ix2 r ⟨128 * b.val + x.val, by omega⟩) = kv (colc (X0_1 m c t) b) (gaic (iblk m c 8 t) b) (ix2 r x) := by
  by_cases h0 : t.val % 11 = 0
  on_goal 1 => rw [outsAt0_A m c t h0]; unfold out0_A_13; dsimp only; unfold kernelRun0_A
  on_goal 2 => rw [outsAt0_B m c t h0]; unfold out0_B_13; dsimp only; unfold kernelRun0_B
  all_goals
    dsimp only
    sl_unfold_words
    simp only [View.readAt_eq_ld, Memref.IsWhole.read_unread, word1, word2, word3, word4, word6, bd_fold, pay11_eq, pay18_eq, pay33_eq]
    refine (cols4 VO0_13 VO0_13.junk _ _ _ _ b r x).trans ?_
    match b with
    | ⟨0, _⟩ => rfl
    | ⟨1, _⟩ => rfl
    | ⟨2, _⟩ => rfl
    | ⟨3, _⟩ => rfl

/-- The sliding window's queries. -/
theorem outs_15 (c : Dev nD) (t : Fin cfg0.N) (b : Fin 4) (r : Fin 384) (x : Fin 128) :
    (outsAt0 m c t.val t.isLt).2.2.2.1 (ix2 r ⟨128 * b.val + x.val, by omega⟩) = qv (colc (X0_3 m c t) b) (gaic (iblk m c 9 t) b) (ix2 r x) := by
  by_cases h0 : t.val % 11 = 0
  on_goal 1 => rw [outsAt0_A m c t h0]; unfold out0_A_15; dsimp only; unfold kernelRun0_A
  on_goal 2 => rw [outsAt0_B m c t h0]; unfold out0_B_15; dsimp only; unfold kernelRun0_B
  all_goals
    dsimp only
    sl_unfold_words
    simp only [View.readAt_eq_ld, Memref.IsWhole.read_unread, word1, word2, word3, word4, word6, bd_fold, pay12_eq, pay19_eq, pay28_eq, pay37_eq]
    refine (cols4 VO0_15 VO0_15.junk _ _ _ _ b r x).trans ?_
    match b with
    | ⟨0, _⟩ => rfl
    | ⟨1, _⟩ => rfl
    | ⟨2, _⟩ => rfl
    | ⟨3, _⟩ => rfl

/-- The decayed attention's queries, transposed. -/
theorem outs_20 (c : Dev nD) (t : Fin cfg0.N) (b : Fin 4) (r : Fin 384) (x : Fin 128) :
    (outsAt0 m c t.val t.isLt).2.2.2.2.2.2.2.2.1 (ix2 ⟨128 * b.val + x.val, by omega⟩ r) = tv (colc (X0_0 m c t) b) (gaic (iblk m c 7 t) b) (ix2 x r) := by
  by_cases h0 : t.val % 11 = 0
  on_goal 1 => rw [outsAt0_A m c t h0]; unfold out0_A_20; dsimp only; unfold kernelRun0_A
  on_goal 2 => rw [outsAt0_B m c t h0]; unfold out0_B_20; dsimp only; unfold kernelRun0_B
  all_goals
    dsimp only
    sl_unfold_words
    simp only [View.readAt_eq_ld, Memref.IsWhole.read_unread, word1, word2, word3, word4, word6, bd_fold, pay9_eq, pay26_eq, pay32_eq]
    refine (rows4 VO0_20 VO0_20.junk _ _ _ _ b x r).trans ?_
    match b with
    | ⟨0, _⟩ => rfl
    | ⟨1, _⟩ => rfl
    | ⟨2, _⟩ => rfl
    | ⟨3, _⟩ => rfl

/-- The values of the decayed attention. -/
theorem outs_14 (c : Dev nD) (t : Fin cfg0.N) : (outsAt0 m c t.val t.isLt).2.2.1 = k0_pay38 (X0_2 m c t) := by
  by_cases h0 : t.val % 11 = 0
  on_goal 1 =>
    rw [outsAt0_A m c t h0]; unfold out0_A_14; dsimp only
    rw [View.read_writes_eq_canon _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_A
  on_goal 2 =>
    rw [outsAt0_B m c t h0]; unfold out0_B_14; dsimp only
    rw [View.read_writes_eq_canon _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_B
  all_goals
    dsimp only
    sl_unfold_words
    simp only [View.readAt_eq_ld, Memref.IsWhole.read_unread]
    rw [View.canon_unit_zero Cert.Tile.zeros2, View.ld_unit_zero (S := S384x512) Cert.Tile.zeros2]

/-- The sliding window's keys, a pair's slab for each of its two heads. -/
theorem outs_16 (c : Dev nD) (t : Fin cfg0.N) (b : Fin 2) (r : Fin 384) (x : Fin 128) :
    (outsAt0 m c t.val t.isLt).2.2.2.2.1 (ix3 b r x)
      = (match b with | 0 => k0_pay41 k0_pay6 (hn (iblk m c 4 t) (iblk m c 10 t)) 64#32 | 1 => k0_pay42 k0_pay6 (hn (iblk m c 4 t) (iblk m c 10 t)) 64#32) (ix3 0 r x) := by
  by_cases h0 : t.val % 11 = 0
  on_goal 1 => rw [outsAt0_A m c t h0]; unfold out0_A_16; dsimp only; unfold kernelRun0_A
  on_goal 2 => rw [outsAt0_B m c t h0]; unfold out0_B_16; dsimp only; unfold kernelRun0_B
  all_goals
    dsimp only
    sl_unfold_words
    simp only [View.readAt_eq_ld, Memref.IsWhole.read_unread, word1, word2, word3, word4, word6, bd_fold,
      View.ld_unit_zero (S := S384x128) Cert.Tile.zeros2, View.ld_unit_zero (S := S1x128) Cert.Tile.zeros2]
    exact slabs2 VO0_16 VO0_16.junk _ _ b r x

/-- Its values, the same. -/
theorem outs_17 (c : Dev nD) (t : Fin cfg0.N) (b : Fin 2) (r : Fin 384) (x : Fin 128) :
    (outsAt0 m c t.val t.isLt).2.2.2.2.2.1 (ix3 b r x)
      = (match b with | 0 => k0_pay44 k0_pay6 (iblk m c 5 t) | 1 => k0_pay45 k0_pay6 (iblk m c 5 t)) (ix3 0 r x) := by
  by_cases h0 : t.val % 11 = 0
  on_goal 1 => rw [outsAt0_A m c t h0]; unfold out0_A_17; dsimp only; unfold kernelRun0_A
  on_goal 2 => rw [outsAt0_B m c t h0]; unfold out0_B_17; dsimp only; unfold kernelRun0_B
  all_goals
    dsimp only
    sl_unfold_words
    simp only [View.readAt_eq_ld, Memref.IsWhole.read_unread, word6, View.ld_unit_zero (S := S384x128) Cert.Tile.zeros2]
    exact slabs2 VO0_17 VO0_17.junk _ _ b r x

/-- The forget gates' pre-activations at a point. -/
def zt (c : Dev nD) (t : Fin cfg0.N) : FVec F S384x128 .f32 := k0_pay46 (iblk m c 6 t) (iblk m c 11 t)

/-- The first row of the carried scratch. -/
def row0 (s : Vec F S8x128 .f32) : Vec F S1x128 .f32 := View.ld s (Rect.unit ![0, 0] ![1, 128] inb_S8x128_S1x128_0_0)

/-- The carried sums before a point. -/
def crow (c : Dev nD) (t : Fin cfg0.N) : Vec F S1x128 .f32 :=
  if t.val % 11 = 0 then row0 k0_pay48 else row0 (outsAt0 m c (t.val - 1) (Nat.lt_of_le_of_lt (Nat.sub_le t.val 1) t.isLt)).2.2.2.2.2.2.2.2.2

theorem readCov_zero :
    (View.whole cc0_scratch0).readCov [(⟨Rect.unit ![0, 0] ![8, 128] inb_S8x128_S8x128_0_0, k0_pay48⟩ : View.Piece (Elt F) S8x128 .f32)]
      (Rect.unit ![0, 0] ![1, 128] inb_S8x128_S1x128_0_0).toLoadRect = row0 (F := F) k0_pay48 := by
  have hc : ∀ y : S8x128.Idx, ∃ p ∈ [(⟨Rect.unit ![0, 0] ![8, 128] inb_S8x128_S8x128_0_0, k0_pay48⟩ : View.Piece (Elt F) S8x128 .f32)], y ∈ p.1.set :=
    fun y => ⟨_, List.mem_cons_self, View.mem_set_unit_zero (S := S8x128) Cert.Tile.zeros2 inb_S8x128_S8x128_0_0 y⟩
  have e : View.canon [(⟨Rect.unit ![0, 0] ![8, 128] inb_S8x128_S8x128_0_0, k0_pay48⟩ : View.Piece (Elt F) S8x128 .f32)] = k0_pay48 :=
    View.canon_unit_zero (S := S8x128) Cert.Tile.zeros2 inb_S8x128_S8x128_0_0 _
  exact (View.readCov_eq_canon_ld (View.whole cc0_scratch0) _ _ hc).trans (congrArg row0 e)

/-- The decay's block. -/
theorem outs_18 (c : Dev nD) (t : Fin cfg0.N) :
    (outsAt0 m c t.val t.isLt).2.2.2.2.2.2.1 = k0_pay49 (iota .tc S1x128 32 [1] iota_S1x128_d1_w32) (zt m c t) k0_pay47 (crow m c t) := by
  by_cases h0 : t.val % 11 = 0
  on_goal 1 =>
    rw [outsAt0_A m c t h0, crow, if_pos h0]; unfold out0_A_18; dsimp only
    rw [View.read_writes_eq_canon _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_A
  on_goal 2 =>
    rw [outsAt0_B m c t h0, crow, if_neg h0]; unfold out0_B_18; dsimp only
    rw [View.read_writes_eq_canon _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_B
  all_goals
    dsimp only
    sl_unfold_words
    simp only [View.readAt_eq_ld, Memref.IsWhole.read_unread, View.ld_unit_zero (S := S384x128) Cert.Tile.zeros2, View.ld_unit_zero (S := S1x128) Cert.Tile.zeros2, read_unread_whole]
    rw [View.canon_unit_zero Cert.Tile.zeros2]
  · rw [readCov_zero]; rfl
  · rfl

/-- Its first eight columns, as rows. -/
theorem outs_19 (c : Dev nD) (t : Fin cfg0.N) :
    (outsAt0 m c t.val t.isLt).2.2.2.2.2.2.2.1 = k0_pay51 (iota .tc S1x128 32 [1] iota_S1x128_d1_w32) (zt m c t) k0_pay47 (crow m c t) := by
  by_cases h0 : t.val % 11 = 0
  on_goal 1 =>
    rw [outsAt0_A m c t h0, crow, if_pos h0]; unfold out0_A_19; dsimp only
    rw [View.read_writes_eq_canon _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_A
  on_goal 2 =>
    rw [outsAt0_B m c t h0, crow, if_neg h0]; unfold out0_B_19; dsimp only
    rw [View.read_writes_eq_canon _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _)]
    unfold kernelRun0_B
  all_goals
    dsimp only
    sl_unfold_words
    simp only [View.readAt_eq_ld, Memref.IsWhole.read_unread, View.ld_unit_zero (S := S384x128) Cert.Tile.zeros2, View.ld_unit_zero (S := S1x128) Cert.Tile.zeros2, read_unread_whole]
    rw [View.canon_unit_zero Cert.Tile.zeros2]
  · rw [readCov_zero]; rfl
  · rfl

/-- The carried sums after a point: the last row of its block. -/
theorem scr_row (c : Dev nD) (t : Fin cfg0.N) :
    row0 (outsAt0 m c t.val t.isLt).2.2.2.2.2.2.2.2.2 = k0_pay50 (iota .tc S1x128 32 [1] iota_S1x128_d1_w32) (zt m c t) k0_pay47 (crow m c t) := by
  funext i
  have hi : ∀ (s : Vec F S8x128 .f32), row0 s i = s (ix2 0 (i 1)) := fun s => congrArg s (funext fun a => Fin.ext (by
    match a with
    | ⟨0, _⟩ => exact (show 0 + 1 * (i 0).val = 0 by have := (i 0).isLt; have h : (i 0).val < 1 := this; omega)
    | ⟨1, _⟩ => exact (show 0 + 1 * (i 1).val = (i 1).val by omega)))
  have hm : ∀ a : Fin 2, ((ix2 0 (i 1) : S8x128.Idx) a).val = (![0, 0] : Fin 2 → ℕ) a + (i a).val := fun a => by
    match a with
    | ⟨0, _⟩ => exact (show 0 = 0 + (i 0).val by have := (i 0).isLt; have h : (i 0).val < 1 := this; omega)
    | ⟨1, _⟩ => exact (Nat.zero_add _).symm
  rw [hi]
  by_cases h0 : t.val % 11 = 0
  on_goal 1 => rw [outsAt0_A m c t h0, crow, if_pos h0]; unfold sout0_A_0; dsimp only; unfold kernelRun0_A
  on_goal 2 => rw [outsAt0_B m c t h0, crow, if_neg h0]; unfold sout0_B_0; dsimp only; unfold kernelRun0_B
  all_goals
    dsimp only
    sl_unfold_words
    simp only [View.readAt_eq_ld, Memref.IsWhole.read_unread, View.ld_unit_zero (S := S384x128) Cert.Tile.zeros2, View.ld_unit_zero (S := S1x128) Cert.Tile.zeros2, read_unread_whole]
  · rw [readCov_zero]
    refine (View.read_writes_cons_unit_of_mem VS0_0 VS0_0.junk inb_S8x128_S1x128_0_0 _ _ (ix2 0 (i 1) : S8x128.Idx) (i : S1x128.Idx) rfl hm).trans ?_
    rfl
  · refine (View.read_writes_cons_unit_of_mem VS0_0 _ inb_S8x128_S1x128_0_0 _ _ (ix2 0 (i 1) : S8x128.Idx) (i : S1x128.Idx) rfl hm).trans ?_
    rfl

end Cert.Qn

end
-- ==== Proof.Qn.Heads.lean ====
/-
  The head norms' value: two heads' lanes, each over the root of its own head's mean square.
-/
module

public import proofs.«01_k».proof.Proof.Qn.Blocks
public import proofs.«01_k».proof.Proof.Real

@[expose] public section

noncomputable section

namespace Cert.Qn

open Cert.KQnIdeal Cert.KQnIdeal.Gen Idealize.ShloMosaic Idealize.ShloMosaic.TcCoe Idealize.SL.Sem

theorem pay1_at (i j : Fin 128) : k0_pay1 (ix2 i j) = BitVec.ofNat 32 (i.val / 64) := by
  unfold k0_pay1
  pointwise
  revert i
  decide +kernel

theorem sel_at (i j : Fin 128) :
    Scalar.select (IntOp.andi (k0_pay3 (ix2 i j)) (k0_pay4 (ix2 i j))) (IntOp.subi (k0_pay2 (ix2 i j)) 1#32)
      (k0_pay2 (ix2 i j)) = BitVec.ofNat 32 (j.val / 64) := by
  unfold k0_pay2 k0_pay3 k0_pay4
  unfold_payloads
  pointwise
  revert j
  decide +kernel

theorem one_at (a b : Nat) (ha : a < 2) (hb : b < 2) :
    FloatOps.sitofp (F := Ideal) FTy.f32 (BitVec.setWidth 32 (IntOp.cmpi CmpIPredicate.eq (BitVec.ofNat 32 a) (BitVec.ofNat 32 b)))
      = if a = b then (1 : EReal) else 0 := by
  have e : BitVec.setWidth 32 (IntOp.cmpi CmpIPredicate.eq (BitVec.ofNat 32 a) (BitVec.ofNat 32 b))
      = if a = b then 1#32 else 0#32 := by
    interval_cases a <;> interval_cases b <;> decide +kernel
  rw [e]
  split
  · show (((1#32 : BitVec 32).toInt : ℝ) : EReal) = 1
    norm_num
  · show (((0#32 : BitVec 32).toInt : ℝ) : EReal) = 0
    norm_num

/-- The mask of the sums: 1 where the two lanes lie in one head, else 0. -/
theorem bd_apply (i j : Fin 128) : bd (F := Ideal) (ix2 i j) = if i.val / 64 = j.val / 64 then (1 : EReal) else 0 := by
  unfold bd k0_pay5
  pointwise
  rw [pay1_at, sel_at]
  exact one_at _ _ (by omega) (by omega)

/-- Lane `k` of the head lane `l` lies in. -/
def mate (l : Fin 128) (k : Fin 64) : Fin 128 := ⟨64 * (l.val / 64) + k.val, by omega⟩

theorem sum_mate (f : Fin 128 → EReal) (l : Fin 128) :
    ∑ k, f k * bd (F := Ideal) (ix2 k l) = ∑ k, f (mate l k) := by
  simp only [bd_apply, mul_ite, mul_one, mul_zero]
  rw [← Finset.sum_filter]
  symm
  refine Finset.sum_bij (fun k _ => mate l k) ?_ ?_ ?_ ?_
  · intro k _
    simp only [Finset.mem_filter, Finset.mem_univ, true_and, mate]
    omega
  · intro a _ b _ h
    have := congrArg Fin.val h
    simp only [mate] at this
    exact Fin.ext (by omega)
  · intro b hb
    simp only [Finset.mem_filter, Finset.mem_univ, true_and] at hb
    exact ⟨⟨b.val % 64, by omega⟩, Finset.mem_univ _, Fin.ext (by simp only [mate]; omega)⟩
  · intro a _
    rfl

theorem r64 : Ideal.ofBits .f32 1015021568#32 = (((64 : ℝ)⁻¹ : ℝ) : EReal) := by
  simp [Ideal.ofBits, Ideal.ieee, -EReal.coe_mul]; norm_num

theorem b64 : Ideal.ofBits .f32 0x42800000#32 = ((64 : ℝ) : EReal) := by
  simp [Ideal.ofBits, Ideal.ieee, -EReal.coe_mul]; norm_num

theorem b1 : Ideal.ofBits .f32 0x3F800000#32 = (1 : EReal) := by
  simp [Ideal.ofBits, Ideal.ieee, -EReal.coe_mul]; norm_num

theorem div64 (y : EReal) : y * (((64 : ℝ)⁻¹ : ℝ) : EReal) = Ideal.div y (Ideal.ofBits .f32 0x42800000#32) := by
  rw [b64, Ideal.div, if_neg (by norm_num), EReal.coe_inv]

/-- A number over the root of its head's mean square. -/
def nrm (x : EReal) (f : Fin 64 → EReal) : EReal :=
  x * Ideal.rsqrt (Ideal.div (∑ k, f k * f k) (Ideal.ofBits .f32 0x42800000#32) + Ideal.ofBits .f32 897988541#32)

theorem rest0 {a : EReal} (h : Cert.Re.Fin' a) : a * a - a * a = 0 := by
  obtain ⟨v, rfl⟩ := h
  rw [← EReal.coe_mul, ← EReal.coe_sub, sub_self, EReal.coe_zero]

theorem hn_apply (x : Vec Ideal S384x128 .f32) (g : Vec Ideal S1x128 .f32) (r : Fin 384) (l : Fin 128)
    (h : ∀ k, Cert.Re.Fin' (x (ix2 r k))) :
    hn x g (ix2 r l) = nrm (x (ix2 r l)) (fun k => x (ix2 r (mate l k))) * g (ix2 0 l) := by
  unfold hn k0_pay39
  pointwise
  rw [sum_mate (fun k => x (ix2 r k) * x (ix2 r k)) l]
  simp only [rest0 (h _), zero_mul, Finset.sum_const_zero, add_zero]
  rw [r64, div64]
  rfl

theorem qn_apply (x : Vec Ideal S384x128 .f32) (g : Vec Ideal S1x128 .f32) (r : Fin 384) (l : Fin 128)
    (h : ∀ k, Cert.Re.Fin' (x (ix2 r k))) :
    qn x g (ix2 r l) = nrm (x (ix2 r l)) (fun k => x (ix2 r (mate l k))) * g (ix2 0 l) * Ideal.ofBits .f32 0x3E000000#32 := by
  unfold qn k0_pay13
  pointwise
  rw [sum_mate (fun k => x (ix2 r k) * x (ix2 r k)) l]
  simp only [rest0 (h _), zero_mul, Finset.sum_const_zero, add_zero]
  rw [r64, div64]
  rfl

theorem qv_apply (x : Vec Ideal S384x128 .f32) (g : Vec Ideal S1x128 .f32) (r : Fin 384) (l : Fin 128)
    (h : ∀ k, Cert.Re.Fin' (x (ix2 r k))) :
    qv x g (ix2 r l) = nrm (x (ix2 r l)) (fun k => x (ix2 r (mate l k))) * g (ix2 0 l) * Ideal.ofBits .f32 0x3E000000#32 := by
  rw [← qn_apply x g r l h]
  unfold qv qn k0_pay14 k0_pay13
  pointwise

theorem kv_apply (x : Vec Ideal S384x128 .f32) (g : Vec Ideal S1x128 .f32) (r : Fin 384) (l : Fin 128)
    (h : ∀ k, Cert.Re.Fin' (x (ix2 r k))) :
    kv x g (ix2 r l) = nrm (x (ix2 r l)) (fun k => x (ix2 r (mate l k))) * g (ix2 0 l) := by
  rw [← hn_apply x g r l h]
  unfold kv hn k0_pay27 k0_pay39
  pointwise

theorem tv_apply (x : Vec Ideal S384x128 .f32) (g : Vec Ideal S1x128 .f32) (r : Fin 384) (l : Fin 128)
    (h : ∀ k, Cert.Re.Fin' (x (ix2 r k))) :
    tv x g (ix2 l r) = nrm (x (ix2 r l)) (fun k => x (ix2 r (mate l k))) * g (ix2 0 l) * Ideal.ofBits .f32 0x3E000000#32 := by
  rw [← qn_apply x g r l h]
  unfold tv qn k0_pay15 k0_pay13
  pointwise

/-- The lane of head `b` that lane `l` of slab `b` holds. -/
def dup (b : Nat) (hb : b < 2) (l : Fin 128) : Fin 128 := ⟨64 * b + l.val % 64, by omega⟩

theorem lane_lt (l : Fin 128) : IntOp.cmpi CmpIPredicate.slt (BitVec.ofNat 32 l.val) 64#32 = if l.val < 64 then 1#1 else 0#1 := by
  revert l
  decide +kernel

theorem sel_lt {α : Type} (l : Fin 128) (a b : α) :
    Scalar.select (IntOp.cmpi CmpIPredicate.slt (BitVec.ofNat 32 l.val) 64#32) a b = if l.val < 64 then a else b := by
  rw [lane_lt]
  split
  · rfl
  · rfl

theorem dup_in (b : Nat) (hb : b < 2) (l : Fin 128) (h : l.val / 64 = b) : dup b hb l = l :=
  Fin.ext (by simp only [dup]; omega)

theorem dup_out (b : Nat) (hb : b < 2) (l : Fin 128) (h : l.val / 64 ≠ b) : dup b hb l = ⟨(l.val + 128 - 64) % 128, Nat.mod_lt _ (by decide)⟩ :=
  Fin.ext (by simp only [dup]; omega)

theorem pick0 (f : Fin 128 → EReal) (l : Fin 128) :
    Scalar.select (IntOp.cmpi CmpIPredicate.slt (BitVec.ofNat 32 l.val) 64#32) (f l)
      (f ⟨(l.val + 128 - 64) % 128, Nat.mod_lt _ (by decide)⟩) = f (dup 0 (by omega) l) := by
  rw [sel_lt]
  split
  · rw [dup_in _ _ _ (by omega)]
  · rw [dup_out _ _ _ (by omega)]

theorem pick1 (f : Fin 128 → EReal) (l : Fin 128) :
    Scalar.select (IntOp.cmpi CmpIPredicate.slt (BitVec.ofNat 32 l.val) 64#32)
      (f ⟨(l.val + 128 - 64) % 128, Nat.mod_lt _ (by decide)⟩) (f l) = f (dup 1 (by omega) l) := by
  rw [sel_lt]
  split
  · rw [dup_out _ _ _ (by omega)]
  · rw [dup_in _ _ _ (by omega)]

theorem e41 (x : FVec Ideal S384x128 .f32) (r : Fin 384) (l : Fin 128) :
    (k0_pay41 (F := Ideal) k0_pay6 x 64#32 (ix3 0 r l) : EReal) = x (ix2 r (dup 0 (by omega) l)) := by
  unfold k0_pay41
  unfold_payloads
  pointwise
  exact pick0 (fun k => x (ix2 r k)) l

theorem e42 (x : FVec Ideal S384x128 .f32) (r : Fin 384) (l : Fin 128) :
    (k0_pay42 (F := Ideal) k0_pay6 x 64#32 (ix3 0 r l) : EReal) = x (ix2 r (dup 1 (by omega) l)) := by
  unfold k0_pay42
  unfold_payloads
  pointwise
  exact pick1 (fun k => x (ix2 r k)) l

theorem e44 (x : FVec Ideal S384x128 .f32) (r : Fin 384) (l : Fin 128) :
    (k0_pay44 (F := Ideal) k0_pay6 x (ix3 0 r l) : EReal) = x (ix2 r (dup 0 (by omega) l)) := by
  unfold k0_pay44
  unfold_payloads
  pointwise
  exact pick0 (fun k => x (ix2 r k)) l

theorem e45 (x : FVec Ideal S384x128 .f32) (r : Fin 384) (l : Fin 128) :
    (k0_pay45 (F := Ideal) k0_pay6 x (ix3 0 r l) : EReal) = x (ix2 r (dup 1 (by omega) l)) := by
  unfold k0_pay45
  unfold_payloads
  pointwise
  exact pick1 (fun k => x (ix2 r k)) l

end Cert.Qn

end
-- ==== Proof.Qn.RefHeads.lean ====
/-
  The reference's head norms, read at an index.
-/
module

public import proofs.«01_k».proof.Proof.Qn.Heads
public import proofs.«01_k».proof.Proof.Gen.RQnIdeal.Read

@[expose] public section

noncomputable section

namespace Cert.Qn

open Cert.RQnIdeal Cert.RQnIdeal.Gen Cert.RQnIdeal.Read Idealize.ShloMosaic Idealize.ShloMosaic.TcCoe Idealize.SL.Sem

theorem i1 (r : Fin 4224) (h : Fin 8) (d : Fin 64) : idx_main_v1 (ix3 r h d) = ix2 r ⟨64 * h.val + d.val, by omega⟩ := by
  funext a
  match a with
  | ⟨0, _⟩ =>
    have k : ((r.val * 8 + h.val) * 64 + d.val) / 512 = r.val := by omega
    exact Fin.ext k
  | ⟨1, _⟩ =>
    have k : ((r.val * 8 + h.val) * 64 + d.val) % 512 = 64 * h.val + d.val := by omega
    exact Fin.ext k

theorem i12 (h : Fin 8) (d : Fin 64) : idx_main_v12 (ix3 0 h d) = ix2 0 ⟨64 * h.val + d.val, by omega⟩ := by
  funext a
  match a with
  | ⟨0, _⟩ => rfl
  | ⟨1, _⟩ =>
    have k : ((0 * 8 + h.val) * 64 + d.val) % 512 = 64 * h.val + d.val := by omega
    exact Fin.ext k

theorem i17 (r : Fin 4224) (h : Fin 8) (d : Fin 64) : idx_main_v17 (ix2 r ⟨64 * h.val + d.val, by omega⟩) = ix3 r h d := by
  funext a
  match a with
  | ⟨0, _⟩ =>
    have k : (r.val * 512 + (64 * h.val + d.val)) / 512 = r.val := by omega
    exact Fin.ext k
  | ⟨1, _⟩ =>
    have k : ((r.val * 512 + (64 * h.val + d.val)) / 64) % 8 = h.val := by omega
    exact Fin.ext k
  | ⟨2, _⟩ =>
    have k : (r.val * 512 + (64 * h.val + d.val)) % 64 = d.val := by omega
    exact Fin.ext k

/-- Column `a + 64 h + d` of the projection. -/
abbrev col (a : Nat) (ha : a ≤ 3968) (h : Fin 8) (d : Fin 64) : Fin 4480 := ⟨a + (64 * h.val + d.val), by omega⟩

theorem qf_in (x0 : (⟨S4224x4480, .f32⟩ : BufTy).Contents (Elt Ideal)) (r : Fin 4224) (h : Fin 8) (d : Fin 64) :
    val_main_v1 (F := Ideal) x0 (ix3 r h d) = x0 (ix2 r (col 2048 (by omega) h d)) := by
  rw [val_main_v1_apply, show idx_main_v1 (ix3 r h d) = _ from i1 r h d, val_main_v0_apply]
  refine congrArg x0 (funext fun e => ?_)
  match e with
  | ⟨0, _⟩ => rfl
  | ⟨1, _⟩ => rfl

theorem qf_ms (x0 : (⟨S4224x4480, .f32⟩ : BufTy).Contents (Elt Ideal)) (r : Fin 4224) (h : Fin 8) :
    val_main_v3 (F := Ideal) x0 (ix2 r h) = ∑ k, x0 (ix2 r (col 2048 (by omega) h k)) * x0 (ix2 r (col 2048 (by omega) h k)) := by
  rw [val_main_v3_apply, val_main_cst_apply]
  rw [show (FloatOps.ofBits .f32 0x00000000#32 : Ideal .f32) = 0 from Ideal.ofBits_zero_f32, zero_add]
  refine Finset.sum_congr rfl fun k _ => ?_
  rw [val_main_v2_apply, show idx_main_v3 (ix2 r h) k = ix3 r h k from funext fun e => by match e with | ⟨0, _⟩ => rfl | ⟨1, _⟩ => rfl | ⟨2, _⟩ => rfl,
    qf_in]
  rfl

theorem qf_nrm (x0 : (⟨S4224x4480, .f32⟩ : BufTy).Contents (Elt Ideal)) (r : Fin 4224) (h : Fin 8) (d : Fin 64) :
    val_main_v11 (F := Ideal) x0 (ix3 r h d) = nrm (x0 (ix2 r (col 2048 (by omega) h d))) (fun k => x0 (ix2 r (col 2048 (by omega) h k))) := by
  rw [val_main_v11_apply, val_main_v10_apply, val_main_v9_apply, val_main_v8_apply, val_main_v7_apply, val_main_v6_apply, val_main_v5_apply, val_main_v4_apply, val_main_cst_0_apply, val_main_cst_1_apply, qf_in,
    show idx_main_v4 (idx_main_v10 (ix3 r h d)) = ix2 r h from funext fun e => by match e with | ⟨0, _⟩ => rfl | ⟨1, _⟩ => rfl,
    qf_ms]
  rfl

theorem qf_gain (x : (⟨S1x512, .f32⟩ : BufTy).Contents (Elt Ideal)) (r : Fin 4224) (h : Fin 8) (d : Fin 64) :
    val_main_v13 (F := Ideal) x (ix3 r h d) = x (ix2 0 ⟨64 * h.val + d.val, by omega⟩) := by
  rw [val_main_v13_apply, val_main_v12_apply, show idx_main_v13 (ix3 r h d) = ix3 0 h d from funext fun e => by match e with | ⟨0, _⟩ => rfl | ⟨1, _⟩ => rfl | ⟨2, _⟩ => rfl,
    show idx_main_v12 (ix3 0 h d) = _ from i12 h d]

theorem qf_at (x0 : (⟨S4224x4480, .f32⟩ : BufTy).Contents (Elt Ideal)) (x : (⟨S1x512, .f32⟩ : BufTy).Contents (Elt Ideal)) (r : Fin 4224) (h : Fin 8) (d : Fin 64) :
    val_main_v18 (F := Ideal) x0 x (ix2 r ⟨64 * h.val + d.val, by omega⟩)
      = nrm (x0 (ix2 r (col 2048 (by omega) h d))) (fun k => x0 (ix2 r (col 2048 (by omega) h k))) * x (ix2 0 ⟨64 * h.val + d.val, by omega⟩) * Ideal.ofBits .f32 0x3E000000#32 := by
  rw [val_main_v18_apply, val_main_v17_apply, show idx_main_v17 _ = _ from i17 r h d, val_main_v16_apply, val_main_v14_apply, val_main_v15_apply, val_main_cst_2_apply,
    qf_nrm, qf_gain]
  rfl

theorem kf_in (x0 : (⟨S4224x4480, .f32⟩ : BufTy).Contents (Elt Ideal)) (r : Fin 4224) (h : Fin 8) (d : Fin 64) :
    val_main_v26 (F := Ideal) x0 (ix3 r h d) = x0 (ix2 r (col 2560 (by omega) h d)) := by
  rw [val_main_v26_apply, show idx_main_v26 (ix3 r h d) = _ from i1 r h d, val_main_v25_apply]
  refine congrArg x0 (funext fun e => ?_)
  match e with
  | ⟨0, _⟩ => rfl
  | ⟨1, _⟩ => rfl

theorem kf_ms (x0 : (⟨S4224x4480, .f32⟩ : BufTy).Contents (Elt Ideal)) (r : Fin 4224) (h : Fin 8) :
    val_main_v28 (F := Ideal) x0 (ix2 r h) = ∑ k, x0 (ix2 r (col 2560 (by omega) h k)) * x0 (ix2 r (col 2560 (by omega) h k)) := by
  rw [val_main_v28_apply, val_main_cst_3_apply]
  rw [show (FloatOps.ofBits .f32 0x00000000#32 : Ideal .f32) = 0 from Ideal.ofBits_zero_f32, zero_add]
  refine Finset.sum_congr rfl fun k _ => ?_
  rw [val_main_v27_apply, show idx_main_v28 (ix2 r h) k = ix3 r h k from funext fun e => by match e with | ⟨0, _⟩ => rfl | ⟨1, _⟩ => rfl | ⟨2, _⟩ => rfl,
    kf_in]
  rfl

theorem kf_nrm (x0 : (⟨S4224x4480, .f32⟩ : BufTy).Contents (Elt Ideal)) (r : Fin 4224) (h : Fin 8) (d : Fin 64) :
    val_main_v36 (F := Ideal) x0 (ix3 r h d) = nrm (x0 (ix2 r (col 2560 (by omega) h d))) (fun k => x0 (ix2 r (col 2560 (by omega) h k))) := by
  rw [val_main_v36_apply, val_main_v35_apply, val_main_v34_apply, val_main_v33_apply, val_main_v32_apply, val_main_v31_apply, val_main_v30_apply, val_main_v29_apply, val_main_cst_4_apply, val_main_cst_5_apply, kf_in,
    show idx_main_v29 (idx_main_v35 (ix3 r h d)) = ix2 r h from funext fun e => by match e with | ⟨0, _⟩ => rfl | ⟨1, _⟩ => rfl,
    kf_ms]
  rfl

theorem kf_gain (x : (⟨S1x512, .f32⟩ : BufTy).Contents (Elt Ideal)) (r : Fin 4224) (h : Fin 8) (d : Fin 64) :
    val_main_v38 (F := Ideal) x (ix3 r h d) = x (ix2 0 ⟨64 * h.val + d.val, by omega⟩) := by
  rw [val_main_v38_apply, val_main_v37_apply, show idx_main_v38 (ix3 r h d) = ix3 0 h d from funext fun e => by match e with | ⟨0, _⟩ => rfl | ⟨1, _⟩ => rfl | ⟨2, _⟩ => rfl,
    show idx_main_v37 (ix3 0 h d) = _ from i12 h d]

theorem kf_at (x0 : (⟨S4224x4480, .f32⟩ : BufTy).Contents (Elt Ideal)) (x : (⟨S1x512, .f32⟩ : BufTy).Contents (Elt Ideal)) (r : Fin 4224) (h : Fin 8) (d : Fin 64) :
    val_main_v43 (F := Ideal) x0 x (ix2 r ⟨64 * h.val + d.val, by omega⟩)
      = nrm (x0 (ix2 r (col 2560 (by omega) h d))) (fun k => x0 (ix2 r (col 2560 (by omega) h k))) * x (ix2 0 ⟨64 * h.val + d.val, by omega⟩) := by
  rw [val_main_v43_apply, val_main_v42_apply, show idx_main_v42 _ = _ from i17 r h d, val_main_v41_apply, val_main_v39_apply, val_main_v40_apply, val_main_cst_6_apply,
    kf_nrm, kf_gain]
  show nrm _ _ * _ * Ideal.ofBits .f32 0x3F800000#32 = _
  rw [b1, mul_one]

theorem qs_in (x0 : (⟨S4224x4480, .f32⟩ : BufTy).Contents (Elt Ideal)) (r : Fin 4224) (h : Fin 8) (d : Fin 64) :
    val_main_v47 (F := Ideal) x0 (ix3 r h d) = x0 (ix2 r (col 3584 (by omega) h d)) := by
  rw [val_main_v47_apply, show idx_main_v47 (ix3 r h d) = _ from i1 r h d, val_main_v46_apply]
  refine congrArg x0 (funext fun e => ?_)
  match e with
  | ⟨0, _⟩ => rfl
  | ⟨1, _⟩ => rfl

theorem qs_ms (x0 : (⟨S4224x4480, .f32⟩ : BufTy).Contents (Elt Ideal)) (r : Fin 4224) (h : Fin 8) :
    val_main_v49 (F := Ideal) x0 (ix2 r h) = ∑ k, x0 (ix2 r (col 3584 (by omega) h k)) * x0 (ix2 r (col 3584 (by omega) h k)) := by
  rw [val_main_v49_apply, val_main_cst_7_apply]
  rw [show (FloatOps.ofBits .f32 0x00000000#32 : Ideal .f32) = 0 from Ideal.ofBits_zero_f32, zero_add]
  refine Finset.sum_congr rfl fun k _ => ?_
  rw [val_main_v48_apply, show idx_main_v49 (ix2 r h) k = ix3 r h k from funext fun e => by match e with | ⟨0, _⟩ => rfl | ⟨1, _⟩ => rfl | ⟨2, _⟩ => rfl,
    qs_in]
  rfl

theorem qs_nrm (x0 : (⟨S4224x4480, .f32⟩ : BufTy).Contents (Elt Ideal)) (r : Fin 4224) (h : Fin 8) (d : Fin 64) :
    val_main_v57 (F := Ideal) x0 (ix3 r h d) = nrm (x0 (ix2 r (col 3584 (by omega) h d))) (fun k => x0 (ix2 r (col 3584 (by omega) h k))) := by
  rw [val_main_v57_apply, val_main_v56_apply, val_main_v55_apply, val_main_v54_apply, val_main_v53_apply, val_main_v52_apply, val_main_v51_apply, val_main_v50_apply, val_main_cst_8_apply, val_main_cst_9_apply, qs_in,
    show idx_main_v50 (idx_main_v56 (ix3 r h d)) = ix2 r h from funext fun e => by match e with | ⟨0, _⟩ => rfl | ⟨1, _⟩ => rfl,
    qs_ms]
  rfl

theorem qs_gain (x : (⟨S1x512, .f32⟩ : BufTy).Contents (Elt Ideal)) (r : Fin 4224) (h : Fin 8) (d : Fin 64) :
    val_main_v59 (F := Ideal) x (ix3 r h d) = x (ix2 0 ⟨64 * h.val + d.val, by omega⟩) := by
  rw [val_main_v59_apply, val_main_v58_apply, show idx_main_v59 (ix3 r h d) = ix3 0 h d from funext fun e => by match e with | ⟨0, _⟩ => rfl | ⟨1, _⟩ => rfl | ⟨2, _⟩ => rfl,
    show idx_main_v58 (ix3 0 h d) = _ from i12 h d]

theorem qs_at (x0 : (⟨S4224x4480, .f32⟩ : BufTy).Contents (Elt Ideal)) (x : (⟨S1x512, .f32⟩ : BufTy).Contents (Elt Ideal)) (r : Fin 4224) (h : Fin 8) (d : Fin 64) :
    val_main_v64 (F := Ideal) x0 x (ix2 r ⟨64 * h.val + d.val, by omega⟩)
      = nrm (x0 (ix2 r (col 3584 (by omega) h d))) (fun k => x0 (ix2 r (col 3584 (by omega) h k))) * x (ix2 0 ⟨64 * h.val + d.val, by omega⟩) * Ideal.ofBits .f32 0x3E000000#32 := by
  rw [val_main_v64_apply, val_main_v63_apply, show idx_main_v63 _ = _ from i17 r h d, val_main_v62_apply, val_main_v60_apply, val_main_v61_apply, val_main_cst_10_apply,
    qs_nrm, qs_gain]
  rfl

theorem i66 (r : Fin 4224) (h : Fin 2) (d : Fin 64) : idx_main_v66 (ix3 r h d) = ix2 r ⟨64 * h.val + d.val, by omega⟩ := by
  funext a
  match a with
  | ⟨0, _⟩ =>
    have k : ((r.val * 2 + h.val) * 64 + d.val) / 128 = r.val := by omega
    exact Fin.ext k
  | ⟨1, _⟩ =>
    have k : ((r.val * 2 + h.val) * 64 + d.val) % 128 = 64 * h.val + d.val := by omega
    exact Fin.ext k

theorem i77 (h : Fin 2) (d : Fin 64) : idx_main_v77 (ix3 0 h d) = ix2 0 ⟨64 * h.val + d.val, by omega⟩ := by
  funext a
  match a with
  | ⟨0, _⟩ => rfl
  | ⟨1, _⟩ =>
    have k : ((0 * 2 + h.val) * 64 + d.val) % 128 = 64 * h.val + d.val := by omega
    exact Fin.ext k

theorem i82 (r : Fin 4224) (h : Fin 2) (d : Fin 64) : idx_main_v82 (ix2 r ⟨64 * h.val + d.val, by omega⟩) = ix3 r h d := by
  funext a
  match a with
  | ⟨0, _⟩ =>
    have k : (r.val * 128 + (64 * h.val + d.val)) / 128 = r.val := by omega
    exact Fin.ext k
  | ⟨1, _⟩ =>
    have k : ((r.val * 128 + (64 * h.val + d.val)) / 64) % 2 = h.val := by omega
    exact Fin.ext k
  | ⟨2, _⟩ =>
    have k : (r.val * 128 + (64 * h.val + d.val)) % 64 = d.val := by omega
    exact Fin.ext k

/-- Column `a + 64 h + d` of the projection, of a pair of heads. -/
abbrev col2 (a : Nat) (ha : a ≤ 4352) (h : Fin 2) (d : Fin 64) : Fin 4480 := ⟨a + (64 * h.val + d.val), by omega⟩

theorem ks_in (x0 : (⟨S4224x4480, .f32⟩ : BufTy).Contents (Elt Ideal)) (r : Fin 4224) (h : Fin 2) (d : Fin 64) :
    val_main_v66 (F := Ideal) x0 (ix3 r h d) = x0 (ix2 r (col2 4096 (by omega) h d)) := by
  rw [val_main_v66_apply, i66 r h d, val_main_v65_apply]
  refine congrArg x0 (funext fun e => ?_)
  match e with
  | ⟨0, _⟩ => rfl
  | ⟨1, _⟩ => rfl

theorem ks_ms (x0 : (⟨S4224x4480, .f32⟩ : BufTy).Contents (Elt Ideal)) (r : Fin 4224) (h : Fin 2) :
    val_main_v68 (F := Ideal) x0 (ix2 r h) = ∑ k, x0 (ix2 r (col2 4096 (by omega) h k)) * x0 (ix2 r (col2 4096 (by omega) h k)) := by
  rw [val_main_v68_apply, val_main_cst_11_apply]
  rw [show (FloatOps.ofBits .f32 0x00000000#32 : Ideal .f32) = 0 from Ideal.ofBits_zero_f32, zero_add]
  refine Finset.sum_congr rfl fun k _ => ?_
  rw [val_main_v67_apply, show idx_main_v68 (ix2 r h) k = ix3 r h k from funext fun e => by match e with | ⟨0, _⟩ => rfl | ⟨1, _⟩ => rfl | ⟨2, _⟩ => rfl,
    ks_in]
  rfl

theorem ks_nrm (x0 : (⟨S4224x4480, .f32⟩ : BufTy).Contents (Elt Ideal)) (r : Fin 4224) (h : Fin 2) (d : Fin 64) :
    val_main_v76 (F := Ideal) x0 (ix3 r h d) = nrm (x0 (ix2 r (col2 4096 (by omega) h d))) (fun k => x0 (ix2 r (col2 4096 (by omega) h k))) := by
  rw [val_main_v76_apply, val_main_v75_apply, val_main_v74_apply, val_main_v73_apply, val_main_v72_apply, val_main_v71_apply, val_main_v70_apply, val_main_v69_apply, val_main_cst_12_apply, val_main_cst_13_apply, ks_in,
    show idx_main_v69 (idx_main_v75 (ix3 r h d)) = ix2 r h from funext fun e => by match e with | ⟨0, _⟩ => rfl | ⟨1, _⟩ => rfl,
    ks_ms]
  rfl

theorem ks_gain (x : (⟨S1x128, .f32⟩ : BufTy).Contents (Elt Ideal)) (r : Fin 4224) (h : Fin 2) (d : Fin 64) :
    val_main_v78 (F := Ideal) x (ix3 r h d) = x (ix2 0 ⟨64 * h.val + d.val, by omega⟩) := by
  rw [val_main_v78_apply, val_main_v77_apply, show idx_main_v78 (ix3 r h d) = ix3 0 h d from funext fun e => by match e with | ⟨0, _⟩ => rfl | ⟨1, _⟩ => rfl | ⟨2, _⟩ => rfl,
    i77 h d]

theorem ks_at (x0 : (⟨S4224x4480, .f32⟩ : BufTy).Contents (Elt Ideal)) (x : (⟨S1x128, .f32⟩ : BufTy).Contents (Elt Ideal)) (r : Fin 4224) (h : Fin 2) (d : Fin 64) :
    val_main_v82 (F := Ideal) x0 x (ix2 r ⟨64 * h.val + d.val, by omega⟩)
      = nrm (x0 (ix2 r (col2 4096 (by omega) h d))) (fun k => x0 (ix2 r (col2 4096 (by omega) h k))) * x (ix2 0 ⟨64 * h.val + d.val, by omega⟩) := by
  rw [val_main_v82_apply, i82 r h d, val_main_v81_apply, val_main_v79_apply, val_main_v80_apply, val_main_cst_14_apply,
    ks_nrm, ks_gain]
  show nrm _ _ * _ * Ideal.ofBits .f32 0x3F800000#32 = _
  rw [b1, mul_one]

/-- Lane `l` of slab `b` of a doubled pair of heads is lane `l % 64` of head `b`. -/
theorem i86 (b : Fin 2) (r : Fin 4224) (l : Fin 128) :
    idx_main_v83 (idx_main_v84 (idx_main_v85 (idx_main_v86 (ix3 b r l)))) = ix2 r ⟨64 * b.val + l.val % 64, by omega⟩ := by
  have e86 : idx_main_v86 (ix3 b r l) = ix4 b r ⟨l.val / 64, by omega⟩ ⟨l.val % 64, by omega⟩ := by
    funext a
    match a with
    | ⟨0, _⟩ =>
      have k : ((b.val * 4224 + r.val) * 128 + l.val) / 540672 = b.val := by omega
      exact Fin.ext k
    | ⟨1, _⟩ =>
      have k : ((b.val * 4224 + r.val) * 128 + l.val) / 128 % 4224 = r.val := by omega
      exact Fin.ext k
    | ⟨2, _⟩ =>
      have k : (((b.val * 4224 + r.val) * 128 + l.val) / 64) % 2 = l.val / 64 := by omega
      exact Fin.ext k
    | ⟨3, _⟩ =>
      have k : ((b.val * 4224 + r.val) * 128 + l.val) % 64 = l.val % 64 := by omega
      exact Fin.ext k
  have e85 : idx_main_v84 (idx_main_v85 (ix4 b r ⟨l.val / 64, by omega⟩ ⟨l.val % 64, by omega⟩)) = ix4 r b 0 ⟨l.val % 64, by omega⟩ := by
    funext a
    match a with
    | ⟨0, _⟩ => rfl
    | ⟨1, _⟩ => rfl
    | ⟨2, _⟩ => rfl
    | ⟨3, _⟩ => rfl
  rw [e86, e85]
  funext a
  match a with
  | ⟨0, _⟩ =>
    have k : (((r.val * 2 + b.val) * 1 + 0) * 64 + l.val % 64) / 128 = r.val := by omega
    exact Fin.ext k
  | ⟨1, _⟩ =>
    have k : (((r.val * 2 + b.val) * 1 + 0) * 64 + l.val % 64) % 128 = 64 * b.val + l.val % 64 := by omega
    exact Fin.ext k

theorem kse_at (x0 : (⟨S4224x4480, .f32⟩ : BufTy).Contents (Elt Ideal)) (x : (⟨S1x128, .f32⟩ : BufTy).Contents (Elt Ideal)) (b : Fin 2) (r : Fin 4224) (l : Fin 128) :
    val_main_v87 (F := Ideal) x0 x (ix3 b r l)
      = nrm (x0 (ix2 r (col2 4096 (by omega) b ⟨l.val % 64, by omega⟩))) (fun k => x0 (ix2 r (col2 4096 (by omega) b k)))
        * x (ix2 0 ⟨64 * b.val + l.val % 64, by omega⟩) := by
  rw [val_main_v87_apply, val_main_v86_apply, val_main_v85_apply, val_main_v84_apply, val_main_v83_apply, i86 b r l]
  exact ks_at x0 x r b ⟨l.val % 64, by omega⟩

theorem vse_at (x0 : (⟨S4224x4480, .f32⟩ : BufTy).Contents (Elt Ideal)) (b : Fin 2) (r : Fin 4224) (l : Fin 128) :
    val_main_v93 (F := Ideal) x0 (ix3 b r l) = x0 (ix2 r (col2 4224 (by omega) b ⟨l.val % 64, by omega⟩)) := by
  rw [val_main_v93_apply, val_main_v92_apply, val_main_v91_apply, val_main_v90_apply, val_main_v89_apply,
    show idx_main_v89 (idx_main_v90 (idx_main_v91 (idx_main_v92 (ix3 b r l)))) = _ from i86 b r l, val_main_v88_apply]
  refine congrArg x0 (funext fun e => ?_)
  match e with
  | ⟨0, _⟩ => rfl
  | ⟨1, _⟩ => rfl

theorem vf_at (x0 : (⟨S4224x4480, .f32⟩ : BufTy).Contents (Elt Ideal)) (r : Fin 4224) (q : Fin 512) :
    val_main_v45 (F := Ideal) x0 (ix2 r q) = x0 (ix2 r ⟨3072 + q.val, by omega⟩) := by
  rw [val_main_v45_apply, val_main_v44_apply]
  refine congrArg x0 (funext fun e => ?_)
  match e with
  | ⟨0, _⟩ => rfl
  | ⟨1, _⟩ => rfl

theorem qft_at (x0 : (⟨S4224x4480, .f32⟩ : BufTy).Contents (Elt Ideal)) (x : (⟨S1x512, .f32⟩ : BufTy).Contents (Elt Ideal)) (q : Fin 512) (r : Fin 4224) :
    val_main_v96 (F := Ideal) x0 x (ix2 q r) = val_main_v18 (F := Ideal) x0 x (ix2 r q) := by
  rw [val_main_v96_apply]
  refine congrArg _ (funext fun e => ?_)
  match e with
  | ⟨0, _⟩ => rfl
  | ⟨1, _⟩ => rfl

end Cert.Qn

end
-- ==== Proof.Qn.Reads.lean ====
/-
  Where the head norms' forward call reads its arrays and writes its results: the rows and columns of each block.
-/
module

public import proofs.«01_k».proof.Proof.Gen.KQnIdeal.Value
public import proofs.«01_k».proof.Proof.Tile

@[expose] public section

noncomputable section

namespace Cert.Qn

open Cert.KQnIdeal Cert.KQnIdeal.Gen Idealize.ShloMosaic Idealize.ShloMosaic.TcCoe Idealize.SL.Sem

variable {F : FTy → Type} [FloatOps F]
variable (m : (ℓ : Loc nD τ sig) → Buf (Elt F) ℓ)

theorem n_pts : cfg0.N = 11 := rfl

theorem idx_0 : ∀ t : Fin cfg0.N, win0_0.index t = ![t.val, 4] :=
  (by decide +kernel : ∀ t : Fin grid0.N, win0_0.index t = ![t.val, 4])

theorem idx_1 : ∀ t : Fin cfg0.N, win0_1.index t = ![t.val, 5] :=
  (by decide +kernel : ∀ t : Fin grid0.N, win0_1.index t = ![t.val, 5])

theorem idx_2 : ∀ t : Fin cfg0.N, win0_2.index t = ![t.val, 6] :=
  (by decide +kernel : ∀ t : Fin grid0.N, win0_2.index t = ![t.val, 6])

theorem idx_3 : ∀ t : Fin cfg0.N, win0_3.index t = ![t.val, 7] :=
  (by decide +kernel : ∀ t : Fin grid0.N, win0_3.index t = ![t.val, 7])

theorem idx_4 : ∀ t : Fin cfg0.N, win0_4.index t = ![t.val, 32] :=
  (by decide +kernel : ∀ t : Fin grid0.N, win0_4.index t = ![t.val, 32])

theorem idx_5 : ∀ t : Fin cfg0.N, win0_5.index t = ![t.val, 33] :=
  (by decide +kernel : ∀ t : Fin grid0.N, win0_5.index t = ![t.val, 33])

theorem idx_6 : ∀ t : Fin cfg0.N, win0_6.index t = ![t.val, 34] :=
  (by decide +kernel : ∀ t : Fin grid0.N, win0_6.index t = ![t.val, 34])

theorem idx_7 : ∀ t : Fin cfg0.N, win0_7.index t = ![0, 0] :=
  (by decide +kernel : ∀ t : Fin grid0.N, win0_7.index t = ![0, 0])

theorem idx_8 : ∀ t : Fin cfg0.N, win0_8.index t = ![0, 0] :=
  (by decide +kernel : ∀ t : Fin grid0.N, win0_8.index t = ![0, 0])

theorem idx_9 : ∀ t : Fin cfg0.N, win0_9.index t = ![0, 0] :=
  (by decide +kernel : ∀ t : Fin grid0.N, win0_9.index t = ![0, 0])

theorem idx_10 : ∀ t : Fin cfg0.N, win0_10.index t = ![0, 0] :=
  (by decide +kernel : ∀ t : Fin grid0.N, win0_10.index t = ![0, 0])

theorem idx_11 : ∀ t : Fin cfg0.N, win0_11.index t = ![0, 0] :=
  (by decide +kernel : ∀ t : Fin grid0.N, win0_11.index t = ![0, 0])

theorem idx_12 : ∀ t : Fin cfg0.N, win0_12.index t = ![t.val, 0] :=
  (by decide +kernel : ∀ t : Fin grid0.N, win0_12.index t = ![t.val, 0])

theorem idx_13 : ∀ t : Fin cfg0.N, win0_13.index t = ![t.val, 0] :=
  (by decide +kernel : ∀ t : Fin grid0.N, win0_13.index t = ![t.val, 0])

theorem idx_14 : ∀ t : Fin cfg0.N, win0_14.index t = ![t.val, 0] :=
  (by decide +kernel : ∀ t : Fin grid0.N, win0_14.index t = ![t.val, 0])

theorem idx_15 : ∀ t : Fin cfg0.N, win0_15.index t = ![t.val, 0] :=
  (by decide +kernel : ∀ t : Fin grid0.N, win0_15.index t = ![t.val, 0])

theorem idx_16 : ∀ t : Fin cfg0.N, win0_16.index t = ![0, t.val, 0] :=
  (by decide +kernel : ∀ t : Fin grid0.N, win0_16.index t = ![0, t.val, 0])

theorem idx_17 : ∀ t : Fin cfg0.N, win0_17.index t = ![0, t.val, 0] :=
  (by decide +kernel : ∀ t : Fin grid0.N, win0_17.index t = ![0, t.val, 0])

theorem idx_18 : ∀ t : Fin cfg0.N, win0_18.index t = ![t.val, 0] :=
  (by decide +kernel : ∀ t : Fin grid0.N, win0_18.index t = ![t.val, 0])

theorem idx_19 : ∀ t : Fin cfg0.N, win0_19.index t = ![0, t.val] :=
  (by decide +kernel : ∀ t : Fin grid0.N, win0_19.index t = ![0, t.val])

theorem idx_20 : ∀ t : Fin cfg0.N, win0_20.index t = ![0, t.val] :=
  (by decide +kernel : ∀ t : Fin grid0.N, win0_20.index t = ![0, t.val])

/-- Input window 0 reads its array at these coordinates. -/
theorem rd_0 (c : Dev nD) (t : Fin cfg0.N) (p : Fin 384) (q : Fin 512) :
    X0_0 m c t (ix2 p q : S384x512.Idx) = m ((c : Thread nD τ).loc main_arg0) (ix2 ⟨384 * t.val + p.val, by have := t.isLt; have := p.isLt; have := n_pts; omega⟩ ⟨2048 + q.val, by have := q.isLt; omega⟩ : S4224x4480.Idx) := by
  unfold X0_0 Pipeline.Window.fill
  rw [dif_pos (moved0_0 t _)]
  refine Cert.Tile.slice_read (Val := Elt F) (b := main_arg0) (win0_0.rect t) _ _ _ fun a => ?_
  rw [Pipeline.Window.rect_emb_val win0_0 t _ a rfl, idx_0 t]
  match a with
  | ⟨0, _⟩ => exact Cert.Tile.at_block _ _ _
  | ⟨1, _⟩ => exact Cert.Tile.at_block _ _ _

/-- Input window 1 reads its array at these coordinates. -/
theorem rd_1 (c : Dev nD) (t : Fin cfg0.N) (p : Fin 384) (q : Fin 512) :
    X0_1 m c t (ix2 p q : S384x512.Idx) = m ((c : Thread nD τ).loc main_arg0) (ix2 ⟨384 * t.val + p.val, by have := t.isLt; have := p.isLt; have := n_pts; omega⟩ ⟨2560 + q.val, by have := q.isLt; omega⟩ : S4224x4480.Idx) := by
  unfold X0_1 Pipeline.Window.fill
  rw [dif_pos (moved0_1 t _)]
  refine Cert.Tile.slice_read (Val := Elt F) (b := main_arg0) (win0_1.rect t) _ _ _ fun a => ?_
  rw [Pipeline.Window.rect_emb_val win0_1 t _ a rfl, idx_1 t]
  match a with
  | ⟨0, _⟩ => exact Cert.Tile.at_block _ _ _
  | ⟨1, _⟩ => exact Cert.Tile.at_block _ _ _

/-- Input window 2 reads its array at these coordinates. -/
theorem rd_2 (c : Dev nD) (t : Fin cfg0.N) (p : Fin 384) (q : Fin 512) :
    X0_2 m c t (ix2 p q : S384x512.Idx) = m ((c : Thread nD τ).loc main_arg0) (ix2 ⟨384 * t.val + p.val, by have := t.isLt; have := p.isLt; have := n_pts; omega⟩ ⟨3072 + q.val, by have := q.isLt; omega⟩ : S4224x4480.Idx) := by
  unfold X0_2 Pipeline.Window.fill
  rw [dif_pos (moved0_2 t _)]
  refine Cert.Tile.slice_read (Val := Elt F) (b := main_arg0) (win0_2.rect t) _ _ _ fun a => ?_
  rw [Pipeline.Window.rect_emb_val win0_2 t _ a rfl, idx_2 t]
  match a with
  | ⟨0, _⟩ => exact Cert.Tile.at_block _ _ _
  | ⟨1, _⟩ => exact Cert.Tile.at_block _ _ _

/-- Input window 3 reads its array at these coordinates. -/
theorem rd_3 (c : Dev nD) (t : Fin cfg0.N) (p : Fin 384) (q : Fin 512) :
    X0_3 m c t (ix2 p q : S384x512.Idx) = m ((c : Thread nD τ).loc main_arg0) (ix2 ⟨384 * t.val + p.val, by have := t.isLt; have := p.isLt; have := n_pts; omega⟩ ⟨3584 + q.val, by have := q.isLt; omega⟩ : S4224x4480.Idx) := by
  unfold X0_3 Pipeline.Window.fill
  rw [dif_pos (moved0_3 t _)]
  refine Cert.Tile.slice_read (Val := Elt F) (b := main_arg0) (win0_3.rect t) _ _ _ fun a => ?_
  rw [Pipeline.Window.rect_emb_val win0_3 t _ a rfl, idx_3 t]
  match a with
  | ⟨0, _⟩ => exact Cert.Tile.at_block _ _ _
  | ⟨1, _⟩ => exact Cert.Tile.at_block _ _ _

/-- Input window 4 reads its array at these coordinates. -/
theorem rd_4 (c : Dev nD) (t : Fin cfg0.N) (p : Fin 384) (q : Fin 128) :
    iblk m c 4 t (ix2 p q : S384x128.Idx) = m ((c : Thread nD τ).loc main_arg0) (ix2 ⟨384 * t.val + p.val, by have := t.isLt; have := p.isLt; have := n_pts; omega⟩ ⟨4096 + q.val, by have := q.isLt; omega⟩ : S4224x4480.Idx) := by
  refine Cert.Tile.slice_read (Val := Elt F) (b := main_arg0) (win0_4.rect t) _ _ _ fun a => ?_
  rw [Pipeline.Window.rect_emb_val win0_4 t _ a rfl, idx_4 t]
  match a with
  | ⟨0, _⟩ => exact Cert.Tile.at_block _ _ _
  | ⟨1, _⟩ => exact Cert.Tile.at_block _ _ _

/-- Input window 5 reads its array at these coordinates. -/
theorem rd_5 (c : Dev nD) (t : Fin cfg0.N) (p : Fin 384) (q : Fin 128) :
    iblk m c 5 t (ix2 p q : S384x128.Idx) = m ((c : Thread nD τ).loc main_arg0) (ix2 ⟨384 * t.val + p.val, by have := t.isLt; have := p.isLt; have := n_pts; omega⟩ ⟨4224 + q.val, by have := q.isLt; omega⟩ : S4224x4480.Idx) := by
  refine Cert.Tile.slice_read (Val := Elt F) (b := main_arg0) (win0_5.rect t) _ _ _ fun a => ?_
  rw [Pipeline.Window.rect_emb_val win0_5 t _ a rfl, idx_5 t]
  match a with
  | ⟨0, _⟩ => exact Cert.Tile.at_block _ _ _
  | ⟨1, _⟩ => exact Cert.Tile.at_block _ _ _

/-- Input window 6 reads its array at these coordinates. -/
theorem rd_6 (c : Dev nD) (t : Fin cfg0.N) (p : Fin 384) (q : Fin 128) :
    iblk m c 6 t (ix2 p q : S384x128.Idx) = m ((c : Thread nD τ).loc main_arg0) (ix2 ⟨384 * t.val + p.val, by have := t.isLt; have := p.isLt; have := n_pts; omega⟩ ⟨4352 + q.val, by have := q.isLt; omega⟩ : S4224x4480.Idx) := by
  refine Cert.Tile.slice_read (Val := Elt F) (b := main_arg0) (win0_6.rect t) _ _ _ fun a => ?_
  rw [Pipeline.Window.rect_emb_val win0_6 t _ a rfl, idx_6 t]
  match a with
  | ⟨0, _⟩ => exact Cert.Tile.at_block _ _ _
  | ⟨1, _⟩ => exact Cert.Tile.at_block _ _ _

/-- Input window 7 reads its array at these coordinates. -/
theorem rd_7 (c : Dev nD) (t : Fin cfg0.N) (p : Fin 1) (q : Fin 512) :
    iblk m c 7 t (ix2 p q : S1x512.Idx) = m ((c : Thread nD τ).loc main_arg1) (ix2 p q : S1x512.Idx) := by
  refine Cert.Tile.slice_read (Val := Elt F) (b := main_arg1) (win0_7.rect t) _ _ _ fun a => ?_
  rw [Pipeline.Window.rect_emb_val win0_7 t _ a rfl, idx_7 t]
  match a with
  | ⟨0, _⟩ => exact Cert.Tile.at_zero _ _
  | ⟨1, _⟩ => exact Cert.Tile.at_zero _ _

/-- Input window 8 reads its array at these coordinates. -/
theorem rd_8 (c : Dev nD) (t : Fin cfg0.N) (p : Fin 1) (q : Fin 512) :
    iblk m c 8 t (ix2 p q : S1x512.Idx) = m ((c : Thread nD τ).loc main_arg2) (ix2 p q : S1x512.Idx) := by
  refine Cert.Tile.slice_read (Val := Elt F) (b := main_arg2) (win0_8.rect t) _ _ _ fun a => ?_
  rw [Pipeline.Window.rect_emb_val win0_8 t _ a rfl, idx_8 t]
  match a with
  | ⟨0, _⟩ => exact Cert.Tile.at_zero _ _
  | ⟨1, _⟩ => exact Cert.Tile.at_zero _ _

/-- Input window 9 reads its array at these coordinates. -/
theorem rd_9 (c : Dev nD) (t : Fin cfg0.N) (p : Fin 1) (q : Fin 512) :
    iblk m c 9 t (ix2 p q : S1x512.Idx) = m ((c : Thread nD τ).loc main_arg3) (ix2 p q : S1x512.Idx) := by
  refine Cert.Tile.slice_read (Val := Elt F) (b := main_arg3) (win0_9.rect t) _ _ _ fun a => ?_
  rw [Pipeline.Window.rect_emb_val win0_9 t _ a rfl, idx_9 t]
  match a with
  | ⟨0, _⟩ => exact Cert.Tile.at_zero _ _
  | ⟨1, _⟩ => exact Cert.Tile.at_zero _ _

/-- Input window 10 reads its array at these coordinates. -/
theorem rd_10 (c : Dev nD) (t : Fin cfg0.N) (p : Fin 1) (q : Fin 128) :
    iblk m c 10 t (ix2 p q : S1x128.Idx) = m ((c : Thread nD τ).loc main_arg4) (ix2 p q : S1x128.Idx) := by
  refine Cert.Tile.slice_read (Val := Elt F) (b := main_arg4) (win0_10.rect t) _ _ _ fun a => ?_
  rw [Pipeline.Window.rect_emb_val win0_10 t _ a rfl, idx_10 t]
  match a with
  | ⟨0, _⟩ => exact Cert.Tile.at_zero _ _
  | ⟨1, _⟩ => exact Cert.Tile.at_zero _ _

/-- Input window 11 reads its array at these coordinates. -/
theorem rd_11 (c : Dev nD) (t : Fin cfg0.N) (p : Fin 1) (q : Fin 128) :
    iblk m c 11 t (ix2 p q : S1x128.Idx) = m ((c : Thread nD τ).loc main_arg5) (ix2 p q : S1x128.Idx) := by
  refine Cert.Tile.slice_read (Val := Elt F) (b := main_arg5) (win0_11.rect t) _ _ _ fun a => ?_
  rw [Pipeline.Window.rect_emb_val win0_11 t _ a rfl, idx_11 t]
  match a with
  | ⟨0, _⟩ => exact Cert.Tile.at_zero _ _
  | ⟨1, _⟩ => exact Cert.Tile.at_zero _ _

/-- The block of output window 12 at point `t`, read off an array `G`. -/
theorem ow_12 (c : Dev nD) (t : Fin cfg0.N) (G : Vec F S4224x512 .bf16) (p : Fin 384) (q : Fin 512) :
    ((cfg0.win 12).blk t).view.read (Elt F) G (ix2 p q : S384x512.Idx) = G (ix2 ⟨384 * t.val + p.val, by have := t.isLt; have := p.isLt; have := n_pts; omega⟩ q : S4224x512.Idx) := by
  refine Cert.Tile.slice_read (Val := Elt F) (b := main_v0_0) (win0_12.rect t) _ _ _ fun a => ?_
  rw [Pipeline.Window.rect_emb_val win0_12 t _ a rfl, idx_12 t]
  match a with
  | ⟨0, _⟩ => exact Cert.Tile.at_block _ _ _
  | ⟨1, _⟩ => exact Cert.Tile.at_zero _ _

/-- Every element of output window 12's array lies in a block that is written back. -/
theorem cover_12 (c : Dev nD) (i : ((cfg0.win 12).arr.view.loc (c.tc : Thread nD τ)).2.ty.Idx) :
    ∃ t : Fin cfg0.N, (cfg0.win 12).flush t = true ∧ i ∈ ((cfg0.win 12).blk t).view.set := by
  have h0 : (i 0).val < 4224 := (i 0).isLt
  have h1 : (i 1).val < 512 := (i 1).isLt
  obtain ⟨t, ht⟩ : ∃ t : Fin cfg0.N, t.val = (i 0).val / 384 := ⟨⟨(i 0).val / 384, by have := n_pts; omega⟩, rfl⟩
  refine ⟨t, flush0_12 t, ?_⟩
  show i ∈ ((View.whole main_v0_0).slice (win0_12.rect t)).set
  rw [View.set_slice_whole, Rect.mem_set_unit]
  intro a
  show win0_12.index t a * S384x512.size a ≤ _ ∧ _ < win0_12.index t a * S384x512.size a + S384x512.size a
  rw [idx_12]
  match a with
  | ⟨0, _⟩ => exact (by omega : t.val * 384 ≤ (i 0).val ∧ (i 0).val < t.val * 384 + 384)
  | ⟨1, _⟩ => exact (by omega : 0 * 512 ≤ (i 1).val ∧ (i 1).val < 0 * 512 + 512)

/-- The block of output window 13 at point `t`, read off an array `G`. -/
theorem ow_13 (c : Dev nD) (t : Fin cfg0.N) (G : Vec F S4224x512 .bf16) (p : Fin 384) (q : Fin 512) :
    ((cfg0.win 13).blk t).view.read (Elt F) G (ix2 p q : S384x512.Idx) = G (ix2 ⟨384 * t.val + p.val, by have := t.isLt; have := p.isLt; have := n_pts; omega⟩ q : S4224x512.Idx) := by
  refine Cert.Tile.slice_read (Val := Elt F) (b := main_v0_1) (win0_13.rect t) _ _ _ fun a => ?_
  rw [Pipeline.Window.rect_emb_val win0_13 t _ a rfl, idx_13 t]
  match a with
  | ⟨0, _⟩ => exact Cert.Tile.at_block _ _ _
  | ⟨1, _⟩ => exact Cert.Tile.at_zero _ _

/-- Every element of output window 13's array lies in a block that is written back. -/
theorem cover_13 (c : Dev nD) (i : ((cfg0.win 13).arr.view.loc (c.tc : Thread nD τ)).2.ty.Idx) :
    ∃ t : Fin cfg0.N, (cfg0.win 13).flush t = true ∧ i ∈ ((cfg0.win 13).blk t).view.set := by
  have h0 : (i 0).val < 4224 := (i 0).isLt
  have h1 : (i 1).val < 512 := (i 1).isLt
  obtain ⟨t, ht⟩ : ∃ t : Fin cfg0.N, t.val = (i 0).val / 384 := ⟨⟨(i 0).val / 384, by have := n_pts; omega⟩, rfl⟩
  refine ⟨t, flush0_13 t, ?_⟩
  show i ∈ ((View.whole main_v0_1).slice (win0_13.rect t)).set
  rw [View.set_slice_whole, Rect.mem_set_unit]
  intro a
  show win0_13.index t a * S384x512.size a ≤ _ ∧ _ < win0_13.index t a * S384x512.size a + S384x512.size a
  rw [idx_13]
  match a with
  | ⟨0, _⟩ => exact (by omega : t.val * 384 ≤ (i 0).val ∧ (i 0).val < t.val * 384 + 384)
  | ⟨1, _⟩ => exact (by omega : 0 * 512 ≤ (i 1).val ∧ (i 1).val < 0 * 512 + 512)

/-- The block of output window 14 at point `t`, read off an array `G`. -/
theorem ow_14 (c : Dev nD) (t : Fin cfg0.N) (G : Vec F S4224x512 .bf16) (p : Fin 384) (q : Fin 512) :
    ((cfg0.win 14).blk t).view.read (Elt F) G (ix2 p q : S384x512.Idx) = G (ix2 ⟨384 * t.val + p.val, by have := t.isLt; have := p.isLt; have := n_pts; omega⟩ q : S4224x512.Idx) := by
  refine Cert.Tile.slice_read (Val := Elt F) (b := main_v0_2) (win0_14.rect t) _ _ _ fun a => ?_
  rw [Pipeline.Window.rect_emb_val win0_14 t _ a rfl, idx_14 t]
  match a with
  | ⟨0, _⟩ => exact Cert.Tile.at_block _ _ _
  | ⟨1, _⟩ => exact Cert.Tile.at_zero _ _

/-- Every element of output window 14's array lies in a block that is written back. -/
theorem cover_14 (c : Dev nD) (i : ((cfg0.win 14).arr.view.loc (c.tc : Thread nD τ)).2.ty.Idx) :
    ∃ t : Fin cfg0.N, (cfg0.win 14).flush t = true ∧ i ∈ ((cfg0.win 14).blk t).view.set := by
  have h0 : (i 0).val < 4224 := (i 0).isLt
  have h1 : (i 1).val < 512 := (i 1).isLt
  obtain ⟨t, ht⟩ : ∃ t : Fin cfg0.N, t.val = (i 0).val / 384 := ⟨⟨(i 0).val / 384, by have := n_pts; omega⟩, rfl⟩
  refine ⟨t, flush0_14 t, ?_⟩
  show i ∈ ((View.whole main_v0_2).slice (win0_14.rect t)).set
  rw [View.set_slice_whole, Rect.mem_set_unit]
  intro a
  show win0_14.index t a * S384x512.size a ≤ _ ∧ _ < win0_14.index t a * S384x512.size a + S384x512.size a
  rw [idx_14]
  match a with
  | ⟨0, _⟩ => exact (by omega : t.val * 384 ≤ (i 0).val ∧ (i 0).val < t.val * 384 + 384)
  | ⟨1, _⟩ => exact (by omega : 0 * 512 ≤ (i 1).val ∧ (i 1).val < 0 * 512 + 512)

/-- The block of output window 15 at point `t`, read off an array `G`. -/
theorem ow_15 (c : Dev nD) (t : Fin cfg0.N) (G : Vec F S4224x512 .bf16) (p : Fin 384) (q : Fin 512) :
    ((cfg0.win 15).blk t).view.read (Elt F) G (ix2 p q : S384x512.Idx) = G (ix2 ⟨384 * t.val + p.val, by have := t.isLt; have := p.isLt; have := n_pts; omega⟩ q : S4224x512.Idx) := by
  refine Cert.Tile.slice_read (Val := Elt F) (b := main_v0_3) (win0_15.rect t) _ _ _ fun a => ?_
  rw [Pipeline.Window.rect_emb_val win0_15 t _ a rfl, idx_15 t]
  match a with
  | ⟨0, _⟩ => exact Cert.Tile.at_block _ _ _
  | ⟨1, _⟩ => exact Cert.Tile.at_zero _ _

/-- Every element of output window 15's array lies in a block that is written back. -/
theorem cover_15 (c : Dev nD) (i : ((cfg0.win 15).arr.view.loc (c.tc : Thread nD τ)).2.ty.Idx) :
    ∃ t : Fin cfg0.N, (cfg0.win 15).flush t = true ∧ i ∈ ((cfg0.win 15).blk t).view.set := by
  have h0 : (i 0).val < 4224 := (i 0).isLt
  have h1 : (i 1).val < 512 := (i 1).isLt
  obtain ⟨t, ht⟩ : ∃ t : Fin cfg0.N, t.val = (i 0).val / 384 := ⟨⟨(i 0).val / 384, by have := n_pts; omega⟩, rfl⟩
  refine ⟨t, flush0_15 t, ?_⟩
  show i ∈ ((View.whole main_v0_3).slice (win0_15.rect t)).set
  rw [View.set_slice_whole, Rect.mem_set_unit]
  intro a
  show win0_15.index t a * S384x512.size a ≤ _ ∧ _ < win0_15.index t a * S384x512.size a + S384x512.size a
  rw [idx_15]
  match a with
  | ⟨0, _⟩ => exact (by omega : t.val * 384 ≤ (i 0).val ∧ (i 0).val < t.val * 384 + 384)
  | ⟨1, _⟩ => exact (by omega : 0 * 512 ≤ (i 1).val ∧ (i 1).val < 0 * 512 + 512)

/-- The block of output window 16 at point `t`, read off an array `G`. -/
theorem ow_16 (c : Dev nD) (t : Fin cfg0.N) (G : Vec F S2x4224x128 .bf16) (p : Fin 2) (q : Fin 384) (r : Fin 128) :
    ((cfg0.win 16).blk t).view.read (Elt F) G (ix3 p q r : S2x384x128.Idx) = G (ix3 p ⟨384 * t.val + q.val, by have := t.isLt; have := q.isLt; have := n_pts; omega⟩ r : S2x4224x128.Idx) := by
  refine Cert.Tile.slice_read (Val := Elt F) (b := main_v0_4) (win0_16.rect t) _ _ _ fun a => ?_
  rw [Pipeline.Window.rect_emb_val win0_16 t _ a rfl, idx_16 t]
  match a with
  | ⟨0, _⟩ => exact Cert.Tile.at_zero _ _
  | ⟨1, _⟩ => exact Cert.Tile.at_block _ _ _
  | ⟨2, _⟩ => exact Cert.Tile.at_zero _ _

/-- Every element of output window 16's array lies in a block that is written back. -/
theorem cover_16 (c : Dev nD) (i : ((cfg0.win 16).arr.view.loc (c.tc : Thread nD τ)).2.ty.Idx) :
    ∃ t : Fin cfg0.N, (cfg0.win 16).flush t = true ∧ i ∈ ((cfg0.win 16).blk t).view.set := by
  have h0 : (i 0).val < 2 := (i 0).isLt
  have h1 : (i 1).val < 4224 := (i 1).isLt
  have h2 : (i 2).val < 128 := (i 2).isLt
  obtain ⟨t, ht⟩ : ∃ t : Fin cfg0.N, t.val = (i 1).val / 384 := ⟨⟨(i 1).val / 384, by have := n_pts; omega⟩, rfl⟩
  refine ⟨t, flush0_16 t, ?_⟩
  show i ∈ ((View.whole main_v0_4).slice (win0_16.rect t)).set
  rw [View.set_slice_whole, Rect.mem_set_unit]
  intro a
  show win0_16.index t a * S2x384x128.size a ≤ _ ∧ _ < win0_16.index t a * S2x384x128.size a + S2x384x128.size a
  rw [idx_16]
  match a with
  | ⟨0, _⟩ => exact (by omega : 0 * 2 ≤ (i 0).val ∧ (i 0).val < 0 * 2 + 2)
  | ⟨1, _⟩ => exact (by omega : t.val * 384 ≤ (i 1).val ∧ (i 1).val < t.val * 384 + 384)
  | ⟨2, _⟩ => exact (by omega : 0 * 128 ≤ (i 2).val ∧ (i 2).val < 0 * 128 + 128)

/-- The block of output window 17 at point `t`, read off an array `G`. -/
theorem ow_17 (c : Dev nD) (t : Fin cfg0.N) (G : Vec F S2x4224x128 .bf16) (p : Fin 2) (q : Fin 384) (r : Fin 128) :
    ((cfg0.win 17).blk t).view.read (Elt F) G (ix3 p q r : S2x384x128.Idx) = G (ix3 p ⟨384 * t.val + q.val, by have := t.isLt; have := q.isLt; have := n_pts; omega⟩ r : S2x4224x128.Idx) := by
  refine Cert.Tile.slice_read (Val := Elt F) (b := main_v0_5) (win0_17.rect t) _ _ _ fun a => ?_
  rw [Pipeline.Window.rect_emb_val win0_17 t _ a rfl, idx_17 t]
  match a with
  | ⟨0, _⟩ => exact Cert.Tile.at_zero _ _
  | ⟨1, _⟩ => exact Cert.Tile.at_block _ _ _
  | ⟨2, _⟩ => exact Cert.Tile.at_zero _ _

/-- Every element of output window 17's array lies in a block that is written back. -/
theorem cover_17 (c : Dev nD) (i : ((cfg0.win 17).arr.view.loc (c.tc : Thread nD τ)).2.ty.Idx) :
    ∃ t : Fin cfg0.N, (cfg0.win 17).flush t = true ∧ i ∈ ((cfg0.win 17).blk t).view.set := by
  have h0 : (i 0).val < 2 := (i 0).isLt
  have h1 : (i 1).val < 4224 := (i 1).isLt
  have h2 : (i 2).val < 128 := (i 2).isLt
  obtain ⟨t, ht⟩ : ∃ t : Fin cfg0.N, t.val = (i 1).val / 384 := ⟨⟨(i 1).val / 384, by have := n_pts; omega⟩, rfl⟩
  refine ⟨t, flush0_17 t, ?_⟩
  show i ∈ ((View.whole main_v0_5).slice (win0_17.rect t)).set
  rw [View.set_slice_whole, Rect.mem_set_unit]
  intro a
  show win0_17.index t a * S2x384x128.size a ≤ _ ∧ _ < win0_17.index t a * S2x384x128.size a + S2x384x128.size a
  rw [idx_17]
  match a with
  | ⟨0, _⟩ => exact (by omega : 0 * 2 ≤ (i 0).val ∧ (i 0).val < 0 * 2 + 2)
  | ⟨1, _⟩ => exact (by omega : t.val * 384 ≤ (i 1).val ∧ (i 1).val < t.val * 384 + 384)
  | ⟨2, _⟩ => exact (by omega : 0 * 128 ≤ (i 2).val ∧ (i 2).val < 0 * 128 + 128)

/-- The block of output window 18 at point `t`, read off an array `G`. -/
theorem ow_18 (c : Dev nD) (t : Fin cfg0.N) (G : Vec F S4224x128 .f32) (p : Fin 384) (q : Fin 128) :
    ((cfg0.win 18).blk t).view.read (Elt F) G (ix2 p q : S384x128.Idx) = G (ix2 ⟨384 * t.val + p.val, by have := t.isLt; have := p.isLt; have := n_pts; omega⟩ q : S4224x128.Idx) := by
  refine Cert.Tile.slice_read (Val := Elt F) (b := main_v0_6) (win0_18.rect t) _ _ _ fun a => ?_
  rw [Pipeline.Window.rect_emb_val win0_18 t _ a rfl, idx_18 t]
  match a with
  | ⟨0, _⟩ => exact Cert.Tile.at_block _ _ _
  | ⟨1, _⟩ => exact Cert.Tile.at_zero _ _

/-- Every element of output window 18's array lies in a block that is written back. -/
theorem cover_18 (c : Dev nD) (i : ((cfg0.win 18).arr.view.loc (c.tc : Thread nD τ)).2.ty.Idx) :
    ∃ t : Fin cfg0.N, (cfg0.win 18).flush t = true ∧ i ∈ ((cfg0.win 18).blk t).view.set := by
  have h0 : (i 0).val < 4224 := (i 0).isLt
  have h1 : (i 1).val < 128 := (i 1).isLt
  obtain ⟨t, ht⟩ : ∃ t : Fin cfg0.N, t.val = (i 0).val / 384 := ⟨⟨(i 0).val / 384, by have := n_pts; omega⟩, rfl⟩
  refine ⟨t, flush0_18 t, ?_⟩
  show i ∈ ((View.whole main_v0_6).slice (win0_18.rect t)).set
  rw [View.set_slice_whole, Rect.mem_set_unit]
  intro a
  show win0_18.index t a * S384x128.size a ≤ _ ∧ _ < win0_18.index t a * S384x128.size a + S384x128.size a
  rw [idx_18]
  match a with
  | ⟨0, _⟩ => exact (by omega : t.val * 384 ≤ (i 0).val ∧ (i 0).val < t.val * 384 + 384)
  | ⟨1, _⟩ => exact (by omega : 0 * 128 ≤ (i 1).val ∧ (i 1).val < 0 * 128 + 128)

/-- The block of output window 19 at point `t`, read off an array `G`. -/
theorem ow_19 (c : Dev nD) (t : Fin cfg0.N) (G : Vec F S8x4224 .f32) (p : Fin 8) (q : Fin 384) :
    ((cfg0.win 19).blk t).view.read (Elt F) G (ix2 p q : S8x384.Idx) = G (ix2 p ⟨384 * t.val + q.val, by have := t.isLt; have := q.isLt; have := n_pts; omega⟩ : S8x4224.Idx) := by
  refine Cert.Tile.slice_read (Val := Elt F) (b := main_v0_7) (win0_19.rect t) _ _ _ fun a => ?_
  rw [Pipeline.Window.rect_emb_val win0_19 t _ a rfl, idx_19 t]
  match a with
  | ⟨0, _⟩ => exact Cert.Tile.at_zero _ _
  | ⟨1, _⟩ => exact Cert.Tile.at_block _ _ _

/-- Every element of output window 19's array lies in a block that is written back. -/
theorem cover_19 (c : Dev nD) (i : ((cfg0.win 19).arr.view.loc (c.tc : Thread nD τ)).2.ty.Idx) :
    ∃ t : Fin cfg0.N, (cfg0.win 19).flush t = true ∧ i ∈ ((cfg0.win 19).blk t).view.set := by
  have h0 : (i 0).val < 8 := (i 0).isLt
  have h1 : (i 1).val < 4224 := (i 1).isLt
  obtain ⟨t, ht⟩ : ∃ t : Fin cfg0.N, t.val = (i 1).val / 384 := ⟨⟨(i 1).val / 384, by have := n_pts; omega⟩, rfl⟩
  refine ⟨t, flush0_19 t, ?_⟩
  show i ∈ ((View.whole main_v0_7).slice (win0_19.rect t)).set
  rw [View.set_slice_whole, Rect.mem_set_unit]
  intro a
  show win0_19.index t a * S8x384.size a ≤ _ ∧ _ < win0_19.index t a * S8x384.size a + S8x384.size a
  rw [idx_19]
  match a with
  | ⟨0, _⟩ => exact (by omega : 0 * 8 ≤ (i 0).val ∧ (i 0).val < 0 * 8 + 8)
  | ⟨1, _⟩ => exact (by omega : t.val * 384 ≤ (i 1).val ∧ (i 1).val < t.val * 384 + 384)

/-- The block of output window 20 at point `t`, read off an array `G`. -/
theorem ow_20 (c : Dev nD) (t : Fin cfg0.N) (G : Vec F S512x4224 .bf16) (p : Fin 512) (q : Fin 384) :
    ((cfg0.win 20).blk t).view.read (Elt F) G (ix2 p q : S512x384.Idx) = G (ix2 p ⟨384 * t.val + q.val, by have := t.isLt; have := q.isLt; have := n_pts; omega⟩ : S512x4224.Idx) := by
  refine Cert.Tile.slice_read (Val := Elt F) (b := main_v0_8) (win0_20.rect t) _ _ _ fun a => ?_
  rw [Pipeline.Window.rect_emb_val win0_20 t _ a rfl, idx_20 t]
  match a with
  | ⟨0, _⟩ => exact Cert.Tile.at_zero _ _
  | ⟨1, _⟩ => exact Cert.Tile.at_block _ _ _

/-- Every element of output window 20's array lies in a block that is written back. -/
theorem cover_20 (c : Dev nD) (i : ((cfg0.win 20).arr.view.loc (c.tc : Thread nD τ)).2.ty.Idx) :
    ∃ t : Fin cfg0.N, (cfg0.win 20).flush t = true ∧ i ∈ ((cfg0.win 20).blk t).view.set := by
  have h0 : (i 0).val < 512 := (i 0).isLt
  have h1 : (i 1).val < 4224 := (i 1).isLt
  obtain ⟨t, ht⟩ : ∃ t : Fin cfg0.N, t.val = (i 1).val / 384 := ⟨⟨(i 1).val / 384, by have := n_pts; omega⟩, rfl⟩
  refine ⟨t, flush0_20 t, ?_⟩
  show i ∈ ((View.whole main_v0_8).slice (win0_20.rect t)).set
  rw [View.set_slice_whole, Rect.mem_set_unit]
  intro a
  show win0_20.index t a * S512x384.size a ≤ _ ∧ _ < win0_20.index t a * S512x384.size a + S512x384.size a
  rw [idx_20]
  match a with
  | ⟨0, _⟩ => exact (by omega : 0 * 512 ≤ (i 0).val ∧ (i 0).val < 0 * 512 + 512)
  | ⟨1, _⟩ => exact (by omega : t.val * 384 ≤ (i 1).val ∧ (i 1).val < t.val * 384 + 384)

end Cert.Qn

end
-- ==== Proof.Qn.Decay.lean ====
/-
  The decay: a running sum of log sigmoids down the rows, a tile's row by a product with a lower triangle and the row
  carried from the tile before it.
-/
module

public import proofs.«01_k».proof.Proof.Qn.RefHeads
public import proofs.«01_k».proof.Proof.Qn.Reads
public import Idealize.ShloMosaic.Lib.Routing.OpsOne

@[expose] public section

noncomputable section

namespace Cert.Qn

open Cert.KQnIdeal Cert.KQnIdeal.Gen Idealize.ShloMosaic Idealize.ShloMosaic.TcCoe Idealize.SL.Sem

/-- The log sigmoid of a row entry as the kernel takes it. -/
def lsg (z : EReal) : EReal := min z 0 - Ideal.log (1 + Ideal.exp (0 - max z (-z)))

theorem lane8 (l : Fin 128) : IntOp.cmpi CmpIPredicate.slt (BitVec.ofNat 32 l.val) 8#32 = if l.val < 8 then 1#1 else 0#1 := by
  revert l
  decide +kernel

/-- The lower triangle's entries. -/
theorem tri_at (x r : Fin 384) :
    FloatOps.sitofp (F := Ideal) FTy.f32 (BitVec.setWidth 32 (IntOp.cmpi CmpIPredicate.sle (BitVec.ofNat 32 x.val) (BitVec.ofNat 32 r.val)))
      = if x.val ≤ r.val then (1 : EReal) else 0 := by
  have hx : (BitVec.ofNat 32 x.val).toInt = (x.val : ℤ) := by
    rw [BitVec.toInt_eq_toNat_of_lt (by rw [BitVec.toNat_ofNat]; omega), BitVec.toNat_ofNat]; omega
  have hr : (BitVec.ofNat 32 r.val).toInt = (r.val : ℤ) := by
    rw [BitVec.toInt_eq_toNat_of_lt (by rw [BitVec.toNat_ofNat]; omega), BitVec.toNat_ofNat]; omega
  have e : BitVec.setWidth 32 (IntOp.cmpi CmpIPredicate.sle (BitVec.ofNat 32 x.val) (BitVec.ofNat 32 r.val))
      = if x.val ≤ r.val then 1#32 else 0#32 := by
    unfold IntOp.cmpi
    simp only [BitVec.sle, hx, hr, Nat.cast_le]
    by_cases h : x.val ≤ r.val
    · rw [if_pos h, decide_eq_true h]
      rfl
    · rw [if_neg h, decide_eq_false h]
      rfl
  rw [e]
  split
  · show (((1#32 : BitVec 32).toInt : ℝ) : EReal) = 1
    norm_num
  · show (((0#32 : BitVec 32).toInt : ℝ) : EReal) = 0
    norm_num

theorem pay49_at (z : FVec Ideal S384x128 .f32) (c : Vec Ideal S1x128 .f32) (r : Fin 384) (l : Fin 128) :
    (k0_pay49 (iota .tc S1x128 32 [1] iota_S1x128_d1_w32) z k0_pay47 c (ix2 r l) : EReal)
      = (∑ x : Fin 384, if x.val ≤ r.val then (if l.val < 8 then lsg (z (ix2 x l)) else 0) else 0) + c (ix2 0 l) := by
  unfold k0_pay49 k0_pay47
  pointwise
  congr 1
  refine Finset.sum_congr rfl fun x _ => ?_
  rw [lane8, tri_at]
  by_cases hl : l.val < 8
  · rw [if_pos hl, if_pos hl]
    show ite _ _ _ * lsg (z (ix2 x l)) = _
    split
    · rw [one_mul]
    · rw [zero_mul]
  · rw [if_neg hl, if_neg hl, ite_self]
    rfl

theorem pay50_at (v : IVec S1x128 32) (z y : FVec Ideal S384x128 .f32) (c : Vec Ideal S1x128 .f32) (l : Fin 128) :
    k0_pay50 v z y c (ix2 0 l) = (k0_pay49 v z y c (ix2 383 l) : EReal) := by
  unfold k0_pay50
  generalize k0_pay49 v z y c = w
  pointwise

theorem pay51_at (v : IVec S1x128 32) (z y : FVec Ideal S384x128 .f32) (c : Vec Ideal S1x128 .f32) (i : Fin 8) (r : Fin 384) :
    k0_pay51 v z y c (ix2 i r) = (k0_pay49 v z y c (ix2 r ⟨i.val, by omega⟩) : EReal) := by
  unfold k0_pay51
  generalize k0_pay49 v z y c = w
  pointwise

theorem row0_zero (l : Fin 128) : row0 (F := Ideal) (k0_pay48 (F := Ideal)) (ix2 0 l) = (0 : EReal) := by
  unfold row0 k0_pay48
  exact Ideal.ofBits_zero_f32

variable (m : (ℓ : Loc nD τ sig) → Buf (Elt Ideal) ℓ)

/-- The log sigmoid added at row `r` to the running sum of lane `l`: none past the eight decays and past the rows. -/
def lf (P : Vec Ideal S4224x4480 .f32) (B : Vec Ideal S1x128 .f32) (l : Fin 128) (r : ℕ) : EReal :=
  if h : r < 4224 then if l.val < 8 then lsg (P (ix2 ⟨r, h⟩ ⟨4352 + l.val, by omega⟩) + B (ix2 0 l)) else 0 else 0

theorem zt_at (c : Dev nD) (t : Fin cfg0.N) (x : Fin 384) (l : Fin 128) :
    zt m c t (ix2 x l) = (show EReal from m ((c : Thread nD τ).loc main_arg0) (ix2 ⟨384 * t.val + x.val, by have := t.isLt; have := x.isLt; have := n_pts; omega⟩ ⟨4352 + l.val, by omega⟩ : S4224x4480.Idx))
      + (show EReal from m ((c : Thread nD τ).loc main_arg5) (ix2 0 l : S1x128.Idx)) := by
  rw [← rd_6 m c t x l, ← rd_11 m c t 0 l]
  unfold zt k0_pay46
  pointwise

theorem lf_at (c : Dev nD) (t : Fin cfg0.N) (x : Fin 384) (l : Fin 128) :
    (if l.val < 8 then lsg (zt m c t (ix2 x l)) else 0)
      = lf (m ((c : Thread nD τ).loc main_arg0)) (m ((c : Thread nD τ).loc main_arg5)) l (384 * t.val + x.val) := by
  unfold lf
  rw [dif_pos (by have := t.isLt; have := x.isLt; have := n_pts; omega), zt_at]

/-- A sum over the columns of a lower triangle's row. -/
theorem sum_tri (f : ℕ → EReal) (r : Fin 384) : (∑ x : Fin 384, if x.val ≤ r.val then f x.val else 0) = ∑ i ∈ Finset.range (r.val + 1), f i := by
  rw [Fin.sum_univ_eq_sum_range (fun n : ℕ => if n ≤ r.val then f n else 0) 384, ← Finset.sum_filter]
  refine Finset.sum_congr (Finset.ext fun n => ?_) fun _ _ => rfl
  rw [Finset.mem_range, Finset.mem_filter, Finset.mem_range]
  omega

/-- A tile's sums: its own rows' down to this one, and the carried row. -/
theorem tile_at (c : Dev nD) (t : Fin cfg0.N) (r : Fin 384) (l : Fin 128) :
    (k0_pay49 (iota .tc S1x128 32 [1] iota_S1x128_d1_w32) (zt m c t) k0_pay47 (crow m c t) (ix2 r l) : EReal)
      = (∑ i ∈ Finset.range (r.val + 1), lf (m ((c : Thread nD τ).loc main_arg0)) (m ((c : Thread nD τ).loc main_arg5)) l (384 * t.val + i))
        + crow m c t (ix2 0 l) := by
  rw [pay49_at]
  simp only [lf_at]
  rw [sum_tri (fun i => lf (m ((c : Thread nD τ).loc main_arg0)) (m ((c : Thread nD τ).loc main_arg5)) l (384 * t.val + i)) r]

/-- The carried row before point `n` is the sum over every row of the points before it. -/
theorem crow_at (c : Dev nD) (l : Fin 128) : ∀ (n : ℕ) (h : n < cfg0.N), (crow m c ⟨n, h⟩ (ix2 0 l) : EReal)
    = ∑ i ∈ Finset.range (384 * n), lf (m ((c : Thread nD τ).loc main_arg0)) (m ((c : Thread nD τ).loc main_arg5)) l i
  | 0, h => by
    rw [crow, if_pos (show (0 : ℕ) % 11 = 0 from rfl), row0_zero]
    rfl
  | n + 1, h => by
    have hn : n + 1 < 11 := h
    have h' : n < cfg0.N := Nat.lt_of_succ_lt h
    rw [crow, if_neg (show ¬(n + 1) % 11 = 0 by omega)]
    refine (congrFun (scr_row m c ⟨n, h'⟩) (ix2 0 l)).trans ?_
    rw [pay50_at, tile_at, crow_at c l n h', Nat.mul_succ, add_comm]
    exact (Finset.sum_range_add _ _ _).symm

/-- A tile's sums are the running sums from the first row. -/
theorem run_at (c : Dev nD) (t : Fin cfg0.N) (r : Fin 384) (l : Fin 128) :
    (k0_pay49 (iota .tc S1x128 32 [1] iota_S1x128_d1_w32) (zt m c t) k0_pay47 (crow m c t) (ix2 r l) : EReal)
      = ∑ i ∈ Finset.range (384 * t.val + r.val + 1), lf (m ((c : Thread nD τ).loc main_arg0)) (m ((c : Thread nD τ).loc main_arg5)) l i := by
  rw [tile_at, crow_at m c l t.val t.isLt, Nat.add_assoc, add_comm]
  exact (Finset.sum_range_add _ _ _).symm

/-! ## The reference's running sum -/

theorem foldl_sum {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- A window as high as the matrix, padded low by one row less: the sum of the column's rows down to this one. -/
theorem cum_at (y : Vec Ideal ⟨2, ![4224, 8]⟩ .f32) (v : EReal) (hv : v = 0)
    (h : (⟨2, ![4224, 8]⟩ : Shape).ReduceWindows ![4224, 1] ![1, 1] ![4223, 0] ![0, 0] ⟨2, ![4224, 8]⟩) (r : Fin 4224) (l : Fin 8) :
    Ideal.hostReduceWindowAdd ![4224, 1] ![1, 1] ![4223, 0] ![0, 0] h y v (ix2 r l)
      = ∑ i ∈ Finset.range (r.val + 1), if h : i < 4224 then y (ix2 ⟨i, h⟩ l) else 0 := by
  subst hv
  unfold Ideal.hostReduceWindowAdd Host.reduceWindow
  dsimp only
  let g : ℕ → EReal := fun w => if h : 4223 ≤ r.val + w ∧ r.val + w - 4223 < 4224 then y (ix2 ⟨r.val + w - 4223, h.2⟩ l) else 0
  refine (congrArg (fun f => List.foldl f 0 _) (funext fun a => funext fun n => congrArg (a + ·) (?_ : _ = g n.val))).trans ?_
  · have hw0 : ((⟨2, ![4224, 1]⟩ : Shape).rowMajor.symm n 0).val = n.val := by rw [Routing.symm_col]; rfl
    have hw1 : ((⟨2, ![4224, 1]⟩ : Shape).rowMajor.symm n 1).val = 0 := by rw [Routing.symm_col]; rfl
    by_cases hin : 4223 ≤ r.val + n.val ∧ r.val + n.val - 4223 < 4224
    · refine Eq.trans ?_ (dif_pos hin).symm
      refine (dif_pos fun a => ?_).trans ?_
      · match a with
        | ⟨0, _⟩ =>
          show 4223 ≤ r.val * 1 + ((⟨2, ![4224, 1]⟩ : Shape).rowMajor.symm n 0).val
            ∧ r.val * 1 + ((⟨2, ![4224, 1]⟩ : Shape).rowMajor.symm n 0).val - 4223 < 4224
          rw [hw0]
          omega
        | ⟨1, _⟩ =>
          show 0 ≤ l.val * 1 + ((⟨2, ![4224, 1]⟩ : Shape).rowMajor.symm n 1).val
            ∧ l.val * 1 + ((⟨2, ![4224, 1]⟩ : Shape).rowMajor.symm n 1).val - 0 < 8
          rw [hw1]
          omega
      · refine congrArg y (funext fun a => Fin.ext ?_)
        match a with
        | ⟨0, _⟩ =>
          show r.val * 1 + ((⟨2, ![4224, 1]⟩ : Shape).rowMajor.symm n 0).val - 4223 = r.val + n.val - 4223
          rw [hw0, Nat.mul_one]
        | ⟨1, _⟩ =>
          show l.val * 1 + ((⟨2, ![4224, 1]⟩ : Shape).rowMajor.symm n 1).val - 0 = l.val
          rw [hw1]
          omega
    · refine Eq.trans ?_ (dif_neg hin).symm
      refine dif_neg fun q => hin ?_
      have q0 := q 0
      change 4223 ≤ r.val * 1 + ((⟨2, ![4224, 1]⟩ : Shape).rowMajor.symm n 0).val
        ∧ r.val * 1 + ((⟨2, ![4224, 1]⟩ : Shape).rowMajor.symm n 0).val - 4223 < 4224 at q0
      rw [hw0, Nat.mul_one] at q0
      exact q0
  · rw [foldl_sum, zero_add, ← Fin.sum_univ_def, Fin.sum_univ_eq_sum_range g, Routing.numel_col 4224]
    refine (congrArg (fun k => ∑ w ∈ Finset.range k, g w) (show (4224 : ℕ) = (4223 - r.val) + (r.val + 1) by omega)).trans ?_
    refine (Finset.sum_range_add g (4223 - r.val) (r.val + 1)).trans ?_
    rw [Finset.sum_eq_zero fun w hw => dif_neg (by have := Finset.mem_range.1 hw; omega), zero_add]
    refine Finset.sum_congr rfl fun i hi => ?_
    have hi' := Finset.mem_range.1 hi
    rw [dif_pos (show i < 4224 by omega)]
    refine (dif_pos (show 4223 ≤ r.val + (4223 - r.val + i) ∧ r.val + (4223 - r.val + i) - 4223 < 4224 by omega)).trans ?_
    exact congrArg y (congrArg (fun k => ix2 k l) (Fin.ext (show r.val + (4223 - r.val + i) - 4223 = i by omega)))

/-- The reference's log sigmoid is the kernel's. -/
theorem lsg_eq (z : EReal) : -(if -z ≠ -z then -z else max (-z) 0 + Ideal.log1p (Ideal.exp (-max (-z) (-(-z))))) = lsg z := by
  rw [if_neg (fun h => h rfl), lsg, neg_neg, Ideal.log1p]
  have x0 : Ideal.exp ⊥ = 0 := rfl
  have l1 : Ideal.log 1 = 0 := (if_neg (not_le.2 one_pos)).trans (by rw [Real.log_one, EReal.coe_zero])
  induction z using EReal.rec with
  | bot => simp [x0, l1]
  | top => simp [x0, l1]
  | coe v =>
    have e : max (-(v : EReal)) v = ((|v| : ℝ) : EReal) := by
      rw [← EReal.coe_neg, ← EReal.coe_strictMono.monotone.map_max, max_comm, abs_eq_max_neg]
    have e' : max (v : EReal) (-v) = ((|v| : ℝ) : EReal) := by rw [max_comm, e]
    have p : 0 < 1 + Real.exp (-|v|) := by positivity
    have k : Ideal.log (1 + Ideal.exp (-((|v| : ℝ) : EReal))) = ((Real.log (1 + Real.exp (-|v|)) : ℝ) : EReal) := by
      rw [← EReal.coe_neg]
      show Ideal.log (1 + ((Real.exp (-|v|) : ℝ) : EReal)) = _
      rw [← EReal.coe_one, ← EReal.coe_add]
      exact if_neg (not_le.2 p)
    rw [e, e', zero_sub, k, ← EReal.coe_neg, ← EReal.coe_zero, ← EReal.coe_strictMono.monotone.map_max, ← EReal.coe_strictMono.monotone.map_min, ← EReal.coe_add, ← EReal.coe_sub, ← EReal.coe_neg]
    refine congrArg _ ?_
    rw [neg_add, ← sub_eq_add_neg, ← min_neg_neg, neg_neg, neg_zero]

open Cert.RQnIdeal.Read in
theorem v23_at (x0 : Vec Ideal S4224x4480 .f32) (x5 : Vec Ideal S1x128 .f32) (r : Fin 4224) (l : Fin 8) :
    (val_main_v23 (F := Ideal) x0 x5 (ix2 r l) : EReal) = lf x0 x5 ⟨l.val, by omega⟩ r.val := by
  pointwise [val_main_v23, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_v0, val_main_call0_call0_cst]
  refine (lsg_eq _).trans ?_
  rw [val_main_v22_apply, val_main_v21_apply, val_main_v20_apply, val_main_v19_apply, lf, dif_pos r.isLt, if_pos l.isLt]
  refine congrArg lsg (congrArg₂ (· + ·) (congrArg x0 (funext fun e => ?_)) (congrArg x5 (funext fun e => ?_)))
  · match e with
    | ⟨0, _⟩ => rfl
    | ⟨1, _⟩ => rfl
  · match e with
    | ⟨0, _⟩ => rfl
    | ⟨1, _⟩ => rfl

open Cert.RQnIdeal.Read in
theorem v24_at (x0 : Vec Ideal S4224x4480 .f32) (x5 : Vec Ideal S1x128 .f32) (r : Fin 4224) (l : Fin 8) :
    (val_main_v24 (F := Ideal) x0 x5 (ix2 r l) : EReal) = ∑ i ∈ Finset.range (r.val + 1), lf x0 x5 ⟨l.val, by omega⟩ i := by
  unfold val_main_v24
  simp only [Host.reduceWindowAdd, Ideal.hostReduceWindowAdd_def]
  refine (cum_at _ _ ?_ _ r l).trans (Finset.sum_congr rfl fun i hi => ?_)
  · rw [val_main_call1_call0_v0_apply, val_main_call1_call0_cst_apply]
    exact Ideal.ofBits_zero_f32
  · have hi' : i < 4224 := by have := Finset.mem_range.1 hi; omega
    rw [dif_pos hi', v23_at]

open Cert.RQnIdeal.Read in
theorem v95_at (x0 : Vec Ideal S4224x4480 .f32) (x5 : Vec Ideal S1x128 .f32) (l : Fin 8) (r : Fin 4224) :
    (val_main_v95 (F := Ideal) x0 x5 (ix2 l r) : EReal) = ∑ i ∈ Finset.range (r.val + 1), lf x0 x5 ⟨l.val, by omega⟩ i := by
  rw [val_main_v95_apply, ← v24_at]
  refine congrArg _ (funext fun e => ?_)
  match e with
  | ⟨0, _⟩ => rfl
  | ⟨1, _⟩ => rfl

open Cert.RQnIdeal.Read in
theorem v94_at (x0 : Vec Ideal S4224x4480 .f32) (x5 : Vec Ideal S1x128 .f32) (r : Fin 4224) (l : Fin 128) :
    (val_main_v94 (F := Ideal) x0 x5 (ix2 r l) : EReal) = ∑ i ∈ Finset.range (r.val + 1), lf x0 x5 l i := by
  have hl := l.isLt
  unfold val_main_v94
  by_cases h : l.val < 8
  · refine Eq.trans ?_ (v24_at x0 x5 r ⟨l.val, h⟩)
    refine (dif_pos fun a => ?_).trans (congrArg _ (funext fun a => Fin.ext ?_))
    · match a with
      | ⟨0, _⟩ => exact (show 0 ≤ r.val ∧ (r.val - 0) % (0 + 1) = 0 ∧ (r.val - 0) / (0 + 1) < 4224 by have := r.isLt; omega)
      | ⟨1, _⟩ => exact (show 0 ≤ l.val ∧ (l.val - 0) % (0 + 1) = 0 ∧ (l.val - 0) / (0 + 1) < 8 by omega)
    · match a with
      | ⟨0, _⟩ => exact (show (r.val - 0) / (0 + 1) = r.val by omega)
      | ⟨1, _⟩ => exact (show (l.val - 0) / (0 + 1) = l.val by omega)
  · refine Eq.trans (b := (0 : EReal)) ?_ (Finset.sum_eq_zero fun i _ => ?_).symm
    · refine (dif_neg fun q => ?_).trans ?_
      · have q1 : 0 ≤ l.val ∧ (l.val - 0) % (0 + 1) = 0 ∧ (l.val - 0) / (0 + 1) < 8 := q 1
        omega
      · rw [val_main_call2_v0_apply, val_main_c_apply]
        show (((0#32 : BitVec 32).toInt : ℝ) : EReal) = 0
        norm_num
    · simp [lf, h]

end Cert.Qn

end
-- ==== Proof.Qn.Values.lean ====
/-
  What each point writes back to each result is that block of the reference's result.
-/
module

public import proofs.«01_k».proof.Proof.Qn.Decay

@[expose] public section

noncomputable section

namespace Cert.Qn

open Cert.KQnIdeal Cert.KQnIdeal.Gen Cert.RQnIdeal.Read Idealize.ShloMosaic Idealize.ShloMosaic.TcCoe Idealize.SL.Sem

variable (m : (ℓ : Loc nD τ sig) → Buf (Elt Ideal) ℓ)

theorem colc_at (x : Vec Ideal S384x512 .f32) (b : Fin 4) (r : Fin 384) (l : Fin 128) :
    colc x b (ix2 r l) = x (ix2 r ⟨128 * b.val + l.val, by omega⟩) := by
  match b with
  | 0 | 1 | 2 | 3 =>
    refine congrArg x (funext fun a => Fin.ext ?_)
    match a with
    | ⟨0, _⟩ => exact (show 0 + 1 * r.val = r.val by omega)
    | ⟨1, _⟩ => exact congrArg₂ (· + ·) rfl (Nat.one_mul _)

theorem gaic_at (g : Vec Ideal S1x512 .f32) (b : Fin 4) (l : Fin 128) :
    gaic g b (ix2 0 l) = g (ix2 0 ⟨128 * b.val + l.val, by omega⟩) := by
  match b with
  | 0 | 1 | 2 | 3 =>
    refine congrArg g (funext fun a => Fin.ext ?_)
    match a with
    | ⟨0, _⟩ => rfl
    | ⟨1, _⟩ => exact congrArg₂ (· + ·) rfl (Nat.one_mul _)

/-- The head and the lane within it of lane `l` of chunk `b`. -/
abbrev hd (b : Fin 4) (l : Fin 128) : Fin 8 := ⟨2 * b.val + l.val / 64, by omega⟩
abbrev ln (l : Fin 128) : Fin 64 := ⟨l.val % 64, by omega⟩

theorem lane_eq (b : Fin 4) (l : Fin 128) : (⟨128 * b.val + l.val, by omega⟩ : Fin 512) = ⟨64 * (hd b l).val + (ln l).val, by simp only [hd, ln]; omega⟩ :=
  Fin.ext (by simp only [hd, ln]; omega)

/-- A chunk's head is that head of the whole row. -/
theorem nrm_cols (p : Fin 4480 → EReal) (a : ℕ) (ha : a ≤ 3968) (b : Fin 4) (l : Fin 128) :
    nrm (p ⟨a + (128 * b.val + l.val), by omega⟩) (fun k => p ⟨a + (128 * b.val + (mate l k).val), by have := (mate l k).isLt; omega⟩)
      = nrm (p (col a ha (hd b l) (ln l))) (fun k => p (col a ha (hd b l) k)) := by
  congr 1
  · exact congrArg p (Fin.ext (by simp only [col, hd, ln]; omega))
  · funext k
    exact congrArg p (Fin.ext (by simp only [col, hd, mate]; omega))

/-- The queries and keys that are normalised are finite. -/
def Ok (P : Vec Ideal S4224x4480 .f32) : Prop :=
  ∀ (r : Fin 4224) (q : Fin 4480), (2048 ≤ q.val ∧ q.val < 3072 ∨ 3584 ≤ q.val ∧ q.val < 4224) → Cert.Re.Fin' (P (ix2 r q))

theorem split512 (q : Fin 512) : ∃ (b : Fin 4) (l : Fin 128), q = ⟨128 * b.val + l.val, by omega⟩ :=
  ⟨⟨q.val / 128, by omega⟩, ⟨q.val % 128, by omega⟩, Fin.ext (by show q.val = 128 * (q.val / 128) + q.val % 128; omega)⟩

/-- Result 0's blocks. -/
theorem flushed_12 (c : Dev nD) (t : Fin cfg0.N) (h : Ok (m ((c : Thread nD τ).loc main_arg0))) :
    (dats m 0 c).flushed 12 t = ((cfg0.win 12).blk t).view.read (Elt Ideal) (val_main_v18 (F := Ideal) (m ((c : Thread nD τ).loc main_arg0)) (m ((c : Thread nD τ).loc main_arg1))) := by
  rw [Cert.KQnIdeal.Value.flushed12]
  funext y
  obtain ⟨r, q, rfl⟩ : ∃ (p : Fin 384) (q : Fin 512), y = ix2 p q := ⟨y 0, y 1, eq_ix2 y⟩
  obtain ⟨b, l, rfl⟩ := split512 q
  refine Eq.trans ?_ (ow_12 c t _ r _).symm
  refine (outs_12 m c t b r l).trans ?_
  rw [qv_apply _ _ _ _ fun k => by rw [colc_at, rd_0]; exact h _ _ (by dsimp only; omega)]
  simp only [colc_at, gaic_at, rd_0, rd_7]
  rw [nrm_cols (fun e => m ((c : Thread nD τ).loc main_arg0) (ix2 _ e : S4224x4480.Idx)) 2048 (by omega) b l, lane_eq b l]
  exact (qf_at _ _ _ _ _).symm

/-- Result 1's blocks. -/
theorem flushed_13 (c : Dev nD) (t : Fin cfg0.N) (h : Ok (m ((c : Thread nD τ).loc main_arg0))) :
    (dats m 0 c).flushed 13 t = ((cfg0.win 13).blk t).view.read (Elt Ideal) (val_main_v43 (F := Ideal) (m ((c : Thread nD τ).loc main_arg0)) (m ((c : Thread nD τ).loc main_arg2))) := by
  rw [Cert.KQnIdeal.Value.flushed13]
  funext y
  obtain ⟨r, q, rfl⟩ : ∃ (p : Fin 384) (q : Fin 512), y = ix2 p q := ⟨y 0, y 1, eq_ix2 y⟩
  obtain ⟨b, l, rfl⟩ := split512 q
  refine Eq.trans ?_ (ow_13 c t _ r _).symm
  refine (outs_13 m c t b r l).trans ?_
  rw [kv_apply _ _ _ _ fun k => by rw [colc_at, rd_1]; exact h _ _ (by dsimp only; omega)]
  simp only [colc_at, gaic_at, rd_1, rd_8]
  rw [nrm_cols (fun e => m ((c : Thread nD τ).loc main_arg0) (ix2 _ e : S4224x4480.Idx)) 2560 (by omega) b l, lane_eq b l]
  exact (kf_at _ _ _ _ _).symm

/-- Result 3's blocks. -/
theorem flushed_15 (c : Dev nD) (t : Fin cfg0.N) (h : Ok (m ((c : Thread nD τ).loc main_arg0))) :
    (dats m 0 c).flushed 15 t = ((cfg0.win 15).blk t).view.read (Elt Ideal) (val_main_v64 (F := Ideal) (m ((c : Thread nD τ).loc main_arg0)) (m ((c : Thread nD τ).loc main_arg3))) := by
  rw [Cert.KQnIdeal.Value.flushed15]
  funext y
  obtain ⟨r, q, rfl⟩ : ∃ (p : Fin 384) (q : Fin 512), y = ix2 p q := ⟨y 0, y 1, eq_ix2 y⟩
  obtain ⟨b, l, rfl⟩ := split512 q
  refine Eq.trans ?_ (ow_15 c t _ r _).symm
  refine (outs_15 m c t b r l).trans ?_
  rw [qv_apply _ _ _ _ fun k => by rw [colc_at, rd_3]; exact h _ _ (by dsimp only; omega)]
  simp only [colc_at, gaic_at, rd_3, rd_9]
  rw [nrm_cols (fun e => m ((c : Thread nD τ).loc main_arg0) (ix2 _ e : S4224x4480.Idx)) 3584 (by omega) b l, lane_eq b l]
  exact (qs_at _ _ _ _ _).symm

/-- Result 8's blocks: the queries of result 0, transposed. -/
theorem flushed_20 (c : Dev nD) (t : Fin cfg0.N) (h : Ok (m ((c : Thread nD τ).loc main_arg0))) :
    (dats m 0 c).flushed 20 t = ((cfg0.win 20).blk t).view.read (Elt Ideal) (val_main_v96 (F := Ideal) (m ((c : Thread nD τ).loc main_arg0)) (m ((c : Thread nD τ).loc main_arg1))) := by
  rw [Cert.KQnIdeal.Value.flushed20]
  funext y
  obtain ⟨q, r, rfl⟩ : ∃ (q : Fin 512) (p : Fin 384), y = ix2 q p := ⟨y 0, y 1, eq_ix2 y⟩
  obtain ⟨b, l, rfl⟩ := split512 q
  refine Eq.trans ?_ (ow_20 c t _ _ r).symm
  refine (outs_20 m c t b r l).trans ?_
  rw [tv_apply _ _ _ _ fun k => by rw [colc_at, rd_0]; exact h _ _ (by dsimp only; omega)]
  simp only [colc_at, gaic_at, rd_0, rd_7]
  rw [nrm_cols (fun e => m ((c : Thread nD τ).loc main_arg0) (ix2 _ e : S4224x4480.Idx)) 2048 (by omega) b l, lane_eq b l]
  exact ((qft_at _ _ _ _).trans (qf_at _ _ _ _ _)).symm

/-- Result 2's blocks: the values, rounded. -/
theorem flushed_14 (c : Dev nD) (t : Fin cfg0.N) :
    (dats m 0 c).flushed 14 t = ((cfg0.win 14).blk t).view.read (Elt Ideal) (val_main_v45 (F := Ideal) (m ((c : Thread nD τ).loc main_arg0))) := by
  rw [Cert.KQnIdeal.Value.flushed14, outs_14]
  funext y
  obtain ⟨r, q, rfl⟩ : ∃ (p : Fin 384) (q : Fin 512), y = ix2 p q := ⟨y 0, y 1, eq_ix2 y⟩
  refine Eq.trans ?_ (ow_14 c t _ r _).symm
  exact (rd_2 m c t r q).trans (vf_at _ _ _).symm

/-- A head's mates are the same 64 lanes for each of them. -/
theorem mate_dup (b : Nat) (hb : b < 2) (l : Fin 128) (k : Fin 64) : (mate (dup b hb l) k).val = 64 * b + k.val := by
  simp only [mate, dup]
  omega

/-- A doubled head's entry. -/
theorem keys_at (c : Dev nD) (t : Fin cfg0.N) (h : Ok (m ((c : Thread nD τ).loc main_arg0))) (b : Fin 2) (r : Fin 384) (l : Fin 128) :
    hn (iblk m c 4 t) (iblk m c 10 t) (ix2 r (dup b.val b.isLt l))
      = (val_main_v87 (F := Ideal) (m ((c : Thread nD τ).loc main_arg0)) (m ((c : Thread nD τ).loc main_arg4)) (ix3 b ⟨384 * t.val + r.val, by have := t.isLt; have := n_pts; omega⟩ l) : EReal) := by
  rw [hn_apply _ _ _ _ fun k => by rw [rd_4]; exact h _ _ (by dsimp only; omega)]
  simp only [rd_4, rd_10, mate_dup]
  exact (kse_at _ _ _ _ _).symm

/-- Result 4's blocks: each of two key heads twice. -/
theorem flushed_16 (c : Dev nD) (t : Fin cfg0.N) (h : Ok (m ((c : Thread nD τ).loc main_arg0))) :
    (dats m 0 c).flushed 16 t = ((cfg0.win 16).blk t).view.read (Elt Ideal) (val_main_v87 (F := Ideal) (m ((c : Thread nD τ).loc main_arg0)) (m ((c : Thread nD τ).loc main_arg4))) := by
  rw [Cert.KQnIdeal.Value.flushed16]
  funext y
  obtain ⟨b, r, l, rfl⟩ : ∃ (b : Fin 2) (p : Fin 384) (q : Fin 128), y = ix3 b p q := ⟨y 0, y 1, y 2, eq_ix3 y⟩
  refine Eq.trans ?_ (ow_16 c t _ b r l).symm
  refine (outs_16 m c t b r l).trans ?_
  refine Eq.trans ?_ (keys_at m c t h b r l)
  match b with
  | 0 => exact e41 _ r l
  | 1 => exact e42 _ r l

/-- Result 5's blocks: each of two value heads twice. -/
theorem flushed_17 (c : Dev nD) (t : Fin cfg0.N) :
    (dats m 0 c).flushed 17 t = ((cfg0.win 17).blk t).view.read (Elt Ideal) (val_main_v93 (F := Ideal) (m ((c : Thread nD τ).loc main_arg0))) := by
  rw [Cert.KQnIdeal.Value.flushed17]
  funext y
  obtain ⟨b, r, l, rfl⟩ : ∃ (b : Fin 2) (p : Fin 384) (q : Fin 128), y = ix3 b p q := ⟨y 0, y 1, y 2, eq_ix3 y⟩
  refine Eq.trans ?_ (ow_17 c t _ b r l).symm
  refine (outs_17 m c t b r l).trans ?_
  refine Eq.trans ?_ (((rd_5 m c t r (dup b.val b.isLt l)).trans (vse_at _ b _ l).symm))
  match b with
  | 0 => exact e44 _ r l
  | 1 => exact e45 _ r l

/-- Result 6's blocks: the running sums, in eight of the lanes. -/
theorem flushed_18 (c : Dev nD) (t : Fin cfg0.N) :
    (dats m 0 c).flushed 18 t = ((cfg0.win 18).blk t).view.read (Elt Ideal) (val_main_v94 (F := Ideal) (m ((c : Thread nD τ).loc main_arg0)) (m ((c : Thread nD τ).loc main_arg5))) := by
  rw [Cert.KQnIdeal.Value.flushed18, outs_18]
  funext y
  obtain ⟨r, l, rfl⟩ : ∃ (p : Fin 384) (q : Fin 128), y = ix2 p q := ⟨y 0, y 1, eq_ix2 y⟩
  refine Eq.trans ?_ (ow_18 c t _ r l).symm
  refine (run_at m c t r l).trans ?_
  rw [v94_at]

/-- Result 7's blocks: the running sums, transposed. -/
theorem flushed_19 (c : Dev nD) (t : Fin cfg0.N) :
    (dats m 0 c).flushed 19 t = ((cfg0.win 19).blk t).view.read (Elt Ideal) (val_main_v95 (F := Ideal) (m ((c : Thread nD τ).loc main_arg0)) (m ((c : Thread nD τ).loc main_arg5))) := by
  rw [Cert.KQnIdeal.Value.flushed19, outs_19]
  funext y
  obtain ⟨l, r, rfl⟩ : ∃ (p : Fin 8) (q : Fin 384), y = ix2 p q := ⟨y 0, y 1, eq_ix2 y⟩
  refine Eq.trans ?_ (ow_19 c t _ l r).symm
  refine (pay51_at _ _ _ _ l r).trans ?_
  refine (run_at m c t r ⟨l.val, by omega⟩).trans ?_
  rw [v95_at]

end Cert.Qn

end
-- ==== Proof.Qn.Claim.lean ====
/-
  The head norms and the decay: the call and its reference end with equal results, where the queries and keys are finite.
-/
module

public import proofs.«01_k».proof.Defs
public import proofs.«01_k».proof.Proof.Qn.Values
public import proofs.«01_k».proof.Proof.Gen.KQnIdeal.Value
public import proofs.«01_k».proof.Proof.Gen.RQnIdeal.Run

@[expose] public section

noncomputable section

namespace Cert.Qn

open Cert.KQnIdeal Cert.KQnIdeal.Gen Cert.RQnIdeal.Read Idealize.ShloMosaic Idealize.ShloMosaic.TcCoe Idealize.SL.Sem

/-- The precondition's side conditions. -/
theorem pre_facts : Cert.Pre_qn_finite.Facts := by
  constructor <;> decide

/-- The precondition read element by element. -/
theorem pre_fin [Cert.Pre_qn_finite.Facts] (x0 : Vec Ideal S4224x4480 .f32) (x1 x2 x3 : Vec Ideal S1x512 .f32) (x4 x5 : Vec Ideal S1x128 .f32)
    (h : Cert.Pre_qn_finite.fn (F := Ideal) x0 x1 x2 x3 x4 x5 = fun _ => 1#1) : Ok x0 := by
  have h' := congrFun h (fun a => a.elim0)
  dsimp only [Cert.Pre_qn_finite.fn] at h'
  obtain ⟨h1, h2⟩ := IntOp.andi_eq_one.1 h'
  haveI : Subsingleton Cert.Pre_qn_finite.S_.Idx := ⟨fun a b => funext fun i => i.elim0⟩
  intro r q hq
  rcases hq with hq | hq
  · have e := Host.reduce_andi_all _ _ _ _ _ h1 (ix2 r ⟨q.val - 2048, by omega⟩)
    revert e
    pointwise
    rw [Cert.Re.bot_f32, Cert.Re.top_f32]
    rw [show (⟨2048 + (q.val - 2048), by omega⟩ : Fin 4480) = q from Fin.ext (by show 2048 + (q.val - 2048) = q.val; omega)]
    exact Cert.Re.fin_of_cmp _
  · have e := Host.reduce_andi_all _ _ _ _ _ h2 (ix2 r ⟨q.val - 3584, by omega⟩)
    revert e
    pointwise
    rw [Cert.Re.bot_f32, Cert.Re.top_f32]
    rw [show (⟨3584 + (q.val - 3584), by omega⟩ : Fin 4480) = q from Fin.ext (by show 3584 + (q.val - 3584) = q.val; omega)]
    exact Cert.Re.fin_of_cmp _

/-- The value claim of this call. -/
theorem algebraic [Cert.Pre_qn_finite.Facts] : Cert.algebraic_KQnIdeal_RQnIdeal_pre_qn_finite := by
  intro m g m' g' hp ha
  refine ⟨fun c => (dats m 0 c).arrAt 12 cfg0.N, fun c => (dats m 0 c).arrAt 13 cfg0.N, fun c => (dats m 0 c).arrAt 14 cfg0.N,
    fun c => (dats m 0 c).arrAt 15 cfg0.N, fun c => (dats m 0 c).arrAt 16 cfg0.N, fun c => (dats m 0 c).arrAt 17 cfg0.N,
    fun c => (dats m 0 c).arrAt 18 cfg0.N, fun c => (dats m 0 c).arrAt 19 cfg0.N, fun c => (dats m 0 c).arrAt 20 cfg0.N,
    Cert.KQnIdeal.Value.run_blocks m g, ?_⟩
  refine (θ_run _ _ _).mono (fun r h c => ?_) (Cert.RQnIdeal.Value.run m' g')
  obtain ⟨h0, h1, h2, h3, h4, h5, h6, h7, h8, hargs⟩ := h c
  obtain ⟨a0, a1, a2, a3, a4, a5⟩ := ha c
  have f := pre_fin _ _ _ _ _ _ (hp c)
  refine ⟨h0.trans ?_, h1.trans ?_, h2.trans ?_, h3.trans ?_, h4.trans ?_, h5.trans ?_, h6.trans ?_, h7.trans ?_, h8.trans ?_, hargs⟩
  · exact (val_main_v18_eq _ _).trans (Eq.trans (by rw [a0, a1]) ((dats m 0 c).arrAt_eq_of_cover 12 _ (fun t _ => flushed_12 m c t f) (cover_12 c)).symm)
  · exact (val_main_v43_eq _ _).trans (Eq.trans (by rw [a0, a2]) ((dats m 0 c).arrAt_eq_of_cover 13 _ (fun t _ => flushed_13 m c t f) (cover_13 c)).symm)
  · exact (val_main_v45_eq _).trans (Eq.trans (by rw [a0]) ((dats m 0 c).arrAt_eq_of_cover 14 _ (fun t _ => flushed_14 m c t) (cover_14 c)).symm)
  · exact (val_main_v64_eq _ _).trans (Eq.trans (by rw [a0, a3]) ((dats m 0 c).arrAt_eq_of_cover 15 _ (fun t _ => flushed_15 m c t f) (cover_15 c)).symm)
  · exact (val_main_v87_eq _ _).trans (Eq.trans (by rw [a0, a4]) ((dats m 0 c).arrAt_eq_of_cover 16 _ (fun t _ => flushed_16 m c t f) (cover_16 c)).symm)
  · exact (val_main_v93_eq _).trans (Eq.trans (by rw [a0]) ((dats m 0 c).arrAt_eq_of_cover 17 _ (fun t _ => flushed_17 m c t) (cover_17 c)).symm)
  · exact (val_main_v94_eq _ _).trans (Eq.trans (by rw [a0, a5]) ((dats m 0 c).arrAt_eq_of_cover 18 _ (fun t _ => flushed_18 m c t) (cover_18 c)).symm)
  · exact (val_main_v95_eq _ _).trans (Eq.trans (by rw [a0, a5]) ((dats m 0 c).arrAt_eq_of_cover 19 _ (fun t _ => flushed_19 m c t) (cover_19 c)).symm)
  · exact (val_main_v96_eq _ _).trans (Eq.trans (by rw [a0, a1]) ((dats m 0 c).arrAt_eq_of_cover 20 _ (fun t _ => flushed_20 m c t f) (cover_20 c)).symm)

end Cert.Qn

end
-- ==== Proof.Adam.Step.lean ====
/-
  The optimiser's step of one element, and of a block against a whole array.
-/
module

public import proofs.«01_k».proof.Proof.Tile

@[expose] public section

noncomputable section

namespace Cert.Adam

open Idealize.ShloMosaic

/-- The first moment's and the second moment's new values. -/
def mom (g m : EReal) : EReal := Ideal.ofBits .f32 0x3F666666#32 * m + Ideal.ofBits .f32 0x3DCCCCCD#32 * g
def var (g v : EReal) : EReal := Ideal.ofBits .f32 0x3F7FBE77#32 * v + Ideal.ofBits .f32 0x3A83126F#32 * (g * g)

/-- What is added to the weight. -/
def delta (w g m v : EReal) : EReal :=
  Ideal.ofBits .f32 0xBA83126F#32 * (Ideal.div (Ideal.div (mom g m) (Ideal.ofBits .f32 0x3F26BD02#32)) (Ideal.sqrt (Ideal.div (var g v) (Ideal.ofBits .f32 0x3C231ACC#32)) + Ideal.ofBits .f32 0x322BCC77#32) + Ideal.ofBits .f32 0x3C23D70A#32 * w)

theorem zeros3 : (![0, 0, 0] : Fin 3 → Nat) = fun _ => 0 := by
  funext a; fin_cases a <;> rfl

/-- Blocks of sizes `s`, `r` and `c`, whose numbers run through all of a grid, fill an array. -/
theorem fills {N : Nat} (e : Fin N → Fin 3 → Nat) (s n : Fin 3 → Nat) (hs : ∀ a, 0 < s a)
    (he : ∀ (p : Fin (n 0)) (q : Fin (n 1)) (u : Fin (n 2)), ∃ t, e t 0 = p ∧ e t 1 = q ∧ e t 2 = u)
    (i : Fin 3 → Nat) (hi : ∀ a, i a < n a * s a) :
    ∃ t, ∀ a, e t a * s a ≤ i a ∧ i a < e t a * s a + s a := by
  have hd : ∀ a, i a / s a < n a := fun a => Nat.div_lt_of_lt_mul (Nat.mul_comm (n a) (s a) ▸ hi a)
  obtain ⟨t, h0, h1, h2⟩ := he ⟨_, hd 0⟩ ⟨_, hd 1⟩ ⟨_, hd 2⟩
  refine ⟨t, fun a => ?_⟩
  have h : e t a = i a / s a := match a with
    | 0 => h0
    | 1 => h1
    | 2 => h2
  rw [h]
  exact ⟨Nat.div_mul_le_self _ _, Nat.lt_div_mul_add (hs a)⟩

/-- A block of one array, element by element that of another. -/
theorem blk_eq {A B V : Type} {a b : B → V} {f g : A → V} {p : B → A} (ha : ∀ y, a y = f (p y)) (hb : ∀ y, b y = g (p y))
    (h : ∀ i, f i = g i) : a = b :=
  funext fun y => (ha y).trans ((h _).trans (hb y).symm)

end Cert.Adam

end
-- ==== Proof.Adam.Ai.lean ====
/-
  The optimiser's step of the input projections of the feed-forward blocks.
-/
module

public import proofs.«01_k».proof.Defs
public import proofs.«01_k».proof.Proof.Adam.Step
public import proofs.«01_k».proof.Proof.Gen.KAiIdeal.Value
public import proofs.«01_k».proof.Proof.Gen.RAiIdeal.Read
public import proofs.«01_k».proof.Proof.Gen.RAiIdeal.Run

@[expose] public section

noncomputable section

namespace Cert.Adam.Ai

open Cert.KAiIdeal Cert.KAiIdeal.Gen Idealize.ShloMosaic Idealize.ShloMosaic.TcCoe Idealize.SL.Sem
open Cert.RAiIdeal.Read

/-- Where point `t`'s block lies in an array: every window has its block there. -/
def place (t : Fin cfg0.N) (y : S1x512x1408.Idx) : S2x1024x1408.Idx := (win0_4.rect t).emb y

variable (m : (ℓ : Loc nD τ sig) → Buf (Elt Ideal) ℓ)

abbrev arg0 (c : Dev nD) : Vec Ideal S2x1024x1408 .f32 := m ((c : Thread nD τ).loc main_arg0)
abbrev arg1 (c : Dev nD) : Vec Ideal S2x1024x1408 .f32 := m ((c : Thread nD τ).loc main_arg1)
abbrev arg2 (c : Dev nD) : Vec Ideal S2x1024x1408 .f32 := m ((c : Thread nD τ).loc main_arg2)
abbrev arg3 (c : Dev nD) : Vec Ideal S2x1024x1408 .f32 := m ((c : Thread nD τ).loc main_arg3)

theorem rd_0 (c : Dev nD) (t : Fin cfg0.N) (y : S1x512x1408.Idx) :
    iblk m c 0 t y = arg0 m c (place t y) :=
  Cert.Tile.slice_read (Val := Elt Ideal) (b := main_arg0) (win0_0.rect t) _ _ _ fun _ => rfl

theorem rd_1 (c : Dev nD) (t : Fin cfg0.N) (y : S1x512x1408.Idx) :
    iblk m c 1 t y = arg1 m c (place t y) :=
  Cert.Tile.slice_read (Val := Elt Ideal) (b := main_arg1) (win0_1.rect t) _ _ _ fun _ => rfl

theorem rd_2 (c : Dev nD) (t : Fin cfg0.N) (y : S1x512x1408.Idx) :
    iblk m c 2 t y = arg2 m c (place t y) :=
  Cert.Tile.slice_read (Val := Elt Ideal) (b := main_arg2) (win0_2.rect t) _ _ _ fun _ => rfl

theorem rd_3 (c : Dev nD) (t : Fin cfg0.N) (y : S1x512x1408.Idx) :
    iblk m c 3 t y = arg3 m c (place t y) :=
  Cert.Tile.slice_read (Val := Elt Ideal) (b := main_arg3) (win0_3.rect t) _ _ _ fun _ => rfl

theorem ow_4 (t : Fin cfg0.N) (G : Vec Ideal S2x1024x1408 .f32) (y : S1x512x1408.Idx) :
    ((cfg0.win 4).blk t).view.read (Elt Ideal) G y = G (place t y) :=
  Cert.Tile.slice_read (Val := Elt Ideal) (b := main_v0_0) (win0_4.rect t) _ _ _ fun _ => rfl

theorem ow_5 (t : Fin cfg0.N) (G : Vec Ideal S2x1024x1408 .f32) (y : S1x512x1408.Idx) :
    ((cfg0.win 5).blk t).view.read (Elt Ideal) G y = G (place t y) :=
  Cert.Tile.slice_read (Val := Elt Ideal) (b := main_v0_1) (win0_5.rect t) _ _ _ fun _ => rfl

theorem ow_6 (t : Fin cfg0.N) (G : Vec Ideal S2x1024x1408 .f32) (y : S1x512x1408.Idx) :
    ((cfg0.win 6).blk t).view.read (Elt Ideal) G y = G (place t y) :=
  Cert.Tile.slice_read (Val := Elt Ideal) (b := main_v0_2) (win0_6.rect t) _ _ _ fun _ => rfl

/-- The blocks fill an array. -/
theorem fills (i : S2x1024x1408.Idx) : ∃ t : Fin cfg0.N, i ∈ (win0_4.rect t).set := by
  obtain ⟨t, h⟩ := Cert.Adam.fills win0_4.index S1x512x1408.size ![2, 2, 1] (by decide +kernel) (by decide +kernel)
    (fun a => (i a).val) (fun a => match a with
      | 0 => (i 0).isLt
      | 1 => (i 1).isLt
      | 2 => (i 2).isLt)
  exact ⟨t, Rect.mem_set_unit.2 h⟩

theorem cover_4 (c : Dev nD) (i : ((cfg0.win 4).arr.view.loc (c.tc : Thread nD τ)).2.ty.Idx) :
    ∃ t : Fin cfg0.N, (cfg0.win 4).flush t = true ∧ i ∈ ((cfg0.win 4).blk t).view.set := by
  obtain ⟨t, h⟩ := fills i
  exact ⟨t, flush0_4 t, (congrArg (i ∈ ·) (View.set_slice_whole (b := main_v0_0) (win0_4.rect t))).mpr h⟩

theorem cover_5 (c : Dev nD) (i : ((cfg0.win 5).arr.view.loc (c.tc : Thread nD τ)).2.ty.Idx) :
    ∃ t : Fin cfg0.N, (cfg0.win 5).flush t = true ∧ i ∈ ((cfg0.win 5).blk t).view.set := by
  obtain ⟨t, h⟩ := fills i
  exact ⟨t, flush0_5 t, (congrArg (i ∈ ·) (View.set_slice_whole (b := main_v0_1) (win0_5.rect t))).mpr h⟩

theorem cover_6 (c : Dev nD) (i : ((cfg0.win 6).arr.view.loc (c.tc : Thread nD τ)).2.ty.Idx) :
    ∃ t : Fin cfg0.N, (cfg0.win 6).flush t = true ∧ i ∈ ((cfg0.win 6).blk t).view.set := by
  obtain ⟨t, h⟩ := fills i
  exact ⟨t, flush0_6 t, (congrArg (i ∈ ·) (View.set_slice_whole (b := main_v0_2) (win0_6.rect t))).mpr h⟩

theorem out_4 (x0 x1 x2 x3 : Vec Ideal S1x512x1408 .f32) (y : S1x512x1408.Idx) :
    out0_4 x0 x1 x2 x3 y = delta (x0 y) (x1 y) (x2 y) (x3 y) := by
  obtain ⟨z, p, q, rfl⟩ : ∃ (z : Fin 1) (p : Fin 512) (q : Fin 1408), y = ix3 z p q := ⟨y 0, y 1, y 2, eq_ix3 y⟩
  obtain rfl : z = 0 := Subsingleton.elim _ _
  unfold out0_4 delta mom var
  rw [View.canon_unit_zero zeros3]
  unfold_payloads
  pointwise

/-- What point `t` writes back to output window 4 is that block of the reference's result. -/
theorem flushed_4 (c : Dev nD) (t : Fin cfg0.N) :
    (dats m 0 c).flushed 4 t = ((cfg0.win 4).blk t).view.read (Elt Ideal) (val_main_v23 (arg0 m c) (arg1 m c) (arg2 m c) (arg3 m c)) := by
  rw [Cert.KAiIdeal.Value.flushed4]
  exact blk_eq (p := place t) (f := fun i => delta (arg0 m c i) (arg1 m c i) (arg2 m c i) (arg3 m c i))
    (fun y => (out_4 _ _ _ _ y).trans (by simp only [rd_0, rd_1, rd_2, rd_3])) (ow_4 t _) fun _ => rfl

theorem out_5 (x0 x1 x2 x3 : Vec Ideal S1x512x1408 .f32) (y : S1x512x1408.Idx) :
    out0_5 x0 x1 x2 x3 y = mom (x1 y) (x2 y) := by
  obtain ⟨z, p, q, rfl⟩ : ∃ (z : Fin 1) (p : Fin 512) (q : Fin 1408), y = ix3 z p q := ⟨y 0, y 1, y 2, eq_ix3 y⟩
  obtain rfl : z = 0 := Subsingleton.elim _ _
  unfold out0_5 mom
  rw [View.canon_unit_zero zeros3]
  unfold_payloads
  pointwise

/-- What point `t` writes back to output window 5 is that block of the reference's result. -/
theorem flushed_5 (c : Dev nD) (t : Fin cfg0.N) :
    (dats m 0 c).flushed 5 t = ((cfg0.win 5).blk t).view.read (Elt Ideal) (val_main_v4 (arg1 m c) (arg2 m c)) := by
  rw [Cert.KAiIdeal.Value.flushed5]
  exact blk_eq (p := place t) (f := fun i => mom (arg1 m c i) (arg2 m c i))
    (fun y => (out_5 _ _ _ _ y).trans (by simp only [rd_1, rd_2])) (ow_5 t _) fun _ => rfl

theorem out_6 (x0 x1 x2 x3 : Vec Ideal S1x512x1408 .f32) (y : S1x512x1408.Idx) :
    out0_6 x0 x1 x2 x3 y = var (x1 y) (x3 y) := by
  obtain ⟨z, p, q, rfl⟩ : ∃ (z : Fin 1) (p : Fin 512) (q : Fin 1408), y = ix3 z p q := ⟨y 0, y 1, y 2, eq_ix3 y⟩
  obtain rfl : z = 0 := Subsingleton.elim _ _
  unfold out0_6 var
  rw [View.canon_unit_zero zeros3]
  unfold_payloads
  pointwise

/-- What point `t` writes back to output window 6 is that block of the reference's result. -/
theorem flushed_6 (c : Dev nD) (t : Fin cfg0.N) :
    (dats m 0 c).flushed 6 t = ((cfg0.win 6).blk t).view.read (Elt Ideal) (val_main_v10 (arg1 m c) (arg3 m c)) := by
  rw [Cert.KAiIdeal.Value.flushed6]
  exact blk_eq (p := place t) (f := fun i => var (arg1 m c i) (arg3 m c i))
    (fun y => (out_6 _ _ _ _ y).trans (by simp only [rd_1, rd_3])) (ow_6 t _) fun _ => rfl

/-- The value claim of this call. -/
theorem algebraic : Cert.algebraic_KAiIdeal_RAiIdeal := by
  intro m g m' g' _ ha
  refine ⟨fun c => (dats m 0 c).arrAt 4 cfg0.N, fun c => (dats m 0 c).arrAt 5 cfg0.N, fun c => (dats m 0 c).arrAt 6 cfg0.N, Cert.KAiIdeal.Value.run_blocks m g, ?_⟩
  refine (θ_run _ _ _).mono (fun r h c => ?_) (Cert.RAiIdeal.Value.run m' g')
  obtain ⟨h4, h5, h6, hargs⟩ := h c
  obtain ⟨a0, a1, a2, a3⟩ := ha c
  refine ⟨h4.trans ?_, h5.trans ?_, h6.trans ?_, hargs⟩
  · exact (val_main_v23_eq _ _ _ _).trans (Eq.trans (by rw [a0, a1, a2, a3]) ((dats m 0 c).arrAt_eq_of_cover 4 _ (fun t _ => flushed_4 m c t) (cover_4 c)).symm)
  · exact (val_main_v4_eq _ _).trans (Eq.trans (by rw [a1, a2]) ((dats m 0 c).arrAt_eq_of_cover 5 _ (fun t _ => flushed_5 m c t) (cover_5 c)).symm)
  · exact (val_main_v10_eq _ _).trans (Eq.trans (by rw [a1, a3]) ((dats m 0 c).arrAt_eq_of_cover 6 _ (fun t _ => flushed_6 m c t) (cover_6 c)).symm)

end Cert.Adam.Ai

end
-- ==== Proof.Adam.Ao.lean ====
/-
  The optimiser's step of the output projections of the feed-forward blocks.
-/
module

public import proofs.«01_k».proof.Defs
public import proofs.«01_k».proof.Proof.Adam.Step
public import proofs.«01_k».proof.Proof.Gen.KAoIdeal.Value
public import proofs.«01_k».proof.Proof.Gen.RAoIdeal.Read
public import proofs.«01_k».proof.Proof.Gen.RAoIdeal.Run

@[expose] public section

noncomputable section

namespace Cert.Adam.Ao

open Cert.KAoIdeal Cert.KAoIdeal.Gen Idealize.ShloMosaic Idealize.ShloMosaic.TcCoe Idealize.SL.Sem
open Cert.RAoIdeal.Read

/-- Where point `t`'s block lies in an array: every window has its block there. -/
def place (t : Fin cfg0.N) (y : S1x352x1024.Idx) : S2x704x1024.Idx := (win0_4.rect t).emb y

variable (m : (ℓ : Loc nD τ sig) → Buf (Elt Ideal) ℓ)

abbrev arg0 (c : Dev nD) : Vec Ideal S2x704x1024 .f32 := m ((c : Thread nD τ).loc main_arg0)
abbrev arg1 (c : Dev nD) : Vec Ideal S2x704x1024 .f32 := m ((c : Thread nD τ).loc main_arg1)
abbrev arg2 (c : Dev nD) : Vec Ideal S2x704x1024 .f32 := m ((c : Thread nD τ).loc main_arg2)
abbrev arg3 (c : Dev nD) : Vec Ideal S2x704x1024 .f32 := m ((c : Thread nD τ).loc main_arg3)

theorem rd_0 (c : Dev nD) (t : Fin cfg0.N) (y : S1x352x1024.Idx) :
    iblk m c 0 t y = arg0 m c (place t y) :=
  Cert.Tile.slice_read (Val := Elt Ideal) (b := main_arg0) (win0_0.rect t) _ _ _ fun _ => rfl

theorem rd_1 (c : Dev nD) (t : Fin cfg0.N) (y : S1x352x1024.Idx) :
    iblk m c 1 t y = arg1 m c (place t y) :=
  Cert.Tile.slice_read (Val := Elt Ideal) (b := main_arg1) (win0_1.rect t) _ _ _ fun _ => rfl

theorem rd_2 (c : Dev nD) (t : Fin cfg0.N) (y : S1x352x1024.Idx) :
    iblk m c 2 t y = arg2 m c (place t y) :=
  Cert.Tile.slice_read (Val := Elt Ideal) (b := main_arg2) (win0_2.rect t) _ _ _ fun _ => rfl

theorem rd_3 (c : Dev nD) (t : Fin cfg0.N) (y : S1x352x1024.Idx) :
    iblk m c 3 t y = arg3 m c (place t y) :=
  Cert.Tile.slice_read (Val := Elt Ideal) (b := main_arg3) (win0_3.rect t) _ _ _ fun _ => rfl

theorem ow_4 (t : Fin cfg0.N) (G : Vec Ideal S2x704x1024 .f32) (y : S1x352x1024.Idx) :
    ((cfg0.win 4).blk t).view.read (Elt Ideal) G y = G (place t y) :=
  Cert.Tile.slice_read (Val := Elt Ideal) (b := main_v0_0) (win0_4.rect t) _ _ _ fun _ => rfl

theorem ow_5 (t : Fin cfg0.N) (G : Vec Ideal S2x704x1024 .f32) (y : S1x352x1024.Idx) :
    ((cfg0.win 5).blk t).view.read (Elt Ideal) G y = G (place t y) :=
  Cert.Tile.slice_read (Val := Elt Ideal) (b := main_v0_1) (win0_5.rect t) _ _ _ fun _ => rfl

theorem ow_6 (t : Fin cfg0.N) (G : Vec Ideal S2x704x1024 .f32) (y : S1x352x1024.Idx) :
    ((cfg0.win 6).blk t).view.read (Elt Ideal) G y = G (place t y) :=
  Cert.Tile.slice_read (Val := Elt Ideal) (b := main_v0_2) (win0_6.rect t) _ _ _ fun _ => rfl

/-- The blocks fill an array. -/
theorem fills (i : S2x704x1024.Idx) : ∃ t : Fin cfg0.N, i ∈ (win0_4.rect t).set := by
  obtain ⟨t, h⟩ := Cert.Adam.fills win0_4.index S1x352x1024.size ![2, 2, 1] (by decide +kernel) (by decide +kernel)
    (fun a => (i a).val) (fun a => match a with
      | 0 => (i 0).isLt
      | 1 => (i 1).isLt
      | 2 => (i 2).isLt)
  exact ⟨t, Rect.mem_set_unit.2 h⟩

theorem cover_4 (c : Dev nD) (i : ((cfg0.win 4).arr.view.loc (c.tc : Thread nD τ)).2.ty.Idx) :
    ∃ t : Fin cfg0.N, (cfg0.win 4).flush t = true ∧ i ∈ ((cfg0.win 4).blk t).view.set := by
  obtain ⟨t, h⟩ := fills i
  exact ⟨t, flush0_4 t, (congrArg (i ∈ ·) (View.set_slice_whole (b := main_v0_0) (win0_4.rect t))).mpr h⟩

theorem cover_5 (c : Dev nD) (i : ((cfg0.win 5).arr.view.loc (c.tc : Thread nD τ)).2.ty.Idx) :
    ∃ t : Fin cfg0.N, (cfg0.win 5).flush t = true ∧ i ∈ ((cfg0.win 5).blk t).view.set := by
  obtain ⟨t, h⟩ := fills i
  exact ⟨t, flush0_5 t, (congrArg (i ∈ ·) (View.set_slice_whole (b := main_v0_1) (win0_5.rect t))).mpr h⟩

theorem cover_6 (c : Dev nD) (i : ((cfg0.win 6).arr.view.loc (c.tc : Thread nD τ)).2.ty.Idx) :
    ∃ t : Fin cfg0.N, (cfg0.win 6).flush t = true ∧ i ∈ ((cfg0.win 6).blk t).view.set := by
  obtain ⟨t, h⟩ := fills i
  exact ⟨t, flush0_6 t, (congrArg (i ∈ ·) (View.set_slice_whole (b := main_v0_2) (win0_6.rect t))).mpr h⟩

theorem out_4 (x0 x1 x2 x3 : Vec Ideal S1x352x1024 .f32) (y : S1x352x1024.Idx) :
    out0_4 x0 x1 x2 x3 y = delta (x0 y) (x1 y) (x2 y) (x3 y) := by
  obtain ⟨z, p, q, rfl⟩ : ∃ (z : Fin 1) (p : Fin 352) (q : Fin 1024), y = ix3 z p q := ⟨y 0, y 1, y 2, eq_ix3 y⟩
  obtain rfl : z = 0 := Subsingleton.elim _ _
  unfold out0_4 delta mom var
  rw [View.canon_unit_zero zeros3]
  unfold_payloads
  pointwise

/-- What point `t` writes back to output window 4 is that block of the reference's result. -/
theorem flushed_4 (c : Dev nD) (t : Fin cfg0.N) :
    (dats m 0 c).flushed 4 t = ((cfg0.win 4).blk t).view.read (Elt Ideal) (val_main_v23 (arg0 m c) (arg1 m c) (arg2 m c) (arg3 m c)) := by
  rw [Cert.KAoIdeal.Value.flushed4]
  exact blk_eq (p := place t) (f := fun i => delta (arg0 m c i) (arg1 m c i) (arg2 m c i) (arg3 m c i))
    (fun y => (out_4 _ _ _ _ y).trans (by simp only [rd_0, rd_1, rd_2, rd_3])) (ow_4 t _) fun _ => rfl

theorem out_5 (x0 x1 x2 x3 : Vec Ideal S1x352x1024 .f32) (y : S1x352x1024.Idx) :
    out0_5 x0 x1 x2 x3 y = mom (x1 y) (x2 y) := by
  obtain ⟨z, p, q, rfl⟩ : ∃ (z : Fin 1) (p : Fin 352) (q : Fin 1024), y = ix3 z p q := ⟨y 0, y 1, y 2, eq_ix3 y⟩
  obtain rfl : z = 0 := Subsingleton.elim _ _
  unfold out0_5 mom
  rw [View.canon_unit_zero zeros3]
  unfold_payloads
  pointwise

/-- What point `t` writes back to output window 5 is that block of the reference's result. -/
theorem flushed_5 (c : Dev nD) (t : Fin cfg0.N) :
    (dats m 0 c).flushed 5 t = ((cfg0.win 5).blk t).view.read (Elt Ideal) (val_main_v4 (arg1 m c) (arg2 m c)) := by
  rw [Cert.KAoIdeal.Value.flushed5]
  exact blk_eq (p := place t) (f := fun i => mom (arg1 m c i) (arg2 m c i))
    (fun y => (out_5 _ _ _ _ y).trans (by simp only [rd_1, rd_2])) (ow_5 t _) fun _ => rfl

theorem out_6 (x0 x1 x2 x3 : Vec Ideal S1x352x1024 .f32) (y : S1x352x1024.Idx) :
    out0_6 x0 x1 x2 x3 y = var (x1 y) (x3 y) := by
  obtain ⟨z, p, q, rfl⟩ : ∃ (z : Fin 1) (p : Fin 352) (q : Fin 1024), y = ix3 z p q := ⟨y 0, y 1, y 2, eq_ix3 y⟩
  obtain rfl : z = 0 := Subsingleton.elim _ _
  unfold out0_6 var
  rw [View.canon_unit_zero zeros3]
  unfold_payloads
  pointwise

/-- What point `t` writes back to output window 6 is that block of the reference's result. -/
theorem flushed_6 (c : Dev nD) (t : Fin cfg0.N) :
    (dats m 0 c).flushed 6 t = ((cfg0.win 6).blk t).view.read (Elt Ideal) (val_main_v10 (arg1 m c) (arg3 m c)) := by
  rw [Cert.KAoIdeal.Value.flushed6]
  exact blk_eq (p := place t) (f := fun i => var (arg1 m c i) (arg3 m c i))
    (fun y => (out_6 _ _ _ _ y).trans (by simp only [rd_1, rd_3])) (ow_6 t _) fun _ => rfl

/-- The value claim of this call. -/
theorem algebraic : Cert.algebraic_KAoIdeal_RAoIdeal := by
  intro m g m' g' _ ha
  refine ⟨fun c => (dats m 0 c).arrAt 4 cfg0.N, fun c => (dats m 0 c).arrAt 5 cfg0.N, fun c => (dats m 0 c).arrAt 6 cfg0.N, Cert.KAoIdeal.Value.run_blocks m g, ?_⟩
  refine (θ_run _ _ _).mono (fun r h c => ?_) (Cert.RAoIdeal.Value.run m' g')
  obtain ⟨h4, h5, h6, hargs⟩ := h c
  obtain ⟨a0, a1, a2, a3⟩ := ha c
  refine ⟨h4.trans ?_, h5.trans ?_, h6.trans ?_, hargs⟩
  · exact (val_main_v23_eq _ _ _ _).trans (Eq.trans (by rw [a0, a1, a2, a3]) ((dats m 0 c).arrAt_eq_of_cover 4 _ (fun t _ => flushed_4 m c t) (cover_4 c)).symm)
  · exact (val_main_v4_eq _ _).trans (Eq.trans (by rw [a1, a2]) ((dats m 0 c).arrAt_eq_of_cover 5 _ (fun t _ => flushed_5 m c t) (cover_5 c)).symm)
  · exact (val_main_v10_eq _ _).trans (Eq.trans (by rw [a1, a3]) ((dats m 0 c).arrAt_eq_of_cover 6 _ (fun t _ => flushed_6 m c t) (cover_6 c)).symm)

end Cert.Adam.Ao

end
-- ==== Proof.Adam.Am.lean ====
/-
  The optimiser's step of the mixer's projection, transposed.
-/
module

public import proofs.«01_k».proof.Defs
public import proofs.«01_k».proof.Proof.Adam.Step
public import proofs.«01_k».proof.Proof.Gen.KAmIdeal.Value
public import proofs.«01_k».proof.Proof.Gen.RAmIdeal.Read
public import proofs.«01_k».proof.Proof.Gen.RAmIdeal.Run

@[expose] public section

noncomputable section

namespace Cert.Adam.Am

open Cert.KAmIdeal Cert.KAmIdeal.Gen Idealize.ShloMosaic Idealize.ShloMosaic.TcCoe Idealize.SL.Sem
open Cert.RAmIdeal.Read

/-- Where point `t`'s block lies in an array: every window has its block there. -/
def place (t : Fin cfg0.N) (y : S1x1090x256.Idx) : S2x1090x1024.Idx := (win0_4.rect t).emb y

variable (m : (ℓ : Loc nD τ sig) → Buf (Elt Ideal) ℓ)

abbrev arg0 (c : Dev nD) : Vec Ideal S2x1090x1024 .f32 := m ((c : Thread nD τ).loc main_arg0)
abbrev arg1 (c : Dev nD) : Vec Ideal S2x1090x1024 .f32 := m ((c : Thread nD τ).loc main_arg1)
abbrev arg2 (c : Dev nD) : Vec Ideal S2x1090x1024 .f32 := m ((c : Thread nD τ).loc main_arg2)
abbrev arg3 (c : Dev nD) : Vec Ideal S2x1090x1024 .f32 := m ((c : Thread nD τ).loc main_arg3)

theorem rd_0 (c : Dev nD) (t : Fin cfg0.N) (y : S1x1090x256.Idx) :
    iblk m c 0 t y = arg0 m c (place t y) :=
  Cert.Tile.slice_read (Val := Elt Ideal) (b := main_arg0) (win0_0.rect t) _ _ _ fun _ => rfl

theorem rd_1 (c : Dev nD) (t : Fin cfg0.N) (y : S1x1090x256.Idx) :
    iblk m c 1 t y = arg1 m c (place t y) :=
  Cert.Tile.slice_read (Val := Elt Ideal) (b := main_arg1) (win0_1.rect t) _ _ _ fun _ => rfl

theorem rd_2 (c : Dev nD) (t : Fin cfg0.N) (y : S1x1090x256.Idx) :
    iblk m c 2 t y = arg2 m c (place t y) :=
  Cert.Tile.slice_read (Val := Elt Ideal) (b := main_arg2) (win0_2.rect t) _ _ _ fun _ => rfl

theorem rd_3 (c : Dev nD) (t : Fin cfg0.N) (y : S1x1090x256.Idx) :
    iblk m c 3 t y = arg3 m c (place t y) :=
  Cert.Tile.slice_read (Val := Elt Ideal) (b := main_arg3) (win0_3.rect t) _ _ _ fun _ => rfl

theorem ow_4 (t : Fin cfg0.N) (G : Vec Ideal S2x1090x1024 .f32) (y : S1x1090x256.Idx) :
    ((cfg0.win 4).blk t).view.read (Elt Ideal) G y = G (place t y) :=
  Cert.Tile.slice_read (Val := Elt Ideal) (b := main_v0_0) (win0_4.rect t) _ _ _ fun _ => rfl

theorem ow_5 (t : Fin cfg0.N) (G : Vec Ideal S2x1090x1024 .f32) (y : S1x1090x256.Idx) :
    ((cfg0.win 5).blk t).view.read (Elt Ideal) G y = G (place t y) :=
  Cert.Tile.slice_read (Val := Elt Ideal) (b := main_v0_1) (win0_5.rect t) _ _ _ fun _ => rfl

theorem ow_6 (t : Fin cfg0.N) (G : Vec Ideal S2x1090x1024 .f32) (y : S1x1090x256.Idx) :
    ((cfg0.win 6).blk t).view.read (Elt Ideal) G y = G (place t y) :=
  Cert.Tile.slice_read (Val := Elt Ideal) (b := main_v0_2) (win0_6.rect t) _ _ _ fun _ => rfl

/-- The blocks fill an array. -/
theorem fills (i : S2x1090x1024.Idx) : ∃ t : Fin cfg0.N, i ∈ (win0_4.rect t).set := by
  obtain ⟨t, h⟩ := Cert.Adam.fills win0_4.index S1x1090x256.size ![2, 1, 4] (by decide +kernel) (by decide +kernel)
    (fun a => (i a).val) (fun a => match a with
      | 0 => (i 0).isLt
      | 1 => (i 1).isLt
      | 2 => (i 2).isLt)
  exact ⟨t, Rect.mem_set_unit.2 h⟩

theorem cover_4 (c : Dev nD) (i : ((cfg0.win 4).arr.view.loc (c.tc : Thread nD τ)).2.ty.Idx) :
    ∃ t : Fin cfg0.N, (cfg0.win 4).flush t = true ∧ i ∈ ((cfg0.win 4).blk t).view.set := by
  obtain ⟨t, h⟩ := fills i
  exact ⟨t, flush0_4 t, (congrArg (i ∈ ·) (View.set_slice_whole (b := main_v0_0) (win0_4.rect t))).mpr h⟩

theorem cover_5 (c : Dev nD) (i : ((cfg0.win 5).arr.view.loc (c.tc : Thread nD τ)).2.ty.Idx) :
    ∃ t : Fin cfg0.N, (cfg0.win 5).flush t = true ∧ i ∈ ((cfg0.win 5).blk t).view.set := by
  obtain ⟨t, h⟩ := fills i
  exact ⟨t, flush0_5 t, (congrArg (i ∈ ·) (View.set_slice_whole (b := main_v0_1) (win0_5.rect t))).mpr h⟩

theorem cover_6 (c : Dev nD) (i : ((cfg0.win 6).arr.view.loc (c.tc : Thread nD τ)).2.ty.Idx) :
    ∃ t : Fin cfg0.N, (cfg0.win 6).flush t = true ∧ i ∈ ((cfg0.win 6).blk t).view.set := by
  obtain ⟨t, h⟩ := fills i
  exact ⟨t, flush0_6 t, (congrArg (i ∈ ·) (View.set_slice_whole (b := main_v0_2) (win0_6.rect t))).mpr h⟩

theorem out_4 (x0 x1 x2 x3 : Vec Ideal S1x1090x256 .f32) (y : S1x1090x256.Idx) :
    out0_4 x0 x1 x2 x3 y = delta (x0 y) (x1 y) (x2 y) (x3 y) := by
  obtain ⟨z, p, q, rfl⟩ : ∃ (z : Fin 1) (p : Fin 1090) (q : Fin 256), y = ix3 z p q := ⟨y 0, y 1, y 2, eq_ix3 y⟩
  obtain rfl : z = 0 := Subsingleton.elim _ _
  unfold out0_4 delta mom var
  rw [View.canon_unit_zero zeros3]
  unfold_payloads
  pointwise

/-- What point `t` writes back to output window 4 is that block of the reference's result. -/
theorem flushed_4 (c : Dev nD) (t : Fin cfg0.N) :
    (dats m 0 c).flushed 4 t = ((cfg0.win 4).blk t).view.read (Elt Ideal) (val_main_v23 (arg0 m c) (arg1 m c) (arg2 m c) (arg3 m c)) := by
  rw [Cert.KAmIdeal.Value.flushed4]
  exact blk_eq (p := place t) (f := fun i => delta (arg0 m c i) (arg1 m c i) (arg2 m c i) (arg3 m c i))
    (fun y => (out_4 _ _ _ _ y).trans (by simp only [rd_0, rd_1, rd_2, rd_3])) (ow_4 t _) fun _ => rfl

theorem out_5 (x0 x1 x2 x3 : Vec Ideal S1x1090x256 .f32) (y : S1x1090x256.Idx) :
    out0_5 x0 x1 x2 x3 y = mom (x1 y) (x2 y) := by
  obtain ⟨z, p, q, rfl⟩ : ∃ (z : Fin 1) (p : Fin 1090) (q : Fin 256), y = ix3 z p q := ⟨y 0, y 1, y 2, eq_ix3 y⟩
  obtain rfl : z = 0 := Subsingleton.elim _ _
  unfold out0_5 mom
  rw [View.canon_unit_zero zeros3]
  unfold_payloads
  pointwise

/-- What point `t` writes back to output window 5 is that block of the reference's result. -/
theorem flushed_5 (c : Dev nD) (t : Fin cfg0.N) :
    (dats m 0 c).flushed 5 t = ((cfg0.win 5).blk t).view.read (Elt Ideal) (val_main_v4 (arg1 m c) (arg2 m c)) := by
  rw [Cert.KAmIdeal.Value.flushed5]
  exact blk_eq (p := place t) (f := fun i => mom (arg1 m c i) (arg2 m c i))
    (fun y => (out_5 _ _ _ _ y).trans (by simp only [rd_1, rd_2])) (ow_5 t _) fun _ => rfl

theorem out_6 (x0 x1 x2 x3 : Vec Ideal S1x1090x256 .f32) (y : S1x1090x256.Idx) :
    out0_6 x0 x1 x2 x3 y = var (x1 y) (x3 y) := by
  obtain ⟨z, p, q, rfl⟩ : ∃ (z : Fin 1) (p : Fin 1090) (q : Fin 256), y = ix3 z p q := ⟨y 0, y 1, y 2, eq_ix3 y⟩
  obtain rfl : z = 0 := Subsingleton.elim _ _
  unfold out0_6 var
  rw [View.canon_unit_zero zeros3]
  unfold_payloads
  pointwise

/-- What point `t` writes back to output window 6 is that block of the reference's result. -/
theorem flushed_6 (c : Dev nD) (t : Fin cfg0.N) :
    (dats m 0 c).flushed 6 t = ((cfg0.win 6).blk t).view.read (Elt Ideal) (val_main_v10 (arg1 m c) (arg3 m c)) := by
  rw [Cert.KAmIdeal.Value.flushed6]
  exact blk_eq (p := place t) (f := fun i => var (arg1 m c i) (arg3 m c i))
    (fun y => (out_6 _ _ _ _ y).trans (by simp only [rd_1, rd_3])) (ow_6 t _) fun _ => rfl

/-- The value claim of this call. -/
theorem algebraic : Cert.algebraic_KAmIdeal_RAmIdeal := by
  intro m g m' g' _ ha
  refine ⟨fun c => (dats m 0 c).arrAt 4 cfg0.N, fun c => (dats m 0 c).arrAt 5 cfg0.N, fun c => (dats m 0 c).arrAt 6 cfg0.N, Cert.KAmIdeal.Value.run_blocks m g, ?_⟩
  refine (θ_run _ _ _).mono (fun r h c => ?_) (Cert.RAmIdeal.Value.run m' g')
  obtain ⟨h4, h5, h6, hargs⟩ := h c
  obtain ⟨a0, a1, a2, a3⟩ := ha c
  refine ⟨h4.trans ?_, h5.trans ?_, h6.trans ?_, hargs⟩
  · exact (val_main_v23_eq _ _ _ _).trans (Eq.trans (by rw [a0, a1, a2, a3]) ((dats m 0 c).arrAt_eq_of_cover 4 _ (fun t _ => flushed_4 m c t) (cover_4 c)).symm)
  · exact (val_main_v4_eq _ _).trans (Eq.trans (by rw [a1, a2]) ((dats m 0 c).arrAt_eq_of_cover 5 _ (fun t _ => flushed_5 m c t) (cover_5 c)).symm)
  · exact (val_main_v10_eq _ _).trans (Eq.trans (by rw [a1, a3]) ((dats m 0 c).arrAt_eq_of_cover 6 _ (fun t _ => flushed_6 m c t) (cover_6 c)).symm)

end Cert.Adam.Am

end
-- ==== Proof.Adam.Ab.lean ====
/-
  The optimiser's step of the attentions' branch projections.
-/
module

public import proofs.«01_k».proof.Defs
public import proofs.«01_k».proof.Proof.Adam.Step
public import proofs.«01_k».proof.Proof.Gen.KAbIdeal.Value
public import proofs.«01_k».proof.Proof.Gen.RAbIdeal.Read
public import proofs.«01_k».proof.Proof.Gen.RAbIdeal.Run

@[expose] public section

noncomputable section

namespace Cert.Adam.Ab

open Cert.KAbIdeal Cert.KAbIdeal.Gen Idealize.ShloMosaic Idealize.ShloMosaic.TcCoe Idealize.SL.Sem
open Cert.RAbIdeal.Read

/-- Where point `t`'s block lies in an array: every window has its block there. -/
def place (t : Fin cfg0.N) (y : S1x256x256.Idx) : S2x512x256.Idx := (win0_4.rect t).emb y

variable (m : (ℓ : Loc nD τ sig) → Buf (Elt Ideal) ℓ)

abbrev arg0 (c : Dev nD) : Vec Ideal S2x512x256 .f32 := m ((c : Thread nD τ).loc main_arg0)
abbrev arg1 (c : Dev nD) : Vec Ideal S2x512x256 .f32 := m ((c : Thread nD τ).loc main_arg1)
abbrev arg2 (c : Dev nD) : Vec Ideal S2x512x256 .f32 := m ((c : Thread nD τ).loc main_arg2)
abbrev arg3 (c : Dev nD) : Vec Ideal S2x512x256 .f32 := m ((c : Thread nD τ).loc main_arg3)

theorem rd_0 (c : Dev nD) (t : Fin cfg0.N) (y : S1x256x256.Idx) :
    iblk m c 0 t y = arg0 m c (place t y) :=
  Cert.Tile.slice_read (Val := Elt Ideal) (b := main_arg0) (win0_0.rect t) _ _ _ fun _ => rfl

theorem rd_1 (c : Dev nD) (t : Fin cfg0.N) (y : S1x256x256.Idx) :
    iblk m c 1 t y = arg1 m c (place t y) :=
  Cert.Tile.slice_read (Val := Elt Ideal) (b := main_arg1) (win0_1.rect t) _ _ _ fun _ => rfl

theorem rd_2 (c : Dev nD) (t : Fin cfg0.N) (y : S1x256x256.Idx) :
    iblk m c 2 t y = arg2 m c (place t y) :=
  Cert.Tile.slice_read (Val := Elt Ideal) (b := main_arg2) (win0_2.rect t) _ _ _ fun _ => rfl

theorem rd_3 (c : Dev nD) (t : Fin cfg0.N) (y : S1x256x256.Idx) :
    iblk m c 3 t y = arg3 m c (place t y) :=
  Cert.Tile.slice_read (Val := Elt Ideal) (b := main_arg3) (win0_3.rect t) _ _ _ fun _ => rfl

theorem ow_4 (t : Fin cfg0.N) (G : Vec Ideal S2x512x256 .f32) (y : S1x256x256.Idx) :
    ((cfg0.win 4).blk t).view.read (Elt Ideal) G y = G (place t y) :=
  Cert.Tile.slice_read (Val := Elt Ideal) (b := main_v0_0) (win0_4.rect t) _ _ _ fun _ => rfl

theorem ow_5 (t : Fin cfg0.N) (G : Vec Ideal S2x512x256 .f32) (y : S1x256x256.Idx) :
    ((cfg0.win 5).blk t).view.read (Elt Ideal) G y = G (place t y) :=
  Cert.Tile.slice_read (Val := Elt Ideal) (b := main_v0_1) (win0_5.rect t) _ _ _ fun _ => rfl

theorem ow_6 (t : Fin cfg0.N) (G : Vec Ideal S2x512x256 .f32) (y : S1x256x256.Idx) :
    ((cfg0.win 6).blk t).view.read (Elt Ideal) G y = G (place t y) :=
  Cert.Tile.slice_read (Val := Elt Ideal) (b := main_v0_2) (win0_6.rect t) _ _ _ fun _ => rfl

/-- The blocks fill an array. -/
theorem fills (i : S2x512x256.Idx) : ∃ t : Fin cfg0.N, i ∈ (win0_4.rect t).set := by
  obtain ⟨t, h⟩ := Cert.Adam.fills win0_4.index S1x256x256.size ![2, 2, 1] (by decide +kernel) (by decide +kernel)
    (fun a => (i a).val) (fun a => match a with
      | 0 => (i 0).isLt
      | 1 => (i 1).isLt
      | 2 => (i 2).isLt)
  exact ⟨t, Rect.mem_set_unit.2 h⟩

theorem cover_4 (c : Dev nD) (i : ((cfg0.win 4).arr.view.loc (c.tc : Thread nD τ)).2.ty.Idx) :
    ∃ t : Fin cfg0.N, (cfg0.win 4).flush t = true ∧ i ∈ ((cfg0.win 4).blk t).view.set := by
  obtain ⟨t, h⟩ := fills i
  exact ⟨t, flush0_4 t, (congrArg (i ∈ ·) (View.set_slice_whole (b := main_v0_0) (win0_4.rect t))).mpr h⟩

theorem cover_5 (c : Dev nD) (i : ((cfg0.win 5).arr.view.loc (c.tc : Thread nD τ)).2.ty.Idx) :
    ∃ t : Fin cfg0.N, (cfg0.win 5).flush t = true ∧ i ∈ ((cfg0.win 5).blk t).view.set := by
  obtain ⟨t, h⟩ := fills i
  exact ⟨t, flush0_5 t, (congrArg (i ∈ ·) (View.set_slice_whole (b := main_v0_1) (win0_5.rect t))).mpr h⟩

theorem cover_6 (c : Dev nD) (i : ((cfg0.win 6).arr.view.loc (c.tc : Thread nD τ)).2.ty.Idx) :
    ∃ t : Fin cfg0.N, (cfg0.win 6).flush t = true ∧ i ∈ ((cfg0.win 6).blk t).view.set := by
  obtain ⟨t, h⟩ := fills i
  exact ⟨t, flush0_6 t, (congrArg (i ∈ ·) (View.set_slice_whole (b := main_v0_2) (win0_6.rect t))).mpr h⟩

theorem out_4 (x0 x1 x2 x3 : Vec Ideal S1x256x256 .f32) (y : S1x256x256.Idx) :
    out0_4 x0 x1 x2 x3 y = delta (x0 y) (x1 y) (x2 y) (x3 y) := by
  obtain ⟨z, p, q, rfl⟩ : ∃ (z : Fin 1) (p : Fin 256) (q : Fin 256), y = ix3 z p q := ⟨y 0, y 1, y 2, eq_ix3 y⟩
  obtain rfl : z = 0 := Subsingleton.elim _ _
  unfold out0_4 delta mom var
  rw [View.canon_unit_zero zeros3]
  unfold_payloads
  pointwise

/-- What point `t` writes back to output window 4 is that block of the reference's result. -/
theorem flushed_4 (c : Dev nD) (t : Fin cfg0.N) :
    (dats m 0 c).flushed 4 t = ((cfg0.win 4).blk t).view.read (Elt Ideal) (val_main_v23 (arg0 m c) (arg1 m c) (arg2 m c) (arg3 m c)) := by
  rw [Cert.KAbIdeal.Value.flushed4]
  exact blk_eq (p := place t) (f := fun i => delta (arg0 m c i) (arg1 m c i) (arg2 m c i) (arg3 m c i))
    (fun y => (out_4 _ _ _ _ y).trans (by simp only [rd_0, rd_1, rd_2, rd_3])) (ow_4 t _) fun _ => rfl

theorem out_5 (x0 x1 x2 x3 : Vec Ideal S1x256x256 .f32) (y : S1x256x256.Idx) :
    out0_5 x0 x1 x2 x3 y = mom (x1 y) (x2 y) := by
  obtain ⟨z, p, q, rfl⟩ : ∃ (z : Fin 1) (p : Fin 256) (q : Fin 256), y = ix3 z p q := ⟨y 0, y 1, y 2, eq_ix3 y⟩
  obtain rfl : z = 0 := Subsingleton.elim _ _
  unfold out0_5 mom
  rw [View.canon_unit_zero zeros3]
  unfold_payloads
  pointwise

/-- What point `t` writes back to output window 5 is that block of the reference's result. -/
theorem flushed_5 (c : Dev nD) (t : Fin cfg0.N) :
    (dats m 0 c).flushed 5 t = ((cfg0.win 5).blk t).view.read (Elt Ideal) (val_main_v4 (arg1 m c) (arg2 m c)) := by
  rw [Cert.KAbIdeal.Value.flushed5]
  exact blk_eq (p := place t) (f := fun i => mom (arg1 m c i) (arg2 m c i))
    (fun y => (out_5 _ _ _ _ y).trans (by simp only [rd_1, rd_2])) (ow_5 t _) fun _ => rfl

theorem out_6 (x0 x1 x2 x3 : Vec Ideal S1x256x256 .f32) (y : S1x256x256.Idx) :
    out0_6 x0 x1 x2 x3 y = var (x1 y) (x3 y) := by
  obtain ⟨z, p, q, rfl⟩ : ∃ (z : Fin 1) (p : Fin 256) (q : Fin 256), y = ix3 z p q := ⟨y 0, y 1, y 2, eq_ix3 y⟩
  obtain rfl : z = 0 := Subsingleton.elim _ _
  unfold out0_6 var
  rw [View.canon_unit_zero zeros3]
  unfold_payloads
  pointwise

/-- What point `t` writes back to output window 6 is that block of the reference's result. -/
theorem flushed_6 (c : Dev nD) (t : Fin cfg0.N) :
    (dats m 0 c).flushed 6 t = ((cfg0.win 6).blk t).view.read (Elt Ideal) (val_main_v10 (arg1 m c) (arg3 m c)) := by
  rw [Cert.KAbIdeal.Value.flushed6]
  exact blk_eq (p := place t) (f := fun i => var (arg1 m c i) (arg3 m c i))
    (fun y => (out_6 _ _ _ _ y).trans (by simp only [rd_1, rd_3])) (ow_6 t _) fun _ => rfl

/-- The value claim of this call. -/
theorem algebraic : Cert.algebraic_KAbIdeal_RAbIdeal := by
  intro m g m' g' _ ha
  refine ⟨fun c => (dats m 0 c).arrAt 4 cfg0.N, fun c => (dats m 0 c).arrAt 5 cfg0.N, fun c => (dats m 0 c).arrAt 6 cfg0.N, Cert.KAbIdeal.Value.run_blocks m g, ?_⟩
  refine (θ_run _ _ _).mono (fun r h c => ?_) (Cert.RAbIdeal.Value.run m' g')
  obtain ⟨h4, h5, h6, hargs⟩ := h c
  obtain ⟨a0, a1, a2, a3⟩ := ha c
  refine ⟨h4.trans ?_, h5.trans ?_, h6.trans ?_, hargs⟩
  · exact (val_main_v23_eq _ _ _ _).trans (Eq.trans (by rw [a0, a1, a2, a3]) ((dats m 0 c).arrAt_eq_of_cover 4 _ (fun t _ => flushed_4 m c t) (cover_4 c)).symm)
  · exact (val_main_v4_eq _ _).trans (Eq.trans (by rw [a1, a2]) ((dats m 0 c).arrAt_eq_of_cover 5 _ (fun t _ => flushed_5 m c t) (cover_5 c)).symm)
  · exact (val_main_v10_eq _ _).trans (Eq.trans (by rw [a1, a3]) ((dats m 0 c).arrAt_eq_of_cover 6 _ (fun t _ => flushed_6 m c t) (cover_6 c)).symm)

end Cert.Adam.Ab

end
-- ==== Proof.Adam.Ag.lean ====
/-
  The optimiser's step of the mixer's output projection.
-/
module

public import proofs.«01_k».proof.Defs
public import proofs.«01_k».proof.Proof.Adam.Step
public import proofs.«01_k».proof.Proof.Gen.KAgIdeal.Value
public import proofs.«01_k».proof.Proof.Gen.RAgIdeal.Read
public import proofs.«01_k».proof.Proof.Gen.RAgIdeal.Run

@[expose] public section

noncomputable section

namespace Cert.Adam.Ag

open Cert.KAgIdeal Cert.KAgIdeal.Gen Idealize.ShloMosaic Idealize.ShloMosaic.TcCoe Idealize.SL.Sem
open Cert.RAgIdeal.Read

/-- Where point `t`'s block lies in an array: every window has its block there. -/
def place (t : Fin cfg0.N) (y : S1x128x1024.Idx) : S2x256x1024.Idx := (win0_4.rect t).emb y

variable (m : (ℓ : Loc nD τ sig) → Buf (Elt Ideal) ℓ)

abbrev arg0 (c : Dev nD) : Vec Ideal S2x256x1024 .f32 := m ((c : Thread nD τ).loc main_arg0)
abbrev arg1 (c : Dev nD) : Vec Ideal S2x256x1024 .f32 := m ((c : Thread nD τ).loc main_arg1)
abbrev arg2 (c : Dev nD) : Vec Ideal S2x256x1024 .f32 := m ((c : Thread nD τ).loc main_arg2)
abbrev arg3 (c : Dev nD) : Vec Ideal S2x256x1024 .f32 := m ((c : Thread nD τ).loc main_arg3)

theorem rd_0 (c : Dev nD) (t : Fin cfg0.N) (y : S1x128x1024.Idx) :
    iblk m c 0 t y = arg0 m c (place t y) :=
  Cert.Tile.slice_read (Val := Elt Ideal) (b := main_arg0) (win0_0.rect t) _ _ _ fun _ => rfl

theorem rd_1 (c : Dev nD) (t : Fin cfg0.N) (y : S1x128x1024.Idx) :
    iblk m c 1 t y = arg1 m c (place t y) :=
  Cert.Tile.slice_read (Val := Elt Ideal) (b := main_arg1) (win0_1.rect t) _ _ _ fun _ => rfl

theorem rd_2 (c : Dev nD) (t : Fin cfg0.N) (y : S1x128x1024.Idx) :
    iblk m c 2 t y = arg2 m c (place t y) :=
  Cert.Tile.slice_read (Val := Elt Ideal) (b := main_arg2) (win0_2.rect t) _ _ _ fun _ => rfl

theorem rd_3 (c : Dev nD) (t : Fin cfg0.N) (y : S1x128x1024.Idx) :
    iblk m c 3 t y = arg3 m c (place t y) :=
  Cert.Tile.slice_read (Val := Elt Ideal) (b := main_arg3) (win0_3.rect t) _ _ _ fun _ => rfl

theorem ow_4 (t : Fin cfg0.N) (G : Vec Ideal S2x256x1024 .f32) (y : S1x128x1024.Idx) :
    ((cfg0.win 4).blk t).view.read (Elt Ideal) G y = G (place t y) :=
  Cert.Tile.slice_read (Val := Elt Ideal) (b := main_v0_0) (win0_4.rect t) _ _ _ fun _ => rfl

theorem ow_5 (t : Fin cfg0.N) (G : Vec Ideal S2x256x1024 .f32) (y : S1x128x1024.Idx) :
    ((cfg0.win 5).blk t).view.read (Elt Ideal) G y = G (place t y) :=
  Cert.Tile.slice_read (Val := Elt Ideal) (b := main_v0_1) (win0_5.rect t) _ _ _ fun _ => rfl

theorem ow_6 (t : Fin cfg0.N) (G : Vec Ideal S2x256x1024 .f32) (y : S1x128x1024.Idx) :
    ((cfg0.win 6).blk t).view.read (Elt Ideal) G y = G (place t y) :=
  Cert.Tile.slice_read (Val := Elt Ideal) (b := main_v0_2) (win0_6.rect t) _ _ _ fun _ => rfl

/-- The blocks fill an array. -/
theorem fills (i : S2x256x1024.Idx) : ∃ t : Fin cfg0.N, i ∈ (win0_4.rect t).set := by
  obtain ⟨t, h⟩ := Cert.Adam.fills win0_4.index S1x128x1024.size ![2, 2, 1] (by decide +kernel) (by decide +kernel)
    (fun a => (i a).val) (fun a => match a with
      | 0 => (i 0).isLt
      | 1 => (i 1).isLt
      | 2 => (i 2).isLt)
  exact ⟨t, Rect.mem_set_unit.2 h⟩

theorem cover_4 (c : Dev nD) (i : ((cfg0.win 4).arr.view.loc (c.tc : Thread nD τ)).2.ty.Idx) :
    ∃ t : Fin cfg0.N, (cfg0.win 4).flush t = true ∧ i ∈ ((cfg0.win 4).blk t).view.set := by
  obtain ⟨t, h⟩ := fills i
  exact ⟨t, flush0_4 t, (congrArg (i ∈ ·) (View.set_slice_whole (b := main_v0_0) (win0_4.rect t))).mpr h⟩

theorem cover_5 (c : Dev nD) (i : ((cfg0.win 5).arr.view.loc (c.tc : Thread nD τ)).2.ty.Idx) :
    ∃ t : Fin cfg0.N, (cfg0.win 5).flush t = true ∧ i ∈ ((cfg0.win 5).blk t).view.set := by
  obtain ⟨t, h⟩ := fills i
  exact ⟨t, flush0_5 t, (congrArg (i ∈ ·) (View.set_slice_whole (b := main_v0_1) (win0_5.rect t))).mpr h⟩

theorem cover_6 (c : Dev nD) (i : ((cfg0.win 6).arr.view.loc (c.tc : Thread nD τ)).2.ty.Idx) :
    ∃ t : Fin cfg0.N, (cfg0.win 6).flush t = true ∧ i ∈ ((cfg0.win 6).blk t).view.set := by
  obtain ⟨t, h⟩ := fills i
  exact ⟨t, flush0_6 t, (congrArg (i ∈ ·) (View.set_slice_whole (b := main_v0_2) (win0_6.rect t))).mpr h⟩

theorem out_4 (x0 x1 x2 x3 : Vec Ideal S1x128x1024 .f32) (y : S1x128x1024.Idx) :
    out0_4 x0 x1 x2 x3 y = delta (x0 y) (x1 y) (x2 y) (x3 y) := by
  obtain ⟨z, p, q, rfl⟩ : ∃ (z : Fin 1) (p : Fin 128) (q : Fin 1024), y = ix3 z p q := ⟨y 0, y 1, y 2, eq_ix3 y⟩
  obtain rfl : z = 0 := Subsingleton.elim _ _
  unfold out0_4 delta mom var
  rw [View.canon_unit_zero zeros3]
  unfold_payloads
  pointwise

/-- What point `t` writes back to output window 4 is that block of the reference's result. -/
theorem flushed_4 (c : Dev nD) (t : Fin cfg0.N) :
    (dats m 0 c).flushed 4 t = ((cfg0.win 4).blk t).view.read (Elt Ideal) (val_main_v23 (arg0 m c) (arg1 m c) (arg2 m c) (arg3 m c)) := by
  rw [Cert.KAgIdeal.Value.flushed4]
  exact blk_eq (p := place t) (f := fun i => delta (arg0 m c i) (arg1 m c i) (arg2 m c i) (arg3 m c i))
    (fun y => (out_4 _ _ _ _ y).trans (by simp only [rd_0, rd_1, rd_2, rd_3])) (ow_4 t _) fun _ => rfl

theorem out_5 (x0 x1 x2 x3 : Vec Ideal S1x128x1024 .f32) (y : S1x128x1024.Idx) :
    out0_5 x0 x1 x2 x3 y = mom (x1 y) (x2 y) := by
  obtain ⟨z, p, q, rfl⟩ : ∃ (z : Fin 1) (p : Fin 128) (q : Fin 1024), y = ix3 z p q := ⟨y 0, y 1, y 2, eq_ix3 y⟩
  obtain rfl : z = 0 := Subsingleton.elim _ _
  unfold out0_5 mom
  rw [View.canon_unit_zero zeros3]
  unfold_payloads
  pointwise

/-- What point `t` writes back to output window 5 is that block of the reference's result. -/
theorem flushed_5 (c : Dev nD) (t : Fin cfg0.N) :
    (dats m 0 c).flushed 5 t = ((cfg0.win 5).blk t).view.read (Elt Ideal) (val_main_v4 (arg1 m c) (arg2 m c)) := by
  rw [Cert.KAgIdeal.Value.flushed5]
  exact blk_eq (p := place t) (f := fun i => mom (arg1 m c i) (arg2 m c i))
    (fun y => (out_5 _ _ _ _ y).trans (by simp only [rd_1, rd_2])) (ow_5 t _) fun _ => rfl

theorem out_6 (x0 x1 x2 x3 : Vec Ideal S1x128x1024 .f32) (y : S1x128x1024.Idx) :
    out0_6 x0 x1 x2 x3 y = var (x1 y) (x3 y) := by
  obtain ⟨z, p, q, rfl⟩ : ∃ (z : Fin 1) (p : Fin 128) (q : Fin 1024), y = ix3 z p q := ⟨y 0, y 1, y 2, eq_ix3 y⟩
  obtain rfl : z = 0 := Subsingleton.elim _ _
  unfold out0_6 var
  rw [View.canon_unit_zero zeros3]
  unfold_payloads
  pointwise

/-- What point `t` writes back to output window 6 is that block of the reference's result. -/
theorem flushed_6 (c : Dev nD) (t : Fin cfg0.N) :
    (dats m 0 c).flushed 6 t = ((cfg0.win 6).blk t).view.read (Elt Ideal) (val_main_v10 (arg1 m c) (arg3 m c)) := by
  rw [Cert.KAgIdeal.Value.flushed6]
  exact blk_eq (p := place t) (f := fun i => var (arg1 m c i) (arg3 m c i))
    (fun y => (out_6 _ _ _ _ y).trans (by simp only [rd_1, rd_3])) (ow_6 t _) fun _ => rfl

/-- The value claim of this call. -/
theorem algebraic : Cert.algebraic_KAgIdeal_RAgIdeal := by
  intro m g m' g' _ ha
  refine ⟨fun c => (dats m 0 c).arrAt 4 cfg0.N, fun c => (dats m 0 c).arrAt 5 cfg0.N, fun c => (dats m 0 c).arrAt 6 cfg0.N, Cert.KAgIdeal.Value.run_blocks m g, ?_⟩
  refine (θ_run _ _ _).mono (fun r h c => ?_) (Cert.RAgIdeal.Value.run m' g')
  obtain ⟨h4, h5, h6, hargs⟩ := h c
  obtain ⟨a0, a1, a2, a3⟩ := ha c
  refine ⟨h4.trans ?_, h5.trans ?_, h6.trans ?_, hargs⟩
  · exact (val_main_v23_eq _ _ _ _).trans (Eq.trans (by rw [a0, a1, a2, a3]) ((dats m 0 c).arrAt_eq_of_cover 4 _ (fun t _ => flushed_4 m c t) (cover_4 c)).symm)
  · exact (val_main_v4_eq _ _).trans (Eq.trans (by rw [a1, a2]) ((dats m 0 c).arrAt_eq_of_cover 5 _ (fun t _ => flushed_5 m c t) (cover_5 c)).symm)
  · exact (val_main_v10_eq _ _).trans (Eq.trans (by rw [a1, a3]) ((dats m 0 c).arrAt_eq_of_cover 6 _ (fun t _ => flushed_6 m c t) (cover_6 c)).symm)

end Cert.Adam.Ag

end
-- ==== Proof.Adam.As.lean ====
/-
  The optimiser's step of the small weights, packed in rows.
-/
module

public import proofs.«01_k».proof.Defs
public import proofs.«01_k».proof.Proof.Adam.Step
public import proofs.«01_k».proof.Proof.Gen.KAsIdeal.Value
public import proofs.«01_k».proof.Proof.Gen.RAsIdeal.Read
public import proofs.«01_k».proof.Proof.Gen.RAsIdeal.Run

@[expose] public section

noncomputable section

namespace Cert.Adam.As

open Cert.KAsIdeal Cert.KAsIdeal.Gen Idealize.ShloMosaic Idealize.ShloMosaic.TcCoe Idealize.SL.Sem
open Cert.RAsIdeal.Read

/-- Where point `t`'s block lies in an array: every window has its block there. -/
def place (t : Fin cfg0.N) (y : S1x96x128.Idx) : S1x96x128.Idx := (win0_4.rect t).emb y

variable (m : (ℓ : Loc nD τ sig) → Buf (Elt Ideal) ℓ)

abbrev arg0 (c : Dev nD) : Vec Ideal S1x96x128 .f32 := m ((c : Thread nD τ).loc main_arg0)
abbrev arg1 (c : Dev nD) : Vec Ideal S1x96x128 .f32 := m ((c : Thread nD τ).loc main_arg1)
abbrev arg2 (c : Dev nD) : Vec Ideal S1x96x128 .f32 := m ((c : Thread nD τ).loc main_arg2)
abbrev arg3 (c : Dev nD) : Vec Ideal S1x96x128 .f32 := m ((c : Thread nD τ).loc main_arg3)

theorem rd_0 (c : Dev nD) (t : Fin cfg0.N) (y : S1x96x128.Idx) :
    iblk m c 0 t y = arg0 m c (place t y) :=
  Cert.Tile.slice_read (Val := Elt Ideal) (b := main_arg0) (win0_0.rect t) _ _ _ fun _ => rfl

theorem rd_1 (c : Dev nD) (t : Fin cfg0.N) (y : S1x96x128.Idx) :
    iblk m c 1 t y = arg1 m c (place t y) :=
  Cert.Tile.slice_read (Val := Elt Ideal) (b := main_arg1) (win0_1.rect t) _ _ _ fun _ => rfl

theorem rd_2 (c : Dev nD) (t : Fin cfg0.N) (y : S1x96x128.Idx) :
    iblk m c 2 t y = arg2 m c (place t y) :=
  Cert.Tile.slice_read (Val := Elt Ideal) (b := main_arg2) (win0_2.rect t) _ _ _ fun _ => rfl

theorem rd_3 (c : Dev nD) (t : Fin cfg0.N) (y : S1x96x128.Idx) :
    iblk m c 3 t y = arg3 m c (place t y) :=
  Cert.Tile.slice_read (Val := Elt Ideal) (b := main_arg3) (win0_3.rect t) _ _ _ fun _ => rfl

theorem ow_4 (t : Fin cfg0.N) (G : Vec Ideal S1x96x128 .f32) (y : S1x96x128.Idx) :
    ((cfg0.win 4).blk t).view.read (Elt Ideal) G y = G (place t y) :=
  Cert.Tile.slice_read (Val := Elt Ideal) (b := main_v0_0) (win0_4.rect t) _ _ _ fun _ => rfl

theorem ow_5 (t : Fin cfg0.N) (G : Vec Ideal S1x96x128 .f32) (y : S1x96x128.Idx) :
    ((cfg0.win 5).blk t).view.read (Elt Ideal) G y = G (place t y) :=
  Cert.Tile.slice_read (Val := Elt Ideal) (b := main_v0_1) (win0_5.rect t) _ _ _ fun _ => rfl

theorem ow_6 (t : Fin cfg0.N) (G : Vec Ideal S1x96x128 .f32) (y : S1x96x128.Idx) :
    ((cfg0.win 6).blk t).view.read (Elt Ideal) G y = G (place t y) :=
  Cert.Tile.slice_read (Val := Elt Ideal) (b := main_v0_2) (win0_6.rect t) _ _ _ fun _ => rfl

/-- The blocks fill an array. -/
theorem fills (i : S1x96x128.Idx) : ∃ t : Fin cfg0.N, i ∈ (win0_4.rect t).set := by
  obtain ⟨t, h⟩ := Cert.Adam.fills win0_4.index S1x96x128.size ![1, 1, 1] (by decide +kernel) (by decide +kernel)
    (fun a => (i a).val) (fun a => match a with
      | 0 => (i 0).isLt
      | 1 => (i 1).isLt
      | 2 => (i 2).isLt)
  exact ⟨t, Rect.mem_set_unit.2 h⟩

theorem cover_4 (c : Dev nD) (i : ((cfg0.win 4).arr.view.loc (c.tc : Thread nD τ)).2.ty.Idx) :
    ∃ t : Fin cfg0.N, (cfg0.win 4).flush t = true ∧ i ∈ ((cfg0.win 4).blk t).view.set := by
  obtain ⟨t, h⟩ := fills i
  exact ⟨t, flush0_4 t, (congrArg (i ∈ ·) (View.set_slice_whole (b := main_v0_0) (win0_4.rect t))).mpr h⟩

theorem cover_5 (c : Dev nD) (i : ((cfg0.win 5).arr.view.loc (c.tc : Thread nD τ)).2.ty.Idx) :
    ∃ t : Fin cfg0.N, (cfg0.win 5).flush t = true ∧ i ∈ ((cfg0.win 5).blk t).view.set := by
  obtain ⟨t, h⟩ := fills i
  exact ⟨t, flush0_5 t, (congrArg (i ∈ ·) (View.set_slice_whole (b := main_v0_1) (win0_5.rect t))).mpr h⟩

theorem cover_6 (c : Dev nD) (i : ((cfg0.win 6).arr.view.loc (c.tc : Thread nD τ)).2.ty.Idx) :
    ∃ t : Fin cfg0.N, (cfg0.win 6).flush t = true ∧ i ∈ ((cfg0.win 6).blk t).view.set := by
  obtain ⟨t, h⟩ := fills i
  exact ⟨t, flush0_6 t, (congrArg (i ∈ ·) (View.set_slice_whole (b := main_v0_2) (win0_6.rect t))).mpr h⟩

theorem out_4 (x0 x1 x2 x3 : Vec Ideal S1x96x128 .f32) (y : S1x96x128.Idx) :
    out0_4 x0 x1 x2 x3 y = delta (x0 y) (x1 y) (x2 y) (x3 y) := by
  obtain ⟨z, p, q, rfl⟩ : ∃ (z : Fin 1) (p : Fin 96) (q : Fin 128), y = ix3 z p q := ⟨y 0, y 1, y 2, eq_ix3 y⟩
  obtain rfl : z = 0 := Subsingleton.elim _ _
  unfold out0_4 delta mom var
  rw [View.canon_unit_zero zeros3]
  unfold_payloads
  pointwise

/-- What point `t` writes back to output window 4 is that block of the reference's result. -/
theorem flushed_4 (c : Dev nD) (t : Fin cfg0.N) :
    (dats m 0 c).flushed 4 t = ((cfg0.win 4).blk t).view.read (Elt Ideal) (val_main_v23 (arg0 m c) (arg1 m c) (arg2 m c) (arg3 m c)) := by
  rw [Cert.KAsIdeal.Value.flushed4]
  exact blk_eq (p := place t) (f := fun i => delta (arg0 m c i) (arg1 m c i) (arg2 m c i) (arg3 m c i))
    (fun y => (out_4 _ _ _ _ y).trans (by simp only [rd_0, rd_1, rd_2, rd_3])) (ow_4 t _) fun _ => rfl

theorem out_5 (x0 x1 x2 x3 : Vec Ideal S1x96x128 .f32) (y : S1x96x128.Idx) :
    out0_5 x0 x1 x2 x3 y = mom (x1 y) (x2 y) := by
  obtain ⟨z, p, q, rfl⟩ : ∃ (z : Fin 1) (p : Fin 96) (q : Fin 128), y = ix3 z p q := ⟨y 0, y 1, y 2, eq_ix3 y⟩
  obtain rfl : z = 0 := Subsingleton.elim _ _
  unfold out0_5 mom
  rw [View.canon_unit_zero zeros3]
  unfold_payloads
  pointwise

/-- What point `t` writes back to output window 5 is that block of the reference's result. -/
theorem flushed_5 (c : Dev nD) (t : Fin cfg0.N) :
    (dats m 0 c).flushed 5 t = ((cfg0.win 5).blk t).view.read (Elt Ideal) (val_main_v4 (arg1 m c) (arg2 m c)) := by
  rw [Cert.KAsIdeal.Value.flushed5]
  exact blk_eq (p := place t) (f := fun i => mom (arg1 m c i) (arg2 m c i))
    (fun y => (out_5 _ _ _ _ y).trans (by simp only [rd_1, rd_2])) (ow_5 t _) fun _ => rfl

theorem out_6 (x0 x1 x2 x3 : Vec Ideal S1x96x128 .f32) (y : S1x96x128.Idx) :
    out0_6 x0 x1 x2 x3 y = var (x1 y) (x3 y) := by
  obtain ⟨z, p, q, rfl⟩ : ∃ (z : Fin 1) (p : Fin 96) (q : Fin 128), y = ix3 z p q := ⟨y 0, y 1, y 2, eq_ix3 y⟩
  obtain rfl : z = 0 := Subsingleton.elim _ _
  unfold out0_6 var
  rw [View.canon_unit_zero zeros3]
  unfold_payloads
  pointwise

/-- What point `t` writes back to output window 6 is that block of the reference's result. -/
theorem flushed_6 (c : Dev nD) (t : Fin cfg0.N) :
    (dats m 0 c).flushed 6 t = ((cfg0.win 6).blk t).view.read (Elt Ideal) (val_main_v10 (arg1 m c) (arg3 m c)) := by
  rw [Cert.KAsIdeal.Value.flushed6]
  exact blk_eq (p := place t) (f := fun i => var (arg1 m c i) (arg3 m c i))
    (fun y => (out_6 _ _ _ _ y).trans (by simp only [rd_1, rd_3])) (ow_6 t _) fun _ => rfl

/-- The value claim of this call. -/
theorem algebraic : Cert.algebraic_KAsIdeal_RAsIdeal := by
  intro m g m' g' _ ha
  refine ⟨fun c => (dats m 0 c).arrAt 4 cfg0.N, fun c => (dats m 0 c).arrAt 5 cfg0.N, fun c => (dats m 0 c).arrAt 6 cfg0.N, Cert.KAsIdeal.Value.run_blocks m g, ?_⟩
  refine (θ_run _ _ _).mono (fun r h c => ?_) (Cert.RAsIdeal.Value.run m' g')
  obtain ⟨h4, h5, h6, hargs⟩ := h c
  obtain ⟨a0, a1, a2, a3⟩ := ha c
  refine ⟨h4.trans ?_, h5.trans ?_, h6.trans ?_, hargs⟩
  · exact (val_main_v23_eq _ _ _ _).trans (Eq.trans (by rw [a0, a1, a2, a3]) ((dats m 0 c).arrAt_eq_of_cover 4 _ (fun t _ => flushed_4 m c t) (cover_4 c)).symm)
  · exact (val_main_v4_eq _ _).trans (Eq.trans (by rw [a1, a2]) ((dats m 0 c).arrAt_eq_of_cover 5 _ (fun t _ => flushed_5 m c t) (cover_5 c)).symm)
  · exact (val_main_v10_eq _ _).trans (Eq.trans (by rw [a1, a3]) ((dats m 0 c).arrAt_eq_of_cover 6 _ (fun t _ => flushed_6 m c t) (cover_6 c)).symm)

end Cert.Adam.As

end
-- ==== Proof.lean ====
/-
  The certificate: the frames of every program and the value claims, each assembled from its module.
-/
module

public import proofs.«01_k».proof.Defs
public import proofs.«01_k».proof.Proof.Gate.Claim
public import proofs.«01_k».proof.Proof.Mid.Claim
public import proofs.«01_k».proof.Proof.In.Claim
public import proofs.«01_k».proof.Proof.Dwo.Claim
public import proofs.«01_k».proof.Proof.Dwi.Claim
public import proofs.«01_k».proof.Proof.Dout.Claim
public import proofs.«01_k».proof.Proof.Dbr.Claim
public import proofs.«01_k».proof.Proof.Dmix.Claim
public import proofs.«01_k».proof.Proof.Nt.Claim
public import proofs.«01_k».proof.Proof.Ffi.Claim
public import proofs.«01_k».proof.Proof.Res.Claim
public import proofs.«01_k».proof.Proof.Proj.Claim
public import proofs.«01_k».proof.Proof.Gf.Claim
public import proofs.«01_k».proof.Proof.Rms.Claim
public import proofs.«01_k».proof.Proof.Ff.Claim
public import proofs.«01_k».proof.Proof.Swf.Claim
public import proofs.«01_k».proof.Proof.Qn.Claim
public import proofs.«01_k».proof.Proof.Adam.Ai
public import proofs.«01_k».proof.Proof.Adam.Ao
public import proofs.«01_k».proof.Proof.Adam.Am
public import proofs.«01_k».proof.Proof.Adam.Ab
public import proofs.«01_k».proof.Proof.Adam.Ag
public import proofs.«01_k».proof.Proof.Adam.As
public import proofs.«01_k».proof.Proof.Gen.KGate.Frame
public import proofs.«01_k».proof.Proof.Gen.KGateIdeal.Frame
public import proofs.«01_k».proof.Proof.Gen.RGateIdeal.Run
public import proofs.«01_k».proof.Proof.Gen.KMid.Frame
public import proofs.«01_k».proof.Proof.Gen.KMidIdeal.Frame
public import proofs.«01_k».proof.Proof.Gen.RMidIdeal.Run
public import proofs.«01_k».proof.Proof.Gen.KIn.Frame
public import proofs.«01_k».proof.Proof.Gen.KInIdeal.Frame
public import proofs.«01_k».proof.Proof.Gen.RInIdeal.Run
public import proofs.«01_k».proof.Proof.Gen.KDwo.Frame
public import proofs.«01_k».proof.Proof.Gen.KDwoIdeal.Frame
public import proofs.«01_k».proof.Proof.Gen.RDwoIdeal.Run
public import proofs.«01_k».proof.Proof.Gen.KDwi.Frame
public import proofs.«01_k».proof.Proof.Gen.KDwiIdeal.Frame
public import proofs.«01_k».proof.Proof.Gen.RDwiIdeal.Run
public import proofs.«01_k».proof.Proof.Gen.KDout.Frame
public import proofs.«01_k».proof.Proof.Gen.KDoutIdeal.Frame
public import proofs.«01_k».proof.Proof.Gen.RDoutIdeal.Run
public import proofs.«01_k».proof.Proof.Gen.KDbr.Frame
public import proofs.«01_k».proof.Proof.Gen.KDbrIdeal.Frame
public import proofs.«01_k».proof.Proof.Gen.RDbrIdeal.Run
public import proofs.«01_k».proof.Proof.Gen.KDmix.Frame
public import proofs.«01_k».proof.Proof.Gen.KDmixIdeal.Frame
public import proofs.«01_k».proof.Proof.Gen.RDmixIdeal.Run
public import proofs.«01_k».proof.Proof.Gen.KNt.Frame
public import proofs.«01_k».proof.Proof.Gen.KNtIdeal.Frame
public import proofs.«01_k».proof.Proof.Gen.RNtIdeal.Run
public import proofs.«01_k».proof.Proof.Gen.KFfi.Frame
public import proofs.«01_k».proof.Proof.Gen.KFfiIdeal.Frame
public import proofs.«01_k».proof.Proof.Gen.RFfiIdeal.Run
public import proofs.«01_k».proof.Proof.Gen.KRes.Frame
public import proofs.«01_k».proof.Proof.Gen.KResIdeal.Frame
public import proofs.«01_k».proof.Proof.Gen.RResIdeal.Run
public import proofs.«01_k».proof.Proof.Gen.KProj.Frame
public import proofs.«01_k».proof.Proof.Gen.KProjIdeal.Frame
public import proofs.«01_k».proof.Proof.Gen.RProjIdeal.Run
public import proofs.«01_k».proof.Proof.Gen.KGf.Frame
public import proofs.«01_k».proof.Proof.Gen.KGfIdeal.Frame
public import proofs.«01_k».proof.Proof.Gen.RGfIdeal.Run
public import proofs.«01_k».proof.Proof.Gen.KRms.Frame
public import proofs.«01_k».proof.Proof.Gen.KRmsIdeal.Frame
public import proofs.«01_k».proof.Proof.Gen.RRmsIdeal.Run
public import proofs.«01_k».proof.Proof.Gen.KFf.Flash
public import proofs.«01_k».proof.Proof.Gen.KFfIdeal.Flash
public import proofs.«01_k».proof.Proof.Gen.RFfIdeal.Run
public import proofs.«01_k».proof.Proof.Gen.KSf.Frame
public import proofs.«01_k».proof.Proof.Gen.KSfIdeal.Frame
public import proofs.«01_k».proof.Proof.Gen.RSfIdeal.Run
public import proofs.«01_k».proof.Proof.Gen.KQn.Frame
public import proofs.«01_k».proof.Proof.Gen.KQnIdeal.Frame
public import proofs.«01_k».proof.Proof.Gen.RQnIdeal.Run
public import proofs.«01_k».proof.Proof.Gen.KAi.Frame
public import proofs.«01_k».proof.Proof.Gen.KAiIdeal.Frame
public import proofs.«01_k».proof.Proof.Gen.RAiIdeal.Run
public import proofs.«01_k».proof.Proof.Gen.KAo.Frame
public import proofs.«01_k».proof.Proof.Gen.KAoIdeal.Frame
public import proofs.«01_k».proof.Proof.Gen.RAoIdeal.Run
public import proofs.«01_k».proof.Proof.Gen.KAm.Frame
public import proofs.«01_k».proof.Proof.Gen.KAmIdeal.Frame
public import proofs.«01_k».proof.Proof.Gen.RAmIdeal.Run
public import proofs.«01_k».proof.Proof.Gen.KAb.Frame
public import proofs.«01_k».proof.Proof.Gen.KAbIdeal.Frame
public import proofs.«01_k».proof.Proof.Gen.RAbIdeal.Run
public import proofs.«01_k».proof.Proof.Gen.KAg.Frame
public import proofs.«01_k».proof.Proof.Gen.KAgIdeal.Frame
public import proofs.«01_k».proof.Proof.Gen.RAgIdeal.Run
public import proofs.«01_k».proof.Proof.Gen.KAs.Frame
public import proofs.«01_k».proof.Proof.Gen.KAsIdeal.Frame
public import proofs.«01_k».proof.Proof.Gen.RAsIdeal.Run

@[expose] public section

noncomputable section

namespace Cert.Proof

open Idealize.ShloMosaic Idealize.SL.Sem

/-- Every claim. -/
theorem claim : Cert.Claim := by
  haveI := Cert.Mid.pre_facts
  haveI := Cert.In.pre_facts
  haveI := Cert.Nt.pre_facts
  haveI := Cert.Ff.pre_tables_facts
  haveI := Cert.Ff.pre_facts
  haveI := Cert.Swf.pre_facts
  haveI := Cert.Qn.pre_facts
  exact ⟨Cert.KGate.Gen.facts, Cert.KGateIdeal.Gen.facts, Cert.RGateIdeal.Gen.facts, Cert.KMid.Gen.facts, Cert.KMidIdeal.Gen.facts, Cert.RMidIdeal.Gen.facts, Cert.KIn.Gen.facts, Cert.KInIdeal.Gen.facts, Cert.RInIdeal.Gen.facts, Cert.KDwo.Gen.facts, Cert.KDwoIdeal.Gen.facts, Cert.RDwoIdeal.Gen.facts, Cert.KDwi.Gen.facts, Cert.KDwiIdeal.Gen.facts, Cert.RDwiIdeal.Gen.facts, Cert.KDout.Gen.facts, Cert.KDoutIdeal.Gen.facts, Cert.RDoutIdeal.Gen.facts, Cert.KDbr.Gen.facts, Cert.KDbrIdeal.Gen.facts, Cert.RDbrIdeal.Gen.facts, Cert.KDmix.Gen.facts, Cert.KDmixIdeal.Gen.facts, Cert.RDmixIdeal.Gen.facts, Cert.KNt.Gen.facts, Cert.KNtIdeal.Gen.facts, Cert.RNtIdeal.Gen.facts, Cert.KFfi.Gen.facts, Cert.KFfiIdeal.Gen.facts, Cert.RFfiIdeal.Gen.facts, Cert.KRes.Gen.facts, Cert.KResIdeal.Gen.facts, Cert.RResIdeal.Gen.facts, Cert.KProj.Gen.facts, Cert.KProjIdeal.Gen.facts, Cert.RProjIdeal.Gen.facts, Cert.KGf.Gen.facts, Cert.KGfIdeal.Gen.facts, Cert.RGfIdeal.Gen.facts, Cert.KRms.Gen.facts, Cert.KRmsIdeal.Gen.facts, Cert.RRmsIdeal.Gen.facts, Cert.KFf.Gen.facts, Cert.KFfIdeal.Gen.facts, Cert.RFfIdeal.Gen.facts, Cert.KSf.Gen.facts, Cert.KSfIdeal.Gen.facts, Cert.RSfIdeal.Gen.facts, Cert.KQn.Gen.facts, Cert.KQnIdeal.Gen.facts, Cert.RQnIdeal.Gen.facts, Cert.KAi.Gen.facts, Cert.KAiIdeal.Gen.facts, Cert.RAiIdeal.Gen.facts, Cert.KAo.Gen.facts, Cert.KAoIdeal.Gen.facts, Cert.RAoIdeal.Gen.facts, Cert.KAm.Gen.facts, Cert.KAmIdeal.Gen.facts, Cert.RAmIdeal.Gen.facts, Cert.KAb.Gen.facts, Cert.KAbIdeal.Gen.facts, Cert.RAbIdeal.Gen.facts, Cert.KAg.Gen.facts, Cert.KAgIdeal.Gen.facts, Cert.RAgIdeal.Gen.facts, Cert.KAs.Gen.facts, Cert.KAsIdeal.Gen.facts, Cert.RAsIdeal.Gen.facts, Cert.Mid.pre_facts, Cert.In.pre_facts, Cert.Nt.pre_facts, Cert.Ff.pre_tables_facts, Cert.Ff.pre_facts, Cert.Swf.pre_facts, Cert.Qn.pre_facts,
    fun m ρ _ => Cert.KGate.Gen.frame m ρ,
    fun m ρ _ => Cert.KGateIdeal.Gen.frame m ρ,
    fun m ρ _ => (θ_run _ _ _).mono (fun r h => ⟨fun c => (h c).2.2.2.2.2.2.2, sem_eq_zero_of_no_sems (by decide) r.2⟩) (Cert.RGateIdeal.Value.run m ρ),
    fun m ρ _ => Cert.KMid.Gen.frame m ρ,
    fun m ρ _ => Cert.KMidIdeal.Gen.frame m ρ,
    fun m ρ _ => Cert.KMidIdeal.Gen.frame m ρ,
    fun m ρ _ => (θ_run _ _ _).mono (fun r h => ⟨fun c => (h c).2, sem_eq_zero_of_no_sems (by decide) r.2⟩) (Cert.RMidIdeal.Value.run m ρ),
    fun m ρ _ => (θ_run _ _ _).mono (fun r h => ⟨fun c => (h c).2, sem_eq_zero_of_no_sems (by decide) r.2⟩) (Cert.RMidIdeal.Value.run m ρ),
    fun m ρ _ => Cert.KIn.Gen.frame m ρ,
    fun m ρ _ => Cert.KInIdeal.Gen.frame m ρ,
    fun m ρ _ => Cert.KInIdeal.Gen.frame m ρ,
    fun m ρ _ => (θ_run _ _ _).mono (fun r h => ⟨fun c => (h c).2.2.2, sem_eq_zero_of_no_sems (by decide) r.2⟩) (Cert.RInIdeal.Value.run m ρ),
    fun m ρ _ => (θ_run _ _ _).mono (fun r h => ⟨fun c => (h c).2.2.2, sem_eq_zero_of_no_sems (by decide) r.2⟩) (Cert.RInIdeal.Value.run m ρ),
    fun m ρ _ => Cert.KDwo.Gen.frame m ρ,
    fun m ρ _ => Cert.KDwoIdeal.Gen.frame m ρ,
    fun m ρ _ => (θ_run _ _ _).mono (fun r h => ⟨fun c => (h c).2, sem_eq_zero_of_no_sems (by decide) r.2⟩) (Cert.RDwoIdeal.Value.run m ρ),
    fun m ρ _ => Cert.KDwi.Gen.frame m ρ,
    fun m ρ _ => Cert.KDwiIdeal.Gen.frame m ρ,
    fun m ρ _ => (θ_run _ _ _).mono (fun r h => ⟨fun c => (h c).2, sem_eq_zero_of_no_sems (by decide) r.2⟩) (Cert.RDwiIdeal.Value.run m ρ),
    fun m ρ _ => Cert.KDout.Gen.frame m ρ,
    fun m ρ _ => Cert.KDoutIdeal.Gen.frame m ρ,
    fun m ρ _ => (θ_run _ _ _).mono (fun r h => ⟨fun c => (h c).2, sem_eq_zero_of_no_sems (by decide) r.2⟩) (Cert.RDoutIdeal.Value.run m ρ),
    fun m ρ _ => Cert.KDbr.Gen.frame m ρ,
    fun m ρ _ => Cert.KDbrIdeal.Gen.frame m ρ,
    fun m ρ _ => (θ_run _ _ _).mono (fun r h => ⟨fun c => (h c).2, sem_eq_zero_of_no_sems (by decide) r.2⟩) (Cert.RDbrIdeal.Value.run m ρ),
    fun m ρ _ => Cert.KDmix.Gen.frame m ρ,
    fun m ρ _ => Cert.KDmixIdeal.Gen.frame m ρ,
    fun m ρ _ => (θ_run _ _ _).mono (fun r h => ⟨fun c => (h c).2, sem_eq_zero_of_no_sems (by decide) r.2⟩) (Cert.RDmixIdeal.Value.run m ρ),
    fun m ρ _ => Cert.KNt.Gen.frame m ρ,
    fun m ρ _ => Cert.KNtIdeal.Gen.frame m ρ,
    fun m ρ _ => Cert.KNtIdeal.Gen.frame m ρ,
    fun m ρ _ => (θ_run _ _ _).mono (fun r h => ⟨fun c => (h c).2.2.2, sem_eq_zero_of_no_sems (by decide) r.2⟩) (Cert.RNtIdeal.Value.run m ρ),
    fun m ρ _ => (θ_run _ _ _).mono (fun r h => ⟨fun c => (h c).2.2.2, sem_eq_zero_of_no_sems (by decide) r.2⟩) (Cert.RNtIdeal.Value.run m ρ),
    fun m ρ _ => Cert.KFfi.Gen.frame m ρ,
    fun m ρ _ => Cert.KFfiIdeal.Gen.frame m ρ,
    fun m ρ _ => (θ_run _ _ _).mono (fun r h => ⟨fun c => (h c).2.2.2, sem_eq_zero_of_no_sems (by decide) r.2⟩) (Cert.RFfiIdeal.Value.run m ρ),
    fun m ρ _ => Cert.KRes.Gen.frame m ρ,
    fun m ρ _ => Cert.KResIdeal.Gen.frame m ρ,
    fun m ρ _ => (θ_run _ _ _).mono (fun r h => ⟨fun c => (h c).2, sem_eq_zero_of_no_sems (by decide) r.2⟩) (Cert.RResIdeal.Value.run m ρ),
    fun m ρ _ => Cert.KProj.Gen.frame m ρ,
    fun m ρ _ => Cert.KProjIdeal.Gen.frame m ρ,
    fun m ρ _ => (θ_run _ _ _).mono (fun r h => ⟨fun c => (h c).2, sem_eq_zero_of_no_sems (by decide) r.2⟩) (Cert.RProjIdeal.Value.run m ρ),
    fun m ρ _ => Cert.KGf.Gen.frame m ρ,
    fun m ρ _ => Cert.KGfIdeal.Gen.frame m ρ,
    fun m ρ _ => (θ_run _ _ _).mono (fun r h => ⟨fun c => (h c).2.2.2.2.2.2, sem_eq_zero_of_no_sems (by decide) r.2⟩) (Cert.RGfIdeal.Value.run m ρ),
    fun m ρ _ => Cert.KRms.Gen.frame m ρ,
    fun m ρ _ => Cert.KRmsIdeal.Gen.frame m ρ,
    fun m ρ _ => (θ_run _ _ _).mono (fun r h => ⟨fun c => (h c).2.2, sem_eq_zero_of_no_sems (by decide) r.2⟩) (Cert.RRmsIdeal.Value.run m ρ),
    fun m ρ h => Cert.KFf.Gen.frame 0 m ρ (Cert.Ff.pinned_KFf m h),
    fun m ρ h => Cert.KFfIdeal.Gen.frame 0 m ρ (Cert.Ff.pinned_KFfIdeal m h),
    fun m ρ h => Cert.KFfIdeal.Gen.frame 0 m ρ (Cert.Ff.pinned_fin m h),
    fun m ρ _ => (θ_run _ _ _).mono (fun r h => ⟨fun c => (h c).2.2, sem_eq_zero_of_no_sems (by decide) r.2⟩) (Cert.RFfIdeal.Value.run m ρ),
    fun m ρ _ => (θ_run _ _ _).mono (fun r h => ⟨fun c => (h c).2.2, sem_eq_zero_of_no_sems (by decide) r.2⟩) (Cert.RFfIdeal.Value.run m ρ),
    fun m ρ _ => Cert.KSf.Gen.frame m ρ,
    fun m ρ _ => Cert.KSfIdeal.Gen.frame m ρ,
    fun m ρ _ => Cert.KSfIdeal.Gen.frame m ρ,
    fun m ρ _ => (θ_run _ _ _).mono (fun r h => ⟨fun c => (h c).2.2, sem_eq_zero_of_no_sems (by decide) r.2⟩) (Cert.RSfIdeal.Value.run m ρ),
    fun m ρ _ => (θ_run _ _ _).mono (fun r h => ⟨fun c => (h c).2.2, sem_eq_zero_of_no_sems (by decide) r.2⟩) (Cert.RSfIdeal.Value.run m ρ),
    fun m ρ _ => Cert.KQn.Gen.frame m ρ,
    fun m ρ _ => Cert.KQnIdeal.Gen.frame m ρ,
    fun m ρ _ => Cert.KQnIdeal.Gen.frame m ρ,
    fun m ρ _ => (θ_run _ _ _).mono (fun r h => ⟨fun c => (h c).2.2.2.2.2.2.2.2.2, sem_eq_zero_of_no_sems (by decide) r.2⟩) (Cert.RQnIdeal.Value.run m ρ),
    fun m ρ _ => (θ_run _ _ _).mono (fun r h => ⟨fun c => (h c).2.2.2.2.2.2.2.2.2, sem_eq_zero_of_no_sems (by decide) r.2⟩) (Cert.RQnIdeal.Value.run m ρ),
    fun m ρ _ => Cert.KAi.Gen.frame m ρ,
    fun m ρ _ => Cert.KAiIdeal.Gen.frame m ρ,
    fun m ρ _ => (θ_run _ _ _).mono (fun r h => ⟨fun c => (h c).2.2.2, sem_eq_zero_of_no_sems (by decide) r.2⟩) (Cert.RAiIdeal.Value.run m ρ),
    fun m ρ _ => Cert.KAo.Gen.frame m ρ,
    fun m ρ _ => Cert.KAoIdeal.Gen.frame m ρ,
    fun m ρ _ => (θ_run _ _ _).mono (fun r h => ⟨fun c => (h c).2.2.2, sem_eq_zero_of_no_sems (by decide) r.2⟩) (Cert.RAoIdeal.Value.run m ρ),
    fun m ρ _ => Cert.KAm.Gen.frame m ρ,
    fun m ρ _ => Cert.KAmIdeal.Gen.frame m ρ,
    fun m ρ _ => (θ_run _ _ _).mono (fun r h => ⟨fun c => (h c).2.2.2, sem_eq_zero_of_no_sems (by decide) r.2⟩) (Cert.RAmIdeal.Value.run m ρ),
    fun m ρ _ => Cert.KAb.Gen.frame m ρ,
    fun m ρ _ => Cert.KAbIdeal.Gen.frame m ρ,
    fun m ρ _ => (θ_run _ _ _).mono (fun r h => ⟨fun c => (h c).2.2.2, sem_eq_zero_of_no_sems (by decide) r.2⟩) (Cert.RAbIdeal.Value.run m ρ),
    fun m ρ _ => Cert.KAg.Gen.frame m ρ,
    fun m ρ _ => Cert.KAgIdeal.Gen.frame m ρ,
    fun m ρ _ => (θ_run _ _ _).mono (fun r h => ⟨fun c => (h c).2.2.2, sem_eq_zero_of_no_sems (by decide) r.2⟩) (Cert.RAgIdeal.Value.run m ρ),
    fun m ρ _ => Cert.KAs.Gen.frame m ρ,
    fun m ρ _ => Cert.KAsIdeal.Gen.frame m ρ,
    fun m ρ _ => (θ_run _ _ _).mono (fun r h => ⟨fun c => (h c).2.2.2, sem_eq_zero_of_no_sems (by decide) r.2⟩) (Cert.RAsIdeal.Value.run m ρ),
    trivial,
    Cert.Gate.algebraic,
    trivial,
    Cert.Mid.algebraic,
    trivial,
    Cert.In.algebraic,
    trivial,
    Cert.Dwo.algebraic,
    trivial,
    Cert.Dwi.algebraic,
    trivial,
    Cert.Dout.algebraic,
    trivial,
    Cert.Dbr.algebraic,
    trivial,
    Cert.Dmix.algebraic,
    trivial,
    Cert.Nt.algebraic,
    trivial,
    Cert.Ffi.algebraic,
    trivial,
    Cert.Res.algebraic,
    trivial,
    Cert.Proj.algebraic,
    trivial,
    Cert.Gf.algebraic,
    trivial,
    Cert.Rms.algebraic,
    IdealRules.named_const.statement Cert.KFfIdeal.κ "mask" .f32 0xF149F2CA#32 ⊥ rfl,
    Cert.Ff.algebraic,
    IdealRules.named_const.statement Cert.KSfIdeal.κ "mask" .f32 0xF149F2CA#32 ⊥ rfl,
    Cert.Swf.algebraic,
    trivial,
    Cert.Qn.algebraic,
    trivial,
    Cert.Adam.Ai.algebraic,
    trivial,
    Cert.Adam.Ao.algebraic,
    trivial,
    Cert.Adam.Am.algebraic,
    trivial,
    Cert.Adam.Ab.algebraic,
    trivial,
    Cert.Adam.Ag.algebraic,
    trivial,
    Cert.Adam.As.algebraic⟩

end Cert.Proof

end
